-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutRefIdeal (m : (ℓ : Loc Cert.GlaOutRefIdeal.nD Cert.GlaOutRefIdeal.τ Cert.GlaOutRefIdeal.sig) → Buf (Elt Ideal) ℓ) : Prop :=
  True

def Pre_KvQ (m : (ℓ : Loc Cert.KvQ.nD Cert.KvQ.τ Cert.KvQ.sig) → Buf (Elt Bits) ℓ) : Prop :=
  True

def Pre_KvQIdeal (m : (ℓ : Loc Cert.KvQIdeal.nD Cert.KvQIdeal.τ Cert.KvQIdeal.sig) → Buf (Elt Ideal) ℓ) : Prop :=
  True

def Pre_KvQRefIdeal (m : (ℓ : Loc Cert.KvQRefIdeal.nD Cert.KvQRefIdeal.τ Cert.KvQRefIdeal.sig) → Buf (Elt Ideal) ℓ) : Prop :=
  True

def Pre_KvQSample (m : (ℓ : Loc Cert.KvQSample.nD Cert.KvQSample.τ Cert.KvQSample.sig) → Buf (Elt Bits) ℓ) : Prop :=
  True

def Pre_KvQSampleIdeal (m : (ℓ : Loc Cert.KvQSampleIdeal.nD Cert.KvQSampleIdeal.τ Cert.KvQSampleIdeal.sig) → Buf (Elt Ideal) ℓ) : Prop :=
  True

def Pre_KvQSampleRefIdeal (m : (ℓ : Loc Cert.KvQSampleRefIdeal.nD Cert.KvQSampleRefIdeal.τ Cert.KvQSampleRefIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryRefIdeal (m : (ℓ : Loc Cert.PeerQueryRefIdeal.nD Cert.PeerQueryRefIdeal.τ Cert.PeerQueryRefIdeal.sig) → Buf (Elt Ideal) ℓ) : Prop :=
  True

def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleRefIdeal (m : (ℓ : Loc Cert.GlaSampleRefIdeal.nD Cert.GlaSampleRefIdeal.τ Cert.GlaSampleRefIdeal.sig) → Buf (Elt Ideal) ℓ) : Prop :=
  True

def Pre_BlockMeans [hPre_pages_exist : Cert.Pre_pages_exist.Facts] (m : (ℓ : Loc Cert.BlockMeans.nD Cert.BlockMeans.τ Cert.BlockMeans.sig) → Buf (Elt Bits) ℓ) : Prop :=
  ∀ c : Dev Cert.BlockMeans.nD,
    (Cert.Pre_pages_exist.fn (F := Bits) (m ((c.tc : Thread Cert.BlockMeans.nD Cert.BlockMeans.τ).loc Cert.BlockMeans.main_arg0)) (m ((c.tc : Thread Cert.BlockMeans.nD Cert.BlockMeans.τ).loc Cert.BlockMeans.main_arg1))) = (fun _ => 1#1)

def Pre_BlockMeansIdeal [hPre_pages_exist : Cert.Pre_pages_exist.Facts] (m : (ℓ : Loc Cert.BlockMeansIdeal.nD Cert.BlockMeansIdeal.τ Cert.BlockMeansIdeal.sig) → Buf (Elt Ideal) ℓ) : Prop :=
  ∀ c : Dev Cert.BlockMeansIdeal.nD,
    (Cert.Pre_pages_exist.fn (F := Ideal) (m ((c.tc : Thread Cert.BlockMeansIdeal.nD Cert.BlockMeansIdeal.τ).loc Cert.BlockMeansIdeal.main_arg0)) (m ((c.tc : Thread Cert.BlockMeansIdeal.nD Cert.BlockMeansIdeal.τ).loc Cert.BlockMeansIdeal.main_arg1))) = (fun _ => 1#1)

def Pre_BlockMeansRefIdeal (m : (ℓ : Loc Cert.BlockMeansRefIdeal.nD Cert.BlockMeansRefIdeal.τ Cert.BlockMeansRefIdeal.sig) → Buf (Elt Ideal) ℓ) : Prop :=
  True

def Pre_BlockMeansRefIdeal_pages_exist [hPre_pages_exist : Cert.Pre_pages_exist.Facts] (m : (ℓ : Loc Cert.BlockMeansRefIdeal.nD Cert.BlockMeansRefIdeal.τ Cert.BlockMeansRefIdeal.sig) → Buf (Elt Ideal) ℓ) : Prop :=
  ∀ c : Dev Cert.BlockMeansRefIdeal.nD,
    (Cert.Pre_pages_exist.fn (F := Ideal) (m ((c.tc : Thread Cert.BlockMeansRefIdeal.nD Cert.BlockMeansRefIdeal.τ).loc Cert.BlockMeansRefIdeal.main_arg0)) (m ((c.tc : Thread Cert.BlockMeansRefIdeal.nD Cert.BlockMeansRefIdeal.τ).loc Cert.BlockMeansRefIdeal.main_arg1))) = (fun _ => 1#1)

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def Pre_CastExperts (m : (ℓ : Loc Cert.CastExperts.nD Cert.CastExperts.τ Cert.CastExperts.sig) → Buf (Elt Bits) ℓ) : Prop :=
  True

def Pre_CastExpertsIdeal (m : (ℓ : Loc Cert.CastExpertsIdeal.nD Cert.CastExpertsIdeal.τ Cert.CastExpertsIdeal.sig) → Buf (Elt Ideal) ℓ) : Prop :=
  True

def Pre_CastExpertsRefIdeal (m : (ℓ : Loc Cert.CastExpertsRefIdeal.nD Cert.CastExpertsRefIdeal.τ Cert.CastExpertsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1)
      ∧ r.2.mem ((c.tc : Thread Cert.GlaInRefIdeal.nD Cert.GlaInRefIdeal.τ).loc Cert.GlaInRefIdeal.main_arg2) = m ((c.tc : Thread Cert.GlaInRefIdeal.nD Cert.GlaInRefIdeal.τ).loc Cert.GlaInRefIdeal.main_arg2))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ r.2.sem = fun _ => 0)

def quiescent_GlaOutRefIdeal [hGlaOutRefIdeal : Cert.GlaOutRefIdeal.Facts] : Prop :=
  ∀ (m : (ℓ : Loc Cert.GlaOutRefIdeal.nD Cert.GlaOutRefIdeal.τ Cert.GlaOutRefIdeal.sig) → Buf (Elt Ideal) ℓ) (g : Dev Cert.GlaOutRefIdeal.nD → PrngReg), Pre_GlaOutRefIdeal m →
    θ_run (Cert.GlaOutRefIdeal.defs (F := Ideal)) (onTc (τ := Cert.GlaOutRefIdeal.τ) (Cert.GlaOutRefIdeal.main (F := Ideal))) ⟨m, fun _ => 0, g⟩ (fun r => (∀ c : Dev Cert.GlaOutRefIdeal.nD,
      r.2.mem ((c.tc : Thread Cert.GlaOutRefIdeal.nD Cert.GlaOutRefIdeal.τ).loc Cert.GlaOutRefIdeal.main_arg0) = m ((c.tc : Thread Cert.GlaOutRefIdeal.nD Cert.GlaOutRefIdeal.τ).loc Cert.GlaOutRefIdeal.main_arg0)
      ∧ r.2.mem ((c.tc : Thread Cert.GlaOutRefIdeal.nD Cert.GlaOutRefIdeal.τ).loc Cert.GlaOutRefIdeal.main_arg1) = m ((c.tc : Thread Cert.GlaOutRefIdeal.nD Cert.GlaOutRefIdeal.τ).loc Cert.GlaOutRefIdeal.main_arg1)
      ∧ r.2.mem ((c.tc : Thread Cert.GlaOutRefIdeal.nD Cert.GlaOutRefIdeal.τ).loc Cert.GlaOutRefIdeal.main_arg2) = m ((c.tc : Thread Cert.GlaOutRefIdeal.nD Cert.GlaOutRefIdeal.τ).loc Cert.GlaOutRefIdeal.main_arg2))
      ∧ r.2.sem = fun _ => 0)

def quiescent_KvQ [hKvQ : Cert.KvQ.Facts] : Prop :=
  ∀ (m : (ℓ : Loc Cert.KvQ.nD Cert.KvQ.τ Cert.KvQ.sig) → Buf (Elt Bits) ℓ) (g : Dev Cert.KvQ.nD → PrngReg), Pre_KvQ m →
    θ_run (Cert.KvQ.defs (F := Bits)) (onTc (τ := Cert.KvQ.τ) (Cert.KvQ.main (F := Bits))) ⟨m, fun _ => 0, g⟩ (fun r => (∀ c : Dev Cert.KvQ.nD,
      r.2.mem ((c.tc : Thread Cert.KvQ.nD Cert.KvQ.τ).loc Cert.KvQ.main_arg0) = m ((c.tc : Thread Cert.KvQ.nD Cert.KvQ.τ).loc Cert.KvQ.main_arg0)
      ∧ r.2.mem ((c.tc : Thread Cert.KvQ.nD Cert.KvQ.τ).loc Cert.KvQ.main_arg1) = m ((c.tc : Thread Cert.KvQ.nD Cert.KvQ.τ).loc Cert.KvQ.main_arg1)
      ∧ r.2.mem ((c.tc : Thread Cert.KvQ.nD Cert.KvQ.τ).loc Cert.KvQ.main_arg2) = m ((c.tc : Thread Cert.KvQ.nD Cert.KvQ.τ).loc Cert.KvQ.main_arg2)
      ∧ r.2.mem ((c.tc : Thread Cert.KvQ.nD Cert.KvQ.τ).loc Cert.KvQ.main_arg3) = m ((c.tc : Thread Cert.KvQ.nD Cert.KvQ.τ).loc Cert.KvQ.main_arg3)
      ∧ r.2.mem ((c.tc : Thread Cert.KvQ.nD Cert.KvQ.τ).loc Cert.KvQ.main_arg4) = m ((c.tc : Thread Cert.KvQ.nD Cert.KvQ.τ).loc Cert.KvQ.main_arg4)
      ∧ r.2.mem ((c.tc : Thread Cert.KvQ.nD Cert.KvQ.τ).loc Cert.KvQ.main_arg5) = m ((c.tc : Thread Cert.KvQ.nD Cert.KvQ.τ).loc Cert.KvQ.main_arg5)
      ∧ r.2.mem ((c.tc : Thread Cert.KvQ.nD Cert.KvQ.τ).loc Cert.KvQ.main_arg6) = m ((c.tc : Thread Cert.KvQ.nD Cert.KvQ.τ).loc Cert.KvQ.main_arg6)
      ∧ r.2.mem ((c.tc : Thread Cert.KvQ.nD Cert.KvQ.τ).loc Cert.KvQ.main_arg7) = m ((c.tc : Thread Cert.KvQ.nD Cert.KvQ.τ).loc Cert.KvQ.main_arg7)
      ∧ r.2.mem ((c.tc : Thread Cert.KvQ.nD Cert.KvQ.τ).loc Cert.KvQ.main_arg8) = m ((c.tc : Thread Cert.KvQ.nD Cert.KvQ.τ).loc Cert.KvQ.main_arg8))
      ∧ r.2.sem = fun _ => 0)

def quiescent_KvQIdeal [hKvQIdeal : Cert.KvQIdeal.Facts] : Prop :=
  ∀ (m : (ℓ : Loc Cert.KvQIdeal.nD Cert.KvQIdeal.τ Cert.KvQIdeal.sig) → Buf (Elt Ideal) ℓ) (g : Dev Cert.KvQIdeal.nD → PrngReg), Pre_KvQIdeal m →
    θ_run (Cert.KvQIdeal.defs (F := Ideal)) (onTc (τ := Cert.KvQIdeal.τ) (Cert.KvQIdeal.main (F := Ideal))) ⟨m, fun _ => 0, g⟩ (fun r => (∀ c : Dev Cert.KvQIdeal.nD,
      r.2.mem ((c.tc : Thread Cert.KvQIdeal.nD Cert.KvQIdeal.τ).loc Cert.KvQIdeal.main_arg0) = m ((c.tc : Thread Cert.KvQIdeal.nD Cert.KvQIdeal.τ).loc Cert.KvQIdeal.main_arg0)
      ∧ r.2.mem ((c.tc : Thread Cert.KvQIdeal.nD Cert.KvQIdeal.τ).loc Cert.KvQIdeal.main_arg1) = m ((c.tc : Thread Cert.KvQIdeal.nD Cert.KvQIdeal.τ).loc Cert.KvQIdeal.main_arg1)
      ∧ r.2.mem ((c.tc : Thread Cert.KvQIdeal.nD Cert.KvQIdeal.τ).loc Cert.KvQIdeal.main_arg2) = m ((c.tc : Thread Cert.KvQIdeal.nD Cert.KvQIdeal.τ).loc Cert.KvQIdeal.main_arg2)
      ∧ r.2.mem ((c.tc : Thread Cert.KvQIdeal.nD Cert.KvQIdeal.τ).loc Cert.KvQIdeal.main_arg3) = m ((c.tc : Thread Cert.KvQIdeal.nD Cert.KvQIdeal.τ).loc Cert.KvQIdeal.main_arg3)
      ∧ r.2.mem ((c.tc : Thread Cert.KvQIdeal.nD Cert.KvQIdeal.τ).loc Cert.KvQIdeal.main_arg4) = m ((c.tc : Thread Cert.KvQIdeal.nD Cert.KvQIdeal.τ).loc Cert.KvQIdeal.main_arg4)
      ∧ r.2.mem ((c.tc : Thread Cert.KvQIdeal.nD Cert.KvQIdeal.τ).loc Cert.KvQIdeal.main_arg5) = m ((c.tc : Thread Cert.KvQIdeal.nD Cert.KvQIdeal.τ).loc Cert.KvQIdeal.main_arg5)
      ∧ r.2.mem ((c.tc : Thread Cert.KvQIdeal.nD Cert.KvQIdeal.τ).loc Cert.KvQIdeal.main_arg6) = m ((c.tc : Thread Cert.KvQIdeal.nD Cert.KvQIdeal.τ).loc Cert.KvQIdeal.main_arg6)
      ∧ r.2.mem ((c.tc : Thread Cert.KvQIdeal.nD Cert.KvQIdeal.τ).loc Cert.KvQIdeal.main_arg7) = m ((c.tc : Thread Cert.KvQIdeal.nD Cert.KvQIdeal.τ).loc Cert.KvQIdeal.main_arg7)
      ∧ r.2.mem ((c.tc : Thread Cert.KvQIdeal.nD Cert.KvQIdeal.τ).loc Cert.KvQIdeal.main_arg8) = m ((c.tc : Thread Cert.KvQIdeal.nD Cert.KvQIdeal.τ).loc Cert.KvQIdeal.main_arg8))
      ∧ r.2.sem = fun _ => 0)

def quiescent_KvQRefIdeal [hKvQRefIdeal : Cert.KvQRefIdeal.Facts] : Prop :=
  ∀ (m : (ℓ : Loc Cert.KvQRefIdeal.nD Cert.KvQRefIdeal.τ Cert.KvQRefIdeal.sig) → Buf (Elt Ideal) ℓ) (g : Dev Cert.KvQRefIdeal.nD → PrngReg), Pre_KvQRefIdeal m →
    θ_run (Cert.KvQRefIdeal.defs (F := Ideal)) (onTc (τ := Cert.KvQRefIdeal.τ) (Cert.KvQRefIdeal.main (F := Ideal))) ⟨m, fun _ => 0, g⟩ (fun r => (∀ c : Dev Cert.KvQRefIdeal.nD,
      r.2.mem ((c.tc : Thread Cert.KvQRefIdeal.nD Cert.KvQRefIdeal.τ).loc Cert.KvQRefIdeal.main_arg0) = m ((c.tc : Thread Cert.KvQRefIdeal.nD Cert.KvQRefIdeal.τ).loc Cert.KvQRefIdeal.main_arg0)
      ∧ r.2.mem ((c.tc : Thread Cert.KvQRefIdeal.nD Cert.KvQRefIdeal.τ).loc Cert.KvQRefIdeal.main_arg1) = m ((c.tc : Thread Cert.KvQRefIdeal.nD Cert.KvQRefIdeal.τ).loc Cert.KvQRefIdeal.main_arg1)
      ∧ r.2.mem ((c.tc : Thread Cert.KvQRefIdeal.nD Cert.KvQRefIdeal.τ).loc Cert.KvQRefIdeal.main_arg2) = m ((c.tc : Thread Cert.KvQRefIdeal.nD Cert.KvQRefIdeal.τ).loc Cert.KvQRefIdeal.main_arg2)
      ∧ r.2.mem ((c.tc : Thread Cert.KvQRefIdeal.nD Cert.KvQRefIdeal.τ).loc Cert.KvQRefIdeal.main_arg3) = m ((c.tc : Thread Cert.KvQRefIdeal.nD Cert.KvQRefIdeal.τ).loc Cert.KvQRefIdeal.main_arg3)
      ∧ r.2.mem ((c.tc : Thread Cert.KvQRefIdeal.nD Cert.KvQRefIdeal.τ).loc Cert.KvQRefIdeal.main_arg4) = m ((c.tc : Thread Cert.KvQRefIdeal.nD Cert.KvQRefIdeal.τ).loc Cert.KvQRefIdeal.main_arg4)
      ∧ r.2.mem ((c.tc : Thread Cert.KvQRefIdeal.nD Cert.KvQRefIdeal.τ).loc Cert.KvQRefIdeal.main_arg5) = m ((c.tc : Thread Cert.KvQRefIdeal.nD Cert.KvQRefIdeal.τ).loc Cert.KvQRefIdeal.main_arg5)
      ∧ r.2.mem ((c.tc : Thread Cert.KvQRefIdeal.nD Cert.KvQRefIdeal.τ).loc Cert.KvQRefIdeal.main_arg6) = m ((c.tc : Thread Cert.KvQRefIdeal.nD Cert.KvQRefIdeal.τ).loc Cert.KvQRefIdeal.main_arg6)
      ∧ r.2.mem ((c.tc : Thread Cert.KvQRefIdeal.nD Cert.KvQRefIdeal.τ).loc Cert.KvQRefIdeal.main_arg7) = m ((c.tc : Thread Cert.KvQRefIdeal.nD Cert.KvQRefIdeal.τ).loc Cert.KvQRefIdeal.main_arg7)
      ∧ r.2.mem ((c.tc : Thread Cert.KvQRefIdeal.nD Cert.KvQRefIdeal.τ).loc Cert.KvQRefIdeal.main_arg8) = m ((c.tc : Thread Cert.KvQRefIdeal.nD Cert.KvQRefIdeal.τ).loc Cert.KvQRefIdeal.main_arg8))
      ∧ r.2.sem = fun _ => 0)

def quiescent_KvQSample [hKvQSample : Cert.KvQSample.Facts] : Prop :=
  ∀ (m : (ℓ : Loc Cert.KvQSample.nD Cert.KvQSample.τ Cert.KvQSample.sig) → Buf (Elt Bits) ℓ) (g : Dev Cert.KvQSample.nD → PrngReg), Pre_KvQSample m →
    θ_run (Cert.KvQSample.defs (F := Bits)) (onTc (τ := Cert.KvQSample.τ) (Cert.KvQSample.main (F := Bits))) ⟨m, fun _ => 0, g⟩ (fun r => (∀ c : Dev Cert.KvQSample.nD,
      r.2.mem ((c.tc : Thread Cert.KvQSample.nD Cert.KvQSample.τ).loc Cert.KvQSample.main_arg0) = m ((c.tc : Thread Cert.KvQSample.nD Cert.KvQSample.τ).loc Cert.KvQSample.main_arg0)
      ∧ r.2.mem ((c.tc : Thread Cert.KvQSample.nD Cert.KvQSample.τ).loc Cert.KvQSample.main_arg1) = m ((c.tc : Thread Cert.KvQSample.nD Cert.KvQSample.τ).loc Cert.KvQSample.main_arg1)
      ∧ r.2.mem ((c.tc : Thread Cert.KvQSample.nD Cert.KvQSample.τ).loc Cert.KvQSample.main_arg2) = m ((c.tc : Thread Cert.KvQSample.nD Cert.KvQSample.τ).loc Cert.KvQSample.main_arg2)
      ∧ r.2.mem ((c.tc : Thread Cert.KvQSample.nD Cert.KvQSample.τ).loc Cert.KvQSample.main_arg3) = m ((c.tc : Thread Cert.KvQSample.nD Cert.KvQSample.τ).loc Cert.KvQSample.main_arg3)
      ∧ r.2.mem ((c.tc : Thread Cert.KvQSample.nD Cert.KvQSample.τ).loc Cert.KvQSample.main_arg4) = m ((c.tc : Thread Cert.KvQSample.nD Cert.KvQSample.τ).loc Cert.KvQSample.main_arg4)
      ∧ r.2.mem ((c.tc : Thread Cert.KvQSample.nD Cert.KvQSample.τ).loc Cert.KvQSample.main_arg5) = m ((c.tc : Thread Cert.KvQSample.nD Cert.KvQSample.τ).loc Cert.KvQSample.main_arg5)
      ∧ r.2.mem ((c.tc : Thread Cert.KvQSample.nD Cert.KvQSample.τ).loc Cert.KvQSample.main_arg6) = m ((c.tc : Thread Cert.KvQSample.nD Cert.KvQSample.τ).loc Cert.KvQSample.main_arg6)
      ∧ r.2.mem ((c.tc : Thread Cert.KvQSample.nD Cert.KvQSample.τ).loc Cert.KvQSample.main_arg7) = m ((c.tc : Thread Cert.KvQSample.nD Cert.KvQSample.τ).loc Cert.KvQSample.main_arg7)
      ∧ r.2.mem ((c.tc : Thread Cert.KvQSample.nD Cert.KvQSample.τ).loc Cert.KvQSample.main_arg8) = m ((c.tc : Thread Cert.KvQSample.nD Cert.KvQSample.τ).loc Cert.KvQSample.main_arg8))
      ∧ r.2.sem = fun _ => 0)

def quiescent_KvQSampleIdeal [hKvQSampleIdeal : Cert.KvQSampleIdeal.Facts] : Prop :=
  ∀ (m : (ℓ : Loc Cert.KvQSampleIdeal.nD Cert.KvQSampleIdeal.τ Cert.KvQSampleIdeal.sig) → Buf (Elt Ideal) ℓ) (g : Dev Cert.KvQSampleIdeal.nD → PrngReg), Pre_KvQSampleIdeal m →
    θ_run (Cert.KvQSampleIdeal.defs (F := Ideal)) (onTc (τ := Cert.KvQSampleIdeal.τ) (Cert.KvQSampleIdeal.main (F := Ideal))) ⟨m, fun _ => 0, g⟩ (fun r => (∀ c : Dev Cert.KvQSampleIdeal.nD,
      r.2.mem ((c.tc : Thread Cert.KvQSampleIdeal.nD Cert.KvQSampleIdeal.τ).loc Cert.KvQSampleIdeal.main_arg0) = m ((c.tc : Thread Cert.KvQSampleIdeal.nD Cert.KvQSampleIdeal.τ).loc Cert.KvQSampleIdeal.main_arg0)
      ∧ r.2.mem ((c.tc : Thread Cert.KvQSampleIdeal.nD Cert.KvQSampleIdeal.τ).loc Cert.KvQSampleIdeal.main_arg1) = m ((c.tc : Thread Cert.KvQSampleIdeal.nD Cert.KvQSampleIdeal.τ).loc Cert.KvQSampleIdeal.main_arg1)
      ∧ r.2.mem ((c.tc : Thread Cert.KvQSampleIdeal.nD Cert.KvQSampleIdeal.τ).loc Cert.KvQSampleIdeal.main_arg2) = m ((c.tc : Thread Cert.KvQSampleIdeal.nD Cert.KvQSampleIdeal.τ).loc Cert.KvQSampleIdeal.main_arg2)
      ∧ r.2.mem ((c.tc : Thread Cert.KvQSampleIdeal.nD Cert.KvQSampleIdeal.τ).loc Cert.KvQSampleIdeal.main_arg3) = m ((c.tc : Thread Cert.KvQSampleIdeal.nD Cert.KvQSampleIdeal.τ).loc Cert.KvQSampleIdeal.main_arg3)
      ∧ r.2.mem ((c.tc : Thread Cert.KvQSampleIdeal.nD Cert.KvQSampleIdeal.τ).loc Cert.KvQSampleIdeal.main_arg4) = m ((c.tc : Thread Cert.KvQSampleIdeal.nD Cert.KvQSampleIdeal.τ).loc Cert.KvQSampleIdeal.main_arg4)
      ∧ r.2.mem ((c.tc : Thread Cert.KvQSampleIdeal.nD Cert.KvQSampleIdeal.τ).loc Cert.KvQSampleIdeal.main_arg5) = m ((c.tc : Thread Cert.KvQSampleIdeal.nD Cert.KvQSampleIdeal.τ).loc Cert.KvQSampleIdeal.main_arg5)
      ∧ r.2.mem ((c.tc : Thread Cert.KvQSampleIdeal.nD Cert.KvQSampleIdeal.τ).loc Cert.KvQSampleIdeal.main_arg6) = m ((c.tc : Thread Cert.KvQSampleIdeal.nD Cert.KvQSampleIdeal.τ).loc Cert.KvQSampleIdeal.main_arg6)
      ∧ r.2.mem ((c.tc : Thread Cert.KvQSampleIdeal.nD Cert.KvQSampleIdeal.τ).loc Cert.KvQSampleIdeal.main_arg7) = m ((c.tc : Thread Cert.KvQSampleIdeal.nD Cert.KvQSampleIdeal.τ).loc Cert.KvQSampleIdeal.main_arg7)
      ∧ r.2.mem ((c.tc : Thread Cert.KvQSampleIdeal.nD Cert.KvQSampleIdeal.τ).loc Cert.KvQSampleIdeal.main_arg8) = m ((c.tc : Thread Cert.KvQSampleIdeal.nD Cert.KvQSampleIdeal.τ).loc Cert.KvQSampleIdeal.main_arg8))
      ∧ r.2.sem = fun _ => 0)

def quiescent_KvQSampleRefIdeal [hKvQSampleRefIdeal : Cert.KvQSampleRefIdeal.Facts] : Prop :=
  ∀ (m : (ℓ : Loc Cert.KvQSampleRefIdeal.nD Cert.KvQSampleRefIdeal.τ Cert.KvQSampleRefIdeal.sig) → Buf (Elt Ideal) ℓ) (g : Dev Cert.KvQSampleRefIdeal.nD → PrngReg), Pre_KvQSampleRefIdeal m →
    θ_run (Cert.KvQSampleRefIdeal.defs (F := Ideal)) (onTc (τ := Cert.KvQSampleRefIdeal.τ) (Cert.KvQSampleRefIdeal.main (F := Ideal))) ⟨m, fun _ => 0, g⟩ (fun r => (∀ c : Dev Cert.KvQSampleRefIdeal.nD,
      r.2.mem ((c.tc : Thread Cert.KvQSampleRefIdeal.nD Cert.KvQSampleRefIdeal.τ).loc Cert.KvQSampleRefIdeal.main_arg0) = m ((c.tc : Thread Cert.KvQSampleRefIdeal.nD Cert.KvQSampleRefIdeal.τ).loc Cert.KvQSampleRefIdeal.main_arg0)
      ∧ r.2.mem ((c.tc : Thread Cert.KvQSampleRefIdeal.nD Cert.KvQSampleRefIdeal.τ).loc Cert.KvQSampleRefIdeal.main_arg1) = m ((c.tc : Thread Cert.KvQSampleRefIdeal.nD Cert.KvQSampleRefIdeal.τ).loc Cert.KvQSampleRefIdeal.main_arg1)
      ∧ r.2.mem ((c.tc : Thread Cert.KvQSampleRefIdeal.nD Cert.KvQSampleRefIdeal.τ).loc Cert.KvQSampleRefIdeal.main_arg2) = m ((c.tc : Thread Cert.KvQSampleRefIdeal.nD Cert.KvQSampleRefIdeal.τ).loc Cert.KvQSampleRefIdeal.main_arg2)
      ∧ r.2.mem ((c.tc : Thread Cert.KvQSampleRefIdeal.nD Cert.KvQSampleRefIdeal.τ).loc Cert.KvQSampleRefIdeal.main_arg3) = m ((c.tc : Thread Cert.KvQSampleRefIdeal.nD Cert.KvQSampleRefIdeal.τ).loc Cert.KvQSampleRefIdeal.main_arg3)
      ∧ r.2.mem ((c.tc : Thread Cert.KvQSampleRefIdeal.nD Cert.KvQSampleRefIdeal.τ).loc Cert.KvQSampleRefIdeal.main_arg4) = m ((c.tc : Thread Cert.KvQSampleRefIdeal.nD Cert.KvQSampleRefIdeal.τ).loc Cert.KvQSampleRefIdeal.main_arg4)
      ∧ r.2.mem ((c.tc : Thread Cert.KvQSampleRefIdeal.nD Cert.KvQSampleRefIdeal.τ).loc Cert.KvQSampleRefIdeal.main_arg5) = m ((c.tc : Thread Cert.KvQSampleRefIdeal.nD Cert.KvQSampleRefIdeal.τ).loc Cert.KvQSampleRefIdeal.main_arg5)
      ∧ r.2.mem ((c.tc : Thread Cert.KvQSampleRefIdeal.nD Cert.KvQSampleRefIdeal.τ).loc Cert.KvQSampleRefIdeal.main_arg6) = m ((c.tc : Thread Cert.KvQSampleRefIdeal.nD Cert.KvQSampleRefIdeal.τ).loc Cert.KvQSampleRefIdeal.main_arg6)
      ∧ r.2.mem ((c.tc : Thread Cert.KvQSampleRefIdeal.nD Cert.KvQSampleRefIdeal.τ).loc Cert.KvQSampleRefIdeal.main_arg7) = m ((c.tc : Thread Cert.KvQSampleRefIdeal.nD Cert.KvQSampleRefIdeal.τ).loc Cert.KvQSampleRefIdeal.main_arg7)
      ∧ r.2.mem ((c.tc : Thread Cert.KvQSampleRefIdeal.nD Cert.KvQSampleRefIdeal.τ).loc Cert.KvQSampleRefIdeal.main_arg8) = m ((c.tc : Thread Cert.KvQSampleRefIdeal.nD Cert.KvQSampleRefIdeal.τ).loc Cert.KvQSampleRefIdeal.main_arg8))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1)
      ∧ r.2.mem ((c.tc : Thread Cert.PeerQuery.nD Cert.PeerQuery.τ).loc Cert.PeerQuery.main_arg2) = m ((c.tc : Thread Cert.PeerQuery.nD Cert.PeerQuery.τ).loc Cert.PeerQuery.main_arg2))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1)
      ∧ r.2.mem ((c.tc : Thread Cert.PeerQueryIdeal.nD Cert.PeerQueryIdeal.τ).loc Cert.PeerQueryIdeal.main_arg2) = m ((c.tc : Thread Cert.PeerQueryIdeal.nD Cert.PeerQueryIdeal.τ).loc Cert.PeerQueryIdeal.main_arg2))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1)
      ∧ r.2.mem ((c.tc : Thread Cert.PeerQueryRefIdeal.nD Cert.PeerQueryRefIdeal.τ).loc Cert.PeerQueryRefIdeal.main_arg2) = m ((c.tc : Thread Cert.PeerQueryRefIdeal.nD Cert.PeerQueryRefIdeal.τ).loc Cert.PeerQueryRefIdeal.main_arg2))
      ∧ r.2.sem = fun _ => 0)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3)
      ∧ r.2.mem ((c.tc : Thread Cert.GlaSample.nD Cert.GlaSample.τ).loc Cert.GlaSample.main_arg4) = m ((c.tc : Thread Cert.GlaSample.nD Cert.GlaSample.τ).loc Cert.GlaSample.main_arg4))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ r.2.sem = fun _ => 0)

def quiescent_GlaSampleRefIdeal [hGlaSampleRefIdeal : Cert.GlaSampleRefIdeal.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3)
      ∧ r.2.mem ((c.tc : Thread Cert.GlaSampleRefIdeal.nD Cert.GlaSampleRefIdeal.τ).loc Cert.GlaSampleRefIdeal.main_arg4) = m ((c.tc : Thread Cert.GlaSampleRefIdeal.nD Cert.GlaSampleRefIdeal.τ).loc Cert.GlaSampleRefIdeal.main_arg4))
      ∧ r.2.sem = fun _ => 0)

def quiescent_BlockMeans [hBlockMeans : Cert.BlockMeans.Facts] [hPre_pages_exist : Cert.Pre_pages_exist.Facts] : Prop :=
  ∀ (m : (ℓ : Loc Cert.BlockMeans.nD Cert.BlockMeans.τ Cert.BlockMeans.sig) → Buf (Elt Bits) ℓ) (g : Dev Cert.BlockMeans.nD → PrngReg), Pre_BlockMeans m →
    θ_run (Cert.BlockMeans.defs (F := Bits)) (onTc (τ := Cert.BlockMeans.τ) (Cert.BlockMeans.main (F := Bits))) ⟨m, fun _ => 0, g⟩ (fun r => (∀ c : Dev Cert.BlockMeans.nD,
      r.2.mem ((c.tc : Thread Cert.BlockMeans.nD Cert.BlockMeans.τ).loc Cert.BlockMeans.main_arg0) = m ((c.tc : Thread Cert.BlockMeans.nD Cert.BlockMeans.τ).loc Cert.BlockMeans.main_arg0)
      ∧ r.2.mem ((c.tc : Thread Cert.BlockMeans.nD Cert.BlockMeans.τ).loc Cert.BlockMeans.main_arg1) = m ((c.tc : Thread Cert.BlockMeans.nD Cert.BlockMeans.τ).loc Cert.BlockMeans.main_arg1))
      ∧ r.2.sem = fun _ => 0)

def quiescent_BlockMeansIdeal [hBlockMeansIdeal : Cert.BlockMeansIdeal.Facts] [hPre_pages_exist : Cert.Pre_pages_exist.Facts] : Prop :=
  ∀ (m : (ℓ : Loc Cert.BlockMeansIdeal.nD Cert.BlockMeansIdeal.τ Cert.BlockMeansIdeal.sig) → Buf (Elt Ideal) ℓ) (g : Dev Cert.BlockMeansIdeal.nD → PrngReg), Pre_BlockMeansIdeal m →
    θ_run (Cert.BlockMeansIdeal.defs (F := Ideal)) (onTc (τ := Cert.BlockMeansIdeal.τ) (Cert.BlockMeansIdeal.main (F := Ideal))) ⟨m, fun _ => 0, g⟩ (fun r => (∀ c : Dev Cert.BlockMeansIdeal.nD,
      r.2.mem ((c.tc : Thread Cert.BlockMeansIdeal.nD Cert.BlockMeansIdeal.τ).loc Cert.BlockMeansIdeal.main_arg0) = m ((c.tc : Thread Cert.BlockMeansIdeal.nD Cert.BlockMeansIdeal.τ).loc Cert.BlockMeansIdeal.main_arg0)
      ∧ r.2.mem ((c.tc : Thread Cert.BlockMeansIdeal.nD Cert.BlockMeansIdeal.τ).loc Cert.BlockMeansIdeal.main_arg1) = m ((c.tc : Thread Cert.BlockMeansIdeal.nD Cert.BlockMeansIdeal.τ).loc Cert.BlockMeansIdeal.main_arg1))
      ∧ r.2.sem = fun _ => 0)

def quiescent_BlockMeansRefIdeal [hBlockMeansRefIdeal : Cert.BlockMeansRefIdeal.Facts] : Prop :=
  ∀ (m : (ℓ : Loc Cert.BlockMeansRefIdeal.nD Cert.BlockMeansRefIdeal.τ Cert.BlockMeansRefIdeal.sig) → Buf (Elt Ideal) ℓ) (g : Dev Cert.BlockMeansRefIdeal.nD → PrngReg), Pre_BlockMeansRefIdeal m →
    θ_run (Cert.BlockMeansRefIdeal.defs (F := Ideal)) (onTc (τ := Cert.BlockMeansRefIdeal.τ) (Cert.BlockMeansRefIdeal.main (F := Ideal))) ⟨m, fun _ => 0, g⟩ (fun r => (∀ c : Dev Cert.BlockMeansRefIdeal.nD,
      r.2.mem ((c.tc : Thread Cert.BlockMeansRefIdeal.nD Cert.BlockMeansRefIdeal.τ).loc Cert.BlockMeansRefIdeal.main_arg0) = m ((c.tc : Thread Cert.BlockMeansRefIdeal.nD Cert.BlockMeansRefIdeal.τ).loc Cert.BlockMeansRefIdeal.main_arg0)
      ∧ r.2.mem ((c.tc : Thread Cert.BlockMeansRefIdeal.nD Cert.BlockMeansRefIdeal.τ).loc Cert.BlockMeansRefIdeal.main_arg1) = m ((c.tc : Thread Cert.BlockMeansRefIdeal.nD Cert.BlockMeansRefIdeal.τ).loc Cert.BlockMeansRefIdeal.main_arg1))
      ∧ r.2.sem = fun _ => 0)

def quiescent_BlockMeansRefIdeal_pre_pages_exist [hBlockMeansRefIdeal : Cert.BlockMeansRefIdeal.Facts] [hPre_pages_exist : Cert.Pre_pages_exist.Facts] : Prop :=
  ∀ (m : (ℓ : Loc Cert.BlockMeansRefIdeal.nD Cert.BlockMeansRefIdeal.τ Cert.BlockMeansRefIdeal.sig) → Buf (Elt Ideal) ℓ) (g : Dev Cert.BlockMeansRefIdeal.nD → PrngReg), Pre_BlockMeansRefIdeal_pages_exist m →
    θ_run (Cert.BlockMeansRefIdeal.defs (F := Ideal)) (onTc (τ := Cert.BlockMeansRefIdeal.τ) (Cert.BlockMeansRefIdeal.main (F := Ideal))) ⟨m, fun _ => 0, g⟩ (fun r => (∀ c : Dev Cert.BlockMeansRefIdeal.nD,
      r.2.mem ((c.tc : Thread Cert.BlockMeansRefIdeal.nD Cert.BlockMeansRefIdeal.τ).loc Cert.BlockMeansRefIdeal.main_arg0) = m ((c.tc : Thread Cert.BlockMeansRefIdeal.nD Cert.BlockMeansRefIdeal.τ).loc Cert.BlockMeansRefIdeal.main_arg0)
      ∧ r.2.mem ((c.tc : Thread Cert.BlockMeansRefIdeal.nD Cert.BlockMeansRefIdeal.τ).loc Cert.BlockMeansRefIdeal.main_arg1) = m ((c.tc : Thread Cert.BlockMeansRefIdeal.nD Cert.BlockMeansRefIdeal.τ).loc Cert.BlockMeansRefIdeal.main_arg1))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2)
      ∧ r.2.mem ((c.tc : Thread Cert.MixSampleRefIdeal.nD Cert.MixSampleRefIdeal.τ).loc Cert.MixSampleRefIdeal.main_arg3) = m ((c.tc : Thread Cert.MixSampleRefIdeal.nD Cert.MixSampleRefIdeal.τ).loc Cert.MixSampleRefIdeal.main_arg3)
      ∧ r.2.mem ((c.tc : Thread Cert.MixSampleRefIdeal.nD Cert.MixSampleRefIdeal.τ).loc Cert.MixSampleRefIdeal.main_arg4) = m ((c.tc : Thread Cert.MixSampleRefIdeal.nD Cert.MixSampleRefIdeal.τ).loc Cert.MixSampleRefIdeal.main_arg4)
      ∧ r.2.mem ((c.tc : Thread Cert.MixSampleRefIdeal.nD Cert.MixSampleRefIdeal.τ).loc Cert.MixSampleRefIdeal.main_arg5) = m ((c.tc : Thread Cert.MixSampleRefIdeal.nD Cert.MixSampleRefIdeal.τ).loc Cert.MixSampleRefIdeal.main_arg5)
      ∧ r.2.mem ((c.tc : Thread Cert.MixSampleRefIdeal.nD Cert.MixSampleRefIdeal.τ).loc Cert.MixSampleRefIdeal.main_arg6) = m ((c.tc : Thread Cert.MixSampleRefIdeal.nD Cert.MixSampleRefIdeal.τ).loc Cert.MixSampleRefIdeal.main_arg6))
      ∧ r.2.sem = fun _ => 0)

def quiescent_CastExperts [hCastExperts : Cert.CastExperts.Facts] : Prop :=
  ∀ (m : (ℓ : Loc Cert.CastExperts.nD Cert.CastExperts.τ Cert.CastExperts.sig) → Buf (Elt Bits) ℓ) (g : Dev Cert.CastExperts.nD → PrngReg), Pre_CastExperts m →
    θ_run (Cert.CastExperts.defs (F := Bits)) (onTc (τ := Cert.CastExperts.τ) (Cert.CastExperts.main (F := Bits))) ⟨m, fun _ => 0, g⟩ (fun r => (∀ c : Dev Cert.CastExperts.nD,
      r.2.mem ((c.tc : Thread Cert.CastExperts.nD Cert.CastExperts.τ).loc Cert.CastExperts.main_arg0) = m ((c.tc : Thread Cert.CastExperts.nD Cert.CastExperts.τ).loc Cert.CastExperts.main_arg0)
      ∧ r.2.mem ((c.tc : Thread Cert.CastExperts.nD Cert.CastExperts.τ).loc Cert.CastExperts.main_arg1) = m ((c.tc : Thread Cert.CastExperts.nD Cert.CastExperts.τ).loc Cert.CastExperts.main_arg1))
      ∧ r.2.sem = fun _ => 0)

def quiescent_CastExpertsIdeal [hCastExpertsIdeal : Cert.CastExpertsIdeal.Facts] : Prop :=
  ∀ (m : (ℓ : Loc Cert.CastExpertsIdeal.nD Cert.CastExpertsIdeal.τ Cert.CastExpertsIdeal.sig) → Buf (Elt Ideal) ℓ) (g : Dev Cert.CastExpertsIdeal.nD → PrngReg), Pre_CastExpertsIdeal m →
    θ_run (Cert.CastExpertsIdeal.defs (F := Ideal)) (onTc (τ := Cert.CastExpertsIdeal.τ) (Cert.CastExpertsIdeal.main (F := Ideal))) ⟨m, fun _ => 0, g⟩ (fun r => (∀ c : Dev Cert.CastExpertsIdeal.nD,
      r.2.mem ((c.tc : Thread Cert.CastExpertsIdeal.nD Cert.CastExpertsIdeal.τ).loc Cert.CastExpertsIdeal.main_arg0) = m ((c.tc : Thread Cert.CastExpertsIdeal.nD Cert.CastExpertsIdeal.τ).loc Cert.CastExpertsIdeal.main_arg0)
      ∧ r.2.mem ((c.tc : Thread Cert.CastExpertsIdeal.nD Cert.CastExpertsIdeal.τ).loc Cert.CastExpertsIdeal.main_arg1) = m ((c.tc : Thread Cert.CastExpertsIdeal.nD Cert.CastExpertsIdeal.τ).loc Cert.CastExpertsIdeal.main_arg1))
      ∧ r.2.sem = fun _ => 0)

def quiescent_CastExpertsRefIdeal [hCastExpertsRefIdeal : Cert.CastExpertsRefIdeal.Facts] : Prop :=
  ∀ (m : (ℓ : Loc Cert.CastExpertsRefIdeal.nD Cert.CastExpertsRefIdeal.τ Cert.CastExpertsRefIdeal.sig) → Buf (Elt Ideal) ℓ) (g : Dev Cert.CastExpertsRefIdeal.nD → PrngReg), Pre_CastExpertsRefIdeal m →
    θ_run (Cert.CastExpertsRefIdeal.defs (F := Ideal)) (onTc (τ := Cert.CastExpertsRefIdeal.τ) (Cert.CastExpertsRefIdeal.main (F := Ideal))) ⟨m, fun _ => 0, g⟩ (fun r => (∀ c : Dev Cert.CastExpertsRefIdeal.nD,
      r.2.mem ((c.tc : Thread Cert.CastExpertsRefIdeal.nD Cert.CastExpertsRefIdeal.τ).loc Cert.CastExpertsRefIdeal.main_arg0) = m ((c.tc : Thread Cert.CastExpertsRefIdeal.nD Cert.CastExpertsRefIdeal.τ).loc Cert.CastExpertsRefIdeal.main_arg0)
      ∧ r.2.mem ((c.tc : Thread Cert.CastExpertsRefIdeal.nD Cert.CastExpertsRefIdeal.τ).loc Cert.CastExpertsRefIdeal.main_arg1) = m ((c.tc : Thread Cert.CastExpertsRefIdeal.nD Cert.CastExpertsRefIdeal.τ).loc Cert.CastExpertsRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v45_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)
      ∧ m' ((c.tc : Thread Cert.GlaInRefIdeal.nD Cert.GlaInRefIdeal.τ).loc Cert.GlaInRefIdeal.main_arg2) = m ((c.tc : Thread Cert.GlaInIdeal.nD Cert.GlaInIdeal.τ).loc Cert.GlaInIdeal.main_arg2)) →
    ∃ (v0 : (c : Dev Cert.GlaInIdeal.nD) → Buf (Elt Ideal) ((c.tc : Thread Cert.GlaInIdeal.nD Cert.GlaInIdeal.τ).loc Cert.GlaInIdeal.main_v6)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v6) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v19) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1)
          ∧ r.2.mem ((c.tc : Thread Cert.GlaInRefIdeal.nD Cert.GlaInRefIdeal.τ).loc Cert.GlaInRefIdeal.main_arg2) = m' ((c.tc : Thread Cert.GlaInRefIdeal.nD Cert.GlaInRefIdeal.τ).loc Cert.GlaInRefIdeal.main_arg2))

def preserves_GlaOut_GlaOutIdeal : Prop :=
  True

def algebraic_GlaOutIdeal_GlaOutRefIdeal [hGlaOutIdeal : Cert.GlaOutIdeal.Facts] [hGlaOutRefIdeal : Cert.GlaOutRefIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutRefIdeal.nD Cert.GlaOutRefIdeal.τ Cert.GlaOutRefIdeal.sig) → Buf (Elt Ideal) ℓ) (g' : Dev Cert.GlaOutRefIdeal.nD → PrngReg), Pre_GlaOutIdeal m →
    (∀ c : Dev Cert.GlaOutIdeal.nD,
      m' ((c.tc : Thread Cert.GlaOutRefIdeal.nD Cert.GlaOutRefIdeal.τ).loc Cert.GlaOutRefIdeal.main_arg0) = m ((c.tc : Thread Cert.GlaOutIdeal.nD Cert.GlaOutIdeal.τ).loc Cert.GlaOutIdeal.main_arg0)
      ∧ m' ((c.tc : Thread Cert.GlaOutRefIdeal.nD Cert.GlaOutRefIdeal.τ).loc Cert.GlaOutRefIdeal.main_arg1) = m ((c.tc : Thread Cert.GlaOutIdeal.nD Cert.GlaOutIdeal.τ).loc Cert.GlaOutIdeal.main_arg1)
      ∧ m' ((c.tc : Thread Cert.GlaOutRefIdeal.nD Cert.GlaOutRefIdeal.τ).loc Cert.GlaOutRefIdeal.main_arg2) = m ((c.tc : Thread Cert.GlaOutIdeal.nD Cert.GlaOutIdeal.τ).loc Cert.GlaOutIdeal.main_arg2)) →
    ∃ (v0 : (c : Dev Cert.GlaOutIdeal.nD) → Buf (Elt Ideal) ((c.tc : Thread Cert.GlaOutIdeal.nD Cert.GlaOutIdeal.τ).loc Cert.GlaOutIdeal.main_v4)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v4) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ θ_run (Cert.GlaOutRefIdeal.defs (F := Ideal)) (onTc (τ := Cert.GlaOutRefIdeal.τ) (Cert.GlaOutRefIdeal.main (F := Ideal))) ⟨m', fun _ => 0, g'⟩ (fun r => ∀ c : Dev Cert.GlaOutRefIdeal.nD,
          r.2.mem ((c.tc : Thread Cert.GlaOutRefIdeal.nD Cert.GlaOutRefIdeal.τ).loc Cert.GlaOutRefIdeal.main_v4) = v0 c
          ∧ r.2.mem ((c.tc : Thread Cert.GlaOutRefIdeal.nD Cert.GlaOutRefIdeal.τ).loc Cert.GlaOutRefIdeal.main_arg0) = m' ((c.tc : Thread Cert.GlaOutRefIdeal.nD Cert.GlaOutRefIdeal.τ).loc Cert.GlaOutRefIdeal.main_arg0)
          ∧ r.2.mem ((c.tc : Thread Cert.GlaOutRefIdeal.nD Cert.GlaOutRefIdeal.τ).loc Cert.GlaOutRefIdeal.main_arg1) = m' ((c.tc : Thread Cert.GlaOutRefIdeal.nD Cert.GlaOutRefIdeal.τ).loc Cert.GlaOutRefIdeal.main_arg1)
          ∧ r.2.mem ((c.tc : Thread Cert.GlaOutRefIdeal.nD Cert.GlaOutRefIdeal.τ).loc Cert.GlaOutRefIdeal.main_arg2) = m' ((c.tc : Thread Cert.GlaOutRefIdeal.nD Cert.GlaOutRefIdeal.τ).loc Cert.GlaOutRefIdeal.main_arg2))

def preserves_KvQ_KvQIdeal : Prop :=
  True

def algebraic_KvQIdeal_KvQRefIdeal [hKvQIdeal : Cert.KvQIdeal.Facts] [hKvQRefIdeal : Cert.KvQRefIdeal.Facts] : Prop :=
  ∀ (m : (ℓ : Loc Cert.KvQIdeal.nD Cert.KvQIdeal.τ Cert.KvQIdeal.sig) → Buf (Elt Ideal) ℓ) (g : Dev Cert.KvQIdeal.nD → PrngReg)
    (m' : (ℓ : Loc Cert.KvQRefIdeal.nD Cert.KvQRefIdeal.τ Cert.KvQRefIdeal.sig) → Buf (Elt Ideal) ℓ) (g' : Dev Cert.KvQRefIdeal.nD → PrngReg), Pre_KvQIdeal m →
    (∀ c : Dev Cert.KvQIdeal.nD,
      m' ((c.tc : Thread Cert.KvQRefIdeal.nD Cert.KvQRefIdeal.τ).loc Cert.KvQRefIdeal.main_arg0) = m ((c.tc : Thread Cert.KvQIdeal.nD Cert.KvQIdeal.τ).loc Cert.KvQIdeal.main_arg0)
      ∧ m' ((c.tc : Thread Cert.KvQRefIdeal.nD Cert.KvQRefIdeal.τ).loc Cert.KvQRefIdeal.main_arg1) = m ((c.tc : Thread Cert.KvQIdeal.nD Cert.KvQIdeal.τ).loc Cert.KvQIdeal.main_arg1)
      ∧ m' ((c.tc : Thread Cert.KvQRefIdeal.nD Cert.KvQRefIdeal.τ).loc Cert.KvQRefIdeal.main_arg2) = m ((c.tc : Thread Cert.KvQIdeal.nD Cert.KvQIdeal.τ).loc Cert.KvQIdeal.main_arg2)
      ∧ m' ((c.tc : Thread Cert.KvQRefIdeal.nD Cert.KvQRefIdeal.τ).loc Cert.KvQRefIdeal.main_arg3) = m ((c.tc : Thread Cert.KvQIdeal.nD Cert.KvQIdeal.τ).loc Cert.KvQIdeal.main_arg3)
      ∧ m' ((c.tc : Thread Cert.KvQRefIdeal.nD Cert.KvQRefIdeal.τ).loc Cert.KvQRefIdeal.main_arg4) = m ((c.tc : Thread Cert.KvQIdeal.nD Cert.KvQIdeal.τ).loc Cert.KvQIdeal.main_arg4)
      ∧ m' ((c.tc : Thread Cert.KvQRefIdeal.nD Cert.KvQRefIdeal.τ).loc Cert.KvQRefIdeal.main_arg5) = m ((c.tc : Thread Cert.KvQIdeal.nD Cert.KvQIdeal.τ).loc Cert.KvQIdeal.main_arg5)
      ∧ m' ((c.tc : Thread Cert.KvQRefIdeal.nD Cert.KvQRefIdeal.τ).loc Cert.KvQRefIdeal.main_arg6) = m ((c.tc : Thread Cert.KvQIdeal.nD Cert.KvQIdeal.τ).loc Cert.KvQIdeal.main_arg6)
      ∧ m' ((c.tc : Thread Cert.KvQRefIdeal.nD Cert.KvQRefIdeal.τ).loc Cert.KvQRefIdeal.main_arg7) = m ((c.tc : Thread Cert.KvQIdeal.nD Cert.KvQIdeal.τ).loc Cert.KvQIdeal.main_arg7)
      ∧ m' ((c.tc : Thread Cert.KvQRefIdeal.nD Cert.KvQRefIdeal.τ).loc Cert.KvQRefIdeal.main_arg8) = m ((c.tc : Thread Cert.KvQIdeal.nD Cert.KvQIdeal.τ).loc Cert.KvQIdeal.main_arg8)) →
    ∃ (v0 : (c : Dev Cert.KvQIdeal.nD) → Buf (Elt Ideal) ((c.tc : Thread Cert.KvQIdeal.nD Cert.KvQIdeal.τ).loc Cert.KvQIdeal.main_v14)) (v1 : (c : Dev Cert.KvQIdeal.nD) → Buf (Elt Ideal) ((c.tc : Thread Cert.KvQIdeal.nD Cert.KvQIdeal.τ).loc Cert.KvQIdeal.main_v15)) (v2 : (c : Dev Cert.KvQIdeal.nD) → Buf (Elt Ideal) ((c.tc : Thread Cert.KvQIdeal.nD Cert.KvQIdeal.τ).loc Cert.KvQIdeal.main_v21)),
      θ_run (Cert.KvQIdeal.defs (F := Ideal)) (onTc (τ := Cert.KvQIdeal.τ) (Cert.KvQIdeal.main (F := Ideal))) ⟨m, fun _ => 0, g⟩ (fun r => ∀ c : Dev Cert.KvQIdeal.nD,
          r.2.mem ((c.tc : Thread Cert.KvQIdeal.nD Cert.KvQIdeal.τ).loc Cert.KvQIdeal.main_v14) = v0 c
          ∧ r.2.mem ((c.tc : Thread Cert.KvQIdeal.nD Cert.KvQIdeal.τ).loc Cert.KvQIdeal.main_v15) = v1 c
          ∧ r.2.mem ((c.tc : Thread Cert.KvQIdeal.nD Cert.KvQIdeal.τ).loc Cert.KvQIdeal.main_v21) = v2 c
          ∧ r.2.mem ((c.tc : Thread Cert.KvQIdeal.nD Cert.KvQIdeal.τ).loc Cert.KvQIdeal.main_arg0) = m ((c.tc : Thread Cert.KvQIdeal.nD Cert.KvQIdeal.τ).loc Cert.KvQIdeal.main_arg0)
          ∧ r.2.mem ((c.tc : Thread Cert.KvQIdeal.nD Cert.KvQIdeal.τ).loc Cert.KvQIdeal.main_arg1) = m ((c.tc : Thread Cert.KvQIdeal.nD Cert.KvQIdeal.τ).loc Cert.KvQIdeal.main_arg1)
          ∧ r.2.mem ((c.tc : Thread Cert.KvQIdeal.nD Cert.KvQIdeal.τ).loc Cert.KvQIdeal.main_arg2) = m ((c.tc : Thread Cert.KvQIdeal.nD Cert.KvQIdeal.τ).loc Cert.KvQIdeal.main_arg2)
          ∧ r.2.mem ((c.tc : Thread Cert.KvQIdeal.nD Cert.KvQIdeal.τ).loc Cert.KvQIdeal.main_arg3) = m ((c.tc : Thread Cert.KvQIdeal.nD Cert.KvQIdeal.τ).loc Cert.KvQIdeal.main_arg3)
          ∧ r.2.mem ((c.tc : Thread Cert.KvQIdeal.nD Cert.KvQIdeal.τ).loc Cert.KvQIdeal.main_arg4) = m ((c.tc : Thread Cert.KvQIdeal.nD Cert.KvQIdeal.τ).loc Cert.KvQIdeal.main_arg4)
          ∧ r.2.mem ((c.tc : Thread Cert.KvQIdeal.nD Cert.KvQIdeal.τ).loc Cert.KvQIdeal.main_arg5) = m ((c.tc : Thread Cert.KvQIdeal.nD Cert.KvQIdeal.τ).loc Cert.KvQIdeal.main_arg5)
          ∧ r.2.mem ((c.tc : Thread Cert.KvQIdeal.nD Cert.KvQIdeal.τ).loc Cert.KvQIdeal.main_arg6) = m ((c.tc : Thread Cert.KvQIdeal.nD Cert.KvQIdeal.τ).loc Cert.KvQIdeal.main_arg6)
          ∧ r.2.mem ((c.tc : Thread Cert.KvQIdeal.nD Cert.KvQIdeal.τ).loc Cert.KvQIdeal.main_arg7) = m ((c.tc : Thread Cert.KvQIdeal.nD Cert.KvQIdeal.τ).loc Cert.KvQIdeal.main_arg7)
          ∧ r.2.mem ((c.tc : Thread Cert.KvQIdeal.nD Cert.KvQIdeal.τ).loc Cert.KvQIdeal.main_arg8) = m ((c.tc : Thread Cert.KvQIdeal.nD Cert.KvQIdeal.τ).loc Cert.KvQIdeal.main_arg8))
      ∧ θ_run (Cert.KvQRefIdeal.defs (F := Ideal)) (onTc (τ := Cert.KvQRefIdeal.τ) (Cert.KvQRefIdeal.main (F := Ideal))) ⟨m', fun _ => 0, g'⟩ (fun r => ∀ c : Dev Cert.KvQRefIdeal.nD,
          r.2.mem ((c.tc : Thread Cert.KvQRefIdeal.nD Cert.KvQRefIdeal.τ).loc Cert.KvQRefIdeal.main_v92) = v0 c
          ∧ r.2.mem ((c.tc : Thread Cert.KvQRefIdeal.nD Cert.KvQRefIdeal.τ).loc Cert.KvQRefIdeal.main_v93) = v1 c
          ∧ r.2.mem ((c.tc : Thread Cert.KvQRefIdeal.nD Cert.KvQRefIdeal.τ).loc Cert.KvQRefIdeal.main_v95) = v2 c
          ∧ r.2.mem ((c.tc : Thread Cert.KvQRefIdeal.nD Cert.KvQRefIdeal.τ).loc Cert.KvQRefIdeal.main_arg0) = m' ((c.tc : Thread Cert.KvQRefIdeal.nD Cert.KvQRefIdeal.τ).loc Cert.KvQRefIdeal.main_arg0)
          ∧ r.2.mem ((c.tc : Thread Cert.KvQRefIdeal.nD Cert.KvQRefIdeal.τ).loc Cert.KvQRefIdeal.main_arg1) = m' ((c.tc : Thread Cert.KvQRefIdeal.nD Cert.KvQRefIdeal.τ).loc Cert.KvQRefIdeal.main_arg1)
          ∧ r.2.mem ((c.tc : Thread Cert.KvQRefIdeal.nD Cert.KvQRefIdeal.τ).loc Cert.KvQRefIdeal.main_arg2) = m' ((c.tc : Thread Cert.KvQRefIdeal.nD Cert.KvQRefIdeal.τ).loc Cert.KvQRefIdeal.main_arg2)
          ∧ r.2.mem ((c.tc : Thread Cert.KvQRefIdeal.nD Cert.KvQRefIdeal.τ).loc Cert.KvQRefIdeal.main_arg3) = m' ((c.tc : Thread Cert.KvQRefIdeal.nD Cert.KvQRefIdeal.τ).loc Cert.KvQRefIdeal.main_arg3)
          ∧ r.2.mem ((c.tc : Thread Cert.KvQRefIdeal.nD Cert.KvQRefIdeal.τ).loc Cert.KvQRefIdeal.main_arg4) = m' ((c.tc : Thread Cert.KvQRefIdeal.nD Cert.KvQRefIdeal.τ).loc Cert.KvQRefIdeal.main_arg4)
          ∧ r.2.mem ((c.tc : Thread Cert.KvQRefIdeal.nD Cert.KvQRefIdeal.τ).loc Cert.KvQRefIdeal.main_arg5) = m' ((c.tc : Thread Cert.KvQRefIdeal.nD Cert.KvQRefIdeal.τ).loc Cert.KvQRefIdeal.main_arg5)
          ∧ r.2.mem ((c.tc : Thread Cert.KvQRefIdeal.nD Cert.KvQRefIdeal.τ).loc Cert.KvQRefIdeal.main_arg6) = m' ((c.tc : Thread Cert.KvQRefIdeal.nD Cert.KvQRefIdeal.τ).loc Cert.KvQRefIdeal.main_arg6)
          ∧ r.2.mem ((c.tc : Thread Cert.KvQRefIdeal.nD Cert.KvQRefIdeal.τ).loc Cert.KvQRefIdeal.main_arg7) = m' ((c.tc : Thread Cert.KvQRefIdeal.nD Cert.KvQRefIdeal.τ).loc Cert.KvQRefIdeal.main_arg7)
          ∧ r.2.mem ((c.tc : Thread Cert.KvQRefIdeal.nD Cert.KvQRefIdeal.τ).loc Cert.KvQRefIdeal.main_arg8) = m' ((c.tc : Thread Cert.KvQRefIdeal.nD Cert.KvQRefIdeal.τ).loc Cert.KvQRefIdeal.main_arg8))

def preserves_KvQSample_KvQSampleIdeal : Prop :=
  True

def algebraic_KvQSampleIdeal_KvQSampleRefIdeal [hKvQSampleIdeal : Cert.KvQSampleIdeal.Facts] [hKvQSampleRefIdeal : Cert.KvQSampleRefIdeal.Facts] : Prop :=
  ∀ (m : (ℓ : Loc Cert.KvQSampleIdeal.nD Cert.KvQSampleIdeal.τ Cert.KvQSampleIdeal.sig) → Buf (Elt Ideal) ℓ) (g : Dev Cert.KvQSampleIdeal.nD → PrngReg)
    (m' : (ℓ : Loc Cert.KvQSampleRefIdeal.nD Cert.KvQSampleRefIdeal.τ Cert.KvQSampleRefIdeal.sig) → Buf (Elt Ideal) ℓ) (g' : Dev Cert.KvQSampleRefIdeal.nD → PrngReg), Pre_KvQSampleIdeal m →
    (∀ c : Dev Cert.KvQSampleIdeal.nD,
      m' ((c.tc : Thread Cert.KvQSampleRefIdeal.nD Cert.KvQSampleRefIdeal.τ).loc Cert.KvQSampleRefIdeal.main_arg0) = m ((c.tc : Thread Cert.KvQSampleIdeal.nD Cert.KvQSampleIdeal.τ).loc Cert.KvQSampleIdeal.main_arg0)
      ∧ m' ((c.tc : Thread Cert.KvQSampleRefIdeal.nD Cert.KvQSampleRefIdeal.τ).loc Cert.KvQSampleRefIdeal.main_arg1) = m ((c.tc : Thread Cert.KvQSampleIdeal.nD Cert.KvQSampleIdeal.τ).loc Cert.KvQSampleIdeal.main_arg1)
      ∧ m' ((c.tc : Thread Cert.KvQSampleRefIdeal.nD Cert.KvQSampleRefIdeal.τ).loc Cert.KvQSampleRefIdeal.main_arg2) = m ((c.tc : Thread Cert.KvQSampleIdeal.nD Cert.KvQSampleIdeal.τ).loc Cert.KvQSampleIdeal.main_arg2)
      ∧ m' ((c.tc : Thread Cert.KvQSampleRefIdeal.nD Cert.KvQSampleRefIdeal.τ).loc Cert.KvQSampleRefIdeal.main_arg3) = m ((c.tc : Thread Cert.KvQSampleIdeal.nD Cert.KvQSampleIdeal.τ).loc Cert.KvQSampleIdeal.main_arg3)
      ∧ m' ((c.tc : Thread Cert.KvQSampleRefIdeal.nD Cert.KvQSampleRefIdeal.τ).loc Cert.KvQSampleRefIdeal.main_arg4) = m ((c.tc : Thread Cert.KvQSampleIdeal.nD Cert.KvQSampleIdeal.τ).loc Cert.KvQSampleIdeal.main_arg4)
      ∧ m' ((c.tc : Thread Cert.KvQSampleRefIdeal.nD Cert.KvQSampleRefIdeal.τ).loc Cert.KvQSampleRefIdeal.main_arg5) = m ((c.tc : Thread Cert.KvQSampleIdeal.nD Cert.KvQSampleIdeal.τ).loc Cert.KvQSampleIdeal.main_arg5)
      ∧ m' ((c.tc : Thread Cert.KvQSampleRefIdeal.nD Cert.KvQSampleRefIdeal.τ).loc Cert.KvQSampleRefIdeal.main_arg6) = m ((c.tc : Thread Cert.KvQSampleIdeal.nD Cert.KvQSampleIdeal.τ).loc Cert.KvQSampleIdeal.main_arg6)
      ∧ m' ((c.tc : Thread Cert.KvQSampleRefIdeal.nD Cert.KvQSampleRefIdeal.τ).loc Cert.KvQSampleRefIdeal.main_arg7) = m ((c.tc : Thread Cert.KvQSampleIdeal.nD Cert.KvQSampleIdeal.τ).loc Cert.KvQSampleIdeal.main_arg7)
      ∧ m' ((c.tc : Thread Cert.KvQSampleRefIdeal.nD Cert.KvQSampleRefIdeal.τ).loc Cert.KvQSampleRefIdeal.main_arg8) = m ((c.tc : Thread Cert.KvQSampleIdeal.nD Cert.KvQSampleIdeal.τ).loc Cert.KvQSampleIdeal.main_arg8)) →
    ∃ (v0 : (c : Dev Cert.KvQSampleIdeal.nD) → Buf (Elt Ideal) ((c.tc : Thread Cert.KvQSampleIdeal.nD Cert.KvQSampleIdeal.τ).loc Cert.KvQSampleIdeal.main_v14)) (v1 : (c : Dev Cert.KvQSampleIdeal.nD) → Buf (Elt Ideal) ((c.tc : Thread Cert.KvQSampleIdeal.nD Cert.KvQSampleIdeal.τ).loc Cert.KvQSampleIdeal.main_v15)) (v2 : (c : Dev Cert.KvQSampleIdeal.nD) → Buf (Elt Ideal) ((c.tc : Thread Cert.KvQSampleIdeal.nD Cert.KvQSampleIdeal.τ).loc Cert.KvQSampleIdeal.main_v21)),
      θ_run (Cert.KvQSampleIdeal.defs (F := Ideal)) (onTc (τ := Cert.KvQSampleIdeal.τ) (Cert.KvQSampleIdeal.main (F := Ideal))) ⟨m, fun _ => 0, g⟩ (fun r => ∀ c : Dev Cert.KvQSampleIdeal.nD,
          r.2.mem ((c.tc : Thread Cert.KvQSampleIdeal.nD Cert.KvQSampleIdeal.τ).loc Cert.KvQSampleIdeal.main_v14) = v0 c
          ∧ r.2.mem ((c.tc : Thread Cert.KvQSampleIdeal.nD Cert.KvQSampleIdeal.τ).loc Cert.KvQSampleIdeal.main_v15) = v1 c
          ∧ r.2.mem ((c.tc : Thread Cert.KvQSampleIdeal.nD Cert.KvQSampleIdeal.τ).loc Cert.KvQSampleIdeal.main_v21) = v2 c
          ∧ r.2.mem ((c.tc : Thread Cert.KvQSampleIdeal.nD Cert.KvQSampleIdeal.τ).loc Cert.KvQSampleIdeal.main_arg0) = m ((c.tc : Thread Cert.KvQSampleIdeal.nD Cert.KvQSampleIdeal.τ).loc Cert.KvQSampleIdeal.main_arg0)
          ∧ r.2.mem ((c.tc : Thread Cert.KvQSampleIdeal.nD Cert.KvQSampleIdeal.τ).loc Cert.KvQSampleIdeal.main_arg1) = m ((c.tc : Thread Cert.KvQSampleIdeal.nD Cert.KvQSampleIdeal.τ).loc Cert.KvQSampleIdeal.main_arg1)
          ∧ r.2.mem ((c.tc : Thread Cert.KvQSampleIdeal.nD Cert.KvQSampleIdeal.τ).loc Cert.KvQSampleIdeal.main_arg2) = m ((c.tc : Thread Cert.KvQSampleIdeal.nD Cert.KvQSampleIdeal.τ).loc Cert.KvQSampleIdeal.main_arg2)
          ∧ r.2.mem ((c.tc : Thread Cert.KvQSampleIdeal.nD Cert.KvQSampleIdeal.τ).loc Cert.KvQSampleIdeal.main_arg3) = m ((c.tc : Thread Cert.KvQSampleIdeal.nD Cert.KvQSampleIdeal.τ).loc Cert.KvQSampleIdeal.main_arg3)
          ∧ r.2.mem ((c.tc : Thread Cert.KvQSampleIdeal.nD Cert.KvQSampleIdeal.τ).loc Cert.KvQSampleIdeal.main_arg4) = m ((c.tc : Thread Cert.KvQSampleIdeal.nD Cert.KvQSampleIdeal.τ).loc Cert.KvQSampleIdeal.main_arg4)
          ∧ r.2.mem ((c.tc : Thread Cert.KvQSampleIdeal.nD Cert.KvQSampleIdeal.τ).loc Cert.KvQSampleIdeal.main_arg5) = m ((c.tc : Thread Cert.KvQSampleIdeal.nD Cert.KvQSampleIdeal.τ).loc Cert.KvQSampleIdeal.main_arg5)
          ∧ r.2.mem ((c.tc : Thread Cert.KvQSampleIdeal.nD Cert.KvQSampleIdeal.τ).loc Cert.KvQSampleIdeal.main_arg6) = m ((c.tc : Thread Cert.KvQSampleIdeal.nD Cert.KvQSampleIdeal.τ).loc Cert.KvQSampleIdeal.main_arg6)
          ∧ r.2.mem ((c.tc : Thread Cert.KvQSampleIdeal.nD Cert.KvQSampleIdeal.τ).loc Cert.KvQSampleIdeal.main_arg7) = m ((c.tc : Thread Cert.KvQSampleIdeal.nD Cert.KvQSampleIdeal.τ).loc Cert.KvQSampleIdeal.main_arg7)
          ∧ r.2.mem ((c.tc : Thread Cert.KvQSampleIdeal.nD Cert.KvQSampleIdeal.τ).loc Cert.KvQSampleIdeal.main_arg8) = m ((c.tc : Thread Cert.KvQSampleIdeal.nD Cert.KvQSampleIdeal.τ).loc Cert.KvQSampleIdeal.main_arg8))
      ∧ θ_run (Cert.KvQSampleRefIdeal.defs (F := Ideal)) (onTc (τ := Cert.KvQSampleRefIdeal.τ) (Cert.KvQSampleRefIdeal.main (F := Ideal))) ⟨m', fun _ => 0, g'⟩ (fun r => ∀ c : Dev Cert.KvQSampleRefIdeal.nD,
          r.2.mem ((c.tc : Thread Cert.KvQSampleRefIdeal.nD Cert.KvQSampleRefIdeal.τ).loc Cert.KvQSampleRefIdeal.main_v92) = v0 c
          ∧ r.2.mem ((c.tc : Thread Cert.KvQSampleRefIdeal.nD Cert.KvQSampleRefIdeal.τ).loc Cert.KvQSampleRefIdeal.main_v93) = v1 c
          ∧ r.2.mem ((c.tc : Thread Cert.KvQSampleRefIdeal.nD Cert.KvQSampleRefIdeal.τ).loc Cert.KvQSampleRefIdeal.main_v95) = v2 c
          ∧ r.2.mem ((c.tc : Thread Cert.KvQSampleRefIdeal.nD Cert.KvQSampleRefIdeal.τ).loc Cert.KvQSampleRefIdeal.main_arg0) = m' ((c.tc : Thread Cert.KvQSampleRefIdeal.nD Cert.KvQSampleRefIdeal.τ).loc Cert.KvQSampleRefIdeal.main_arg0)
          ∧ r.2.mem ((c.tc : Thread Cert.KvQSampleRefIdeal.nD Cert.KvQSampleRefIdeal.τ).loc Cert.KvQSampleRefIdeal.main_arg1) = m' ((c.tc : Thread Cert.KvQSampleRefIdeal.nD Cert.KvQSampleRefIdeal.τ).loc Cert.KvQSampleRefIdeal.main_arg1)
          ∧ r.2.mem ((c.tc : Thread Cert.KvQSampleRefIdeal.nD Cert.KvQSampleRefIdeal.τ).loc Cert.KvQSampleRefIdeal.main_arg2) = m' ((c.tc : Thread Cert.KvQSampleRefIdeal.nD Cert.KvQSampleRefIdeal.τ).loc Cert.KvQSampleRefIdeal.main_arg2)
          ∧ r.2.mem ((c.tc : Thread Cert.KvQSampleRefIdeal.nD Cert.KvQSampleRefIdeal.τ).loc Cert.KvQSampleRefIdeal.main_arg3) = m' ((c.tc : Thread Cert.KvQSampleRefIdeal.nD Cert.KvQSampleRefIdeal.τ).loc Cert.KvQSampleRefIdeal.main_arg3)
          ∧ r.2.mem ((c.tc : Thread Cert.KvQSampleRefIdeal.nD Cert.KvQSampleRefIdeal.τ).loc Cert.KvQSampleRefIdeal.main_arg4) = m' ((c.tc : Thread Cert.KvQSampleRefIdeal.nD Cert.KvQSampleRefIdeal.τ).loc Cert.KvQSampleRefIdeal.main_arg4)
          ∧ r.2.mem ((c.tc : Thread Cert.KvQSampleRefIdeal.nD Cert.KvQSampleRefIdeal.τ).loc Cert.KvQSampleRefIdeal.main_arg5) = m' ((c.tc : Thread Cert.KvQSampleRefIdeal.nD Cert.KvQSampleRefIdeal.τ).loc Cert.KvQSampleRefIdeal.main_arg5)
          ∧ r.2.mem ((c.tc : Thread Cert.KvQSampleRefIdeal.nD Cert.KvQSampleRefIdeal.τ).loc Cert.KvQSampleRefIdeal.main_arg6) = m' ((c.tc : Thread Cert.KvQSampleRefIdeal.nD Cert.KvQSampleRefIdeal.τ).loc Cert.KvQSampleRefIdeal.main_arg6)
          ∧ r.2.mem ((c.tc : Thread Cert.KvQSampleRefIdeal.nD Cert.KvQSampleRefIdeal.τ).loc Cert.KvQSampleRefIdeal.main_arg7) = m' ((c.tc : Thread Cert.KvQSampleRefIdeal.nD Cert.KvQSampleRefIdeal.τ).loc Cert.KvQSampleRefIdeal.main_arg7)
          ∧ r.2.mem ((c.tc : Thread Cert.KvQSampleRefIdeal.nD Cert.KvQSampleRefIdeal.τ).loc Cert.KvQSampleRefIdeal.main_arg8) = m' ((c.tc : Thread Cert.KvQSampleRefIdeal.nD Cert.KvQSampleRefIdeal.τ).loc Cert.KvQSampleRefIdeal.main_arg8))

def preserves_PeerQuery_PeerQueryIdeal : Prop :=
  True

def algebraic_PeerQueryIdeal_PeerQueryRefIdeal [hPeerQueryIdeal : Cert.PeerQueryIdeal.Facts] [hPeerQueryRefIdeal : Cert.PeerQueryRefIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)
      ∧ m' ((c.tc : Thread Cert.PeerQueryRefIdeal.nD Cert.PeerQueryRefIdeal.τ).loc Cert.PeerQueryRefIdeal.main_arg2) = m ((c.tc : Thread Cert.PeerQueryIdeal.nD Cert.PeerQueryIdeal.τ).loc Cert.PeerQueryIdeal.main_arg2)) →
    ∃ (v0 : (c : Dev Cert.PeerQueryIdeal.nD) → Buf (Elt Ideal) ((c.tc : Thread Cert.PeerQueryIdeal.nD Cert.PeerQueryIdeal.τ).loc Cert.PeerQueryIdeal.main_v4_1)) (v1 : (c : Dev Cert.PeerQueryIdeal.nD) → Buf (Elt Ideal) ((c.tc : Thread Cert.PeerQueryIdeal.nD Cert.PeerQueryIdeal.τ).loc Cert.PeerQueryIdeal.main_v8)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v4_1) = v0 c
          ∧ r.2.mem ((c.tc : Thread Cert.PeerQueryIdeal.nD Cert.PeerQueryIdeal.τ).loc Cert.PeerQueryIdeal.main_v8) = v1 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1)
          ∧ r.2.mem ((c.tc : Thread Cert.PeerQueryIdeal.nD Cert.PeerQueryIdeal.τ).loc Cert.PeerQueryIdeal.main_arg2) = m ((c.tc : Thread Cert.PeerQueryIdeal.nD Cert.PeerQueryIdeal.τ).loc Cert.PeerQueryIdeal.main_arg2))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v17) = v0 c
          ∧ r.2.mem ((c.tc : Thread Cert.PeerQueryRefIdeal.nD Cert.PeerQueryRefIdeal.τ).loc Cert.PeerQueryRefIdeal.main_v20) = v1 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1)
          ∧ r.2.mem ((c.tc : Thread Cert.PeerQueryRefIdeal.nD Cert.PeerQueryRefIdeal.τ).loc Cert.PeerQueryRefIdeal.main_arg2) = m' ((c.tc : Thread Cert.PeerQueryRefIdeal.nD Cert.PeerQueryRefIdeal.τ).loc Cert.PeerQueryRefIdeal.main_arg2))

def preserves_GlaSample_GlaSampleIdeal : Prop :=
  True

def algebraic_GlaSampleIdeal_GlaSampleRefIdeal [hGlaSampleIdeal : Cert.GlaSampleIdeal.Facts] [hGlaSampleRefIdeal : Cert.GlaSampleRefIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleRefIdeal.nD Cert.GlaSampleRefIdeal.τ Cert.GlaSampleRefIdeal.sig) → Buf (Elt Ideal) ℓ) (g' : Dev Cert.GlaSampleRefIdeal.nD → PrngReg), Pre_GlaSampleIdeal m →
    (∀ c : Dev Cert.GlaSampleIdeal.nD,
      m' ((c.tc : Thread Cert.GlaSampleRefIdeal.nD Cert.GlaSampleRefIdeal.τ).loc Cert.GlaSampleRefIdeal.main_arg0) = m ((c.tc : Thread Cert.GlaSampleIdeal.nD Cert.GlaSampleIdeal.τ).loc Cert.GlaSampleIdeal.main_arg0)
      ∧ m' ((c.tc : Thread Cert.GlaSampleRefIdeal.nD Cert.GlaSampleRefIdeal.τ).loc Cert.GlaSampleRefIdeal.main_arg1) = m ((c.tc : Thread Cert.GlaSampleIdeal.nD Cert.GlaSampleIdeal.τ).loc Cert.GlaSampleIdeal.main_arg1)
      ∧ m' ((c.tc : Thread Cert.GlaSampleRefIdeal.nD Cert.GlaSampleRefIdeal.τ).loc Cert.GlaSampleRefIdeal.main_arg2) = m ((c.tc : Thread Cert.GlaSampleIdeal.nD Cert.GlaSampleIdeal.τ).loc Cert.GlaSampleIdeal.main_arg2)
      ∧ m' ((c.tc : Thread Cert.GlaSampleRefIdeal.nD Cert.GlaSampleRefIdeal.τ).loc Cert.GlaSampleRefIdeal.main_arg3) = m ((c.tc : Thread Cert.GlaSampleIdeal.nD Cert.GlaSampleIdeal.τ).loc Cert.GlaSampleIdeal.main_arg3)
      ∧ m' ((c.tc : Thread Cert.GlaSampleRefIdeal.nD Cert.GlaSampleRefIdeal.τ).loc Cert.GlaSampleRefIdeal.main_arg4) = m ((c.tc : Thread Cert.GlaSampleIdeal.nD Cert.GlaSampleIdeal.τ).loc Cert.GlaSampleIdeal.main_arg4)) →
    ∃ (v0 : (c : Dev Cert.GlaSampleIdeal.nD) → Buf (Elt Ideal) ((c.tc : Thread Cert.GlaSampleIdeal.nD Cert.GlaSampleIdeal.τ).loc Cert.GlaSampleIdeal.main_v10_0)) (v1 : (c : Dev Cert.GlaSampleIdeal.nD) → Buf (Elt Ideal) ((c.tc : Thread Cert.GlaSampleIdeal.nD Cert.GlaSampleIdeal.τ).loc Cert.GlaSampleIdeal.main_v10_1)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v10_0) = v0 c
          ∧ r.2.mem ((c.tc : Thread Cert.GlaSampleIdeal.nD Cert.GlaSampleIdeal.τ).loc Cert.GlaSampleIdeal.main_v10_1) = v1 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
          ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ θ_run (Cert.GlaSampleRefIdeal.defs (F := Ideal)) (onTc (τ := Cert.GlaSampleRefIdeal.τ) (Cert.GlaSampleRefIdeal.main (F := Ideal))) ⟨m', fun _ => 0, g'⟩ (fun r => ∀ c : Dev Cert.GlaSampleRefIdeal.nD,
          r.2.mem ((c.tc : Thread Cert.GlaSampleRefIdeal.nD Cert.GlaSampleRefIdeal.τ).loc Cert.GlaSampleRefIdeal.main_v70) = v0 c
          ∧ r.2.mem ((c.tc : Thread Cert.GlaSampleRefIdeal.nD Cert.GlaSampleRefIdeal.τ).loc Cert.GlaSampleRefIdeal.main_v45_6) = v1 c
          ∧ r.2.mem ((c.tc : Thread Cert.GlaSampleRefIdeal.nD Cert.GlaSampleRefIdeal.τ).loc Cert.GlaSampleRefIdeal.main_arg0) = m' ((c.tc : Thread Cert.GlaSampleRefIdeal.nD Cert.GlaSampleRefIdeal.τ).loc Cert.GlaSampleRefIdeal.main_arg0)
          ∧ r.2.mem ((c.tc : Thread Cert.GlaSampleRefIdeal.nD Cert.GlaSampleRefIdeal.τ).loc Cert.GlaSampleRefIdeal.main_arg1) = m' ((c.tc : Thread Cert.GlaSampleRefIdeal.nD Cert.GlaSampleRefIdeal.τ).loc Cert.GlaSampleRefIdeal.main_arg1)
          ∧ r.2.mem ((c.tc : Thread Cert.GlaSampleRefIdeal.nD Cert.GlaSampleRefIdeal.τ).loc Cert.GlaSampleRefIdeal.main_arg2) = m' ((c.tc : Thread Cert.GlaSampleRefIdeal.nD Cert.GlaSampleRefIdeal.τ).loc Cert.GlaSampleRefIdeal.main_arg2)
          ∧ r.2.mem ((c.tc : Thread Cert.GlaSampleRefIdeal.nD Cert.GlaSampleRefIdeal.τ).loc Cert.GlaSampleRefIdeal.main_arg3) = m' ((c.tc : Thread Cert.GlaSampleRefIdeal.nD Cert.GlaSampleRefIdeal.τ).loc Cert.GlaSampleRefIdeal.main_arg3)
          ∧ r.2.mem ((c.tc : Thread Cert.GlaSampleRefIdeal.nD Cert.GlaSampleRefIdeal.τ).loc Cert.GlaSampleRefIdeal.main_arg4) = m' ((c.tc : Thread Cert.GlaSampleRefIdeal.nD Cert.GlaSampleRefIdeal.τ).loc Cert.GlaSampleRefIdeal.main_arg4))

def preserves_BlockMeans_BlockMeansIdeal : Prop :=
  True

def algebraic_BlockMeansIdeal_BlockMeansRefIdeal [hBlockMeansIdeal : Cert.BlockMeansIdeal.Facts] [hBlockMeansRefIdeal : Cert.BlockMeansRefIdeal.Facts] [hPre_pages_exist : Cert.Pre_pages_exist.Facts] : Prop :=
  ∀ (m : (ℓ : Loc Cert.BlockMeansIdeal.nD Cert.BlockMeansIdeal.τ Cert.BlockMeansIdeal.sig) → Buf (Elt Ideal) ℓ) (g : Dev Cert.BlockMeansIdeal.nD → PrngReg)
    (m' : (ℓ : Loc Cert.BlockMeansRefIdeal.nD Cert.BlockMeansRefIdeal.τ Cert.BlockMeansRefIdeal.sig) → Buf (Elt Ideal) ℓ) (g' : Dev Cert.BlockMeansRefIdeal.nD → PrngReg), Pre_BlockMeansIdeal m →
    (∀ c : Dev Cert.BlockMeansIdeal.nD,
      m' ((c.tc : Thread Cert.BlockMeansRefIdeal.nD Cert.BlockMeansRefIdeal.τ).loc Cert.BlockMeansRefIdeal.main_arg0) = m ((c.tc : Thread Cert.BlockMeansIdeal.nD Cert.BlockMeansIdeal.τ).loc Cert.BlockMeansIdeal.main_arg0)
      ∧ m' ((c.tc : Thread Cert.BlockMeansRefIdeal.nD Cert.BlockMeansRefIdeal.τ).loc Cert.BlockMeansRefIdeal.main_arg1) = m ((c.tc : Thread Cert.BlockMeansIdeal.nD Cert.BlockMeansIdeal.τ).loc Cert.BlockMeansIdeal.main_arg1)) →
    ∃ (v0 : (c : Dev Cert.BlockMeansIdeal.nD) → Buf (Elt Ideal) ((c.tc : Thread Cert.BlockMeansIdeal.nD Cert.BlockMeansIdeal.τ).loc Cert.BlockMeansIdeal.main_v0)),
      θ_run (Cert.BlockMeansIdeal.defs (F := Ideal)) (onTc (τ := Cert.BlockMeansIdeal.τ) (Cert.BlockMeansIdeal.main (F := Ideal))) ⟨m, fun _ => 0, g⟩ (fun r => ∀ c : Dev Cert.BlockMeansIdeal.nD,
          r.2.mem ((c.tc : Thread Cert.BlockMeansIdeal.nD Cert.BlockMeansIdeal.τ).loc Cert.BlockMeansIdeal.main_v0) = v0 c
          ∧ r.2.mem ((c.tc : Thread Cert.BlockMeansIdeal.nD Cert.BlockMeansIdeal.τ).loc Cert.BlockMeansIdeal.main_arg0) = m ((c.tc : Thread Cert.BlockMeansIdeal.nD Cert.BlockMeansIdeal.τ).loc Cert.BlockMeansIdeal.main_arg0)
          ∧ r.2.mem ((c.tc : Thread Cert.BlockMeansIdeal.nD Cert.BlockMeansIdeal.τ).loc Cert.BlockMeansIdeal.main_arg1) = m ((c.tc : Thread Cert.BlockMeansIdeal.nD Cert.BlockMeansIdeal.τ).loc Cert.BlockMeansIdeal.main_arg1))
      ∧ θ_run (Cert.BlockMeansRefIdeal.defs (F := Ideal)) (onTc (τ := Cert.BlockMeansRefIdeal.τ) (Cert.BlockMeansRefIdeal.main (F := Ideal))) ⟨m', fun _ => 0, g'⟩ (fun r => ∀ c : Dev Cert.BlockMeansRefIdeal.nD,
          r.2.mem ((c.tc : Thread Cert.BlockMeansRefIdeal.nD Cert.BlockMeansRefIdeal.τ).loc Cert.BlockMeansRefIdeal.main_v10) = v0 c
          ∧ r.2.mem ((c.tc : Thread Cert.BlockMeansRefIdeal.nD Cert.BlockMeansRefIdeal.τ).loc Cert.BlockMeansRefIdeal.main_arg0) = m' ((c.tc : Thread Cert.BlockMeansRefIdeal.nD Cert.BlockMeansRefIdeal.τ).loc Cert.BlockMeansRefIdeal.main_arg0)
          ∧ r.2.mem ((c.tc : Thread Cert.BlockMeansRefIdeal.nD Cert.BlockMeansRefIdeal.τ).loc Cert.BlockMeansRefIdeal.main_arg1) = m' ((c.tc : Thread Cert.BlockMeansRefIdeal.nD Cert.BlockMeansRefIdeal.τ).loc Cert.BlockMeansRefIdeal.main_arg1))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)
      ∧ m' ((c.tc : Thread Cert.MixSampleRefIdeal.nD Cert.MixSampleRefIdeal.τ).loc Cert.MixSampleRefIdeal.main_arg3) = m ((c.tc : Thread Cert.MixSampleIdeal.nD Cert.MixSampleIdeal.τ).loc Cert.MixSampleIdeal.main_arg3)
      ∧ m' ((c.tc : Thread Cert.MixSampleRefIdeal.nD Cert.MixSampleRefIdeal.τ).loc Cert.MixSampleRefIdeal.main_arg4) = m ((c.tc : Thread Cert.MixSampleIdeal.nD Cert.MixSampleIdeal.τ).loc Cert.MixSampleIdeal.main_arg4)
      ∧ m' ((c.tc : Thread Cert.MixSampleRefIdeal.nD Cert.MixSampleRefIdeal.τ).loc Cert.MixSampleRefIdeal.main_arg5) = m ((c.tc : Thread Cert.MixSampleIdeal.nD Cert.MixSampleIdeal.τ).loc Cert.MixSampleIdeal.main_arg5)
      ∧ m' ((c.tc : Thread Cert.MixSampleRefIdeal.nD Cert.MixSampleRefIdeal.τ).loc Cert.MixSampleRefIdeal.main_arg6) = m ((c.tc : Thread Cert.MixSampleIdeal.nD Cert.MixSampleIdeal.τ).loc Cert.MixSampleIdeal.main_arg6)) →
    ∃ (v0 : (c : Dev Cert.MixSampleIdeal.nD) → Buf (Elt Ideal) ((c.tc : Thread Cert.MixSampleIdeal.nD Cert.MixSampleIdeal.τ).loc Cert.MixSampleIdeal.main_v22_0)) (v1 : (c : Dev Cert.MixSampleIdeal.nD) → Buf (Elt Ideal) ((c.tc : Thread Cert.MixSampleIdeal.nD Cert.MixSampleIdeal.τ).loc Cert.MixSampleIdeal.main_v22_1)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v22_0) = v0 c
          ∧ r.2.mem ((c.tc : Thread Cert.MixSampleIdeal.nD Cert.MixSampleIdeal.τ).loc Cert.MixSampleIdeal.main_v22_1) = v1 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v88) = v0 c
          ∧ r.2.mem ((c.tc : Thread Cert.MixSampleRefIdeal.nD Cert.MixSampleRefIdeal.τ).loc Cert.MixSampleRefIdeal.main_v63_6) = v1 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2)
          ∧ r.2.mem ((c.tc : Thread Cert.MixSampleRefIdeal.nD Cert.MixSampleRefIdeal.τ).loc Cert.MixSampleRefIdeal.main_arg3) = m' ((c.tc : Thread Cert.MixSampleRefIdeal.nD Cert.MixSampleRefIdeal.τ).loc Cert.MixSampleRefIdeal.main_arg3)
          ∧ r.2.mem ((c.tc : Thread Cert.MixSampleRefIdeal.nD Cert.MixSampleRefIdeal.τ).loc Cert.MixSampleRefIdeal.main_arg4) = m' ((c.tc : Thread Cert.MixSampleRefIdeal.nD Cert.MixSampleRefIdeal.τ).loc Cert.MixSampleRefIdeal.main_arg4)
          ∧ r.2.mem ((c.tc : Thread Cert.MixSampleRefIdeal.nD Cert.MixSampleRefIdeal.τ).loc Cert.MixSampleRefIdeal.main_arg5) = m' ((c.tc : Thread Cert.MixSampleRefIdeal.nD Cert.MixSampleRefIdeal.τ).loc Cert.MixSampleRefIdeal.main_arg5)
          ∧ r.2.mem ((c.tc : Thread Cert.MixSampleRefIdeal.nD Cert.MixSampleRefIdeal.τ).loc Cert.MixSampleRefIdeal.main_arg6) = m' ((c.tc : Thread Cert.MixSampleRefIdeal.nD Cert.MixSampleRefIdeal.τ).loc Cert.MixSampleRefIdeal.main_arg6))

def preserves_CastExperts_CastExpertsIdeal : Prop :=
  True

def algebraic_CastExpertsIdeal_CastExpertsRefIdeal [hCastExpertsIdeal : Cert.CastExpertsIdeal.Facts] [hCastExpertsRefIdeal : Cert.CastExpertsRefIdeal.Facts] : Prop :=
  ∀ (m : (ℓ : Loc Cert.CastExpertsIdeal.nD Cert.CastExpertsIdeal.τ Cert.CastExpertsIdeal.sig) → Buf (Elt Ideal) ℓ) (g : Dev Cert.CastExpertsIdeal.nD → PrngReg)
    (m' : (ℓ : Loc Cert.CastExpertsRefIdeal.nD Cert.CastExpertsRefIdeal.τ Cert.CastExpertsRefIdeal.sig) → Buf (Elt Ideal) ℓ) (g' : Dev Cert.CastExpertsRefIdeal.nD → PrngReg), Pre_CastExpertsIdeal m →
    (∀ c : Dev Cert.CastExpertsIdeal.nD,
      m' ((c.tc : Thread Cert.CastExpertsRefIdeal.nD Cert.CastExpertsRefIdeal.τ).loc Cert.CastExpertsRefIdeal.main_arg0) = m ((c.tc : Thread Cert.CastExpertsIdeal.nD Cert.CastExpertsIdeal.τ).loc Cert.CastExpertsIdeal.main_arg0)
      ∧ m' ((c.tc : Thread Cert.CastExpertsRefIdeal.nD Cert.CastExpertsRefIdeal.τ).loc Cert.CastExpertsRefIdeal.main_arg1) = m ((c.tc : Thread Cert.CastExpertsIdeal.nD Cert.CastExpertsIdeal.τ).loc Cert.CastExpertsIdeal.main_arg1)) →
    ∃ (v0 : (c : Dev Cert.CastExpertsIdeal.nD) → Buf (Elt Ideal) ((c.tc : Thread Cert.CastExpertsIdeal.nD Cert.CastExpertsIdeal.τ).loc Cert.CastExpertsIdeal.main_v0)) (v1 : (c : Dev Cert.CastExpertsIdeal.nD) → Buf (Elt Ideal) ((c.tc : Thread Cert.CastExpertsIdeal.nD Cert.CastExpertsIdeal.τ).loc Cert.CastExpertsIdeal.main_v1)) (v2 : (c : Dev Cert.CastExpertsIdeal.nD) → Buf (Elt Ideal) ((c.tc : Thread Cert.CastExpertsIdeal.nD Cert.CastExpertsIdeal.τ).loc Cert.CastExpertsIdeal.main_v2)) (v3 : (c : Dev Cert.CastExpertsIdeal.nD) → Buf (Elt Ideal) ((c.tc : Thread Cert.CastExpertsIdeal.nD Cert.CastExpertsIdeal.τ).loc Cert.CastExpertsIdeal.main_v3)),
      θ_run (Cert.CastExpertsIdeal.defs (F := Ideal)) (onTc (τ := Cert.CastExpertsIdeal.τ) (Cert.CastExpertsIdeal.main (F := Ideal))) ⟨m, fun _ => 0, g⟩ (fun r => ∀ c : Dev Cert.CastExpertsIdeal.nD,
          r.2.mem ((c.tc : Thread Cert.CastExpertsIdeal.nD Cert.CastExpertsIdeal.τ).loc Cert.CastExpertsIdeal.main_v0) = v0 c
          ∧ r.2.mem ((c.tc : Thread Cert.CastExpertsIdeal.nD Cert.CastExpertsIdeal.τ).loc Cert.CastExpertsIdeal.main_v1) = v1 c
          ∧ r.2.mem ((c.tc : Thread Cert.CastExpertsIdeal.nD Cert.CastExpertsIdeal.τ).loc Cert.CastExpertsIdeal.main_v2) = v2 c
          ∧ r.2.mem ((c.tc : Thread Cert.CastExpertsIdeal.nD Cert.CastExpertsIdeal.τ).loc Cert.CastExpertsIdeal.main_v3) = v3 c
          ∧ r.2.mem ((c.tc : Thread Cert.CastExpertsIdeal.nD Cert.CastExpertsIdeal.τ).loc Cert.CastExpertsIdeal.main_arg0) = m ((c.tc : Thread Cert.CastExpertsIdeal.nD Cert.CastExpertsIdeal.τ).loc Cert.CastExpertsIdeal.main_arg0)
          ∧ r.2.mem ((c.tc : Thread Cert.CastExpertsIdeal.nD Cert.CastExpertsIdeal.τ).loc Cert.CastExpertsIdeal.main_arg1) = m ((c.tc : Thread Cert.CastExpertsIdeal.nD Cert.CastExpertsIdeal.τ).loc Cert.CastExpertsIdeal.main_arg1))
      ∧ θ_run (Cert.CastExpertsRefIdeal.defs (F := Ideal)) (onTc (τ := Cert.CastExpertsRefIdeal.τ) (Cert.CastExpertsRefIdeal.main (F := Ideal))) ⟨m', fun _ => 0, g'⟩ (fun r => ∀ c : Dev Cert.CastExpertsRefIdeal.nD,
          r.2.mem ((c.tc : Thread Cert.CastExpertsRefIdeal.nD Cert.CastExpertsRefIdeal.τ).loc Cert.CastExpertsRefIdeal.main_v2) = v0 c
          ∧ r.2.mem ((c.tc : Thread Cert.CastExpertsRefIdeal.nD Cert.CastExpertsRefIdeal.τ).loc Cert.CastExpertsRefIdeal.main_v5) = v1 c
          ∧ r.2.mem ((c.tc : Thread Cert.CastExpertsRefIdeal.nD Cert.CastExpertsRefIdeal.τ).loc Cert.CastExpertsRefIdeal.main_v8) = v2 c
          ∧ r.2.mem ((c.tc : Thread Cert.CastExpertsRefIdeal.nD Cert.CastExpertsRefIdeal.τ).loc Cert.CastExpertsRefIdeal.main_v11) = v3 c
          ∧ r.2.mem ((c.tc : Thread Cert.CastExpertsRefIdeal.nD Cert.CastExpertsRefIdeal.τ).loc Cert.CastExpertsRefIdeal.main_arg0) = m' ((c.tc : Thread Cert.CastExpertsRefIdeal.nD Cert.CastExpertsRefIdeal.τ).loc Cert.CastExpertsRefIdeal.main_arg0)
          ∧ r.2.mem ((c.tc : Thread Cert.CastExpertsRefIdeal.nD Cert.CastExpertsRefIdeal.τ).loc Cert.CastExpertsRefIdeal.main_arg1) = m' ((c.tc : Thread Cert.CastExpertsRefIdeal.nD Cert.CastExpertsRefIdeal.τ).loc Cert.CastExpertsRefIdeal.main_arg1))

def Claim : Prop :=
  ∃ (hKernel : Cert.Kernel.Facts) (hKernelIdeal : Cert.KernelIdeal.Facts) (hReferenceIdeal : Cert.ReferenceIdeal.Facts) (hGlaIn : Cert.GlaIn.Facts) (hGlaInIdeal : Cert.GlaInIdeal.Facts) (hGlaInRefIdeal : Cert.GlaInRefIdeal.Facts) (hGlaOut : Cert.GlaOut.Facts) (hGlaOutIdeal : Cert.GlaOutIdeal.Facts) (hGlaOutRefIdeal : Cert.GlaOutRefIdeal.Facts) (hKvQ : Cert.KvQ.Facts) (hKvQIdeal : Cert.KvQIdeal.Facts) (hKvQRefIdeal : Cert.KvQRefIdeal.Facts) (hKvQSample : Cert.KvQSample.Facts) (hKvQSampleIdeal : Cert.KvQSampleIdeal.Facts) (hKvQSampleRefIdeal : Cert.KvQSampleRefIdeal.Facts) (hPeerQuery : Cert.PeerQuery.Facts) (hPeerQueryIdeal : Cert.PeerQueryIdeal.Facts) (hPeerQueryRefIdeal : Cert.PeerQueryRefIdeal.Facts) (hGlaSample : Cert.GlaSample.Facts) (hGlaSampleIdeal : Cert.GlaSampleIdeal.Facts) (hGlaSampleRefIdeal : Cert.GlaSampleRefIdeal.Facts) (hBlockMeans : Cert.BlockMeans.Facts) (hBlockMeansIdeal : Cert.BlockMeansIdeal.Facts) (hBlockMeansRefIdeal : Cert.BlockMeansRefIdeal.Facts) (hMixSample : Cert.MixSample.Facts) (hMixSampleIdeal : Cert.MixSampleIdeal.Facts) (hMixSampleRefIdeal : Cert.MixSampleRefIdeal.Facts) (hCastExperts : Cert.CastExperts.Facts) (hCastExpertsIdeal : Cert.CastExpertsIdeal.Facts) (hCastExpertsRefIdeal : Cert.CastExpertsRefIdeal.Facts) (hPre_pages_exist : Cert.Pre_pages_exist.Facts),
    quiescent_Kernel (hKernel := hKernel)
    ∧ quiescent_KernelIdeal (hKernelIdeal := hKernelIdeal)
    ∧ quiescent_ReferenceIdeal (hReferenceIdeal := hReferenceIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_GlaOut (hGlaOut := hGlaOut)
    ∧ quiescent_GlaOutIdeal (hGlaOutIdeal := hGlaOutIdeal)
    ∧ quiescent_GlaOutRefIdeal (hGlaOutRefIdeal := hGlaOutRefIdeal)
    ∧ quiescent_KvQ (hKvQ := hKvQ)
    ∧ quiescent_KvQIdeal (hKvQIdeal := hKvQIdeal)
    ∧ quiescent_KvQRefIdeal (hKvQRefIdeal := hKvQRefIdeal)
    ∧ quiescent_KvQSample (hKvQSample := hKvQSample)
    ∧ quiescent_KvQSampleIdeal (hKvQSampleIdeal := hKvQSampleIdeal)
    ∧ quiescent_KvQSampleRefIdeal (hKvQSampleRefIdeal := hKvQSampleRefIdeal)
    ∧ quiescent_PeerQuery (hPeerQuery := hPeerQuery)
    ∧ quiescent_PeerQueryIdeal (hPeerQueryIdeal := hPeerQueryIdeal)
    ∧ quiescent_PeerQueryRefIdeal (hPeerQueryRefIdeal := hPeerQueryRefIdeal)
    ∧ quiescent_GlaSample (hGlaSample := hGlaSample)
    ∧ quiescent_GlaSampleIdeal (hGlaSampleIdeal := hGlaSampleIdeal)
    ∧ quiescent_GlaSampleRefIdeal (hGlaSampleRefIdeal := hGlaSampleRefIdeal)
    ∧ quiescent_BlockMeans (hBlockMeans := hBlockMeans) (hPre_pages_exist := hPre_pages_exist)
    ∧ quiescent_BlockMeansIdeal (hBlockMeansIdeal := hBlockMeansIdeal) (hPre_pages_exist := hPre_pages_exist)
    ∧ quiescent_BlockMeansRefIdeal (hBlockMeansRefIdeal := hBlockMeansRefIdeal)
    ∧ quiescent_BlockMeansRefIdeal_pre_pages_exist (hBlockMeansRefIdeal := hBlockMeansRefIdeal) (hPre_pages_exist := hPre_pages_exist)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ quiescent_CastExperts (hCastExperts := hCastExperts)
    ∧ quiescent_CastExpertsIdeal (hCastExpertsIdeal := hCastExpertsIdeal)
    ∧ quiescent_CastExpertsRefIdeal (hCastExpertsRefIdeal := hCastExpertsRefIdeal)
    ∧ preserves_Kernel_KernelIdeal
    ∧ algebraic_KernelIdeal_ReferenceIdeal (hKernelIdeal := hKernelIdeal) (hReferenceIdeal := hReferenceIdeal)
    ∧ preserves_GlaIn_GlaInIdeal
    ∧ algebraic_GlaInIdeal_GlaInRefIdeal (hGlaInIdeal := hGlaInIdeal) (hGlaInRefIdeal := hGlaInRefIdeal)
    ∧ preserves_GlaOut_GlaOutIdeal
    ∧ algebraic_GlaOutIdeal_GlaOutRefIdeal (hGlaOutIdeal := hGlaOutIdeal) (hGlaOutRefIdeal := hGlaOutRefIdeal)
    ∧ preserves_KvQ_KvQIdeal
    ∧ algebraic_KvQIdeal_KvQRefIdeal (hKvQIdeal := hKvQIdeal) (hKvQRefIdeal := hKvQRefIdeal)
    ∧ preserves_KvQSample_KvQSampleIdeal
    ∧ algebraic_KvQSampleIdeal_KvQSampleRefIdeal (hKvQSampleIdeal := hKvQSampleIdeal) (hKvQSampleRefIdeal := hKvQSampleRefIdeal)
    ∧ preserves_PeerQuery_PeerQueryIdeal
    ∧ algebraic_PeerQueryIdeal_PeerQueryRefIdeal (hPeerQueryIdeal := hPeerQueryIdeal) (hPeerQueryRefIdeal := hPeerQueryRefIdeal)
    ∧ preserves_GlaSample_GlaSampleIdeal
    ∧ algebraic_GlaSampleIdeal_GlaSampleRefIdeal (hGlaSampleIdeal := hGlaSampleIdeal) (hGlaSampleRefIdeal := hGlaSampleRefIdeal)
    ∧ preserves_BlockMeans_BlockMeansIdeal
    ∧ algebraic_BlockMeansIdeal_BlockMeansRefIdeal (hBlockMeansIdeal := hBlockMeansIdeal) (hBlockMeansRefIdeal := hBlockMeansRefIdeal) (hPre_pages_exist := hPre_pages_exist)
    ∧ preserves_MixSample_MixSampleIdeal
    ∧ algebraic_MixSampleIdeal_MixSampleRefIdeal (hMixSampleIdeal := hMixSampleIdeal) (hMixSampleRefIdeal := hMixSampleRefIdeal)
    ∧ preserves_CastExperts_CastExpertsIdeal
    ∧ algebraic_CastExpertsIdeal_CastExpertsRefIdeal (hCastExpertsIdeal := hCastExpertsIdeal) (hCastExpertsRefIdeal := hCastExpertsRefIdeal)
-- ==== Pre_pages_exist.lean ====
abbrev S1280x128x8x128 : Shape := ⟨4, ![1280, 128, 8, 128]⟩
abbrev S8x128 : Shape := ⟨2, ![8, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S1280x128x8x128 .f32) (main_arg1 : IVec S8x128 32) : IVec S_ 1 :=
  let main_c : IVec S_ 32 := constantI S_ 32 0#32
  let main_v0 : IVec S8x128 32 := broadcastInDim S8x128 ![] bcast_S_S8x128 main_c
  let main_v1 : IVec S8x128 1 := cmpi .sge main_arg1 main_v0
  let main_c_0 : IVec S_ 32 := constantI S_ 32 1280#32
  let main_v2 : IVec S8x128 32 := broadcastInDim S8x128 ![] bcast_S_S8x128 main_c_0
  let main_v3 : IVec S8x128 1 := cmpi .slt main_arg1 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S4x2048x12304 : Shape := ⟨3, ![4, 2048, 12304]⟩
abbrev S1x16x2048 : Shape := ⟨3, ![1, 16, 2048]⟩
abbrev S1x2048 : Shape := ⟨2, ![1, 2048]⟩
abbrev S1x4x1024 : Shape := ⟨3, ![1, 4, 1024]⟩
abbrev S4x4x512x1024 : Shape := ⟨4, ![4, 4, 512, 1024]⟩
abbrev S4x2048x16 : Shape := ⟨3, ![4, 2048, 16]⟩
abbrev S_ : Shape := ⟨0, ![]⟩
abbrev S4x2048x128 : Shape := ⟨3, ![4, 2048, 128]⟩
abbrev S16x2048 : Shape := ⟨2, ![16, 2048]⟩
abbrev S128x2048 : Shape := ⟨2, ![128, 2048]⟩
abbrev S2048 : Shape := ⟨1, ![2048]⟩
abbrev S4x1024 : Shape := ⟨2, ![4, 1024]⟩
abbrev S1x4096 : Shape := ⟨2, ![1, 4096]⟩
abbrev S4x2048x12288 : Shape := ⟨3, ![4, 2048, 12288]⟩
abbrev S4x2048x4096 : Shape := ⟨3, ![4, 2048, 4096]⟩
abbrev S1x512x512 : Shape := ⟨3, ![1, 512, 512]⟩
abbrev S1x512x1024 : Shape := ⟨3, ![1, 512, 1024]⟩
abbrev S1x512x128 : Shape := ⟨3, ![1, 512, 128]⟩
abbrev S128x512 : Shape := ⟨2, ![128, 512]⟩
abbrev S1x512 : Shape := ⟨2, ![1, 512]⟩
abbrev S1x1024 : Shape := ⟨2, ![1, 1024]⟩
abbrev S1x1x512x1024 : Shape := ⟨4, ![1, 1, 512, 1024]⟩
abbrev S1024x512 : Shape := ⟨2, ![1024, 512]⟩
abbrev S512x1024 : Shape := ⟨2, ![512, 1024]⟩
abbrev S512x128 : Shape := ⟨2, ![512, 128]⟩
abbrev S512x512 : Shape := ⟨2, ![512, 512]⟩
abbrev S64x64 : Shape := ⟨2, ![64, 64]⟩
abbrev S64x512 : Shape := ⟨2, ![64, 512]⟩
abbrev S1x64x512 : Shape := ⟨3, ![1, 64, 512]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩

abbrev nBuf : Space → Nat
  | .hbm => 21
  | .vmem => 23
  | .smem => 0
  | _ => 0

abbrev bufTy : (tb : Table) → Fin (tcTables nBuf tb) → BufTy
  | .hbm, ⟨0, _⟩ => ⟨S4x2048x12304, .f32⟩
  | .hbm, ⟨1, _⟩ => ⟨S1x16x2048, .f32⟩
  | .hbm, ⟨2, _⟩ => ⟨S1x2048, .f32⟩
  | .hbm, ⟨3, _⟩ => ⟨S1x4x1024, .f32⟩
  | .hbm, ⟨4, _⟩ => ⟨S4x4x512x1024, .f32⟩
  | .hbm, ⟨5, _⟩ => ⟨S4x2048x16, .f32⟩
  | .hbm, ⟨6, _⟩ => ⟨S_, .i32⟩
  | .hbm, ⟨7, _⟩ => ⟨S_, .f32⟩
  | .hbm, ⟨8, _⟩ => ⟨S4x2048x128, .f32⟩
  | .hbm, ⟨9, _⟩ => ⟨S16x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S128x2048, .bf16⟩
  | .hbm, ⟨14, _⟩ => ⟨S2048, .f32⟩
  | .hbm, ⟨15, _⟩ => ⟨S1x2048, .f32⟩
  | .hbm, ⟨16, _⟩ => ⟨S4x1024, .f32⟩
  | .hbm, ⟨17, _⟩ => ⟨S1x4096, .f32⟩
  | .hbm, ⟨18, _⟩ => ⟨S4x2048x12288, .f32⟩
  | .hbm, ⟨19, _⟩ => ⟨S4x2048x4096, .bf16⟩
  | .hbm, ⟨20, _⟩ => ⟨S4x4x512x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x128, .f32⟩
  | .local _ .vmem, ⟨9, _⟩ => ⟨S1x512x128, .f32⟩
  | .local _ .vmem, ⟨10, _⟩ => ⟨S128x512, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S1x1x512x1024, .f32⟩
  | .local _ .vmem, ⟨17, _⟩ => ⟨S1x1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x1x512x1024, .f32⟩
  | .local _ .vmem, ⟨21, _⟩ => ⟨S1x1x512x1024, .f32⟩
  | .local _ .vmem, ⟨22, _⟩ => ⟨S1024x512, .f32⟩
  | _, _ => ⟨S4x2048x12304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v838 : BitVec 1 := Scalar.cmpi .eq arg2 c3_i32
  let v839 : BitVec 32 := Scalar.extui v838
  let c0_i32_391 : BitVec 32 := 0#32
  let v840 : BitVec 1 := Scalar.cmpi .ne v839 c0_i32_391
  v840

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
abbrev S4x2048x12304 : Shape := ⟨3, ![4, 2048, 12304]⟩
abbrev S1x16x2048 : Shape := ⟨3, ![1, 16, 2048]⟩
abbrev S1x2048 : Shape := ⟨2, ![1, 2048]⟩
abbrev S1x4x1024 : Shape := ⟨3, ![1, 4, 1024]⟩
abbrev S4x4x512x1024 : Shape := ⟨4, ![4, 4, 512, 1024]⟩
abbrev S4x2048x16 : Shape := ⟨3, ![4, 2048, 16]⟩
abbrev S_ : Shape := ⟨0, ![]⟩
abbrev S4x2048x128 : Shape := ⟨3, ![4, 2048, 128]⟩
abbrev S16x2048 : Shape := ⟨2, ![16, 2048]⟩
abbrev S128x2048 : Shape := ⟨2, ![128, 2048]⟩
abbrev S2048 : Shape := ⟨1, ![2048]⟩
abbrev S4x1024 : Shape := ⟨2, ![4, 1024]⟩
abbrev S1x4096 : Shape := ⟨2, ![1, 4096]⟩
abbrev S4x2048x12288 : Shape := ⟨3, ![4, 2048, 12288]⟩
abbrev S4x2048x4096 : Shape := ⟨3, ![4, 2048, 4096]⟩
abbrev S1x512x512 : Shape := ⟨3, ![1, 512, 512]⟩
abbrev S1x512x1024 : Shape := ⟨3, ![1, 512, 1024]⟩
abbrev S1x512x128 : Shape := ⟨3, ![1, 512, 128]⟩
abbrev S128x512 : Shape := ⟨2, ![128, 512]⟩
abbrev S1x512 : Shape := ⟨2, ![1, 512]⟩
abbrev S1x1024 : Shape := ⟨2, ![1, 1024]⟩
abbrev S1x1x512x1024 : Shape := ⟨4, ![1, 1, 512, 1024]⟩
abbrev S1024x512 : Shape := ⟨2, ![1024, 512]⟩
abbrev S512x1024 : Shape := ⟨2, ![512, 1024]⟩
abbrev S512x128 : Shape := ⟨2, ![512, 128]⟩
abbrev S512x512 : Shape := ⟨2, ![512, 512]⟩
abbrev S64x64 : Shape := ⟨2, ![64, 64]⟩
abbrev S64x512 : Shape := ⟨2, ![64, 512]⟩
abbrev S1x64x512 : Shape := ⟨3, ![1, 64, 512]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩

abbrev nBuf : Space → Nat
  | .hbm => 21
  | .vmem => 23
  | .smem => 0
  | _ => 0

abbrev bufTy : (tb : Table) → Fin (tcTables nBuf tb) → BufTy
  | .hbm, ⟨0, _⟩ => ⟨S4x2048x12304, .f32⟩
  | .hbm, ⟨1, _⟩ => ⟨S1x16x2048, .f32⟩
  | .hbm, ⟨2, _⟩ => ⟨S1x2048, .f32⟩
  | .hbm, ⟨3, _⟩ => ⟨S1x4x1024, .f32⟩
  | .hbm, ⟨4, _⟩ => ⟨S4x4x512x1024, .f32⟩
  | .hbm, ⟨5, _⟩ => ⟨S4x2048x16, .f32⟩
  | .hbm, ⟨6, _⟩ => ⟨S_, .i32⟩
  | .hbm, ⟨7, _⟩ => ⟨S_, .f32⟩
  | .hbm, ⟨8, _⟩ => ⟨S4x2048x128, .f32⟩
  | .hbm, ⟨9, _⟩ => ⟨S16x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S128x2048, .bf16⟩
  | .hbm, ⟨14, _⟩ => ⟨S2048, .f32⟩
  | .hbm, ⟨15, _⟩ => ⟨S1x2048, .f32⟩
  | .hbm, ⟨16, _⟩ => ⟨S4x1024, .f32⟩
  | .hbm, ⟨17, _⟩ => ⟨S1x4096, .f32⟩
  | .hbm, ⟨18, _⟩ => ⟨S4x2048x12288, .f32⟩
  | .hbm, ⟨19, _⟩ => ⟨S4x2048x4096, .bf16⟩
  | .hbm, ⟨20, _⟩ => ⟨S4x4x512x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x128, .f32⟩
  | .local _ .vmem, ⟨9, _⟩ => ⟨S1x512x128, .f32⟩
  | .local _ .vmem, ⟨10, _⟩ => ⟨S128x512, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S1x1x512x1024, .f32⟩
  | .local _ .vmem, ⟨17, _⟩ => ⟨S1x1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x1x512x1024, .f32⟩
  | .local _ .vmem, ⟨21, _⟩ => ⟨S1x1x512x1024, .f32⟩
  | .local _ .vmem, ⟨22, _⟩ => ⟨S1024x512, .f32⟩
  | _, _ => ⟨S4x2048x12304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v838 : BitVec 1 := Scalar.cmpi .eq arg2 c3_i32
  let v839 : BitVec 32 := Scalar.extui v838
  let c0_i32_391 : BitVec 32 := 0#32
  let v840 : BitVec 1 := Scalar.cmpi .ne v839 c0_i32_391
  v840

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S4x2048x12304 : Shape := ⟨3, ![4, 2048, 12304]⟩
abbrev S1x16x2048 : Shape := ⟨3, ![1, 16, 2048]⟩
abbrev S1x2048 : Shape := ⟨2, ![1, 2048]⟩
abbrev S1x4x1024 : Shape := ⟨3, ![1, 4, 1024]⟩
abbrev S4x4x512x1024 : Shape := ⟨4, ![4, 4, 512, 1024]⟩
abbrev S4x2048x2048 : Shape := ⟨3, ![4, 2048, 2048]⟩
abbrev S4x2048x4096 : Shape := ⟨3, ![4, 2048, 4096]⟩
abbrev S4x2048x16 : Shape := ⟨3, ![4, 2048, 16]⟩
abbrev S16x2048 : Shape := ⟨2, ![16, 2048]⟩
abbrev S2048 : Shape := ⟨1, ![2048]⟩
abbrev S1x1x2048 : Shape := ⟨3, ![1, 1, 2048]⟩
abbrev S_ : Shape := ⟨0, ![]⟩
abbrev S4x2048x4x512 : Shape := ⟨4, ![4, 2048, 4, 512]⟩
abbrev S4x2048x4x1024 : Shape := ⟨4, ![4, 2048, 4, 1024]⟩
abbrev S64x64 : Shape := ⟨2, ![64, 64]⟩
abbrev S4x32x64x4x512 : Shape := ⟨5, ![4, 32, 64, 4, 512]⟩
abbrev S32x4x4x64x512 : Shape := ⟨5, ![32, 4, 4, 64, 512]⟩
abbrev S4x32x64x4x1024 : Shape := ⟨5, ![4, 32, 64, 4, 1024]⟩
abbrev S32x4x4x64x1024 : Shape := ⟨5, ![32, 4, 4, 64, 1024]⟩
abbrev S1x4x4x64x512 : Shape := ⟨5, ![1, 4, 4, 64, 512]⟩
abbrev S4x4x64x512 : Shape := ⟨4, ![4, 4, 64, 512]⟩
abbrev S1x4x4x64x1024 : Shape := ⟨5, ![1, 4, 4, 64, 1024]⟩
abbrev S4x4x64x1024 : Shape := ⟨4, ![4, 4, 64, 1024]⟩
abbrev S4x4x64x64 : Shape := ⟨4, ![4, 4, 64, 64]⟩
abbrev S4x4x1x512 : Shape := ⟨4, ![4, 4, 1, 512]⟩
abbrev S4x4x512 : Shape := ⟨3, ![4, 4, 512]⟩
abbrev S4x4x512x1 : Shape := ⟨4, ![4, 4, 512, 1]⟩
abbrev S4x2048x4 : Shape := ⟨3, ![4, 2048, 4]⟩
abbrev S4x2048x4x1 : Shape := ⟨4, ![4, 2048, 4, 1]⟩
abbrev S4x1024 : Shape := ⟨2, ![4, 1024]⟩
abbrev S1x1x4x1024 : Shape := ⟨4, ![1, 1, 4, 1024]⟩

abbrev nBuf : Space → Nat
  | .hbm => 171
  | .vmem => 0
  | .smem => 0
  | _ => 0

abbrev hbmTy0_0 (i : Nat) : BufTy := match i % 128 with
  | 0 => ⟨S4x2048x12304, .f32⟩
  | 1 => ⟨S1x16x2048, .f32⟩
  | 2 => ⟨S1x2048, .f32⟩
  | 3 => ⟨S1x4x1024, .f32⟩
  | 4 => ⟨S4x4x512x1024, .f32⟩
  | 5 => ⟨S4x2048x2048, .f32⟩
  | 6 => ⟨S4x2048x2048, .f32⟩
  | 7 => ⟨S4x2048x4096, .f32⟩
  | 8 => ⟨S4x2048x4096, .f32⟩
  | 9 => ⟨S4x2048x16, .f32⟩
  | 10 => ⟨S16x2048, .f32⟩
  | 11 => ⟨S4x2048x2048, .f32⟩
  | 12 => ⟨S2048, .f32⟩
  | 13 => ⟨S1x1x2048, .f32⟩
  | 14 => ⟨S4x2048x2048, .f32⟩
  | 15 => ⟨S4x2048x2048, .f32⟩
  | 16 => ⟨S4x2048x2048, .f32⟩
  | 17 => ⟨S_, .f32⟩
  | 18 => ⟨S4x2048x2048, .f32⟩
  | 19 => ⟨S4x2048x2048, .f32⟩
  | 20 => ⟨S4x2048x2048, .f32⟩
  | 21 => ⟨S4x2048x2048, .f32⟩
  | 22 => ⟨S4x2048x2048, .i1⟩
  | 23 => ⟨S4x2048x2048, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S4x2048x2048, .f32⟩
  | 31 => ⟨S4x2048x2048, .f32⟩
  | 32 => ⟨S_, .f32⟩
  | 33 => ⟨S4x2048x2048, .f32⟩
  | 34 => ⟨S4x2048x2048, .f32⟩
  | 35 => ⟨S4x2048x4x512, .f32⟩
  | 36 => ⟨S_, .f32⟩
  | 37 => ⟨S4x2048x4x512, .f32⟩
  | 38 => ⟨S4x2048x4x512, .f32⟩
  | 39 => ⟨S4x2048x4x512, .f32⟩
  | 40 => ⟨S4x2048x4x1024, .f32⟩
  | 41 => ⟨S4x2048x4x512, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S4x32x64x4x512, .f32⟩
  | 54 => ⟨S32x4x4x64x512, .f32⟩
  | 55 => ⟨S4x32x64x4x512, .f32⟩
  | 56 => ⟨S32x4x4x64x512, .f32⟩
  | 57 => ⟨S4x32x64x4x1024, .f32⟩
  | 58 => ⟨S32x4x4x64x1024, .f32⟩
  | 59 => ⟨S4x32x64x4x512, .f32⟩
  | 60 => ⟨S32x4x4x64x512, .f32⟩
  | 61 => ⟨S_, .f32⟩
  | 62 => ⟨S32x4x4x64x1024, .f32⟩
  | 63 => ⟨S_, .i32⟩
  | 64 => ⟨S32x4x4x64x512, .f32⟩
  | 65 => ⟨S32x4x4x64x512, .f32⟩
  | 66 => ⟨S32x4x4x64x1024, .f32⟩
  | 67 => ⟨S32x4x4x64x512, .f32⟩
  | 68 => ⟨S64x64, .i1⟩
  | 69 => ⟨S_, .i32⟩
  | 70 => ⟨S4x4x512x1024, .f32⟩
  | 71 => ⟨S32x4x4x64x1024, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1x4x4x64x512, .f32⟩
  | 79 => ⟨S4x4x64x512, .f32⟩
  | 80 => ⟨S_, .i32⟩
  | 81 => ⟨S_, .i32⟩
  | 82 => ⟨S_, .i32⟩
  | 83 => ⟨S_, .i32⟩
  | 84 => ⟨S1x4x4x64x512, .f32⟩
  | 85 => ⟨S4x4x64x512, .f32⟩
  | 86 => ⟨S_, .i32⟩
  | 87 => ⟨S_, .i32⟩
  | 88 => ⟨S_, .i32⟩
  | 89 => ⟨S_, .i32⟩
  | 90 => ⟨S1x4x4x64x1024, .f32⟩
  | 91 => ⟨S4x4x64x1024, .f32⟩
  | 92 => ⟨S_, .i32⟩
  | 93 => ⟨S_, .i32⟩
  | 94 => ⟨S_, .i32⟩
  | 95 => ⟨S_, .i32⟩
  | 96 => ⟨S1x4x4x64x512, .f32⟩
  | 97 => ⟨S4x4x64x512, .f32⟩
  | 98 => ⟨S_, .f32⟩
  | 99 => ⟨S_, .f32⟩
  | 100 => ⟨S4x4x64x512, .f32⟩
  | 101 => ⟨S4x4x64x512, .f32⟩
  | 102 => ⟨S4x4x64x512, .f32⟩
  | 103 => ⟨S4x4x64x512, .f32⟩
  | 104 => ⟨S4x4x64x512, .f32⟩
  | 105 => ⟨S4x4x64x512, .f32⟩
  | 106 => ⟨S4x4x64x64, .f32⟩
  | 107 => ⟨S_, .f32⟩
  | 108 => ⟨S_, .f32⟩
  | 109 => ⟨S4x4x64x64, .i1⟩
  | 110 => ⟨S4x4x64x64, .f32⟩
  | 111 => ⟨S4x4x64x64, .f32⟩
  | 112 => ⟨S4x4x64x1024, .f32⟩
  | 113 => ⟨S4x4x64x1024, .f32⟩
  | 114 => ⟨S4x4x64x1024, .f32⟩
  | 115 => ⟨S4x4x1x512, .f32⟩
  | 116 => ⟨S4x4x512, .f32⟩
  | 117 => ⟨S4x4x512x1, .f32⟩
  | 118 => ⟨S4x4x512x1, .f32⟩
  | 119 => ⟨S4x4x512x1024, .f32⟩
  | 120 => ⟨S4x4x512x1024, .f32⟩
  | 121 => ⟨S4x4x64x512, .f32⟩
  | 122 => ⟨S4x4x64x512, .f32⟩
  | 123 => ⟨S4x4x64x512, .f32⟩
  | 124 => ⟨S4x4x64x512, .f32⟩
  | 125 => ⟨S4x4x512x1024, .f32⟩
  | 126 => ⟨S4x4x512x1024, .f32⟩
  | 127 => ⟨S1x4x4x64x1024, .f32⟩
  | _ => ⟨S4x2048x12304, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x4x4x64x1024, .f32⟩
  | 5 => ⟨S_, .i32⟩
  | 6 => ⟨S_, .i32⟩
  | 7 => ⟨S4x32x64x4x1024, .f32⟩
  | 8 => ⟨S4x2048x4x1024, .f32⟩
  | 9 => ⟨S4x2048x4x1024, .f32⟩
  | 10 => ⟨S_, .f32⟩
  | 11 => ⟨S4x2048x4, .f32⟩
  | 12 => ⟨S4x2048x4x1, .f32⟩
  | 13 => ⟨S_, .f32⟩
  | 14 => ⟨S4x2048x4x1, .f32⟩
  | 15 => ⟨S4x2048x4x1, .f32⟩
  | 16 => ⟨S_, .f32⟩
  | 17 => ⟨S4x2048x4x1, .f32⟩
  | 18 => ⟨S4x2048x4x1, .f32⟩
  | 19 => ⟨S4x2048x4x1, .f32⟩
  | 20 => ⟨S4x2048x4x1024, .f32⟩
  | 21 => ⟨S4x2048x4x1024, .f32⟩
  | 22 => ⟨S4x1024, .f32⟩
  | 23 => ⟨S1x1x4x1024, .f32⟩
  | 24 => ⟨S4x2048x4x1024, .f32⟩
  | 25 => ⟨S4x2048x4x1024, .f32⟩
  | 26 => ⟨S4x2048x2048, .f32⟩
  | 27 => ⟨S4x2048x2048, .f32⟩
  | 28 => ⟨S4x2048x4096, .f32⟩
  | 29 => ⟨S4x2048x4096, .f32⟩
  | 30 => ⟨S4x2048x16, .f32⟩
  | 31 => ⟨S4x2048x4096, .f32⟩
  | 32 => ⟨S4x2048x4096, .f32⟩
  | 33 => ⟨S4x2048x4096, .f32⟩
  | 34 => ⟨S_, .f32⟩
  | 35 => ⟨S4x2048x4096, .f32⟩
  | 36 => ⟨S4x2048x4096, .f32⟩
  | 37 => ⟨S_, .f32⟩
  | 38 => ⟨S4x2048x4096, .f32⟩
  | 39 => ⟨S4x2048x4096, .f32⟩
  | 40 => ⟨S4x2048x4096, .f32⟩
  | 41 => ⟨S4x2048x4096, .f32⟩
  | 42 => ⟨S4x2048x4096, .bf16⟩
  | _ => ⟨S4x2048x12304, .f32⟩

abbrev hbmTy (i : Nat) : BufTy := match i / 128 with
  | 0 => hbmTy0_0 i
  | 1 => hbmTy0_1 i
  | _ => ⟨S4x2048x12304, .f32⟩

abbrev bufTy : (tb : Table) → Fin (tcTables nBuf tb) → BufTy
  | .hbm, ⟨i, _⟩ => hbmTy i
  | _, _ => ⟨S4x2048x12304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_c_3 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_v45_3 : Ref sig .tc := ⟨.hbm, 67, rfl⟩
abbrev main_v45_4 : Ref sig .tc := ⟨.hbm, 68, rfl⟩
abbrev main_v45_5 : Ref sig .tc := ⟨.hbm, 69, rfl⟩
abbrev main_v45_6 : Ref sig .tc := ⟨.hbm, 70, rfl⟩
abbrev main_v45_7 : Ref sig .tc := ⟨.hbm, 71, rfl⟩
abbrev main_while0c_c_14 : Ref sig .tc := ⟨.hbm, 72, rfl⟩
abbrev main_while0c_v71 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_call1_c_2 : Ref sig .tc := ⟨.hbm, 77, rfl⟩
abbrev main_while0b_call1_v0 : Ref sig .tc := ⟨.hbm, 78, rfl⟩
abbrev main_while0b_v71 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v0 : Ref sig .tc := ⟨.hbm, 84, rfl⟩
abbrev main_while0b_v72 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v73 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_c_2 : Ref sig .tc := ⟨.hbm, 95, rfl⟩
abbrev main_while0b_call4_v0 : Ref sig .tc := ⟨.hbm, 96, rfl⟩
abbrev main_while0b_v74 : Ref sig .tc := ⟨.hbm, 97, rfl⟩
abbrev main_while0b_call5_call0_cst : Ref sig .tc := ⟨.hbm, 98, rfl⟩
abbrev main_while0b_call5_call0_v0 : Ref sig .tc := ⟨.hbm, 99, rfl⟩
abbrev main_while0b_v75 : Ref sig .tc := ⟨.hbm, 100, rfl⟩
abbrev main_while0b_v76 : Ref sig .tc := ⟨.hbm, 101, rfl⟩
abbrev main_while0b_v77 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_cst_14 : Ref sig .tc := ⟨.hbm, 107, rfl⟩
abbrev main_while0b_call6_v0 : Ref sig .tc := ⟨.hbm, 108, rfl⟩
abbrev main_while0b_call6_v1 : Ref sig .tc := ⟨.hbm, 109, rfl⟩
abbrev main_while0b_call6_v2 : Ref sig .tc := ⟨.hbm, 110, rfl⟩
abbrev main_while0b_v82 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_v92 : Ref sig .tc := ⟨.hbm, 121, rfl⟩
abbrev main_while0b_v93 : Ref sig .tc := ⟨.hbm, 122, rfl⟩
abbrev main_while0b_v94 : Ref sig .tc := ⟨.hbm, 123, rfl⟩
abbrev main_while0b_v95 : Ref sig .tc := ⟨.hbm, 124, rfl⟩
abbrev main_while0b_v96 : Ref sig .tc := ⟨.hbm, 125, rfl⟩
abbrev main_while0b_v97 : Ref sig .tc := ⟨.hbm, 126, rfl⟩
abbrev main_while0b_call7_v0 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_c_2 : Ref sig .tc := ⟨.hbm, 131, rfl⟩
abbrev main_while0b_v98 : Ref sig .tc := ⟨.hbm, 132, rfl⟩
abbrev main_while0b_c_15 : Ref sig .tc := ⟨.hbm, 133, rfl⟩
abbrev main_while0b_v99 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_cst_4 : Ref sig .tc := ⟨.hbm, 138, rfl⟩
abbrev main_v49 : Ref sig .tc := ⟨.hbm, 139, rfl⟩
abbrev main_v50 : Ref sig .tc := ⟨.hbm, 140, rfl⟩
abbrev main_cst_5 : Ref sig .tc := ⟨.hbm, 141, rfl⟩
abbrev main_v51 : Ref sig .tc := ⟨.hbm, 142, rfl⟩
abbrev main_v52 : Ref sig .tc := ⟨.hbm, 143, rfl⟩
abbrev main_cst_6 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_call8_v0 : Ref sig .tc := ⟨.hbm, 160, rfl⟩
abbrev main_call8_v1 : Ref sig .tc := ⟨.hbm, 161, rfl⟩
abbrev main_call8_cst : Ref sig .tc := ⟨.hbm, 162, rfl⟩
abbrev main_call8_v2 : Ref sig .tc := ⟨.hbm, 163, rfl⟩
abbrev main_call8_v3 : Ref sig .tc := ⟨.hbm, 164, rfl⟩
abbrev main_call8_cst_0 : Ref sig .tc := ⟨.hbm, 165, rfl⟩
abbrev main_call8_v4 : Ref sig .tc := ⟨.hbm, 166, rfl⟩
abbrev main_call8_v5 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩

abbrev nD : Nat := 1
abbrev τ : Topo := Topo.v7x

variable {F : FTy → Type} [FloatOps F]

abbrev main_while0_count : Scf.Loop 32 := ⟨0#32, 32#32, 1#32⟩
-- ==== GlaIn.lean ====
abbrev S4x2048x4096 : Shape := ⟨3, ![4, 2048, 4096]⟩
abbrev S2x4096 : Shape := ⟨2, ![2, 4096]⟩
abbrev S1x4096x12304 : Shape := ⟨3, ![1, 4096, 12304]⟩
abbrev S4096x12304 : Shape := ⟨2, ![4096, 12304]⟩
abbrev S4096x12288 : Shape := ⟨2, ![4096, 12288]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x12288 : Shape := ⟨2, ![8192, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S1x4096x12304, .f32⟩
  | .hbm, ⟨3, _⟩ => ⟨S4096x12304, .f32⟩
  | .hbm, ⟨4, _⟩ => ⟨S4096x12288, .f32⟩
  | .hbm, ⟨5, _⟩ => ⟨S4096x12288, .bf16⟩
  | .hbm, ⟨6, _⟩ => ⟨S8192x4096, .f32⟩
  | .hbm, ⟨7, _⟩ => ⟨S1x4096, .f32⟩
  | .hbm, ⟨8, _⟩ => ⟨S8192x4096, .bf16⟩
  | .hbm, ⟨9, _⟩ => ⟨S8192x12288, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== GlaInRefIdeal.lean ====
abbrev S4x2048x4096 : Shape := ⟨3, ![4, 2048, 4096]⟩
abbrev S2x4096 : Shape := ⟨2, ![2, 4096]⟩
abbrev S1x4096x12304 : Shape := ⟨3, ![1, 4096, 12304]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x12304 : Shape := ⟨2, ![4096, 12304]⟩
abbrev S4x2048x12304 : Shape := ⟨3, ![4, 2048, 12304]⟩
abbrev S4x2048x12288 : Shape := ⟨3, ![4, 2048, 12288]⟩
abbrev S4x2048x16 : Shape := ⟨3, ![4, 2048, 16]⟩
abbrev S8192x12288 : Shape := ⟨2, ![8192, 12288]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S1x4096x12304, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4096x12304, .f32⟩
  | .hbm, ⟨22, _⟩ => ⟨S4x2048x12304, .f32⟩
  | .hbm, ⟨23, _⟩ => ⟨S4x2048x12288, .f32⟩
  | .hbm, ⟨24, _⟩ => ⟨S4x2048x16, .f32⟩
  | .hbm, ⟨25, _⟩ => ⟨S8192x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== GlaOut.lean ====
abbrev S4x2048x4096 : Shape := ⟨3, ![4, 2048, 4096]⟩
abbrev S1x4096x4096 : Shape := ⟨3, ![1, 4096, 4096]⟩
abbrev S4096x4096 : Shape := ⟨2, ![4096, 4096]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x4096, .f32⟩
  | .hbm, ⟨2, _⟩ => ⟨S1x4096x4096, .f32⟩
  | .hbm, ⟨3, _⟩ => ⟨S4096x4096, .f32⟩
  | .hbm, ⟨4, _⟩ => ⟨S4096x4096, .bf16⟩
  | .hbm, ⟨5, _⟩ => ⟨S8192x4096, .bf16⟩
  | .hbm, ⟨6, _⟩ => ⟨S8192x4096, .f32⟩
  | .hbm, ⟨7, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GlaOutRefIdeal.lean ====
abbrev S4x2048x4096 : Shape := ⟨3, ![4, 2048, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x4096, .f32⟩
  | .hbm, ⟨2, _⟩ => ⟨S1x4096x4096, .f32⟩
  | .hbm, ⟨3, _⟩ => ⟨S4x2048x4096, .f32⟩
  | .hbm, ⟨4, _⟩ => ⟨S4096x4096, .f32⟩
  | .hbm, ⟨5, _⟩ => ⟨S4x2048x4096, .f32⟩
  | .hbm, ⟨6, _⟩ => ⟨S4x2048x4096, .f32⟩
  | .hbm, ⟨7, _⟩ => ⟨S8192x4096, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvQ.lean ====
abbrev S4x2048x4096 : Shape := ⟨3, ![4, 2048, 4096]⟩
abbrev S4096 : Shape := ⟨1, ![4096]⟩
abbrev S2x4096 : Shape := ⟨2, ![2, 4096]⟩
abbrev S4096x2048 : Shape := ⟨2, ![4096, 2048]⟩
abbrev S128 : Shape := ⟨1, ![128]⟩
abbrev S1x4096x4096 : Shape := ⟨3, ![1, 4096, 4096]⟩
abbrev S1x128 : Shape := ⟨2, ![1, 128]⟩
abbrev S2048x64 : Shape := ⟨2, ![2048, 64]⟩
abbrev S2048x128 : Shape := ⟨2, ![2048, 128]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩
abbrev S8192x1024 : Shape := ⟨2, ![8192, 1024]⟩
abbrev S256x1024 : Shape := ⟨2, ![256, 1024]⟩
abbrev S256x128 : Shape := ⟨2, ![256, 128]⟩
abbrev S4096x4096 : Shape := ⟨2, ![4096, 4096]⟩

abbrev nBuf : Space → Nat
  | .hbm => 32
  | .vmem => 37
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S128, .f32⟩
  | .hbm, ⟨5, _⟩ => ⟨S1x4096x4096, .f32⟩
  | .hbm, ⟨6, _⟩ => ⟨S1x128, .f32⟩
  | .hbm, ⟨7, _⟩ => ⟨S2048x64, .f32⟩
  | .hbm, ⟨8, _⟩ => ⟨S2048x64, .f32⟩
  | .hbm, ⟨9, _⟩ => ⟨S2048x128, .f32⟩
  | .hbm, ⟨10, _⟩ => ⟨S2048x64, .f32⟩
  | .hbm, ⟨11, _⟩ => ⟨S2048x128, .f32⟩
  | .hbm, ⟨12, _⟩ => ⟨S8192x4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S1x4096, .f32⟩
  | .hbm, ⟨17, _⟩ => ⟨S2x4096, .f32⟩
  | .hbm, ⟨18, _⟩ => ⟨S8192x4096, .bf16⟩
  | .hbm, ⟨19, _⟩ => ⟨S8192x4096, .bf16⟩
  | .hbm, ⟨20, _⟩ => ⟨S4096x2048, .bf16⟩
  | .hbm, ⟨21, _⟩ => ⟨S8192x2048, .f32⟩
  | .hbm, ⟨22, _⟩ => ⟨S8192x1024, .f32⟩
  | .hbm, ⟨23, _⟩ => ⟨S1x128, .f32⟩
  | .hbm, ⟨24, _⟩ => ⟨S8192x1024, .f32⟩
  | .hbm, ⟨25, _⟩ => ⟨S8192x1024, .f32⟩
  | .hbm, ⟨26, _⟩ => ⟨S4096x4096, .f32⟩
  | .hbm, ⟨27, _⟩ => ⟨S4096x4096, .bf16⟩
  | .hbm, ⟨28, _⟩ => ⟨S8192x4096, .f32⟩
  | .hbm, ⟨29, _⟩ => ⟨S128, .f32⟩
  | .hbm, ⟨30, _⟩ => ⟨S1x128, .f32⟩
  | .hbm, ⟨31, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S2x4096, .f32⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S1024x4096, .bf16⟩
  | .local _ .vmem, ⟨8, _⟩ => ⟨S1024x4096, .bf16⟩
  | .local _ .vmem, ⟨9, _⟩ => ⟨S4096x1024, .bf16⟩
  | .local _ .vmem, ⟨10, _⟩ => ⟨S4096x1024, .bf16⟩
  | .local _ .vmem, ⟨11, _⟩ => ⟨S1024x1024, .f32⟩
  | .local _ .vmem, ⟨12, _⟩ => ⟨S1024x1024, .f32⟩
  | .local _ .vmem, ⟨13, _⟩ => ⟨S256x1024, .f32⟩
  | .local _ .vmem, ⟨14, _⟩ => ⟨S256x1024, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x1024, .f32⟩
  | .local _ .vmem, ⟨21, _⟩ => ⟨S256x1024, .f32⟩
  | .local _ .vmem, ⟨22, _⟩ => ⟨S1024x4096, .bf16⟩
  | .local _ .vmem, ⟨23, _⟩ => ⟨S1024x4096, .bf16⟩
  | .local _ .vmem, ⟨24, _⟩ => ⟨S4096x1024, .bf16⟩
  | .local _ .vmem, ⟨25, _⟩ => ⟨S4096x1024, .bf16⟩
  | .local _ .vmem, ⟨26, _⟩ => ⟨S1024x1024, .f32⟩
  | .local _ .vmem, ⟨27, _⟩ => ⟨S1024x1024, .f32⟩
  | .local _ .vmem, ⟨28, _⟩ => ⟨S256x4096, .f32⟩
  | .local _ .vmem, ⟨29, _⟩ => ⟨S256x4096, .f32⟩
  | .local _ .vmem, ⟨30, _⟩ => ⟨S1x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x4096, .bf16⟩
  | .local _ .vmem, ⟨36, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_3 (i : grid4.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x4096 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== KvQIdeal.lean ====
abbrev S4x2048x4096 : Shape := ⟨3, ![4, 2048, 4096]⟩
abbrev S4096 : Shape := ⟨1, ![4096]⟩
abbrev S2x4096 : Shape := ⟨2, ![2, 4096]⟩
abbrev S4096x2048 : Shape := ⟨2, ![4096, 2048]⟩
abbrev S128 : Shape := ⟨1, ![128]⟩
abbrev S1x4096x4096 : Shape := ⟨3, ![1, 4096, 4096]⟩
abbrev S1x128 : Shape := ⟨2, ![1, 128]⟩
abbrev S2048x64 : Shape := ⟨2, ![2048, 64]⟩
abbrev S2048x128 : Shape := ⟨2, ![2048, 128]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩
abbrev S8192x1024 : Shape := ⟨2, ![8192, 1024]⟩
abbrev S256x1024 : Shape := ⟨2, ![256, 1024]⟩
abbrev S256x128 : Shape := ⟨2, ![256, 128]⟩
abbrev S4096x4096 : Shape := ⟨2, ![4096, 4096]⟩

abbrev nBuf : Space → Nat
  | .hbm => 32
  | .vmem => 37
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S128, .f32⟩
  | .hbm, ⟨5, _⟩ => ⟨S1x4096x4096, .f32⟩
  | .hbm, ⟨6, _⟩ => ⟨S1x128, .f32⟩
  | .hbm, ⟨7, _⟩ => ⟨S2048x64, .f32⟩
  | .hbm, ⟨8, _⟩ => ⟨S2048x64, .f32⟩
  | .hbm, ⟨9, _⟩ => ⟨S2048x128, .f32⟩
  | .hbm, ⟨10, _⟩ => ⟨S2048x64, .f32⟩
  | .hbm, ⟨11, _⟩ => ⟨S2048x128, .f32⟩
  | .hbm, ⟨12, _⟩ => ⟨S8192x4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S1x4096, .f32⟩
  | .hbm, ⟨17, _⟩ => ⟨S2x4096, .f32⟩
  | .hbm, ⟨18, _⟩ => ⟨S8192x4096, .bf16⟩
  | .hbm, ⟨19, _⟩ => ⟨S8192x4096, .bf16⟩
  | .hbm, ⟨20, _⟩ => ⟨S4096x2048, .bf16⟩
  | .hbm, ⟨21, _⟩ => ⟨S8192x2048, .f32⟩
  | .hbm, ⟨22, _⟩ => ⟨S8192x1024, .f32⟩
  | .hbm, ⟨23, _⟩ => ⟨S1x128, .f32⟩
  | .hbm, ⟨24, _⟩ => ⟨S8192x1024, .f32⟩
  | .hbm, ⟨25, _⟩ => ⟨S8192x1024, .f32⟩
  | .hbm, ⟨26, _⟩ => ⟨S4096x4096, .f32⟩
  | .hbm, ⟨27, _⟩ => ⟨S4096x4096, .bf16⟩
  | .hbm, ⟨28, _⟩ => ⟨S8192x4096, .f32⟩
  | .hbm, ⟨29, _⟩ => ⟨S128, .f32⟩
  | .hbm, ⟨30, _⟩ => ⟨S1x128, .f32⟩
  | .hbm, ⟨31, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S2x4096, .f32⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S1024x4096, .bf16⟩
  | .local _ .vmem, ⟨8, _⟩ => ⟨S1024x4096, .bf16⟩
  | .local _ .vmem, ⟨9, _⟩ => ⟨S4096x1024, .bf16⟩
  | .local _ .vmem, ⟨10, _⟩ => ⟨S4096x1024, .bf16⟩
  | .local _ .vmem, ⟨11, _⟩ => ⟨S1024x1024, .f32⟩
  | .local _ .vmem, ⟨12, _⟩ => ⟨S1024x1024, .f32⟩
  | .local _ .vmem, ⟨13, _⟩ => ⟨S256x1024, .f32⟩
  | .local _ .vmem, ⟨14, _⟩ => ⟨S256x1024, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x1024, .f32⟩
  | .local _ .vmem, ⟨21, _⟩ => ⟨S256x1024, .f32⟩
  | .local _ .vmem, ⟨22, _⟩ => ⟨S1024x4096, .bf16⟩
  | .local _ .vmem, ⟨23, _⟩ => ⟨S1024x4096, .bf16⟩
  | .local _ .vmem, ⟨24, _⟩ => ⟨S4096x1024, .bf16⟩
  | .local _ .vmem, ⟨25, _⟩ => ⟨S4096x1024, .bf16⟩
  | .local _ .vmem, ⟨26, _⟩ => ⟨S1024x1024, .f32⟩
  | .local _ .vmem, ⟨27, _⟩ => ⟨S1024x1024, .f32⟩
  | .local _ .vmem, ⟨28, _⟩ => ⟨S256x4096, .f32⟩
  | .local _ .vmem, ⟨29, _⟩ => ⟨S256x4096, .f32⟩
  | .local _ .vmem, ⟨30, _⟩ => ⟨S1x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x4096, .bf16⟩
  | .local _ .vmem, ⟨36, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_3 (i : grid4.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x4096 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== KvQRefIdeal.lean ====
abbrev S4x2048x4096 : Shape := ⟨3, ![4, 2048, 4096]⟩
abbrev S4096 : Shape := ⟨1, ![4096]⟩
abbrev S2x4096 : Shape := ⟨2, ![2, 4096]⟩
abbrev S4096x2048 : Shape := ⟨2, ![4096, 2048]⟩
abbrev S128 : Shape := ⟨1, ![128]⟩
abbrev S1x4096x4096 : Shape := ⟨3, ![1, 4096, 4096]⟩
abbrev S1x128 : Shape := ⟨2, ![1, 128]⟩
abbrev S2048x64 : Shape := ⟨2, ![2048, 64]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x2048 : Shape := ⟨3, ![4, 2048, 2048]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S1x2048x1x64 : Shape := ⟨4, ![1, 2048, 1, 64]⟩
abbrev S4x2048x8x64 : Shape := ⟨4, ![4, 2048, 8, 64]⟩
abbrev S1x4096 : Shape := ⟨2, ![1, 4096]⟩
abbrev S4096x4096 : Shape := ⟨2, ![4096, 4096]⟩
abbrev S4x2048x32x128 : Shape := ⟨4, ![4, 2048, 32, 128]⟩
abbrev S4x2048x32 : Shape := ⟨3, ![4, 2048, 32]⟩
abbrev S4x2048x32x1 : Shape := ⟨4, ![4, 2048, 32, 1]⟩
abbrev S4x2048x32x64 : Shape := ⟨4, ![4, 2048, 32, 64]⟩
abbrev S8192x1024 : Shape := ⟨2, ![8192, 1024]⟩
abbrev S8192x4096 : Shape := ⟨2, ![8192, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S128, .f32⟩
  | .hbm, ⟨5, _⟩ => ⟨S1x4096x4096, .f32⟩
  | .hbm, ⟨6, _⟩ => ⟨S1x128, .f32⟩
  | .hbm, ⟨7, _⟩ => ⟨S2048x64, .f32⟩
  | .hbm, ⟨8, _⟩ => ⟨S2048x64, .f32⟩
  | .hbm, ⟨9, _⟩ => ⟨S4x2048x4096, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x2048, .f32⟩
  | .hbm, ⟨26, _⟩ => ⟨S4x2048x1024, .f32⟩
  | .hbm, ⟨27, _⟩ => ⟨S4x2048x1024, .f32⟩
  | .hbm, ⟨28, _⟩ => ⟨S4x2048x8x128, .f32⟩
  | .hbm, ⟨29, _⟩ => ⟨S4x2048x8x128, .f32⟩
  | .hbm, ⟨30, _⟩ => ⟨S_, .f32⟩
  | .hbm, ⟨31, _⟩ => ⟨S4x2048x8, .f32⟩
  | .hbm, ⟨32, _⟩ => ⟨S4x2048x8x1, .f32⟩
  | .hbm, ⟨33, _⟩ => ⟨S_, .f32⟩
  | .hbm, ⟨34, _⟩ => ⟨S4x2048x8x1, .f32⟩
  | .hbm, ⟨35, _⟩ => ⟨S4x2048x8x1, .f32⟩
  | .hbm, ⟨36, _⟩ => ⟨S_, .f32⟩
  | .hbm, ⟨37, _⟩ => ⟨S4x2048x8x1, .f32⟩
  | .hbm, ⟨38, _⟩ => ⟨S4x2048x8x1, .f32⟩
  | .hbm, ⟨39, _⟩ => ⟨S4x2048x8x1, .f32⟩
  | .hbm, ⟨40, _⟩ => ⟨S4x2048x8x128, .f32⟩
  | .hbm, ⟨41, _⟩ => ⟨S4x2048x8x128, .f32⟩
  | .hbm, ⟨42, _⟩ => ⟨S1x1x1x128, .f32⟩
  | .hbm, ⟨43, _⟩ => ⟨S4x2048x8x128, .f32⟩
  | .hbm, ⟨44, _⟩ => ⟨S4x2048x8x128, .f32⟩
  | .hbm, ⟨45, _⟩ => ⟨S1x2048x1x64, .f32⟩
  | .hbm, ⟨46, _⟩ => ⟨S1x2048x1x64, .f32⟩
  | .hbm, ⟨47, _⟩ => ⟨S4x2048x8x64, .f32⟩
  | .hbm, ⟨48, _⟩ => ⟨S4x2048x8x64, .f32⟩
  | .hbm, ⟨49, _⟩ => ⟨S4x2048x8x64, .f32⟩
  | .hbm, ⟨50, _⟩ => ⟨S4x2048x8x64, .f32⟩
  | .hbm, ⟨51, _⟩ => ⟨S4x2048x8x64, .f32⟩
  | .hbm, ⟨52, _⟩ => ⟨S4x2048x8x64, .f32⟩
  | .hbm, ⟨53, _⟩ => ⟨S4x2048x8x64, .f32⟩
  | .hbm, ⟨54, _⟩ => ⟨S4x2048x8x64, .f32⟩
  | .hbm, ⟨55, _⟩ => ⟨S4x2048x8x64, .f32⟩
  | .hbm, ⟨56, _⟩ => ⟨S4x2048x8x64, .f32⟩
  | .hbm, ⟨57, _⟩ => ⟨S4x2048x8x64, .f32⟩
  | .hbm, ⟨58, _⟩ => ⟨S4x2048x8x64, .f32⟩
  | .hbm, ⟨59, _⟩ => ⟨S4x2048x8x128, .f32⟩
  | .hbm, ⟨60, _⟩ => ⟨S1x4096, .f32⟩
  | .hbm, ⟨61, _⟩ => ⟨S4096, .f32⟩
  | .hbm, ⟨62, _⟩ => ⟨S4x2048x4096, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x1, .f32⟩
  | .hbm, ⟨73, _⟩ => ⟨S4x2048x4096, .f32⟩
  | .hbm, ⟨74, _⟩ => ⟨S4x2048x4096, .f32⟩
  | .hbm, ⟨75, _⟩ => ⟨S1x1x4096, .f32⟩
  | .hbm, ⟨76, _⟩ => ⟨S4x2048x4096, .f32⟩
  | .hbm, ⟨77, _⟩ => ⟨S4x2048x4096, .f32⟩
  | .hbm, ⟨78, _⟩ => ⟨S4096x4096, .f32⟩
  | .hbm, ⟨79, _⟩ => ⟨S128, .f32⟩
  | .hbm, ⟨80, _⟩ => ⟨S4x2048x4096, .f32⟩
  | .hbm, ⟨81, _⟩ => ⟨S4x2048x32x128, .f32⟩
  | .hbm, ⟨82, _⟩ => ⟨S4x2048x32x128, .f32⟩
  | .hbm, ⟨83, _⟩ => ⟨S_, .f32⟩
  | .hbm, ⟨84, _⟩ => ⟨S4x2048x32, .f32⟩
  | .hbm, ⟨85, _⟩ => ⟨S4x2048x32x1, .f32⟩
  | .hbm, ⟨86, _⟩ => ⟨S_, .f32⟩
  | .hbm, ⟨87, _⟩ => ⟨S4x2048x32x1, .f32⟩
  | .hbm, ⟨88, _⟩ => ⟨S4x2048x32x1, .f32⟩
  | .hbm, ⟨89, _⟩ => ⟨S_, .f32⟩
  | .hbm, ⟨90, _⟩ => ⟨S4x2048x32x1, .f32⟩
  | .hbm, ⟨91, _⟩ => ⟨S4x2048x32x1, .f32⟩
  | .hbm, ⟨92, _⟩ => ⟨S4x2048x32x1, .f32⟩
  | .hbm, ⟨93, _⟩ => ⟨S4x2048x32x128, .f32⟩
  | .hbm, ⟨94, _⟩ => ⟨S4x2048x32x128, .f32⟩
  | .hbm, ⟨95, _⟩ => ⟨S1x1x1x128, .f32⟩
  | .hbm, ⟨96, _⟩ => ⟨S4x2048x32x128, .f32⟩
  | .hbm, ⟨97, _⟩ => ⟨S4x2048x32x128, .f32⟩
  | .hbm, ⟨98, _⟩ => ⟨S1x2048x1x64, .f32⟩
  | .hbm, ⟨99, _⟩ => ⟨S1x2048x1x64, .f32⟩
  | .hbm, ⟨100, _⟩ => ⟨S4x2048x32x64, .f32⟩
  | .hbm, ⟨101, _⟩ => ⟨S4x2048x32x64, .f32⟩
  | .hbm, ⟨102, _⟩ => ⟨S4x2048x32x64, .f32⟩
  | .hbm, ⟨103, _⟩ => ⟨S4x2048x32x64, .f32⟩
  | .hbm, ⟨104, _⟩ => ⟨S4x2048x32x64, .f32⟩
  | .hbm, ⟨105, _⟩ => ⟨S4x2048x32x64, .f32⟩
  | .hbm, ⟨106, _⟩ => ⟨S4x2048x32x64, .f32⟩
  | .hbm, ⟨107, _⟩ => ⟨S4x2048x32x64, .f32⟩
  | .hbm, ⟨108, _⟩ => ⟨S4x2048x32x64, .f32⟩
  | .hbm, ⟨109, _⟩ => ⟨S4x2048x32x64, .f32⟩
  | .hbm, ⟨110, _⟩ => ⟨S4x2048x32x64, .f32⟩
  | .hbm, ⟨111, _⟩ => ⟨S4x2048x32x64, .f32⟩
  | .hbm, ⟨112, _⟩ => ⟨S4x2048x32x128, .f32⟩
  | .hbm, ⟨113, _⟩ => ⟨S8192x1024, .f32⟩
  | .hbm, ⟨114, _⟩ => ⟨S8192x1024, .f32⟩
  | .hbm, ⟨115, _⟩ => ⟨S8192x4096, .f32⟩
  | .hbm, ⟨116, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩

abbrev nD : Nat := 1
abbrev τ : Topo := Topo.v7x

variable {F : FTy → Type} [FloatOps F]
-- ==== KvQSample.lean ====
abbrev S8x8x4096 : Shape := ⟨3, ![8, 8, 4096]⟩
abbrev S4096 : Shape := ⟨1, ![4096]⟩
abbrev S2x4096 : Shape := ⟨2, ![2, 4096]⟩
abbrev S4096x2048 : Shape := ⟨2, ![4096, 2048]⟩
abbrev S128 : Shape := ⟨1, ![128]⟩
abbrev S1x4096x4096 : Shape := ⟨3, ![1, 4096, 4096]⟩
abbrev S1x128 : Shape := ⟨2, ![1, 128]⟩
abbrev S8x64 : Shape := ⟨2, ![8, 64]⟩
abbrev S8x128 : Shape := ⟨2, ![8, 128]⟩
abbrev S64x4096 : Shape := ⟨2, ![64, 4096]⟩
abbrev S1x4096 : Shape := ⟨2, ![1, 4096]⟩
abbrev S64 : Shape := ⟨1, ![64]⟩
abbrev S64x1 : Shape := ⟨2, ![64, 1]⟩
abbrev S64x2048 : Shape := ⟨2, ![64, 2048]⟩
abbrev S4096x1024 : Shape := ⟨2, ![4096, 1024]⟩
abbrev S64x1024 : Shape := ⟨2, ![64, 1024]⟩
abbrev S8x1024 : Shape := ⟨2, ![8, 1024]⟩
abbrev S8 : Shape := ⟨1, ![8]⟩
abbrev S8x1 : Shape := ⟨2, ![8, 1]⟩
abbrev S4096x4096 : Shape := ⟨2, ![4096, 4096]⟩
abbrev S8x4096 : Shape := ⟨2, ![8, 4096]⟩

abbrev nBuf : Space → Nat
  | .hbm => 32
  | .vmem => 28
  | .smem => 0
  | _ => 0

abbrev bufTy : (tb : Table) → Fin (tcTables nBuf tb) → BufTy
  | .hbm, ⟨0, _⟩ => ⟨S8x8x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S128, .f32⟩
  | .hbm, ⟨5, _⟩ => ⟨S1x4096x4096, .f32⟩
  | .hbm, ⟨6, _⟩ => ⟨S1x128, .f32⟩
  | .hbm, ⟨7, _⟩ => ⟨S8x64, .f32⟩
  | .hbm, ⟨8, _⟩ => ⟨S8x64, .f32⟩
  | .hbm, ⟨9, _⟩ => ⟨S8x128, .f32⟩
  | .hbm, ⟨10, _⟩ => ⟨S8x64, .f32⟩
  | .hbm, ⟨11, _⟩ => ⟨S8x128, .f32⟩
  | .hbm, ⟨12, _⟩ => ⟨S64x4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S1x4096, .f32⟩
  | .hbm, ⟨17, _⟩ => ⟨S2x4096, .f32⟩
  | .hbm, ⟨18, _⟩ => ⟨S64x4096, .bf16⟩
  | .hbm, ⟨19, _⟩ => ⟨S64x4096, .bf16⟩
  | .hbm, ⟨20, _⟩ => ⟨S4096x2048, .bf16⟩
  | .hbm, ⟨21, _⟩ => ⟨S64x2048, .f32⟩
  | .hbm, ⟨22, _⟩ => ⟨S64x1024, .f32⟩
  | .hbm, ⟨23, _⟩ => ⟨S1x128, .f32⟩
  | .hbm, ⟨24, _⟩ => ⟨S64x1024, .f32⟩
  | .hbm, ⟨25, _⟩ => ⟨S64x1024, .f32⟩
  | .hbm, ⟨26, _⟩ => ⟨S4096x4096, .f32⟩
  | .hbm, ⟨27, _⟩ => ⟨S4096x4096, .bf16⟩
  | .hbm, ⟨28, _⟩ => ⟨S64x4096, .f32⟩
  | .hbm, ⟨29, _⟩ => ⟨S128, .f32⟩
  | .hbm, ⟨30, _⟩ => ⟨S1x128, .f32⟩
  | .hbm, ⟨31, _⟩ => ⟨S64x4096, .bf16⟩
  | .local _ .vmem, ⟨0, _⟩ => ⟨S64x4096, .f32⟩
  | .local _ .vmem, ⟨1, _⟩ => ⟨S2x4096, .f32⟩
  | .local _ .vmem, ⟨2, _⟩ => ⟨S64x4096, .bf16⟩
  | .local _ .vmem, ⟨3, _⟩ => ⟨S64x4096, .bf16⟩
  | .local _ .vmem, ⟨4, _⟩ => ⟨S64x4096, .bf16⟩
  | .local _ .vmem, ⟨5, _⟩ => ⟨S4096x1024, .bf16⟩
  | .local _ .vmem, ⟨6, _⟩ => ⟨S4096x1024, .bf16⟩
  | .local _ .vmem, ⟨7, _⟩ => ⟨S64x1024, .f32⟩
  | .local _ .vmem, ⟨8, _⟩ => ⟨S64x1024, .f32⟩
  | .local _ .vmem, ⟨9, _⟩ => ⟨S8x1024, .f32⟩
  | .local _ .vmem, ⟨10, _⟩ => ⟨S8x1024, .f32⟩
  | .local _ .vmem, ⟨11, _⟩ => ⟨S1x128, .f32⟩
  | .local _ .vmem, ⟨12, _⟩ => ⟨S8x128, .f32⟩
  | .local _ .vmem, ⟨13, _⟩ => ⟨S8x128, .f32⟩
  | .local _ .vmem, ⟨14, _⟩ => ⟨S8x1024, .f32⟩
  | .local _ .vmem, ⟨15, _⟩ => ⟨S8x1024, .f32⟩
  | .local _ .vmem, ⟨16, _⟩ => ⟨S64x4096, .bf16⟩
  | .local _ .vmem, ⟨17, _⟩ => ⟨S4096x1024, .bf16⟩
  | .local _ .vmem, ⟨18, _⟩ => ⟨S4096x1024, .bf16⟩
  | .local _ .vmem, ⟨19, _⟩ => ⟨S64x1024, .f32⟩
  | .local _ .vmem, ⟨20, _⟩ => ⟨S64x1024, .f32⟩
  | .local _ .vmem, ⟨21, _⟩ => ⟨S8x4096, .f32⟩
  | .local _ .vmem, ⟨22, _⟩ => ⟨S8x4096, .f32⟩
  | .local _ .vmem, ⟨23, _⟩ => ⟨S1x128, .f32⟩
  | .local _ .vmem, ⟨24, _⟩ => ⟨S8x128, .f32⟩
  | .local _ .vmem, ⟨25, _⟩ => ⟨S8x128, .f32⟩
  | .local _ .vmem, ⟨26, _⟩ => ⟨S8x4096, .bf16⟩
  | .local _ .vmem, ⟨27, _⟩ => ⟨S8x4096, .bf16⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg4_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem4_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem4_1 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S64x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S64x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8x4096 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== KvQSampleRefIdeal.lean ====
abbrev S8x8x4096 : Shape := ⟨3, ![8, 8, 4096]⟩
abbrev S4096 : Shape := ⟨1, ![4096]⟩
abbrev S2x4096 : Shape := ⟨2, ![2, 4096]⟩
abbrev S4096x2048 : Shape := ⟨2, ![4096, 2048]⟩
abbrev S128 : Shape := ⟨1, ![128]⟩
abbrev S1x4096x4096 : Shape := ⟨3, ![1, 4096, 4096]⟩
abbrev S1x128 : Shape := ⟨2, ![1, 128]⟩
abbrev S8x64 : Shape := ⟨2, ![8, 64]⟩
abbrev S_ : Shape := ⟨0, ![]⟩
abbrev S8x8 : Shape := ⟨2, ![8, 8]⟩
abbrev S8x8x1 : Shape := ⟨3, ![8, 8, 1]⟩
abbrev S1x1x4096 : Shape := ⟨3, ![1, 1, 4096]⟩
abbrev S8x8x2048 : Shape := ⟨3, ![8, 8, 2048]⟩
abbrev S8x8x1024 : Shape := ⟨3, ![8, 8, 1024]⟩
abbrev S8x8x8x128 : Shape := ⟨4, ![8, 8, 8, 128]⟩
abbrev S8x8x8 : Shape := ⟨3, ![8, 8, 8]⟩
abbrev S8x8x8x1 : Shape := ⟨4, ![8, 8, 8, 1]⟩
abbrev S1x1x1x128 : Shape := ⟨4, ![1, 1, 1, 128]⟩
abbrev S1x8x1x64 : Shape := ⟨4, ![1, 8, 1, 64]⟩
abbrev S8x8x8x64 : Shape := ⟨4, ![8, 8, 8, 64]⟩
abbrev S1x4096 : Shape := ⟨2, ![1, 4096]⟩
abbrev S4096x4096 : Shape := ⟨2, ![4096, 4096]⟩
abbrev S8x8x32x128 : Shape := ⟨4, ![8, 8, 32, 128]⟩
abbrev S8x8x32 : Shape := ⟨3, ![8, 8, 32]⟩
abbrev S8x8x32x1 : Shape := ⟨4, ![8, 8, 32, 1]⟩
abbrev S8x8x32x64 : Shape := ⟨4, ![8, 8, 32, 64]⟩
abbrev S64x1024 : Shape := ⟨2, ![64, 1024]⟩
abbrev S64x4096 : Shape := ⟨2, ![64, 4096]⟩

abbrev nBuf : Space → Nat
  | .hbm => 117
  | .vmem => 0
  | .smem => 0
  | _ => 0

abbrev bufTy : (tb : Table) → Fin (tcTables nBuf tb) → BufTy
  | .hbm, ⟨0, _⟩ => ⟨S8x8x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S128, .f32⟩
  | .hbm, ⟨5, _⟩ => ⟨S1x4096x4096, .f32⟩
  | .hbm, ⟨6, _⟩ => ⟨S1x128, .f32⟩
  | .hbm, ⟨7, _⟩ => ⟨S8x64, .f32⟩
  | .hbm, ⟨8, _⟩ => ⟨S8x64, .f32⟩
  | .hbm, ⟨9, _⟩ => ⟨S8x8x4096, .f32⟩
  | .hbm, ⟨10, _⟩ => ⟨S_, .f32⟩
  | .hbm, ⟨11, _⟩ => ⟨S8x8, .f32⟩
  | .hbm, ⟨12, _⟩ => ⟨S8x8x1, .f32⟩
  | .hbm, ⟨13, _⟩ => ⟨S_, .f32⟩
  | .hbm, ⟨14, _⟩ => ⟨S8x8x1, .f32⟩
  | .hbm, ⟨15, _⟩ => ⟨S8x8x1, .f32⟩
  | .hbm, ⟨16, _⟩ => ⟨S_, .f32⟩
  | .hbm, ⟨17, _⟩ => ⟨S8x8x1, .f32⟩
  | .hbm, ⟨18, _⟩ => ⟨S8x8x1, .f32⟩
  | .hbm, ⟨19, _⟩ => ⟨S8x8x1, .f32⟩
  | .hbm, ⟨20, _⟩ => ⟨S8x8x4096, .f32⟩
  | .hbm, ⟨21, _⟩ => ⟨S8x8x4096, .f32⟩
  | .hbm, ⟨22, _⟩ => ⟨S1x1x4096, .f32⟩
  | .hbm, ⟨23, _⟩ => ⟨S8x8x4096, .f32⟩
  | .hbm, ⟨24, _⟩ => ⟨S8x8x4096, .f32⟩
  | .hbm, ⟨25, _⟩ => ⟨S8x8x2048, .f32⟩
  | .hbm, ⟨26, _⟩ => ⟨S8x8x1024, .f32⟩
  | .hbm, ⟨27, _⟩ => ⟨S8x8x1024, .f32⟩
  | .hbm, ⟨28, _⟩ => ⟨S8x8x8x128, .f32⟩
  | .hbm, ⟨29, _⟩ => ⟨S8x8x8x128, .f32⟩
  | .hbm, ⟨30, _⟩ => ⟨S_, .f32⟩
  | .hbm, ⟨31, _⟩ => ⟨S8x8x8, .f32⟩
  | .hbm, ⟨32, _⟩ => ⟨S8x8x8x1, .f32⟩
  | .hbm, ⟨33, _⟩ => ⟨S_, .f32⟩
  | .hbm, ⟨34, _⟩ => ⟨S8x8x8x1, .f32⟩
  | .hbm, ⟨35, _⟩ => ⟨S8x8x8x1, .f32⟩
  | .hbm, ⟨36, _⟩ => ⟨S_, .f32⟩
  | .hbm, ⟨37, _⟩ => ⟨S8x8x8x1, .f32⟩
  | .hbm, ⟨38, _⟩ => ⟨S8x8x8x1, .f32⟩
  | .hbm, ⟨39, _⟩ => ⟨S8x8x8x1, .f32⟩
  | .hbm, ⟨40, _⟩ => ⟨S8x8x8x128, .f32⟩
  | .hbm, ⟨41, _⟩ => ⟨S8x8x8x128, .f32⟩
  | .hbm, ⟨42, _⟩ => ⟨S1x1x1x128, .f32⟩
  | .hbm, ⟨43, _⟩ => ⟨S8x8x8x128, .f32⟩
  | .hbm, ⟨44, _⟩ => ⟨S8x8x8x128, .f32⟩
  | .hbm, ⟨45, _⟩ => ⟨S1x8x1x64, .f32⟩
  | .hbm, ⟨46, _⟩ => ⟨S1x8x1x64, .f32⟩
  | .hbm, ⟨47, _⟩ => ⟨S8x8x8x64, .f32⟩
  | .hbm, ⟨48, _⟩ => ⟨S8x8x8x64, .f32⟩
  | .hbm, ⟨49, _⟩ => ⟨S8x8x8x64, .f32⟩
  | .hbm, ⟨50, _⟩ => ⟨S8x8x8x64, .f32⟩
  | .hbm, ⟨51, _⟩ => ⟨S8x8x8x64, .f32⟩
  | .hbm, ⟨52, _⟩ => ⟨S8x8x8x64, .f32⟩
  | .hbm, ⟨53, _⟩ => ⟨S8x8x8x64, .f32⟩
  | .hbm, ⟨54, _⟩ => ⟨S8x8x8x64, .f32⟩
  | .hbm, ⟨55, _⟩ => ⟨S8x8x8x64, .f32⟩
  | .hbm, ⟨56, _⟩ => ⟨S8x8x8x64, .f32⟩
  | .hbm, ⟨57, _⟩ => ⟨S8x8x8x64, .f32⟩
  | .hbm, ⟨58, _⟩ => ⟨S8x8x8x64, .f32⟩
  | .hbm, ⟨59, _⟩ => ⟨S8x8x8x128, .f32⟩
  | .hbm, ⟨60, _⟩ => ⟨S1x4096, .f32⟩
  | .hbm, ⟨61, _⟩ => ⟨S4096, .f32⟩
  | .hbm, ⟨62, _⟩ => ⟨S8x8x4096, .f32⟩
  | .hbm, ⟨63, _⟩ => ⟨S_, .f32⟩
  | .hbm, ⟨64, _⟩ => ⟨S8x8, .f32⟩
  | .hbm, ⟨65, _⟩ => ⟨S8x8x1, .f32⟩
  | .hbm, ⟨66, _⟩ => ⟨S_, .f32⟩
  | .hbm, ⟨67, _⟩ => ⟨S8x8x1, .f32⟩
  | .hbm, ⟨68, _⟩ => ⟨S8x8x1, .f32⟩
  | .hbm, ⟨69, _⟩ => ⟨S_, .f32⟩
  | .hbm, ⟨70, _⟩ => ⟨S8x8x1, .f32⟩
  | .hbm, ⟨71, _⟩ => ⟨S8x8x1, .f32⟩
  | .hbm, ⟨72, _⟩ => ⟨S8x8x1, .f32⟩
  | .hbm, ⟨73, _⟩ => ⟨S8x8x4096, .f32⟩
  | .hbm, ⟨74, _⟩ => ⟨S8x8x4096, .f32⟩
  | .hbm, ⟨75, _⟩ => ⟨S1x1x4096, .f32⟩
  | .hbm, ⟨76, _⟩ => ⟨S8x8x4096, .f32⟩
  | .hbm, ⟨77, _⟩ => ⟨S8x8x4096, .f32⟩
  | .hbm, ⟨78, _⟩ => ⟨S4096x4096, .f32⟩
  | .hbm, ⟨79, _⟩ => ⟨S128, .f32⟩
  | .hbm, ⟨80, _⟩ => ⟨S8x8x4096, .f32⟩
  | .hbm, ⟨81, _⟩ => ⟨S8x8x32x128, .f32⟩
  | .hbm, ⟨82, _⟩ => ⟨S8x8x32x128, .f32⟩
  | .hbm, ⟨83, _⟩ => ⟨S_, .f32⟩
  | .hbm, ⟨84, _⟩ => ⟨S8x8x32, .f32⟩
  | .hbm, ⟨85, _⟩ => ⟨S8x8x32x1, .f32⟩
  | .hbm, ⟨86, _⟩ => ⟨S_, .f32⟩
  | .hbm, ⟨87, _⟩ => ⟨S8x8x32x1, .f32⟩
  | .hbm, ⟨88, _⟩ => ⟨S8x8x32x1, .f32⟩
  | .hbm, ⟨89, _⟩ => ⟨S_, .f32⟩
  | .hbm, ⟨90, _⟩ => ⟨S8x8x32x1, .f32⟩
  | .hbm, ⟨91, _⟩ => ⟨S8x8x32x1, .f32⟩
  | .hbm, ⟨92, _⟩ => ⟨S8x8x32x1, .f32⟩
  | .hbm, ⟨93, _⟩ => ⟨S8x8x32x128, .f32⟩
  | .hbm, ⟨94, _⟩ => ⟨S8x8x32x128, .f32⟩
  | .hbm, ⟨95, _⟩ => ⟨S1x1x1x128, .f32⟩
  | .hbm, ⟨96, _⟩ => ⟨S8x8x32x128, .f32⟩
  | .hbm, ⟨97, _⟩ => ⟨S8x8x32x128, .f32⟩
  | .hbm, ⟨98, _⟩ => ⟨S1x8x1x64, .f32⟩
  | .hbm, ⟨99, _⟩ => ⟨S1x8x1x64, .f32⟩
  | .hbm, ⟨100, _⟩ => ⟨S8x8x32x64, .f32⟩
  | .hbm, ⟨101, _⟩ => ⟨S8x8x32x64, .f32⟩
  | .hbm, ⟨102, _⟩ => ⟨S8x8x32x64, .f32⟩
  | .hbm, ⟨103, _⟩ => ⟨S8x8x32x64, .f32⟩
  | .hbm, ⟨104, _⟩ => ⟨S8x8x32x64, .f32⟩
  | .hbm, ⟨105, _⟩ => ⟨S8x8x32x64, .f32⟩
  | .hbm, ⟨106, _⟩ => ⟨S8x8x32x64, .f32⟩
  | .hbm, ⟨107, _⟩ => ⟨S8x8x32x64, .f32⟩
  | .hbm, ⟨108, _⟩ => ⟨S8x8x32x64, .f32⟩
  | .hbm, ⟨109, _⟩ => ⟨S8x8x32x64, .f32⟩
  | .hbm, ⟨110, _⟩ => ⟨S8x8x32x64, .f32⟩
  | .hbm, ⟨111, _⟩ => ⟨S8x8x32x64, .f32⟩
  | .hbm, ⟨112, _⟩ => ⟨S8x8x32x128, .f32⟩
  | .hbm, ⟨113, _⟩ => ⟨S64x1024, .f32⟩
  | .hbm, ⟨114, _⟩ => ⟨S64x1024, .f32⟩
  | .hbm, ⟨115, _⟩ => ⟨S64x4096, .f32⟩
  | .hbm, ⟨116, _⟩ => ⟨S64x4096, .bf16⟩
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩

abbrev nD : Nat := 1
abbrev τ : Topo := Topo.v7x

variable {F : FTy → Type} [FloatOps F]
-- ==== PeerQuery.lean ====
abbrev S4x2048x4096 : Shape := ⟨3, ![4, 2048, 4096]⟩
abbrev S2x4096 : Shape := ⟨2, ![2, 4096]⟩
abbrev S2x4096x2048 : Shape := ⟨3, ![2, 4096, 2048]⟩
abbrev S8192x4096 : Shape := ⟨2, ![8192, 4096]⟩
abbrev S1x4096 : Shape := ⟨2, ![1, 4096]⟩
abbrev S4096 : Shape := ⟨1, ![4096]⟩
abbrev S4096x8192 : Shape := ⟨2, ![4096, 8192]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S1x4096x2048 : Shape := ⟨3, ![1, 4096, 2048]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x2048, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .bf16⟩
  | .hbm, ⟨8, _⟩ => ⟨S4096x8192, .bf16⟩
  | .hbm, ⟨9, _⟩ => ⟨S1x4096x2048, .f32⟩
  | .hbm, ⟨10, _⟩ => ⟨S4096x2048, .f32⟩
  | .hbm, ⟨11, _⟩ => ⟨S4096x2048, .bf16⟩
  | .hbm, ⟨12, _⟩ => ⟨S8192x2048, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S4096x256, .bf16⟩
  | .local _ .vmem, ⟨6, _⟩ => ⟨S4096x256, .bf16⟩
  | .local _ .vmem, ⟨7, _⟩ => ⟨S1024x4096, .bf16⟩
  | .local _ .vmem, ⟨8, _⟩ => ⟨S1024x4096, .bf16⟩
  | .local _ .vmem, ⟨9, _⟩ => ⟨S4096x1024, .bf16⟩
  | .local _ .vmem, ⟨10, _⟩ => ⟨S4096x1024, .bf16⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== PeerQueryRefIdeal.lean ====
abbrev S4x2048x4096 : Shape := ⟨3, ![4, 2048, 4096]⟩
abbrev S2x4096 : Shape := ⟨2, ![2, 4096]⟩
abbrev S2x4096x2048 : Shape := ⟨3, ![2, 4096, 2048]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩
abbrev S4096x8192 : Shape := ⟨2, ![4096, 8192]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x2048, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S8192x4096, .f32⟩
  | .hbm, ⟨22, _⟩ => ⟨S4096x8192, .f32⟩
  | .hbm, ⟨23, _⟩ => ⟨S4096x8192, .bf16⟩
  | .hbm, ⟨24, _⟩ => ⟨S1x4096x2048, .f32⟩
  | .hbm, ⟨25, _⟩ => ⟨S4096x2048, .f32⟩
  | .hbm, ⟨26, _⟩ => ⟨S8192x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== GlaSample.lean ====
abbrev S8x8x12304 : Shape := ⟨3, ![8, 8, 12304]⟩
abbrev S1x16x2048 : Shape := ⟨3, ![1, 16, 2048]⟩
abbrev S1x2048 : Shape := ⟨2, ![1, 2048]⟩
abbrev S1x4x1024 : Shape := ⟨3, ![1, 4, 1024]⟩
abbrev S8x4x512x1024 : Shape := ⟨4, ![8, 4, 512, 1024]⟩
abbrev S8x8x16 : Shape := ⟨3, ![8, 8, 16]⟩
abbrev S_ : Shape := ⟨0, ![]⟩
abbrev S8x8x128 : Shape := ⟨3, ![8, 8, 128]⟩
abbrev S16x2048 : Shape := ⟨2, ![16, 2048]⟩
abbrev S128x2048 : Shape := ⟨2, ![128, 2048]⟩
abbrev S2048 : Shape := ⟨1, ![2048]⟩
abbrev S4x1024 : Shape := ⟨2, ![4, 1024]⟩
abbrev S1x4096 : Shape := ⟨2, ![1, 4096]⟩
abbrev S8x8x12288 : Shape := ⟨3, ![8, 8, 12288]⟩
abbrev S8x8x4096 : Shape := ⟨3, ![8, 8, 4096]⟩
abbrev S1x8x512 : Shape := ⟨3, ![1, 8, 512]⟩
abbrev S1x8x1024 : Shape := ⟨3, ![1, 8, 1024]⟩
abbrev S1x8x128 : Shape := ⟨3, ![1, 8, 128]⟩
abbrev S128x512 : Shape := ⟨2, ![128, 512]⟩
abbrev S1x512 : Shape := ⟨2, ![1, 512]⟩
abbrev S1x1024 : Shape := ⟨2, ![1, 1024]⟩
abbrev S1x1x512x1024 : Shape := ⟨4, ![1, 1, 512, 1024]⟩
abbrev S1024x512 : Shape := ⟨2, ![1024, 512]⟩
abbrev S512x1024 : Shape := ⟨2, ![512, 1024]⟩
abbrev S8x128 : Shape := ⟨2, ![8, 128]⟩
abbrev S8x512 : Shape := ⟨2, ![8, 512]⟩
abbrev S8x8 : Shape := ⟨2, ![8, 8]⟩
abbrev S8x1024 : Shape := ⟨2, ![8, 1024]⟩
abbrev S8 : Shape := ⟨1, ![8]⟩
abbrev S8x1 : Shape := ⟨2, ![8, 1]⟩

abbrev nBuf : Space → Nat
  | .hbm => 21
  | .vmem => 23
  | .smem => 0
  | _ => 0

abbrev bufTy : (tb : Table) → Fin (tcTables nBuf tb) → BufTy
  | .hbm, ⟨0, _⟩ => ⟨S8x8x12304, .f32⟩
  | .hbm, ⟨1, _⟩ => ⟨S1x16x2048, .f32⟩
  | .hbm, ⟨2, _⟩ => ⟨S1x2048, .f32⟩
  | .hbm, ⟨3, _⟩ => ⟨S1x4x1024, .f32⟩
  | .hbm, ⟨4, _⟩ => ⟨S8x4x512x1024, .f32⟩
  | .hbm, ⟨5, _⟩ => ⟨S8x8x16, .f32⟩
  | .hbm, ⟨6, _⟩ => ⟨S_, .i32⟩
  | .hbm, ⟨7, _⟩ => ⟨S_, .f32⟩
  | .hbm, ⟨8, _⟩ => ⟨S8x8x128, .f32⟩
  | .hbm, ⟨9, _⟩ => ⟨S16x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S128x2048, .bf16⟩
  | .hbm, ⟨14, _⟩ => ⟨S2048, .f32⟩
  | .hbm, ⟨15, _⟩ => ⟨S1x2048, .f32⟩
  | .hbm, ⟨16, _⟩ => ⟨S4x1024, .f32⟩
  | .hbm, ⟨17, _⟩ => ⟨S1x4096, .f32⟩
  | .hbm, ⟨18, _⟩ => ⟨S8x8x12288, .f32⟩
  | .hbm, ⟨19, _⟩ => ⟨S8x8x4096, .bf16⟩
  | .hbm, ⟨20, _⟩ => ⟨S8x4x512x1024, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x128, .f32⟩
  | .local _ .vmem, ⟨9, _⟩ => ⟨S1x8x128, .f32⟩
  | .local _ .vmem, ⟨10, _⟩ => ⟨S128x512, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S1x1x512x1024, .f32⟩
  | .local _ .vmem, ⟨17, _⟩ => ⟨S1x1x512x1024, .f32⟩
  | .local _ .vmem, ⟨18, _⟩ => ⟨S1x8x1024, .bf16⟩
  | .local _ .vmem, ⟨19, _⟩ => ⟨S1x8x1024, .bf16⟩
  | .local _ .vmem, ⟨20, _⟩ => ⟨S1x1x512x1024, .f32⟩
  | .local _ .vmem, ⟨21, _⟩ => ⟨S1x1x512x1024, .f32⟩
  | .local _ .vmem, ⟨22, _⟩ => ⟨S1024x512, .f32⟩
  | _, _ => ⟨S8x8x12304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_49 : BitVec 32 := 0#32
  let v112 : BitVec 1 := Scalar.cmpi .eq arg2 c0_i32_49
  let v113 : BitVec 32 := Scalar.extui v112
  let c0_i32_50 : BitVec 32 := 0#32
  let v114 : BitVec 1 := Scalar.cmpi .ne v113 c0_i32_50
  v114

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== GlaSampleRefIdeal.lean ====
abbrev S8x8x12304 : Shape := ⟨3, ![8, 8, 12304]⟩
abbrev S1x16x2048 : Shape := ⟨3, ![1, 16, 2048]⟩
abbrev S1x2048 : Shape := ⟨2, ![1, 2048]⟩
abbrev S1x4x1024 : Shape := ⟨3, ![1, 4, 1024]⟩
abbrev S8x4x512x1024 : Shape := ⟨4, ![8, 4, 512, 1024]⟩
abbrev S8x8x2048 : Shape := ⟨3, ![8, 8, 2048]⟩
abbrev S8x8x4096 : Shape := ⟨3, ![8, 8, 4096]⟩
abbrev S8x8x16 : Shape := ⟨3, ![8, 8, 16]⟩
abbrev S16x2048 : Shape := ⟨2, ![16, 2048]⟩
abbrev S2048 : Shape := ⟨1, ![2048]⟩
abbrev S1x1x2048 : Shape := ⟨3, ![1, 1, 2048]⟩
abbrev S_ : Shape := ⟨0, ![]⟩
abbrev S8x8x4x512 : Shape := ⟨4, ![8, 8, 4, 512]⟩
abbrev S8x8x4x1024 : Shape := ⟨4, ![8, 8, 4, 1024]⟩
abbrev S8x8 : Shape := ⟨2, ![8, 8]⟩
abbrev S8x1x8x4x512 : Shape := ⟨5, ![8, 1, 8, 4, 512]⟩
abbrev S1x8x4x8x512 : Shape := ⟨5, ![1, 8, 4, 8, 512]⟩
abbrev S8x1x8x4x1024 : Shape := ⟨5, ![8, 1, 8, 4, 1024]⟩
abbrev S1x8x4x8x1024 : Shape := ⟨5, ![1, 8, 4, 8, 1024]⟩
abbrev S8x4x8x512 : Shape := ⟨4, ![8, 4, 8, 512]⟩
abbrev S8x4x8x1024 : Shape := ⟨4, ![8, 4, 8, 1024]⟩
abbrev S8x4x8x8 : Shape := ⟨4, ![8, 4, 8, 8]⟩
abbrev S8x4x1x512 : Shape := ⟨4, ![8, 4, 1, 512]⟩
abbrev S8x4x512 : Shape := ⟨3, ![8, 4, 512]⟩
abbrev S8x4x512x1 : Shape := ⟨4, ![8, 4, 512, 1]⟩
abbrev S8x8x4 : Shape := ⟨3, ![8, 8, 4]⟩
abbrev S8x8x4x1 : Shape := ⟨4, ![8, 8, 4, 1]⟩
abbrev S4x1024 : Shape := ⟨2, ![4, 1024]⟩
abbrev S1x1x4x1024 : Shape := ⟨4, ![1, 1, 4, 1024]⟩

abbrev nBuf : Space → Nat
  | .hbm => 171
  | .vmem => 0
  | .smem => 0
  | _ => 0

abbrev hbmTy0_0 (i : Nat) : BufTy := match i % 128 with
  | 0 => ⟨S8x8x12304, .f32⟩
  | 1 => ⟨S1x16x2048, .f32⟩
  | 2 => ⟨S1x2048, .f32⟩
  | 3 => ⟨S1x4x1024, .f32⟩
  | 4 => ⟨S8x4x512x1024, .f32⟩
  | 5 => ⟨S8x8x2048, .f32⟩
  | 6 => ⟨S8x8x2048, .f32⟩
  | 7 => ⟨S8x8x4096, .f32⟩
  | 8 => ⟨S8x8x4096, .f32⟩
  | 9 => ⟨S8x8x16, .f32⟩
  | 10 => ⟨S16x2048, .f32⟩
  | 11 => ⟨S8x8x2048, .f32⟩
  | 12 => ⟨S2048, .f32⟩
  | 13 => ⟨S1x1x2048, .f32⟩
  | 14 => ⟨S8x8x2048, .f32⟩
  | 15 => ⟨S8x8x2048, .f32⟩
  | 16 => ⟨S8x8x2048, .f32⟩
  | 17 => ⟨S_, .f32⟩
  | 18 => ⟨S8x8x2048, .f32⟩
  | 19 => ⟨S8x8x2048, .f32⟩
  | 20 => ⟨S8x8x2048, .f32⟩
  | 21 => ⟨S8x8x2048, .f32⟩
  | 22 => ⟨S8x8x2048, .i1⟩
  | 23 => ⟨S8x8x2048, .f32⟩
  | 24 => ⟨S8x8x2048, .f32⟩
  | 25 => ⟨S8x8x2048, .f32⟩
  | 26 => ⟨S8x8x2048, .f32⟩
  | 27 => ⟨S8x8x2048, .f32⟩
  | 28 => ⟨S8x8x2048, .f32⟩
  | 29 => ⟨S8x8x2048, .f32⟩
  | 30 => ⟨S8x8x2048, .f32⟩
  | 31 => ⟨S8x8x2048, .f32⟩
  | 32 => ⟨S_, .f32⟩
  | 33 => ⟨S8x8x2048, .f32⟩
  | 34 => ⟨S8x8x2048, .f32⟩
  | 35 => ⟨S8x8x4x512, .f32⟩
  | 36 => ⟨S_, .f32⟩
  | 37 => ⟨S8x8x4x512, .f32⟩
  | 38 => ⟨S8x8x4x512, .f32⟩
  | 39 => ⟨S8x8x4x512, .f32⟩
  | 40 => ⟨S8x8x4x1024, .f32⟩
  | 41 => ⟨S8x8x4x512, .f32⟩
  | 42 => ⟨S_, .i1⟩
  | 43 => ⟨S8x8, .i1⟩
  | 44 => ⟨S8x8, .i32⟩
  | 45 => ⟨S_, .i32⟩
  | 46 => ⟨S8x8, .i32⟩
  | 47 => ⟨S8x8, .i32⟩
  | 48 => ⟨S8x8, .i32⟩
  | 49 => ⟨S8x8, .i1⟩
  | 50 => ⟨S_, .i1⟩
  | 51 => ⟨S8x8, .i1⟩
  | 52 => ⟨S8x8, .i1⟩
  | 53 => ⟨S8x1x8x4x512, .f32⟩
  | 54 => ⟨S1x8x4x8x512, .f32⟩
  | 55 => ⟨S8x1x8x4x512, .f32⟩
  | 56 => ⟨S1x8x4x8x512, .f32⟩
  | 57 => ⟨S8x1x8x4x1024, .f32⟩
  | 58 => ⟨S1x8x4x8x1024, .f32⟩
  | 59 => ⟨S8x1x8x4x512, .f32⟩
  | 60 => ⟨S1x8x4x8x512, .f32⟩
  | 61 => ⟨S_, .f32⟩
  | 62 => ⟨S1x8x4x8x1024, .f32⟩
  | 63 => ⟨S_, .i32⟩
  | 64 => ⟨S1x8x4x8x512, .f32⟩
  | 65 => ⟨S1x8x4x8x512, .f32⟩
  | 66 => ⟨S1x8x4x8x1024, .f32⟩
  | 67 => ⟨S1x8x4x8x512, .f32⟩
  | 68 => ⟨S8x8, .i1⟩
  | 69 => ⟨S_, .i32⟩
  | 70 => ⟨S8x4x512x1024, .f32⟩
  | 71 => ⟨S1x8x4x8x1024, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1x8x4x8x512, .f32⟩
  | 79 => ⟨S8x4x8x512, .f32⟩
  | 80 => ⟨S_, .i32⟩
  | 81 => ⟨S_, .i32⟩
  | 82 => ⟨S_, .i32⟩
  | 83 => ⟨S_, .i32⟩
  | 84 => ⟨S1x8x4x8x512, .f32⟩
  | 85 => ⟨S8x4x8x512, .f32⟩
  | 86 => ⟨S_, .i32⟩
  | 87 => ⟨S_, .i32⟩
  | 88 => ⟨S_, .i32⟩
  | 89 => ⟨S_, .i32⟩
  | 90 => ⟨S1x8x4x8x1024, .f32⟩
  | 91 => ⟨S8x4x8x1024, .f32⟩
  | 92 => ⟨S_, .i32⟩
  | 93 => ⟨S_, .i32⟩
  | 94 => ⟨S_, .i32⟩
  | 95 => ⟨S_, .i32⟩
  | 96 => ⟨S1x8x4x8x512, .f32⟩
  | 97 => ⟨S8x4x8x512, .f32⟩
  | 98 => ⟨S_, .f32⟩
  | 99 => ⟨S_, .f32⟩
  | 100 => ⟨S8x4x8x512, .f32⟩
  | 101 => ⟨S8x4x8x512, .f32⟩
  | 102 => ⟨S8x4x8x512, .f32⟩
  | 103 => ⟨S8x4x8x512, .f32⟩
  | 104 => ⟨S8x4x8x512, .f32⟩
  | 105 => ⟨S8x4x8x512, .f32⟩
  | 106 => ⟨S8x4x8x8, .f32⟩
  | 107 => ⟨S_, .f32⟩
  | 108 => ⟨S_, .f32⟩
  | 109 => ⟨S8x4x8x8, .i1⟩
  | 110 => ⟨S8x4x8x8, .f32⟩
  | 111 => ⟨S8x4x8x8, .f32⟩
  | 112 => ⟨S8x4x8x1024, .f32⟩
  | 113 => ⟨S8x4x8x1024, .f32⟩
  | 114 => ⟨S8x4x8x1024, .f32⟩
  | 115 => ⟨S8x4x1x512, .f32⟩
  | 116 => ⟨S8x4x512, .f32⟩
  | 117 => ⟨S8x4x512x1, .f32⟩
  | 118 => ⟨S8x4x512x1, .f32⟩
  | 119 => ⟨S8x4x512x1024, .f32⟩
  | 120 => ⟨S8x4x512x1024, .f32⟩
  | 121 => ⟨S8x4x8x512, .f32⟩
  | 122 => ⟨S8x4x8x512, .f32⟩
  | 123 => ⟨S8x4x8x512, .f32⟩
  | 124 => ⟨S8x4x8x512, .f32⟩
  | 125 => ⟨S8x4x512x1024, .f32⟩
  | 126 => ⟨S8x4x512x1024, .f32⟩
  | 127 => ⟨S1x8x4x8x1024, .f32⟩
  | _ => ⟨S8x8x12304, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x8x4x8x1024, .f32⟩
  | 5 => ⟨S_, .i32⟩
  | 6 => ⟨S_, .i32⟩
  | 7 => ⟨S8x1x8x4x1024, .f32⟩
  | 8 => ⟨S8x8x4x1024, .f32⟩
  | 9 => ⟨S8x8x4x1024, .f32⟩
  | 10 => ⟨S_, .f32⟩
  | 11 => ⟨S8x8x4, .f32⟩
  | 12 => ⟨S8x8x4x1, .f32⟩
  | 13 => ⟨S_, .f32⟩
  | 14 => ⟨S8x8x4x1, .f32⟩
  | 15 => ⟨S8x8x4x1, .f32⟩
  | 16 => ⟨S_, .f32⟩
  | 17 => ⟨S8x8x4x1, .f32⟩
  | 18 => ⟨S8x8x4x1, .f32⟩
  | 19 => ⟨S8x8x4x1, .f32⟩
  | 20 => ⟨S8x8x4x1024, .f32⟩
  | 21 => ⟨S8x8x4x1024, .f32⟩
  | 22 => ⟨S4x1024, .f32⟩
  | 23 => ⟨S1x1x4x1024, .f32⟩
  | 24 => ⟨S8x8x4x1024, .f32⟩
  | 25 => ⟨S8x8x4x1024, .f32⟩
  | 26 => ⟨S8x8x2048, .f32⟩
  | 27 => ⟨S8x8x2048, .f32⟩
  | 28 => ⟨S8x8x4096, .f32⟩
  | 29 => ⟨S8x8x4096, .f32⟩
  | 30 => ⟨S8x8x16, .f32⟩
  | 31 => ⟨S8x8x4096, .f32⟩
  | 32 => ⟨S8x8x4096, .f32⟩
  | 33 => ⟨S8x8x4096, .f32⟩
  | 34 => ⟨S_, .f32⟩
  | 35 => ⟨S8x8x4096, .f32⟩
  | 36 => ⟨S8x8x4096, .f32⟩
  | 37 => ⟨S_, .f32⟩
  | 38 => ⟨S8x8x4096, .f32⟩
  | 39 => ⟨S8x8x4096, .f32⟩
  | 40 => ⟨S8x8x4096, .f32⟩
  | 41 => ⟨S8x8x4096, .f32⟩
  | 42 => ⟨S8x8x4096, .bf16⟩
  | _ => ⟨S8x8x12304, .f32⟩

abbrev hbmTy (i : Nat) : BufTy := match i / 128 with
  | 0 => hbmTy0_0 i
  | 1 => hbmTy0_1 i
  | _ => ⟨S8x8x12304, .f32⟩

abbrev bufTy : (tb : Table) → Fin (tcTables nBuf tb) → BufTy
  | .hbm, ⟨i, _⟩ => hbmTy i
  | _, _ => ⟨S8x8x12304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_c_3 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_v45_3 : Ref sig .tc := ⟨.hbm, 67, rfl⟩
abbrev main_v45_4 : Ref sig .tc := ⟨.hbm, 68, rfl⟩
abbrev main_v45_5 : Ref sig .tc := ⟨.hbm, 69, rfl⟩
abbrev main_v45_6 : Ref sig .tc := ⟨.hbm, 70, rfl⟩
abbrev main_v45_7 : Ref sig .tc := ⟨.hbm, 71, rfl⟩
abbrev main_while0c_c_14 : Ref sig .tc := ⟨.hbm, 72, rfl⟩
abbrev main_while0c_v71 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_call1_c_2 : Ref sig .tc := ⟨.hbm, 77, rfl⟩
abbrev main_while0b_call1_v0 : Ref sig .tc := ⟨.hbm, 78, rfl⟩
abbrev main_while0b_v71 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v0 : Ref sig .tc := ⟨.hbm, 84, rfl⟩
abbrev main_while0b_v72 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v73 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_c_2 : Ref sig .tc := ⟨.hbm, 95, rfl⟩
abbrev main_while0b_call4_v0 : Ref sig .tc := ⟨.hbm, 96, rfl⟩
abbrev main_while0b_v74 : Ref sig .tc := ⟨.hbm, 97, rfl⟩
abbrev main_while0b_call5_call0_cst : Ref sig .tc := ⟨.hbm, 98, rfl⟩
abbrev main_while0b_call5_call0_v0 : Ref sig .tc := ⟨.hbm, 99, rfl⟩
abbrev main_while0b_v75 : Ref sig .tc := ⟨.hbm, 100, rfl⟩
abbrev main_while0b_v76 : Ref sig .tc := ⟨.hbm, 101, rfl⟩
abbrev main_while0b_v77 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_cst_14 : Ref sig .tc := ⟨.hbm, 107, rfl⟩
abbrev main_while0b_call6_v0 : Ref sig .tc := ⟨.hbm, 108, rfl⟩
abbrev main_while0b_call6_v1 : Ref sig .tc := ⟨.hbm, 109, rfl⟩
abbrev main_while0b_call6_v2 : Ref sig .tc := ⟨.hbm, 110, rfl⟩
abbrev main_while0b_v82 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_v92 : Ref sig .tc := ⟨.hbm, 121, rfl⟩
abbrev main_while0b_v93 : Ref sig .tc := ⟨.hbm, 122, rfl⟩
abbrev main_while0b_v94 : Ref sig .tc := ⟨.hbm, 123, rfl⟩
abbrev main_while0b_v95 : Ref sig .tc := ⟨.hbm, 124, rfl⟩
abbrev main_while0b_v96 : Ref sig .tc := ⟨.hbm, 125, rfl⟩
abbrev main_while0b_v97 : Ref sig .tc := ⟨.hbm, 126, rfl⟩
abbrev main_while0b_call7_v0 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_c_2 : Ref sig .tc := ⟨.hbm, 131, rfl⟩
abbrev main_while0b_v98 : Ref sig .tc := ⟨.hbm, 132, rfl⟩
abbrev main_while0b_c_15 : Ref sig .tc := ⟨.hbm, 133, rfl⟩
abbrev main_while0b_v99 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_cst_4 : Ref sig .tc := ⟨.hbm, 138, rfl⟩
abbrev main_v49 : Ref sig .tc := ⟨.hbm, 139, rfl⟩
abbrev main_v50 : Ref sig .tc := ⟨.hbm, 140, rfl⟩
abbrev main_cst_5 : Ref sig .tc := ⟨.hbm, 141, rfl⟩
abbrev main_v51 : Ref sig .tc := ⟨.hbm, 142, rfl⟩
abbrev main_v52 : Ref sig .tc := ⟨.hbm, 143, rfl⟩
abbrev main_cst_6 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_call8_v0 : Ref sig .tc := ⟨.hbm, 160, rfl⟩
abbrev main_call8_v1 : Ref sig .tc := ⟨.hbm, 161, rfl⟩
abbrev main_call8_cst : Ref sig .tc := ⟨.hbm, 162, rfl⟩
abbrev main_call8_v2 : Ref sig .tc := ⟨.hbm, 163, rfl⟩
abbrev main_call8_v3 : Ref sig .tc := ⟨.hbm, 164, rfl⟩
abbrev main_call8_cst_0 : Ref sig .tc := ⟨.hbm, 165, rfl⟩
abbrev main_call8_v4 : Ref sig .tc := ⟨.hbm, 166, rfl⟩
abbrev main_call8_v5 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩

abbrev nD : Nat := 1
abbrev τ : Topo := Topo.v7x

variable {F : FTy → Type} [FloatOps F]

abbrev main_while0_count : Scf.Loop 32 := ⟨0#32, 1#32, 1#32⟩
-- ==== BlockMeans.lean ====
abbrev S1280x128x8x128 : Shape := ⟨4, ![1280, 128, 8, 128]⟩
abbrev S8x128 : Shape := ⟨2, ![8, 128]⟩
abbrev S8x64x8x128 : Shape := ⟨4, ![8, 64, 8, 128]⟩
abbrev S1x128x8x128 : Shape := ⟨4, ![1, 128, 8, 128]⟩
abbrev S1x1 : Shape := ⟨2, ![1, 1]⟩
abbrev S1x2x8x128 : Shape := ⟨4, ![1, 2, 8, 128]⟩
abbrev S128x8x128 : Shape := ⟨3, ![128, 8, 128]⟩
abbrev S1x1x8x128 : Shape := ⟨4, ![1, 1, 8, 128]⟩

abbrev nBuf : Space → Nat
  | .hbm => 2
  | .vmem => 10
  | .smem => 1
  | _ => 0

abbrev bufTy : (tb : Table) → Fin (tcTables nBuf tb) → BufTy
  | .hbm, ⟨0, _⟩ => ⟨S1280x128x8x128, .f32⟩
  | .hbm, ⟨1, _⟩ => ⟨S8x64x8x128, .f32⟩
  | .local _ .vmem, ⟨0, _⟩ => ⟨S1x128x8x128, .f32⟩
  | .local _ .vmem, ⟨1, _⟩ => ⟨S1x128x8x128, .f32⟩
  | .local _ .vmem, ⟨2, _⟩ => ⟨S1x128x8x128, .f32⟩
  | .local _ .vmem, ⟨3, _⟩ => ⟨S1x128x8x128, .f32⟩
  | .local _ .vmem, ⟨4, _⟩ => ⟨S1x128x8x128, .f32⟩
  | .local _ .vmem, ⟨5, _⟩ => ⟨S1x128x8x128, .f32⟩
  | .local _ .vmem, ⟨6, _⟩ => ⟨S1x128x8x128, .f32⟩
  | .local _ .vmem, ⟨7, _⟩ => ⟨S1x128x8x128, .f32⟩
  | .local _ .vmem, ⟨8, _⟩ => ⟨S1x2x8x128, .f32⟩
  | .local _ .vmem, ⟨9, _⟩ => ⟨S1x2x8x128, .f32⟩
  | .local _ .smem, ⟨0, _⟩ => ⟨S8x128, .i32⟩
  | _, _ => ⟨S1280x128x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c4_i32 : BitVec 32 := 4#32
  let v0 : BitVec 32 := Scalar.muli arg1 c4_i32
  let v1 : BitVec 32 := Scalar.addi v0 c0_i32
  let v3 : Index := Scalar.indexCast v1
  ![v2.toNat, v3.toNat]
def cc0_transform_0 (k0_off1_inb : ∀ i : grid0.Coords, ∀ (r : Fin 4), ∀ a, (k0_off1 i (BitVec.ofNat 32 r.val)) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S8x128) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_1 (k0_off1_inb : ∀ i : grid0.Coords, ∀ (r : Fin 4), ∀ a, (k0_off1 i (BitVec.ofNat 32 r.val)) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S8x128) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_2 (k0_off1_inb : ∀ i : grid0.Coords, ∀ (r : Fin 4), ∀ a, (k0_off1 i (BitVec.ofNat 32 r.val)) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S8x128) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_3 (k0_off1_inb : ∀ i : grid0.Coords, ∀ (r : Fin 4), ∀ a, (k0_off1 i (BitVec.ofNat 32 r.val)) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S8x128) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BlockMeansRefIdeal.lean ====
abbrev S1280x128x8x128 : Shape := ⟨4, ![1280, 128, 8, 128]⟩
abbrev S8x128 : Shape := ⟨2, ![8, 128]⟩
abbrev S_ : Shape := ⟨0, ![]⟩
abbrev S8x128x1 : Shape := ⟨3, ![8, 128, 1]⟩
abbrev S8x128x128x8x128 : Shape := ⟨5, ![8, 128, 128, 8, 128]⟩
abbrev S8x64x256x8x128 : Shape := ⟨5, ![8, 64, 256, 8, 128]⟩
abbrev S8x64x8x128 : Shape := ⟨4, ![8, 64, 8, 128]⟩

abbrev nBuf : Space → Nat
  | .hbm => 17
  | .vmem => 0
  | .smem => 0
  | _ => 0

abbrev bufTy : (tb : Table) → Fin (tcTables nBuf tb) → BufTy
  | .hbm, ⟨0, _⟩ => ⟨S1280x128x8x128, .f32⟩
  | .hbm, ⟨1, _⟩ => ⟨S8x128, .i32⟩
  | .hbm, ⟨2, _⟩ => ⟨S_, .i32⟩
  | .hbm, ⟨3, _⟩ => ⟨S8x128, .i32⟩
  | .hbm, ⟨4, _⟩ => ⟨S8x128, .i1⟩
  | .hbm, ⟨5, _⟩ => ⟨S_, .i32⟩
  | .hbm, ⟨6, _⟩ => ⟨S8x128, .i32⟩
  | .hbm, ⟨7, _⟩ => ⟨S8x128, .i32⟩
  | .hbm, ⟨8, _⟩ => ⟨S8x128, .i32⟩
  | .hbm, ⟨9, _⟩ => ⟨S8x128x1, .i32⟩
  | .hbm, ⟨10, _⟩ => ⟨S8x128x128x8x128, .f32⟩
  | .hbm, ⟨11, _⟩ => ⟨S8x64x256x8x128, .f32⟩
  | .hbm, ⟨12, _⟩ => ⟨S_, .f32⟩
  | .hbm, ⟨13, _⟩ => ⟨S8x64x8x128, .f32⟩
  | .hbm, ⟨14, _⟩ => ⟨S_, .f32⟩
  | .hbm, ⟨15, _⟩ => ⟨S8x64x8x128, .f32⟩
  | .hbm, ⟨16, _⟩ => ⟨S8x64x8x128, .f32⟩
  | _, _ => ⟨S1280x128x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== MixSample.lean ====
abbrev S8x8x4096 : Shape := ⟨3, ![8, 8, 4096]⟩
abbrev S2x4096 : Shape := ⟨2, ![2, 4096]⟩
abbrev S1x4096x12304 : Shape := ⟨3, ![1, 4096, 12304]⟩
abbrev S1x16x2048 : Shape := ⟨3, ![1, 16, 2048]⟩
abbrev S1x2048 : Shape := ⟨2, ![1, 2048]⟩
abbrev S1x4x1024 : Shape := ⟨3, ![1, 4, 1024]⟩
abbrev S1x8x4x512x1024 : Shape := ⟨5, ![1, 8, 4, 512, 1024]⟩
abbrev S4096x12304 : Shape := ⟨2, ![4096, 12304]⟩
abbrev S4096x12288 : Shape := ⟨2, ![4096, 12288]⟩
abbrev S4096x16 : Shape := ⟨2, ![4096, 16]⟩
abbrev S_ : Shape := ⟨0, ![]⟩
abbrev S4096x128 : Shape := ⟨2, ![4096, 128]⟩
abbrev S16x2048 : Shape := ⟨2, ![16, 2048]⟩
abbrev S128x2048 : Shape := ⟨2, ![128, 2048]⟩
abbrev S2048 : Shape := ⟨1, ![2048]⟩
abbrev S4x1024 : Shape := ⟨2, ![4, 1024]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩
abbrev S64x12288 : Shape := ⟨2, ![64, 12288]⟩
abbrev S4096x1024 : Shape := ⟨2, ![4096, 1024]⟩
abbrev S64x1024 : Shape := ⟨2, ![64, 1024]⟩
abbrev S64x128 : Shape := ⟨2, ![64, 128]⟩
abbrev S8x8x12288 : Shape := ⟨3, ![8, 8, 12288]⟩
abbrev S8x8x128 : Shape := ⟨3, ![8, 8, 128]⟩
abbrev S8x4x512x1024 : Shape := ⟨4, ![8, 4, 512, 1024]⟩
abbrev S1x8x512 : Shape := ⟨3, ![1, 8, 512]⟩
abbrev S1x8x1024 : Shape := ⟨3, ![1, 8, 1024]⟩
abbrev S1x8x128 : Shape := ⟨3, ![1, 8, 128]⟩
abbrev S128x512 : Shape := ⟨2, ![128, 512]⟩
abbrev S1x512 : Shape := ⟨2, ![1, 512]⟩
abbrev S1x1024 : Shape := ⟨2, ![1, 1024]⟩
abbrev S1x1x512x1024 : Shape := ⟨4, ![1, 1, 512, 1024]⟩
abbrev S1024x512 : Shape := ⟨2, ![1024, 512]⟩
abbrev S512x1024 : Shape := ⟨2, ![512, 1024]⟩
abbrev S8x128 : Shape := ⟨2, ![8, 128]⟩
abbrev S8x512 : Shape := ⟨2, ![8, 512]⟩
abbrev S8x8 : Shape := ⟨2, ![8, 8]⟩
abbrev S8x1024 : Shape := ⟨2, ![8, 1024]⟩
abbrev S8 : Shape := ⟨1, ![8]⟩
abbrev S8x1 : Shape := ⟨2, ![8, 1]⟩

abbrev nBuf : Space → Nat
  | .hbm => 35
  | .vmem => 34
  | .smem => 0
  | _ => 0

abbrev bufTy : (tb : Table) → Fin (tcTables nBuf tb) → BufTy
  | .hbm, ⟨0, _⟩ => ⟨S8x8x4096, .f32⟩
  | .hbm, ⟨1, _⟩ => ⟨S2x4096, .f32⟩
  | .hbm, ⟨2, _⟩ => ⟨S1x4096x12304, .f32⟩
  | .hbm, ⟨3, _⟩ => ⟨S1x16x2048, .f32⟩
  | .hbm, ⟨4, _⟩ => ⟨S1x2048, .f32⟩
  | .hbm, ⟨5, _⟩ => ⟨S1x4x1024, .f32⟩
  | .hbm, ⟨6, _⟩ => ⟨S1x8x4x512x1024, .f32⟩
  | .hbm, ⟨7, _⟩ => ⟨S4096x12304, .f32⟩
  | .hbm, ⟨8, _⟩ => ⟨S4096x12288, .f32⟩
  | .hbm, ⟨9, _⟩ => ⟨S4096x12288, .bf16⟩
  | .hbm, ⟨10, _⟩ => ⟨S4096x12304, .f32⟩
  | .hbm, ⟨11, _⟩ => ⟨S4096x16, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128, .bf16⟩
  | .hbm, ⟨16, _⟩ => ⟨S16x2048, .f32⟩
  | .hbm, ⟨17, _⟩ => ⟨S_, .i32⟩
  | .hbm, ⟨18, _⟩ => ⟨S_, .f32⟩
  | .hbm, ⟨19, _⟩ => ⟨S128x2048, .f32⟩
  | .hbm, ⟨20, _⟩ => ⟨S128x2048, .bf16⟩
  | .hbm, ⟨21, _⟩ => ⟨S2048, .f32⟩
  | .hbm, ⟨22, _⟩ => ⟨S1x2048, .f32⟩
  | .hbm, ⟨23, _⟩ => ⟨S4x1024, .f32⟩
  | .hbm, ⟨24, _⟩ => ⟨S1x4096, .f32⟩
  | .hbm, ⟨25, _⟩ => ⟨S64x4096, .f32⟩
  | .hbm, ⟨26, _⟩ => ⟨S1x4096, .f32⟩
  | .hbm, ⟨27, _⟩ => ⟨S64x4096, .bf16⟩
  | .hbm, ⟨28, _⟩ => ⟨S64x12288, .f32⟩
  | .hbm, ⟨29, _⟩ => ⟨S64x128, .f32⟩
  | .hbm, ⟨30, _⟩ => ⟨S8x8x12288, .f32⟩
  | .hbm, ⟨31, _⟩ => ⟨S8x8x128, .f32⟩
  | .hbm, ⟨32, _⟩ => ⟨S8x4x512x1024, .f32⟩
  | .hbm, ⟨33, _⟩ => ⟨S8x8x4096, .bf16⟩
  | .hbm, ⟨34, _⟩ => ⟨S8x4x512x1024, .f32⟩
  | .local _ .vmem, ⟨0, _⟩ => ⟨S64x4096, .f32⟩
  | .local _ .vmem, ⟨1, _⟩ => ⟨S1x4096, .f32⟩
  | .local _ .vmem, ⟨2, _⟩ => ⟨S64x4096, .bf16⟩
  | .local _ .vmem, ⟨3, _⟩ => ⟨S64x4096, .bf16⟩
  | .local _ .vmem, ⟨4, _⟩ => ⟨S4096x1024, .bf16⟩
  | .local _ .vmem, ⟨5, _⟩ => ⟨S4096x1024, .bf16⟩
  | .local _ .vmem, ⟨6, _⟩ => ⟨S64x1024, .f32⟩
  | .local _ .vmem, ⟨7, _⟩ => ⟨S64x1024, .f32⟩
  | .local _ .vmem, ⟨8, _⟩ => ⟨S64x4096, .bf16⟩
  | .local _ .vmem, ⟨9, _⟩ => ⟨S4096x128, .bf16⟩
  | .local _ .vmem, ⟨10, _⟩ => ⟨S64x128, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S1x8x128, .f32⟩
  | .local _ .vmem, ⟨20, _⟩ => ⟨S1x8x128, .f32⟩
  | .local _ .vmem, ⟨21, _⟩ => ⟨S128x512, .bf16⟩
  | .local _ .vmem, ⟨22, _⟩ => ⟨S128x512, .bf16⟩
  | .local _ .vmem, ⟨23, _⟩ => ⟨S1x512, .f32⟩
  | .local _ .vmem, ⟨24, _⟩ => ⟨S1x512, .f32⟩
  | .local _ .vmem, ⟨25, _⟩ => ⟨S1x1024, .f32⟩
  | .local _ .vmem, ⟨26, _⟩ => ⟨S1x1024, .f32⟩
  | .local _ .vmem, ⟨27, _⟩ => ⟨S1x1x512x1024, .f32⟩
  | .local _ .vmem, ⟨28, _⟩ => ⟨S1x1x512x1024, .f32⟩
  | .local _ .vmem, ⟨29, _⟩ => ⟨S1x8x1024, .bf16⟩
  | .local _ .vmem, ⟨30, _⟩ => ⟨S1x8x1024, .bf16⟩
  | .local _ .vmem, ⟨31, _⟩ => ⟨S1x1x512x1024, .f32⟩
  | .local _ .vmem, ⟨32, _⟩ => ⟨S1x1x512x1024, .f32⟩
  | .local _ .vmem, ⟨33, _⟩ => ⟨S1024x512, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc3_stg4_0 : Ref sig .tc := ⟨.vmem, 19, rfl⟩
abbrev cc3_stg4_1 : Ref sig .tc := ⟨.vmem, 20, rfl⟩
abbrev cc3_stg5_0 : Ref sig .tc := ⟨.vmem, 21, rfl⟩
abbrev cc3_stg5_1 : Ref sig .tc := ⟨.vmem, 22, rfl⟩
abbrev cc3_stg6_0 : Ref sig .tc := ⟨.vmem, 23, rfl⟩
abbrev cc3_stg6_1 : Ref sig .tc := ⟨.vmem, 24, rfl⟩
abbrev cc3_stg7_0 : Ref sig .tc := ⟨.vmem, 25, rfl⟩
abbrev cc3_stg7_1 : Ref sig .tc := ⟨.vmem, 26, rfl⟩
abbrev cc3_stg8_0 : Ref sig .tc := ⟨.vmem, 27, rfl⟩
abbrev cc3_stg8_1 : Ref sig .tc := ⟨.vmem, 28, rfl⟩
abbrev cc3_stg9_0 : Ref sig .tc := ⟨.vmem, 29, rfl⟩
abbrev cc3_stg9_1 : Ref sig .tc := ⟨.vmem, 30, rfl⟩
abbrev cc3_stg10_0 : Ref sig .tc := ⟨.vmem, 31, rfl⟩
abbrev cc3_stg10_1 : Ref sig .tc := ⟨.vmem, 32, rfl⟩
abbrev cc3_scratch0 : Ref sig .tc := ⟨.vmem, 33, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem0_1 : DmaSem sig := 12
abbrev cc3_sem1_0 : DmaSem sig := 13
abbrev cc3_sem1_1 : DmaSem sig := 14
abbrev cc3_sem2_0 : DmaSem sig := 15
abbrev cc3_sem2_1 : DmaSem sig := 16
abbrev cc3_sem3_0 : DmaSem sig := 17
abbrev cc3_sem3_1 : DmaSem sig := 18
abbrev cc3_sem4_0 : DmaSem sig := 19
abbrev cc3_sem4_1 : DmaSem sig := 20
abbrev cc3_sem5_0 : DmaSem sig := 21
abbrev cc3_sem5_1 : DmaSem sig := 22
abbrev cc3_sem6_0 : DmaSem sig := 23
abbrev cc3_sem6_1 : DmaSem sig := 24
abbrev cc3_sem7_0 : DmaSem sig := 25
abbrev cc3_sem7_1 : DmaSem sig := 26
abbrev cc3_sem8_0 : DmaSem sig := 27
abbrev cc3_sem8_1 : DmaSem sig := 28
abbrev cc3_sem9_0 : DmaSem sig := 29
abbrev cc3_sem9_1 : DmaSem sig := 30
abbrev cc3_sem10_0 : DmaSem sig := 31
abbrev cc3_sem10_1 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![12, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S64x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S64x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev grid3 : Pipeline.Grid := ⟨3, ![8, 4, 1], ![false, false, false]⟩

def k3_cond2 (i : grid3.Coords) : BitVec 1 :=
  let arg2 : BitVec 32 := BitVec.ofNat 32 (i 2).val
  let c0_i32_49 : BitVec 32 := 0#32
  let v112 : BitVec 1 := Scalar.cmpi .eq arg2 c0_i32_49
  let v113 : BitVec 32 := Scalar.extui v112
  let c0_i32_50 : BitVec 32 := 0#32
  let v114 : BitVec 1 := Scalar.cmpi .ne v113 c0_i32_50
  v114

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_8 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_10 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x8x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x8x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x8x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x8x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x8x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false, true]

abbrev stage3_5 : Fin 2 → Memref sig .tc .vmem S128x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true, false]

abbrev stage3_6 : Fin 2 → Memref sig .tc .vmem S1x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true, false]

abbrev stage3_7 : Fin 2 → Memref sig .tc .vmem S1x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![false, true, false]

abbrev stage3_8 : Fin 2 → Memref sig .tc .vmem S1x1x512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, false]

abbrev stage3_9 : Fin 2 → Memref sig .tc .vmem S1x8x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true, true]

abbrev stage3_10 : Fin 2 → Memref sig .tc .vmem S1x1x512x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true, false]
-- ==== MixSampleRefIdeal.lean ====
abbrev S8x8x4096 : Shape := ⟨3, ![8, 8, 4096]⟩
abbrev S2x4096 : Shape := ⟨2, ![2, 4096]⟩
abbrev S1x4096x12304 : Shape := ⟨3, ![1, 4096, 12304]⟩
abbrev S1x16x2048 : Shape := ⟨3, ![1, 16, 2048]⟩
abbrev S1x2048 : Shape := ⟨2, ![1, 2048]⟩
abbrev S1x4x1024 : Shape := ⟨3, ![1, 4, 1024]⟩
abbrev S1x8x4x512x1024 : Shape := ⟨5, ![1, 8, 4, 512, 1024]⟩
abbrev S1x4096 : Shape := ⟨2, ![1, 4096]⟩
abbrev S4096 : Shape := ⟨1, ![4096]⟩
abbrev S_ : Shape := ⟨0, ![]⟩
abbrev S8x8 : Shape := ⟨2, ![8, 8]⟩
abbrev S8x8x1 : Shape := ⟨3, ![8, 8, 1]⟩
abbrev S1x1x4096 : Shape := ⟨3, ![1, 1, 4096]⟩
abbrev S4096x12304 : Shape := ⟨2, ![4096, 12304]⟩
abbrev S8x8x12304 : Shape := ⟨3, ![8, 8, 12304]⟩
abbrev S8x4x512x1024 : Shape := ⟨4, ![8, 4, 512, 1024]⟩
abbrev S8x8x2048 : Shape := ⟨3, ![8, 8, 2048]⟩
abbrev S8x8x16 : Shape := ⟨3, ![8, 8, 16]⟩
abbrev S16x2048 : Shape := ⟨2, ![16, 2048]⟩
abbrev S2048 : Shape := ⟨1, ![2048]⟩
abbrev S1x1x2048 : Shape := ⟨3, ![1, 1, 2048]⟩
abbrev S8x8x4x512 : Shape := ⟨4, ![8, 8, 4, 512]⟩
abbrev S8x8x4x1024 : Shape := ⟨4, ![8, 8, 4, 1024]⟩
abbrev S8x1x8x4x512 : Shape := ⟨5, ![8, 1, 8, 4, 512]⟩
abbrev S1x8x4x8x512 : Shape := ⟨5, ![1, 8, 4, 8, 512]⟩
abbrev S8x1x8x4x1024 : Shape := ⟨5, ![8, 1, 8, 4, 1024]⟩
abbrev S1x8x4x8x1024 : Shape := ⟨5, ![1, 8, 4, 8, 1024]⟩
abbrev S8x4x8x512 : Shape := ⟨4, ![8, 4, 8, 512]⟩
abbrev S8x4x8x1024 : Shape := ⟨4, ![8, 4, 8, 1024]⟩
abbrev S8x4x8x8 : Shape := ⟨4, ![8, 4, 8, 8]⟩
abbrev S8x4x1x512 : Shape := ⟨4, ![8, 4, 1, 512]⟩
abbrev S8x4x512 : Shape := ⟨3, ![8, 4, 512]⟩
abbrev S8x4x512x1 : Shape := ⟨4, ![8, 4, 512, 1]⟩
abbrev S8x8x4 : Shape := ⟨3, ![8, 8, 4]⟩
abbrev S8x8x4x1 : Shape := ⟨4, ![8, 8, 4, 1]⟩
abbrev S4x1024 : Shape := ⟨2, ![4, 1024]⟩
abbrev S1x1x4x1024 : Shape := ⟨4, ![1, 1, 4, 1024]⟩

abbrev nBuf : Space → Nat
  | .hbm => 194
  | .vmem => 0
  | .smem => 0
  | _ => 0

abbrev hbmTy0_0 (i : Nat) : BufTy := match i % 128 with
  | 0 => ⟨S8x8x4096, .f32⟩
  | 1 => ⟨S2x4096, .f32⟩
  | 2 => ⟨S1x4096x12304, .f32⟩
  | 3 => ⟨S1x16x2048, .f32⟩
  | 4 => ⟨S1x2048, .f32⟩
  | 5 => ⟨S1x4x1024, .f32⟩
  | 6 => ⟨S1x8x4x512x1024, .f32⟩
  | 7 => ⟨S1x4096, .f32⟩
  | 8 => ⟨S4096, .f32⟩
  | 9 => ⟨S8x8x4096, .f32⟩
  | 10 => ⟨S_, .f32⟩
  | 11 => ⟨S8x8, .f32⟩
  | 12 => ⟨S8x8x1, .f32⟩
  | 13 => ⟨S_, .f32⟩
  | 14 => ⟨S8x8x1, .f32⟩
  | 15 => ⟨S8x8x1, .f32⟩
  | 16 => ⟨S_, .f32⟩
  | 17 => ⟨S8x8x1, .f32⟩
  | 18 => ⟨S8x8x1, .f32⟩
  | 19 => ⟨S8x8x1, .f32⟩
  | 20 => ⟨S8x8x4096, .f32⟩
  | 21 => ⟨S8x8x4096, .f32⟩
  | 22 => ⟨S1x1x4096, .f32⟩
  | 23 => ⟨S8x8x4096, .f32⟩
  | 24 => ⟨S8x8x4096, .f32⟩
  | 25 => ⟨S4096x12304, .f32⟩
  | 26 => ⟨S8x8x12304, .f32⟩
  | 27 => ⟨S8x4x512x1024, .f32⟩
  | 28 => ⟨S8x8x2048, .f32⟩
  | 29 => ⟨S8x8x2048, .f32⟩
  | 30 => ⟨S8x8x4096, .f32⟩
  | 31 => ⟨S8x8x4096, .f32⟩
  | 32 => ⟨S8x8x16, .f32⟩
  | 33 => ⟨S16x2048, .f32⟩
  | 34 => ⟨S8x8x2048, .f32⟩
  | 35 => ⟨S2048, .f32⟩
  | 36 => ⟨S1x1x2048, .f32⟩
  | 37 => ⟨S8x8x2048, .f32⟩
  | 38 => ⟨S8x8x2048, .f32⟩
  | 39 => ⟨S8x8x2048, .f32⟩
  | 40 => ⟨S_, .f32⟩
  | 41 => ⟨S8x8x2048, .f32⟩
  | 42 => ⟨S8x8x2048, .f32⟩
  | 43 => ⟨S8x8x2048, .f32⟩
  | 44 => ⟨S8x8x2048, .f32⟩
  | 45 => ⟨S8x8x2048, .i1⟩
  | 46 => ⟨S8x8x2048, .f32⟩
  | 47 => ⟨S8x8x2048, .f32⟩
  | 48 => ⟨S8x8x2048, .f32⟩
  | 49 => ⟨S8x8x2048, .f32⟩
  | 50 => ⟨S8x8x2048, .f32⟩
  | 51 => ⟨S8x8x2048, .f32⟩
  | 52 => ⟨S8x8x2048, .f32⟩
  | 53 => ⟨S8x8x2048, .f32⟩
  | 54 => ⟨S8x8x2048, .f32⟩
  | 55 => ⟨S_, .f32⟩
  | 56 => ⟨S8x8x2048, .f32⟩
  | 57 => ⟨S8x8x2048, .f32⟩
  | 58 => ⟨S8x8x4x512, .f32⟩
  | 59 => ⟨S_, .f32⟩
  | 60 => ⟨S8x8x4x512, .f32⟩
  | 61 => ⟨S8x8x4x512, .f32⟩
  | 62 => ⟨S8x8x4x512, .f32⟩
  | 63 => ⟨S8x8x4x1024, .f32⟩
  | 64 => ⟨S8x8x4x512, .f32⟩
  | 65 => ⟨S_, .i1⟩
  | 66 => ⟨S8x8, .i1⟩
  | 67 => ⟨S8x8, .i32⟩
  | 68 => ⟨S_, .i32⟩
  | 69 => ⟨S8x8, .i32⟩
  | 70 => ⟨S8x8, .i32⟩
  | 71 => ⟨S8x8, .i32⟩
  | 72 => ⟨S8x8, .i1⟩
  | 73 => ⟨S_, .i1⟩
  | 74 => ⟨S8x8, .i1⟩
  | 75 => ⟨S8x8, .i1⟩
  | 76 => ⟨S8x1x8x4x512, .f32⟩
  | 77 => ⟨S1x8x4x8x512, .f32⟩
  | 78 => ⟨S8x1x8x4x512, .f32⟩
  | 79 => ⟨S1x8x4x8x512, .f32⟩
  | 80 => ⟨S8x1x8x4x1024, .f32⟩
  | 81 => ⟨S1x8x4x8x1024, .f32⟩
  | 82 => ⟨S8x1x8x4x512, .f32⟩
  | 83 => ⟨S1x8x4x8x512, .f32⟩
  | 84 => ⟨S_, .f32⟩
  | 85 => ⟨S1x8x4x8x1024, .f32⟩
  | 86 => ⟨S_, .i32⟩
  | 87 => ⟨S1x8x4x8x512, .f32⟩
  | 88 => ⟨S1x8x4x8x512, .f32⟩
  | 89 => ⟨S1x8x4x8x1024, .f32⟩
  | 90 => ⟨S1x8x4x8x512, .f32⟩
  | 91 => ⟨S8x8, .i1⟩
  | 92 => ⟨S_, .i32⟩
  | 93 => ⟨S8x4x512x1024, .f32⟩
  | 94 => ⟨S1x8x4x8x1024, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1x8x4x8x512, .f32⟩
  | 102 => ⟨S8x4x8x512, .f32⟩
  | 103 => ⟨S_, .i32⟩
  | 104 => ⟨S_, .i32⟩
  | 105 => ⟨S_, .i32⟩
  | 106 => ⟨S_, .i32⟩
  | 107 => ⟨S1x8x4x8x512, .f32⟩
  | 108 => ⟨S8x4x8x512, .f32⟩
  | 109 => ⟨S_, .i32⟩
  | 110 => ⟨S_, .i32⟩
  | 111 => ⟨S_, .i32⟩
  | 112 => ⟨S_, .i32⟩
  | 113 => ⟨S1x8x4x8x1024, .f32⟩
  | 114 => ⟨S8x4x8x1024, .f32⟩
  | 115 => ⟨S_, .i32⟩
  | 116 => ⟨S_, .i32⟩
  | 117 => ⟨S_, .i32⟩
  | 118 => ⟨S_, .i32⟩
  | 119 => ⟨S1x8x4x8x512, .f32⟩
  | 120 => ⟨S8x4x8x512, .f32⟩
  | 121 => ⟨S_, .f32⟩
  | 122 => ⟨S_, .f32⟩
  | 123 => ⟨S8x4x8x512, .f32⟩
  | 124 => ⟨S8x4x8x512, .f32⟩
  | 125 => ⟨S8x4x8x512, .f32⟩
  | 126 => ⟨S8x4x8x512, .f32⟩
  | 127 => ⟨S8x4x8x512, .f32⟩
  | _ => ⟨S8x8x4096, .f32⟩

abbrev hbmTy0_1 (i : Nat) : BufTy := match i % 128 with
  | 0 => ⟨S8x4x8x512, .f32⟩
  | 1 => ⟨S8x4x8x8, .f32⟩
  | 2 => ⟨S_, .f32⟩
  | 3 => ⟨S_, .f32⟩
  | 4 => ⟨S8x4x8x8, .i1⟩
  | 5 => ⟨S8x4x8x8, .f32⟩
  | 6 => ⟨S8x4x8x8, .f32⟩
  | 7 => ⟨S8x4x8x1024, .f32⟩
  | 8 => ⟨S8x4x8x1024, .f32⟩
  | 9 => ⟨S8x4x8x1024, .f32⟩
  | 10 => ⟨S8x4x1x512, .f32⟩
  | 11 => ⟨S8x4x512, .f32⟩
  | 12 => ⟨S8x4x512x1, .f32⟩
  | 13 => ⟨S8x4x512x1, .f32⟩
  | 14 => ⟨S8x4x512x1024, .f32⟩
  | 15 => ⟨S8x4x512x1024, .f32⟩
  | 16 => ⟨S8x4x8x512, .f32⟩
  | 17 => ⟨S8x4x8x512, .f32⟩
  | 18 => ⟨S8x4x8x512, .f32⟩
  | 19 => ⟨S8x4x8x512, .f32⟩
  | 20 => ⟨S8x4x512x1024, .f32⟩
  | 21 => ⟨S8x4x512x1024, .f32⟩
  | 22 => ⟨S1x8x4x8x1024, .f32⟩
  | 23 => ⟨S_, .i32⟩
  | 24 => ⟨S_, .i32⟩
  | 25 => ⟨S_, .i32⟩
  | 26 => ⟨S_, .i32⟩
  | 27 => ⟨S1x8x4x8x1024, .f32⟩
  | 28 => ⟨S_, .i32⟩
  | 29 => ⟨S_, .i32⟩
  | 30 => ⟨S8x1x8x4x1024, .f32⟩
  | 31 => ⟨S8x8x4x1024, .f32⟩
  | 32 => ⟨S8x8x4x1024, .f32⟩
  | 33 => ⟨S_, .f32⟩
  | 34 => ⟨S8x8x4, .f32⟩
  | 35 => ⟨S8x8x4x1, .f32⟩
  | 36 => ⟨S_, .f32⟩
  | 37 => ⟨S8x8x4x1, .f32⟩
  | 38 => ⟨S8x8x4x1, .f32⟩
  | 39 => ⟨S_, .f32⟩
  | 40 => ⟨S8x8x4x1, .f32⟩
  | 41 => ⟨S8x8x4x1, .f32⟩
  | 42 => ⟨S8x8x4x1, .f32⟩
  | 43 => ⟨S8x8x4x1024, .f32⟩
  | 44 => ⟨S8x8x4x1024, .f32⟩
  | 45 => ⟨S4x1024, .f32⟩
  | 46 => ⟨S1x1x4x1024, .f32⟩
  | 47 => ⟨S8x8x4x1024, .f32⟩
  | 48 => ⟨S8x8x4x1024, .f32⟩
  | 49 => ⟨S8x8x2048, .f32⟩
  | 50 => ⟨S8x8x2048, .f32⟩
  | 51 => ⟨S8x8x4096, .f32⟩
  | 52 => ⟨S8x8x4096, .f32⟩
  | 53 => ⟨S8x8x16, .f32⟩
  | 54 => ⟨S8x8x4096, .f32⟩
  | 55 => ⟨S8x8x4096, .f32⟩
  | 56 => ⟨S8x8x4096, .f32⟩
  | 57 => ⟨S_, .f32⟩
  | 58 => ⟨S8x8x4096, .f32⟩
  | 59 => ⟨S8x8x4096, .f32⟩
  | 60 => ⟨S_, .f32⟩
  | 61 => ⟨S8x8x4096, .f32⟩
  | 62 => ⟨S8x8x4096, .f32⟩
  | 63 => ⟨S8x8x4096, .f32⟩
  | 64 => ⟨S8x8x4096, .f32⟩
  | 65 => ⟨S8x8x4096, .bf16⟩
  | _ => ⟨S8x8x4096, .f32⟩

abbrev hbmTy (i : Nat) : BufTy := match i / 128 with
  | 0 => hbmTy0_0 i
  | 1 => hbmTy0_1 i
  | _ => ⟨S8x8x4096, .f32⟩

abbrev bufTy : (tb : Table) → Fin (tcTables nBuf tb) → BufTy
  | .hbm, ⟨i, _⟩ => hbmTy i
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c : Ref sig .tc := ⟨.hbm, 65, rfl⟩
abbrev main_v52 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_0 : Ref sig .tc := ⟨.hbm, 73, rfl⟩
abbrev main_call0_v5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_c_6 : Ref sig .tc := ⟨.hbm, 86, rfl⟩
abbrev main_v63_0 : Ref sig .tc := ⟨.hbm, 87, rfl⟩
abbrev main_v63_1 : Ref sig .tc := ⟨.hbm, 88, rfl⟩
abbrev main_v63_2 : Ref sig .tc := ⟨.hbm, 89, rfl⟩
abbrev main_v63_3 : Ref sig .tc := ⟨.hbm, 90, rfl⟩
abbrev main_v63_4 : Ref sig .tc := ⟨.hbm, 91, rfl⟩
abbrev main_v63_5 : Ref sig .tc := ⟨.hbm, 92, rfl⟩
abbrev main_v63_6 : Ref sig .tc := ⟨.hbm, 93, rfl⟩
abbrev main_v63_7 : Ref sig .tc := ⟨.hbm, 94, rfl⟩
abbrev main_while0c_c_17 : Ref sig .tc := ⟨.hbm, 95, rfl⟩
abbrev main_while0c_v89 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_call1_c_1 : Ref sig .tc := ⟨.hbm, 99, rfl⟩
abbrev main_while0b_call1_c_2 : Ref sig .tc := ⟨.hbm, 100, rfl⟩
abbrev main_while0b_call1_v0 : Ref sig .tc := ⟨.hbm, 101, rfl⟩
abbrev main_while0b_v89 : Ref sig .tc := ⟨.hbm, 102, rfl⟩
abbrev main_while0b_call2_c : Ref sig .tc := ⟨.hbm, 103, rfl⟩
abbrev main_while0b_call2_c_0 : Ref sig .tc := ⟨.hbm, 104, rfl⟩
abbrev main_while0b_call2_c_1 : Ref sig .tc := ⟨.hbm, 105, rfl⟩
abbrev main_while0b_call2_c_2 : Ref sig .tc := ⟨.hbm, 106, rfl⟩
abbrev main_while0b_call2_v0 : Ref sig .tc := ⟨.hbm, 107, rfl⟩
abbrev main_while0b_v90 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_c_1 : Ref sig .tc := ⟨.hbm, 111, rfl⟩
abbrev main_while0b_call3_c_2 : Ref sig .tc := ⟨.hbm, 112, rfl⟩
abbrev main_while0b_call3_v0 : Ref sig .tc := ⟨.hbm, 113, rfl⟩
abbrev main_while0b_v91 : Ref sig .tc := ⟨.hbm, 114, rfl⟩
abbrev main_while0b_call4_c : Ref sig .tc := ⟨.hbm, 115, rfl⟩
abbrev main_while0b_call4_c_0 : Ref sig .tc := ⟨.hbm, 116, rfl⟩
abbrev main_while0b_call4_c_1 : Ref sig .tc := ⟨.hbm, 117, rfl⟩
abbrev main_while0b_call4_c_2 : Ref sig .tc := ⟨.hbm, 118, rfl⟩
abbrev main_while0b_call4_v0 : Ref sig .tc := ⟨.hbm, 119, rfl⟩
abbrev main_while0b_v92 : Ref sig .tc := ⟨.hbm, 120, rfl⟩
abbrev main_while0b_call5_call0_cst : Ref sig .tc := ⟨.hbm, 121, rfl⟩
abbrev main_while0b_call5_call0_v0 : Ref sig .tc := ⟨.hbm, 122, rfl⟩
abbrev main_while0b_v93 : Ref sig .tc := ⟨.hbm, 123, rfl⟩
abbrev main_while0b_v94 : Ref sig .tc := ⟨.hbm, 124, rfl⟩
abbrev main_while0b_v95 : Ref sig .tc := ⟨.hbm, 125, rfl⟩
abbrev main_while0b_v96 : Ref sig .tc := ⟨.hbm, 126, rfl⟩
abbrev main_while0b_v97 : Ref sig .tc := ⟨.hbm, 127, rfl⟩
abbrev main_while0b_v98 : Ref sig .tc := ⟨.hbm, 128, rfl⟩
abbrev main_while0b_v99 : Ref sig .tc := ⟨.hbm, 129, rfl⟩
abbrev main_while0b_cst_17 : Ref sig .tc := ⟨.hbm, 130, rfl⟩
abbrev main_while0b_call6_v0 : Ref sig .tc := ⟨.hbm, 131, rfl⟩
abbrev main_while0b_call6_v1 : Ref sig .tc := ⟨.hbm, 132, rfl⟩
abbrev main_while0b_call6_v2 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_v112 : Ref sig .tc := ⟨.hbm, 146, rfl⟩
abbrev main_while0b_v113 : Ref sig .tc := ⟨.hbm, 147, rfl⟩
abbrev main_while0b_v114 : Ref sig .tc := ⟨.hbm, 148, rfl⟩
abbrev main_while0b_v115 : Ref sig .tc := ⟨.hbm, 149, rfl⟩
abbrev main_while0b_call7_v0 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_call7_c_1 : Ref sig .tc := ⟨.hbm, 153, rfl⟩
abbrev main_while0b_call7_c_2 : Ref sig .tc := ⟨.hbm, 154, rfl⟩
abbrev main_while0b_v116 : Ref sig .tc := ⟨.hbm, 155, rfl⟩
abbrev main_while0b_c_18 : Ref sig .tc := ⟨.hbm, 156, rfl⟩
abbrev main_while0b_v117 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_cst_7 : Ref sig .tc := ⟨.hbm, 161, rfl⟩
abbrev main_v67 : Ref sig .tc := ⟨.hbm, 162, rfl⟩
abbrev main_v68 : Ref sig .tc := ⟨.hbm, 163, rfl⟩
abbrev main_cst_8 : Ref sig .tc := ⟨.hbm, 164, rfl⟩
abbrev main_v69 : Ref sig .tc := ⟨.hbm, 165, rfl⟩
abbrev main_v70 : Ref sig .tc := ⟨.hbm, 166, rfl⟩
abbrev main_cst_9 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_call8_v0 : Ref sig .tc := ⟨.hbm, 183, rfl⟩
abbrev main_call8_v1 : Ref sig .tc := ⟨.hbm, 184, rfl⟩
abbrev main_call8_cst : Ref sig .tc := ⟨.hbm, 185, rfl⟩
abbrev main_call8_v2 : Ref sig .tc := ⟨.hbm, 186, rfl⟩
abbrev main_call8_v3 : Ref sig .tc := ⟨.hbm, 187, rfl⟩
abbrev main_call8_cst_0 : Ref sig .tc := ⟨.hbm, 188, rfl⟩
abbrev main_call8_v4 : Ref sig .tc := ⟨.hbm, 189, rfl⟩
abbrev main_call8_v5 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩

abbrev nD : Nat := 1
abbrev τ : Topo := Topo.v7x

variable {F : FTy → Type} [FloatOps F]

abbrev main_while0_count : Scf.Loop 32 := ⟨0#32, 1#32, 1#32⟩
-- ==== CastExperts.lean ====
abbrev S2x16384x4096 : Shape := ⟨3, ![2, 16384, 4096]⟩
abbrev S16384x4096 : Shape := ⟨2, ![16384, 4096]⟩
abbrev S1x512x4096 : Shape := ⟨3, ![1, 512, 4096]⟩
abbrev S512x4096 : Shape := ⟨2, ![512, 4096]⟩

abbrev nBuf : Space → Nat
  | .hbm => 6
  | .vmem => 16
  | .smem => 0
  | _ => 0

abbrev bufTy : (tb : Table) → Fin (tcTables nBuf tb) → BufTy
  | .hbm, ⟨0, _⟩ => ⟨S2x16384x4096, .f32⟩
  | .hbm, ⟨1, _⟩ => ⟨S2x16384x4096, .f32⟩
  | .hbm, ⟨2, _⟩ => ⟨S16384x4096, .bf16⟩
  | .hbm, ⟨3, _⟩ => ⟨S16384x4096, .bf16⟩
  | .hbm, ⟨4, _⟩ => ⟨S16384x4096, .bf16⟩
  | .hbm, ⟨5, _⟩ => ⟨S16384x4096, .bf16⟩
  | .local _ .vmem, ⟨0, _⟩ => ⟨S1x512x4096, .f32⟩
  | .local _ .vmem, ⟨1, _⟩ => ⟨S1x512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512x4096, .f32⟩
  | .local _ .vmem, ⟨5, _⟩ => ⟨S1x512x4096, .f32⟩
  | .local _ .vmem, ⟨6, _⟩ => ⟨S512x4096, .bf16⟩
  | .local _ .vmem, ⟨7, _⟩ => ⟨S512x4096, .bf16⟩
  | .local _ .vmem, ⟨8, _⟩ => ⟨S1x512x4096, .f32⟩
  | .local _ .vmem, ⟨9, _⟩ => ⟨S1x512x4096, .f32⟩
  | .local _ .vmem, ⟨10, _⟩ => ⟨S512x4096, .bf16⟩
  | .local _ .vmem, ⟨11, _⟩ => ⟨S512x4096, .bf16⟩
  | .local _ .vmem, ⟨12, _⟩ => ⟨S1x512x4096, .f32⟩
  | .local _ .vmem, ⟨13, _⟩ => ⟨S1x512x4096, .f32⟩
  | .local _ .vmem, ⟨14, _⟩ => ⟨S512x4096, .bf16⟩
  | .local _ .vmem, ⟨15, _⟩ => ⟨S512x4096, .bf16⟩
  | _, _ => ⟨S2x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== CastExpertsRefIdeal.lean ====
abbrev S2x16384x4096 : Shape := ⟨3, ![2, 16384, 4096]⟩
abbrev S1x16384x4096 : Shape := ⟨3, ![1, 16384, 4096]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x16384x4096, .f32⟩
  | .hbm, ⟨1, _⟩ => ⟨S2x16384x4096, .f32⟩
  | .hbm, ⟨2, _⟩ => ⟨S1x16384x4096, .f32⟩
  | .hbm, ⟨3, _⟩ => ⟨S16384x4096, .f32⟩
  | .hbm, ⟨4, _⟩ => ⟨S16384x4096, .bf16⟩
  | .hbm, ⟨5, _⟩ => ⟨S1x16384x4096, .f32⟩
  | .hbm, ⟨6, _⟩ => ⟨S16384x4096, .f32⟩
  | .hbm, ⟨7, _⟩ => ⟨S16384x4096, .bf16⟩
  | .hbm, ⟨8, _⟩ => ⟨S1x16384x4096, .f32⟩
  | .hbm, ⟨9, _⟩ => ⟨S16384x4096, .f32⟩
  | .hbm, ⟨10, _⟩ => ⟨S16384x4096, .bf16⟩
  | .hbm, ⟨11, _⟩ => ⟨S1x16384x4096, .f32⟩
  | .hbm, ⟨12, _⟩ => ⟨S16384x4096, .f32⟩
  | .hbm, ⟨13, _⟩ => ⟨S16384x4096, .bf16⟩
  | _, _ => ⟨S2x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proof.Gla.RefLoop.lean ====
/- The reference's loop, trip by trip: a valuation that holds a state of `Gen.ReferenceIdeal.Step` is carried by one trip of the
   run to one that holds the next state, so that the results are the fields of the state after 32 trips. Follows the
   generated `Gen/ReferenceIdeal/StepRun.lean`, whose lemma for the stacked outputs is closed by an exact term here. -/
module

public import proofs.«01_k».proof.Proof.Gen.ReferenceIdeal.Run
public import proofs.«01_k».proof.Proof.Gen.ReferenceIdeal.Step

@[expose] public section

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v45_6) = s.main_v45_6
  f_7 : V0 (Proc.devRef .tc main_v45_7) = s.main_v45_7
  f_0 : V0 (Proc.devRef .tc main_v45_0) = s.main_v45_0
  f_1 : V0 (Proc.devRef .tc main_v45_1) = s.main_v45_1
  f_2 : V0 (Proc.devRef .tc main_v45_2) = s.main_v45_2
  f_3 : V0 (Proc.devRef .tc main_v45_3) = s.main_v45_3
  n_5 : V0 (Proc.devRef .tc main_v45_5) = constantI S_ 32 (BitVec.ofNat 32 j)
  k_4 : V0 (Proc.devRef .tc main_v45_4) = Cert.ReferenceIdeal.Step.K_main_v35 (F := F)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x4x64x512 (V0 (Proc.devRef .tc main_v45_0)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x512_S1x4x4x64x512 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S4x4x64x512 (Host.dynamicSlice S1x4x4x64x512 (V0 (Proc.devRef .tc main_v45_0)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x512_S1x4x4x64x512) shapeCasts_S1x4x4x64x512_S4x4x64x512 : (Proc.devRef .tc main_while0b_v71 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x4x64x512 (V0 (Proc.devRef .tc main_v45_1)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x512_S1x4x4x64x512 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v72 V0 : (Proc.devRef .tc main_while0b_v72 : DevRef τ sig).ty.Contents (Elt F)) = Cert.ReferenceIdeal.Step.b11 j s := by
  unfold res_main_while0b_v72 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x4x64x1024 (V0 (Proc.devRef .tc main_v45_2)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x1024_S1x4x4x64x1024 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v73 V0 : (Proc.devRef .tc main_while0b_v73 : DevRef τ sig).ty.Contents (Elt F)) = Cert.ReferenceIdeal.Step.b17 j s := by
  unfold res_main_while0b_v73 Cert.ReferenceIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x4x64x512 (V0 (Proc.devRef .tc main_v45_3)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x512_S1x4x4x64x512 : (Proc.devRef .tc main_while0b_call4_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S4x4x64x512 (Host.dynamicSlice S1x4x4x64x512 (V0 (Proc.devRef .tc main_v45_3)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x512_S1x4x4x64x512) shapeCasts_S1x4x4x64x512_S4x4x64x512 : (Proc.devRef .tc main_while0b_v74 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call5_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call5_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v75 V0 : (Proc.devRef .tc main_while0b_v75 : DevRef τ sig).ty.Contents (Elt F)) = Cert.ReferenceIdeal.Step.b26 j s := by
  unfold res_main_while0b_v75 Cert.ReferenceIdeal.Step.b26
  rw [← al_23 h, ← al_25 h]
  try rfl
set_option maxRecDepth 8192 in
theorem al_27 (h : Holds V0 s j) : (Host.exp (res_main_while0b_v75 V0) : (Proc.devRef .tc main_while0b_v76 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (res_main_while0b_v77 V0 : (Proc.devRef .tc main_while0b_v77 : DevRef τ sig).ty.Contents (Elt F)) = Cert.ReferenceIdeal.Step.b28 j s := by
  unfold res_main_while0b_v77 Cert.ReferenceIdeal.Step.b28
  rw [← al_5 h, ← al_27 h]
  try rfl
set_option maxRecDepth 8192 in
theorem al_29 (h : Holds V0 s j) : (Host.negf (res_main_while0b_v75 V0) : (Proc.devRef .tc main_while0b_v78 : DevRef τ sig).ty.Contents (Elt F)) = Cert.ReferenceIdeal.Step.b29 j s := by
  unfold Cert.ReferenceIdeal.Step.b29
  rw [← al_26 h]
  try rfl
set_option maxRecDepth 8192 in
theorem al_30 (h : Holds V0 s j) : (Host.exp (Host.negf (res_main_while0b_v75 V0)) : (Proc.devRef .tc main_while0b_v79 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (mulf (res_main_while0b_v72 V0) (Host.exp (Host.negf (res_main_while0b_v75 V0))) : (Proc.devRef .tc main_while0b_v80 : DevRef τ sig).ty.Contents (Elt F)) = Cert.ReferenceIdeal.Step.b31 j s := by
  unfold Cert.ReferenceIdeal.Step.b31
  rw [← al_11 h, ← al_30 h]
  try rfl
set_option maxRecDepth 8192 in
theorem al_32 (h : Holds V0 s j) : (Host.dotGeneral dot_S4x4x64x512_S4x4x64x512_S4x4x64x64_3_3_2_2_01_01 none (res_main_while0b_v77 V0) (mulf (res_main_while0b_v72 V0) (Host.exp (Host.negf (res_main_while0b_v75 V0)))) : (Proc.devRef .tc main_while0b_v81 : DevRef τ sig).ty.Contents (Elt F)) = Cert.ReferenceIdeal.Step.b32 j s := by
  unfold Cert.ReferenceIdeal.Step.b32
  rw [← al_28 h, ← al_31 h]
  try rfl
set_option maxRecDepth 8192 in
theorem al_33 (h : Holds V0 s j) : (constant S_ .f32 0x00000000#32 : (Proc.devRef .tc main_while0b_cst_14 : DevRef τ sig).ty.Contents (Elt F)) = Cert.ReferenceIdeal.Step.b33 j s := by
  unfold Cert.ReferenceIdeal.Step.b33
  rfl
set_option maxRecDepth 8192 in
theorem al_34 (h : Holds V0 s j) : (id (constant S_ .f32 0x00000000#32) : (Proc.devRef .tc main_while0b_call6_v0 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S4x4x64x64 ![2, 3] bcast_S64x64_S4x4x64x64_2_3 (V0 (Proc.devRef .tc main_v45_4)) : (Proc.devRef .tc main_while0b_call6_v1 : DevRef τ sig).ty.Contents (Elt F)) = Cert.ReferenceIdeal.Step.b35 j s := by
  unfold Cert.ReferenceIdeal.Step.b35
  rw [h.k_4]
  try rfl
set_option maxRecDepth 8192 in
theorem al_36 (h : Holds V0 s j) : (broadcastInDim S4x4x64x64 ![] bcast_S_S4x4x64x64 (id (constant S_ .f32 0x00000000#32)) : (Proc.devRef .tc main_while0b_call6_v2 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (select (broadcastInDim S4x4x64x64 ![2, 3] bcast_S64x64_S4x4x64x64_2_3 (V0 (Proc.devRef .tc main_v45_4))) (Host.dotGeneral dot_S4x4x64x512_S4x4x64x512_S4x4x64x64_3_3_2_2_01_01 none (res_main_while0b_v77 V0) (mulf (res_main_while0b_v72 V0) (Host.exp (Host.negf (res_main_while0b_v75 V0))))) (broadcastInDim S4x4x64x64 ![] bcast_S_S4x4x64x64 (id (constant S_ .f32 0x00000000#32))) : (Proc.devRef .tc main_while0b_v82 : DevRef τ sig).ty.Contents (Elt F)) = Cert.ReferenceIdeal.Step.b37 j s := by
  unfold Cert.ReferenceIdeal.Step.b37
  rw [← al_35 h, ← al_32 h, ← al_36 h]
  try rfl
set_option maxRecDepth 8192 in
theorem al_38 (h : Holds V0 s j) : (Host.dotGeneral dot_S4x4x64x512_S4x4x512x1024_S4x4x64x1024_3_2_2_3_01_01 none (res_main_while0b_v77 V0) (V0 (Proc.devRef .tc main_v45_6)) : (Proc.devRef .tc main_while0b_v83 : DevRef τ sig).ty.Contents (Elt F)) = Cert.ReferenceIdeal.Step.b38 j s := by
  unfold Cert.ReferenceIdeal.Step.b38
  rw [← al_28 h, h.f_6]
  try rfl
set_option maxRecDepth 8192 in
theorem al_39 (h : Holds V0 s j) : (Host.dotGeneral dot_S4x4x64x64_S4x4x64x1024_S4x4x64x1024_3_2_2_3_01_01 none (select (broadcastInDim S4x4x64x64 ![2, 3] bcast_S64x64_S4x4x64x64_2_3 (V0 (Proc.devRef .tc main_v45_4))) (Host.dotGeneral dot_S4x4x64x512_S4x4x64x512_S4x4x64x64_3_3_2_2_01_01 none (res_main_while0b_v77 V0) (mulf (res_main_while0b_v72 V0) (Host.exp (Host.negf (res_main_while0b_v75 V0))))) (broadcastInDim S4x4x64x64 ![] bcast_S_S4x4x64x64 (id (constant S_ .f32 0x00000000#32)))) (res_main_while0b_v73 V0) : (Proc.devRef .tc main_while0b_v84 : DevRef τ sig).ty.Contents (Elt F)) = Cert.ReferenceIdeal.Step.b39 j s := by
  unfold Cert.ReferenceIdeal.Step.b39
  rw [← al_37 h, ← al_17 h]
  try rfl
set_option maxRecDepth 8192 in
theorem al_40 (h : Holds V0 s j) : (addf (Host.dotGeneral dot_S4x4x64x512_S4x4x512x1024_S4x4x64x1024_3_2_2_3_01_01 none (res_main_while0b_v77 V0) (V0 (Proc.devRef .tc main_v45_6))) (Host.dotGeneral dot_S4x4x64x64_S4x4x64x1024_S4x4x64x1024_3_2_2_3_01_01 none (select (broadcastInDim S4x4x64x64 ![2, 3] bcast_S64x64_S4x4x64x64_2_3 (V0 (Proc.devRef .tc main_v45_4))) (Host.dotGeneral dot_S4x4x64x512_S4x4x64x512_S4x4x64x64_3_3_2_2_01_01 none (res_main_while0b_v77 V0) (mulf (res_main_while0b_v72 V0) (Host.exp (Host.negf (res_main_while0b_v75 V0))))) (broadcastInDim S4x4x64x64 ![] bcast_S_S4x4x64x64 (id (constant S_ .f32 0x00000000#32)))) (res_main_while0b_v73 V0)) : (Proc.devRef .tc main_while0b_v85 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (res_main_while0b_v86 V0 : (Proc.devRef .tc main_while0b_v86 : DevRef τ sig).ty.Contents (Elt F)) = Cert.ReferenceIdeal.Step.b41 j s := by
  unfold res_main_while0b_v86 Cert.ReferenceIdeal.Step.b41
  rw [← al_26 h]
  try rfl
set_option maxRecDepth 8192 in
theorem al_42 (h : Holds V0 s j) : (shapeCast S4x4x512 (res_main_while0b_v86 V0) shapeCasts_S4x4x1x512_S4x4x512 : (Proc.devRef .tc main_while0b_v87 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (broadcastInDim S4x4x512x1 ![0, 1, 2] bcast_S4x4x512_S4x4x512x1_0_1_2 (shapeCast S4x4x512 (res_main_while0b_v86 V0) shapeCasts_S4x4x1x512_S4x4x512) : (Proc.devRef .tc main_while0b_v88 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (Host.exp (broadcastInDim S4x4x512x1 ![0, 1, 2] bcast_S4x4x512_S4x4x512x1_0_1_2 (shapeCast S4x4x512 (res_main_while0b_v86 V0) shapeCasts_S4x4x1x512_S4x4x512)) : (Proc.devRef .tc main_while0b_v89 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (broadcastInDim S4x4x512x1024 ![0, 1, 2, 3] bcast_S4x4x512x1_S4x4x512x1024_0_1_2_3 (Host.exp (broadcastInDim S4x4x512x1 ![0, 1, 2] bcast_S4x4x512_S4x4x512x1_0_1_2 (shapeCast S4x4x512 (res_main_while0b_v86 V0) shapeCasts_S4x4x1x512_S4x4x512))) : (Proc.devRef .tc main_while0b_v90 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (mulf (broadcastInDim S4x4x512x1024 ![0, 1, 2, 3] bcast_S4x4x512x1_S4x4x512x1024_0_1_2_3 (Host.exp (broadcastInDim S4x4x512x1 ![0, 1, 2] bcast_S4x4x512_S4x4x512x1_0_1_2 (shapeCast S4x4x512 (res_main_while0b_v86 V0) shapeCasts_S4x4x1x512_S4x4x512)))) (V0 (Proc.devRef .tc main_v45_6)) : (Proc.devRef .tc main_while0b_v91 : DevRef τ sig).ty.Contents (Elt F)) = Cert.ReferenceIdeal.Step.b46 j s := by
  unfold Cert.ReferenceIdeal.Step.b46
  rw [← al_45 h, h.f_6]
  try rfl
set_option maxRecDepth 8192 in
theorem al_47 (h : Holds V0 s j) : (broadcastInDim S4x4x64x512 ![0, 1, 2, 3] bcast_S4x4x1x512_S4x4x64x512_0_1_2_3 (res_main_while0b_v86 V0) : (Proc.devRef .tc main_while0b_v92 : DevRef τ sig).ty.Contents (Elt F)) = Cert.ReferenceIdeal.Step.b47 j s := by
  unfold Cert.ReferenceIdeal.Step.b47
  rw [← al_41 h]
  try rfl
set_option maxRecDepth 8192 in
theorem al_48 (h : Holds V0 s j) : (subf (broadcastInDim S4x4x64x512 ![0, 1, 2, 3] bcast_S4x4x1x512_S4x4x64x512_0_1_2_3 (res_main_while0b_v86 V0)) (res_main_while0b_v75 V0) : (Proc.devRef .tc main_while0b_v93 : DevRef τ sig).ty.Contents (Elt F)) = Cert.ReferenceIdeal.Step.b48 j s := by
  unfold Cert.ReferenceIdeal.Step.b48
  rw [← al_47 h, ← al_26 h]
  try rfl
set_option maxRecDepth 8192 in
theorem al_49 (h : Holds V0 s j) : (Host.exp (subf (broadcastInDim S4x4x64x512 ![0, 1, 2, 3] bcast_S4x4x1x512_S4x4x64x512_0_1_2_3 (res_main_while0b_v86 V0)) (res_main_while0b_v75 V0)) : (Proc.devRef .tc main_while0b_v94 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (mulf (res_main_while0b_v72 V0) (Host.exp (subf (broadcastInDim S4x4x64x512 ![0, 1, 2, 3] bcast_S4x4x1x512_S4x4x64x512_0_1_2_3 (res_main_while0b_v86 V0)) (res_main_while0b_v75 V0))) : (Proc.devRef .tc main_while0b_v95 : DevRef τ sig).ty.Contents (Elt F)) = Cert.ReferenceIdeal.Step.b50 j s := by
  unfold Cert.ReferenceIdeal.Step.b50
  rw [← al_11 h, ← al_49 h]
  try rfl
set_option maxRecDepth 8192 in
theorem al_51 (h : Holds V0 s j) : (Host.dotGeneral dot_S4x4x64x512_S4x4x64x1024_S4x4x512x1024_2_2_3_3_01_01 none (mulf (res_main_while0b_v72 V0) (Host.exp (subf (broadcastInDim S4x4x64x512 ![0, 1, 2, 3] bcast_S4x4x1x512_S4x4x64x512_0_1_2_3 (res_main_while0b_v86 V0)) (res_main_while0b_v75 V0)))) (res_main_while0b_v73 V0) : (Proc.devRef .tc main_while0b_v96 : DevRef τ sig).ty.Contents (Elt F)) = Cert.ReferenceIdeal.Step.b51 j s := by
  unfold Cert.ReferenceIdeal.Step.b51
  rw [← al_50 h, ← al_17 h]
  try rfl
set_option maxRecDepth 8192 in
theorem al_52 (h : Holds V0 s j) : (addf (mulf (broadcastInDim S4x4x512x1024 ![0, 1, 2, 3] bcast_S4x4x512x1_S4x4x512x1024_0_1_2_3 (Host.exp (broadcastInDim S4x4x512x1 ![0, 1, 2] bcast_S4x4x512_S4x4x512x1_0_1_2 (shapeCast S4x4x512 (res_main_while0b_v86 V0) shapeCasts_S4x4x1x512_S4x4x512)))) (V0 (Proc.devRef .tc main_v45_6))) (Host.dotGeneral dot_S4x4x64x512_S4x4x64x1024_S4x4x512x1024_2_2_3_3_01_01 none (mulf (res_main_while0b_v72 V0) (Host.exp (subf (broadcastInDim S4x4x64x512 ![0, 1, 2, 3] bcast_S4x4x1x512_S4x4x64x512_0_1_2_3 (res_main_while0b_v86 V0)) (res_main_while0b_v75 V0)))) (res_main_while0b_v73 V0)) : (Proc.devRef .tc main_while0b_v97 : DevRef τ sig).ty.Contents (Elt F)) = Cert.ReferenceIdeal.Step.b52 j s := by
  unfold Cert.ReferenceIdeal.Step.b52
  rw [← al_46 h, ← al_51 h]
  try rfl
set_option maxRecDepth 8192 in
theorem al_53 (h : Holds V0 s j) : (broadcastInDim S1x4x4x64x1024 ![1, 2, 3, 4] bcast_S4x4x64x1024_S1x4x4x64x1024_1_2_3_4 (addf (Host.dotGeneral dot_S4x4x64x512_S4x4x512x1024_S4x4x64x1024_3_2_2_3_01_01 none (res_main_while0b_v77 V0) (V0 (Proc.devRef .tc main_v45_6))) (Host.dotGeneral dot_S4x4x64x64_S4x4x64x1024_S4x4x64x1024_3_2_2_3_01_01 none (select (broadcastInDim S4x4x64x64 ![2, 3] bcast_S64x64_S4x4x64x64_2_3 (V0 (Proc.devRef .tc main_v45_4))) (Host.dotGeneral dot_S4x4x64x512_S4x4x64x512_S4x4x64x64_3_3_2_2_01_01 none (res_main_while0b_v77 V0) (mulf (res_main_while0b_v72 V0) (Host.exp (Host.negf (res_main_while0b_v75 V0))))) (broadcastInDim S4x4x64x64 ![] bcast_S_S4x4x64x64 (id (constant S_ .f32 0x00000000#32)))) (res_main_while0b_v73 V0))) : (Proc.devRef .tc main_while0b_call7_v0 : DevRef τ sig).ty.Contents (Elt F)) = Cert.ReferenceIdeal.Step.b53 j s := by
  unfold Cert.ReferenceIdeal.Step.b53
  rw [← al_40 h]
  try rfl
set_option maxRecDepth 8192 in
theorem al_54 (h : Holds V0 s j) : (constantI S_ 32 0#32 : (Proc.devRef .tc main_while0b_call7_c : DevRef τ sig).ty.Contents (Elt F)) = Cert.ReferenceIdeal.Step.b54 j s := by
  unfold Cert.ReferenceIdeal.Step.b54
  rfl
set_option maxRecDepth 8192 in
theorem al_55 (h : Holds V0 s j) : (constantI S_ 32 0#32 : (Proc.devRef .tc main_while0b_call7_c_0 : DevRef τ sig).ty.Contents (Elt F)) = Cert.ReferenceIdeal.Step.b55 j s := by
  unfold Cert.ReferenceIdeal.Step.b55
  rfl
set_option maxRecDepth 8192 in
theorem al_56 (h : Holds V0 s j) : (constantI S_ 32 0#32 : (Proc.devRef .tc main_while0b_call7_c_1 : DevRef τ sig).ty.Contents (Elt F)) = Cert.ReferenceIdeal.Step.b56 j s := by
  unfold Cert.ReferenceIdeal.Step.b56
  rfl
set_option maxRecDepth 8192 in
theorem al_57 (h : Holds V0 s j) : (constantI S_ 32 0#32 : (Proc.devRef .tc main_while0b_call7_c_2 : DevRef τ sig).ty.Contents (Elt F)) = Cert.ReferenceIdeal.Step.b57 j s := by
  unfold Cert.ReferenceIdeal.Step.b57
  rfl
set_option maxRecDepth 8192 in
theorem al_58 (h : Holds V0 s j) : (Host.dynamicUpdateSlice (V0 (Proc.devRef .tc main_v45_7)) (broadcastInDim S1x4x4x64x1024 ![1, 2, 3, 4] bcast_S4x4x64x1024_S1x4x4x64x1024_1_2_3_4 (addf (Host.dotGeneral dot_S4x4x64x512_S4x4x512x1024_S4x4x64x1024_3_2_2_3_01_01 none (res_main_while0b_v77 V0) (V0 (Proc.devRef .tc main_v45_6))) (Host.dotGeneral dot_S4x4x64x64_S4x4x64x1024_S4x4x64x1024_3_2_2_3_01_01 none (select (broadcastInDim S4x4x64x64 ![2, 3] bcast_S64x64_S4x4x64x64_2_3 (V0 (Proc.devRef .tc main_v45_4))) (Host.dotGeneral dot_S4x4x64x512_S4x4x64x512_S4x4x64x64_3_3_2_2_01_01 none (res_main_while0b_v77 V0) (mulf (res_main_while0b_v72 V0) (Host.exp (Host.negf (res_main_while0b_v75 V0))))) (broadcastInDim S4x4x64x64 ![] bcast_S_S4x4x64x64 (id (constant S_ .f32 0x00000000#32)))) (res_main_while0b_v73 V0)))) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x1024_S1x4x4x64x1024 : (Proc.devRef .tc main_while0b_v98 : DevRef τ sig).ty.Contents (Elt F)) = Cert.ReferenceIdeal.Step.b58 j s := by
  unfold Cert.ReferenceIdeal.Step.b58
  rw [← al_53 h, ← al_54 h, ← al_55 h, ← al_56 h, ← al_57 h, h.f_7, h.n_5]
  try rfl

/-! One trip's step of the carried values is `step`, field by field; a counter steps to the next number. -/

theorem step_6 (h : Holds V0 s j) : step_main_v45_6 V0 = (step j s).main_v45_6 := by
  unfold step_main_v45_6 Cert.ReferenceIdeal.Step.step
  show id (addf (mulf (broadcastInDim S4x4x512x1024 ![0, 1, 2, 3] bcast_S4x4x512x1_S4x4x512x1024_0_1_2_3 (Host.exp (broadcastInDim S4x4x512x1 ![0, 1, 2] bcast_S4x4x512_S4x4x512x1_0_1_2 (shapeCast S4x4x512 (res_main_while0b_v86 V0) shapeCasts_S4x4x1x512_S4x4x512)))) (V0 (Proc.devRef .tc main_v45_6))) (Host.dotGeneral dot_S4x4x64x512_S4x4x64x1024_S4x4x512x1024_2_2_3_3_01_01 none (mulf (res_main_while0b_v72 V0) (Host.exp (subf (broadcastInDim S4x4x64x512 ![0, 1, 2, 3] bcast_S4x4x1x512_S4x4x64x512_0_1_2_3 (res_main_while0b_v86 V0)) (res_main_while0b_v75 V0)))) (res_main_while0b_v73 V0))) = _
  rw [al_52 h]
  try rfl
theorem step_7 (h : Holds V0 s j) : step_main_v45_7 V0 = (step j s).main_v45_7 := by
  unfold step_main_v45_7 Cert.ReferenceIdeal.Step.step
  show id (Host.dynamicUpdateSlice (V0 (Proc.devRef .tc main_v45_7)) (broadcastInDim S1x4x4x64x1024 ![1, 2, 3, 4] bcast_S4x4x64x1024_S1x4x4x64x1024_1_2_3_4 (addf (Host.dotGeneral dot_S4x4x64x512_S4x4x512x1024_S4x4x64x1024_3_2_2_3_01_01 none (res_main_while0b_v77 V0) (V0 (Proc.devRef .tc main_v45_6))) (Host.dotGeneral dot_S4x4x64x64_S4x4x64x1024_S4x4x64x1024_3_2_2_3_01_01 none (select (broadcastInDim S4x4x64x64 ![2, 3] bcast_S64x64_S4x4x64x64_2_3 (V0 (Proc.devRef .tc main_v45_4))) (Host.dotGeneral dot_S4x4x64x512_S4x4x64x512_S4x4x64x64_3_3_2_2_01_01 none (res_main_while0b_v77 V0) (mulf (res_main_while0b_v72 V0) (Host.exp (Host.negf (res_main_while0b_v75 V0))))) (broadcastInDim S4x4x64x64 ![] bcast_S_S4x4x64x64 (id (constant S_ .f32 0x00000000#32)))) (res_main_while0b_v73 V0)))) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x1024_S1x4x4x64x1024) = _
  exact al_58 h
theorem step_5 (h : Holds V0 s j) : step_main_v45_5 V0 = constantI S_ 32 (BitVec.ofNat 32 (j + 1)) := by
  unfold step_main_v45_5
  rw [h.n_5]
  funext i
  show BitVec.ofNat 32 j + 1#32 = BitVec.ofNat 32 (j + 1)
  simp only [BitVec.ofNat_add]

set_option maxRecDepth 8192 in
theorem out_main_v70_holds (h : Holds V0 s j) {x_main_arg0 : (⟨S4x2048x12304, .f32⟩ : BufTy).Contents (Elt F)} (h_main_arg0 : V0 (Proc.devRef .tc main_arg0) = x_main_arg0) {x_main_arg3 : (⟨S1x4x1024, .f32⟩ : BufTy).Contents (Elt F)} (h_main_arg3 : V0 (Proc.devRef .tc main_arg3) = x_main_arg3) : out_main_v70 V0 = Cert.ReferenceIdeal.Step.R_main_v70 s x_main_arg0 x_main_arg3 := by
  unfold out_main_v70 Cert.ReferenceIdeal.Step.R_main_v70
  rw [h.f_7, h_main_arg0, h_main_arg3]
  try rfl

/-- One trip keeps the valuation holding: `step` of the state, the same set-up values, the next number. -/
theorem holds_step (h : Holds V0 s j) : Holds (STEP V0) (step j s) (j + 1) where
  f_6 := (STEP_main_v45_6 V0).trans (step_6 h)
  f_7 := (STEP_main_v45_7 V0).trans (step_7 h)
  n_5 := (STEP_main_v45_5 V0).trans (step_5 h)
  k_4 := (STEP_main_v45_4 V0).trans h.k_4
  f_0 := (STEP_main_v45_0 V0).trans h.f_0
  f_1 := (STEP_main_v45_1 V0).trans h.f_1
  f_2 := (STEP_main_v45_2 V0).trans h.f_2
  f_3 := (STEP_main_v45_3 V0).trans h.f_3

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v70) = Cert.ReferenceIdeal.Step.R_main_v70 (it c 32) (m ((c.tc : Thread nD τ).loc main_arg0)) (m ((c.tc : Thread nD τ).loc main_arg3))
      ∧ r.2.mem ((c.tc : Thread nD τ).loc main_v45_6) = (it c 32).main_v45_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 32
    ⟨(h c).1.trans (out_main_v70_holds hk (iter_main_arg0 m c 32) (iter_main_arg3 m c 32)), (h c).2.1.trans hk.f_6, (h c).2.2.1, (h c).2.2.2.1, (h c).2.2.2.2.1, (h c).2.2.2.2.2.1, (h c).2.2.2.2.2.2⟩) (Value.run m ρ)

end Cert.ReferenceIdeal.Loop

end
-- ==== Proof.Gla.Chunk.lean ====
/- One chunk of 64 tokens as the kernel computes it: the running sum of the gates' logarithms by six shifted additions, the
   state after the chunk and the chunk's 64 rows of output. All eight unrolled chunks of a grid point are these functions of
   their own rows. -/
module

public import proofs.«01_k».proof.Proof.Gen.KernelIdeal.Value

@[expose] public section

noncomputable section

namespace Cert.Gla

open Idealize.ShloMosaic Idealize.ShloMosaic.TcCoe Cert.KernelIdeal Cert.KernelIdeal.Gen

variable {F : FTy → Type} [FloatOps F]

/-- One shifted addition: every row from `s` on has the row `s` above added. -/
def rollAdd (s : BitVec 32) (x : FVec F S64x512 .f32) : FVec F S64x512 .f32 :=
  addf x (select (cmpi .sge (iota .tc S64x512 32 [0] iota_S64x512_d0_w32) (broadcast S64x512 s))
    (dynamicRotate 0 s none x rotates_S64x512_d0) (broadcast S64x512 (Scalar.ofBits .f32 0x00000000#32)))

/-- The six shifted additions that make the running sum of 64 rows. -/
def cumRows (x : FVec F S64x512 .f32) : FVec F S64x512 .f32 :=
  rollAdd 32#32 (rollAdd 16#32 (rollAdd 8#32 (rollAdd 4#32 (rollAdd 2#32 (rollAdd 1#32 x)))))

/-- The state after a chunk, from the running sums `b`, the chunk's keys and values and the state before. -/
def nextState (b : FVec F S64x512 .f32) (k : Vec F S1x64x512 .f32) (v : Vec F S1x64x1024 .f32) (st : Vec F S1024x512 .f32) :
    FVec F S1024x512 .f32 :=
  k0_pay12 b (extractStridedSlice S1x512 ![63, 0] b slices_S64x512_o63_0_S1x512) (k0_pay10 k) v st

/-- The chunk's rows of output. -/
def chunkOut (b : FVec F S64x512 .f32) (q k : Vec F S1x64x512 .f32) (v r : Vec F S1x64x1024 .f32) (gn : Vec F S1x1024 .f32)
    (st : Vec F S1024x512 .f32) : FVec F S1x64x1024 .bf16 :=
  k0_pay14 (k0_pay13 k0_pay5 b (k0_pay9 q) (k0_pay10 k) v st) gn r

end Cert.Gla

end
-- ==== Proof.Gla.Unroll.lean ====
/- The eight unrolled chunks of a grid point: the text the compiler printed for each is the chunk's functions of `Chunk.lean`
   at that chunk's rows. -/
module

public import proofs.«01_k».proof.Proof.Gla.Chunk

@[expose] public section

set_option maxRecDepth 16384

noncomputable section

namespace Cert.Gla

open Idealize.ShloMosaic Idealize.ShloMosaic.TcCoe Cert.KernelIdeal Cert.KernelIdeal.Gen

variable {F : FTy → Type} [FloatOps F]
variable (z : Vec F S1x512x128 .f32) (wg : Vec F S128x512 .bf16) (bg : Vec F S1x512 .f32) (la : FVec F S512x512 .f32)
  (q k : Vec F S1x64x512 .f32) (v r : Vec F S1x64x1024 .f32) (gn : Vec F S1x1024 .f32) (st : Vec F S1024x512 .f32)

/-- The first chunk's state (its slice of the gates is printed together with the gates). -/
theorem state_0 (I : IVec S64x512 32) (hI : I = iota .tc S64x512 32 [0] iota_S64x512_d0_w32) : k0_pay12 (k0_pay7 I (k0_pay6 z wg bg)) (k0_pay8 I (k0_pay6 z wg bg)) (k0_pay10 k) v st
    = nextState (cumRows (extractStridedSlice S64x512 ![0, 0] (k0_pay4 z wg bg) slices_S512x512_o0_0_S64x512)) k v st := by subst hI; rfl

/-- The first chunk's rows of output. -/
theorem out_0 (I : IVec S64x512 32) (hI : I = iota .tc S64x512 32 [0] iota_S64x512_d0_w32) : k0_pay14 (k0_pay13 k0_pay5 (k0_pay7 I (k0_pay6 z wg bg)) (k0_pay9 q) (k0_pay10 k) v st) gn r
    = chunkOut (cumRows (extractStridedSlice S64x512 ![0, 0] (k0_pay4 z wg bg) slices_S512x512_o0_0_S64x512)) q k v r gn st := by subst hI; rfl

/-- Chunk 1: its state. -/
theorem state_1 (I : IVec S64x512 32) (hI : I = iota .tc S64x512 32 [0] iota_S64x512_d0_w32) : k0_pay23 (k0_pay17 I (k0_pay15 la) 16#32) (k0_pay19 v) (k0_pay21 I (k0_pay15 la) 16#32 k) st
    = nextState (cumRows (extractStridedSlice S64x512 ![64, 0] la slices_S512x512_o64_0_S64x512)) k v st := by subst hI; rfl

/-- Chunk 1: its rows of output. -/
theorem out_1 (I : IVec S64x512 32) (hI : I = iota .tc S64x512 32 [0] iota_S64x512_d0_w32) : k0_pay24 (k0_pay19 v) (k0_pay20 I (k0_pay15 la) 16#32 q) (k0_pay22 k0_pay5 I (k0_pay15 la) 16#32 q k) st gn r
    = chunkOut (cumRows (extractStridedSlice S64x512 ![64, 0] la slices_S512x512_o64_0_S64x512)) q k v r gn st := by subst hI; rfl

/-- Chunk 2: its state. -/
theorem state_2 (I : IVec S64x512 32) (hI : I = iota .tc S64x512 32 [0] iota_S64x512_d0_w32) : k0_pay34 (k0_pay28 (k0_pay25 la) I k0_pay26 (k0_pay27 la)) (k0_pay29 (k0_pay25 la) I k0_pay26 (k0_pay27 la)) k v st
    = nextState (cumRows (extractStridedSlice S64x512 ![128, 0] la slices_S512x512_o128_0_S64x512)) k v st := by subst hI; rfl

/-- Chunk 2: its rows of output. -/
theorem out_2 (I : IVec S64x512 32) (hI : I = iota .tc S64x512 32 [0] iota_S64x512_d0_w32) : k0_pay36 (k0_pay33 k0_pay5 (k0_pay28 (k0_pay25 la) I k0_pay26 (k0_pay27 la)) (k0_pay30 q) k v st) (k0_pay35 k0_pay5 (k0_pay28 (k0_pay25 la) I k0_pay26 (k0_pay27 la)) (k0_pay30 q) k v st) gn r
    = chunkOut (cumRows (extractStridedSlice S64x512 ![128, 0] la slices_S512x512_o128_0_S64x512)) q k v r gn st := by subst hI; rfl

/-- Chunk 3: its state. -/
theorem state_3 (I : IVec S64x512 32) (hI : I = iota .tc S64x512 32 [0] iota_S64x512_d0_w32) : k0_pay47 (k0_pay41 I (k0_pay37 la) k0_pay38 (k0_pay39 la) (FloatOps.ofBits FTy.f32 0#32)) (k0_pay43 v) (k0_pay45 I (k0_pay37 la) k0_pay38 (k0_pay39 la) (FloatOps.ofBits FTy.f32 0#32) k) st
    = nextState (cumRows (extractStridedSlice S64x512 ![192, 0] la slices_S512x512_o192_0_S64x512)) k v st := by subst hI; rfl

/-- Chunk 3: its rows of output. -/
theorem out_3 (I : IVec S64x512 32) (hI : I = iota .tc S64x512 32 [0] iota_S64x512_d0_w32) : k0_pay48 (k0_pay43 v) (k0_pay44 I (k0_pay37 la) k0_pay38 (k0_pay39 la) (FloatOps.ofBits FTy.f32 0#32) q) (k0_pay46 k0_pay5 I (k0_pay37 la) k0_pay38 (k0_pay39 la) (FloatOps.ofBits FTy.f32 0#32) q k) st gn r
    = chunkOut (cumRows (extractStridedSlice S64x512 ![192, 0] la slices_S512x512_o192_0_S64x512)) q k v r gn st := by subst hI; rfl

/-- Chunk 4: its state. -/
theorem state_4 (I : IVec S64x512 32) (hI : I = iota .tc S64x512 32 [0] iota_S64x512_d0_w32) : k0_pay56 (k0_pay50 (k0_pay49 la) I 1#32) (k0_pay51 (k0_pay49 la) I 1#32) k v st
    = nextState (cumRows (extractStridedSlice S64x512 ![256, 0] la slices_S512x512_o256_0_S64x512)) k v st := by subst hI; rfl

/-- Chunk 4: its rows of output. -/
theorem out_4 (I : IVec S64x512 32) (hI : I = iota .tc S64x512 32 [0] iota_S64x512_d0_w32) : k0_pay59 (k0_pay55 k0_pay5 (k0_pay50 (k0_pay49 la) I 1#32) (k0_pay52 q) (FloatOps.ofBits FTy.f32 0x3D3504F3#32) k v st) (k0_pay57 k0_pay5 (k0_pay50 (k0_pay49 la) I 1#32) (k0_pay52 q) (FloatOps.ofBits FTy.f32 0x3D3504F3#32) k v st) k0_pay58 gn r
    = chunkOut (cumRows (extractStridedSlice S64x512 ![256, 0] la slices_S512x512_o256_0_S64x512)) q k v r gn st := by subst hI; rfl

/-- Chunk 5: its state. -/
theorem state_5 (I : IVec S64x512 32) (hI : I = iota .tc S64x512 32 [0] iota_S64x512_d0_w32) : k0_pay69 (k0_pay63 I (k0_pay60 la) k0_pay61) (k0_pay65 v) (k0_pay68 I (k0_pay60 la) k0_pay61 k) st
    = nextState (cumRows (extractStridedSlice S64x512 ![320, 0] la slices_S512x512_o320_0_S64x512)) k v st := by subst hI; rfl

/-- Chunk 5: its rows of output. -/
theorem out_5 (I : IVec S64x512 32) (hI : I = iota .tc S64x512 32 [0] iota_S64x512_d0_w32) : k0_pay70 k0_pay5 (k0_pay65 v) (k0_pay66 I (k0_pay60 la) k0_pay61 q) (k0_pay67 I (k0_pay60 la) k0_pay61 k) (constant S64x64 .f32 0x00000000#32) st gn r
    = chunkOut (cumRows (extractStridedSlice S64x512 ![320, 0] la slices_S512x512_o320_0_S64x512)) q k v r gn st := by subst hI; rfl

/-- Chunk 6: its state. -/
theorem state_6 : k0_pay76 (k0_pay71 la) (k0_pay72 la) k v st
    = nextState (cumRows (extractStridedSlice S64x512 ![384, 0] la slices_S512x512_o384_0_S64x512)) k v st := rfl

/-- Chunk 6: its rows of output. -/
theorem out_6 : k0_pay78 (k0_pay75 k0_pay5 (k0_pay71 la) q k v st) (k0_pay77 k0_pay5 (k0_pay71 la) q k v st) gn r
    = chunkOut (cumRows (extractStridedSlice S64x512 ![384, 0] la slices_S512x512_o384_0_S64x512)) q k v r gn st := rfl

/-- Chunk 7: its state. -/
theorem state_7 (I : IVec S64x512 32) (hI : I = iota .tc S64x512 32 [0] iota_S64x512_d0_w32) : k0_pay90 (k0_pay84 I (k0_pay79 la) k0_pay80 (k0_pay81 la) k0_pay82) (k0_pay85 k) (k0_pay86 v) (k0_pay89 I (k0_pay79 la) k0_pay80 (k0_pay81 la) k0_pay82) st
    = nextState (cumRows (extractStridedSlice S64x512 ![448, 0] la slices_S512x512_o448_0_S64x512)) k v st := by subst hI; rfl

/-- Chunk 7: its rows of output. -/
theorem out_7 (I : IVec S64x512 32) (hI : I = iota .tc S64x512 32 [0] iota_S64x512_d0_w32) : k0_pay1 (k0_pay91 k0_pay5 (k0_pay86 v) (k0_pay87 I (k0_pay79 la) k0_pay80 (k0_pay81 la) k0_pay82 q) (k0_pay88 I (k0_pay79 la) k0_pay80 (k0_pay81 la) k0_pay82 k) st gn r)
    = chunkOut (cumRows (extractStridedSlice S64x512 ![448, 0] la slices_S512x512_o448_0_S64x512)) q k v r gn st := by subst hI; rfl

end Cert.Gla

end
-- ==== Proof.Gla.Rows.lean ====
/- A grid point's 512 rows as eight chunks of 64: the carried state goes through the chunks one by one, and the point's block
   of output holds each chunk's rows. -/
module

public import proofs.«01_k».proof.Proof.Gla.Unroll
public import Idealize.ShloMosaic.Lib.Pipeline.ValueKit

@[expose] public section

set_option maxRecDepth 16384

noncomputable section

namespace Cert.Gla

open Idealize.ShloMosaic Idealize.ShloMosaic.TcCoe Cert.KernelIdeal Cert.KernelIdeal.Gen Idealize.SL.Sem

/-- Rows `64n … 64n+63` of a block of queries or keys. -/
def rows512 (x : Vec Ideal S1x512x512 .f32) (n : ℕ) : Vec Ideal S1x64x512 .f32 :=
  fun j => x (ix3 0 ⟨(64 * n + (j 1).val) % 512, Nat.mod_lt _ (by decide)⟩ (j 2))

/-- Rows `64n … 64n+63` of a block of values or output gates. -/
def rows1024 (x : Vec Ideal S1x512x1024 .f32) (n : ℕ) : Vec Ideal S1x64x1024 .f32 :=
  fun j => x (ix3 0 ⟨(64 * n + (j 1).val) % 512, Nat.mod_lt _ (by decide)⟩ (j 2))

/-- Rows `64n … 64n+63` of the gates' logarithms. -/
def gRows (la : FVec Ideal S512x512 .f32) (n : ℕ) : FVec Ideal S64x512 .f32 :=
  fun j => la (ix2 ⟨(64 * n + (j 0).val) % 512, Nat.mod_lt _ (by decide)⟩ (j 1))

theorem ldA_0 (x : Vec Ideal S1x512x512 .f32) :
    View.ld x (Rect.unit ![0, 0, 0] ![1, 64, 512] inb_S1x512x512_S1x64x512_0_0_0) = rows512 x 0 := by
  funext j; idx_vars j; pointwise [rows512]; blk_ext
theorem ldB_0 (x : Vec Ideal S1x512x1024 .f32) :
    View.ld x (Rect.unit ![0, 0, 0] ![1, 64, 1024] inb_S1x512x1024_S1x64x1024_0_0_0) = rows1024 x 0 := by
  funext j; idx_vars j; pointwise [rows1024]; blk_ext
theorem slice_0 (la : FVec Ideal S512x512 .f32) :
    extractStridedSlice S64x512 ![0, 0] la slices_S512x512_o0_0_S64x512 = gRows la 0 := by
  funext j; idx_vars j; pointwise [gRows]; blk_ext
theorem ldA_1 (x : Vec Ideal S1x512x512 .f32) :
    View.ld x (Rect.unit ![0, 64, 0] ![1, 64, 512] inb_S1x512x512_S1x64x512_0_64_0) = rows512 x 1 := by
  funext j; idx_vars j; pointwise [rows512]; blk_ext
theorem ldB_1 (x : Vec Ideal S1x512x1024 .f32) :
    View.ld x (Rect.unit ![0, 64, 0] ![1, 64, 1024] inb_S1x512x1024_S1x64x1024_0_64_0) = rows1024 x 1 := by
  funext j; idx_vars j; pointwise [rows1024]; blk_ext
theorem slice_1 (la : FVec Ideal S512x512 .f32) :
    extractStridedSlice S64x512 ![64, 0] la slices_S512x512_o64_0_S64x512 = gRows la 1 := by
  funext j; idx_vars j; pointwise [gRows]; blk_ext
theorem ldA_2 (x : Vec Ideal S1x512x512 .f32) :
    View.ld x (Rect.unit ![0, 128, 0] ![1, 64, 512] inb_S1x512x512_S1x64x512_0_128_0) = rows512 x 2 := by
  funext j; idx_vars j; pointwise [rows512]; blk_ext
theorem ldB_2 (x : Vec Ideal S1x512x1024 .f32) :
    View.ld x (Rect.unit ![0, 128, 0] ![1, 64, 1024] inb_S1x512x1024_S1x64x1024_0_128_0) = rows1024 x 2 := by
  funext j; idx_vars j; pointwise [rows1024]; blk_ext
theorem slice_2 (la : FVec Ideal S512x512 .f32) :
    extractStridedSlice S64x512 ![128, 0] la slices_S512x512_o128_0_S64x512 = gRows la 2 := by
  funext j; idx_vars j; pointwise [gRows]; blk_ext
theorem ldA_3 (x : Vec Ideal S1x512x512 .f32) :
    View.ld x (Rect.unit ![0, 192, 0] ![1, 64, 512] inb_S1x512x512_S1x64x512_0_192_0) = rows512 x 3 := by
  funext j; idx_vars j; pointwise [rows512]; blk_ext
theorem ldB_3 (x : Vec Ideal S1x512x1024 .f32) :
    View.ld x (Rect.unit ![0, 192, 0] ![1, 64, 1024] inb_S1x512x1024_S1x64x1024_0_192_0) = rows1024 x 3 := by
  funext j; idx_vars j; pointwise [rows1024]; blk_ext
theorem slice_3 (la : FVec Ideal S512x512 .f32) :
    extractStridedSlice S64x512 ![192, 0] la slices_S512x512_o192_0_S64x512 = gRows la 3 := by
  funext j; idx_vars j; pointwise [gRows]; blk_ext
theorem ldA_4 (x : Vec Ideal S1x512x512 .f32) :
    View.ld x (Rect.unit ![0, 256, 0] ![1, 64, 512] inb_S1x512x512_S1x64x512_0_256_0) = rows512 x 4 := by
  funext j; idx_vars j; pointwise [rows512]; blk_ext
theorem ldB_4 (x : Vec Ideal S1x512x1024 .f32) :
    View.ld x (Rect.unit ![0, 256, 0] ![1, 64, 1024] inb_S1x512x1024_S1x64x1024_0_256_0) = rows1024 x 4 := by
  funext j; idx_vars j; pointwise [rows1024]; blk_ext
theorem slice_4 (la : FVec Ideal S512x512 .f32) :
    extractStridedSlice S64x512 ![256, 0] la slices_S512x512_o256_0_S64x512 = gRows la 4 := by
  funext j; idx_vars j; pointwise [gRows]; blk_ext
theorem ldA_5 (x : Vec Ideal S1x512x512 .f32) :
    View.ld x (Rect.unit ![0, 320, 0] ![1, 64, 512] inb_S1x512x512_S1x64x512_0_320_0) = rows512 x 5 := by
  funext j; idx_vars j; pointwise [rows512]; blk_ext
theorem ldB_5 (x : Vec Ideal S1x512x1024 .f32) :
    View.ld x (Rect.unit ![0, 320, 0] ![1, 64, 1024] inb_S1x512x1024_S1x64x1024_0_320_0) = rows1024 x 5 := by
  funext j; idx_vars j; pointwise [rows1024]; blk_ext
theorem slice_5 (la : FVec Ideal S512x512 .f32) :
    extractStridedSlice S64x512 ![320, 0] la slices_S512x512_o320_0_S64x512 = gRows la 5 := by
  funext j; idx_vars j; pointwise [gRows]; blk_ext
theorem ldA_6 (x : Vec Ideal S1x512x512 .f32) :
    View.ld x (Rect.unit ![0, 384, 0] ![1, 64, 512] inb_S1x512x512_S1x64x512_0_384_0) = rows512 x 6 := by
  funext j; idx_vars j; pointwise [rows512]; blk_ext
theorem ldB_6 (x : Vec Ideal S1x512x1024 .f32) :
    View.ld x (Rect.unit ![0, 384, 0] ![1, 64, 1024] inb_S1x512x1024_S1x64x1024_0_384_0) = rows1024 x 6 := by
  funext j; idx_vars j; pointwise [rows1024]; blk_ext
theorem slice_6 (la : FVec Ideal S512x512 .f32) :
    extractStridedSlice S64x512 ![384, 0] la slices_S512x512_o384_0_S64x512 = gRows la 6 := by
  funext j; idx_vars j; pointwise [gRows]; blk_ext
theorem ldA_7 (x : Vec Ideal S1x512x512 .f32) :
    View.ld x (Rect.unit ![0, 448, 0] ![1, 64, 512] inb_S1x512x512_S1x64x512_0_448_0) = rows512 x 7 := by
  funext j; idx_vars j; pointwise [rows512]; blk_ext
theorem ldB_7 (x : Vec Ideal S1x512x1024 .f32) :
    View.ld x (Rect.unit ![0, 448, 0] ![1, 64, 1024] inb_S1x512x1024_S1x64x1024_0_448_0) = rows1024 x 7 := by
  funext j; idx_vars j; pointwise [rows1024]; blk_ext
theorem slice_7 (la : FVec Ideal S512x512 .f32) :
    extractStridedSlice S64x512 ![448, 0] la slices_S512x512_o448_0_S64x512 = gRows la 7 := by
  funext j; idx_vars j; pointwise [gRows]; blk_ext

end Cert.Gla

end
-- ==== Proof.Gla.Point.lean ====
/- What one grid point leaves, in the case that starts a sequence (A), goes on with it (B) and ends it (C): the carried state
   after its eight chunks, the block of output, and in case C the state handed back. -/
module

public import proofs.«01_k».proof.Proof.Gla.Rows

@[expose] public section

set_option maxRecDepth 16384

noncomputable section

namespace Cert.Gla

open Idealize.ShloMosaic Idealize.ShloMosaic.TcCoe Cert.KernelIdeal Cert.KernelIdeal.Gen Idealize.SL.Sem

/-- The state after `n` chunks of a point, from the state the point starts with. -/
def pointState (la : FVec Ideal S512x512 .f32) (k : Vec Ideal S1x512x512 .f32) (v : Vec Ideal S1x512x1024 .f32)
    (st : Vec Ideal S1024x512 .f32) : ℕ → Vec Ideal S1024x512 .f32
  | 0 => st
  | n + 1 => nextState (cumRows (gRows la n)) (rows512 k n) (rows1024 v n) (pointState la k v st n)

/-- The point's block of output: row `64n+s` is row `s` of chunk `n`. -/
def pointOut (la : FVec Ideal S512x512 .f32) (q k : Vec Ideal S1x512x512 .f32) (v r : Vec Ideal S1x512x1024 .f32)
    (gn : Vec Ideal S1x1024 .f32) (st : Vec Ideal S1024x512 .f32) : Vec Ideal S1x512x1024 .bf16 := fun y =>
  chunkOut (cumRows (gRows la ((y 1).val / 64))) (rows512 q ((y 1).val / 64)) (rows512 k ((y 1).val / 64))
    (rows1024 v ((y 1).val / 64)) (rows1024 r ((y 1).val / 64)) gn (pointState la k v st ((y 1).val / 64))
    (ix3 0 ⟨(y 1).val % 64, Nat.mod_lt _ (by decide)⟩ (y 2))

/-- The same at chunk `n`, row `s`. -/
theorem pointOut_at (la : FVec Ideal S512x512 .f32) (q k : Vec Ideal S1x512x512 .f32) (v r : Vec Ideal S1x512x1024 .f32)
    (gn : Vec Ideal S1x1024 .f32) (st : Vec Ideal S1024x512 .f32) (y : S1x512x1024.Idx) (x : S1x64x1024.Idx) (n : ℕ)
    (h1 : (y 1).val = 64 * n + (x 1).val) (h2 : (y 2).val = (x 2).val) :
    pointOut la q k v r gn st y = chunkOut (cumRows (gRows la n)) (rows512 q n) (rows512 k n) (rows1024 v n) (rows1024 r n) gn
      (pointState la k v st n) x := by
  have hx : (x 1).val < 64 := (x 1).isLt
  have hn : (y 1).val / 64 = n := by omega
  have hm : (y 1).val % 64 = (x 1).val := by omega
  unfold pointOut
  rw [hn]
  congr 1
  funext a
  fin_cases a
  · exact Fin.ext (by have h0 : (x 0).val < 1 := (x 0).isLt
                      show 0 = (x 0).val
                      omega)
  · exact Fin.ext hm
  · exact Fin.ext h2

/-- Case A: the carried state after the point. -/
theorem sout_A (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x512x1024 .bf16) (harg12 : arg12.IsWhole) (arg13 : Memref sig .tc .vmem S1x1x512x1024 .f32) (harg13 : arg13.IsWhole) (arg14 : Memref sig .tc .vmem S1024x512 .f32) (harg14 : arg14.IsWhole) (hc0 : cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x1024 .f32) (x8 : Vec Ideal S1x1x512x1024 .f32) : sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = pointState (k0_pay4 x4 x5 x6) x1 x2 (k0_pay3 x8) 8 := by
  frame_out
  simp (disch := rfl) only [state_7, state_6, state_5, state_4, state_3, state_2, state_1, state_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
  rfl

/-- Case A: the point's block of output. -/
theorem out_A (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x512x1024 .bf16) (harg12 : arg12.IsWhole) (arg13 : Memref sig .tc .vmem S1x1x512x1024 .f32) (harg13 : arg13.IsWhole) (arg14 : Memref sig .tc .vmem S1024x512 .f32) (harg14 : arg14.IsWhole) (hc0 : cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x1024 .f32) (x8 : Vec Ideal S1x1x512x1024 .f32) (y : S1x512x1024.Idx) : out0_A_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y = pointOut (k0_pay4 x4 x5 x6) x0 x1 x2 x3 x7 (k0_pay3 x8) y := by
  frame_out
  canon_tiles x h
  case piece0 =>
    rw [pointOut_at _ _ _ _ _ _ _ y x 7 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece1 =>
    rw [pointOut_at _ _ _ _ _ _ _ y x 6 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece2 =>
    rw [pointOut_at _ _ _ _ _ _ _ y x 5 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece3 =>
    rw [pointOut_at _ _ _ _ _ _ _ y x 4 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece4 =>
    rw [pointOut_at _ _ _ _ _ _ _ y x 3 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece5 =>
    rw [pointOut_at _ _ _ _ _ _ _ y x 2 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece6 =>
    rw [pointOut_at _ _ _ _ _ _ _ y x 1 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece7 =>
    rw [pointOut_at _ _ _ _ _ _ _ y x 0 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl

/-- Case B: the carried state after the point. -/
theorem sout_B (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x512x1024 .bf16) (harg12 : arg12.IsWhole) (arg13 : Memref sig .tc .vmem S1x1x512x1024 .f32) (harg13 : arg13.IsWhole) (arg14 : Memref sig .tc .vmem S1024x512 .f32) (harg14 : arg14.IsWhole) (hc0 : ¬cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x1024 .f32) (x8 : Vec Ideal S1x1x512x1024 .f32) (xs0 : Vec Ideal S1024x512 .f32) : sout0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 = pointState (k0_pay4 x4 x5 x6) x1 x2 xs0 8 := by
  frame_out
  simp (disch := rfl) only [state_7, state_6, state_5, state_4, state_3, state_2, state_1, state_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
  rfl

/-- Case B: the point's block of output. -/
theorem out_B (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x512x1024 .bf16) (harg12 : arg12.IsWhole) (arg13 : Memref sig .tc .vmem S1x1x512x1024 .f32) (harg13 : arg13.IsWhole) (arg14 : Memref sig .tc .vmem S1024x512 .f32) (harg14 : arg14.IsWhole) (hc0 : ¬cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x1024 .f32) (x8 : Vec Ideal S1x1x512x1024 .f32) (xs0 : Vec Ideal S1024x512 .f32) (y : S1x512x1024.Idx) : out0_B_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 y = pointOut (k0_pay4 x4 x5 x6) x0 x1 x2 x3 x7 xs0 y := by
  frame_out
  canon_tiles x h
  case piece0 =>
    rw [pointOut_at _ _ _ _ _ _ _ y x 7 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece1 =>
    rw [pointOut_at _ _ _ _ _ _ _ y x 6 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece2 =>
    rw [pointOut_at _ _ _ _ _ _ _ y x 5 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece3 =>
    rw [pointOut_at _ _ _ _ _ _ _ y x 4 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece4 =>
    rw [pointOut_at _ _ _ _ _ _ _ y x 3 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece5 =>
    rw [pointOut_at _ _ _ _ _ _ _ y x 2 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece6 =>
    rw [pointOut_at _ _ _ _ _ _ _ y x 1 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece7 =>
    rw [pointOut_at _ _ _ _ _ _ _ y x 0 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl

/-- Case C: the carried state after the point. -/
theorem sout_C (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x512x1024 .bf16) (harg12 : arg12.IsWhole) (arg13 : Memref sig .tc .vmem S1x1x512x1024 .f32) (harg13 : arg13.IsWhole) (arg14 : Memref sig .tc .vmem S1024x512 .f32) (harg14 : arg14.IsWhole) (hc0 : ¬cond0_0 i) (hc1 : cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x1024 .f32) (x8 : Vec Ideal S1x1x512x1024 .f32) (xs0 : Vec Ideal S1024x512 .f32) : sout0_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 = pointState (k0_pay4 x4 x5 x6) x1 x2 xs0 8 := by
  frame_out
  simp (disch := rfl) only [state_7, state_6, state_5, state_4, state_3, state_2, state_1, state_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
  rfl

/-- Case C: the point's block of output. -/
theorem out_C (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x512x1024 .bf16) (harg12 : arg12.IsWhole) (arg13 : Memref sig .tc .vmem S1x1x512x1024 .f32) (harg13 : arg13.IsWhole) (arg14 : Memref sig .tc .vmem S1024x512 .f32) (harg14 : arg14.IsWhole) (hc0 : ¬cond0_0 i) (hc1 : cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x1024 .f32) (x8 : Vec Ideal S1x1x512x1024 .f32) (xs0 : Vec Ideal S1024x512 .f32) (y : S1x512x1024.Idx) : out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 y = pointOut (k0_pay4 x4 x5 x6) x0 x1 x2 x3 x7 xs0 y := by
  frame_out
  canon_tiles x h
  case piece0 =>
    rw [pointOut_at _ _ _ _ _ _ _ y x 7 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece1 =>
    rw [pointOut_at _ _ _ _ _ _ _ y x 6 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece2 =>
    rw [pointOut_at _ _ _ _ _ _ _ y x 5 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece3 =>
    rw [pointOut_at _ _ _ _ _ _ _ y x 4 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece4 =>
    rw [pointOut_at _ _ _ _ _ _ _ y x 3 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece5 =>
    rw [pointOut_at _ _ _ _ _ _ _ y x 2 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece6 =>
    rw [pointOut_at _ _ _ _ _ _ _ y x 1 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl
  case piece7 =>
    rw [pointOut_at _ _ _ _ _ _ _ y x 0 (by omega) (by omega)]
    simp (disch := rfl) only [state_7, state_6, state_5, state_4, state_3, state_2, state_1, state_0, out_7, out_6, out_5, out_4, out_3, out_2, out_1, out_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
    rfl

/-- Case C: the state handed back. -/
theorem out_C_state (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x512x1024 .bf16) (harg12 : arg12.IsWhole) (arg13 : Memref sig .tc .vmem S1x1x512x1024 .f32) (harg13 : arg13.IsWhole) (arg14 : Memref sig .tc .vmem S1024x512 .f32) (harg14 : arg14.IsWhole) (hc0 : ¬cond0_0 i) (hc1 : cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x1024 .f32) (x8 : Vec Ideal S1x1x512x1024 .f32) (xs0 : Vec Ideal S1024x512 .f32) : out0_C_10 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 = k0_pay2 (pointState (k0_pay4 x4 x5 x6) x1 x2 xs0 8) := by
  frame_out
  simp (disch := rfl) only [state_7, state_6, state_5, state_4, state_3, state_2, state_1, state_0, ldA_0, ldB_0, slice_0, ldA_1, ldB_1, slice_1, ldA_2, ldB_2, slice_2, ldA_3, ldB_3, slice_3, ldA_4, ldB_4, slice_4, ldA_5, ldB_5, slice_5, ldA_6, ldB_6, slice_6, ldA_7, ldB_7, slice_7]
  rfl

end Cert.Gla

end
-- ==== Proof.Gla.Spec.lean ====
/- Gated linear attention on the extended reals, in chunks of 64 tokens. Both programs are shown to compute these functions. A
   stream gives a row of numbers for every token; a chunk is 64 rows of a stream. -/
module

public import Idealize.ShloMosaic.Lib.Pipeline.ValueKit

@[expose] public section

noncomputable section

namespace Cert.Gla

open Idealize.ShloMosaic

/-- Chunk `n` of a stream. -/
def chunk {α : Type} (f : ℕ → α → EReal) (n : ℕ) : Fin 64 → α → EReal := fun s d => f (64 * n + s.val) d

/-- The sum of the last `m` numbers up to number `r`, numbers before the first counting for nothing. -/
def win (g : ℕ → EReal) (m r : ℕ) : EReal := ∑ i ∈ Finset.range m, if i ≤ r then g (r - i) else 0

/-- The sum of a chunk's rows up to row `s`. -/
def cum (a : Fin 64 → Fin 512 → EReal) (s : Fin 64) (d : Fin 512) : EReal :=
  win (fun i => if h : i < 64 then a ⟨i, h⟩ d else 0) 64 s.val

/-- The state after a chunk, `b` the summed logarithms of the gates. -/
def nextS (b k : Fin 64 → Fin 512 → EReal) (v : Fin 64 → Fin 1024 → EReal) (S : Fin 512 → Fin 1024 → EReal) :
    Fin 512 → Fin 1024 → EReal := fun d e =>
  Ideal.exp (b 63 d) * S d e + ∑ s, k s d * Ideal.exp (b 63 d - b s d) * v s e

/-- A query decayed to its row, scaled by `1/√512` in binary32. -/
def qDec (b q : Fin 64 → Fin 512 → EReal) (s : Fin 64) (d : Fin 512) : EReal :=
  q s d * Ideal.ofBits .f32 0x3D3504F3#32 * Ideal.exp (b s d)

/-- Row `s` of a chunk's output before the norm: what the state holds for the row, and the rows of the chunk up to it. -/
def outS (b q k : Fin 64 → Fin 512 → EReal) (v : Fin 64 → Fin 1024 → EReal) (S : Fin 512 → Fin 1024 → EReal)
    (s : Fin 64) (e : Fin 1024) : EReal :=
  (∑ d, qDec b q s d * S d e) +
    ∑ j : Fin 64, if j.val ≤ s.val then (∑ d, qDec b q s d * (k j d * Ideal.exp (-b j d))) * v j e else 0

/-- The output's norm over a head's 1024 numbers, its scale `gn`, and the gate `r · logistic r`. -/
def normGate (o gn r : Fin 1024 → EReal) (e : Fin 1024) : EReal :=
  o e * Ideal.rsqrt (Ideal.div (∑ x, o x * o x) (Ideal.ofBits .f32 0x44800000#32) + Ideal.ofBits .f32 0x358637BD#32) * gn e *
    (r e * Ideal.logistic (r e))

/-- The logarithm of a gate: `log σ(z) / 16`. -/
def logGate (z : EReal) : EReal :=
  Ideal.div (-(max (-z) 0 + Ideal.log1p (Ideal.exp (-max z (-z))))) (Ideal.ofBits .f32 0x41800000#32)

/-- The state after `n` chunks. -/
def stateS (a k : ℕ → Fin 512 → EReal) (v : ℕ → Fin 1024 → EReal) (S : Fin 512 → Fin 1024 → EReal) :
    ℕ → Fin 512 → Fin 1024 → EReal
  | 0 => S
  | n + 1 => nextS (cum (chunk a n)) (chunk k n) (chunk v n) (stateS a k v S n)

/-- The output of chunk `n` before the norm. -/
def chunkO (a q k : ℕ → Fin 512 → EReal) (v : ℕ → Fin 1024 → EReal) (S : Fin 512 → Fin 1024 → EReal) (n : ℕ) :
    Fin 64 → Fin 1024 → EReal :=
  outS (cum (chunk a n)) (chunk q n) (chunk k n) (chunk v n) (stateS a k v S n)

/-- Going on for `n` chunks from the state after `m` is going on for `m + n` chunks. -/
theorem stateS_add (a k : ℕ → Fin 512 → EReal) (v : ℕ → Fin 1024 → EReal) (S : Fin 512 → Fin 1024 → EReal) (m n : ℕ) :
    stateS (fun i => a (64 * m + i)) (fun i => k (64 * m + i)) (fun i => v (64 * m + i)) (stateS a k v S m) n =
      stateS a k v S (m + n) := by
  induction n with
  | zero => rfl
  | succ n ih =>
    have e (β : Type) (f : ℕ → β → EReal) : chunk (fun i => f (64 * m + i)) n = chunk f (m + n) := by
      funext s d; exact congrArg (fun i => f i d) (by omega)
    show nextS _ _ _ _ = nextS _ _ _ _
    rw [ih, e, e, e]; rfl

/-- The state after `n` chunks looks at the first `64 n` rows only. -/
theorem stateS_congr {a a' k k' : ℕ → Fin 512 → EReal} {v v' : ℕ → Fin 1024 → EReal} (S : Fin 512 → Fin 1024 → EReal) (n : ℕ)
    (ha : ∀ i < 64 * n, a i = a' i) (hk : ∀ i < 64 * n, k i = k' i) (hv : ∀ i < 64 * n, v i = v' i) :
    stateS a k v S n = stateS a' k' v' S n := by
  induction n with
  | zero => rfl
  | succ n ih =>
    have e (β : Type) (f f' : ℕ → β → EReal) (h : ∀ i < 64 * (n + 1), f i = f' i) : chunk f n = chunk f' n := by
      funext s d; exact congrFun (h _ (by omega)) d
    show nextS _ _ _ _ = nextS _ _ _ _
    rw [ih (fun i hi => ha i (by omega)) (fun i hi => hk i (by omega)) (fun i hi => hv i (by omega)), e _ _ _ ha, e _ _ _ hk,
      e _ _ _ hv]

/-- Streams that are the rows from chunk `m` on, from the state after `m` chunks, give the output of chunk `m + n`. -/
theorem chunkO_add {a a' q q' k k' : ℕ → Fin 512 → EReal} {v v' : ℕ → Fin 1024 → EReal} {S S' : Fin 512 → Fin 1024 → EReal}
    (m n : ℕ) (ha : ∀ i < 64 * (n + 1), a' i = a (64 * m + i)) (hq : ∀ i < 64 * (n + 1), q' i = q (64 * m + i))
    (hk : ∀ i < 64 * (n + 1), k' i = k (64 * m + i)) (hv : ∀ i < 64 * (n + 1), v' i = v (64 * m + i))
    (hS : S' = stateS a k v S m) : chunkO a' q' k' v' S' n = chunkO a q k v S (m + n) := by
  have e (β : Type) (f f' : ℕ → β → EReal) (h : ∀ i < 64 * (n + 1), f' i = f (64 * m + i)) : chunk f' n = chunk f (m + n) := by
    funext s d
    show f' _ d = f _ d
    rw [h _ (by omega)]
    exact congrArg (fun i => f i d) (by omega)
  unfold chunkO
  rw [e _ _ _ ha, e _ _ _ hq, e _ _ _ hk, e _ _ _ hv, hS, ← stateS_add,
    stateS_congr (stateS a k v S m) n (fun i hi => ha i (by omega)) (fun i hi => hk i (by omega)) (fun i hi => hv i (by omega))]

/-- Two neighbouring windows are one of twice the length. -/
theorem win_double (g : ℕ → EReal) (m r : ℕ) : win g m r + (if m ≤ r then win g m (r - m) else 0) = win g (m + m) r := by
  unfold win
  rw [Finset.sum_range_add]
  congr 1
  by_cases h : m ≤ r
  · rw [if_pos h]
    refine Finset.sum_congr rfl fun i _ => ?_
    by_cases h' : i ≤ r - m
    · rw [if_pos h', if_pos (by omega)]; exact congrArg g (by omega)
    · rw [if_neg h', if_neg (by omega)]
  · rw [if_neg h]
    exact (Finset.sum_eq_zero fun i _ => if_neg (by omega)).symm

end Cert.Gla

end
-- ==== Proof.Gla.ChunkAt.lean ====
/- A chunk of the kernel at an index: the six shifted additions make the running sum, the next state and the rows of output are
   the equations of gated linear attention (the kernel holds the state transposed), and the gate is `log σ / 16`. -/
module

public import proofs.«01_k».proof.Proof.Gla.Point
public import proofs.«01_k».proof.Proof.Gla.Spec

@[expose] public section

set_option maxRecDepth 16384

noncomputable section

namespace Cert.Gla

open Idealize.ShloMosaic Idealize.ShloMosaic.TcCoe Cert.KernelIdeal Cert.KernelIdeal.Gen Idealize.SL.Sem

/-- The test of two small words by their size. -/
theorem pick_ge (x y : ℕ) (hx : x < 2147483648) (hy : y < 2147483648) (p q : EReal) :
    Scalar.select (IntOp.cmpi .sge (BitVec.ofNat 32 x) (BitVec.ofNat 32 y)) p q = if y ≤ x then p else q := by
  rw [Idealize.ShloMosaic.WordCmp.cmpi_sge_ofNat hx hy, WordCmp.select_ofBool]; simp

/-- The column `d` of a tensor of 64 rows, as numbers in a row. -/
def col (x : FVec Ideal S64x512 .f32) (d : Fin 512) (i : ℕ) : EReal := if h : i < 64 then x (ix2 ⟨i, h⟩ d) else 0

/-- A shifted addition doubles the window summed over. -/
theorem rollAdd_win (m : ℕ) (g : ℕ → EReal) (x : FVec Ideal S64x512 .f32) (d : Fin 512)
    (hx : ∀ r : Fin 64, x (ix2 r d) = win g m r.val)
    (hr : ∀ r : Fin 64, rollAdd (BitVec.ofNat 32 m) x (ix2 r d) = x (ix2 r d) + Scalar.select (IntOp.cmpi .sge (BitVec.ofNat 32 r.val)
      (BitVec.ofNat 32 m)) (x (ix2 ⟨(r.val + 64 - m) % 64, Nat.mod_lt _ (by decide)⟩ d)) 0) (hm : m ≤ 32) (r : Fin 64) :
    rollAdd (BitVec.ofNat 32 m) x (ix2 r d) = win g (m + m) r.val := by
  have h64 : r.val < 64 := r.isLt
  rw [hr, pick_ge _ _ (by omega) (by omega), ← win_double, hx]
  congr 1
  by_cases h : m ≤ r.val
  · rw [if_pos h, if_pos h, hx]
    exact congrArg (win g m) (by show (r.val + 64 - m) % 64 = r.val - m; omega)
  · rw [if_neg h, if_neg h]

theorem roll_1 (x : FVec Ideal S64x512 .f32) (d : Fin 512) (r : Fin 64) :
    rollAdd 1#32 x (ix2 r d) = x (ix2 r d) + Scalar.select (IntOp.cmpi .sge (BitVec.ofNat 32 r.val)
      (BitVec.ofNat 32 1)) (x (ix2 ⟨(r.val + 64 - 1) % 64, Nat.mod_lt _ (by decide)⟩ d)) 0 := by pointwise [rollAdd]
theorem roll_2 (x : FVec Ideal S64x512 .f32) (d : Fin 512) (r : Fin 64) :
    rollAdd 2#32 x (ix2 r d) = x (ix2 r d) + Scalar.select (IntOp.cmpi .sge (BitVec.ofNat 32 r.val)
      (BitVec.ofNat 32 2)) (x (ix2 ⟨(r.val + 64 - 2) % 64, Nat.mod_lt _ (by decide)⟩ d)) 0 := by pointwise [rollAdd]
theorem roll_4 (x : FVec Ideal S64x512 .f32) (d : Fin 512) (r : Fin 64) :
    rollAdd 4#32 x (ix2 r d) = x (ix2 r d) + Scalar.select (IntOp.cmpi .sge (BitVec.ofNat 32 r.val)
      (BitVec.ofNat 32 4)) (x (ix2 ⟨(r.val + 64 - 4) % 64, Nat.mod_lt _ (by decide)⟩ d)) 0 := by pointwise [rollAdd]
theorem roll_8 (x : FVec Ideal S64x512 .f32) (d : Fin 512) (r : Fin 64) :
    rollAdd 8#32 x (ix2 r d) = x (ix2 r d) + Scalar.select (IntOp.cmpi .sge (BitVec.ofNat 32 r.val)
      (BitVec.ofNat 32 8)) (x (ix2 ⟨(r.val + 64 - 8) % 64, Nat.mod_lt _ (by decide)⟩ d)) 0 := by pointwise [rollAdd]
theorem roll_16 (x : FVec Ideal S64x512 .f32) (d : Fin 512) (r : Fin 64) :
    rollAdd 16#32 x (ix2 r d) = x (ix2 r d) + Scalar.select (IntOp.cmpi .sge (BitVec.ofNat 32 r.val)
      (BitVec.ofNat 32 16)) (x (ix2 ⟨(r.val + 64 - 16) % 64, Nat.mod_lt _ (by decide)⟩ d)) 0 := by pointwise [rollAdd]
theorem roll_32 (x : FVec Ideal S64x512 .f32) (d : Fin 512) (r : Fin 64) :
    rollAdd 32#32 x (ix2 r d) = x (ix2 r d) + Scalar.select (IntOp.cmpi .sge (BitVec.ofNat 32 r.val)
      (BitVec.ofNat 32 32)) (x (ix2 ⟨(r.val + 64 - 32) % 64, Nat.mod_lt _ (by decide)⟩ d)) 0 := by pointwise [rollAdd]

/-- Six shifted additions: the running sum. -/
theorem cumRows_at (x : FVec Ideal S64x512 .f32) (s : Fin 64) (d : Fin 512) :
    cumRows x (ix2 s d) = cum (fun s d => x (ix2 s d)) s d := by
  have h0 (r : Fin 64) : x (ix2 r d) = win (col x d) 1 r.val := by
    simp [win, col]
  have h1 := rollAdd_win 1 (col x d) x d h0 (roll_1 _ d) (by decide)
  have h2 := rollAdd_win 2 (col x d) _ d h1 (roll_2 _ d) (by decide)
  have h3 := rollAdd_win 4 (col x d) _ d h2 (roll_4 _ d) (by decide)
  have h4 := rollAdd_win 8 (col x d) _ d h3 (roll_8 _ d) (by decide)
  have h5 := rollAdd_win 16 (col x d) _ d h4 (roll_16 _ d) (by decide)
  exact rollAdd_win 32 (col x d) _ d h5 (roll_32 _ d) (by decide) s

/-- The next state. -/
theorem nextState_at (b : FVec Ideal S64x512 .f32) (k : Vec Ideal S1x64x512 .f32) (v : Vec Ideal S1x64x1024 .f32)
    (st : Vec Ideal S1024x512 .f32) (e : Fin 1024) (d : Fin 512) :
    nextState b k v st (ix2 e d) = nextS (fun s d => b (ix2 s d)) (fun s d => k (ix3 0 s d)) (fun s e => v (ix3 0 s e))
      (fun d e => st (ix2 e d)) d e := by
  unfold nextS
  refine Eq.trans (b := st (ix2 e d) * Ideal.exp (b (ix2 63 d)) +
    ∑ x, v (ix3 0 x e) * (k (ix3 0 x d) * Ideal.exp (b (ix2 63 d) - b (ix2 x d)))) ?_ ?_
  · pointwise [nextState, k0_pay12, k0_pay10, k0_pay11]
  · rw [mul_comm]; congr 1
    exact Finset.sum_congr rfl fun x _ => mul_comm _ _

/-- A chunk's rows of output. -/
theorem chunkOut_at (b : FVec Ideal S64x512 .f32) (q k : Vec Ideal S1x64x512 .f32) (v r : Vec Ideal S1x64x1024 .f32)
    (gn : Vec Ideal S1x1024 .f32) (st : Vec Ideal S1024x512 .f32) (s : Fin 64) (e : Fin 1024) :
    chunkOut b q k v r gn st (ix3 0 s e) = normGate
      (outS (fun s d => b (ix2 s d)) (fun s d => q (ix3 0 s d)) (fun s d => k (ix3 0 s d)) (fun s e => v (ix3 0 s e))
        (fun d e => st (ix2 e d)) s) (fun e => gn (ix2 0 e)) (fun e => r (ix3 0 s e)) e := by
  have hO (e : Fin 1024) : outS (fun s d => b (ix2 s d)) (fun s d => q (ix3 0 s d)) (fun s d => k (ix3 0 s d))
      (fun s e => v (ix3 0 s e)) (fun d e => st (ix2 e d)) s e =
      ∑ x, q (ix3 0 s x) * Ideal.ofBits FTy.f32 1026884851#32 * Ideal.exp (b (ix2 s x)) * st (ix2 e x) +
      ∑ x : Fin 64, Scalar.select (IntOp.cmpi .sge (BitVec.ofNat 32 s.val) (BitVec.ofNat 32 x.val))
        ((∑ x_1, q (ix3 0 s x_1) * Ideal.ofBits FTy.f32 1026884851#32 * Ideal.exp (b (ix2 s x_1)) *
          (k (ix3 0 x x_1) * Ideal.exp (0 - b (ix2 x x_1)))) * v (ix3 0 x e)) 0 := by
    unfold outS qDec
    congr 1
    refine Finset.sum_congr rfl fun x _ => ?_
    rw [pick_ge _ _ (by have := s.isLt; omega) (by have := x.isLt; omega)]
    simp only [zero_sub]
  unfold normGate
  simp only [hO]
  pointwise [chunkOut, k0_pay13, k0_pay14, k0_pay5, k0_pay9, k0_pay10, k0_pay11]

/-- Division by sixteen is multiplication by its inverse. -/
theorem div_sixteen (x : EReal) : Ideal.div x (Ideal.ofBits .f32 0x41800000#32) = x * Ideal.ofBits .f32 0x3D800000#32 := by
  have h1 : Ideal.ofBits .f32 0x41800000#32 = ((16 : ℝ) : EReal) := by
    simp [Ideal.ofBits, Ideal.ieee, -EReal.coe_mul]; norm_num
  have h2 : Ideal.ofBits .f32 0x3D800000#32 = ((1 / 16 : ℝ) : EReal) := by
    simp [Ideal.ofBits, Ideal.ieee, -EReal.coe_mul]; norm_num
  rw [h1, h2, Ideal.div_coe (by norm_num)]

/-- The gate's logarithm, the contraction still over the padded 128 columns. -/
theorem gate_at (z : Vec Ideal S1x512x128 .f32) (wg : Vec Ideal S128x512 .bf16) (bg : Vec Ideal S1x512 .f32) (r d : Fin 512) :
    k0_pay4 z wg bg (ix2 r d) = logGate (∑ x, z (ix3 0 r x) * wg (ix2 x d) + bg (ix2 0 d)) := by
  unfold logGate
  rw [div_sixteen]
  refine Eq.trans (b := (0 - (max (0 - (∑ x, z (ix3 0 r x) * wg (ix2 x d) + bg (ix2 0 d))) 0 + Ideal.log1p (Ideal.exp (0 -
    FloatOps.absf (F := Ideal) (φ := .f32) (∑ x, z (ix3 0 r x) * wg (ix2 x d) + bg (ix2 0 d)))))) * Ideal.ofBits FTy.f32 1031798784#32) ?_ ?_
  · pointwise [k0_pay4]
  · simp only [zero_sub]; rfl

end Cert.Gla

end
-- ==== Proof.Gla.PointAt.lean ====
/- A grid point of the kernel as the equations of gated linear attention on the point's own 512 rows. -/
module

public import proofs.«01_k».proof.Proof.Gla.ChunkAt

@[expose] public section

set_option maxRecDepth 16384

noncomputable section

namespace Cert.Gla

open Idealize.ShloMosaic Idealize.ShloMosaic.TcCoe Cert.KernelIdeal Cert.KernelIdeal.Gen Idealize.SL.Sem

/-- The rows of a block of queries or keys as a stream. -/
def str512 (x : Vec Ideal S1x512x512 .f32) : ℕ → Fin 512 → EReal := fun i d => x (ix3 0 ⟨i % 512, Nat.mod_lt _ (by decide)⟩ d)

/-- The rows of a block of values or output gates as a stream. -/
def str1024 (x : Vec Ideal S1x512x1024 .f32) : ℕ → Fin 1024 → EReal := fun i d => x (ix3 0 ⟨i % 512, Nat.mod_lt _ (by decide)⟩ d)

/-- The rows of the gates' logarithms as a stream. -/
def strG (la : FVec Ideal S512x512 .f32) : ℕ → Fin 512 → EReal := fun i d => la (ix2 ⟨i % 512, Nat.mod_lt _ (by decide)⟩ d)

/-- The kernel's transposed state as the equations take it. -/
def unT (st : Vec Ideal S1024x512 .f32) : Fin 512 → Fin 1024 → EReal := fun d e => st (ix2 e d)

theorem cumRows_rows (la : FVec Ideal S512x512 .f32) (n : ℕ) :
    (fun (s : Fin 64) (d : Fin 512) => cumRows (gRows la n) (ix2 s d)) = cum (chunk (strG la) n) := by
  funext s d; rw [cumRows_at]; rfl

/-- The state a grid point reaches after `n` of its chunks. -/
theorem pointState_at (la : FVec Ideal S512x512 .f32) (k : Vec Ideal S1x512x512 .f32) (v : Vec Ideal S1x512x1024 .f32)
    (st : Vec Ideal S1024x512 .f32) (n : ℕ) :
    unT (pointState la k v st n) = stateS (strG la) (str512 k) (str1024 v) (unT st) n := by
  induction n with
  | zero => rfl
  | succ n ih =>
    funext d e
    show nextState (F := Ideal) _ _ _ _ (ix2 e d) = nextS _ _ _ _ d e
    rw [nextState_at, cumRows_rows, ← ih]; rfl

/-- A grid point's block of output. -/
theorem pointOut_chunk (la : FVec Ideal S512x512 .f32) (q k : Vec Ideal S1x512x512 .f32) (v r : Vec Ideal S1x512x1024 .f32)
    (gn : Vec Ideal S1x1024 .f32) (st : Vec Ideal S1024x512 .f32) (y : Fin 512) (e : Fin 1024) :
    pointOut la q k v r gn st (ix3 0 y e) = normGate
      (chunkO (strG la) (str512 q) (str512 k) (str1024 v) (unT st) (y.val / 64) ⟨y.val % 64, Nat.mod_lt _ (by decide)⟩)
      (fun e => gn (ix2 0 e)) (fun e => r (ix3 0 y e)) e := by
  show chunkOut (F := Ideal) _ _ _ _ _ _ _ (ix3 0 _ e) = _
  rw [chunkOut_at, cumRows_rows]
  unfold chunkO
  rw [← pointState_at]
  congr 1
  funext e'
  show r (ix3 0 _ e') = _
  congr 2
  apply Fin.ext
  show (64 * (y.val / 64) + y.val % 64) % 512 = y.val
  have := y.isLt; omega

end Cert.Gla

end
-- ==== Proof.Gla.Streams.lean ====
/- The streams of one head of one sequence: its columns of the projected rows `proj`, and its gates from the low-rank columns. -/
module

public import proofs.«01_k».proof.Proof.Gla.Spec

@[expose] public section

noncomputable section

namespace Cert.Gla

open Idealize.ShloMosaic

/-- A token's number as an index of the 2048 tokens. -/
def tok (i : ℕ) : Fin 2048 := ⟨i % 2048, Nat.mod_lt _ (by decide)⟩

variable (proj : (⟨3, ![4, 2048, 12304]⟩ : Shape).Idx → EReal) (w : (⟨3, ![1, 16, 2048]⟩ : Shape).Idx → EReal)
  (bg : (⟨2, ![1, 2048]⟩ : Shape).Idx → EReal) (gn : (⟨3, ![1, 4, 1024]⟩ : Shape).Idx → EReal)
  (s0 : (⟨4, ![4, 4, 512, 1024]⟩ : Shape).Idx → EReal)

def qStr (b h : Fin 4) (i : ℕ) (d : Fin 512) : EReal := proj (ix3 b (tok i) ⟨h.val * 512 + d.val, by omega⟩)
def kStr (b h : Fin 4) (i : ℕ) (d : Fin 512) : EReal := proj (ix3 b (tok i) ⟨2048 + (h.val * 512 + d.val), by omega⟩)
def vStr (b h : Fin 4) (i : ℕ) (e : Fin 1024) : EReal := proj (ix3 b (tok i) ⟨4096 + (h.val * 1024 + e.val), by omega⟩)
def rStr (b h : Fin 4) (i : ℕ) (e : Fin 1024) : EReal := proj (ix3 b (tok i) ⟨8192 + (h.val * 1024 + e.val), by omega⟩)

/-- The gates' logarithms: sixteen columns of the token times the head's columns of the second gate matrix, and a bias. -/
def aStr (b h : Fin 4) (i : ℕ) (d : Fin 512) : EReal :=
  logGate (∑ x : Fin 16, proj (ix3 b (tok i) ⟨12288 + x.val, by omega⟩) * w (ix3 0 x ⟨h.val * 512 + d.val, by omega⟩) +
    bg (ix2 0 ⟨h.val * 512 + d.val, by omega⟩))

/-- The head's state before the first token. -/
def start (b h : Fin 4) (d : Fin 512) (e : Fin 1024) : EReal := s0 (ix4 b h d e)

/-- The head's state after `n` chunks. -/
def headState (b h : Fin 4) (n : ℕ) : Fin 512 → Fin 1024 → EReal :=
  stateS (aStr proj w bg b h) (kStr proj b h) (vStr proj b h) (start s0 b h) n

/-- The head's output of token `l` before the norm. -/
def headO (b h : Fin 4) (l : Fin 2048) : Fin 1024 → EReal :=
  chunkO (aStr proj w bg b h) (qStr proj b h) (kStr proj b h) (vStr proj b h) (start s0 b h) (l.val / 64)
    ⟨l.val % 64, Nat.mod_lt _ (by decide)⟩

/-- The head's gated output of token `l`. -/
def headOut (b h : Fin 4) (l : Fin 2048) : Fin 1024 → EReal :=
  normGate (headO proj w bg s0 b h l) (fun e => gn (ix3 0 h e)) (rStr proj b h l.val)

end Cert.Gla

end
-- ==== Proof.Gla.Blocks.lean ====
/- The blocks a grid point of the kernel reads, as rows of the program's arguments. -/
module

public import proofs.«01_k».proof.Proof.Gla.PointAt
public import proofs.«01_k».proof.Proof.Gla.Streams

@[expose] public section

set_option maxRecDepth 16384

noncomputable section

namespace Cert.Gla

open Idealize.ShloMosaic Idealize.ShloMosaic.TcCoe Cert.KernelIdeal Cert.KernelIdeal.Gen Idealize.SL.Sem

variable (m : (ℓ : Loc nD τ sig) → Buf (Elt Ideal) ℓ)

/-- The sequence, the head and the quarter of the tokens of a grid point. -/
theorem idx : ∀ t : Fin cfg0.N,
    win0_0.index t = ![t.val / 16, t.val % 4, t.val / 4 % 4] ∧ win0_1.index t = ![t.val / 16, t.val % 4, 4 + t.val / 4 % 4] ∧
    win0_2.index t = ![t.val / 16, t.val % 4, 4 + t.val / 4 % 4] ∧ win0_3.index t = ![t.val / 16, t.val % 4, 8 + t.val / 4 % 4] ∧
    win0_4.index t = ![t.val / 16, t.val % 4, 0] ∧ win0_5.index t = ![0, t.val / 4 % 4] ∧ win0_6.index t = ![0, t.val / 4 % 4] ∧
    win0_7.index t = ![0, t.val / 4 % 4] ∧ win0_8.index t = ![t.val / 16, t.val / 4 % 4, 0, 0] ∧
    win0_9.index t = ![t.val / 16, t.val % 4, t.val / 4 % 4] ∧ win0_10.index t = ![t.val / 16, t.val / 4 % 4, 0, 0] :=
  (by decide +kernel : ∀ t : Fin grid0.N, _)

def ptB (t : Fin cfg0.N) : Fin 4 := ⟨t.val / 16, by have h : t.val < 64 := t.isLt; omega⟩
def ptH (t : Fin cfg0.N) : Fin 4 := ⟨t.val / 4 % 4, Nat.mod_lt _ (by decide)⟩

theorem v9_at (c : Dev nD) (b : Fin 4) (l : Fin 2048) (x : Fin 12288) :
    V m c main_v9 (ix3 b l x) = m ((c : Thread nD τ).loc main_arg0) (ix3 b l ⟨x.val, by omega⟩) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise

theorem v1_at (c : Dev nD) (b : Fin 4) (l : Fin 2048) (x : Fin 128) :
    V m c main_v1 (ix3 b l x) = if h : x.val < 16 then m ((c : Thread nD τ).loc main_arg0) (ix3 b l ⟨12288 + x.val, by omega⟩) else (0 : EReal) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  rw [hz]

theorem v4_at (c : Dev nD) (x : Fin 128) (d : Fin 2048) :
    V m c main_v4 (ix2 x d) = if h : x.val < 16 then m ((c : Thread nD τ).loc main_arg1) (ix3 0 ⟨x.val, h⟩ d) else (0 : EReal) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  rw [hz]
theorem v6_at (c : Dev nD) (d : Fin 2048) :
    V m c main_v6 (ix2 0 d) = m ((c : Thread nD τ).loc main_arg2) (ix2 0 d) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
theorem v8_at (c : Dev nD) (d : Fin 4096) :
    V m c main_v8 (ix2 0 d) = m ((c : Thread nD τ).loc main_arg3) (ix3 0 ⟨d.val / 1024, by omega⟩ ⟨d.val % 1024, by omega⟩) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
/-- The padding of the contraction to 128 adds nothing. -/
theorem pad_sum (f g : Fin 16 → EReal) :
    ∑ x : Fin 128, (if h : x.val < 16 then f ⟨x.val, h⟩ else 0) * (if h : x.val < 16 then g ⟨x.val, h⟩ else 0) =
      ∑ x, f x * g x := by
  refine (Fin.sum_univ_add (M := EReal) (a := 16) (b := 112) _).trans ?_
  rw [Finset.sum_eq_zero (s := (Finset.univ : Finset (Fin 112))) fun x _ => by simp, add_zero]
  exact Finset.sum_congr rfl fun x _ => by simp

theorem blk_q (c : Dev nD) (t : Fin cfg0.N) (i : ℕ) (hi : i < 512) :
    str512 (iblk m c 0 t) i = qStr (m ((c : Thread nD τ).loc main_arg0)) (ptB t) (ptH t) (512 * (t.val % 4) + i) := by
  funext d
  refine (congrArg (V m c main_v9) (?_ : _ = ix3 (ptB t) (tok (512 * (t.val % 4) + i))
    ⟨(ptH t).val * 512 + d.val, by have := (ptH t).isLt; omega⟩)).trans (v9_at m c _ _ _)
  have h := idx t
  blk_ext [idx t, ptB, ptH, tok]

theorem blk_k (c : Dev nD) (t : Fin cfg0.N) (i : ℕ) (hi : i < 512) :
    str512 (iblk m c 1 t) i = kStr (m ((c : Thread nD τ).loc main_arg0)) (ptB t) (ptH t) (512 * (t.val % 4) + i) := by
  funext d
  refine (congrArg (V m c main_v9) (?_ : _ = ix3 (ptB t) (tok (512 * (t.val % 4) + i))
    ⟨2048 + ((ptH t).val * 512 + d.val), by have := (ptH t).isLt; omega⟩)).trans (v9_at m c _ _ _)
  blk_ext [idx t, ptB, ptH, tok]

theorem blk_v (c : Dev nD) (t : Fin cfg0.N) (i : ℕ) (hi : i < 512) :
    str1024 (iblk m c 2 t) i = vStr (m ((c : Thread nD τ).loc main_arg0)) (ptB t) (ptH t) (512 * (t.val % 4) + i) := by
  funext d
  refine (congrArg (V m c main_v9) (?_ : _ = ix3 (ptB t) (tok (512 * (t.val % 4) + i))
    ⟨4096 + ((ptH t).val * 1024 + d.val), by have := (ptH t).isLt; omega⟩)).trans (v9_at m c _ _ _)
  blk_ext [idx t, ptB, ptH, tok]

theorem blk_r (c : Dev nD) (t : Fin cfg0.N) (i : ℕ) (hi : i < 512) :
    str1024 (iblk m c 3 t) i = rStr (m ((c : Thread nD τ).loc main_arg0)) (ptB t) (ptH t) (512 * (t.val % 4) + i) := by
  funext d
  refine (congrArg (V m c main_v9) (?_ : _ = ix3 (ptB t) (tok (512 * (t.val % 4) + i))
    ⟨8192 + ((ptH t).val * 1024 + d.val), by have := (ptH t).isLt; omega⟩)).trans (v9_at m c _ _ _)
  blk_ext [idx t, ptB, ptH, tok]

theorem blk_z (c : Dev nD) (t : Fin cfg0.N) (i : Fin 512) (x : Fin 128) :
    iblk m c 4 t (ix3 0 i x) = if h : x.val < 16 then m ((c : Thread nD τ).loc main_arg0)
      (ix3 (ptB t) (tok (512 * (t.val % 4) + i.val)) ⟨12288 + x.val, by omega⟩) else (0 : EReal) := by
  refine (congrArg (V m c main_v1) (?_ : _ = ix3 (ptB t) (tok (512 * (t.val % 4) + i)) x)).trans (v1_at m c _ _ _)
  blk_ext [idx t, ptB, ptH, tok]

theorem blk_w (c : Dev nD) (t : Fin cfg0.N) (x : Fin 128) (d : Fin 512) :
    iblk m c 5 t (ix2 x d) = if h : x.val < 16 then m ((c : Thread nD τ).loc main_arg1)
      (ix3 0 ⟨x.val, h⟩ ⟨(ptH t).val * 512 + d.val, by have := (ptH t).isLt; omega⟩) else (0 : EReal) := by
  refine (congrArg (V m c main_v4) (?_ : _ = ix2 x ⟨(ptH t).val * 512 + d.val, by have := (ptH t).isLt; omega⟩)).trans (v4_at m c _ _)
  blk_ext [idx t, ptB, ptH, tok]

theorem blk_b (c : Dev nD) (t : Fin cfg0.N) (d : Fin 512) :
    iblk m c 6 t (ix2 0 d) = m ((c : Thread nD τ).loc main_arg2)
      (ix2 0 ⟨(ptH t).val * 512 + d.val, by have := (ptH t).isLt; omega⟩) := by
  refine (congrArg (V m c main_v6) (?_ : _ = ix2 0 ⟨(ptH t).val * 512 + d.val, by have := (ptH t).isLt; omega⟩)).trans (v6_at m c _)
  blk_ext [idx t, ptB, ptH, tok]

theorem blk_gn (c : Dev nD) (t : Fin cfg0.N) (e : Fin 1024) :
    iblk m c 7 t (ix2 0 e) = m ((c : Thread nD τ).loc main_arg3) (ix3 0 (ptH t) e) := by
  refine (congrArg (V m c main_v8) (?_ : _ = ix2 0 ⟨(ptH t).val * 1024 + e.val, by have := (ptH t).isLt; omega⟩)).trans
    ((v8_at m c _).trans ?_)
  · blk_ext [idx t, ptB, ptH, tok]
  · blk_ext []

theorem blk_s0 (c : Dev nD) (t : Fin cfg0.N) :
    unT (k0_pay3 (iblk m c 8 t)) = start (m ((c : Thread nD τ).loc main_arg4)) (ptB t) (ptH t) := by
  funext d e
  unfold unT start
  pointwise [k0_pay3]
  rw [← V_main_arg4 m c]
  refine congrArg (V m c main_arg4) (?_ : _ = ix4 (ptB t) (ptH t) d e)
  blk_ext [idx t, ptB, ptH, tok]

theorem blk_a (c : Dev nD) (t : Fin cfg0.N) (i : ℕ) (hi : i < 512) :
    strG (k0_pay4 (iblk m c 4 t) (iblk m c 5 t) (iblk m c 6 t)) i = aStr (m ((c : Thread nD τ).loc main_arg0))
      (m ((c : Thread nD τ).loc main_arg1)) (m ((c : Thread nD τ).loc main_arg2)) (ptB t) (ptH t) (512 * (t.val % 4) + i) := by
  funext d
  unfold strG aStr
  rw [gate_at]
  congr 2
  · simp only [blk_z, blk_w, Nat.mod_eq_of_lt hi]
    exact pad_sum (fun x => m ((c : Thread nD τ).loc main_arg0) (ix3 (ptB t) (tok (512 * (t.val % 4) + i)) ⟨12288 + x.val, by omega⟩))
      (fun x => m ((c : Thread nD τ).loc main_arg1) (ix3 0 x ⟨(ptH t).val * 512 + d.val, by have := (ptH t).isLt; omega⟩))
  · exact blk_b m c t d

end Cert.Gla

end
-- ==== Proof.Gla.Arrays.lean ====
/- The kernel's two result arrays: the gated outputs of all tokens and the final states, by induction along the grid. -/
module

public import proofs.«01_k».proof.Proof.Gla.Blocks

@[expose] public section

set_option maxRecDepth 16384

noncomputable section

namespace Cert.Gla

open Idealize.ShloMosaic Idealize.ShloMosaic.TcCoe Cert.KernelIdeal Cert.KernelIdeal.Gen Idealize.SL.Sem

variable (m : (ℓ : Loc nD τ sig) → Buf (Elt Ideal) ℓ) (c : Dev nD)

/-- The states of a head, of the program's arguments. -/
def kState (b h : Fin 4) (n : ℕ) : Fin 512 → Fin 1024 → EReal :=
  headState (m ((c : Thread nD τ).loc main_arg0)) (m ((c : Thread nD τ).loc main_arg1)) (m ((c : Thread nD τ).loc main_arg2))
    (m ((c : Thread nD τ).loc main_arg4)) b h n

/-- The gated outputs of a head, of the program's arguments. -/
def kOut (b h : Fin 4) (l : Fin 2048) : Fin 1024 → EReal :=
  headOut (m ((c : Thread nD τ).loc main_arg0)) (m ((c : Thread nD τ).loc main_arg1)) (m ((c : Thread nD τ).loc main_arg2))
    (m ((c : Thread nD τ).loc main_arg3)) (m ((c : Thread nD τ).loc main_arg4)) b h l

/-- A point that starts from the state after its head's earlier points reaches the state after itself. -/
theorem point_state (t : Fin cfg0.N) (st : Vec Ideal S1024x512 .f32) (hst : unT st = kState m c (ptB t) (ptH t) (8 * (t.val % 4))) :
    unT (pointState (k0_pay4 (iblk m c 4 t) (iblk m c 5 t) (iblk m c 6 t)) (iblk m c 1 t) (iblk m c 2 t) st 8) =
      kState m c (ptB t) (ptH t) (8 * (t.val % 4) + 8) := by
  rw [pointState_at, hst]
  unfold kState headState
  rw [← stateS_add]
  exact stateS_congr _ 8 (fun i hi => (blk_a m c t i (by omega)).trans (congrArg _ (by omega)))
    (fun i hi => (blk_k m c t i (by omega)).trans (congrArg _ (by omega)))
    (fun i hi => (blk_v m c t i (by omega)).trans (congrArg _ (by omega)))

/-- Its block of output. -/
theorem point_out (t : Fin cfg0.N) (st : Vec Ideal S1024x512 .f32) (hst : unT st = kState m c (ptB t) (ptH t) (8 * (t.val % 4)))
    (y : Fin 512) (e : Fin 1024) :
    pointOut (k0_pay4 (iblk m c 4 t) (iblk m c 5 t) (iblk m c 6 t)) (iblk m c 0 t) (iblk m c 1 t) (iblk m c 2 t) (iblk m c 3 t)
      (iblk m c 7 t) st (ix3 0 y e) =
      kOut m c (ptB t) (ptH t) ⟨512 * (t.val % 4) + y.val, by omega⟩ e := by
  have hy := y.isLt
  rw [pointOut_chunk]
  unfold kOut headOut headO
  have hn : (512 * (t.val % 4) + y.val) / 64 = 8 * (t.val % 4) + y.val / 64 := by omega
  have hs : (512 * (t.val % 4) + y.val) % 64 = y.val % 64 := by omega
  simp only [hn, hs]
  refine congrFun (congr (congr (congrArg normGate (congrFun (chunkO_add (8 * (t.val % 4)) (y.val / 64)
    (fun i hi => (blk_a m c t i (by omega)).trans (congrArg _ (by omega)))
    (fun i hi => (blk_q m c t i (by omega)).trans (congrArg _ (by omega)))
    (fun i hi => (blk_k m c t i (by omega)).trans (congrArg _ (by omega)))
    (fun i hi => (blk_v m c t i (by omega)).trans (congrArg _ (by omega))) hst) _)) ?_) ?_) e
  · funext e; exact blk_gn m c t e
  · funext e
    have := congrFun (blk_r m c t y.val hy) e
    unfold str1024 at this
    simp only [Nat.mod_eq_of_lt hy] at this
    exact this

/-- The state held after every grid point. -/
theorem scratch_at : ∀ (n : ℕ) (hn : n < cfg0.N),
    unT (outsAt0 m c n hn).2.2 = kState m c (ptB ⟨n, hn⟩) (ptH ⟨n, hn⟩) (8 * (n % 4) + 8) := by
  intro n
  induction n with
  | zero =>
    intro hn
    have h := outsAt0_A m c ⟨0, hn⟩ rfl (fun h => absurd h (by decide : ¬0 % 4 = 3))
    dsimp only at h
    rw [h, sout_A]
    exact point_state m c ⟨0, hn⟩ _ (blk_s0 m c ⟨0, hn⟩)
  | succ n ih =>
    intro hn
    have hN : n + 1 < 64 := hn
    have ih' := ih (by omega)
    have hprev (h0 : ¬(n + 1) % 4 = 0) : unT (outsAt0 m c n (by omega)).2.2 =
        kState m c (ptB ⟨n + 1, hn⟩) (ptH ⟨n + 1, hn⟩) (8 * ((n + 1) % 4)) := by
      rw [ih']
      have e1 : ptB ⟨n, by omega⟩ = ptB ⟨n + 1, hn⟩ := Fin.ext (by show n / 16 = (n + 1) / 16; omega)
      have e2 : ptH ⟨n, by omega⟩ = ptH ⟨n + 1, hn⟩ := Fin.ext (by show n / 4 % 4 = (n + 1) / 4 % 4; omega)
      rw [e1, e2]
      congr 1
      omega
    by_cases h0 : (n + 1) % 4 = 0
    · have h := outsAt0_A m c ⟨n + 1, hn⟩ h0 (by dsimp only; omega)
      dsimp only at h
      rw [h, sout_A]
      refine point_state m c ⟨n + 1, hn⟩ _ ((blk_s0 m c ⟨n + 1, hn⟩).trans ?_)
      dsimp only
      rw [h0]; rfl
    · by_cases h1 : (n + 1) % 4 = 3
      · have h := outsAt0_C m c ⟨n + 1, hn⟩ h0 h1
        dsimp only at h
        rw [h, sout_C]
        exact point_state m c ⟨n + 1, hn⟩ _ (hprev h0)
      · have h := outsAt0_B m c ⟨n + 1, hn⟩ h0 h1
        dsimp only at h
        rw [h, sout_B]
        exact point_state m c ⟨n + 1, hn⟩ _ (hprev h0)

/-- The state a point not first of its head starts from. -/
theorem before_at (t : Fin cfg0.N) (h0 : ¬t.val % 4 = 0) (h : t.val - 1 < cfg0.N) :
    unT (outsAt0 m c (t.val - 1) h).2.2 = kState m c (ptB t) (ptH t) (8 * (t.val % 4)) := by
  rw [scratch_at]
  have e1 : ptB ⟨t.val - 1, h⟩ = ptB t := Fin.ext (by show (t.val - 1) / 16 = t.val / 16; omega)
  have e2 : ptH ⟨t.val - 1, h⟩ = ptH t := Fin.ext (by show (t.val - 1) / 4 % 4 = t.val / 4 % 4; omega)
  rw [e1, e2]
  congr 1
  omega

/-- The block of output of every grid point. -/
theorem block_out (t : Fin cfg0.N) (y : Fin 512) (e : Fin 1024) :
    (outsAt0 m c t.val t.isLt).1 (ix3 0 y e) = kOut m c (ptB t) (ptH t) ⟨512 * (t.val % 4) + y.val, by omega⟩ e := by
  by_cases h0 : t.val % 4 = 0
  · rw [outsAt0_A m c t h0 (by omega)]
    dsimp only
    rw [out_A]
    refine point_out m c t _ ((blk_s0 m c t).trans ?_) y e
    rw [h0]; rfl
  · by_cases h1 : t.val % 4 = 3
    · rw [outsAt0_C m c t h0 h1]
      dsimp only
      rw [out_C]
      exact point_out m c t _ (before_at m c t h0 _) y e
    · rw [outsAt0_B m c t h0 h1]
      dsimp only
      rw [out_B]
      exact point_out m c t _ (before_at m c t h0 _) y e

/-- The block of final state of a head's last point. -/
theorem block_state (t : Fin cfg0.N) (h1 : t.val % 4 = 3) (d : Fin 512) (e : Fin 1024) :
    (outsAt0 m c t.val t.isLt).2.1 (ix4 0 0 d e) = kState m c (ptB t) (ptH t) 32 d e := by
  have h0 : ¬t.val % 4 = 0 := by omega
  rw [outsAt0_C m c t h0 h1]
  dsimp only
  rw [out_C_state]
  have h := congrFun (congrFun (point_state m c t _ (before_at m c t h0 (by have := t.isLt; omega))) d) e
  rw [h1] at h
  rw [← h]
  unfold unT
  pointwise [k0_pay2]

theorem kOut_congr {b b' h h' : Fin 4} {l l' : Fin 2048} {e e' : Fin 1024} (hb : b.val = b'.val) (hh : h.val = h'.val)
    (hl : l.val = l'.val) (he : e.val = e'.val) : kOut m c b h l e = kOut m c b' h' l' e' := by
  rw [Fin.ext hb, Fin.ext hh, Fin.ext hl, Fin.ext he]

theorem kState_congr {b b' h h' : Fin 4} {d d' : Fin 512} {e e' : Fin 1024} (n : ℕ) (hb : b.val = b'.val) (hh : h.val = h'.val)
    (hd : d.val = d'.val) (he : e.val = e'.val) : kState m c b h n d e = kState m c b' h' n d' e' := by
  rw [Fin.ext hb, Fin.ext hh, Fin.ext hd, Fin.ext he]

/-- The array of gated outputs. -/
theorem out_array : (dats m 0 c).arrAt 9 cfg0.N = fun j => kOut m c (j 0) ⟨(j 2).val / 1024, by have : (j 2).val < 4096 := (j 2).isLt; omega⟩ (j 1)
    ⟨(j 2).val % 1024, Nat.mod_lt _ (by decide)⟩ := by
  refine (dats m 0 c).arrAt_eq_of_covers 9 _ (by decide +kernel) fun t hf y => ?_
  blk_simp
  rw [after0_9]
  have hy : y = (ix3 0 (y 1) (y 2) : S1x512x1024.Idx) := by
    funext a; fin_cases a
    · exact Fin.ext (by have h : (y 0).val < 1 := (y 0).isLt; show (y 0).val = 0; omega)
    · rfl
    · rfl
  have h2 : (y 2).val < 1024 := (y 2).isLt
  refine (congrArg _ hy).trans ((block_out m c t (y 1) (y 2)).trans (kOut_congr m c ?_ ?_ ?_ ?_))
  · blk_simp [idx t, ptB]
  · blk_simp [idx t, ptH]
    dsimp only; omega
  · blk_simp [idx t]
    dsimp only; omega
  · blk_simp [idx t]
    dsimp only; omega

theorem state_array : (dats m 0 c).arrAt 10 cfg0.N = fun j => kState m c (j 0) (j 1) 32 (j 2) (j 3) := by
  refine (dats m 0 c).arrAt_eq_of_covers 10 _ (by decide +kernel) fun t hf y => ?_
  blk_simp
  rw [after0_10]
  have h3 : t.val % 4 = 3 := by
    exact (by decide +kernel : ∀ t : Fin cfg0.N, (cfg0.win 10).flush t = true → t.val % 4 = 3) t hf
  have hy : y = (ix4 0 0 (y 2) (y 3) : S1x1x512x1024.Idx) := by
    funext a; fin_cases a
    · exact Fin.ext (by have h : (y 0).val < 1 := (y 0).isLt; show (y 0).val = 0; omega)
    · exact Fin.ext (by have h : (y 1).val < 1 := (y 1).isLt; show (y 1).val = 0; omega)
    · rfl
    · rfl
  refine (congrArg _ hy).trans ((block_state m c t h3 (y 2) (y 3)).trans (kState_congr m c 32 ?_ ?_ ?_ ?_))
  · blk_simp [idx t, ptB]
  · blk_simp [idx t, ptH]
  · blk_simp [idx t]
  · blk_simp [idx t]

end Cert.Gla

end
-- ==== Proof.Gla.RefAt.lean ====
/- One trip of the reference's loop at an index: its chunk of every stream, the running sum over a window, the next state and the
   chunk's rows of output. -/
module

public import proofs.«01_k».proof.Proof.Gla.RefLoop
public import proofs.«01_k».proof.Proof.Gla.Streams
public import Idealize.ShloMosaic.Lib.DynamicIndex
public import Idealize.ShloMosaic.Lib.WordCmp

@[expose] public section

set_option maxRecDepth 16384

noncomputable section

namespace Cert.Gla

open Idealize.ShloMosaic Idealize.ShloMosaic.TcCoe Cert.ReferenceIdeal Cert.ReferenceIdeal.Gen Cert.ReferenceIdeal.Step

/-- The running sum of 64 rows, written as a sum over a window of 64 padded 63 low. -/
theorem window_at (x : S4x4x64x512.Idx → EReal) (i : S_.Idx → EReal) (hi : ∀ k, i k = 0)
    (hw : S4x4x64x512.ReduceWindows ![1, 1, 64, 1] ![1, 1, 1, 1] ![0, 0, 63, 0] ![0, 0, 0, 0] S4x4x64x512) (hu : 0 < S_.numel)
    (b h : Fin 4) (s : Fin 64) (d : Fin 512) :
    Host.reduceWindow (· + ·) ![1, 1, 64, 1] ![1, 1, 1, 1] ![0, 0, 63, 0] ![0, 0, 0, 0] x i hw hu (ix4 b h s d) =
      cum (fun s d => x (ix4 b h s d)) s d := by
  unfold Host.reduceWindow
  simp only [hi]
  refine (sum_idx_eq_foldl (⟨4, ![1, 1, 64, 1]⟩ : Shape) (fun w => if hin : ∀ a : Fin 4, ![0, 0, 63, 0] a ≤
    ((ix4 b h s d : S4x4x64x512.Idx) a).val * ![1, 1, 1, 1] a + (w a).val ∧
    ((ix4 b h s d : S4x4x64x512.Idx) a).val * ![1, 1, 1, 1] a + (w a).val - ![0, 0, 63, 0] a < S4x4x64x512.size a then
      x (fun a => ⟨((ix4 b h s d : S4x4x64x512.Idx) a).val * ![1, 1, 1, 1] a + (w a).val - ![0, 0, 63, 0] a, (hin a).2⟩)
        else 0)).symm.trans ?_
  rw [sum_idx4]
  simp only [Finset.univ_unique, Finset.sum_singleton]
  unfold cum win
  rw [← Finset.sum_range_reflect, Finset.sum_range]
  refine Finset.sum_congr rfl fun w _ => ?_
  have hs := s.isLt
  have hwl := w.isLt
  by_cases h63 : 63 - w.val ≤ s.val
  · rw [if_pos (by omega), dif_pos ?_]
    · refine Eq.trans (b := x (ix4 b h ⟨s.val - (64 - 1 - w.val), by omega⟩ d)) (congrArg x ?_)
        (by beta_reduce; rw [dif_pos (by omega)])
      funext a
      fin_cases a
      · exact Fin.ext (by simp)
      · exact Fin.ext (by simp)
      · exact Fin.ext (by simp; omega)
      · exact Fin.ext (by simp)
    · intro a
      fin_cases a
      · simp
      · simp
      · simp; omega
      · simp
  · rw [if_neg (by omega), dif_neg]
    intro hc
    have := (hc 2).1
    simp at this
    omega

theorem start_toInt (j : ℕ) (hj : j < 32) : (BitVec.ofNat 32 j).toInt = j := by
  rw [BitVec.toInt_eq_toNat_of_lt] <;> simp <;> omega

theorem slices512 (j : ℕ) (hj : j < 32) : S32x4x4x64x512.Slices ![j, 0, 0, 0, 0] S1x4x4x64x512 :=
  ⟨rfl, by intro a; fin_cases a <;> simp <;> omega⟩
theorem slices1024 (j : ℕ) (hj : j < 32) : S32x4x4x64x1024.Slices ![j, 0, 0, 0, 0] S1x4x4x64x1024 :=
  ⟨rfl, by intro a; fin_cases a <;> simp <;> omega⟩

/-- The start of a trip's slice and update: the trip's number, and zero on the other axes. -/
theorem starts (j : ℕ) (hj : j < 32) (a : Fin 5) :
    BitVec.toInt ((![constantI S_ 32 (BitVec.ofNat 32 j), constantI S_ 32 0#32, constantI S_ 32 0#32, constantI S_ 32 0#32,
      constantI S_ 32 0#32] : Fin 5 → IVec S_ 32) a (Shape.Idx.first h_S_)) = ((![j, 0, 0, 0, 0] : Fin 5 → ℕ) a : ℤ) := by
  fin_cases a
  · exact start_toInt j hj
  · rfl
  · rfl
  · rfl
  · rfl

variable (j : ℕ) (hj : j < 32) (s : State Ideal) (b h : Fin 4)

theorem q_at (c : Fin 64) (d : Fin 512) : b5 j s (ix4 b h c d) = s.main_v45_0 (ix5 ⟨j, hj⟩ b h c d) := by
  unfold b5 b4
  rw [Host.dynamicSlice_eq_extractStridedSlice _ _ _ ![j, 0, 0, 0, 0] _ (slices512 j hj) (starts j hj)]
  pointwise

theorem k_at (c : Fin 64) (d : Fin 512) : b11 j s (ix4 b h c d) = s.main_v45_1 (ix5 ⟨j, hj⟩ b h c d) := by
  unfold b11 b10
  rw [Host.dynamicSlice_eq_extractStridedSlice _ _ _ ![j, 0, 0, 0, 0] _ (slices512 j hj) (starts j hj)]
  pointwise

theorem v_at (c : Fin 64) (e : Fin 1024) : b17 j s (ix4 b h c e) = s.main_v45_2 (ix5 ⟨j, hj⟩ b h c e) := by
  unfold b17 b16
  rw [Host.dynamicSlice_eq_extractStridedSlice _ _ _ ![j, 0, 0, 0, 0] _ (slices1024 j hj) (starts j hj)]
  pointwise

theorem a_at (c : Fin 64) (d : Fin 512) : b23 j s (ix4 b h c d) = s.main_v45_3 (ix5 ⟨j, hj⟩ b h c d) := by
  unfold b23 b22
  rw [Host.dynamicSlice_eq_extractStridedSlice _ _ _ ![j, 0, 0, 0, 0] _ (slices512 j hj) (starts j hj)]
  pointwise

theorem cum_at (c : Fin 64) (d : Fin 512) : b26 j s (ix4 b h c d) = cum (fun c d => b23 j s (ix4 b h c d)) c d := by
  have hz : b25 (F := Ideal) j s (Shape.Idx.first h_S_) = (0 : EReal) := by
    unfold b25 b24
    exact Ideal.ofBits_zero_f32
  unfold b26
  exact window_at (b23 j s) (fun _ => b25 j s (Shape.Idx.first h_S_)) (fun _ => hz)
    reduceWindows_S4x4x64x512_S4x4x64x512_w1s1p0_0_w1s1p0_0_w64s1p63_0_w1s1p0_0 h_S_ b h c d

include hj in
/-- An update of one trip's rows, at an index. -/
theorem upd_at (x : S32x4x4x64x1024.Idx → EReal) (u : S1x4x4x64x1024.Idx → EReal) (start : Fin 5 → Int)
    (hf : S32x4x4x64x1024.Slices (fun _ => 0) S1x4x4x64x1024)
    (hs : ∀ a : Fin 5, start a = ((![j, 0, 0, 0, 0] : Fin 5 → ℕ) a : ℤ)) (n : Fin 32) (c : Fin 64) (e : Fin 1024) :
    Host.dynamicUpdateSlice x u start hf (ix5 n b h c e) = if n.val = j then u (ix5 0 b h c e) else x (ix5 n b h c e) := by
  have cl (a : Fin 5) : Host.clampedStart S32x4x4x64x1024 S1x4x4x64x1024 hf.1 start a = (![j, 0, 0, 0, 0] : Fin 5 → ℕ) a :=
    Host.clampedStart_of_le _ _ _ _ (hs a) ((slices1024 j hj).2 a)
  pointwise
  have c0 := cl 0
  have c1 := cl 1
  have c2 := cl 2
  have c3 := cl 3
  have c4 := cl 4
  simp only [Matrix.cons_val] at c0 c1 c2 c3 c4
  simp only [c0, c1, c2, c3, c4]
  by_cases hn : n.val = j
  · rw [if_pos hn, dif_pos ⟨⟨by omega, by omega⟩, by omega, by omega, by omega, by omega⟩]
    blk_ext []
  · rw [if_neg hn, dif_neg (by omega)]

/-- The trip's own streams, of the stacked chunks in the state. -/
def tripQ (s : State Ideal) (b h : Fin 4) (n : Fin 32) (c : Fin 64) (d : Fin 512) : EReal := s.main_v45_0 (ix5 n b h c d)
def tripK (s : State Ideal) (b h : Fin 4) (n : Fin 32) (c : Fin 64) (d : Fin 512) : EReal := s.main_v45_1 (ix5 n b h c d)
def tripV (s : State Ideal) (b h : Fin 4) (n : Fin 32) (c : Fin 64) (e : Fin 1024) : EReal := s.main_v45_2 (ix5 n b h c e)
def tripA (s : State Ideal) (b h : Fin 4) (n : Fin 32) (c : Fin 64) (d : Fin 512) : EReal := s.main_v45_3 (ix5 n b h c d)

include hj in
theorem sum_at (c : Fin 64) (d : Fin 512) : b26 j s (ix4 b h c d) = cum (tripA s b h ⟨j, hj⟩) c d := by
  rw [cum_at]
  exact congrArg (fun f => cum f c d) (by funext c d; exact a_at j hj s b h c d)

/-- The next state of a trip. -/
theorem next_at (d : Fin 512) (e : Fin 1024) : b52 j s (ix4 b h d e) = nextS (cum (tripA s b h ⟨j, hj⟩)) (tripK s b h ⟨j, hj⟩)
    (tripV s b h ⟨j, hj⟩) (fun d e => s.main_v45_6 (ix4 b h d e)) d e := by
  refine Eq.trans (b := Ideal.exp (b26 j s (ix4 b h 63 d)) * s.main_v45_6 (ix4 b h d e) +
    ∑ x, b11 j s (ix4 b h x d) * Ideal.exp (b26 j s (ix4 b h 63 d) - b26 j s (ix4 b h x d)) * b17 j s (ix4 b h x e)) ?_ ?_
  · pointwise [b52, b51, b50, b49, b48, b47, b46, b45, b44, b43, b42, b41]
  · simp only [sum_at j hj, k_at j hj, v_at j hj]
    rfl

theorem mask_at (c x : ℕ) (hc : c < 2147483648) (hx : x < 2147483648) (p q : EReal) :
    Scalar.select (Scalar.select (IntOp.cmpi .sge (IntOp.addi (BitVec.ofNat 32 c) 0#32) (BitVec.ofNat 32 x)) 1#1 0#1) p q =
      if x ≤ c then p else q := by
  have h0 : IntOp.addi (BitVec.ofNat 32 c) 0#32 = BitVec.ofNat 32 c := BitVec.add_zero _
  rw [h0, WordCmp.cmpi_sge_ofNat hc hx, WordCmp.select_ofBool]
  by_cases h : x ≤ c
  · simp [h, WordCmp.select_one]
  · simp [h, WordCmp.select_zero]

/-- A trip's rows of output. The queries in the state are scaled already. -/
theorem rows_at (q : Fin 64 → Fin 512 → EReal) (hq : ∀ c d, tripQ s b h ⟨j, hj⟩ c d = q c d * Ideal.ofBits .f32 0x3D3504F3#32)
    (c : Fin 64) (e : Fin 1024) : b40 j s (ix4 b h c e) = outS (cum (tripA s b h ⟨j, hj⟩)) q (tripK s b h ⟨j, hj⟩)
    (tripV s b h ⟨j, hj⟩) (fun d e => s.main_v45_6 (ix4 b h d e)) c e := by
  refine Eq.trans (b := ∑ x, b5 j s (ix4 b h c x) * Ideal.exp (b26 j s (ix4 b h c x)) * s.main_v45_6 (ix4 b h x e) +
      ∑ x : Fin 64, Scalar.select (Scalar.select (IntOp.cmpi CmpIPredicate.sge (IntOp.addi (BitVec.ofNat 32 c.val) 0#32)
        (BitVec.ofNat 32 x.val)) 1#1 0#1) ((∑ x_1, b5 j s (ix4 b h c x_1) * Ideal.exp (b26 j s (ix4 b h c x_1)) *
          (b11 j s (ix4 b h x x_1) * Ideal.exp (-b26 j s (ix4 b h x x_1)))) * b17 j s (ix4 b h x e)) 0) ?_ ?_
  · pointwise [b40, b39, b38, b37, b36, b35, b34, b33, b32, b31, b30, b29, b28, b27, K_main_v35, K_main_call0_v5,
      K_main_call0_v4, K_main_call0_v3, K_main_call0_v2, K_main_call0_v1, K_main_call0_v0, K_main_call0_c, K_main_call0_c_0,
      K_main_v34, K_main_c]
  · have hb5 (c : Fin 64) (d : Fin 512) : b5 j s (ix4 b h c d) = q c d * Ideal.ofBits .f32 0x3D3504F3#32 :=
      (q_at j hj s b h c d).trans (hq c d)
    unfold outS qDec
    simp only [hb5, sum_at j hj, k_at j hj, v_at j hj]
    congr 1
    refine Finset.sum_congr rfl fun x _ => ?_
    rw [mask_at _ _ (by have := c.isLt; omega) (by have := x.isLt; omega)]
    rfl

include hj in
/-- The stacked outputs after a trip. -/
theorem stack_at (n : Fin 32) (c : Fin 64) (e : Fin 1024) : b58 j s (ix5 n b h c e) =
    if n.val = j then b40 j s (ix4 b h c e) else s.main_v45_7 (ix5 n b h c e) := by
  have h53 : b53 j s (ix5 0 b h c e) = b40 j s (ix4 b h c e) := by
    unfold b53
    generalize b40 j s = y
    pointwise
  unfold b58 b54 b55 b56 b57
  rw [upd_at j hj b h _ _ _ _ (starts j hj), h53]

end Cert.Gla

end
-- ==== Proof.Gla.RefArrays.lean ====
/- The reference's results: the loop carries the state of every head from chunk to chunk and stacks the rows of output. -/
module

public import proofs.«01_k».proof.Proof.Gla.RefAt

@[expose] public section

set_option maxRecDepth 16384

noncomputable section

namespace Cert.Gla

open Idealize.ShloMosaic Idealize.ShloMosaic.TcCoe Cert.ReferenceIdeal Cert.ReferenceIdeal.Gen Cert.ReferenceIdeal.Step

/-- The reference's way to write the gate's logarithm: its test for not-a-number never holds. -/
theorem logGate_ref (z : EReal) :
    Ideal.div (-if -z ≠ -z then -z else max (-z) 0 + Ideal.log1p (Ideal.exp (-FloatOps.absf (F := Ideal) (φ := .f32) (-z))))
      (Ideal.ofBits FTy.f32 1098907648#32) = logGate z := by
  unfold logGate
  rw [if_neg (by simp)]
  have h : FloatOps.absf (F := Ideal) (φ := .f32) (-z) = max z (-z) := by
    show max (-z) (- -z) = _
    rw [neg_neg, max_comm]
  rw [h]

section Streams

variable (p : FVec Ideal S4x2048x12304 .f32) (w : FVec Ideal S1x16x2048 .f32) (bg : FVec Ideal S1x2048 .f32)
  (b h : Fin 4) (n : Fin 32)

theorem tok_chunk (c : Fin 64) : (⟨n.val * 64 + c.val, by omega⟩ : Fin 2048) = tok (64 * n.val + c.val) :=
  Fin.ext (by show n.val * 64 + c.val = (64 * n.val + c.val) % 2048; have := n.isLt; have := c.isLt; omega)

/-- The stacked queries, scaled. -/
theorem q_chunk (c : Fin 64) (d : Fin 512) : A_main_v37 (F := Ideal) p w bg (ix5 n b h c d) =
    chunk (qStr p b h) n.val c d * Ideal.ofBits .f32 0x3D3504F3#32 := by
  refine Eq.trans (b := p (ix3 b ⟨n.val * 64 + c.val, by omega⟩ ⟨h.val * 512 + d.val, by omega⟩) *
    Ideal.ofBits .f32 0x3D3504F3#32) ?_ ?_
  · pointwise [A_main_v37, A_main_v36, A_main_v30, A_main_v28, A_main_v0, K_main_v29, K_main_cst_1]
  · rw [tok_chunk]; rfl

theorem k_chunk (c : Fin 64) (d : Fin 512) : A_main_v39 (F := Ideal) p w bg (ix5 n b h c d) = chunk (kStr p b h) n.val c d := by
  refine Eq.trans (b := p (ix3 b ⟨n.val * 64 + c.val, by omega⟩ ⟨2048 + (h.val * 512 + d.val), by omega⟩)) ?_ ?_
  · pointwise [A_main_v39, A_main_v38, A_main_v31, A_main_v1]
  · rw [tok_chunk]; rfl

theorem v_chunk (c : Fin 64) (e : Fin 1024) : A_main_v41 (F := Ideal) p w bg (ix5 n b h c e) = chunk (vStr p b h) n.val c e := by
  refine Eq.trans (b := p (ix3 b ⟨n.val * 64 + c.val, by omega⟩ ⟨4096 + (h.val * 1024 + e.val), by omega⟩)) ?_ ?_
  · pointwise [A_main_v41, A_main_v40, A_main_v32, A_main_v2]
  · rw [tok_chunk]; rfl

theorem a_chunk (c : Fin 64) (d : Fin 512) : A_main_v43 (F := Ideal) p w bg (ix5 n b h c d) = chunk (aStr p w bg b h) n.val c d := by
  refine Eq.trans (b := logGate (∑ x : Fin 16, p (ix3 b ⟨n.val * 64 + c.val, by omega⟩ ⟨12288 + x.val, by omega⟩) *
    w (ix3 0 x ⟨h.val * 512 + d.val, by omega⟩) + bg (ix2 0 ⟨h.val * 512 + d.val, by omega⟩))) ?_ ?_
  · rw [← logGate_ref]
    pointwise [A_main_v43, A_main_v42, A_main_v33, A_main_v27, A_main_v25, A_main_v24, A_main_v23, A_main_v22, A_main_v21,
      A_main_v20, A_main_v19, A_main_v18, A_main_v16, A_main_v15, A_main_v13, A_main_v11, A_main_v10, A_main_v9, A_main_v8,
      A_main_v7, A_main_v6, A_main_v5, A_main_v4, K_main_v26, K_main_cst_0, K_main_cst, K_main_v12, K_main_v14, K_main_v17]
  · rw [tok_chunk]; rfl

end Streams

variable (m : (ℓ : Loc nD τ sig) → Buf (Elt Ideal) ℓ) (c : Dev nD) (it : ℕ → State Ideal)
  (h0 : it 0 = Loop.initState m c) (hs : ∀ n, it (n + 1) = step n (it n))

/-- The states of a head, of the reference's arguments. -/
def rState (b h : Fin 4) (n : ℕ) : Fin 512 → Fin 1024 → EReal :=
  headState (m ((c : Thread nD τ).loc main_arg0)) (m ((c : Thread nD τ).loc main_arg1)) (m ((c : Thread nD τ).loc main_arg2))
    (m ((c : Thread nD τ).loc main_arg4)) b h n

/-- The outputs of a head before the norm, of the reference's arguments. -/
def rO (b h : Fin 4) (l : Fin 2048) : Fin 1024 → EReal :=
  headO (m ((c : Thread nD τ).loc main_arg0)) (m ((c : Thread nD τ).loc main_arg1)) (m ((c : Thread nD τ).loc main_arg2))
    (m ((c : Thread nD τ).loc main_arg4)) b h l

include h0 hs in
/-- The stacked streams stay as they are set up. -/
theorem kept (n : ℕ) : (it n).main_v45_0 = (Loop.initState m c).main_v45_0 ∧ (it n).main_v45_1 = (Loop.initState m c).main_v45_1 ∧
    (it n).main_v45_2 = (Loop.initState m c).main_v45_2 ∧ (it n).main_v45_3 = (Loop.initState m c).main_v45_3 := by
  induction n with
  | zero => rw [h0]; exact ⟨rfl, rfl, rfl, rfl⟩
  | succ n ih => rw [hs]; exact ih

include h0 hs in
theorem it_q (n : ℕ) (b h : Fin 4) (k : Fin 32) (r : Fin 64) (d : Fin 512) : tripQ (it n) b h k r d =
    chunk (qStr (m ((c : Thread nD τ).loc main_arg0)) b h) k.val r d * Ideal.ofBits .f32 0x3D3504F3#32 := by
  unfold tripQ
  rw [(kept m c it h0 hs n).1]
  exact q_chunk (m ((c : Thread nD τ).loc main_arg0)) (m ((c : Thread nD τ).loc main_arg1)) (m ((c : Thread nD τ).loc main_arg2)) b h k r d

include h0 hs in
theorem it_k (n : ℕ) (b h : Fin 4) (k : Fin 32) : tripK (it n) b h k = chunk (kStr (m ((c : Thread nD τ).loc main_arg0)) b h) k.val := by
  funext r d
  unfold tripK
  rw [(kept m c it h0 hs n).2.1]
  exact k_chunk (m ((c : Thread nD τ).loc main_arg0)) (m ((c : Thread nD τ).loc main_arg1)) (m ((c : Thread nD τ).loc main_arg2)) b h k r d

include h0 hs in
theorem it_v (n : ℕ) (b h : Fin 4) (k : Fin 32) : tripV (it n) b h k = chunk (vStr (m ((c : Thread nD τ).loc main_arg0)) b h) k.val := by
  funext r d
  unfold tripV
  rw [(kept m c it h0 hs n).2.2.1]
  exact v_chunk (m ((c : Thread nD τ).loc main_arg0)) (m ((c : Thread nD τ).loc main_arg1)) (m ((c : Thread nD τ).loc main_arg2)) b h k r d

include h0 hs in
theorem it_a (n : ℕ) (b h : Fin 4) (k : Fin 32) : tripA (it n) b h k = chunk (aStr (m ((c : Thread nD τ).loc main_arg0))
    (m ((c : Thread nD τ).loc main_arg1)) (m ((c : Thread nD τ).loc main_arg2)) b h) k.val := by
  funext r d
  unfold tripA
  rw [(kept m c it h0 hs n).2.2.2]
  exact a_chunk (m ((c : Thread nD τ).loc main_arg0)) (m ((c : Thread nD τ).loc main_arg1)) (m ((c : Thread nD τ).loc main_arg2)) b h k r d

include h0 hs in
/-- The state before trip `n` is the state after `n` chunks. -/
theorem it_state (n : ℕ) (hn : n ≤ 32) (b h : Fin 4) :
    (fun d e => (it n).main_v45_6 (ix4 b h d e)) = rState m c b h n := by
  induction n with
  | zero => rw [h0]; rfl
  | succ n ih =>
    funext d e
    rw [hs, step_main_v45_6]
    refine (next_at n (by omega) (it n) b h d e).trans ?_
    rw [it_a m c it h0 hs, it_k m c it h0 hs, it_v m c it h0 hs, ih (by omega)]
    rfl

include h0 hs in
/-- The rows of output stacked before trip `n`. -/
theorem it_rows (n : ℕ) (hn : n ≤ 32) (b h : Fin 4) (k : Fin 32) (hk : k.val < n) (r : Fin 64) (e : Fin 1024) :
    (it n).main_v45_7 (ix5 k b h r e) = rO m c b h ⟨k.val * 64 + r.val, by omega⟩ e := by
  induction n with
  | zero => omega
  | succ n ih =>
    rw [hs, step_main_v45_7]
    refine (stack_at n (by omega) (it n) b h k r e).trans ?_
    by_cases hkn : k.val = n
    · rw [if_pos hkn, rows_at n (by omega) (it n) b h _ (fun r d => it_q m c it h0 hs n b h _ r d), it_a m c it h0 hs,
        it_k m c it h0 hs, it_v m c it h0 hs, it_state m c it h0 hs n (by omega)]
      unfold rO headO chunkO
      have e1 : (k.val * 64 + r.val) / 64 = n := by have := r.isLt; omega
      have e2 : (k.val * 64 + r.val) % 64 = r.val := by have := r.isLt; omega
      simp only [e1, e2]
      rfl
    · rw [if_neg hkn]
      exact ih (by omega) (by omega)

include h0 hs in
/-- The reference's gated outputs. -/
theorem ref_out (b : Fin 4) (l : Fin 2048) (x : Fin 4096) :
    R_main_v70 (it 32) (m ((c : Thread nD τ).loc main_arg0)) (m ((c : Thread nD τ).loc main_arg3)) (ix3 b l x) =
      headOut (m ((c : Thread nD τ).loc main_arg0)) (m ((c : Thread nD τ).loc main_arg1)) (m ((c : Thread nD τ).loc main_arg2))
        (m ((c : Thread nD τ).loc main_arg3)) (m ((c : Thread nD τ).loc main_arg4)) b ⟨x.val / 1024, by omega⟩ l
        ⟨x.val % 1024, by omega⟩ := by
  have ho (e : Fin 1024) : (it 32).main_v45_7 (ix5 ⟨l.val / 64, by omega⟩ b ⟨x.val / 1024, by omega⟩ ⟨l.val % 64, by omega⟩ e) =
      rO m c b ⟨x.val / 1024, by omega⟩ l e := by
    rw [it_rows m c it h0 hs 32 le_rfl _ _ _ (by show l.val / 64 < 32; omega)]
    exact congrArg (fun l => rO m c b ⟨x.val / 1024, by omega⟩ l e) (Fin.ext (by show l.val / 64 * 64 + l.val % 64 = l.val; omega))
  pointwise [R_main_v70]
  simp only [ho]
  unfold headOut normGate Ideal.logistic
  have hr : rStr (m ((c : Thread nD τ).loc main_arg0)) b ⟨x.val / 1024, by omega⟩ l.val ⟨x.val % 1024, by omega⟩ =
      m ((c : Thread nD τ).loc main_arg0) (ix3 b l ⟨8192 + x.val, by omega⟩) := by
    unfold rStr tok
    blk_ext []
  rw [hr]
  rfl

end Cert.Gla

end
-- ==== Proof.Proj.Rows.lean ====
/- Products of rows with columns, and the RMS-normalised row. -/
module

public import Idealize.ShloMosaic.Lib.Pipeline.ValueKit

@[expose] public section

noncomputable section

namespace Cert.Proj

open Idealize.ShloMosaic

/-- The product of a row and a column. -/
def dotRow {n : ℕ} (x w : Fin n → EReal) : EReal := ∑ k, x k * w k

/-- An entry of a row of 4096 divided by the root of its mean square (with the epsilon added), times the gain. -/
def rms (x g : Fin 4096 → EReal) (k : Fin 4096) : EReal :=
  x k * Ideal.rsqrt (Ideal.div (∑ d, x d * x d) (Ideal.ofBits .f32 0x45800000#32) + Ideal.ofBits .f32 0x358637BD#32) * g k

/-- The same of a head of 128. -/
def rmsHead (x g : Fin 128 → EReal) (k : Fin 128) : EReal :=
  x k * Ideal.rsqrt (Ideal.div (∑ d, x d * x d) (Ideal.ofBits .f32 0x43000000#32) + Ideal.ofBits .f32 0x358637BD#32) * g k

/-- A head turned by the tables of cosines and of signed sines: the entry half a head away is what the sine multiplies. -/
def turn (y cs sn : Fin 128 → EReal) (e : Fin 128) : EReal :=
  y e * cs e + y ⟨(e.val + 64) % 128, Nat.mod_lt _ (by decide)⟩ * sn e

/-- The head an entry of a row of heads lies in, and its place there. -/
def headAt {n : ℕ} (x : Fin (n * 128) → EReal) (k : Fin (n * 128)) (d : Fin 128) : EReal :=
  x ⟨k.val / 128 * 128 + d.val, by have := k.isLt; have := d.isLt; omega⟩
def inHead {n : ℕ} (k : Fin (n * 128)) : Fin 128 := ⟨k.val % 128, Nat.mod_lt _ (by decide)⟩

/-- An entry of a row of heads, each normalised and turned. -/
def ropeRow {n : ℕ} (x : Fin (n * 128) → EReal) (g cs sn : Fin 128 → EReal) (k : Fin (n * 128)) : EReal :=
  turn (rmsHead (headAt x k) g) cs sn (inHead k)

theorem turn_congr {x x' g g' cs cs' sn sn' : Fin 128 → EReal} {e e' : Fin 128} (hx : x = x') (hg : g = g') (hc : cs = cs')
    (hs : sn = sn') (he : e = e') : turn (rmsHead x g) cs sn e = turn (rmsHead x' g') cs' sn' e' := by
  rw [hx, hg, hc, hs, he]

/-- A token's row of cosines, and of signed sines, over a whole head. -/
def cosRow (c : Fin 64 → EReal) (d : Fin 128) : EReal := c ⟨d.val % 64, Nat.mod_lt _ (by decide)⟩
def sinRow (s : Fin 64 → EReal) (d : Fin 128) : EReal :=
  if d.val < 64 then -s ⟨d.val % 64, Nat.mod_lt _ (by decide)⟩ else s ⟨d.val % 64, Nat.mod_lt _ (by decide)⟩

/-- An entry of a token's keys, values and queries, from its row, the gains, the weights and the tables. -/
def keyAt (x g : Fin 4096 → EReal) (w : Fin 4096 → Fin 2048 → EReal) (kn : Fin 128 → EReal) (cs sn : Fin 64 → EReal) (n : Fin 1024) : EReal :=
  ropeRow (n := 8) (fun j => dotRow (fun k => rms x g k) (fun k => w k ⟨j.val, by have : j.val < 1024 := j.isLt; omega⟩)) kn
    (cosRow cs) (sinRow sn) n
def valAt (x g : Fin 4096 → EReal) (w : Fin 4096 → Fin 2048 → EReal) (n : Fin 1024) : EReal :=
  dotRow (fun k => rms x g k) (fun k => w k ⟨1024 + n.val, by omega⟩)
def queryAt (x g : Fin 4096 → EReal) (w : Fin 4096 → Fin 4096 → EReal) (qn : Fin 128 → EReal) (cs sn : Fin 64 → EReal) (n : Fin 4096) : EReal :=
  ropeRow (n := 32) (fun j => dotRow (fun k => rms x g k) (fun k => w k j)) qn (cosRow cs) (sinRow sn) n

theorem ropeRow_congr {n : ℕ} {x x' : Fin (n * 128) → EReal} {g g' cs cs' sn sn' : Fin 128 → EReal} (k : Fin (n * 128)) (hx : x = x')
    (hg : g = g') (hc : cs = cs') (hs : sn = sn') : ropeRow x g cs sn k = ropeRow x' g' cs' sn' k := by
  rw [hx, hg, hc, hs]

end Cert.Proj

end
-- ==== Proof.Proj.InNorm.lean ====
/- The normalised rows the first region of the GLA input projection leaves. -/
module

public import proofs.«01_k».proof.Proof.Gen.GlaInIdeal.Frame
public import proofs.«01_k».proof.Proof.Proj.Rows

@[expose] public section

set_option maxRecDepth 16384

noncomputable section

namespace Cert.GlaInPf

open Idealize.ShloMosaic Idealize.ShloMosaic.TcCoe Cert.GlaInIdeal Cert.GlaInIdeal.Gen Idealize.SL.Sem

/-- The block of rows of a grid point. -/
theorem idx0 : ∀ t : Fin cfg0.N, win0_0.index t = ![t.val, 0] ∧ win0_1.index t = ![0, 0] ∧ win0_2.index t = ![t.val, 0] :=
  (by decide +kernel : ∀ t : Fin grid0.N, _)

/-- The payload of a block, entry by entry. -/
theorem pay0_at (x : S256x4096.Idx → EReal) (g : S1x4096.Idx → EReal) (p : Fin 256) (k : Fin 4096) :
    (k0_pay1 (F := Ideal) x g (ix2 p k) : EReal) = Proj.rms (fun d => x (ix2 p d)) (fun d => g (ix2 0 d)) k := by
  unfold Proj.rms
  pointwise [k0_pay1]

variable (V : (c : Dev nD) → (b : Ref sig .tc) → Buf (Elt Ideal) ((c : Thread nD τ).loc b))

/-- The normalised rows. -/
def hnArr (X : S8192x4096.Idx → EReal) (G : S1x4096.Idx → EReal) : S8192x4096.Idx → EReal := fun j =>
  Proj.rms (fun d => X (ix2 (j 0) d)) (fun d => G (ix2 0 d)) (j 1)

def row0 (t : Fin cfg0.N) (p : Fin 256) : Fin 8192 := ⟨256 * t.val + p.val, by have h : t.val < 32 := t.isLt; omega⟩

theorem blk0_x (c : Dev nD) (t : Fin cfg0.N) (p : Fin 256) (k : Fin 4096) :
    iblk0 V c 0 t (ix2 p k) = V c main_v3 (ix2 (row0 t p) k) := by
  refine congrArg (V c main_v3) (?_ : _ = ix2 (row0 t p) k)
  blk_ext [idx0 t, row0]

theorem blk0_g (c : Dev nD) (t : Fin cfg0.N) (k : Fin 4096) : iblk0 V c 1 t (ix2 0 k) = V c main_v4 (ix2 0 k) := by
  refine congrArg (V c main_v4) (?_ : _ = ix2 0 k)
  blk_ext [idx0 t]

/-- A block of the first region's array is a block of `hnArr`. -/
theorem point0 (c : Dev nD) (t : Fin cfg0.N) (y : S256x4096.Idx) :
    k0_pay1 (F := Ideal) (iblk0 V c 0 t) (iblk0 V c 1 t) y =
      hnArr (V c main_v3) (V c main_v4) (((cfg0.win 2).blk t).view.emb y) := by
  obtain ⟨p, k, rfl⟩ : ∃ (p : Fin 256) (k : Fin 4096), y = ix2 p k := ⟨y 0, y 1, (ix2_eta y).symm⟩
  have he : ((cfg0.win 2).blk t).view.emb (ix2 p k) = ix2 (row0 t p) k := by
    blk_ext [idx0 t, row0]
  rw [he]
  refine (pay0_at _ _ p k).trans ?_
  exact congrArg₂ (fun x g => Proj.rms x g k) (funext fun d => blk0_x V c t p d) (funext fun d => blk0_g V c t d)

theorem final0 (c : Dev nD) : (dat0 V c).arrAt 2 cfg0.N = hnArr (V c main_v3) (V c main_v4) := by
  refine (dat0 V c).arrAt_eq_of_covers 2 _ (by decide +kernel) fun t _ y => ?_
  blk_simp
  rw [after0_2]
  frame_out
  exact point0 V c t y

end Cert.GlaInPf

end
-- ==== Proof.Proj.InArray.lean ====
/- The array the GLA input projection leaves, over the extended reals. -/
module

public import proofs.«01_k».proof.Proof.Proj.InNorm

@[expose] public section

set_option maxRecDepth 16384

noncomputable section

namespace Cert.GlaInPf

open Idealize.ShloMosaic Idealize.ShloMosaic.TcCoe Cert.GlaInIdeal Cert.GlaInIdeal.Gen Idealize.SL.Sem

/-- The blocks of a grid point of the product: rows by `t % 8`, columns by `t / 8`. -/
theorem idx1 : ∀ t : Fin cfg1.N, win1_0.index t = ![t.val % 8, 0] ∧ win1_1.index t = ![0, t.val / 8] ∧
    win1_2.index t = ![t.val % 8, t.val / 8] :=
  (by decide +kernel : ∀ t : Fin grid1.N, _)

/-- The payload of a block of the product, entry by entry. -/
theorem pay1_at (x : S1024x4096.Idx → EReal) (w : S4096x1024.Idx → EReal) (p q : Fin 1024) :
    (k1_pay1 (F := Ideal) x w (ix2 p q) : EReal) = Proj.dotRow (fun k => x (ix2 p k)) (fun k => w (ix2 k q)) := by
  unfold Proj.dotRow
  pointwise [k1_pay1]

section Region

variable (V : (c : Dev nD) → (b : Ref sig .tc) → Buf (Elt Ideal) ((c : Thread nD τ).loc b))

/-- The product of the rows of one array with the columns of the other. -/
def mmArr (X : S8192x4096.Idx → EReal) (W : S4096x12288.Idx → EReal) : S8192x12288.Idx → EReal := fun j =>
  Proj.dotRow (fun k => X (ix2 (j 0) k)) (fun k => W (ix2 k (j 1)))

def row1 (t : Fin cfg1.N) (p : Fin 1024) : Fin 8192 := ⟨1024 * (t.val % 8) + p.val, by omega⟩
def col1 (t : Fin cfg1.N) (q : Fin 1024) : Fin 12288 := ⟨1024 * (t.val / 8) + q.val, by have h : t.val < 96 := t.isLt; omega⟩

theorem blk1_x (c : Dev nD) (t : Fin cfg1.N) (p : Fin 1024) (k : Fin 4096) :
    iblk1 V c 0 t (ix2 p k) = V c main_v5 (ix2 (row1 t p) k) := by
  refine congrArg (V c main_v5) (?_ : _ = ix2 (row1 t p) k)
  blk_ext [idx1 t, row1]

theorem blk1_w (c : Dev nD) (t : Fin cfg1.N) (k : Fin 4096) (q : Fin 1024) :
    iblk1 V c 1 t (ix2 k q) = V c main_v2 (ix2 k (col1 t q)) := by
  refine congrArg (V c main_v2) (?_ : _ = ix2 k (col1 t q))
  blk_ext [idx1 t, col1]

/-- A block of the product's array is a block of `mmArr`. -/
theorem point1 (c : Dev nD) (t : Fin cfg1.N) (y : S1024x1024.Idx) :
    k1_pay1 (F := Ideal) (iblk1 V c 0 t) (iblk1 V c 1 t) y =
      mmArr (V c main_v5) (V c main_v2) (((cfg1.win 2).blk t).view.emb y) := by
  obtain ⟨p, q, rfl⟩ : ∃ (p q : Fin 1024), y = ix2 p q := ⟨y 0, y 1, (ix2_eta y).symm⟩
  have he : ((cfg1.win 2).blk t).view.emb (ix2 p q) = ix2 (row1 t p) (col1 t q) := by
    blk_ext [idx1 t, row1, col1]
  rw [he]
  refine (pay1_at _ _ p q).trans ?_
  exact congrArg₂ Proj.dotRow (funext fun k => blk1_x V c t p k) (funext fun k => blk1_w V c t k q)

theorem final1 (c : Dev nD) : (dat1 V c).arrAt 2 cfg1.N = mmArr (V c main_v5) (V c main_v2) := by
  refine (dat1 V c).arrAt_eq_of_covers 2 _ (by decide +kernel) fun t _ y => ?_
  blk_simp
  rw [after1_2]
  frame_out
  exact point1 V c t y

end Region

variable (m : (ℓ : Loc nD τ sig) → Buf (Elt Ideal) ℓ) (ρ : Dev nD → PrngReg)

/-- The sequence and the token of a row. -/
def seqOf (i : Fin 8192) : Fin 4 := ⟨i.val / 2048, by omega⟩
def tokOf (i : Fin 8192) : Fin 2048 := ⟨i.val % 2048, by omega⟩

theorem v2_at (c : Dev nD) (k : Fin 4096) (n : Fin 12288) :
    V1 m ρ c main_v2 (ix2 k n) = m ((c : Thread nD τ).loc main_arg2) (ix3 0 k ⟨n.val, by omega⟩) := by
  simp only [V1, W1, hostOps0]
  entry_read
  try simp only [StableHlo.TRef.toBuf, StableHlo.TRef.ofBuf, cast_eq]
  pointwise
  try rfl

theorem v3_at (c : Dev nD) (i : Fin 8192) (k : Fin 4096) :
    V1 m ρ c main_v3 (ix2 i k) = m ((c : Thread nD τ).loc main_arg0) (ix3 (seqOf i) (tokOf i) k) := by
  simp only [V1, W1, hostOps0]
  entry_read
  try simp only [StableHlo.TRef.toBuf, StableHlo.TRef.ofBuf, cast_eq]
  pointwise
  try rfl

theorem v4_at (c : Dev nD) (k : Fin 4096) :
    V1 m ρ c main_v4 (ix2 0 k) = m ((c : Thread nD τ).loc main_arg1) (ix2 0 k) := by
  simp only [V1, W1, hostOps0]
  entry_read
  try simp only [StableHlo.TRef.toBuf, StableHlo.TRef.ofBuf, cast_eq]
  pointwise
  try rfl

/-- The array the program leaves, from its arguments. -/
def outArr (c : Dev nD) : S8192x12288.Idx → EReal := fun j =>
  Proj.dotRow (fun k => Proj.rms (fun d => m ((c : Thread nD τ).loc main_arg0) (ix3 (seqOf (j 0)) (tokOf (j 0)) d))
      (fun d => m ((c : Thread nD τ).loc main_arg1) (ix2 0 d)) k)
    (fun k => m ((c : Thread nD τ).loc main_arg2) (ix3 0 k ⟨(j 1).val, by have : (j 1).val < 12288 := (j 1).isLt; omega⟩))

theorem last (c : Dev nD) : W3 m ρ c (Proc.devRef .tc main_v6) = outArr m c := by
  refine (W3_arr m ρ c 2).trans ((final1 (V2 m ρ) c).trans ?_)
  have h5 : V2 m ρ c main_v5 = hnArr (V1 m ρ c main_v3) (V1 m ρ c main_v4) := (W2_arr m ρ c 2).trans (final0 (V1 m ρ) c)
  have h2 : V2 m ρ c main_v2 = V1 m ρ c main_v2 := W2_of m ρ c main_v2 (by decide)
  rw [h5, h2]
  funext j
  obtain ⟨i, n, rfl⟩ : ∃ (i : Fin 8192) (n : Fin 12288), j = ix2 i n := ⟨j 0, j 1, (ix2_eta j).symm⟩
  refine congrArg₂ Proj.dotRow (funext fun k => ?_) (funext fun k => v2_at m ρ c k n)
  exact congrArg₂ (fun x g => Proj.rms x g k) (funext fun d => v3_at m ρ c i d) (funext fun d => v4_at m ρ c d)

end Cert.GlaInPf

end
-- ==== Proof.Proj.InRef.lean ====
/- The reference's GLA input projection, entry by entry. -/
module

public import proofs.«01_k».proof.Proof.Gen.GlaInRefIdeal
public import proofs.«01_k».proof.Proof.Proj.Rows

@[expose] public section

set_option maxRecDepth 16384

noncomputable section

namespace Cert.GlaInPf

open Idealize.ShloMosaic Idealize.ShloMosaic.TcCoe Cert.GlaInRefIdeal Cert.GlaInRefIdeal.Gen Idealize.SL.Sem

/-- The reference's normalised rows. -/
def refNorm (x : FVec Ideal S4x2048x4096 .f32) (g : FVec Ideal S2x4096 .f32) : FVec Ideal S4x2048x4096 .f32 :=
  mulf (mulf x (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast _ (extractStridedSlice S1x4096 ![0, 0] g slices_S2x4096_S1x4096_0_0) shapeCasts_S1x4096_S4096)))

theorem refNorm_at (x : FVec Ideal S4x2048x4096 .f32) (g : FVec Ideal S2x4096 .f32) (b : Fin 4) (l : Fin 2048) (k : Fin 4096) :
    (refNorm x g (ix3 b l k) : EReal) = Proj.rms (fun d => x (ix3 b l d)) (fun d => g (ix2 0 d)) k := by
  unfold Proj.rms
  pointwise [refNorm]

theorem ref_dot (y : FVec Ideal S4x2048x4096 .f32) (w : FVec Ideal S1x4096x12304 .f32) (b : Fin 4) (l : Fin 2048) (n : Fin 12304) :
    (Host.dotGeneral dot_S4x2048x4096_S4096x12304_S4x2048x12304_2_0_01_1_n_n none y
      (shapeCast S4096x12304 w shapeCasts_S1x4096x12304_S4096x12304) : FVec Ideal S4x2048x12304 .f32) (ix3 b l n) =
      (Proj.dotRow (fun k => y (ix3 b l k)) (fun k => w (ix3 0 k n)) : EReal) := by
  unfold Proj.dotRow
  pointwise

theorem ref_cut (z : FVec Ideal S4x2048x12304 .f32) (i : Fin 8192) (n : Fin 12288) :
    (shapeCast S8192x12288 (extractStridedSlice S4x2048x12288 ![0, 0, 0] z slices_S4x2048x12304_S4x2048x12288_0_0_0)
      shapeCasts_S4x2048x12288_S8192x12288 : FVec Ideal S8192x12288 .f32) (ix2 i n) =
      (z (ix3 ⟨i.val / 2048, by omega⟩ ⟨i.val % 2048, by omega⟩ ⟨n.val, by omega⟩) : EReal) := by
  pointwise

/-- The reference's array at a row and a column. -/
theorem ref_at (x : FVec Ideal S4x2048x4096 .f32) (g : FVec Ideal S2x4096 .f32) (w : FVec Ideal S1x4096x12304 .f32)
    (i : Fin 8192) (n : Fin 12288) :
    (shapeCast S8192x12288 (extractStridedSlice S4x2048x12288 ![0, 0, 0] (Host.dotGeneral dot_S4x2048x4096_S4096x12304_S4x2048x12304_2_0_01_1_n_n none (refNorm x g)
      (shapeCast S4096x12304 w shapeCasts_S1x4096x12304_S4096x12304)) slices_S4x2048x12304_S4x2048x12288_0_0_0)
      shapeCasts_S4x2048x12288_S8192x12288 : FVec Ideal S8192x12288 .f32) (ix2 i n) =
      (Proj.dotRow (fun k => Proj.rms (fun d => x (ix3 ⟨i.val / 2048, by omega⟩ ⟨i.val % 2048, by omega⟩ d)) (fun d => g (ix2 0 d)) k)
        (fun k => w (ix3 0 k ⟨n.val, by omega⟩)) : EReal) := by
  refine (ref_cut _ i n).trans ((ref_dot _ w _ _ _).trans ?_)
  exact congrArg₂ Proj.dotRow (funext fun k => refNorm_at x g _ _ k) rfl

end Cert.GlaInPf

end
-- ==== Proof.Proj.InRun.lean ====
/- The run of the whole program, with the results at the contents its last region leaves. -/
module

public import proofs.«01_k».proof.Proof.Gen.GlaInIdeal.Frame

@[expose] public section

set_option maxRecDepth 16384

noncomputable section

namespace Cert.GlaInPf

open Cert.GlaInIdeal Cert.GlaInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution ends with the results at the contents the last region leaves and the arguments as
    launched. -/
theorem run_last : θ_run defs (onTc (τ := τ) (main (F := F))) ⟨m, fun _ => 0, ρ⟩ fun r => ∀ c : Dev nD,
      r.2.mem ((c : Thread nD τ).loc main_v6) = W3 m ρ c (Proc.devRef .tc main_v6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.GlaInPf

end
-- ==== Proof.Proj.InClaim.lean ====
/- The claims about the GLA input projection. -/
module

public import proofs.«01_k».proof.Defs
public import proofs.«01_k».proof.Proof.Gen.GlaIn
public import proofs.«01_k».proof.Proof.Gen.GlaIn.Frame
public import proofs.«01_k».proof.Proof.Gen.GlaInIdeal
public import proofs.«01_k».proof.Proof.Gen.GlaInRefIdeal
public import proofs.«01_k».proof.Proof.Gen.GlaInRefIdeal.Run
public import proofs.«01_k».proof.Proof.Proj.InArray
public import proofs.«01_k».proof.Proof.Proj.InRef
public import proofs.«01_k».proof.Proof.Proj.InRun
public import Idealize.ShloMosaic.Lib.Claim

@[expose] public section

set_option maxRecDepth 16384

noncomputable section

namespace Cert.GlaInPf

open Idealize.ShloMosaic Idealize.ShloMosaic.TcCoe Idealize.SL.Sem

/-- The reference runs and keeps its arguments. -/
theorem frame_ref : Cert.quiescent_GlaInRefIdeal (hGlaInRefIdeal := Cert.GlaInRefIdeal.Gen.facts) := by
  intro m g _
  exact (θ_run _ _ _).mono (fun r h => ⟨fun c => (h c).2, sem_eq_zero_of_no_sems (by decide) r.2⟩) (Cert.GlaInRefIdeal.Value.run m g)

/-- The kernel's projection and the reference's give the same array. -/
theorem algebraic : Cert.algebraic_GlaInIdeal_GlaInRefIdeal (hGlaInIdeal := Cert.GlaInIdeal.Gen.facts)
    (hGlaInRefIdeal := Cert.GlaInRefIdeal.Gen.facts) := by
  pair_intro
  · run_from run_last m g
  · refine (θ_run _ _ _).mono (fun r h c => ?_) (Cert.GlaInRefIdeal.Value.run m' g')
    obtain ⟨a0, a1, a2⟩ := hagree c
    refine ⟨(h c).1.trans (Eq.trans ?_ (last m g c).symm), (h c).2⟩
    funext j
    obtain ⟨i, n, rfl⟩ : ∃ (i : Fin 8192) (n : Fin 12288), j = ix2 i n := ⟨j 0, j 1, (ix2_eta j).symm⟩
    refine (ref_at _ _ _ i n).trans ?_
    rw [a0, a1, a2]
    rfl

end Cert.GlaInPf

end
-- ==== Proof.Proj.OutArray.lean ====
/- The array the GLA output projection leaves, over the extended reals. -/
module

public import proofs.«01_k».proof.Proof.Gen.GlaOutIdeal.Frame
public import proofs.«01_k».proof.Proof.Proj.Rows

@[expose] public section

set_option maxRecDepth 16384

noncomputable section

namespace Cert.GlaOutPf

open Idealize.ShloMosaic Idealize.ShloMosaic.TcCoe Cert.GlaOutIdeal Cert.GlaOutIdeal.Gen Idealize.SL.Sem

variable (m : (ℓ : Loc nD τ sig) → Buf (Elt Ideal) ℓ)

/-- The blocks of a grid point: rows by `t % 8`, columns by `t / 8`. -/
theorem idx : ∀ t : Fin cfg0.N, win0_0.index t = ![t.val % 8, 0] ∧ win0_1.index t = ![0, t.val / 8] ∧
    win0_2.index t = ![t.val % 8, t.val / 8] ∧ win0_3.index t = ![t.val % 8, t.val / 8] :=
  (by decide +kernel : ∀ t : Fin grid0.N, _)

/-- The sequence and the token of a row. -/
def seqOf (i : Fin 8192) : Fin 4 := ⟨i.val / 2048, by omega⟩
def tokOf (i : Fin 8192) : Fin 2048 := ⟨i.val % 2048, by omega⟩

/-- The row and the column of a grid point's block entry. -/
def row (t : Fin cfg0.N) (p : Fin 1024) : Fin 8192 := ⟨1024 * (t.val % 8) + p.val, by omega⟩
def col (t : Fin cfg0.N) (q : Fin 1024) : Fin 4096 := ⟨1024 * (t.val / 8) + q.val, by have h : t.val < 32 := t.isLt; omega⟩

/-- The residual and the product of a row of the heads' output with a column of the weights. -/
def outAt (o x : Fin 4096 → EReal) (w : Fin 4096 → EReal) (n : Fin 4096) : EReal := x n + Proj.dotRow o w

theorem v1_at (c : Dev nD) (k n : Fin 4096) : V m c main_v1 (ix2 k n) = m ((c : Thread nD τ).loc main_arg2) (ix3 0 k n) := by
  simp only [V, hostOps0]
  entry_read
  try simp only [StableHlo.TRef.toBuf, StableHlo.TRef.ofBuf, cast_eq]
  pointwise

theorem v2_at (c : Dev nD) (i : Fin 8192) (k : Fin 4096) : V m c main_v2 (ix2 i k) =
    m ((c : Thread nD τ).loc main_arg0) (ix3 (seqOf i) (tokOf i) k) := by
  simp only [V, hostOps0]
  entry_read
  try simp only [StableHlo.TRef.toBuf, StableHlo.TRef.ofBuf, cast_eq]
  pointwise
  rfl

theorem v3_at (c : Dev nD) (i : Fin 8192) (k : Fin 4096) : V m c main_v3 (ix2 i k) =
    m ((c : Thread nD τ).loc main_arg1) (ix3 (seqOf i) (tokOf i) k) := by
  simp only [V, hostOps0]
  entry_read
  try simp only [StableHlo.TRef.toBuf, StableHlo.TRef.ofBuf, cast_eq]
  pointwise
  rfl

/-- The payload of a block, entry by entry. -/
theorem pay_at (z : S1024x1024.Idx → EReal) (x : S1024x4096.Idx → EReal) (w : S4096x1024.Idx → EReal) (p q : Fin 1024) :
    (k0_pay1 (F := Ideal) z x w (ix2 p q) : EReal) = z (ix2 p q) + Proj.dotRow (fun k => x (ix2 p k)) (fun k => w (ix2 k q)) := by
  unfold Proj.dotRow
  pointwise [k0_pay1]

/-- The array the call leaves. -/
def outArr (c : Dev nD) : S8192x4096.Idx → EReal := fun j =>
  outAt (fun k => m ((c : Thread nD τ).loc main_arg0) (ix3 (seqOf (j 0)) (tokOf (j 0)) k))
    (fun k => m ((c : Thread nD τ).loc main_arg1) (ix3 (seqOf (j 0)) (tokOf (j 0)) k))
    (fun k => m ((c : Thread nD τ).loc main_arg2) (ix3 0 k (j 1))) (j 1)

theorem blk_x (c : Dev nD) (t : Fin cfg0.N) (p : Fin 1024) (k : Fin 4096) : iblk m c 0 t (ix2 p k) =
    m ((c : Thread nD τ).loc main_arg0) (ix3 (seqOf (row t p)) (tokOf (row t p)) k) := by
  refine (congrArg (V m c main_v2) (?_ : _ = ix2 (row t p) k)).trans (v2_at m c _ _)
  blk_ext [idx t, row]

theorem blk_w (c : Dev nD) (t : Fin cfg0.N) (k : Fin 4096) (q : Fin 1024) : iblk m c 1 t (ix2 k q) =
    m ((c : Thread nD τ).loc main_arg2) (ix3 0 k (col t q)) := by
  refine (congrArg (V m c main_v1) (?_ : _ = ix2 k (col t q))).trans (v1_at m c _ _)
  blk_ext [idx t, col]

theorem blk_r (c : Dev nD) (t : Fin cfg0.N) (p q : Fin 1024) : iblk m c 2 t (ix2 p q) =
    m ((c : Thread nD τ).loc main_arg1) (ix3 (seqOf (row t p)) (tokOf (row t p)) (col t q)) := by
  refine (congrArg (V m c main_v3) (?_ : _ = ix2 (row t p) (col t q))).trans (v3_at m c _ _)
  blk_ext [idx t, row, col]

/-- A block of the result is a block of `outArr`. -/
theorem point (c : Dev nD) (t : Fin cfg0.N) (y : S1024x1024.Idx) :
    k0_pay1 (F := Ideal) (iblk m c 2 t) (iblk m c 0 t) (iblk m c 1 t) y = outArr m c (((cfg0.win 3).blk t).view.emb y) := by
  obtain ⟨p, q, rfl⟩ : ∃ (p q : Fin 1024), y = ix2 p q := ⟨y 0, y 1, (ix2_eta y).symm⟩
  have he : ((cfg0.win 3).blk t).view.emb (ix2 p q) = ix2 (row t p) (col t q) := by
    blk_ext [idx t, row, col]
  rw [he]
  refine (pay_at _ _ _ p q).trans ?_
  exact congrArg₂ (· + ·) (blk_r m c t p q) (congrArg₂ Proj.dotRow (funext fun k => blk_x m c t p k) (funext fun k => blk_w m c t k q))

theorem final (c : Dev nD) : (dats m 0 c).arrAt 3 (cfgs 0).N = outArr m c := by
  refine (dats m 0 c).arrAt_eq_of_covers 3 _ (by decide +kernel) fun t _ y => ?_
  blk_simp
  rw [after0_3]
  frame_out
  exact point m c t y

end Cert.GlaOutPf

end
-- ==== Proof.Proj.OutRef.lean ====
/- The reference's GLA output projection, entry by entry. -/
module

public import proofs.«01_k».proof.Proof.Gen.GlaOutRefIdeal
public import proofs.«01_k».proof.Proof.Proj.Rows

@[expose] public section

set_option maxRecDepth 16384

noncomputable section

namespace Cert.GlaOutPf

open Idealize.ShloMosaic Idealize.ShloMosaic.TcCoe Cert.GlaOutRefIdeal Cert.GlaOutRefIdeal.Gen Idealize.SL.Sem

theorem ref_dot (o : FVec Ideal S4x2048x4096 .bf16) (w : FVec Ideal S1x4096x4096 .f32) (b : Fin 4) (l : Fin 2048) (n : Fin 4096) :
    (Host.dotGeneral dot_S4x2048x4096_S4096x4096_S4x2048x4096_2_0_01_1_n_n none (extf .f32 o bitsLt_bf16_f32)
      (shapeCast S4096x4096 w shapeCasts_S1x4096x4096_S4096x4096) : FVec Ideal S4x2048x4096 .f32) (ix3 b l n) =
      (Proj.dotRow (fun k => o (ix3 b l k)) (fun k => w (ix3 0 k n)) : EReal) := by
  unfold Proj.dotRow
  pointwise

/-- The reference's array at a row and a column. -/
theorem ref_at (o : FVec Ideal S4x2048x4096 .bf16) (x : FVec Ideal S4x2048x4096 .f32) (w : FVec Ideal S1x4096x4096 .f32)
    (i : Fin 8192) (n : Fin 4096) :
    (shapeCast S8192x4096 (addf x (Host.dotGeneral dot_S4x2048x4096_S4096x4096_S4x2048x4096_2_0_01_1_n_n none (extf .f32 o bitsLt_bf16_f32)
      (shapeCast S4096x4096 w shapeCasts_S1x4096x4096_S4096x4096))) shapeCasts_S4x2048x4096_S8192x4096 : FVec Ideal S8192x4096 .f32) (ix2 i n) =
      (x (ix3 ⟨i.val / 2048, by omega⟩ ⟨i.val % 2048, by omega⟩ n) + Proj.dotRow
        (fun k => o (ix3 ⟨i.val / 2048, by omega⟩ ⟨i.val % 2048, by omega⟩ k)) (fun k => w (ix3 0 k n)) : EReal) := by
  refine Eq.trans (b := (addf x (Host.dotGeneral dot_S4x2048x4096_S4096x4096_S4x2048x4096_2_0_01_1_n_n none (extf .f32 o bitsLt_bf16_f32)
      (shapeCast S4096x4096 w shapeCasts_S1x4096x4096_S4096x4096)) : FVec Ideal S4x2048x4096 .f32)
        (ix3 ⟨i.val / 2048, by omega⟩ ⟨i.val % 2048, by omega⟩ n)) ?_ ?_
  · generalize (addf x _ : FVec Ideal S4x2048x4096 .f32) = z
    pointwise
  · exact congrArg (x _ + · : EReal → EReal) (ref_dot o w _ _ n)

end Cert.GlaOutPf

end
-- ==== Proof.Proj.OutClaim.lean ====
/- The claims about the GLA output projection. -/
module

public import proofs.«01_k».proof.Defs
public import proofs.«01_k».proof.Proof.Gen.GlaOut
public import proofs.«01_k».proof.Proof.Gen.GlaOut.Frame
public import proofs.«01_k».proof.Proof.Gen.GlaOutIdeal
public import proofs.«01_k».proof.Proof.Gen.GlaOutIdeal.Value
public import proofs.«01_k».proof.Proof.Gen.GlaOutRefIdeal
public import proofs.«01_k».proof.Proof.Gen.GlaOutRefIdeal.Run
public import proofs.«01_k».proof.Proof.Proj.OutArray
public import proofs.«01_k».proof.Proof.Proj.OutRef
public import Idealize.ShloMosaic.Lib.Claim

@[expose] public section

set_option maxRecDepth 16384

noncomputable section

namespace Cert.GlaOutPf

open Idealize.ShloMosaic Idealize.ShloMosaic.TcCoe Idealize.SL.Sem

/-- The reference runs and keeps its arguments. -/
theorem frame_ref : Cert.quiescent_GlaOutRefIdeal (hGlaOutRefIdeal := Cert.GlaOutRefIdeal.Gen.facts) := by
  intro m g _
  exact (θ_run _ _ _).mono (fun r h => ⟨fun c => (h c).2, sem_eq_zero_of_no_sems (by decide) r.2⟩) (Cert.GlaOutRefIdeal.Value.run m g)

/-- The kernel's projection and the reference's give the same array. -/
theorem algebraic : Cert.algebraic_GlaOutIdeal_GlaOutRefIdeal (hGlaOutIdeal := Cert.GlaOutIdeal.Gen.facts)
    (hGlaOutRefIdeal := Cert.GlaOutRefIdeal.Gen.facts) := by
  pair_intro
  · run_from Cert.GlaOutIdeal.Value.run_blocks m g
  · refine (θ_run _ _ _).mono (fun r h c => ?_) (Cert.GlaOutRefIdeal.Value.run m' g')
    obtain ⟨a0, a1, a2⟩ := hagree c
    refine ⟨(h c).1.trans (Eq.trans ?_ (final m c).symm), (h c).2⟩
    funext j
    obtain ⟨i, n, rfl⟩ : ∃ (i : Fin 8192) (n : Fin 4096), j = ix2 i n := ⟨j 0, j 1, (ix2_eta j).symm⟩
    refine (ref_at _ _ _ i n).trans ?_
    rw [a0, a1, a2]
    rfl

end Cert.GlaOutPf

end
-- ==== Proof.Proj.KvQNorm.lean ====
/- The two normalised arrays the first region of the keys' and queries' calls leaves. -/
module

public import proofs.«01_k».proof.Proof.Gen.KvQIdeal.Frame
public import proofs.«01_k».proof.Proof.Proj.Rows

@[expose] public section

set_option maxRecDepth 16384

noncomputable section

namespace Cert.KvQPf

open Idealize.ShloMosaic Idealize.ShloMosaic.TcCoe Cert.KvQIdeal Cert.KvQIdeal.Gen Idealize.SL.Sem

/-- The block of rows of a grid point. -/
theorem idx0 : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

/-- The payloads of a block, entry by entry. -/
theorem pay0_2 (x : S256x4096.Idx → EReal) (g : S1x4096.Idx → EReal) (p : Fin 256) (k : Fin 4096) :
    (k0_pay2 (F := Ideal) x g (ix2 p k) : EReal) = Proj.rms (fun d => x (ix2 p d)) (fun d => g (ix2 0 d)) k := by
  unfold Proj.rms
  pointwise [k0_pay2, k0_pay1]

theorem pay0_3 (x : S256x4096.Idx → EReal) (g : S1x4096.Idx → EReal) (p : Fin 256) (k : Fin 4096) :
    (k0_pay3 (F := Ideal) x g (ix2 p k) : EReal) = Proj.rms (fun d => x (ix2 p d)) (fun d => g (ix2 0 d)) k := by
  unfold Proj.rms
  pointwise [k0_pay3, k0_pay1]

variable (V : (c : Dev nD) → (b : Ref sig .tc) → Buf (Elt Ideal) ((c : Thread nD τ).loc b))

/-- The rows normalised with the gain of row `u`. -/
def hnArr (u : Fin 2) (X : S8192x4096.Idx → EReal) (G : S2x4096.Idx → EReal) : S8192x4096.Idx → EReal := fun j =>
  Proj.rms (fun d => X (ix2 (j 0) d)) (fun d => G (ix2 u d)) (j 1)

def row0 (t : Fin cfg0.N) (p : Fin 256) : Fin 8192 := ⟨256 * t.val + p.val, by have h : t.val < 32 := t.isLt; omega⟩

theorem blk0_x (c : Dev nD) (t : Fin cfg0.N) (p : Fin 256) (k : Fin 4096) :
    iblk0 V c 0 t (ix2 p k) = V c main_v3 (ix2 (row0 t p) k) := by
  refine congrArg (V c main_v3) (?_ : _ = ix2 (row0 t p) k)
  blk_ext [idx0 t, row0]

theorem blk0_g0 (c : Dev nD) (t : Fin cfg0.N) (k : Fin 4096) :
    View.ld (iblk0 V c 1 t) r0_1 (ix2 0 k) = V c main_v8 (ix2 0 k) := by
  refine congrArg (V c main_v8) (?_ : _ = ix2 0 k)
  blk_ext [idx0 t]
  · exact (by omega : 0 + 1 * 0 = 0)
  · exact (by omega : 0 + 1 * k.val = k.val)

theorem blk0_g1 (c : Dev nD) (t : Fin cfg0.N) (k : Fin 4096) :
    View.ld (iblk0 V c 1 t) r0_2 (ix2 0 k) = V c main_v8 (ix2 1 k) := by
  refine congrArg (V c main_v8) (?_ : _ = ix2 1 k)
  blk_ext [idx0 t]
  · exact (by omega : 1 + 1 * 0 = 1)
  · exact (by omega : 0 + 1 * k.val = k.val)

/-- A block of each array the region leaves is a block of `hnArr`. -/
theorem point0_2 (c : Dev nD) (t : Fin cfg0.N) (y : S256x4096.Idx) :
    k0_pay2 (F := Ideal) (iblk0 V c 0 t) (View.ld (iblk0 V c 1 t) r0_1) y =
      hnArr 0 (V c main_v3) (V c main_v8) (((cfg0.win 2).blk t).view.emb y) := by
  obtain ⟨p, k, rfl⟩ : ∃ (p : Fin 256) (k : Fin 4096), y = ix2 p k := ⟨y 0, y 1, (ix2_eta y).symm⟩
  have he : ((cfg0.win 2).blk t).view.emb (ix2 p k) = ix2 (row0 t p) k := by
    blk_ext [idx0 t, row0]
  rw [he]
  refine (pay0_2 _ _ p k).trans ?_
  exact congrArg₂ (fun x g => Proj.rms x g k) (funext fun d => blk0_x V c t p d) (funext fun d => blk0_g0 V c t d)

theorem point0_3 (c : Dev nD) (t : Fin cfg0.N) (y : S256x4096.Idx) :
    k0_pay3 (F := Ideal) (iblk0 V c 0 t) (View.ld (iblk0 V c 1 t) r0_2) y =
      hnArr 1 (V c main_v3) (V c main_v8) (((cfg0.win 3).blk t).view.emb y) := by
  obtain ⟨p, k, rfl⟩ : ∃ (p : Fin 256) (k : Fin 4096), y = ix2 p k := ⟨y 0, y 1, (ix2_eta y).symm⟩
  have he : ((cfg0.win 3).blk t).view.emb (ix2 p k) = ix2 (row0 t p) k := by
    blk_ext [idx0 t, row0]
  rw [he]
  refine (pay0_3 _ _ p k).trans ?_
  exact congrArg₂ (fun x g => Proj.rms x g k) (funext fun d => blk0_x V c t p d) (funext fun d => blk0_g1 V c t d)

theorem final0_2 (c : Dev nD) : (dat0 V c).arrAt 2 cfg0.N = hnArr 0 (V c main_v3) (V c main_v8) := by
  refine (dat0 V c).arrAt_eq_of_covers 2 _ (by decide +kernel) fun t _ y => ?_
  blk_simp
  rw [after0_2]
  frame_out
  exact point0_2 V c t y

theorem final0_3 (c : Dev nD) : (dat0 V c).arrAt 3 cfg0.N = hnArr 1 (V c main_v3) (V c main_v8) := by
  refine (dat0 V c).arrAt_eq_of_covers 3 _ (by decide +kernel) fun t _ y => ?_
  blk_simp
  rw [after0_3]
  frame_out
  exact point0_3 V c t y

end Cert.KvQPf

end
-- ==== Proof.Proj.KvQMm.lean ====
/- The products of the normalised rows with the weights of the keys, the values and the queries. -/
module

public import proofs.«01_k».proof.Proof.Gen.KvQIdeal.Frame
public import proofs.«01_k».proof.Proof.Proj.Rows

@[expose] public section

set_option maxRecDepth 16384

noncomputable section

namespace Cert.KvQPf

open Idealize.ShloMosaic Idealize.ShloMosaic.TcCoe Cert.KvQIdeal Cert.KvQIdeal.Gen Idealize.SL.Sem

variable (V : (c : Dev nD) → (b : Ref sig .tc) → Buf (Elt Ideal) ((c : Thread nD τ).loc b))

/-- The blocks of a grid point of the product with `w_kv`: rows by `t % 8`, columns by `t / 8`. -/
theorem idx1 : ∀ t : Fin cfg1.N, win1_0.index t = ![t.val % 8, 0] ∧ win1_1.index t = ![0, t.val / 8] ∧
    win1_2.index t = ![t.val % 8, t.val / 8] :=
  (by decide +kernel : ∀ t : Fin grid1.N, _)

/-- The payload of a block, entry by entry. -/
theorem pay1_at (x : S1024x4096.Idx → EReal) (w : S4096x1024.Idx → EReal) (p : Fin 1024) (q : Fin 1024) :
    (k1_pay1 (F := Ideal) x w (ix2 p q) : EReal) = Proj.dotRow (fun k => x (ix2 p k)) (fun k => w (ix2 k q)) := by
  unfold Proj.dotRow
  pointwise [k1_pay1]

/-- The product of the rows of one array with the columns of the other. -/
def mm1 (X : S8192x4096.Idx → EReal) (W : S4096x2048.Idx → EReal) : S8192x2048.Idx → EReal := fun j =>
  Proj.dotRow (fun k => X (ix2 (j 0) k)) (fun k => W (ix2 k (j 1)))

def row1 (t : Fin cfg1.N) (p : Fin 1024) : Fin 8192 := ⟨1024 * (t.val % 8) + p.val, by omega⟩
def col1 (t : Fin cfg1.N) (q : Fin 1024) : Fin 2048 := ⟨1024 * (t.val / 8) + q.val, by have h : t.val < 16 := t.isLt; omega⟩

theorem blk1_x (c : Dev nD) (t : Fin cfg1.N) (p : Fin 1024) (k : Fin 4096) :
    iblk1 V c 0 t (ix2 p k) = V c main_v9_0 (ix2 (row1 t p) k) := by
  refine congrArg (V c main_v9_0) (?_ : _ = ix2 (row1 t p) k)
  blk_ext [idx1 t, row1]

theorem blk1_w (c : Dev nD) (t : Fin cfg1.N) (k : Fin 4096) (q : Fin 1024) :
    iblk1 V c 1 t (ix2 k q) = V c main_v10 (ix2 k (col1 t q)) := by
  refine congrArg (V c main_v10) (?_ : _ = ix2 k (col1 t q))
  blk_ext [idx1 t, col1]

/-- A block of the product's array is a block of `mm1`. -/
theorem point1 (c : Dev nD) (t : Fin cfg1.N) (y : S1024x1024.Idx) :
    k1_pay1 (F := Ideal) (iblk1 V c 0 t) (iblk1 V c 1 t) y =
      mm1 (V c main_v9_0) (V c main_v10) (((cfg1.win 2).blk t).view.emb y) := by
  obtain ⟨p, q, rfl⟩ : ∃ (p : Fin 1024) (q : Fin 1024), y = ix2 p q := ⟨y 0, y 1, (ix2_eta y).symm⟩
  have he : ((cfg1.win 2).blk t).view.emb (ix2 p q) = ix2 (row1 t p) (col1 t q) := by
    blk_ext [idx1 t, row1, col1]
  rw [he]
  refine (pay1_at _ _ p q).trans ?_
  exact congrArg₂ Proj.dotRow (funext fun k => blk1_x V c t p k) (funext fun k => blk1_w V c t k q)

theorem final1 (c : Dev nD) : (dat1 V c).arrAt 2 cfg1.N = mm1 (V c main_v9_0) (V c main_v10) := by
  refine (dat1 V c).arrAt_eq_of_covers 2 _ (by decide +kernel) fun t _ y => ?_
  blk_simp
  rw [after1_2]
  frame_out
  exact point1 V c t y

/-- The blocks of a grid point of the product with `w_q`: rows by `t % 8`, columns by `t / 8`. -/
theorem idx3 : ∀ t : Fin cfg3.N, win3_0.index t = ![t.val % 8, 0] ∧ win3_1.index t = ![0, t.val / 8] ∧
    win3_2.index t = ![t.val % 8, t.val / 8] :=
  (by decide +kernel : ∀ t : Fin grid3.N, _)

/-- The payload of a block, entry by entry. -/
theorem pay3_at (x : S1024x4096.Idx → EReal) (w : S4096x1024.Idx → EReal) (p : Fin 1024) (q : Fin 1024) :
    (k3_pay1 (F := Ideal) x w (ix2 p q) : EReal) = Proj.dotRow (fun k => x (ix2 p k)) (fun k => w (ix2 k q)) := by
  unfold Proj.dotRow
  pointwise [k3_pay1]

/-- The product of the rows of one array with the columns of the other. -/
def mm3 (X : S8192x4096.Idx → EReal) (W : S4096x4096.Idx → EReal) : S8192x4096.Idx → EReal := fun j =>
  Proj.dotRow (fun k => X (ix2 (j 0) k)) (fun k => W (ix2 k (j 1)))

def row3 (t : Fin cfg3.N) (p : Fin 1024) : Fin 8192 := ⟨1024 * (t.val % 8) + p.val, by omega⟩
def col3 (t : Fin cfg3.N) (q : Fin 1024) : Fin 4096 := ⟨1024 * (t.val / 8) + q.val, by have h : t.val < 32 := t.isLt; omega⟩

theorem blk3_x (c : Dev nD) (t : Fin cfg3.N) (p : Fin 1024) (k : Fin 4096) :
    iblk3 V c 0 t (ix2 p k) = V c main_v9_1 (ix2 (row3 t p) k) := by
  refine congrArg (V c main_v9_1) (?_ : _ = ix2 (row3 t p) k)
  blk_ext [idx3 t, row3]

theorem blk3_w (c : Dev nD) (t : Fin cfg3.N) (k : Fin 4096) (q : Fin 1024) :
    iblk3 V c 1 t (ix2 k q) = V c main_v17 (ix2 k (col3 t q)) := by
  refine congrArg (V c main_v17) (?_ : _ = ix2 k (col3 t q))
  blk_ext [idx3 t, col3]

/-- A block of the product's array is a block of `mm3`. -/
theorem point3 (c : Dev nD) (t : Fin cfg3.N) (y : S1024x1024.Idx) :
    k3_pay1 (F := Ideal) (iblk3 V c 0 t) (iblk3 V c 1 t) y =
      mm3 (V c main_v9_1) (V c main_v17) (((cfg3.win 2).blk t).view.emb y) := by
  obtain ⟨p, q, rfl⟩ : ∃ (p : Fin 1024) (q : Fin 1024), y = ix2 p q := ⟨y 0, y 1, (ix2_eta y).symm⟩
  have he : ((cfg3.win 2).blk t).view.emb (ix2 p q) = ix2 (row3 t p) (col3 t q) := by
    blk_ext [idx3 t, row3, col3]
  rw [he]
  refine (pay3_at _ _ p q).trans ?_
  exact congrArg₂ Proj.dotRow (funext fun k => blk3_x V c t p k) (funext fun k => blk3_w V c t k q)

theorem final3 (c : Dev nD) : (dat3 V c).arrAt 2 cfg3.N = mm3 (V c main_v9_1) (V c main_v17) := by
  refine (dat3 V c).arrAt_eq_of_covers 2 _ (by decide +kernel) fun t _ y => ?_
  blk_simp
  rw [after3_2]
  frame_out
  exact point3 V c t y

end Cert.KvQPf

end
-- ==== Proof.Proj.KvQRopeK.lean ====
/- The rows of heads the keys's normalising and rotary region leaves. -/
module

public import proofs.«01_k».proof.Proof.Gen.KvQIdeal.Frame
public import proofs.«01_k».proof.Proof.Proj.Rows

@[expose] public section

set_option maxRecDepth 16384

noncomputable section

namespace Cert.KvQPf

open Idealize.ShloMosaic Idealize.ShloMosaic.TcCoe Cert.KvQIdeal Cert.KvQIdeal.Gen Idealize.SL.Sem

/-- The block of rows of a grid point; the tables' rows are those of its tokens. -/
theorem idx2 : ∀ t : Fin cfg2.N, win2_0.index t = ![t.val, 0] ∧ win2_1.index t = ![0, 0] ∧ win2_2.index t = ![t.val % 8, 0] ∧
    win2_3.index t = ![t.val % 8, 0] ∧ win2_4.index t = ![t.val, 0] :=
  (by decide +kernel : ∀ t : Fin grid2.N, _)

/-- The payload of a head of a block, entry by entry. -/
theorem pay2_at (x : S256x128.Idx → EReal) (g : S1x128.Idx → EReal) (cs sn : S256x128.Idx → EReal) (p : Fin 256) (e : Fin 128) :
    (k2_pay2 (F := Ideal) x g cs sn (ix2 p e) : EReal) = Proj.turn (Proj.rmsHead (fun d => x (ix2 p d)) (fun d => g (ix2 0 d)))
      (fun d => cs (ix2 p d)) (fun d => sn (ix2 p d)) e := by
  unfold Proj.turn Proj.rmsHead
  pointwise [k2_pay2]
  try rfl

/-- A block of rows of heads, each head normalised and turned. -/
def rope2 (X : S256x1024.Idx → EReal) (g : S1x128.Idx → EReal) (cs sn : S256x128.Idx → EReal) : S256x1024.Idx → EReal := fun j =>
  Proj.ropeRow (n := 8) (fun k => X (ix2 (j 0) k)) (fun d => g (ix2 0 d)) (fun d => cs (ix2 (j 0) d)) (fun d => sn (ix2 (j 0) d)) (j 1)

/-- What is stored for the head at column `off` is `rope2` there. -/
theorem piece2 (X : Vec Ideal S256x1024 .f32) (g : Vec Ideal S1x128 .f32) (cs sn : Vec Ideal S256x128 .f32) (off : ℕ)
    (inb : ∀ a, (![0, off] : Fin 2 → ℕ) a + S256x128.size a ≤ S256x1024.size a) (ho : off % 128 = 0)
    (y : S256x1024.Idx) (x : S256x128.Idx) (hx : (Rect.unit (s := S256x1024) ![0, off] S256x128.size inb).emb x = y) :
    k2_pay2 (F := Ideal) (View.ld X (Rect.unit (s := S256x1024) ![0, off] S256x128.size inb)) (View.ld g r2_1) (View.ld cs r2_2)
      (View.ld sn r2_2) x = rope2 X g cs sn y := by
  obtain ⟨p, e, rfl⟩ : ∃ (p : Fin 256) (e : Fin 128), x = ix2 p e := ⟨x 0, x 1, (ix2_eta x).symm⟩
  have hb : off + 128 ≤ 1024 := inb 1
  have hy : y = ix2 p ⟨off + e.val, by have := e.isLt; omega⟩ := by
    rw [← hx]
    blk_ext [r2_1, r2_2]
  subst hy
  refine (pay2_at _ _ _ _ p e).trans ?_
  unfold rope2 Proj.ropeRow
  have hin : Proj.inHead (n := 8) ⟨off + e.val, by have := e.isLt; omega⟩ = e := by
    refine Fin.ext ?_
    show (off + e.val) % 128 = e.val
    have := e.isLt
    omega
  have hx' : (fun d : Fin 128 => View.ld X (Rect.unit (s := S256x1024) ![0, off] S256x128.size inb) (ix2 p d)) =
      Proj.headAt (n := 8) (fun k => X (ix2 p k)) ⟨off + e.val, by have := e.isLt; omega⟩ := by
    funext d
    refine congrArg X (?_ : _ = ix2 p ⟨(off + e.val) / 128 * 128 + d.val, by have := e.isLt; have := d.isLt; omega⟩)
    have h1 : (off + e.val) / 128 * 128 = off := by have := e.isLt; omega
    blk_ext [h1]
    · exact (by omega : 0 + 1 * p.val = p.val)
    · exact (by omega : off + 1 * d.val = off + d.val)
  have hg : (fun d : Fin 128 => View.ld g r2_1 (ix2 0 d)) = fun d => g (ix2 0 d) := by
    funext d; refine congrArg g (?_ : _ = ix2 0 d); blk_ext [r2_1, r2_2]
    all_goals first | exact (by omega : 0 + 1 * 0 = 0) | exact (by omega : 0 + 1 * d.val = d.val)
  have hc : (fun d : Fin 128 => View.ld cs r2_2 (ix2 p d)) = fun d => cs (ix2 p d) := by
    funext d; refine congrArg cs (?_ : _ = ix2 p d); blk_ext [r2_1, r2_2]
    · exact (by omega : 0 + 1 * p.val = p.val)
    · exact (by omega : 0 + 1 * d.val = d.val)
  have hs : (fun d : Fin 128 => View.ld sn r2_2 (ix2 p d)) = fun d => sn (ix2 p d) := by
    funext d; refine congrArg sn (?_ : _ = ix2 p d); blk_ext [r2_1, r2_2]
    · exact (by omega : 0 + 1 * p.val = p.val)
    · exact (by omega : 0 + 1 * d.val = d.val)
  exact Proj.turn_congr hx' hg hc hs hin.symm

/-- The whole block a point stores. -/
theorem out2_eq (X : Vec Ideal S256x1024 .f32) (g : Vec Ideal S1x128 .f32) (cs sn : Vec Ideal S256x128 .f32) (y : S256x1024.Idx) :
    out2_4 X g cs sn y = rope2 X g cs sn y := by
  unfold out2_4
  refine View.canon_eq_of_allAt _ _ _ (cover2_4 _ _ _ _ _ _ _ _ y) ?_
  refine View.allAt_cons _ _ _ (piece2 X g cs sn 896 _ (by decide) y) ?_
  refine View.allAt_cons _ _ _ (piece2 X g cs sn 768 _ (by decide) y) ?_
  refine View.allAt_cons _ _ _ (piece2 X g cs sn 640 _ (by decide) y) ?_
  refine View.allAt_cons _ _ _ (piece2 X g cs sn 512 _ (by decide) y) ?_
  refine View.allAt_cons _ _ _ (piece2 X g cs sn 384 _ (by decide) y) ?_
  refine View.allAt_cons _ _ _ (piece2 X g cs sn 256 _ (by decide) y) ?_
  refine View.allAt_cons _ _ _ (piece2 X g cs sn 128 _ (by decide) y) ?_
  refine View.allAt_cons _ _ _ (piece2 X g cs sn 0 _ (by decide) y) ?_
  exact View.allAt_nil _ _

variable (V : (c : Dev nD) → (b : Ref sig .tc) → Buf (Elt Ideal) ((c : Thread nD τ).loc b))

/-- The rows of heads, from the arrays the region reads. -/
def ropeArr2 (X : S8192x1024.Idx → EReal) (g : S1x128.Idx → EReal) (cs sn : S2048x128.Idx → EReal) : S8192x1024.Idx → EReal := fun j =>
  Proj.ropeRow (n := 8) (fun k => X (ix2 (j 0) k)) (fun d => g (ix2 0 d))
    (fun d => cs (ix2 ⟨(j 0).val % 2048, Nat.mod_lt _ (by decide)⟩ d)) (fun d => sn (ix2 ⟨(j 0).val % 2048, Nat.mod_lt _ (by decide)⟩ d)) (j 1)

def row2 (t : Fin cfg2.N) (p : Fin 256) : Fin 8192 := ⟨256 * t.val + p.val, by have h : t.val < 32 := t.isLt; omega⟩

theorem blk2_x (c : Dev nD) (t : Fin cfg2.N) (p : Fin 256) (k : Fin 1024) :
    iblk2 V c 0 t (ix2 p k) = V c main_v12 (ix2 (row2 t p) k) := by
  refine congrArg (V c main_v12) (?_ : _ = ix2 (row2 t p) k)
  blk_ext [idx2 t, row2]

theorem blk2_g (c : Dev nD) (t : Fin cfg2.N) (d : Fin 128) : iblk2 V c 1 t (ix2 0 d) = V c main_v13 (ix2 0 d) := by
  refine congrArg (V c main_v13) (?_ : _ = ix2 0 d)
  blk_ext [idx2 t]

theorem blk2_c (c : Dev nD) (t : Fin cfg2.N) (p : Fin 256) (d : Fin 128) :
    iblk2 V c 2 t (ix2 p d) = V c main_v0 (ix2 ⟨(row2 t p).val % 2048, Nat.mod_lt _ (by decide)⟩ d) := by
  refine congrArg (V c main_v0) (?_ : _ = ix2 ⟨(256 * t.val + p.val) % 2048, Nat.mod_lt _ (by decide)⟩ d)
  have hp := p.isLt
  blk_ext [idx2 t] <;> omega

theorem blk2_s (c : Dev nD) (t : Fin cfg2.N) (p : Fin 256) (d : Fin 128) :
    iblk2 V c 3 t (ix2 p d) = V c main_v2 (ix2 ⟨(row2 t p).val % 2048, Nat.mod_lt _ (by decide)⟩ d) := by
  refine congrArg (V c main_v2) (?_ : _ = ix2 ⟨(256 * t.val + p.val) % 2048, Nat.mod_lt _ (by decide)⟩ d)
  have hp := p.isLt
  blk_ext [idx2 t] <;> omega

theorem point2 (c : Dev nD) (t : Fin cfg2.N) (y : S256x1024.Idx) :
    out2_4 (F := Ideal) (iblk2 V c 0 t) (iblk2 V c 1 t) (iblk2 V c 2 t) (iblk2 V c 3 t) y =
      ropeArr2 (V c main_v12) (V c main_v13) (V c main_v0) (V c main_v2) (((cfg2.win 4).blk t).view.emb y) := by
  refine (out2_eq _ _ _ _ y).trans ?_
  obtain ⟨p, k, rfl⟩ : ∃ (p : Fin 256) (k : Fin 1024), y = ix2 p k := ⟨y 0, y 1, (ix2_eta y).symm⟩
  have he : ((cfg2.win 4).blk t).view.emb (ix2 p k) = ix2 (row2 t p) k := by
    blk_ext [idx2 t, row2]
  rw [he]
  show Proj.ropeRow (n := 8) (fun k => iblk2 V c 0 t (ix2 p k)) (fun d => iblk2 V c 1 t (ix2 0 d)) (fun d => iblk2 V c 2 t (ix2 p d))
    (fun d => iblk2 V c 3 t (ix2 p d)) k = _
  rw [show (fun k => iblk2 V c 0 t (ix2 p k)) = fun k => V c main_v12 (ix2 (row2 t p) k) from funext fun k => blk2_x V c t p k,
    show (fun d => iblk2 V c 1 t (ix2 0 d)) = fun d => V c main_v13 (ix2 0 d) from funext fun d => blk2_g V c t d,
    show (fun d => iblk2 V c 2 t (ix2 p d)) = fun d => V c main_v0 (ix2 ⟨(row2 t p).val % 2048, Nat.mod_lt _ (by decide)⟩ d) from
      funext fun d => blk2_c V c t p d,
    show (fun d => iblk2 V c 3 t (ix2 p d)) = fun d => V c main_v2 (ix2 ⟨(row2 t p).val % 2048, Nat.mod_lt _ (by decide)⟩ d) from
      funext fun d => blk2_s V c t p d]
  rfl

theorem final2 (c : Dev nD) : (dat2 V c).arrAt 4 cfg2.N = ropeArr2 (V c main_v12) (V c main_v13) (V c main_v0) (V c main_v2) := by
  refine (dat2 V c).arrAt_eq_of_covers 4 _ (by decide +kernel) fun t _ y => ?_
  blk_simp
  rw [after2_4]
  exact point2 V c t y

end Cert.KvQPf

end
-- ==== Proof.Proj.KvQRopeQ.lean ====
/- The rows of heads the queries's normalising and rotary region leaves. -/
module

public import proofs.«01_k».proof.Proof.Gen.KvQIdeal.Frame
public import proofs.«01_k».proof.Proof.Proj.Rows

@[expose] public section

set_option maxRecDepth 16384

noncomputable section

namespace Cert.KvQPf

open Idealize.ShloMosaic Idealize.ShloMosaic.TcCoe Cert.KvQIdeal Cert.KvQIdeal.Gen Idealize.SL.Sem

/-- The block of rows of a grid point; the tables' rows are those of its tokens. -/
theorem idx4 : ∀ t : Fin cfg4.N, win4_0.index t = ![t.val, 0] ∧ win4_1.index t = ![0, 0] ∧ win4_2.index t = ![t.val % 8, 0] ∧
    win4_3.index t = ![t.val % 8, 0] ∧ win4_4.index t = ![t.val, 0] :=
  (by decide +kernel : ∀ t : Fin grid4.N, _)

/-- The payload of a head of a block, entry by entry. -/
theorem pay4_at (x : S256x128.Idx → EReal) (g : S1x128.Idx → EReal) (cs sn : S256x128.Idx → EReal) (p : Fin 256) (e : Fin 128) :
    (k4_pay2 (F := Ideal) x g cs sn (ix2 p e) : EReal) = Proj.turn (Proj.rmsHead (fun d => x (ix2 p d)) (fun d => g (ix2 0 d)))
      (fun d => cs (ix2 p d)) (fun d => sn (ix2 p d)) e := by
  unfold Proj.turn Proj.rmsHead
  pointwise [k4_pay2]
  try rfl

/-- A block of rows of heads, each head normalised and turned. -/
def rope4 (X : S256x4096.Idx → EReal) (g : S1x128.Idx → EReal) (cs sn : S256x128.Idx → EReal) : S256x4096.Idx → EReal := fun j =>
  Proj.ropeRow (n := 32) (fun k => X (ix2 (j 0) k)) (fun d => g (ix2 0 d)) (fun d => cs (ix2 (j 0) d)) (fun d => sn (ix2 (j 0) d)) (j 1)

/-- What is stored for the head at column `off` is `rope4` there. -/
theorem piece4 (X : Vec Ideal S256x4096 .f32) (g : Vec Ideal S1x128 .f32) (cs sn : Vec Ideal S256x128 .f32) (off : ℕ)
    (inb : ∀ a, (![0, off] : Fin 2 → ℕ) a + S256x128.size a ≤ S256x4096.size a) (ho : off % 128 = 0)
    (y : S256x4096.Idx) (x : S256x128.Idx) (hx : (Rect.unit (s := S256x4096) ![0, off] S256x128.size inb).emb x = y) :
    k4_pay2 (F := Ideal) (View.ld X (Rect.unit (s := S256x4096) ![0, off] S256x128.size inb)) (View.ld g r4_1) (View.ld cs r4_2)
      (View.ld sn r4_2) x = rope4 X g cs sn y := by
  obtain ⟨p, e, rfl⟩ : ∃ (p : Fin 256) (e : Fin 128), x = ix2 p e := ⟨x 0, x 1, (ix2_eta x).symm⟩
  have hb : off + 128 ≤ 4096 := inb 1
  have hy : y = ix2 p ⟨off + e.val, by have := e.isLt; omega⟩ := by
    rw [← hx]
    blk_ext [r4_1, r4_2]
  subst hy
  refine (pay4_at _ _ _ _ p e).trans ?_
  unfold rope4 Proj.ropeRow
  have hin : Proj.inHead (n := 32) ⟨off + e.val, by have := e.isLt; omega⟩ = e := by
    refine Fin.ext ?_
    show (off + e.val) % 128 = e.val
    have := e.isLt
    omega
  have hx' : (fun d : Fin 128 => View.ld X (Rect.unit (s := S256x4096) ![0, off] S256x128.size inb) (ix2 p d)) =
      Proj.headAt (n := 32) (fun k => X (ix2 p k)) ⟨off + e.val, by have := e.isLt; omega⟩ := by
    funext d
    refine congrArg X (?_ : _ = ix2 p ⟨(off + e.val) / 128 * 128 + d.val, by have := e.isLt; have := d.isLt; omega⟩)
    have h1 : (off + e.val) / 128 * 128 = off := by have := e.isLt; omega
    blk_ext [h1]
    · exact (by omega : 0 + 1 * p.val = p.val)
    · exact (by omega : off + 1 * d.val = off + d.val)
  have hg : (fun d : Fin 128 => View.ld g r4_1 (ix2 0 d)) = fun d => g (ix2 0 d) := by
    funext d; refine congrArg g (?_ : _ = ix2 0 d); blk_ext [r4_1, r4_2]
    all_goals first | exact (by omega : 0 + 1 * 0 = 0) | exact (by omega : 0 + 1 * d.val = d.val)
  have hc : (fun d : Fin 128 => View.ld cs r4_2 (ix2 p d)) = fun d => cs (ix2 p d) := by
    funext d; refine congrArg cs (?_ : _ = ix2 p d); blk_ext [r4_1, r4_2]
    · exact (by omega : 0 + 1 * p.val = p.val)
    · exact (by omega : 0 + 1 * d.val = d.val)
  have hs : (fun d : Fin 128 => View.ld sn r4_2 (ix2 p d)) = fun d => sn (ix2 p d) := by
    funext d; refine congrArg sn (?_ : _ = ix2 p d); blk_ext [r4_1, r4_2]
    · exact (by omega : 0 + 1 * p.val = p.val)
    · exact (by omega : 0 + 1 * d.val = d.val)
  exact Proj.turn_congr hx' hg hc hs hin.symm

/-- The whole block a point stores. -/
theorem out4_eq (X : Vec Ideal S256x4096 .f32) (g : Vec Ideal S1x128 .f32) (cs sn : Vec Ideal S256x128 .f32) (y : S256x4096.Idx) :
    out4_4 X g cs sn y = rope4 X g cs sn y := by
  unfold out4_4
  refine View.canon_eq_of_allAt _ _ _ (cover4_4 _ _ _ _ _ _ _ _ _ _ _ _ _ _ _ _ _ _ _ _ _ _ _ _ _ _ _ _ _ _ _ _ y) ?_
  refine View.allAt_cons _ _ _ (piece4 X g cs sn 3968 _ (by decide) y) ?_
  refine View.allAt_cons _ _ _ (piece4 X g cs sn 3840 _ (by decide) y) ?_
  refine View.allAt_cons _ _ _ (piece4 X g cs sn 3712 _ (by decide) y) ?_
  refine View.allAt_cons _ _ _ (piece4 X g cs sn 3584 _ (by decide) y) ?_
  refine View.allAt_cons _ _ _ (piece4 X g cs sn 3456 _ (by decide) y) ?_
  refine View.allAt_cons _ _ _ (piece4 X g cs sn 3328 _ (by decide) y) ?_
  refine View.allAt_cons _ _ _ (piece4 X g cs sn 3200 _ (by decide) y) ?_
  refine View.allAt_cons _ _ _ (piece4 X g cs sn 3072 _ (by decide) y) ?_
  refine View.allAt_cons _ _ _ (piece4 X g cs sn 2944 _ (by decide) y) ?_
  refine View.allAt_cons _ _ _ (piece4 X g cs sn 2816 _ (by decide) y) ?_
  refine View.allAt_cons _ _ _ (piece4 X g cs sn 2688 _ (by decide) y) ?_
  refine View.allAt_cons _ _ _ (piece4 X g cs sn 2560 _ (by decide) y) ?_
  refine View.allAt_cons _ _ _ (piece4 X g cs sn 2432 _ (by decide) y) ?_
  refine View.allAt_cons _ _ _ (piece4 X g cs sn 2304 _ (by decide) y) ?_
  refine View.allAt_cons _ _ _ (piece4 X g cs sn 2176 _ (by decide) y) ?_
  refine View.allAt_cons _ _ _ (piece4 X g cs sn 2048 _ (by decide) y) ?_
  refine View.allAt_cons _ _ _ (piece4 X g cs sn 1920 _ (by decide) y) ?_
  refine View.allAt_cons _ _ _ (piece4 X g cs sn 1792 _ (by decide) y) ?_
  refine View.allAt_cons _ _ _ (piece4 X g cs sn 1664 _ (by decide) y) ?_
  refine View.allAt_cons _ _ _ (piece4 X g cs sn 1536 _ (by decide) y) ?_
  refine View.allAt_cons _ _ _ (piece4 X g cs sn 1408 _ (by decide) y) ?_
  refine View.allAt_cons _ _ _ (piece4 X g cs sn 1280 _ (by decide) y) ?_
  refine View.allAt_cons _ _ _ (piece4 X g cs sn 1152 _ (by decide) y) ?_
  refine View.allAt_cons _ _ _ (piece4 X g cs sn 1024 _ (by decide) y) ?_
  refine View.allAt_cons _ _ _ (piece4 X g cs sn 896 _ (by decide) y) ?_
  refine View.allAt_cons _ _ _ (piece4 X g cs sn 768 _ (by decide) y) ?_
  refine View.allAt_cons _ _ _ (piece4 X g cs sn 640 _ (by decide) y) ?_
  refine View.allAt_cons _ _ _ (piece4 X g cs sn 512 _ (by decide) y) ?_
  refine View.allAt_cons _ _ _ (piece4 X g cs sn 384 _ (by decide) y) ?_
  refine View.allAt_cons _ _ _ (piece4 X g cs sn 256 _ (by decide) y) ?_
  refine View.allAt_cons _ _ _ (piece4 X g cs sn 128 _ (by decide) y) ?_
  refine View.allAt_cons _ _ _ (piece4 X g cs sn 0 _ (by decide) y) ?_
  exact View.allAt_nil _ _

variable (V : (c : Dev nD) → (b : Ref sig .tc) → Buf (Elt Ideal) ((c : Thread nD τ).loc b))

/-- The rows of heads, from the arrays the region reads. -/
def ropeArr4 (X : S8192x4096.Idx → EReal) (g : S1x128.Idx → EReal) (cs sn : S2048x128.Idx → EReal) : S8192x4096.Idx → EReal := fun j =>
  Proj.ropeRow (n := 32) (fun k => X (ix2 (j 0) k)) (fun d => g (ix2 0 d))
    (fun d => cs (ix2 ⟨(j 0).val % 2048, Nat.mod_lt _ (by decide)⟩ d)) (fun d => sn (ix2 ⟨(j 0).val % 2048, Nat.mod_lt _ (by decide)⟩ d)) (j 1)

def row4 (t : Fin cfg4.N) (p : Fin 256) : Fin 8192 := ⟨256 * t.val + p.val, by have h : t.val < 32 := t.isLt; omega⟩

theorem blk4_x (c : Dev nD) (t : Fin cfg4.N) (p : Fin 256) (k : Fin 4096) :
    iblk4 V c 0 t (ix2 p k) = V c main_v18 (ix2 (row4 t p) k) := by
  refine congrArg (V c main_v18) (?_ : _ = ix2 (row4 t p) k)
  blk_ext [idx4 t, row4]

theorem blk4_g (c : Dev nD) (t : Fin cfg4.N) (d : Fin 128) : iblk4 V c 1 t (ix2 0 d) = V c main_v20 (ix2 0 d) := by
  refine congrArg (V c main_v20) (?_ : _ = ix2 0 d)
  blk_ext [idx4 t]

theorem blk4_c (c : Dev nD) (t : Fin cfg4.N) (p : Fin 256) (d : Fin 128) :
    iblk4 V c 2 t (ix2 p d) = V c main_v0 (ix2 ⟨(row4 t p).val % 2048, Nat.mod_lt _ (by decide)⟩ d) := by
  refine congrArg (V c main_v0) (?_ : _ = ix2 ⟨(256 * t.val + p.val) % 2048, Nat.mod_lt _ (by decide)⟩ d)
  have hp := p.isLt
  blk_ext [idx4 t] <;> omega

theorem blk4_s (c : Dev nD) (t : Fin cfg4.N) (p : Fin 256) (d : Fin 128) :
    iblk4 V c 3 t (ix2 p d) = V c main_v2 (ix2 ⟨(row4 t p).val % 2048, Nat.mod_lt _ (by decide)⟩ d) := by
  refine congrArg (V c main_v2) (?_ : _ = ix2 ⟨(256 * t.val + p.val) % 2048, Nat.mod_lt _ (by decide)⟩ d)
  have hp := p.isLt
  blk_ext [idx4 t] <;> omega

theorem point4 (c : Dev nD) (t : Fin cfg4.N) (y : S256x4096.Idx) :
    out4_4 (F := Ideal) (iblk4 V c 0 t) (iblk4 V c 1 t) (iblk4 V c 2 t) (iblk4 V c 3 t) y =
      ropeArr4 (V c main_v18) (V c main_v20) (V c main_v0) (V c main_v2) (((cfg4.win 4).blk t).view.emb y) := by
  refine (out4_eq _ _ _ _ y).trans ?_
  obtain ⟨p, k, rfl⟩ : ∃ (p : Fin 256) (k : Fin 4096), y = ix2 p k := ⟨y 0, y 1, (ix2_eta y).symm⟩
  have he : ((cfg4.win 4).blk t).view.emb (ix2 p k) = ix2 (row4 t p) k := by
    blk_ext [idx4 t, row4]
  rw [he]
  show Proj.ropeRow (n := 32) (fun k => iblk4 V c 0 t (ix2 p k)) (fun d => iblk4 V c 1 t (ix2 0 d)) (fun d => iblk4 V c 2 t (ix2 p d))
    (fun d => iblk4 V c 3 t (ix2 p d)) k = _
  rw [show (fun k => iblk4 V c 0 t (ix2 p k)) = fun k => V c main_v18 (ix2 (row4 t p) k) from funext fun k => blk4_x V c t p k,
    show (fun d => iblk4 V c 1 t (ix2 0 d)) = fun d => V c main_v20 (ix2 0 d) from funext fun d => blk4_g V c t d,
    show (fun d => iblk4 V c 2 t (ix2 p d)) = fun d => V c main_v0 (ix2 ⟨(row4 t p).val % 2048, Nat.mod_lt _ (by decide)⟩ d) from
      funext fun d => blk4_c V c t p d,
    show (fun d => iblk4 V c 3 t (ix2 p d)) = fun d => V c main_v2 (ix2 ⟨(row4 t p).val % 2048, Nat.mod_lt _ (by decide)⟩ d) from
      funext fun d => blk4_s V c t p d]
  rfl

theorem final4 (c : Dev nD) : (dat4 V c).arrAt 4 cfg4.N = ropeArr4 (V c main_v18) (V c main_v20) (V c main_v0) (V c main_v2) := by
  refine (dat4 V c).arrAt_eq_of_covers 4 _ (by decide +kernel) fun t _ y => ?_
  blk_simp
  rw [after4_4]
  exact point4 V c t y

end Cert.KvQPf

end
-- ==== Proof.Proj.KvQArray.lean ====
/- The keys, the values and the queries the program leaves, from its arguments. -/
module

public import proofs.«01_k».proof.Proof.Proj.KvQNorm
public import proofs.«01_k».proof.Proof.Proj.KvQMm
public import proofs.«01_k».proof.Proof.Proj.KvQRopeK
public import proofs.«01_k».proof.Proof.Proj.KvQRopeQ

@[expose] public section

set_option maxRecDepth 16384

noncomputable section

namespace Cert.KvQPf

open Idealize.ShloMosaic Idealize.ShloMosaic.TcCoe Cert.KvQIdeal Cert.KvQIdeal.Gen Idealize.SL.Sem

variable (m : (ℓ : Loc nD τ sig) → Buf (Elt Ideal) ℓ) (ρ : Dev nD → PrngReg)

/-- The sequence and the token of a row. -/
def seqOf (i : Fin 8192) : Fin 4 := ⟨i.val / 2048, by omega⟩
def tokOf (i : Fin 8192) : Fin 2048 := ⟨i.val % 2048, by omega⟩

/-- The program's arguments, as the rows and tables the specification takes. -/
def hRow (c : Dev nD) (i : Fin 8192) (d : Fin 4096) : EReal := m ((c : Thread nD τ).loc main_arg0) (ix3 (seqOf i) (tokOf i) d)
def gKv (c : Dev nD) (d : Fin 4096) : EReal := m ((c : Thread nD τ).loc main_arg1) (ix1 d)
def gMix (c : Dev nD) (d : Fin 4096) : EReal := m ((c : Thread nD τ).loc main_arg2) (ix2 1 d)
def wKv (c : Dev nD) (k : Fin 4096) (n : Fin 2048) : EReal := m ((c : Thread nD τ).loc main_arg3) (ix2 k n)
def gK (c : Dev nD) (d : Fin 128) : EReal := m ((c : Thread nD τ).loc main_arg4) (ix1 d)
def wQ (c : Dev nD) (k : Fin 4096) (n : Fin 4096) : EReal := m ((c : Thread nD τ).loc main_arg5) (ix3 0 k n)
def gQ (c : Dev nD) (d : Fin 128) : EReal := m ((c : Thread nD τ).loc main_arg6) (ix2 0 d)
def tabC (c : Dev nD) (t : Fin 2048) (d : Fin 64) : EReal := m ((c : Thread nD τ).loc main_arg7) (ix2 t d)
def tabS (c : Dev nD) (t : Fin 2048) (d : Fin 64) : EReal := m ((c : Thread nD τ).loc main_arg8) (ix2 t d)

theorem v0_at (c : Dev nD) (t : Fin 2048) (d : Fin 128) : V1 m ρ c main_v0 (ix2 t d) = Proj.cosRow (tabC m c t) d := by
  unfold Proj.cosRow tabC
  simp only [V1, W1, hostOps0]
  entry_read
  try simp only [StableHlo.TRef.toBuf, StableHlo.TRef.ofBuf, cast_eq]
  pointwise
  split_ifs with hd
  · refine congrArg (m ((c : Thread nD τ).loc main_arg7)) (?_ : ix2 _ _ = ix2 _ _)
    exact congrArg (ix2 _) (Fin.ext (by show d.val = d.val % 64; omega))
  · refine congrArg (m ((c : Thread nD τ).loc main_arg7)) (?_ : ix2 _ _ = ix2 _ _)
    exact congrArg (ix2 _) (Fin.ext (by show d.val - 64 = d.val % 64; omega))
  · rename_i h
    exact absurd rfl h

theorem v2_at (c : Dev nD) (t : Fin 2048) (d : Fin 128) : V1 m ρ c main_v2 (ix2 t d) = Proj.sinRow (tabS m c t) d := by
  unfold Proj.sinRow tabS
  simp only [V1, W1, hostOps0]
  entry_read
  try simp only [StableHlo.TRef.toBuf, StableHlo.TRef.ofBuf, cast_eq]
  pointwise
  split_ifs with hd
  · refine congrArg (fun z : EReal => -z) (congrArg (m ((c : Thread nD τ).loc main_arg8)) (?_ : ix2 _ _ = ix2 _ _))
    exact congrArg (ix2 _) (Fin.ext (by show d.val = d.val % 64; omega))
  · refine congrArg (m ((c : Thread nD τ).loc main_arg8)) (?_ : ix2 _ _ = ix2 _ _)
    exact congrArg (ix2 _) (Fin.ext (by show d.val - 64 = d.val % 64; omega))
  · rename_i h
    exact absurd rfl h

theorem v3_at (c : Dev nD) (i : Fin 8192) (k : Fin 4096) : V1 m ρ c main_v3 (ix2 i k) = hRow m c i k := by
  unfold hRow
  simp only [V1, W1, hostOps0]
  entry_read
  try simp only [StableHlo.TRef.toBuf, StableHlo.TRef.ofBuf, cast_eq]
  pointwise
  try rfl

theorem v8_at0 (c : Dev nD) (k : Fin 4096) : V1 m ρ c main_v8 (ix2 0 k) = gKv m c k := by
  unfold gKv
  simp only [V1, W1, hostOps0]
  entry_read
  try simp only [StableHlo.TRef.toBuf, StableHlo.TRef.ofBuf, cast_eq]
  pointwise
  try rfl

theorem v8_at1 (c : Dev nD) (k : Fin 4096) : V1 m ρ c main_v8 (ix2 1 k) = gMix m c k := by
  unfold gMix
  simp only [V1, W1, hostOps0]
  entry_read
  try simp only [StableHlo.TRef.toBuf, StableHlo.TRef.ofBuf, cast_eq]
  pointwise
  try rfl

theorem v10_at (c : Dev nD) (k : Fin 4096) (n : Fin 2048) : V3 m ρ c main_v10 (ix2 k n) = wKv m c k n := by
  refine Eq.trans ?_ (congrFun (W2_args m ρ c main_arg3 (by decide)) (ix2 k n))
  simp only [V3, W3, hostOps1]
  entry_read
  try simp only [StableHlo.TRef.toBuf, StableHlo.TRef.ofBuf, cast_eq]
  try pointwise
  try rfl

theorem v12_at (c : Dev nD) (i : Fin 8192) (k : Fin 1024) : V5 m ρ c main_v12 (ix2 i k) = V4 m ρ c main_v11 (ix2 i ⟨k.val, by omega⟩) := by
  simp only [V5, W5, hostOps2]
  entry_read
  try simp only [StableHlo.TRef.toBuf, StableHlo.TRef.ofBuf, cast_eq]
  pointwise
  try rfl

theorem v13_at (c : Dev nD) (d : Fin 128) : V5 m ρ c main_v13 (ix2 0 d) = gK m c d := by
  refine Eq.trans ?_ (congrFun (W4_args m ρ c main_arg4 (by decide)) (ix1 d))
  simp only [V5, W5, hostOps2]
  entry_read
  try simp only [StableHlo.TRef.toBuf, StableHlo.TRef.ofBuf, cast_eq]
  pointwise
  try rfl

theorem v15_at (c : Dev nD) (i : Fin 8192) (k : Fin 1024) :
    V7 m ρ c main_v15 (ix2 i k) = V6 m ρ c main_v11 (ix2 i ⟨1024 + k.val, by omega⟩) := by
  simp only [V7, W7, hostOps3]
  entry_read
  try simp only [StableHlo.TRef.toBuf, StableHlo.TRef.ofBuf, cast_eq]
  pointwise
  try rfl

theorem v17_at (c : Dev nD) (k : Fin 4096) (n : Fin 4096) : V7 m ρ c main_v17 (ix2 k n) = wQ m c k n := by
  refine Eq.trans ?_ (congrFun (W6_args m ρ c main_arg5 (by decide)) (ix3 0 k n))
  simp only [V7, W7, hostOps3]
  entry_read
  try simp only [StableHlo.TRef.toBuf, StableHlo.TRef.ofBuf, cast_eq]
  pointwise
  try rfl

theorem v20_at (c : Dev nD) (d : Fin 128) : V9 m ρ c main_v20 (ix2 0 d) = gQ m c d := by
  refine Eq.trans ?_ (congrFun (W8_args m ρ c main_arg6 (by decide)) (ix2 0 d))
  simp only [V9, W9, hostOps4]
  entry_read
  try simp only [StableHlo.TRef.toBuf, StableHlo.TRef.ofBuf, cast_eq]
  pointwise
  try rfl

/-- The rows normalised for the keys and values, and for the queries. -/
theorem hn0_at (c : Dev nD) (i : Fin 8192) (k : Fin 4096) : V3 m ρ c main_v9_0 (ix2 i k) = Proj.rms (hRow m c i) (gKv m c) k := by
  have h : V3 m ρ c main_v9_0 = hnArr 0 (V1 m ρ c main_v3) (V1 m ρ c main_v8) :=
    (W3_of m ρ c main_v9_0 (by decide)).trans ((W2_arr m ρ c 2).trans (final0_2 (V1 m ρ) c))
  refine (congrFun h (ix2 i k)).trans ?_
  exact congrArg₂ (fun x g => Proj.rms x g k) (funext fun d => v3_at m ρ c i d) (funext fun d => v8_at0 m ρ c d)

theorem hn1_at (c : Dev nD) (i : Fin 8192) (k : Fin 4096) : V7 m ρ c main_v9_1 (ix2 i k) = Proj.rms (hRow m c i) (gMix m c) k := by
  have h : V7 m ρ c main_v9_1 = hnArr 1 (V1 m ρ c main_v3) (V1 m ρ c main_v8) :=
    (W7_of m ρ c main_v9_1 (by decide)).trans ((W6_of m ρ c main_v9_1 (by decide)).trans ((W5_of m ρ c main_v9_1 (by decide)).trans
      ((W4_of m ρ c main_v9_1 (by decide)).trans ((W3_of m ρ c main_v9_1 (by decide)).trans
        ((W2_arr m ρ c 3).trans (final0_3 (V1 m ρ) c))))))
  refine (congrFun h (ix2 i k)).trans ?_
  exact congrArg₂ (fun x g => Proj.rms x g k) (funext fun d => v3_at m ρ c i d) (funext fun d => v8_at1 m ρ c d)

/-- The product holding keys and values. -/
theorem kv_at (c : Dev nD) (i : Fin 8192) (n : Fin 2048) :
    V4 m ρ c main_v11 (ix2 i n) = Proj.dotRow (fun k => Proj.rms (hRow m c i) (gKv m c) k) (fun k => wKv m c k n) := by
  refine (congrFun ((W4_arr m ρ c 2).trans (final1 (V3 m ρ) c)) (ix2 i n)).trans ?_
  exact congrArg₂ Proj.dotRow (funext fun k => hn0_at m ρ c i k) (funext fun k => v10_at m ρ c k n)

/-- The product holding the queries. -/
theorem q_at (c : Dev nD) (i : Fin 8192) (n : Fin 4096) :
    V8 m ρ c main_v18 (ix2 i n) = Proj.dotRow (fun k => Proj.rms (hRow m c i) (gMix m c) k) (fun k => wQ m c k n) := by
  refine (congrFun ((W8_arr m ρ c 2).trans (final3 (V7 m ρ) c)) (ix2 i n)).trans ?_
  exact congrArg₂ Proj.dotRow (funext fun k => hn1_at m ρ c i k) (funext fun k => v17_at m ρ c k n)

/-- The tables, unchanged to the two regions that read them. -/
theorem c5 (c : Dev nD) : V5 m ρ c main_v0 = V1 m ρ c main_v0 :=
  (W5_of m ρ c main_v0 (by decide)).trans ((W4_of m ρ c main_v0 (by decide)).trans ((W3_of m ρ c main_v0 (by decide)).trans
    (W2_of m ρ c main_v0 (by decide))))
theorem s5 (c : Dev nD) : V5 m ρ c main_v2 = V1 m ρ c main_v2 :=
  (W5_of m ρ c main_v2 (by decide)).trans ((W4_of m ρ c main_v2 (by decide)).trans ((W3_of m ρ c main_v2 (by decide)).trans
    (W2_of m ρ c main_v2 (by decide))))
theorem c9 (c : Dev nD) : V9 m ρ c main_v0 = V1 m ρ c main_v0 :=
  (W9_of m ρ c main_v0 (by decide)).trans ((W8_of m ρ c main_v0 (by decide)).trans ((W7_of m ρ c main_v0 (by decide)).trans
    ((W6_of m ρ c main_v0 (by decide)).trans (c5 m ρ c))))
theorem s9 (c : Dev nD) : V9 m ρ c main_v2 = V1 m ρ c main_v2 :=
  (W9_of m ρ c main_v2 (by decide)).trans ((W8_of m ρ c main_v2 (by decide)).trans ((W7_of m ρ c main_v2 (by decide)).trans
    ((W6_of m ρ c main_v2 (by decide)).trans (s5 m ρ c))))

/-- The keys the program leaves. -/
theorem last_k (c : Dev nD) (i : Fin 8192) (n : Fin 1024) : W10 m ρ c (Proc.devRef .tc main_v14) (ix2 i n) =
    Proj.keyAt (hRow m c i) (gKv m c) (wKv m c) (gK m c) (tabC m c (tokOf i)) (tabS m c (tokOf i)) n := by
  have h : W10 m ρ c (Proc.devRef .tc main_v14) = ropeArr2 (V5 m ρ c main_v12) (V5 m ρ c main_v13) (V5 m ρ c main_v0) (V5 m ρ c main_v2) :=
    (W10_of m ρ c main_v14 (by decide)).trans ((W9_of m ρ c main_v14 (by decide)).trans ((W8_of m ρ c main_v14 (by decide)).trans
      ((W7_of m ρ c main_v14 (by decide)).trans ((W6_arr m ρ c 4).trans (final2 (V5 m ρ) c)))))
  refine (congrFun h (ix2 i n)).trans ?_
  refine Proj.ropeRow_congr (n := 8) n (funext fun j => (v12_at m ρ c i j).trans (kv_at m ρ c i _)) (funext fun d => v13_at m ρ c d)
    (funext fun d => ?_) (funext fun d => ?_)
  · exact (congrFun (c5 m ρ c) _).trans (v0_at m ρ c (tokOf i) d)
  · exact (congrFun (s5 m ρ c) _).trans (v2_at m ρ c (tokOf i) d)

/-- The values the program leaves. -/
theorem last_v (c : Dev nD) (i : Fin 8192) (n : Fin 1024) : W10 m ρ c (Proc.devRef .tc main_v15) (ix2 i n) =
    Proj.valAt (hRow m c i) (gKv m c) (wKv m c) n := by
  have h : W10 m ρ c (Proc.devRef .tc main_v15) = V7 m ρ c main_v15 :=
    (W10_of m ρ c main_v15 (by decide)).trans ((W9_of m ρ c main_v15 (by decide)).trans (W8_of m ρ c main_v15 (by decide)))
  have h11 : V6 m ρ c main_v11 = V4 m ρ c main_v11 := (W6_of m ρ c main_v11 (by decide)).trans (W5_of m ρ c main_v11 (by decide))
  exact (congrFun h (ix2 i n)).trans ((v15_at m ρ c i n).trans ((congrFun h11 _).trans (kv_at m ρ c i _)))

/-- The queries the program leaves. -/
theorem last_q (c : Dev nD) (i : Fin 8192) (n : Fin 4096) : W10 m ρ c (Proc.devRef .tc main_v21) (ix2 i n) =
    Proj.queryAt (hRow m c i) (gMix m c) (wQ m c) (gQ m c) (tabC m c (tokOf i)) (tabS m c (tokOf i)) n := by
  have h : W10 m ρ c (Proc.devRef .tc main_v21) = ropeArr4 (V9 m ρ c main_v18) (V9 m ρ c main_v20) (V9 m ρ c main_v0) (V9 m ρ c main_v2) :=
    (W10_arr m ρ c 4).trans (final4 (V9 m ρ) c)
  have h18 : V9 m ρ c main_v18 = V8 m ρ c main_v18 := W9_of m ρ c main_v18 (by decide)
  refine (congrFun h (ix2 i n)).trans ?_
  refine Proj.ropeRow_congr (n := 32) n (funext fun j => (congrFun h18 _).trans (q_at m ρ c i j)) (funext fun d => v20_at m ρ c d)
    (funext fun d => ?_) (funext fun d => ?_)
  · exact (congrFun (c9 m ρ c) _).trans (v0_at m ρ c (tokOf i) d)
  · exact (congrFun (s9 m ρ c) _).trans (v2_at m ρ c (tokOf i) d)

end Cert.KvQPf

end
-- ==== Proof.Proj.KvQRef.lean ====
/- The reference's keys, values and queries, entry by entry. -/
module

public import proofs.«01_k».proof.Proof.Gen.KvQRefIdeal
public import proofs.«01_k».proof.Proof.Gen.KvQRefIdeal.Run
public import proofs.«01_k».proof.Proof.Proj.Rows

@[expose] public section

set_option maxRecDepth 16384

noncomputable section

namespace Cert.KvQPf

open Idealize.ShloMosaic Idealize.ShloMosaic.TcCoe Cert.KvQRefIdeal Cert.KvQRefIdeal.Gen Idealize.SL.Sem

/-- The reference's normalised rows. -/
def refRms (x : FVec Ideal S4x2048x4096 .f32) (g : FVec Ideal S4096 .f32) : FVec Ideal S4x2048x4096 .f32 :=
  mulf (mulf x (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))

theorem refRms_at (x : FVec Ideal S4x2048x4096 .f32) (g : FVec Ideal S4096 .f32) (b : Fin 4) (l : Fin 2048) (k : Fin 4096) :
    (refRms x g (ix3 b l k) : EReal) = Proj.rms (fun d => x (ix3 b l d)) (fun d => g (ix1 d)) k := by
  unfold Proj.rms
  pointwise [refRms]

/-- The gain of the queries' normalising. -/
def refGain (g : FVec Ideal S2x4096 .f32) : FVec Ideal S4096 .f32 :=
  shapeCast _ (extractStridedSlice S1x4096 ![1, 0] g slices_S2x4096_S1x4096_1_0) shapeCasts_S1x4096_S4096

theorem refGain_at (g : FVec Ideal S2x4096 .f32) (k : Fin 4096) : (refGain g (ix1 k) : EReal) = g (ix2 1 k) := by
  pointwise [refGain]

/-- The two products. -/
def refKv (y : FVec Ideal S4x2048x4096 .f32) (w : FVec Ideal S4096x2048 .f32) : FVec Ideal S4x2048x2048 .f32 :=
  Host.dotGeneral dot_S4x2048x4096_S4096x2048_S4x2048x2048_2_0_01_1_n_n none y w

theorem refKv_at (y : FVec Ideal S4x2048x4096 .f32) (w : FVec Ideal S4096x2048 .f32) (b : Fin 4) (l : Fin 2048) (n : Fin 2048) :
    (refKv y w (ix3 b l n) : EReal) = Proj.dotRow (fun k => y (ix3 b l k)) (fun k => w (ix2 k n)) := by
  unfold Proj.dotRow
  pointwise [refKv]

def refQ (y : FVec Ideal S4x2048x4096 .f32) (w : FVec Ideal S1x4096x4096 .f32) : FVec Ideal S4x2048x4096 .f32 :=
  Host.dotGeneral dot_S4x2048x4096_S4096x4096_S4x2048x4096_2_0_01_1_n_n none y (shapeCast _ w shapeCasts_S1x4096x4096_S4096x4096)

theorem refQ_at (y : FVec Ideal S4x2048x4096 .f32) (w : FVec Ideal S1x4096x4096 .f32) (b : Fin 4) (l : Fin 2048) (n : Fin 4096) :
    (refQ y w (ix3 b l n) : EReal) = Proj.dotRow (fun k => y (ix3 b l k)) (fun k => w (ix3 0 k n)) := by
  unfold Proj.dotRow
  pointwise [refQ]

/-- The keys' product cut into heads, and the queries'. -/
def refHeadsK (z : FVec Ideal S4x2048x2048 .f32) : FVec Ideal S4x2048x8x128 .f32 :=
  shapeCast _ (extractStridedSlice S4x2048x1024 ![0, 0, 0] z slices_S4x2048x2048_S4x2048x1024_0_0_0) shapeCasts_S4x2048x1024_S4x2048x8x128

theorem refHeadsK_at (z : FVec Ideal S4x2048x2048 .f32) (b : Fin 4) (l : Fin 2048) (u : Fin 8) (e : Fin 128) :
    (refHeadsK z (ix4 b l u e) : EReal) = z (ix3 b l ⟨u.val * 128 + e.val, by omega⟩) := by
  pointwise [refHeadsK]

def refHeadsQ (z : FVec Ideal S4x2048x4096 .f32) : FVec Ideal S4x2048x32x128 .f32 :=
  shapeCast _ z shapeCasts_S4x2048x4096_S4x2048x32x128

theorem refHeadsQ_at (z : FVec Ideal S4x2048x4096 .f32) (b : Fin 4) (l : Fin 2048) (u : Fin 32) (e : Fin 128) :
    (refHeadsQ z (ix4 b l u e) : EReal) = z (ix3 b l ⟨u.val * 128 + e.val, by omega⟩) := by
  pointwise [refHeadsQ]

/-- The reference's normalised heads of the keys. -/
def refHeadK (x : FVec Ideal S4x2048x8x128 .f32) (g : FVec Ideal S128 .f32) : FVec Ideal S4x2048x8x128 .f32 :=
  mulf (mulf x (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf x x) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 g))

theorem refHeadK_at (x : FVec Ideal S4x2048x8x128 .f32) (g : FVec Ideal S128 .f32) (b : Fin 4) (l : Fin 2048) (u : Fin 8) (e : Fin 128) :
    (refHeadK x g (ix4 b l u e) : EReal) = Proj.rmsHead (fun d => x (ix4 b l u d)) (fun d => g (ix1 d)) e := by
  unfold Proj.rmsHead
  pointwise [refHeadK]

/-- The reference's normalised heads of the queries. -/
def refHeadQ (x : FVec Ideal S4x2048x32x128 .f32) (g : FVec Ideal S128 .f32) : FVec Ideal S4x2048x32x128 .f32 :=
  mulf (mulf x (broadcastInDim S4x2048x32x128 ![0, 1, 2, 3] bcast_S4x2048x32x1_S4x2048x32x128_0_1_2_3 (Host.rsqrt (addf (Host.divf (broadcastInDim S4x2048x32x1 ![0, 1, 2] bcast_S4x2048x32_S4x2048x32x1_0_1_2 (Host.reduceAdd (mulf x x) (constant S_ .f32 0x00000000#32) reducesTo_S4x2048x32x128_S4x2048x32_d3 h_S_)) (broadcastInDim S4x2048x32x1 ![] bcast_S_S4x2048x32x1 (constant S_ .f32 0x43000000#32))) (broadcastInDim S4x2048x32x1 ![] bcast_S_S4x2048x32x1 (constant S_ .f32 0x358637BD#32)))))) (broadcastInDim S4x2048x32x128 ![0, 1, 2, 3] bcast_S1x1x1x128_S4x2048x32x128_0_1_2_3 (broadcastInDim S1x1x1x128 ![3] bcast_S128_S1x1x1x128_3 g))

theorem refHeadQ_at (x : FVec Ideal S4x2048x32x128 .f32) (g : FVec Ideal S128 .f32) (b : Fin 4) (l : Fin 2048) (u : Fin 32) (e : Fin 128) :
    (refHeadQ x g (ix4 b l u e) : EReal) = Proj.rmsHead (fun d => x (ix4 b l u d)) (fun d => g (ix1 d)) e := by
  unfold Proj.rmsHead
  pointwise [refHeadQ]

/-- Half a head turned against the other half is `Proj.turn`. -/
theorem turn_lt (y : Fin 128 → EReal) (cs sn : Fin 64 → EReal) (e : Fin 128) (he : e.val < 64) :
    y ⟨e.val, by omega⟩ * cs ⟨e.val, he⟩ - y ⟨64 + e.val, by omega⟩ * sn ⟨e.val, he⟩ = Proj.turn y (Proj.cosRow cs) (Proj.sinRow sn) e := by
  unfold Proj.turn Proj.cosRow Proj.sinRow
  rw [if_pos he, mul_neg, ← sub_eq_add_neg]
  have h1 : e.val % 64 = e.val := by omega
  have h2 : (e.val + 64) % 128 = 64 + e.val := by omega
  simp only [h1, h2]

theorem turn_ge (y : Fin 128 → EReal) (cs sn : Fin 64 → EReal) (e : Fin 128) (he : ¬e.val < 64) :
    y ⟨64 + (e.val - 64), by omega⟩ * cs ⟨e.val - 64, by omega⟩ + y ⟨e.val - 64, by omega⟩ * sn ⟨e.val - 64, by omega⟩ =
      Proj.turn y (Proj.cosRow cs) (Proj.sinRow sn) e := by
  unfold Proj.turn Proj.cosRow Proj.sinRow
  rw [if_neg he]
  have h1 : e.val % 64 = e.val - 64 := by omega
  have h2 : (e.val + 64) % 128 = e.val - 64 := by omega
  have h3 : 64 + (e.val - 64) = e.val := by omega
  simp only [h1, h2, h3]

/-- The reference's turned heads of the keys: its two halves, put side by side. -/
def refLoK (x : FVec Ideal S4x2048x8x128 .f32) (cs sn : FVec Ideal S2048x64 .f32) : FVec Ideal S4x2048x8x64 .f32 :=
  subf (mulf (extractStridedSlice S4x2048x8x64 ![0, 0, 0, 0] x slices_S4x2048x8x128_S4x2048x8x64_0_0_0_0) (broadcastInDim S4x2048x8x64 ![0, 1, 2, 3] bcast_S1x2048x1x64_S4x2048x8x64_0_1_2_3 (broadcastInDim S1x2048x1x64 ![1, 3] bcast_S2048x64_S1x2048x1x64_1_3 cs))) (mulf (extractStridedSlice S4x2048x8x64 ![0, 0, 0, 64] x slices_S4x2048x8x128_S4x2048x8x64_0_0_0_64) (broadcastInDim S4x2048x8x64 ![0, 1, 2, 3] bcast_S1x2048x1x64_S4x2048x8x64_0_1_2_3 (broadcastInDim S1x2048x1x64 ![1, 3] bcast_S2048x64_S1x2048x1x64_1_3 sn)))

def refHiK (x : FVec Ideal S4x2048x8x128 .f32) (cs sn : FVec Ideal S2048x64 .f32) : FVec Ideal S4x2048x8x64 .f32 :=
  addf (mulf (extractStridedSlice S4x2048x8x64 ![0, 0, 0, 64] x slices_S4x2048x8x128_S4x2048x8x64_0_0_0_64) (broadcastInDim S4x2048x8x64 ![0, 1, 2, 3] bcast_S1x2048x1x64_S4x2048x8x64_0_1_2_3 (broadcastInDim S1x2048x1x64 ![1, 3] bcast_S2048x64_S1x2048x1x64_1_3 cs))) (mulf (extractStridedSlice S4x2048x8x64 ![0, 0, 0, 0] x slices_S4x2048x8x128_S4x2048x8x64_0_0_0_0) (broadcastInDim S4x2048x8x64 ![0, 1, 2, 3] bcast_S1x2048x1x64_S4x2048x8x64_0_1_2_3 (broadcastInDim S1x2048x1x64 ![1, 3] bcast_S2048x64_S1x2048x1x64_1_3 sn)))

theorem refLoK_at (x : FVec Ideal S4x2048x8x128 .f32) (cs sn : FVec Ideal S2048x64 .f32) (b : Fin 4) (l : Fin 2048) (u : Fin 8) (e : Fin 64) :
    (refLoK x cs sn (ix4 b l u e) : EReal) = (x (ix4 b l u ⟨e.val, by omega⟩) : EReal) * cs (ix2 l e) -
      (x (ix4 b l u ⟨64 + e.val, by omega⟩) : EReal) * sn (ix2 l e) := by
  pointwise [refLoK]

theorem refHiK_at (x : FVec Ideal S4x2048x8x128 .f32) (cs sn : FVec Ideal S2048x64 .f32) (b : Fin 4) (l : Fin 2048) (u : Fin 8) (e : Fin 64) :
    (refHiK x cs sn (ix4 b l u e) : EReal) = (x (ix4 b l u ⟨64 + e.val, by omega⟩) : EReal) * cs (ix2 l e) +
      (x (ix4 b l u ⟨e.val, by omega⟩) : EReal) * sn (ix2 l e) := by
  pointwise [refHiK]

def refRopeK (x : FVec Ideal S4x2048x8x128 .f32) (cs sn : FVec Ideal S2048x64 .f32) : FVec Ideal S4x2048x8x128 .f32 :=
  concatenate S4x2048x8x128 3 [⟨S4x2048x8x64, refLoK x cs sn⟩, ⟨S4x2048x8x64, refHiK x cs sn⟩] concatenates_S4x2048x8x64_S4x2048x8x64_S4x2048x8x128_d3

theorem catK_at (p q : FVec Ideal S4x2048x8x64 .f32) (b : Fin 4) (l : Fin 2048) (u : Fin 8) (e : Fin 128) :
    ((concatenate S4x2048x8x128 3 [⟨S4x2048x8x64, p⟩, ⟨S4x2048x8x64, q⟩] concatenates_S4x2048x8x64_S4x2048x8x64_S4x2048x8x128_d3 :
      FVec Ideal S4x2048x8x128 .f32) (ix4 b l u e) : EReal) =
      if h : e.val < 64 then p (ix4 b l u ⟨e.val, h⟩) else q (ix4 b l u ⟨e.val - 64, by omega⟩) := by
  pointwise
  try split_ifs
  all_goals first
    | rfl
    | (rename_i h; exact absurd rfl h)

theorem refRopeK_at (x : FVec Ideal S4x2048x8x128 .f32) (cs sn : FVec Ideal S2048x64 .f32) (b : Fin 4) (l : Fin 2048) (u : Fin 8) (e : Fin 128) :
    (refRopeK x cs sn (ix4 b l u e) : EReal) = Proj.turn (fun d => x (ix4 b l u d)) (Proj.cosRow fun d => cs (ix2 l d))
      (Proj.sinRow fun d => sn (ix2 l d)) e := by
  refine (catK_at _ _ b l u e).trans ?_
  split_ifs with h
  · exact (refLoK_at x cs sn b l u _).trans (turn_lt (fun d => x (ix4 b l u d)) (fun d => cs (ix2 l d)) (fun d => sn (ix2 l d)) e h)
  · exact (refHiK_at x cs sn b l u _).trans (turn_ge (fun d => x (ix4 b l u d)) (fun d => cs (ix2 l d)) (fun d => sn (ix2 l d)) e h)

/-- The reference's turned heads of the queries: its two halves, put side by side. -/
def refLoQ (x : FVec Ideal S4x2048x32x128 .f32) (cs sn : FVec Ideal S2048x64 .f32) : FVec Ideal S4x2048x32x64 .f32 :=
  subf (mulf (extractStridedSlice S4x2048x32x64 ![0, 0, 0, 0] x slices_S4x2048x32x128_S4x2048x32x64_0_0_0_0) (broadcastInDim S4x2048x32x64 ![0, 1, 2, 3] bcast_S1x2048x1x64_S4x2048x32x64_0_1_2_3 (broadcastInDim S1x2048x1x64 ![1, 3] bcast_S2048x64_S1x2048x1x64_1_3 cs))) (mulf (extractStridedSlice S4x2048x32x64 ![0, 0, 0, 64] x slices_S4x2048x32x128_S4x2048x32x64_0_0_0_64) (broadcastInDim S4x2048x32x64 ![0, 1, 2, 3] bcast_S1x2048x1x64_S4x2048x32x64_0_1_2_3 (broadcastInDim S1x2048x1x64 ![1, 3] bcast_S2048x64_S1x2048x1x64_1_3 sn)))

def refHiQ (x : FVec Ideal S4x2048x32x128 .f32) (cs sn : FVec Ideal S2048x64 .f32) : FVec Ideal S4x2048x32x64 .f32 :=
  addf (mulf (extractStridedSlice S4x2048x32x64 ![0, 0, 0, 64] x slices_S4x2048x32x128_S4x2048x32x64_0_0_0_64) (broadcastInDim S4x2048x32x64 ![0, 1, 2, 3] bcast_S1x2048x1x64_S4x2048x32x64_0_1_2_3 (broadcastInDim S1x2048x1x64 ![1, 3] bcast_S2048x64_S1x2048x1x64_1_3 cs))) (mulf (extractStridedSlice S4x2048x32x64 ![0, 0, 0, 0] x slices_S4x2048x32x128_S4x2048x32x64_0_0_0_0) (broadcastInDim S4x2048x32x64 ![0, 1, 2, 3] bcast_S1x2048x1x64_S4x2048x32x64_0_1_2_3 (broadcastInDim S1x2048x1x64 ![1, 3] bcast_S2048x64_S1x2048x1x64_1_3 sn)))

theorem refLoQ_at (x : FVec Ideal S4x2048x32x128 .f32) (cs sn : FVec Ideal S2048x64 .f32) (b : Fin 4) (l : Fin 2048) (u : Fin 32) (e : Fin 64) :
    (refLoQ x cs sn (ix4 b l u e) : EReal) = (x (ix4 b l u ⟨e.val, by omega⟩) : EReal) * cs (ix2 l e) -
      (x (ix4 b l u ⟨64 + e.val, by omega⟩) : EReal) * sn (ix2 l e) := by
  pointwise [refLoQ]

theorem refHiQ_at (x : FVec Ideal S4x2048x32x128 .f32) (cs sn : FVec Ideal S2048x64 .f32) (b : Fin 4) (l : Fin 2048) (u : Fin 32) (e : Fin 64) :
    (refHiQ x cs sn (ix4 b l u e) : EReal) = (x (ix4 b l u ⟨64 + e.val, by omega⟩) : EReal) * cs (ix2 l e) +
      (x (ix4 b l u ⟨e.val, by omega⟩) : EReal) * sn (ix2 l e) := by
  pointwise [refHiQ]

def refRopeQ (x : FVec Ideal S4x2048x32x128 .f32) (cs sn : FVec Ideal S2048x64 .f32) : FVec Ideal S4x2048x32x128 .f32 :=
  concatenate S4x2048x32x128 3 [⟨S4x2048x32x64, refLoQ x cs sn⟩, ⟨S4x2048x32x64, refHiQ x cs sn⟩] concatenates_S4x2048x32x64_S4x2048x32x64_S4x2048x32x128_d3

theorem catQ_at (p q : FVec Ideal S4x2048x32x64 .f32) (b : Fin 4) (l : Fin 2048) (u : Fin 32) (e : Fin 128) :
    ((concatenate S4x2048x32x128 3 [⟨S4x2048x32x64, p⟩, ⟨S4x2048x32x64, q⟩] concatenates_S4x2048x32x64_S4x2048x32x64_S4x2048x32x128_d3 :
      FVec Ideal S4x2048x32x128 .f32) (ix4 b l u e) : EReal) =
      if h : e.val < 64 then p (ix4 b l u ⟨e.val, h⟩) else q (ix4 b l u ⟨e.val - 64, by omega⟩) := by
  pointwise
  try split_ifs
  all_goals first
    | rfl
    | (rename_i h; exact absurd rfl h)

theorem refRopeQ_at (x : FVec Ideal S4x2048x32x128 .f32) (cs sn : FVec Ideal S2048x64 .f32) (b : Fin 4) (l : Fin 2048) (u : Fin 32) (e : Fin 128) :
    (refRopeQ x cs sn (ix4 b l u e) : EReal) = Proj.turn (fun d => x (ix4 b l u d)) (Proj.cosRow fun d => cs (ix2 l d))
      (Proj.sinRow fun d => sn (ix2 l d)) e := by
  refine (catQ_at _ _ b l u e).trans ?_
  split_ifs with h
  · exact (refLoQ_at x cs sn b l u _).trans (turn_lt (fun d => x (ix4 b l u d)) (fun d => cs (ix2 l d)) (fun d => sn (ix2 l d)) e h)
  · exact (refHiQ_at x cs sn b l u _).trans (turn_ge (fun d => x (ix4 b l u d)) (fun d => cs (ix2 l d)) (fun d => sn (ix2 l d)) e h)

/-- The heads of a token joined in a row. -/
theorem joinK_at (z : FVec Ideal S4x2048x8x128 .f32) (i : Fin 8192) (n : Fin 1024) :
    ((shapeCast _ z shapeCasts_S4x2048x8x128_S8192x1024 : FVec Ideal S8192x1024 .f32) (ix2 i n) : EReal) =
      z (ix4 ⟨i.val / 2048, by omega⟩ ⟨i.val % 2048, by omega⟩ ⟨n.val / 128, by omega⟩ ⟨n.val % 128, by omega⟩) := by
  pointwise
  try (refine congrArg z ?_; congr 1 <;> exact Fin.ext (by simp only; omega))

theorem joinQ_at (z : FVec Ideal S4x2048x32x128 .f32) (i : Fin 8192) (n : Fin 4096) :
    ((truncf .bf16 (shapeCast _ z shapeCasts_S4x2048x32x128_S8192x4096 : FVec Ideal S8192x4096 .f32) bitsLt_bf16_f32 : FVec Ideal S8192x4096 .bf16) (ix2 i n) : EReal) =
      z (ix4 ⟨i.val / 2048, by omega⟩ ⟨i.val % 2048, by omega⟩ ⟨n.val / 128, by omega⟩ ⟨n.val % 128, by omega⟩) := by
  pointwise
  try (refine congrArg z ?_; congr 1 <;> exact Fin.ext (by simp only; omega))

theorem joinV_at (z : FVec Ideal S4x2048x2048 .f32) (i : Fin 8192) (n : Fin 1024) :
    ((shapeCast _ (extractStridedSlice S4x2048x1024 ![0, 0, 1024] z slices_S4x2048x2048_S4x2048x1024_0_0_1024) shapeCasts_S4x2048x1024_S8192x1024 : FVec Ideal S8192x1024 .f32) (ix2 i n) : EReal) =
      z (ix3 ⟨i.val / 2048, by omega⟩ ⟨i.val % 2048, by omega⟩ ⟨1024 + n.val, by omega⟩) := by
  pointwise
  try (refine congrArg z ?_; congr 1 <;> exact Fin.ext (by simp only; omega))

theorem gain128_at (g : FVec Ideal S1x128 .f32) (d : Fin 128) :
    ((shapeCast _ g shapeCasts_S1x128_S128 : FVec Ideal S128 .f32) (ix1 d) : EReal) = g (ix2 0 d) := by
  pointwise

/-- The reference's keys at a row and a column. -/
theorem ref_k (m : (ℓ : Loc nD τ sig) → Buf (Elt Ideal) ℓ) (c : Dev nD) (i : Fin 8192) (n : Fin 1024) :
    (Value.res_main_v92 m c (ix2 i n) : EReal) =
      Proj.keyAt (fun d => m ((c : Thread nD τ).loc main_arg0) (ix3 ⟨i.val / 2048, by omega⟩ ⟨i.val % 2048, by omega⟩ d))
        (fun d => m ((c : Thread nD τ).loc main_arg1) (ix1 d)) (fun k n => m ((c : Thread nD τ).loc main_arg3) (ix2 k n))
        (fun d => m ((c : Thread nD τ).loc main_arg4) (ix1 d))
        (fun d => m ((c : Thread nD τ).loc main_arg7) (ix2 ⟨i.val % 2048, by omega⟩ d))
        (fun d => m ((c : Thread nD τ).loc main_arg8) (ix2 ⟨i.val % 2048, by omega⟩ d)) n := by
  have h : Value.res_main_v92 m c = shapeCast _ (refRopeK (refHeadK (refHeadsK (refKv (refRms (m ((c : Thread nD τ).loc main_arg0))
      (m ((c : Thread nD τ).loc main_arg1))) (m ((c : Thread nD τ).loc main_arg3)))) (m ((c : Thread nD τ).loc main_arg4)))
      (m ((c : Thread nD τ).loc main_arg7)) (m ((c : Thread nD τ).loc main_arg8))) shapeCasts_S4x2048x8x128_S8192x1024 := by
    unfold Value.res_main_v92
    rfl
  refine (congrFun h (ix2 i n)).trans ((joinK_at _ i n).trans ((refRopeK_at _ _ _ _ _ _ _).trans ?_))
  refine congrArg (fun y => Proj.turn y _ _ _) (funext fun d => (refHeadK_at _ _ _ _ _ d).trans ?_)
  refine congrArg (fun y => Proj.rmsHead y _ d) (funext fun d => (refHeadsK_at _ _ _ _ d).trans ?_)
  refine (refKv_at _ _ _ _ _).trans ?_
  exact congrArg₂ Proj.dotRow (funext fun k => refRms_at _ _ _ _ k) rfl

/-- The reference's queries at a row and a column. -/
theorem ref_q (m : (ℓ : Loc nD τ sig) → Buf (Elt Ideal) ℓ) (c : Dev nD) (i : Fin 8192) (n : Fin 4096) :
    (Value.res_main_v95 m c (ix2 i n) : EReal) =
      Proj.queryAt (fun d => m ((c : Thread nD τ).loc main_arg0) (ix3 ⟨i.val / 2048, by omega⟩ ⟨i.val % 2048, by omega⟩ d))
        (fun d => m ((c : Thread nD τ).loc main_arg2) (ix2 1 d)) (fun k n => m ((c : Thread nD τ).loc main_arg5) (ix3 0 k n))
        (fun d => m ((c : Thread nD τ).loc main_arg6) (ix2 0 d))
        (fun d => m ((c : Thread nD τ).loc main_arg7) (ix2 ⟨i.val % 2048, by omega⟩ d))
        (fun d => m ((c : Thread nD τ).loc main_arg8) (ix2 ⟨i.val % 2048, by omega⟩ d)) n := by
  have h : Value.res_main_v95 m c = truncf .bf16 (shapeCast _ (refRopeQ (refHeadQ (refHeadsQ (refQ (refRms (m ((c : Thread nD τ).loc main_arg0))
      (refGain (m ((c : Thread nD τ).loc main_arg2)))) (m ((c : Thread nD τ).loc main_arg5)))) (shapeCast _ (m ((c : Thread nD τ).loc main_arg6)) shapeCasts_S1x128_S128))
      (m ((c : Thread nD τ).loc main_arg7)) (m ((c : Thread nD τ).loc main_arg8))) shapeCasts_S4x2048x32x128_S8192x4096) bitsLt_bf16_f32 := by
    unfold Value.res_main_v95
    rfl
  refine (congrFun h (ix2 i n)).trans ((joinQ_at _ i n).trans ((refRopeQ_at _ _ _ _ _ _ _).trans ?_))
  refine congrArg (fun y => Proj.turn y _ _ _) (funext fun d => (refHeadQ_at _ _ _ _ _ d).trans ?_)
  refine congrArg₂ (fun y g => Proj.rmsHead y g d) (funext fun d => (refHeadsQ_at _ _ _ _ d).trans ?_) (funext fun d => gain128_at _ d)
  refine (refQ_at _ _ _ _ _).trans ?_
  refine congrArg₂ Proj.dotRow (funext fun k => (refRms_at _ _ _ _ k).trans ?_) rfl
  exact congrArg (fun g => Proj.rms _ g k) (funext fun d => refGain_at _ d)

/-- The reference's values at a row and a column. -/
theorem ref_v (x : FVec Ideal S4x2048x4096 .f32) (g : FVec Ideal S4096 .f32) (w : FVec Ideal S4096x2048 .f32) (i : Fin 8192) (n : Fin 1024) :
    ((shapeCast _ (extractStridedSlice S4x2048x1024 ![0, 0, 1024] (refKv (refRms x g) w) slices_S4x2048x2048_S4x2048x1024_0_0_1024)
      shapeCasts_S4x2048x1024_S8192x1024 : FVec Ideal S8192x1024 .f32) (ix2 i n) : EReal) =
      Proj.valAt (fun d => x (ix3 ⟨i.val / 2048, by omega⟩ ⟨i.val % 2048, by omega⟩ d)) (fun d => g (ix1 d)) (fun k n => w (ix2 k n)) n := by
  refine (joinV_at _ i n).trans ((refKv_at _ _ _ _ _).trans ?_)
  exact congrArg₂ Proj.dotRow (funext fun k => refRms_at _ _ _ _ k) rfl

end Cert.KvQPf

end
-- ==== Proof.Proj.KvQRun.lean ====
/- The run of the whole program, with the results at the contents its last region leaves. -/
module

public import proofs.«01_k».proof.Proof.Gen.KvQIdeal.Frame

@[expose] public section

set_option maxRecDepth 16384

noncomputable section

namespace Cert.KvQPf

open Cert.KvQIdeal Cert.KvQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution ends with the results at the contents the last region leaves and the arguments as
    launched. -/
theorem run_last : θ_run defs (onTc (τ := τ) (main (F := F))) ⟨m, fun _ => 0, ρ⟩ fun r => ∀ c : Dev nD,
      r.2.mem ((c : Thread nD τ).loc main_v14) = W10 m ρ c (Proc.devRef .tc main_v14)
      ∧ r.2.mem ((c : Thread nD τ).loc main_v15) = W10 m ρ c (Proc.devRef .tc main_v15)
      ∧ r.2.mem ((c : Thread nD τ).loc main_v21) = W10 m ρ c (Proc.devRef .tc main_v21)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c =>
      ⟨h c _ (mem_uc main_v14 (by decide)),
       h c _ (mem_uc main_v15 (by decide)),
       h c _ (mem_uc main_v21 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KvQPf

end
-- ==== Proof.Proj.KvQClaim.lean ====
/- The claims about the prompt's keys, values and queries. -/
module

public import proofs.«01_k».proof.Defs
public import proofs.«01_k».proof.Proof.Gen.KvQ
public import proofs.«01_k».proof.Proof.Gen.KvQ.Frame
public import proofs.«01_k».proof.Proof.Gen.KvQIdeal
public import proofs.«01_k».proof.Proof.Gen.KvQRefIdeal
public import proofs.«01_k».proof.Proof.Gen.KvQRefIdeal.Run
public import proofs.«01_k».proof.Proof.Proj.KvQArray
public import proofs.«01_k».proof.Proof.Proj.KvQRef
public import proofs.«01_k».proof.Proof.Proj.KvQRun
public import Idealize.ShloMosaic.Lib.Claim

@[expose] public section

set_option maxRecDepth 16384

noncomputable section

namespace Cert.KvQPf

open Idealize.ShloMosaic Idealize.ShloMosaic.TcCoe Idealize.SL.Sem

/-- The reference runs and keeps its arguments. -/
theorem frame_ref : Cert.quiescent_KvQRefIdeal (hKvQRefIdeal := Cert.KvQRefIdeal.Gen.facts) := by
  intro m g _
  exact (θ_run _ _ _).mono (fun r h => ⟨fun c => (h c).2.2.2, sem_eq_zero_of_no_sems (by decide) r.2⟩) (Cert.KvQRefIdeal.Value.run m g)

/-- The kernel's keys, values and queries are the reference's. -/
theorem algebraic : Cert.algebraic_KvQIdeal_KvQRefIdeal (hKvQIdeal := Cert.KvQIdeal.Gen.facts)
    (hKvQRefIdeal := Cert.KvQRefIdeal.Gen.facts) := by
  pair_intro
  · run_from run_last m g
  · refine (θ_run _ _ _).mono (fun r h c => ?_) (Cert.KvQRefIdeal.Value.run m' g')
    obtain ⟨a0, a1, a2, a3, a4, a5, a6, a7, a8⟩ := hagree c
    refine ⟨(h c).1.trans (Eq.trans ?_ rfl), (h c).2.1.trans (Eq.trans ?_ rfl), (h c).2.2.1.trans (Eq.trans ?_ rfl), (h c).2.2.2⟩
    · funext j
      obtain ⟨i, n, rfl⟩ : ∃ (i : Fin 8192) (n : Fin 1024), j = ix2 i n := ⟨j 0, j 1, (ix2_eta j).symm⟩
      refine (ref_k m' c i n).trans (Eq.trans ?_ (last_k m g c i n).symm)
      rw [a0, a1, a3, a4, a7, a8]
      rfl
    · funext j
      obtain ⟨i, n, rfl⟩ : ∃ (i : Fin 8192) (n : Fin 1024), j = ix2 i n := ⟨j 0, j 1, (ix2_eta j).symm⟩
      refine (ref_v _ _ _ i n).trans (Eq.trans ?_ (last_v m g c i n).symm)
      rw [a0, a1, a3]
      rfl
    · funext j
      obtain ⟨i, n, rfl⟩ : ∃ (i : Fin 8192) (n : Fin 4096), j = ix2 i n := ⟨j 0, j 1, (ix2_eta j).symm⟩
      refine (ref_q m' c i n).trans (Eq.trans ?_ (last_q m g c i n).symm)
      rw [a0, a2, a5, a6, a7, a8]
      rfl

end Cert.KvQPf

end
-- ==== Proof.Proj.KvQSampleNorm.lean ====
/- The two normalised arrays the first region of the keys' and queries' calls leaves. -/
module

public import proofs.«01_k».proof.Proof.Gen.KvQSampleIdeal.Frame
public import proofs.«01_k».proof.Proof.Proj.Rows

@[expose] public section

set_option maxRecDepth 16384

noncomputable section

namespace Cert.KvQSamplePf

open Idealize.ShloMosaic Idealize.ShloMosaic.TcCoe Cert.KvQSampleIdeal Cert.KvQSampleIdeal.Gen Idealize.SL.Sem

/-- The block of rows of a grid point. -/
theorem idx0 : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

/-- The payloads of a block, entry by entry. -/
theorem pay0_2 (x : S64x4096.Idx → EReal) (g : S1x4096.Idx → EReal) (p : Fin 64) (k : Fin 4096) :
    (k0_pay2 (F := Ideal) x g (ix2 p k) : EReal) = Proj.rms (fun d => x (ix2 p d)) (fun d => g (ix2 0 d)) k := by
  unfold Proj.rms
  pointwise [k0_pay2, k0_pay1]

theorem pay0_3 (x : S64x4096.Idx → EReal) (g : S1x4096.Idx → EReal) (p : Fin 64) (k : Fin 4096) :
    (k0_pay3 (F := Ideal) x g (ix2 p k) : EReal) = Proj.rms (fun d => x (ix2 p d)) (fun d => g (ix2 0 d)) k := by
  unfold Proj.rms
  pointwise [k0_pay3, k0_pay1]

variable (V : (c : Dev nD) → (b : Ref sig .tc) → Buf (Elt Ideal) ((c : Thread nD τ).loc b))

/-- The rows normalised with the gain of row `u`. -/
def hnArr (u : Fin 2) (X : S64x4096.Idx → EReal) (G : S2x4096.Idx → EReal) : S64x4096.Idx → EReal := fun j =>
  Proj.rms (fun d => X (ix2 (j 0) d)) (fun d => G (ix2 u d)) (j 1)

def row0 (t : Fin cfg0.N) (p : Fin 64) : Fin 64 := ⟨64 * t.val + p.val, by have h : t.val < 1 := t.isLt; omega⟩

theorem blk0_x (c : Dev nD) (t : Fin cfg0.N) (p : Fin 64) (k : Fin 4096) :
    iblk0 V c 0 t (ix2 p k) = V c main_v3 (ix2 (row0 t p) k) := by
  refine congrArg (V c main_v3) (?_ : _ = ix2 (row0 t p) k)
  blk_ext [idx0 t, row0]

theorem blk0_g0 (c : Dev nD) (t : Fin cfg0.N) (k : Fin 4096) :
    View.ld (iblk0 V c 1 t) r0_1 (ix2 0 k) = V c main_v8 (ix2 0 k) := by
  refine congrArg (V c main_v8) (?_ : _ = ix2 0 k)
  blk_ext [idx0 t]
  · exact (by omega : 0 + 1 * 0 = 0)
  · exact (by omega : 0 + 1 * k.val = k.val)

theorem blk0_g1 (c : Dev nD) (t : Fin cfg0.N) (k : Fin 4096) :
    View.ld (iblk0 V c 1 t) r0_2 (ix2 0 k) = V c main_v8 (ix2 1 k) := by
  refine congrArg (V c main_v8) (?_ : _ = ix2 1 k)
  blk_ext [idx0 t]
  · exact (by omega : 1 + 1 * 0 = 1)
  · exact (by omega : 0 + 1 * k.val = k.val)

/-- A block of each array the region leaves is a block of `hnArr`. -/
theorem point0_2 (c : Dev nD) (t : Fin cfg0.N) (y : S64x4096.Idx) :
    k0_pay2 (F := Ideal) (iblk0 V c 0 t) (View.ld (iblk0 V c 1 t) r0_1) y =
      hnArr 0 (V c main_v3) (V c main_v8) (((cfg0.win 2).blk t).view.emb y) := by
  obtain ⟨p, k, rfl⟩ : ∃ (p : Fin 64) (k : Fin 4096), y = ix2 p k := ⟨y 0, y 1, (ix2_eta y).symm⟩
  have he : ((cfg0.win 2).blk t).view.emb (ix2 p k) = ix2 (row0 t p) k := by
    blk_ext [idx0 t, row0]
  rw [he]
  refine (pay0_2 _ _ p k).trans ?_
  exact congrArg₂ (fun x g => Proj.rms x g k) (funext fun d => blk0_x V c t p d) (funext fun d => blk0_g0 V c t d)

theorem point0_3 (c : Dev nD) (t : Fin cfg0.N) (y : S64x4096.Idx) :
    k0_pay3 (F := Ideal) (iblk0 V c 0 t) (View.ld (iblk0 V c 1 t) r0_2) y =
      hnArr 1 (V c main_v3) (V c main_v8) (((cfg0.win 3).blk t).view.emb y) := by
  obtain ⟨p, k, rfl⟩ : ∃ (p : Fin 64) (k : Fin 4096), y = ix2 p k := ⟨y 0, y 1, (ix2_eta y).symm⟩
  have he : ((cfg0.win 3).blk t).view.emb (ix2 p k) = ix2 (row0 t p) k := by
    blk_ext [idx0 t, row0]
  rw [he]
  refine (pay0_3 _ _ p k).trans ?_
  exact congrArg₂ (fun x g => Proj.rms x g k) (funext fun d => blk0_x V c t p d) (funext fun d => blk0_g1 V c t d)

theorem final0_2 (c : Dev nD) : (dat0 V c).arrAt 2 cfg0.N = hnArr 0 (V c main_v3) (V c main_v8) := by
  refine (dat0 V c).arrAt_eq_of_covers 2 _ (by decide +kernel) fun t _ y => ?_
  blk_simp
  rw [after0_2]
  frame_out
  exact point0_2 V c t y

theorem final0_3 (c : Dev nD) : (dat0 V c).arrAt 3 cfg0.N = hnArr 1 (V c main_v3) (V c main_v8) := by
  refine (dat0 V c).arrAt_eq_of_covers 3 _ (by decide +kernel) fun t _ y => ?_
  blk_simp
  rw [after0_3]
  frame_out
  exact point0_3 V c t y

end Cert.KvQSamplePf

end
-- ==== Proof.Proj.KvQSampleMm.lean ====
/- The products of the normalised rows with the weights of the keys, the values and the queries. -/
module

public import proofs.«01_k».proof.Proof.Gen.KvQSampleIdeal.Frame
public import proofs.«01_k».proof.Proof.Proj.Rows

@[expose] public section

set_option maxRecDepth 16384

noncomputable section

namespace Cert.KvQSamplePf

open Idealize.ShloMosaic Idealize.ShloMosaic.TcCoe Cert.KvQSampleIdeal Cert.KvQSampleIdeal.Gen Idealize.SL.Sem

variable (V : (c : Dev nD) → (b : Ref sig .tc) → Buf (Elt Ideal) ((c : Thread nD τ).loc b))

/-- The blocks of a grid point of the product with `w_kv`: rows by `t % 1`, columns by `t / 1`. -/
theorem idx1 : ∀ t : Fin cfg1.N, win1_0.index t = ![t.val % 1, 0] ∧ win1_1.index t = ![0, t.val / 1] ∧
    win1_2.index t = ![t.val % 1, t.val / 1] :=
  (by decide +kernel : ∀ t : Fin grid1.N, _)

/-- The payload of a block, entry by entry. -/
theorem pay1_at (x : S64x4096.Idx → EReal) (w : S4096x1024.Idx → EReal) (p : Fin 64) (q : Fin 1024) :
    (k1_pay1 (F := Ideal) x w (ix2 p q) : EReal) = Proj.dotRow (fun k => x (ix2 p k)) (fun k => w (ix2 k q)) := by
  unfold Proj.dotRow
  pointwise [k1_pay1]

/-- The product of the rows of one array with the columns of the other. -/
def mm1 (X : S64x4096.Idx → EReal) (W : S4096x2048.Idx → EReal) : S64x2048.Idx → EReal := fun j =>
  Proj.dotRow (fun k => X (ix2 (j 0) k)) (fun k => W (ix2 k (j 1)))

def row1 (t : Fin cfg1.N) (p : Fin 64) : Fin 64 := ⟨64 * (t.val % 1) + p.val, by omega⟩
def col1 (t : Fin cfg1.N) (q : Fin 1024) : Fin 2048 := ⟨1024 * (t.val / 1) + q.val, by have h : t.val < 2 := t.isLt; omega⟩

theorem blk1_x (c : Dev nD) (t : Fin cfg1.N) (p : Fin 64) (k : Fin 4096) :
    iblk1 V c 0 t (ix2 p k) = V c main_v9_0 (ix2 (row1 t p) k) := by
  refine congrArg (V c main_v9_0) (?_ : _ = ix2 (row1 t p) k)
  blk_ext [idx1 t, row1]

theorem blk1_w (c : Dev nD) (t : Fin cfg1.N) (k : Fin 4096) (q : Fin 1024) :
    iblk1 V c 1 t (ix2 k q) = V c main_v10 (ix2 k (col1 t q)) := by
  refine congrArg (V c main_v10) (?_ : _ = ix2 k (col1 t q))
  blk_ext [idx1 t, col1]

/-- A block of the product's array is a block of `mm1`. -/
theorem point1 (c : Dev nD) (t : Fin cfg1.N) (y : S64x1024.Idx) :
    k1_pay1 (F := Ideal) (iblk1 V c 0 t) (iblk1 V c 1 t) y =
      mm1 (V c main_v9_0) (V c main_v10) (((cfg1.win 2).blk t).view.emb y) := by
  obtain ⟨p, q, rfl⟩ : ∃ (p : Fin 64) (q : Fin 1024), y = ix2 p q := ⟨y 0, y 1, (ix2_eta y).symm⟩
  have he : ((cfg1.win 2).blk t).view.emb (ix2 p q) = ix2 (row1 t p) (col1 t q) := by
    blk_ext [idx1 t, row1, col1]
  rw [he]
  refine (pay1_at _ _ p q).trans ?_
  exact congrArg₂ Proj.dotRow (funext fun k => blk1_x V c t p k) (funext fun k => blk1_w V c t k q)

theorem final1 (c : Dev nD) : (dat1 V c).arrAt 2 cfg1.N = mm1 (V c main_v9_0) (V c main_v10) := by
  refine (dat1 V c).arrAt_eq_of_covers 2 _ (by decide +kernel) fun t _ y => ?_
  blk_simp
  rw [after1_2]
  frame_out
  exact point1 V c t y

/-- The blocks of a grid point of the product with `w_q`: rows by `t % 1`, columns by `t / 1`. -/
theorem idx3 : ∀ t : Fin cfg3.N, win3_0.index t = ![t.val % 1, 0] ∧ win3_1.index t = ![0, t.val / 1] ∧
    win3_2.index t = ![t.val % 1, t.val / 1] :=
  (by decide +kernel : ∀ t : Fin grid3.N, _)

/-- The payload of a block, entry by entry. -/
theorem pay3_at (x : S64x4096.Idx → EReal) (w : S4096x1024.Idx → EReal) (p : Fin 64) (q : Fin 1024) :
    (k3_pay1 (F := Ideal) x w (ix2 p q) : EReal) = Proj.dotRow (fun k => x (ix2 p k)) (fun k => w (ix2 k q)) := by
  unfold Proj.dotRow
  pointwise [k3_pay1]

/-- The product of the rows of one array with the columns of the other. -/
def mm3 (X : S64x4096.Idx → EReal) (W : S4096x4096.Idx → EReal) : S64x4096.Idx → EReal := fun j =>
  Proj.dotRow (fun k => X (ix2 (j 0) k)) (fun k => W (ix2 k (j 1)))

def row3 (t : Fin cfg3.N) (p : Fin 64) : Fin 64 := ⟨64 * (t.val % 1) + p.val, by omega⟩
def col3 (t : Fin cfg3.N) (q : Fin 1024) : Fin 4096 := ⟨1024 * (t.val / 1) + q.val, by have h : t.val < 4 := t.isLt; omega⟩

theorem blk3_x (c : Dev nD) (t : Fin cfg3.N) (p : Fin 64) (k : Fin 4096) :
    iblk3 V c 0 t (ix2 p k) = V c main_v9_1 (ix2 (row3 t p) k) := by
  refine congrArg (V c main_v9_1) (?_ : _ = ix2 (row3 t p) k)
  blk_ext [idx3 t, row3]

theorem blk3_w (c : Dev nD) (t : Fin cfg3.N) (k : Fin 4096) (q : Fin 1024) :
    iblk3 V c 1 t (ix2 k q) = V c main_v17 (ix2 k (col3 t q)) := by
  refine congrArg (V c main_v17) (?_ : _ = ix2 k (col3 t q))
  blk_ext [idx3 t, col3]

/-- A block of the product's array is a block of `mm3`. -/
theorem point3 (c : Dev nD) (t : Fin cfg3.N) (y : S64x1024.Idx) :
    k3_pay1 (F := Ideal) (iblk3 V c 0 t) (iblk3 V c 1 t) y =
      mm3 (V c main_v9_1) (V c main_v17) (((cfg3.win 2).blk t).view.emb y) := by
  obtain ⟨p, q, rfl⟩ : ∃ (p : Fin 64) (q : Fin 1024), y = ix2 p q := ⟨y 0, y 1, (ix2_eta y).symm⟩
  have he : ((cfg3.win 2).blk t).view.emb (ix2 p q) = ix2 (row3 t p) (col3 t q) := by
    blk_ext [idx3 t, row3, col3]
  rw [he]
  refine (pay3_at _ _ p q).trans ?_
  exact congrArg₂ Proj.dotRow (funext fun k => blk3_x V c t p k) (funext fun k => blk3_w V c t k q)

theorem final3 (c : Dev nD) : (dat3 V c).arrAt 2 cfg3.N = mm3 (V c main_v9_1) (V c main_v17) := by
  refine (dat3 V c).arrAt_eq_of_covers 2 _ (by decide +kernel) fun t _ y => ?_
  blk_simp
  rw [after3_2]
  frame_out
  exact point3 V c t y

end Cert.KvQSamplePf

end
-- ==== Proof.Proj.KvQSampleRopeK.lean ====
/- The rows of heads the keys's normalising and rotary region leaves. -/
module

public import proofs.«01_k».proof.Proof.Gen.KvQSampleIdeal.Frame
public import proofs.«01_k».proof.Proof.Proj.Rows

@[expose] public section

set_option maxRecDepth 16384

noncomputable section

namespace Cert.KvQSamplePf

open Idealize.ShloMosaic Idealize.ShloMosaic.TcCoe Cert.KvQSampleIdeal Cert.KvQSampleIdeal.Gen Idealize.SL.Sem

/-- The block of rows of a grid point; the tables' rows are those of its tokens. -/
theorem idx2 : ∀ t : Fin cfg2.N, win2_0.index t = ![t.val, 0] ∧ win2_1.index t = ![0, 0] ∧ win2_2.index t = ![t.val % 1, 0] ∧
    win2_3.index t = ![t.val % 1, 0] ∧ win2_4.index t = ![t.val, 0] :=
  (by decide +kernel : ∀ t : Fin grid2.N, _)

/-- The payload of a head of a block, entry by entry. -/
theorem pay2_at (x : S8x128.Idx → EReal) (g : S1x128.Idx → EReal) (cs sn : S8x128.Idx → EReal) (p : Fin 8) (e : Fin 128) :
    (k2_pay2 (F := Ideal) x g cs sn (ix2 p e) : EReal) = Proj.turn (Proj.rmsHead (fun d => x (ix2 p d)) (fun d => g (ix2 0 d)))
      (fun d => cs (ix2 p d)) (fun d => sn (ix2 p d)) e := by
  unfold Proj.turn Proj.rmsHead
  pointwise [k2_pay2]
  try rfl

/-- A block of rows of heads, each head normalised and turned. -/
def rope2 (X : S8x1024.Idx → EReal) (g : S1x128.Idx → EReal) (cs sn : S8x128.Idx → EReal) : S8x1024.Idx → EReal := fun j =>
  Proj.ropeRow (n := 8) (fun k => X (ix2 (j 0) k)) (fun d => g (ix2 0 d)) (fun d => cs (ix2 (j 0) d)) (fun d => sn (ix2 (j 0) d)) (j 1)

/-- What is stored for the head at column `off` is `rope2` there. -/
theorem piece2 (X : Vec Ideal S8x1024 .f32) (g : Vec Ideal S1x128 .f32) (cs sn : Vec Ideal S8x128 .f32) (off : ℕ)
    (inb : ∀ a, (![0, off] : Fin 2 → ℕ) a + S8x128.size a ≤ S8x1024.size a) (ho : off % 128 = 0)
    (y : S8x1024.Idx) (x : S8x128.Idx) (hx : (Rect.unit (s := S8x1024) ![0, off] S8x128.size inb).emb x = y) :
    k2_pay2 (F := Ideal) (View.ld X (Rect.unit (s := S8x1024) ![0, off] S8x128.size inb)) (View.ld g r2_1) (View.ld cs r2_2)
      (View.ld sn r2_2) x = rope2 X g cs sn y := by
  obtain ⟨p, e, rfl⟩ : ∃ (p : Fin 8) (e : Fin 128), x = ix2 p e := ⟨x 0, x 1, (ix2_eta x).symm⟩
  have hb : off + 128 ≤ 1024 := inb 1
  have hy : y = ix2 p ⟨off + e.val, by have := e.isLt; omega⟩ := by
    rw [← hx]
    blk_ext [r2_1, r2_2]
  subst hy
  refine (pay2_at _ _ _ _ p e).trans ?_
  unfold rope2 Proj.ropeRow
  have hin : Proj.inHead (n := 8) ⟨off + e.val, by have := e.isLt; omega⟩ = e := by
    refine Fin.ext ?_
    show (off + e.val) % 128 = e.val
    have := e.isLt
    omega
  have hx' : (fun d : Fin 128 => View.ld X (Rect.unit (s := S8x1024) ![0, off] S8x128.size inb) (ix2 p d)) =
      Proj.headAt (n := 8) (fun k => X (ix2 p k)) ⟨off + e.val, by have := e.isLt; omega⟩ := by
    funext d
    refine congrArg X (?_ : _ = ix2 p ⟨(off + e.val) / 128 * 128 + d.val, by have := e.isLt; have := d.isLt; omega⟩)
    have h1 : (off + e.val) / 128 * 128 = off := by have := e.isLt; omega
    blk_ext [h1]
    · exact (by omega : 0 + 1 * p.val = p.val)
    · exact (by omega : off + 1 * d.val = off + d.val)
  have hg : (fun d : Fin 128 => View.ld g r2_1 (ix2 0 d)) = fun d => g (ix2 0 d) := by
    funext d; refine congrArg g (?_ : _ = ix2 0 d); blk_ext [r2_1, r2_2]
    all_goals first | exact (by omega : 0 + 1 * 0 = 0) | exact (by omega : 0 + 1 * d.val = d.val)
  have hc : (fun d : Fin 128 => View.ld cs r2_2 (ix2 p d)) = fun d => cs (ix2 p d) := by
    funext d; refine congrArg cs (?_ : _ = ix2 p d); blk_ext [r2_1, r2_2]
    · exact (by omega : 0 + 1 * p.val = p.val)
    · exact (by omega : 0 + 1 * d.val = d.val)
  have hs : (fun d : Fin 128 => View.ld sn r2_2 (ix2 p d)) = fun d => sn (ix2 p d) := by
    funext d; refine congrArg sn (?_ : _ = ix2 p d); blk_ext [r2_1, r2_2]
    · exact (by omega : 0 + 1 * p.val = p.val)
    · exact (by omega : 0 + 1 * d.val = d.val)
  exact Proj.turn_congr hx' hg hc hs hin.symm

/-- The whole block a point stores. -/
theorem out2_eq (X : Vec Ideal S8x1024 .f32) (g : Vec Ideal S1x128 .f32) (cs sn : Vec Ideal S8x128 .f32) (y : S8x1024.Idx) :
    out2_4 X g cs sn y = rope2 X g cs sn y := by
  unfold out2_4
  refine View.canon_eq_of_allAt _ _ _ (cover2_4 _ _ _ _ _ _ _ _ y) ?_
  refine View.allAt_cons _ _ _ (piece2 X g cs sn 896 _ (by decide) y) ?_
  refine View.allAt_cons _ _ _ (piece2 X g cs sn 768 _ (by decide) y) ?_
  refine View.allAt_cons _ _ _ (piece2 X g cs sn 640 _ (by decide) y) ?_
  refine View.allAt_cons _ _ _ (piece2 X g cs sn 512 _ (by decide) y) ?_
  refine View.allAt_cons _ _ _ (piece2 X g cs sn 384 _ (by decide) y) ?_
  refine View.allAt_cons _ _ _ (piece2 X g cs sn 256 _ (by decide) y) ?_
  refine View.allAt_cons _ _ _ (piece2 X g cs sn 128 _ (by decide) y) ?_
  refine View.allAt_cons _ _ _ (piece2 X g cs sn 0 _ (by decide) y) ?_
  exact View.allAt_nil _ _

variable (V : (c : Dev nD) → (b : Ref sig .tc) → Buf (Elt Ideal) ((c : Thread nD τ).loc b))

/-- The rows of heads, from the arrays the region reads. -/
def ropeArr2 (X : S64x1024.Idx → EReal) (g : S1x128.Idx → EReal) (cs sn : S8x128.Idx → EReal) : S64x1024.Idx → EReal := fun j =>
  Proj.ropeRow (n := 8) (fun k => X (ix2 (j 0) k)) (fun d => g (ix2 0 d))
    (fun d => cs (ix2 ⟨(j 0).val % 8, Nat.mod_lt _ (by decide)⟩ d)) (fun d => sn (ix2 ⟨(j 0).val % 8, Nat.mod_lt _ (by decide)⟩ d)) (j 1)

def row2 (t : Fin cfg2.N) (p : Fin 8) : Fin 64 := ⟨8 * t.val + p.val, by have h : t.val < 8 := t.isLt; omega⟩

theorem blk2_x (c : Dev nD) (t : Fin cfg2.N) (p : Fin 8) (k : Fin 1024) :
    iblk2 V c 0 t (ix2 p k) = V c main_v12 (ix2 (row2 t p) k) := by
  refine congrArg (V c main_v12) (?_ : _ = ix2 (row2 t p) k)
  blk_ext [idx2 t, row2]

theorem blk2_g (c : Dev nD) (t : Fin cfg2.N) (d : Fin 128) : iblk2 V c 1 t (ix2 0 d) = V c main_v13 (ix2 0 d) := by
  refine congrArg (V c main_v13) (?_ : _ = ix2 0 d)
  blk_ext [idx2 t]

theorem blk2_c (c : Dev nD) (t : Fin cfg2.N) (p : Fin 8) (d : Fin 128) :
    iblk2 V c 2 t (ix2 p d) = V c main_v0 (ix2 ⟨(row2 t p).val % 8, Nat.mod_lt _ (by decide)⟩ d) := by
  refine congrArg (V c main_v0) (?_ : _ = ix2 ⟨(8 * t.val + p.val) % 8, Nat.mod_lt _ (by decide)⟩ d)
  have hp := p.isLt
  blk_ext [idx2 t] <;> omega

theorem blk2_s (c : Dev nD) (t : Fin cfg2.N) (p : Fin 8) (d : Fin 128) :
    iblk2 V c 3 t (ix2 p d) = V c main_v2 (ix2 ⟨(row2 t p).val % 8, Nat.mod_lt _ (by decide)⟩ d) := by
  refine congrArg (V c main_v2) (?_ : _ = ix2 ⟨(8 * t.val + p.val) % 8, Nat.mod_lt _ (by decide)⟩ d)
  have hp := p.isLt
  blk_ext [idx2 t] <;> omega

theorem point2 (c : Dev nD) (t : Fin cfg2.N) (y : S8x1024.Idx) :
    out2_4 (F := Ideal) (iblk2 V c 0 t) (iblk2 V c 1 t) (iblk2 V c 2 t) (iblk2 V c 3 t) y =
      ropeArr2 (V c main_v12) (V c main_v13) (V c main_v0) (V c main_v2) (((cfg2.win 4).blk t).view.emb y) := by
  refine (out2_eq _ _ _ _ y).trans ?_
  obtain ⟨p, k, rfl⟩ : ∃ (p : Fin 8) (k : Fin 1024), y = ix2 p k := ⟨y 0, y 1, (ix2_eta y).symm⟩
  have he : ((cfg2.win 4).blk t).view.emb (ix2 p k) = ix2 (row2 t p) k := by
    blk_ext [idx2 t, row2]
  rw [he]
  show Proj.ropeRow (n := 8) (fun k => iblk2 V c 0 t (ix2 p k)) (fun d => iblk2 V c 1 t (ix2 0 d)) (fun d => iblk2 V c 2 t (ix2 p d))
    (fun d => iblk2 V c 3 t (ix2 p d)) k = _
  rw [show (fun k => iblk2 V c 0 t (ix2 p k)) = fun k => V c main_v12 (ix2 (row2 t p) k) from funext fun k => blk2_x V c t p k,
    show (fun d => iblk2 V c 1 t (ix2 0 d)) = fun d => V c main_v13 (ix2 0 d) from funext fun d => blk2_g V c t d,
    show (fun d => iblk2 V c 2 t (ix2 p d)) = fun d => V c main_v0 (ix2 ⟨(row2 t p).val % 8, Nat.mod_lt _ (by decide)⟩ d) from
      funext fun d => blk2_c V c t p d,
    show (fun d => iblk2 V c 3 t (ix2 p d)) = fun d => V c main_v2 (ix2 ⟨(row2 t p).val % 8, Nat.mod_lt _ (by decide)⟩ d) from
      funext fun d => blk2_s V c t p d]
  rfl

theorem final2 (c : Dev nD) : (dat2 V c).arrAt 4 cfg2.N = ropeArr2 (V c main_v12) (V c main_v13) (V c main_v0) (V c main_v2) := by
  refine (dat2 V c).arrAt_eq_of_covers 4 _ (by decide +kernel) fun t _ y => ?_
  blk_simp
  rw [after2_4]
  exact point2 V c t y

end Cert.KvQSamplePf

end
-- ==== Proof.Proj.KvQSampleRopeQ.lean ====
/- The rows of heads the queries's normalising and rotary region leaves. -/
module

public import proofs.«01_k».proof.Proof.Gen.KvQSampleIdeal.Frame
public import proofs.«01_k».proof.Proof.Proj.Rows

@[expose] public section

set_option maxRecDepth 16384

noncomputable section

namespace Cert.KvQSamplePf

open Idealize.ShloMosaic Idealize.ShloMosaic.TcCoe Cert.KvQSampleIdeal Cert.KvQSampleIdeal.Gen Idealize.SL.Sem

/-- The block of rows of a grid point; the tables' rows are those of its tokens. -/
theorem idx4 : ∀ t : Fin cfg4.N, win4_0.index t = ![t.val, 0] ∧ win4_1.index t = ![0, 0] ∧ win4_2.index t = ![t.val % 1, 0] ∧
    win4_3.index t = ![t.val % 1, 0] ∧ win4_4.index t = ![t.val, 0] :=
  (by decide +kernel : ∀ t : Fin grid4.N, _)

/-- The payload of a head of a block, entry by entry. -/
theorem pay4_at (x : S8x128.Idx → EReal) (g : S1x128.Idx → EReal) (cs sn : S8x128.Idx → EReal) (p : Fin 8) (e : Fin 128) :
    (k4_pay2 (F := Ideal) x g cs sn (ix2 p e) : EReal) = Proj.turn (Proj.rmsHead (fun d => x (ix2 p d)) (fun d => g (ix2 0 d)))
      (fun d => cs (ix2 p d)) (fun d => sn (ix2 p d)) e := by
  unfold Proj.turn Proj.rmsHead
  pointwise [k4_pay2]
  try rfl

/-- A block of rows of heads, each head normalised and turned. -/
def rope4 (X : S8x4096.Idx → EReal) (g : S1x128.Idx → EReal) (cs sn : S8x128.Idx → EReal) : S8x4096.Idx → EReal := fun j =>
  Proj.ropeRow (n := 32) (fun k => X (ix2 (j 0) k)) (fun d => g (ix2 0 d)) (fun d => cs (ix2 (j 0) d)) (fun d => sn (ix2 (j 0) d)) (j 1)

/-- What is stored for the head at column `off` is `rope4` there. -/
theorem piece4 (X : Vec Ideal S8x4096 .f32) (g : Vec Ideal S1x128 .f32) (cs sn : Vec Ideal S8x128 .f32) (off : ℕ)
    (inb : ∀ a, (![0, off] : Fin 2 → ℕ) a + S8x128.size a ≤ S8x4096.size a) (ho : off % 128 = 0)
    (y : S8x4096.Idx) (x : S8x128.Idx) (hx : (Rect.unit (s := S8x4096) ![0, off] S8x128.size inb).emb x = y) :
    k4_pay2 (F := Ideal) (View.ld X (Rect.unit (s := S8x4096) ![0, off] S8x128.size inb)) (View.ld g r4_1) (View.ld cs r4_2)
      (View.ld sn r4_2) x = rope4 X g cs sn y := by
  obtain ⟨p, e, rfl⟩ : ∃ (p : Fin 8) (e : Fin 128), x = ix2 p e := ⟨x 0, x 1, (ix2_eta x).symm⟩
  have hb : off + 128 ≤ 4096 := inb 1
  have hy : y = ix2 p ⟨off + e.val, by have := e.isLt; omega⟩ := by
    rw [← hx]
    blk_ext [r4_1, r4_2]
  subst hy
  refine (pay4_at _ _ _ _ p e).trans ?_
  unfold rope4 Proj.ropeRow
  have hin : Proj.inHead (n := 32) ⟨off + e.val, by have := e.isLt; omega⟩ = e := by
    refine Fin.ext ?_
    show (off + e.val) % 128 = e.val
    have := e.isLt
    omega
  have hx' : (fun d : Fin 128 => View.ld X (Rect.unit (s := S8x4096) ![0, off] S8x128.size inb) (ix2 p d)) =
      Proj.headAt (n := 32) (fun k => X (ix2 p k)) ⟨off + e.val, by have := e.isLt; omega⟩ := by
    funext d
    refine congrArg X (?_ : _ = ix2 p ⟨(off + e.val) / 128 * 128 + d.val, by have := e.isLt; have := d.isLt; omega⟩)
    have h1 : (off + e.val) / 128 * 128 = off := by have := e.isLt; omega
    blk_ext [h1]
    · exact (by omega : 0 + 1 * p.val = p.val)
    · exact (by omega : off + 1 * d.val = off + d.val)
  have hg : (fun d : Fin 128 => View.ld g r4_1 (ix2 0 d)) = fun d => g (ix2 0 d) := by
    funext d; refine congrArg g (?_ : _ = ix2 0 d); blk_ext [r4_1, r4_2]
    all_goals first | exact (by omega : 0 + 1 * 0 = 0) | exact (by omega : 0 + 1 * d.val = d.val)
  have hc : (fun d : Fin 128 => View.ld cs r4_2 (ix2 p d)) = fun d => cs (ix2 p d) := by
    funext d; refine congrArg cs (?_ : _ = ix2 p d); blk_ext [r4_1, r4_2]
    · exact (by omega : 0 + 1 * p.val = p.val)
    · exact (by omega : 0 + 1 * d.val = d.val)
  have hs : (fun d : Fin 128 => View.ld sn r4_2 (ix2 p d)) = fun d => sn (ix2 p d) := by
    funext d; refine congrArg sn (?_ : _ = ix2 p d); blk_ext [r4_1, r4_2]
    · exact (by omega : 0 + 1 * p.val = p.val)
    · exact (by omega : 0 + 1 * d.val = d.val)
  exact Proj.turn_congr hx' hg hc hs hin.symm

/-- The whole block a point stores. -/
theorem out4_eq (X : Vec Ideal S8x4096 .f32) (g : Vec Ideal S1x128 .f32) (cs sn : Vec Ideal S8x128 .f32) (y : S8x4096.Idx) :
    out4_4 X g cs sn y = rope4 X g cs sn y := by
  unfold out4_4
  refine View.canon_eq_of_allAt _ _ _ (cover4_4 _ _ _ _ _ _ _ _ _ _ _ _ _ _ _ _ _ _ _ _ _ _ _ _ _ _ _ _ _ _ _ _ y) ?_
  refine View.allAt_cons _ _ _ (piece4 X g cs sn 3968 _ (by decide) y) ?_
  refine View.allAt_cons _ _ _ (piece4 X g cs sn 3840 _ (by decide) y) ?_
  refine View.allAt_cons _ _ _ (piece4 X g cs sn 3712 _ (by decide) y) ?_
  refine View.allAt_cons _ _ _ (piece4 X g cs sn 3584 _ (by decide) y) ?_
  refine View.allAt_cons _ _ _ (piece4 X g cs sn 3456 _ (by decide) y) ?_
  refine View.allAt_cons _ _ _ (piece4 X g cs sn 3328 _ (by decide) y) ?_
  refine View.allAt_cons _ _ _ (piece4 X g cs sn 3200 _ (by decide) y) ?_
  refine View.allAt_cons _ _ _ (piece4 X g cs sn 3072 _ (by decide) y) ?_
  refine View.allAt_cons _ _ _ (piece4 X g cs sn 2944 _ (by decide) y) ?_
  refine View.allAt_cons _ _ _ (piece4 X g cs sn 2816 _ (by decide) y) ?_
  refine View.allAt_cons _ _ _ (piece4 X g cs sn 2688 _ (by decide) y) ?_
  refine View.allAt_cons _ _ _ (piece4 X g cs sn 2560 _ (by decide) y) ?_
  refine View.allAt_cons _ _ _ (piece4 X g cs sn 2432 _ (by decide) y) ?_
  refine View.allAt_cons _ _ _ (piece4 X g cs sn 2304 _ (by decide) y) ?_
  refine View.allAt_cons _ _ _ (piece4 X g cs sn 2176 _ (by decide) y) ?_
  refine View.allAt_cons _ _ _ (piece4 X g cs sn 2048 _ (by decide) y) ?_
  refine View.allAt_cons _ _ _ (piece4 X g cs sn 1920 _ (by decide) y) ?_
  refine View.allAt_cons _ _ _ (piece4 X g cs sn 1792 _ (by decide) y) ?_
  refine View.allAt_cons _ _ _ (piece4 X g cs sn 1664 _ (by decide) y) ?_
  refine View.allAt_cons _ _ _ (piece4 X g cs sn 1536 _ (by decide) y) ?_
  refine View.allAt_cons _ _ _ (piece4 X g cs sn 1408 _ (by decide) y) ?_
  refine View.allAt_cons _ _ _ (piece4 X g cs sn 1280 _ (by decide) y) ?_
  refine View.allAt_cons _ _ _ (piece4 X g cs sn 1152 _ (by decide) y) ?_
  refine View.allAt_cons _ _ _ (piece4 X g cs sn 1024 _ (by decide) y) ?_
  refine View.allAt_cons _ _ _ (piece4 X g cs sn 896 _ (by decide) y) ?_
  refine View.allAt_cons _ _ _ (piece4 X g cs sn 768 _ (by decide) y) ?_
  refine View.allAt_cons _ _ _ (piece4 X g cs sn 640 _ (by decide) y) ?_
  refine View.allAt_cons _ _ _ (piece4 X g cs sn 512 _ (by decide) y) ?_
  refine View.allAt_cons _ _ _ (piece4 X g cs sn 384 _ (by decide) y) ?_
  refine View.allAt_cons _ _ _ (piece4 X g cs sn 256 _ (by decide) y) ?_
  refine View.allAt_cons _ _ _ (piece4 X g cs sn 128 _ (by decide) y) ?_
  refine View.allAt_cons _ _ _ (piece4 X g cs sn 0 _ (by decide) y) ?_
  exact View.allAt_nil _ _

variable (V : (c : Dev nD) → (b : Ref sig .tc) → Buf (Elt Ideal) ((c : Thread nD τ).loc b))

/-- The rows of heads, from the arrays the region reads. -/
def ropeArr4 (X : S64x4096.Idx → EReal) (g : S1x128.Idx → EReal) (cs sn : S8x128.Idx → EReal) : S64x4096.Idx → EReal := fun j =>
  Proj.ropeRow (n := 32) (fun k => X (ix2 (j 0) k)) (fun d => g (ix2 0 d))
    (fun d => cs (ix2 ⟨(j 0).val % 8, Nat.mod_lt _ (by decide)⟩ d)) (fun d => sn (ix2 ⟨(j 0).val % 8, Nat.mod_lt _ (by decide)⟩ d)) (j 1)

def row4 (t : Fin cfg4.N) (p : Fin 8) : Fin 64 := ⟨8 * t.val + p.val, by have h : t.val < 8 := t.isLt; omega⟩

theorem blk4_x (c : Dev nD) (t : Fin cfg4.N) (p : Fin 8) (k : Fin 4096) :
    iblk4 V c 0 t (ix2 p k) = V c main_v18 (ix2 (row4 t p) k) := by
  refine congrArg (V c main_v18) (?_ : _ = ix2 (row4 t p) k)
  blk_ext [idx4 t, row4]

theorem blk4_g (c : Dev nD) (t : Fin cfg4.N) (d : Fin 128) : iblk4 V c 1 t (ix2 0 d) = V c main_v20 (ix2 0 d) := by
  refine congrArg (V c main_v20) (?_ : _ = ix2 0 d)
  blk_ext [idx4 t]

theorem blk4_c (c : Dev nD) (t : Fin cfg4.N) (p : Fin 8) (d : Fin 128) :
    iblk4 V c 2 t (ix2 p d) = V c main_v0 (ix2 ⟨(row4 t p).val % 8, Nat.mod_lt _ (by decide)⟩ d) := by
  refine congrArg (V c main_v0) (?_ : _ = ix2 ⟨(8 * t.val + p.val) % 8, Nat.mod_lt _ (by decide)⟩ d)
  have hp := p.isLt
  blk_ext [idx4 t] <;> omega

theorem blk4_s (c : Dev nD) (t : Fin cfg4.N) (p : Fin 8) (d : Fin 128) :
    iblk4 V c 3 t (ix2 p d) = V c main_v2 (ix2 ⟨(row4 t p).val % 8, Nat.mod_lt _ (by decide)⟩ d) := by
  refine congrArg (V c main_v2) (?_ : _ = ix2 ⟨(8 * t.val + p.val) % 8, Nat.mod_lt _ (by decide)⟩ d)
  have hp := p.isLt
  blk_ext [idx4 t] <;> omega

theorem point4 (c : Dev nD) (t : Fin cfg4.N) (y : S8x4096.Idx) :
    out4_4 (F := Ideal) (iblk4 V c 0 t) (iblk4 V c 1 t) (iblk4 V c 2 t) (iblk4 V c 3 t) y =
      ropeArr4 (V c main_v18) (V c main_v20) (V c main_v0) (V c main_v2) (((cfg4.win 4).blk t).view.emb y) := by
  refine (out4_eq _ _ _ _ y).trans ?_
  obtain ⟨p, k, rfl⟩ : ∃ (p : Fin 8) (k : Fin 4096), y = ix2 p k := ⟨y 0, y 1, (ix2_eta y).symm⟩
  have he : ((cfg4.win 4).blk t).view.emb (ix2 p k) = ix2 (row4 t p) k := by
    blk_ext [idx4 t, row4]
  rw [he]
  show Proj.ropeRow (n := 32) (fun k => iblk4 V c 0 t (ix2 p k)) (fun d => iblk4 V c 1 t (ix2 0 d)) (fun d => iblk4 V c 2 t (ix2 p d))
    (fun d => iblk4 V c 3 t (ix2 p d)) k = _
  rw [show (fun k => iblk4 V c 0 t (ix2 p k)) = fun k => V c main_v18 (ix2 (row4 t p) k) from funext fun k => blk4_x V c t p k,
    show (fun d => iblk4 V c 1 t (ix2 0 d)) = fun d => V c main_v20 (ix2 0 d) from funext fun d => blk4_g V c t d,
    show (fun d => iblk4 V c 2 t (ix2 p d)) = fun d => V c main_v0 (ix2 ⟨(row4 t p).val % 8, Nat.mod_lt _ (by decide)⟩ d) from
      funext fun d => blk4_c V c t p d,
    show (fun d => iblk4 V c 3 t (ix2 p d)) = fun d => V c main_v2 (ix2 ⟨(row4 t p).val % 8, Nat.mod_lt _ (by decide)⟩ d) from
      funext fun d => blk4_s V c t p d]
  rfl

theorem final4 (c : Dev nD) : (dat4 V c).arrAt 4 cfg4.N = ropeArr4 (V c main_v18) (V c main_v20) (V c main_v0) (V c main_v2) := by
  refine (dat4 V c).arrAt_eq_of_covers 4 _ (by decide +kernel) fun t _ y => ?_
  blk_simp
  rw [after4_4]
  exact point4 V c t y

end Cert.KvQSamplePf

end
-- ==== Proof.Proj.KvQSampleArray.lean ====
/- The keys, the values and the queries the program leaves, from its arguments. -/
module

public import proofs.«01_k».proof.Proof.Proj.KvQSampleNorm
public import proofs.«01_k».proof.Proof.Proj.KvQSampleMm
public import proofs.«01_k».proof.Proof.Proj.KvQSampleRopeK
public import proofs.«01_k».proof.Proof.Proj.KvQSampleRopeQ

@[expose] public section

set_option maxRecDepth 16384

noncomputable section

namespace Cert.KvQSamplePf

open Idealize.ShloMosaic Idealize.ShloMosaic.TcCoe Cert.KvQSampleIdeal Cert.KvQSampleIdeal.Gen Idealize.SL.Sem

variable (m : (ℓ : Loc nD τ sig) → Buf (Elt Ideal) ℓ) (ρ : Dev nD → PrngReg)

/-- The sequence and the token of a row. -/
def seqOf (i : Fin 64) : Fin 8 := ⟨i.val / 8, by omega⟩
def tokOf (i : Fin 64) : Fin 8 := ⟨i.val % 8, by omega⟩

/-- The program's arguments, as the rows and tables the specification takes. -/
def hRow (c : Dev nD) (i : Fin 64) (d : Fin 4096) : EReal := m ((c : Thread nD τ).loc main_arg0) (ix3 (seqOf i) (tokOf i) d)
def gKv (c : Dev nD) (d : Fin 4096) : EReal := m ((c : Thread nD τ).loc main_arg1) (ix1 d)
def gMix (c : Dev nD) (d : Fin 4096) : EReal := m ((c : Thread nD τ).loc main_arg2) (ix2 1 d)
def wKv (c : Dev nD) (k : Fin 4096) (n : Fin 2048) : EReal := m ((c : Thread nD τ).loc main_arg3) (ix2 k n)
def gK (c : Dev nD) (d : Fin 128) : EReal := m ((c : Thread nD τ).loc main_arg4) (ix1 d)
def wQ (c : Dev nD) (k : Fin 4096) (n : Fin 4096) : EReal := m ((c : Thread nD τ).loc main_arg5) (ix3 0 k n)
def gQ (c : Dev nD) (d : Fin 128) : EReal := m ((c : Thread nD τ).loc main_arg6) (ix2 0 d)
def tabC (c : Dev nD) (t : Fin 8) (d : Fin 64) : EReal := m ((c : Thread nD τ).loc main_arg7) (ix2 t d)
def tabS (c : Dev nD) (t : Fin 8) (d : Fin 64) : EReal := m ((c : Thread nD τ).loc main_arg8) (ix2 t d)

theorem v0_at (c : Dev nD) (t : Fin 8) (d : Fin 128) : V1 m ρ c main_v0 (ix2 t d) = Proj.cosRow (tabC m c t) d := by
  unfold Proj.cosRow tabC
  simp only [V1, W1, hostOps0]
  entry_read
  try simp only [StableHlo.TRef.toBuf, StableHlo.TRef.ofBuf, cast_eq]
  pointwise
  split_ifs with hd
  · refine congrArg (m ((c : Thread nD τ).loc main_arg7)) (?_ : ix2 _ _ = ix2 _ _)
    exact congrArg (ix2 _) (Fin.ext (by show d.val = d.val % 64; omega))
  · refine congrArg (m ((c : Thread nD τ).loc main_arg7)) (?_ : ix2 _ _ = ix2 _ _)
    exact congrArg (ix2 _) (Fin.ext (by show d.val - 64 = d.val % 64; omega))
  · rename_i h
    exact absurd rfl h

theorem v2_at (c : Dev nD) (t : Fin 8) (d : Fin 128) : V1 m ρ c main_v2 (ix2 t d) = Proj.sinRow (tabS m c t) d := by
  unfold Proj.sinRow tabS
  simp only [V1, W1, hostOps0]
  entry_read
  try simp only [StableHlo.TRef.toBuf, StableHlo.TRef.ofBuf, cast_eq]
  pointwise
  split_ifs with hd
  · refine congrArg (fun z : EReal => -z) (congrArg (m ((c : Thread nD τ).loc main_arg8)) (?_ : ix2 _ _ = ix2 _ _))
    exact congrArg (ix2 _) (Fin.ext (by show d.val = d.val % 64; omega))
  · refine congrArg (m ((c : Thread nD τ).loc main_arg8)) (?_ : ix2 _ _ = ix2 _ _)
    exact congrArg (ix2 _) (Fin.ext (by show d.val - 64 = d.val % 64; omega))
  · rename_i h
    exact absurd rfl h

theorem v3_at (c : Dev nD) (i : Fin 64) (k : Fin 4096) : V1 m ρ c main_v3 (ix2 i k) = hRow m c i k := by
  unfold hRow
  simp only [V1, W1, hostOps0]
  entry_read
  try simp only [StableHlo.TRef.toBuf, StableHlo.TRef.ofBuf, cast_eq]
  pointwise
  try rfl

theorem v8_at0 (c : Dev nD) (k : Fin 4096) : V1 m ρ c main_v8 (ix2 0 k) = gKv m c k := by
  unfold gKv
  simp only [V1, W1, hostOps0]
  entry_read
  try simp only [StableHlo.TRef.toBuf, StableHlo.TRef.ofBuf, cast_eq]
  pointwise
  try rfl

theorem v8_at1 (c : Dev nD) (k : Fin 4096) : V1 m ρ c main_v8 (ix2 1 k) = gMix m c k := by
  unfold gMix
  simp only [V1, W1, hostOps0]
  entry_read
  try simp only [StableHlo.TRef.toBuf, StableHlo.TRef.ofBuf, cast_eq]
  pointwise
  try rfl

theorem v10_at (c : Dev nD) (k : Fin 4096) (n : Fin 2048) : V3 m ρ c main_v10 (ix2 k n) = wKv m c k n := by
  refine Eq.trans ?_ (congrFun (W2_args m ρ c main_arg3 (by decide)) (ix2 k n))
  simp only [V3, W3, hostOps1]
  entry_read
  try simp only [StableHlo.TRef.toBuf, StableHlo.TRef.ofBuf, cast_eq]
  try pointwise
  try rfl

theorem v12_at (c : Dev nD) (i : Fin 64) (k : Fin 1024) : V5 m ρ c main_v12 (ix2 i k) = V4 m ρ c main_v11 (ix2 i ⟨k.val, by omega⟩) := by
  simp only [V5, W5, hostOps2]
  entry_read
  try simp only [StableHlo.TRef.toBuf, StableHlo.TRef.ofBuf, cast_eq]
  pointwise
  try rfl

theorem v13_at (c : Dev nD) (d : Fin 128) : V5 m ρ c main_v13 (ix2 0 d) = gK m c d := by
  refine Eq.trans ?_ (congrFun (W4_args m ρ c main_arg4 (by decide)) (ix1 d))
  simp only [V5, W5, hostOps2]
  entry_read
  try simp only [StableHlo.TRef.toBuf, StableHlo.TRef.ofBuf, cast_eq]
  pointwise
  try rfl

theorem v15_at (c : Dev nD) (i : Fin 64) (k : Fin 1024) :
    V7 m ρ c main_v15 (ix2 i k) = V6 m ρ c main_v11 (ix2 i ⟨1024 + k.val, by omega⟩) := by
  simp only [V7, W7, hostOps3]
  entry_read
  try simp only [StableHlo.TRef.toBuf, StableHlo.TRef.ofBuf, cast_eq]
  pointwise
  try rfl

theorem v17_at (c : Dev nD) (k : Fin 4096) (n : Fin 4096) : V7 m ρ c main_v17 (ix2 k n) = wQ m c k n := by
  refine Eq.trans ?_ (congrFun (W6_args m ρ c main_arg5 (by decide)) (ix3 0 k n))
  simp only [V7, W7, hostOps3]
  entry_read
  try simp only [StableHlo.TRef.toBuf, StableHlo.TRef.ofBuf, cast_eq]
  pointwise
  try rfl

theorem v20_at (c : Dev nD) (d : Fin 128) : V9 m ρ c main_v20 (ix2 0 d) = gQ m c d := by
  refine Eq.trans ?_ (congrFun (W8_args m ρ c main_arg6 (by decide)) (ix2 0 d))
  simp only [V9, W9, hostOps4]
  entry_read
  try simp only [StableHlo.TRef.toBuf, StableHlo.TRef.ofBuf, cast_eq]
  pointwise
  try rfl

/-- The rows normalised for the keys and values, and for the queries. -/
theorem hn0_at (c : Dev nD) (i : Fin 64) (k : Fin 4096) : V3 m ρ c main_v9_0 (ix2 i k) = Proj.rms (hRow m c i) (gKv m c) k := by
  have h : V3 m ρ c main_v9_0 = hnArr 0 (V1 m ρ c main_v3) (V1 m ρ c main_v8) :=
    (W3_of m ρ c main_v9_0 (by decide)).trans ((W2_arr m ρ c 2).trans (final0_2 (V1 m ρ) c))
  refine (congrFun h (ix2 i k)).trans ?_
  exact congrArg₂ (fun x g => Proj.rms x g k) (funext fun d => v3_at m ρ c i d) (funext fun d => v8_at0 m ρ c d)

theorem hn1_at (c : Dev nD) (i : Fin 64) (k : Fin 4096) : V7 m ρ c main_v9_1 (ix2 i k) = Proj.rms (hRow m c i) (gMix m c) k := by
  have h : V7 m ρ c main_v9_1 = hnArr 1 (V1 m ρ c main_v3) (V1 m ρ c main_v8) :=
    (W7_of m ρ c main_v9_1 (by decide)).trans ((W6_of m ρ c main_v9_1 (by decide)).trans ((W5_of m ρ c main_v9_1 (by decide)).trans
      ((W4_of m ρ c main_v9_1 (by decide)).trans ((W3_of m ρ c main_v9_1 (by decide)).trans
        ((W2_arr m ρ c 3).trans (final0_3 (V1 m ρ) c))))))
  refine (congrFun h (ix2 i k)).trans ?_
  exact congrArg₂ (fun x g => Proj.rms x g k) (funext fun d => v3_at m ρ c i d) (funext fun d => v8_at1 m ρ c d)

/-- The product holding keys and values. -/
theorem kv_at (c : Dev nD) (i : Fin 64) (n : Fin 2048) :
    V4 m ρ c main_v11 (ix2 i n) = Proj.dotRow (fun k => Proj.rms (hRow m c i) (gKv m c) k) (fun k => wKv m c k n) := by
  refine (congrFun ((W4_arr m ρ c 2).trans (final1 (V3 m ρ) c)) (ix2 i n)).trans ?_
  exact congrArg₂ Proj.dotRow (funext fun k => hn0_at m ρ c i k) (funext fun k => v10_at m ρ c k n)

/-- The product holding the queries. -/
theorem q_at (c : Dev nD) (i : Fin 64) (n : Fin 4096) :
    V8 m ρ c main_v18 (ix2 i n) = Proj.dotRow (fun k => Proj.rms (hRow m c i) (gMix m c) k) (fun k => wQ m c k n) := by
  refine (congrFun ((W8_arr m ρ c 2).trans (final3 (V7 m ρ) c)) (ix2 i n)).trans ?_
  exact congrArg₂ Proj.dotRow (funext fun k => hn1_at m ρ c i k) (funext fun k => v17_at m ρ c k n)

/-- The tables, unchanged to the two regions that read them. -/
theorem c5 (c : Dev nD) : V5 m ρ c main_v0 = V1 m ρ c main_v0 :=
  (W5_of m ρ c main_v0 (by decide)).trans ((W4_of m ρ c main_v0 (by decide)).trans ((W3_of m ρ c main_v0 (by decide)).trans
    (W2_of m ρ c main_v0 (by decide))))
theorem s5 (c : Dev nD) : V5 m ρ c main_v2 = V1 m ρ c main_v2 :=
  (W5_of m ρ c main_v2 (by decide)).trans ((W4_of m ρ c main_v2 (by decide)).trans ((W3_of m ρ c main_v2 (by decide)).trans
    (W2_of m ρ c main_v2 (by decide))))
theorem c9 (c : Dev nD) : V9 m ρ c main_v0 = V1 m ρ c main_v0 :=
  (W9_of m ρ c main_v0 (by decide)).trans ((W8_of m ρ c main_v0 (by decide)).trans ((W7_of m ρ c main_v0 (by decide)).trans
    ((W6_of m ρ c main_v0 (by decide)).trans (c5 m ρ c))))
theorem s9 (c : Dev nD) : V9 m ρ c main_v2 = V1 m ρ c main_v2 :=
  (W9_of m ρ c main_v2 (by decide)).trans ((W8_of m ρ c main_v2 (by decide)).trans ((W7_of m ρ c main_v2 (by decide)).trans
    ((W6_of m ρ c main_v2 (by decide)).trans (s5 m ρ c))))

/-- The keys the program leaves. -/
theorem last_k (c : Dev nD) (i : Fin 64) (n : Fin 1024) : W10 m ρ c (Proc.devRef .tc main_v14) (ix2 i n) =
    Proj.keyAt (hRow m c i) (gKv m c) (wKv m c) (gK m c) (tabC m c (tokOf i)) (tabS m c (tokOf i)) n := by
  have h : W10 m ρ c (Proc.devRef .tc main_v14) = ropeArr2 (V5 m ρ c main_v12) (V5 m ρ c main_v13) (V5 m ρ c main_v0) (V5 m ρ c main_v2) :=
    (W10_of m ρ c main_v14 (by decide)).trans ((W9_of m ρ c main_v14 (by decide)).trans ((W8_of m ρ c main_v14 (by decide)).trans
      ((W7_of m ρ c main_v14 (by decide)).trans ((W6_arr m ρ c 4).trans (final2 (V5 m ρ) c)))))
  refine (congrFun h (ix2 i n)).trans ?_
  refine Proj.ropeRow_congr (n := 8) n (funext fun j => (v12_at m ρ c i j).trans (kv_at m ρ c i _)) (funext fun d => v13_at m ρ c d)
    (funext fun d => ?_) (funext fun d => ?_)
  · exact (congrFun (c5 m ρ c) _).trans (v0_at m ρ c (tokOf i) d)
  · exact (congrFun (s5 m ρ c) _).trans (v2_at m ρ c (tokOf i) d)

/-- The values the program leaves. -/
theorem last_v (c : Dev nD) (i : Fin 64) (n : Fin 1024) : W10 m ρ c (Proc.devRef .tc main_v15) (ix2 i n) =
    Proj.valAt (hRow m c i) (gKv m c) (wKv m c) n := by
  have h : W10 m ρ c (Proc.devRef .tc main_v15) = V7 m ρ c main_v15 :=
    (W10_of m ρ c main_v15 (by decide)).trans ((W9_of m ρ c main_v15 (by decide)).trans (W8_of m ρ c main_v15 (by decide)))
  have h11 : V6 m ρ c main_v11 = V4 m ρ c main_v11 := (W6_of m ρ c main_v11 (by decide)).trans (W5_of m ρ c main_v11 (by decide))
  exact (congrFun h (ix2 i n)).trans ((v15_at m ρ c i n).trans ((congrFun h11 _).trans (kv_at m ρ c i _)))

/-- The queries the program leaves. -/
theorem last_q (c : Dev nD) (i : Fin 64) (n : Fin 4096) : W10 m ρ c (Proc.devRef .tc main_v21) (ix2 i n) =
    Proj.queryAt (hRow m c i) (gMix m c) (wQ m c) (gQ m c) (tabC m c (tokOf i)) (tabS m c (tokOf i)) n := by
  have h : W10 m ρ c (Proc.devRef .tc main_v21) = ropeArr4 (V9 m ρ c main_v18) (V9 m ρ c main_v20) (V9 m ρ c main_v0) (V9 m ρ c main_v2) :=
    (W10_arr m ρ c 4).trans (final4 (V9 m ρ) c)
  have h18 : V9 m ρ c main_v18 = V8 m ρ c main_v18 := W9_of m ρ c main_v18 (by decide)
  refine (congrFun h (ix2 i n)).trans ?_
  refine Proj.ropeRow_congr (n := 32) n (funext fun j => (congrFun h18 _).trans (q_at m ρ c i j)) (funext fun d => v20_at m ρ c d)
    (funext fun d => ?_) (funext fun d => ?_)
  · exact (congrFun (c9 m ρ c) _).trans (v0_at m ρ c (tokOf i) d)
  · exact (congrFun (s9 m ρ c) _).trans (v2_at m ρ c (tokOf i) d)

end Cert.KvQSamplePf

end
-- ==== Proof.Proj.KvQSampleRef.lean ====
/- The reference's keys, values and queries, entry by entry. -/
module

public import proofs.«01_k».proof.Proof.Gen.KvQSampleRefIdeal
public import proofs.«01_k».proof.Proof.Gen.KvQSampleRefIdeal.Run
public import proofs.«01_k».proof.Proof.Proj.Rows

@[expose] public section

set_option maxRecDepth 16384

noncomputable section

namespace Cert.KvQSamplePf

open Idealize.ShloMosaic Idealize.ShloMosaic.TcCoe Cert.KvQSampleRefIdeal Cert.KvQSampleRefIdeal.Gen Idealize.SL.Sem

/-- The reference's normalised rows. -/
def refRms (x : FVec Ideal S8x8x4096 .f32) (g : FVec Ideal S4096 .f32) : FVec Ideal S8x8x4096 .f32 :=
  mulf (mulf x (broadcastInDim S8x8x4096 ![0, 1, 2] bcast_S8x8x1_S8x8x4096_0_1_2 (Host.rsqrt (addf (Host.divf (broadcastInDim S8x8x1 ![0, 1] bcast_S8x8_S8x8x1_0_1 (Host.reduceAdd (mulf x x) (constant S_ .f32 0x00000000#32) reducesTo_S8x8x4096_S8x8_d2 h_S_)) (broadcastInDim S8x8x1 ![] bcast_S_S8x8x1 (constant S_ .f32 0x45800000#32))) (broadcastInDim S8x8x1 ![] bcast_S_S8x8x1 (constant S_ .f32 0x358637BD#32)))))) (broadcastInDim S8x8x4096 ![0, 1, 2] bcast_S1x1x4096_S8x8x4096_0_1_2 (broadcastInDim S1x1x4096 ![2] bcast_S4096_S1x1x4096_2 g))

theorem refRms_at (x : FVec Ideal S8x8x4096 .f32) (g : FVec Ideal S4096 .f32) (b : Fin 8) (l : Fin 8) (k : Fin 4096) :
    (refRms x g (ix3 b l k) : EReal) = Proj.rms (fun d => x (ix3 b l d)) (fun d => g (ix1 d)) k := by
  unfold Proj.rms
  pointwise [refRms]

/-- The gain of the queries' normalising. -/
def refGain (g : FVec Ideal S2x4096 .f32) : FVec Ideal S4096 .f32 :=
  shapeCast _ (extractStridedSlice S1x4096 ![1, 0] g slices_S2x4096_S1x4096_1_0) shapeCasts_S1x4096_S4096

theorem refGain_at (g : FVec Ideal S2x4096 .f32) (k : Fin 4096) : (refGain g (ix1 k) : EReal) = g (ix2 1 k) := by
  pointwise [refGain]

/-- The two products. -/
def refKv (y : FVec Ideal S8x8x4096 .f32) (w : FVec Ideal S4096x2048 .f32) : FVec Ideal S8x8x2048 .f32 :=
  Host.dotGeneral dot_S8x8x4096_S4096x2048_S8x8x2048_2_0_01_1_n_n none y w

theorem refKv_at (y : FVec Ideal S8x8x4096 .f32) (w : FVec Ideal S4096x2048 .f32) (b : Fin 8) (l : Fin 8) (n : Fin 2048) :
    (refKv y w (ix3 b l n) : EReal) = Proj.dotRow (fun k => y (ix3 b l k)) (fun k => w (ix2 k n)) := by
  unfold Proj.dotRow
  pointwise [refKv]

def refQ (y : FVec Ideal S8x8x4096 .f32) (w : FVec Ideal S1x4096x4096 .f32) : FVec Ideal S8x8x4096 .f32 :=
  Host.dotGeneral dot_S8x8x4096_S4096x4096_S8x8x4096_2_0_01_1_n_n none y (shapeCast _ w shapeCasts_S1x4096x4096_S4096x4096)

theorem refQ_at (y : FVec Ideal S8x8x4096 .f32) (w : FVec Ideal S1x4096x4096 .f32) (b : Fin 8) (l : Fin 8) (n : Fin 4096) :
    (refQ y w (ix3 b l n) : EReal) = Proj.dotRow (fun k => y (ix3 b l k)) (fun k => w (ix3 0 k n)) := by
  unfold Proj.dotRow
  pointwise [refQ]

/-- The keys' product cut into heads, and the queries'. -/
def refHeadsK (z : FVec Ideal S8x8x2048 .f32) : FVec Ideal S8x8x8x128 .f32 :=
  shapeCast _ (extractStridedSlice S8x8x1024 ![0, 0, 0] z slices_S8x8x2048_S8x8x1024_0_0_0) shapeCasts_S8x8x1024_S8x8x8x128

theorem refHeadsK_at (z : FVec Ideal S8x8x2048 .f32) (b : Fin 8) (l : Fin 8) (u : Fin 8) (e : Fin 128) :
    (refHeadsK z (ix4 b l u e) : EReal) = z (ix3 b l ⟨u.val * 128 + e.val, by omega⟩) := by
  pointwise [refHeadsK]

def refHeadsQ (z : FVec Ideal S8x8x4096 .f32) : FVec Ideal S8x8x32x128 .f32 :=
  shapeCast _ z shapeCasts_S8x8x4096_S8x8x32x128

theorem refHeadsQ_at (z : FVec Ideal S8x8x4096 .f32) (b : Fin 8) (l : Fin 8) (u : Fin 32) (e : Fin 128) :
    (refHeadsQ z (ix4 b l u e) : EReal) = z (ix3 b l ⟨u.val * 128 + e.val, by omega⟩) := by
  pointwise [refHeadsQ]

/-- The reference's normalised heads of the keys. -/
def refHeadK (x : FVec Ideal S8x8x8x128 .f32) (g : FVec Ideal S128 .f32) : FVec Ideal S8x8x8x128 .f32 :=
  mulf (mulf x (broadcastInDim S8x8x8x128 ![0, 1, 2, 3] bcast_S8x8x8x1_S8x8x8x128_0_1_2_3 (Host.rsqrt (addf (Host.divf (broadcastInDim S8x8x8x1 ![0, 1, 2] bcast_S8x8x8_S8x8x8x1_0_1_2 (Host.reduceAdd (mulf x x) (constant S_ .f32 0x00000000#32) reducesTo_S8x8x8x128_S8x8x8_d3 h_S_)) (broadcastInDim S8x8x8x1 ![] bcast_S_S8x8x8x1 (constant S_ .f32 0x43000000#32))) (broadcastInDim S8x8x8x1 ![] bcast_S_S8x8x8x1 (constant S_ .f32 0x358637BD#32)))))) (broadcastInDim S8x8x8x128 ![0, 1, 2, 3] bcast_S1x1x1x128_S8x8x8x128_0_1_2_3 (broadcastInDim S1x1x1x128 ![3] bcast_S128_S1x1x1x128_3 g))

theorem refHeadK_at (x : FVec Ideal S8x8x8x128 .f32) (g : FVec Ideal S128 .f32) (b : Fin 8) (l : Fin 8) (u : Fin 8) (e : Fin 128) :
    (refHeadK x g (ix4 b l u e) : EReal) = Proj.rmsHead (fun d => x (ix4 b l u d)) (fun d => g (ix1 d)) e := by
  unfold Proj.rmsHead
  pointwise [refHeadK]

/-- The reference's normalised heads of the queries. -/
def refHeadQ (x : FVec Ideal S8x8x32x128 .f32) (g : FVec Ideal S128 .f32) : FVec Ideal S8x8x32x128 .f32 :=
  mulf (mulf x (broadcastInDim S8x8x32x128 ![0, 1, 2, 3] bcast_S8x8x32x1_S8x8x32x128_0_1_2_3 (Host.rsqrt (addf (Host.divf (broadcastInDim S8x8x32x1 ![0, 1, 2] bcast_S8x8x32_S8x8x32x1_0_1_2 (Host.reduceAdd (mulf x x) (constant S_ .f32 0x00000000#32) reducesTo_S8x8x32x128_S8x8x32_d3 h_S_)) (broadcastInDim S8x8x32x1 ![] bcast_S_S8x8x32x1 (constant S_ .f32 0x43000000#32))) (broadcastInDim S8x8x32x1 ![] bcast_S_S8x8x32x1 (constant S_ .f32 0x358637BD#32)))))) (broadcastInDim S8x8x32x128 ![0, 1, 2, 3] bcast_S1x1x1x128_S8x8x32x128_0_1_2_3 (broadcastInDim S1x1x1x128 ![3] bcast_S128_S1x1x1x128_3 g))

theorem refHeadQ_at (x : FVec Ideal S8x8x32x128 .f32) (g : FVec Ideal S128 .f32) (b : Fin 8) (l : Fin 8) (u : Fin 32) (e : Fin 128) :
    (refHeadQ x g (ix4 b l u e) : EReal) = Proj.rmsHead (fun d => x (ix4 b l u d)) (fun d => g (ix1 d)) e := by
  unfold Proj.rmsHead
  pointwise [refHeadQ]

/-- Half a head turned against the other half is `Proj.turn`. -/
theorem turn_lt (y : Fin 128 → EReal) (cs sn : Fin 64 → EReal) (e : Fin 128) (he : e.val < 64) :
    y ⟨e.val, by omega⟩ * cs ⟨e.val, he⟩ - y ⟨64 + e.val, by omega⟩ * sn ⟨e.val, he⟩ = Proj.turn y (Proj.cosRow cs) (Proj.sinRow sn) e := by
  unfold Proj.turn Proj.cosRow Proj.sinRow
  rw [if_pos he, mul_neg, ← sub_eq_add_neg]
  have h1 : e.val % 64 = e.val := by omega
  have h2 : (e.val + 64) % 128 = 64 + e.val := by omega
  simp only [h1, h2]

theorem turn_ge (y : Fin 128 → EReal) (cs sn : Fin 64 → EReal) (e : Fin 128) (he : ¬e.val < 64) :
    y ⟨64 + (e.val - 64), by omega⟩ * cs ⟨e.val - 64, by omega⟩ + y ⟨e.val - 64, by omega⟩ * sn ⟨e.val - 64, by omega⟩ =
      Proj.turn y (Proj.cosRow cs) (Proj.sinRow sn) e := by
  unfold Proj.turn Proj.cosRow Proj.sinRow
  rw [if_neg he]
  have h1 : e.val % 64 = e.val - 64 := by omega
  have h2 : (e.val + 64) % 128 = e.val - 64 := by omega
  have h3 : 64 + (e.val - 64) = e.val := by omega
  simp only [h1, h2, h3]

/-- The reference's turned heads of the keys: its two halves, put side by side. -/
def refLoK (x : FVec Ideal S8x8x8x128 .f32) (cs sn : FVec Ideal S8x64 .f32) : FVec Ideal S8x8x8x64 .f32 :=
  subf (mulf (extractStridedSlice S8x8x8x64 ![0, 0, 0, 0] x slices_S8x8x8x128_S8x8x8x64_0_0_0_0) (broadcastInDim S8x8x8x64 ![0, 1, 2, 3] bcast_S1x8x1x64_S8x8x8x64_0_1_2_3 (broadcastInDim S1x8x1x64 ![1, 3] bcast_S8x64_S1x8x1x64_1_3 cs))) (mulf (extractStridedSlice S8x8x8x64 ![0, 0, 0, 64] x slices_S8x8x8x128_S8x8x8x64_0_0_0_64) (broadcastInDim S8x8x8x64 ![0, 1, 2, 3] bcast_S1x8x1x64_S8x8x8x64_0_1_2_3 (broadcastInDim S1x8x1x64 ![1, 3] bcast_S8x64_S1x8x1x64_1_3 sn)))

def refHiK (x : FVec Ideal S8x8x8x128 .f32) (cs sn : FVec Ideal S8x64 .f32) : FVec Ideal S8x8x8x64 .f32 :=
  addf (mulf (extractStridedSlice S8x8x8x64 ![0, 0, 0, 64] x slices_S8x8x8x128_S8x8x8x64_0_0_0_64) (broadcastInDim S8x8x8x64 ![0, 1, 2, 3] bcast_S1x8x1x64_S8x8x8x64_0_1_2_3 (broadcastInDim S1x8x1x64 ![1, 3] bcast_S8x64_S1x8x1x64_1_3 cs))) (mulf (extractStridedSlice S8x8x8x64 ![0, 0, 0, 0] x slices_S8x8x8x128_S8x8x8x64_0_0_0_0) (broadcastInDim S8x8x8x64 ![0, 1, 2, 3] bcast_S1x8x1x64_S8x8x8x64_0_1_2_3 (broadcastInDim S1x8x1x64 ![1, 3] bcast_S8x64_S1x8x1x64_1_3 sn)))

theorem refLoK_at (x : FVec Ideal S8x8x8x128 .f32) (cs sn : FVec Ideal S8x64 .f32) (b : Fin 8) (l : Fin 8) (u : Fin 8) (e : Fin 64) :
    (refLoK x cs sn (ix4 b l u e) : EReal) = (x (ix4 b l u ⟨e.val, by omega⟩) : EReal) * cs (ix2 l e) -
      (x (ix4 b l u ⟨64 + e.val, by omega⟩) : EReal) * sn (ix2 l e) := by
  pointwise [refLoK]

theorem refHiK_at (x : FVec Ideal S8x8x8x128 .f32) (cs sn : FVec Ideal S8x64 .f32) (b : Fin 8) (l : Fin 8) (u : Fin 8) (e : Fin 64) :
    (refHiK x cs sn (ix4 b l u e) : EReal) = (x (ix4 b l u ⟨64 + e.val, by omega⟩) : EReal) * cs (ix2 l e) +
      (x (ix4 b l u ⟨e.val, by omega⟩) : EReal) * sn (ix2 l e) := by
  pointwise [refHiK]

def refRopeK (x : FVec Ideal S8x8x8x128 .f32) (cs sn : FVec Ideal S8x64 .f32) : FVec Ideal S8x8x8x128 .f32 :=
  concatenate S8x8x8x128 3 [⟨S8x8x8x64, refLoK x cs sn⟩, ⟨S8x8x8x64, refHiK x cs sn⟩] concatenates_S8x8x8x64_S8x8x8x64_S8x8x8x128_d3

theorem catK_at (p q : FVec Ideal S8x8x8x64 .f32) (b : Fin 8) (l : Fin 8) (u : Fin 8) (e : Fin 128) :
    ((concatenate S8x8x8x128 3 [⟨S8x8x8x64, p⟩, ⟨S8x8x8x64, q⟩] concatenates_S8x8x8x64_S8x8x8x64_S8x8x8x128_d3 :
      FVec Ideal S8x8x8x128 .f32) (ix4 b l u e) : EReal) =
      if h : e.val < 64 then p (ix4 b l u ⟨e.val, h⟩) else q (ix4 b l u ⟨e.val - 64, by omega⟩) := by
  pointwise
  try split_ifs
  all_goals first
    | rfl
    | (rename_i h; exact absurd rfl h)

theorem refRopeK_at (x : FVec Ideal S8x8x8x128 .f32) (cs sn : FVec Ideal S8x64 .f32) (b : Fin 8) (l : Fin 8) (u : Fin 8) (e : Fin 128) :
    (refRopeK x cs sn (ix4 b l u e) : EReal) = Proj.turn (fun d => x (ix4 b l u d)) (Proj.cosRow fun d => cs (ix2 l d))
      (Proj.sinRow fun d => sn (ix2 l d)) e := by
  refine (catK_at _ _ b l u e).trans ?_
  split_ifs with h
  · exact (refLoK_at x cs sn b l u _).trans (turn_lt (fun d => x (ix4 b l u d)) (fun d => cs (ix2 l d)) (fun d => sn (ix2 l d)) e h)
  · exact (refHiK_at x cs sn b l u _).trans (turn_ge (fun d => x (ix4 b l u d)) (fun d => cs (ix2 l d)) (fun d => sn (ix2 l d)) e h)

/-- The reference's turned heads of the queries: its two halves, put side by side. -/
def refLoQ (x : FVec Ideal S8x8x32x128 .f32) (cs sn : FVec Ideal S8x64 .f32) : FVec Ideal S8x8x32x64 .f32 :=
  subf (mulf (extractStridedSlice S8x8x32x64 ![0, 0, 0, 0] x slices_S8x8x32x128_S8x8x32x64_0_0_0_0) (broadcastInDim S8x8x32x64 ![0, 1, 2, 3] bcast_S1x8x1x64_S8x8x32x64_0_1_2_3 (broadcastInDim S1x8x1x64 ![1, 3] bcast_S8x64_S1x8x1x64_1_3 cs))) (mulf (extractStridedSlice S8x8x32x64 ![0, 0, 0, 64] x slices_S8x8x32x128_S8x8x32x64_0_0_0_64) (broadcastInDim S8x8x32x64 ![0, 1, 2, 3] bcast_S1x8x1x64_S8x8x32x64_0_1_2_3 (broadcastInDim S1x8x1x64 ![1, 3] bcast_S8x64_S1x8x1x64_1_3 sn)))

def refHiQ (x : FVec Ideal S8x8x32x128 .f32) (cs sn : FVec Ideal S8x64 .f32) : FVec Ideal S8x8x32x64 .f32 :=
  addf (mulf (extractStridedSlice S8x8x32x64 ![0, 0, 0, 64] x slices_S8x8x32x128_S8x8x32x64_0_0_0_64) (broadcastInDim S8x8x32x64 ![0, 1, 2, 3] bcast_S1x8x1x64_S8x8x32x64_0_1_2_3 (broadcastInDim S1x8x1x64 ![1, 3] bcast_S8x64_S1x8x1x64_1_3 cs))) (mulf (extractStridedSlice S8x8x32x64 ![0, 0, 0, 0] x slices_S8x8x32x128_S8x8x32x64_0_0_0_0) (broadcastInDim S8x8x32x64 ![0, 1, 2, 3] bcast_S1x8x1x64_S8x8x32x64_0_1_2_3 (broadcastInDim S1x8x1x64 ![1, 3] bcast_S8x64_S1x8x1x64_1_3 sn)))

theorem refLoQ_at (x : FVec Ideal S8x8x32x128 .f32) (cs sn : FVec Ideal S8x64 .f32) (b : Fin 8) (l : Fin 8) (u : Fin 32) (e : Fin 64) :
    (refLoQ x cs sn (ix4 b l u e) : EReal) = (x (ix4 b l u ⟨e.val, by omega⟩) : EReal) * cs (ix2 l e) -
      (x (ix4 b l u ⟨64 + e.val, by omega⟩) : EReal) * sn (ix2 l e) := by
  pointwise [refLoQ]

theorem refHiQ_at (x : FVec Ideal S8x8x32x128 .f32) (cs sn : FVec Ideal S8x64 .f32) (b : Fin 8) (l : Fin 8) (u : Fin 32) (e : Fin 64) :
    (refHiQ x cs sn (ix4 b l u e) : EReal) = (x (ix4 b l u ⟨64 + e.val, by omega⟩) : EReal) * cs (ix2 l e) +
      (x (ix4 b l u ⟨e.val, by omega⟩) : EReal) * sn (ix2 l e) := by
  pointwise [refHiQ]

def refRopeQ (x : FVec Ideal S8x8x32x128 .f32) (cs sn : FVec Ideal S8x64 .f32) : FVec Ideal S8x8x32x128 .f32 :=
  concatenate S8x8x32x128 3 [⟨S8x8x32x64, refLoQ x cs sn⟩, ⟨S8x8x32x64, refHiQ x cs sn⟩] concatenates_S8x8x32x64_S8x8x32x64_S8x8x32x128_d3

theorem catQ_at (p q : FVec Ideal S8x8x32x64 .f32) (b : Fin 8) (l : Fin 8) (u : Fin 32) (e : Fin 128) :
    ((concatenate S8x8x32x128 3 [⟨S8x8x32x64, p⟩, ⟨S8x8x32x64, q⟩] concatenates_S8x8x32x64_S8x8x32x64_S8x8x32x128_d3 :
      FVec Ideal S8x8x32x128 .f32) (ix4 b l u e) : EReal) =
      if h : e.val < 64 then p (ix4 b l u ⟨e.val, h⟩) else q (ix4 b l u ⟨e.val - 64, by omega⟩) := by
  pointwise
  try split_ifs
  all_goals first
    | rfl
    | (rename_i h; exact absurd rfl h)

theorem refRopeQ_at (x : FVec Ideal S8x8x32x128 .f32) (cs sn : FVec Ideal S8x64 .f32) (b : Fin 8) (l : Fin 8) (u : Fin 32) (e : Fin 128) :
    (refRopeQ x cs sn (ix4 b l u e) : EReal) = Proj.turn (fun d => x (ix4 b l u d)) (Proj.cosRow fun d => cs (ix2 l d))
      (Proj.sinRow fun d => sn (ix2 l d)) e := by
  refine (catQ_at _ _ b l u e).trans ?_
  split_ifs with h
  · exact (refLoQ_at x cs sn b l u _).trans (turn_lt (fun d => x (ix4 b l u d)) (fun d => cs (ix2 l d)) (fun d => sn (ix2 l d)) e h)
  · exact (refHiQ_at x cs sn b l u _).trans (turn_ge (fun d => x (ix4 b l u d)) (fun d => cs (ix2 l d)) (fun d => sn (ix2 l d)) e h)

/-- The heads of a token joined in a row. -/
theorem joinK_at (z : FVec Ideal S8x8x8x128 .f32) (i : Fin 64) (n : Fin 1024) :
    ((shapeCast _ z shapeCasts_S8x8x8x128_S64x1024 : FVec Ideal S64x1024 .f32) (ix2 i n) : EReal) =
      z (ix4 ⟨i.val / 8, by omega⟩ ⟨i.val % 8, by omega⟩ ⟨n.val / 128, by omega⟩ ⟨n.val % 128, by omega⟩) := by
  pointwise
  try (refine congrArg z ?_; congr 1 <;> exact Fin.ext (by simp only; omega))

theorem joinQ_at (z : FVec Ideal S8x8x32x128 .f32) (i : Fin 64) (n : Fin 4096) :
    ((truncf .bf16 (shapeCast _ z shapeCasts_S8x8x32x128_S64x4096 : FVec Ideal S64x4096 .f32) bitsLt_bf16_f32 : FVec Ideal S64x4096 .bf16) (ix2 i n) : EReal) =
      z (ix4 ⟨i.val / 8, by omega⟩ ⟨i.val % 8, by omega⟩ ⟨n.val / 128, by omega⟩ ⟨n.val % 128, by omega⟩) := by
  pointwise
  try (refine congrArg z ?_; congr 1 <;> exact Fin.ext (by simp only; omega))

theorem joinV_at (z : FVec Ideal S8x8x2048 .f32) (i : Fin 64) (n : Fin 1024) :
    ((shapeCast _ (extractStridedSlice S8x8x1024 ![0, 0, 1024] z slices_S8x8x2048_S8x8x1024_0_0_1024) shapeCasts_S8x8x1024_S64x1024 : FVec Ideal S64x1024 .f32) (ix2 i n) : EReal) =
      z (ix3 ⟨i.val / 8, by omega⟩ ⟨i.val % 8, by omega⟩ ⟨1024 + n.val, by omega⟩) := by
  pointwise
  try (refine congrArg z ?_; congr 1 <;> exact Fin.ext (by simp only; omega))

theorem gain128_at (g : FVec Ideal S1x128 .f32) (d : Fin 128) :
    ((shapeCast _ g shapeCasts_S1x128_S128 : FVec Ideal S128 .f32) (ix1 d) : EReal) = g (ix2 0 d) := by
  pointwise

/-- The reference's keys at a row and a column. -/
theorem ref_k (m : (ℓ : Loc nD τ sig) → Buf (Elt Ideal) ℓ) (c : Dev nD) (i : Fin 64) (n : Fin 1024) :
    (Value.res_main_v92 m c (ix2 i n) : EReal) =
      Proj.keyAt (fun d => m ((c : Thread nD τ).loc main_arg0) (ix3 ⟨i.val / 8, by omega⟩ ⟨i.val % 8, by omega⟩ d))
        (fun d => m ((c : Thread nD τ).loc main_arg1) (ix1 d)) (fun k n => m ((c : Thread nD τ).loc main_arg3) (ix2 k n))
        (fun d => m ((c : Thread nD τ).loc main_arg4) (ix1 d))
        (fun d => m ((c : Thread nD τ).loc main_arg7) (ix2 ⟨i.val % 8, by omega⟩ d))
        (fun d => m ((c : Thread nD τ).loc main_arg8) (ix2 ⟨i.val % 8, by omega⟩ d)) n := by
  have h : Value.res_main_v92 m c = shapeCast _ (refRopeK (refHeadK (refHeadsK (refKv (refRms (m ((c : Thread nD τ).loc main_arg0))
      (m ((c : Thread nD τ).loc main_arg1))) (m ((c : Thread nD τ).loc main_arg3)))) (m ((c : Thread nD τ).loc main_arg4)))
      (m ((c : Thread nD τ).loc main_arg7)) (m ((c : Thread nD τ).loc main_arg8))) shapeCasts_S8x8x8x128_S64x1024 := by
    unfold Value.res_main_v92
    rfl
  refine (congrFun h (ix2 i n)).trans ((joinK_at _ i n).trans ((refRopeK_at _ _ _ _ _ _ _).trans ?_))
  refine congrArg (fun y => Proj.turn y _ _ _) (funext fun d => (refHeadK_at _ _ _ _ _ d).trans ?_)
  refine congrArg (fun y => Proj.rmsHead y _ d) (funext fun d => (refHeadsK_at _ _ _ _ d).trans ?_)
  refine (refKv_at _ _ _ _ _).trans ?_
  exact congrArg₂ Proj.dotRow (funext fun k => refRms_at _ _ _ _ k) rfl

/-- The reference's queries at a row and a column. -/
theorem ref_q (m : (ℓ : Loc nD τ sig) → Buf (Elt Ideal) ℓ) (c : Dev nD) (i : Fin 64) (n : Fin 4096) :
    (Value.res_main_v95 m c (ix2 i n) : EReal) =
      Proj.queryAt (fun d => m ((c : Thread nD τ).loc main_arg0) (ix3 ⟨i.val / 8, by omega⟩ ⟨i.val % 8, by omega⟩ d))
        (fun d => m ((c : Thread nD τ).loc main_arg2) (ix2 1 d)) (fun k n => m ((c : Thread nD τ).loc main_arg5) (ix3 0 k n))
        (fun d => m ((c : Thread nD τ).loc main_arg6) (ix2 0 d))
        (fun d => m ((c : Thread nD τ).loc main_arg7) (ix2 ⟨i.val % 8, by omega⟩ d))
        (fun d => m ((c : Thread nD τ).loc main_arg8) (ix2 ⟨i.val % 8, by omega⟩ d)) n := by
  have h : Value.res_main_v95 m c = truncf .bf16 (shapeCast _ (refRopeQ (refHeadQ (refHeadsQ (refQ (refRms (m ((c : Thread nD τ).loc main_arg0))
      (refGain (m ((c : Thread nD τ).loc main_arg2)))) (m ((c : Thread nD τ).loc main_arg5)))) (shapeCast _ (m ((c : Thread nD τ).loc main_arg6)) shapeCasts_S1x128_S128))
      (m ((c : Thread nD τ).loc main_arg7)) (m ((c : Thread nD τ).loc main_arg8))) shapeCasts_S8x8x32x128_S64x4096) bitsLt_bf16_f32 := by
    unfold Value.res_main_v95
    rfl
  refine (congrFun h (ix2 i n)).trans ((joinQ_at _ i n).trans ((refRopeQ_at _ _ _ _ _ _ _).trans ?_))
  refine congrArg (fun y => Proj.turn y _ _ _) (funext fun d => (refHeadQ_at _ _ _ _ _ d).trans ?_)
  refine congrArg₂ (fun y g => Proj.rmsHead y g d) (funext fun d => (refHeadsQ_at _ _ _ _ d).trans ?_) (funext fun d => gain128_at _ d)
  refine (refQ_at _ _ _ _ _).trans ?_
  refine congrArg₂ Proj.dotRow (funext fun k => (refRms_at _ _ _ _ k).trans ?_) rfl
  exact congrArg (fun g => Proj.rms _ g k) (funext fun d => refGain_at _ d)

/-- The reference's values at a row and a column. -/
theorem ref_v (x : FVec Ideal S8x8x4096 .f32) (g : FVec Ideal S4096 .f32) (w : FVec Ideal S4096x2048 .f32) (i : Fin 64) (n : Fin 1024) :
    ((shapeCast _ (extractStridedSlice S8x8x1024 ![0, 0, 1024] (refKv (refRms x g) w) slices_S8x8x2048_S8x8x1024_0_0_1024)
      shapeCasts_S8x8x1024_S64x1024 : FVec Ideal S64x1024 .f32) (ix2 i n) : EReal) =
      Proj.valAt (fun d => x (ix3 ⟨i.val / 8, by omega⟩ ⟨i.val % 8, by omega⟩ d)) (fun d => g (ix1 d)) (fun k n => w (ix2 k n)) n := by
  refine (joinV_at _ i n).trans ((refKv_at _ _ _ _ _).trans ?_)
  exact congrArg₂ Proj.dotRow (funext fun k => refRms_at _ _ _ _ k) rfl

end Cert.KvQSamplePf

end
-- ==== Proof.Proj.KvQSampleRun.lean ====
/- The run of the whole program, with the results at the contents its last region leaves. -/
module

public import proofs.«01_k».proof.Proof.Gen.KvQSampleIdeal.Frame

@[expose] public section

set_option maxRecDepth 16384

noncomputable section

namespace Cert.KvQSamplePf

open Cert.KvQSampleIdeal Cert.KvQSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution ends with the results at the contents the last region leaves and the arguments as
    launched. -/
theorem run_last : θ_run defs (onTc (τ := τ) (main (F := F))) ⟨m, fun _ => 0, ρ⟩ fun r => ∀ c : Dev nD,
      r.2.mem ((c : Thread nD τ).loc main_v14) = W10 m ρ c (Proc.devRef .tc main_v14)
      ∧ r.2.mem ((c : Thread nD τ).loc main_v15) = W10 m ρ c (Proc.devRef .tc main_v15)
      ∧ r.2.mem ((c : Thread nD τ).loc main_v21) = W10 m ρ c (Proc.devRef .tc main_v21)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c =>
      ⟨h c _ (mem_uc main_v14 (by decide)),
       h c _ (mem_uc main_v15 (by decide)),
       h c _ (mem_uc main_v21 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KvQSamplePf

end
-- ==== Proof.Proj.KvQSampleClaim.lean ====
/- The claims about the samples' keys, values and queries. -/
module

public import proofs.«01_k».proof.Defs
public import proofs.«01_k».proof.Proof.Gen.KvQSample
public import proofs.«01_k».proof.Proof.Gen.KvQSample.Frame
public import proofs.«01_k».proof.Proof.Gen.KvQSampleIdeal
public import proofs.«01_k».proof.Proof.Gen.KvQSampleRefIdeal
public import proofs.«01_k».proof.Proof.Gen.KvQSampleRefIdeal.Run
public import proofs.«01_k».proof.Proof.Proj.KvQSampleArray
public import proofs.«01_k».proof.Proof.Proj.KvQSampleRef
public import proofs.«01_k».proof.Proof.Proj.KvQSampleRun
public import Idealize.ShloMosaic.Lib.Claim

@[expose] public section

set_option maxRecDepth 16384

noncomputable section

namespace Cert.KvQSamplePf

open Idealize.ShloMosaic Idealize.ShloMosaic.TcCoe Idealize.SL.Sem

/-- The reference runs and keeps its arguments. -/
theorem frame_ref : Cert.quiescent_KvQSampleRefIdeal (hKvQSampleRefIdeal := Cert.KvQSampleRefIdeal.Gen.facts) := by
  intro m g _
  exact (θ_run _ _ _).mono (fun r h => ⟨fun c => (h c).2.2.2, sem_eq_zero_of_no_sems (by decide) r.2⟩) (Cert.KvQSampleRefIdeal.Value.run m g)

/-- The kernel's keys, values and queries are the reference's. -/
theorem algebraic : Cert.algebraic_KvQSampleIdeal_KvQSampleRefIdeal (hKvQSampleIdeal := Cert.KvQSampleIdeal.Gen.facts)
    (hKvQSampleRefIdeal := Cert.KvQSampleRefIdeal.Gen.facts) := by
  pair_intro
  · run_from run_last m g
  · refine (θ_run _ _ _).mono (fun r h c => ?_) (Cert.KvQSampleRefIdeal.Value.run m' g')
    obtain ⟨a0, a1, a2, a3, a4, a5, a6, a7, a8⟩ := hagree c
    refine ⟨(h c).1.trans (Eq.trans ?_ rfl), (h c).2.1.trans (Eq.trans ?_ rfl), (h c).2.2.1.trans (Eq.trans ?_ rfl), (h c).2.2.2⟩
    · funext j
      obtain ⟨i, n, rfl⟩ : ∃ (i : Fin 64) (n : Fin 1024), j = ix2 i n := ⟨j 0, j 1, (ix2_eta j).symm⟩
      refine (ref_k m' c i n).trans (Eq.trans ?_ (last_k m g c i n).symm)
      rw [a0, a1, a3, a4, a7, a8]
      rfl
    · funext j
      obtain ⟨i, n, rfl⟩ : ∃ (i : Fin 64) (n : Fin 1024), j = ix2 i n := ⟨j 0, j 1, (ix2_eta j).symm⟩
      refine (ref_v _ _ _ i n).trans (Eq.trans ?_ (last_v m g c i n).symm)
      rw [a0, a1, a3]
      rfl
    · funext j
      obtain ⟨i, n, rfl⟩ : ∃ (i : Fin 64) (n : Fin 4096), j = ix2 i n := ⟨j 0, j 1, (ix2_eta j).symm⟩
      refine (ref_q m' c i n).trans (Eq.trans ?_ (last_q m g c i n).symm)
      rw [a0, a2, a5, a6, a7, a8]
      rfl

end Cert.KvQSamplePf

end
-- ==== Proof.Proj.PeerQueryNorm.lean ====
/- The normalised rows the first region of the PEER query's call leaves, and the same array transposed. -/
module

public import proofs.«01_k».proof.Proof.Gen.PeerQueryIdeal.Frame
public import proofs.«01_k».proof.Proof.Proj.Rows

@[expose] public section

set_option maxRecDepth 16384

noncomputable section

namespace Cert.PeerQueryPf

open Idealize.ShloMosaic Idealize.ShloMosaic.TcCoe Cert.PeerQueryIdeal Cert.PeerQueryIdeal.Gen Idealize.SL.Sem

/-- The block of rows of a grid point; of the transposed array it is a block of columns. -/
theorem idx0 : ∀ t : Fin cfg0.N, win0_0.index t = ![t.val, 0] ∧ win0_1.index t = ![0, 0] ∧ win0_2.index t = ![t.val, 0] ∧
    win0_3.index t = ![0, t.val] :=
  (by decide +kernel : ∀ t : Fin grid0.N, _)

/-- The payloads of a block, entry by entry. -/
theorem pay0_2 (x : S256x4096.Idx → EReal) (g : S1x4096.Idx → EReal) (p : Fin 256) (k : Fin 4096) :
    (k0_pay2 (F := Ideal) x g (ix2 p k) : EReal) = Proj.rms (fun d => x (ix2 p d)) (fun d => g (ix2 0 d)) k := by
  unfold Proj.rms
  pointwise [k0_pay2, k0_pay1]

theorem pay0_3 (x : S256x4096.Idx → EReal) (g : S1x4096.Idx → EReal) (k : Fin 4096) (p : Fin 256) :
    (k0_pay3 (F := Ideal) x g (ix2 k p) : EReal) = Proj.rms (fun d => x (ix2 p d)) (fun d => g (ix2 0 d)) k := by
  unfold Proj.rms
  pointwise [k0_pay3, k0_pay1]

variable (V : (c : Dev nD) → (b : Ref sig .tc) → Buf (Elt Ideal) ((c : Thread nD τ).loc b))

/-- The normalised rows, and their transposed array. -/
def hnArr (X : S8192x4096.Idx → EReal) (G : S1x4096.Idx → EReal) : S8192x4096.Idx → EReal := fun j =>
  Proj.rms (fun d => X (ix2 (j 0) d)) (fun d => G (ix2 0 d)) (j 1)
def hnT (X : S8192x4096.Idx → EReal) (G : S1x4096.Idx → EReal) : S4096x8192.Idx → EReal := fun j =>
  Proj.rms (fun d => X (ix2 (j 1) d)) (fun d => G (ix2 0 d)) (j 0)

def row0 (t : Fin cfg0.N) (p : Fin 256) : Fin 8192 := ⟨256 * t.val + p.val, by have h : t.val < 32 := t.isLt; omega⟩

theorem blk0_x (c : Dev nD) (t : Fin cfg0.N) (p : Fin 256) (k : Fin 4096) :
    iblk0 V c 0 t (ix2 p k) = V c main_v0 (ix2 (row0 t p) k) := by
  refine congrArg (V c main_v0) (?_ : _ = ix2 (row0 t p) k)
  blk_ext [idx0 t, row0]

theorem blk0_g (c : Dev nD) (t : Fin cfg0.N) (k : Fin 4096) : iblk0 V c 1 t (ix2 0 k) = V c main_v3 (ix2 0 k) := by
  refine congrArg (V c main_v3) (?_ : _ = ix2 0 k)
  blk_ext [idx0 t]

/-- A block of each array the region leaves is a block of `hnArr`, and of `hnT`. -/
theorem point0_2 (c : Dev nD) (t : Fin cfg0.N) (y : S256x4096.Idx) :
    k0_pay2 (F := Ideal) (iblk0 V c 0 t) (iblk0 V c 1 t) y =
      hnArr (V c main_v0) (V c main_v3) (((cfg0.win 2).blk t).view.emb y) := by
  obtain ⟨p, k, rfl⟩ : ∃ (p : Fin 256) (k : Fin 4096), y = ix2 p k := ⟨y 0, y 1, (ix2_eta y).symm⟩
  have he : ((cfg0.win 2).blk t).view.emb (ix2 p k) = ix2 (row0 t p) k := by
    blk_ext [idx0 t, row0]
  rw [he]
  refine (pay0_2 _ _ p k).trans ?_
  exact congrArg₂ (fun x g => Proj.rms x g k) (funext fun d => blk0_x V c t p d) (funext fun d => blk0_g V c t d)

theorem point0_3 (c : Dev nD) (t : Fin cfg0.N) (y : S4096x256.Idx) :
    k0_pay3 (F := Ideal) (iblk0 V c 0 t) (iblk0 V c 1 t) y =
      hnT (V c main_v0) (V c main_v3) (((cfg0.win 3).blk t).view.emb y) := by
  obtain ⟨k, p, rfl⟩ : ∃ (k : Fin 4096) (p : Fin 256), y = ix2 k p := ⟨y 0, y 1, (ix2_eta y).symm⟩
  have he : ((cfg0.win 3).blk t).view.emb (ix2 k p) = ix2 k (row0 t p) := by
    blk_ext [idx0 t, row0]
  rw [he]
  refine (pay0_3 _ _ k p).trans ?_
  exact congrArg₂ (fun x g => Proj.rms x g k) (funext fun d => blk0_x V c t p d) (funext fun d => blk0_g V c t d)

theorem final0_2 (c : Dev nD) : (dat0 V c).arrAt 2 cfg0.N = hnArr (V c main_v0) (V c main_v3) := by
  refine (dat0 V c).arrAt_eq_of_covers 2 _ (by decide +kernel) fun t _ y => ?_
  blk_simp
  rw [after0_2]
  frame_out
  exact point0_2 V c t y

theorem final0_3 (c : Dev nD) : (dat0 V c).arrAt 3 cfg0.N = hnT (V c main_v0) (V c main_v3) := by
  refine (dat0 V c).arrAt_eq_of_covers 3 _ (by decide +kernel) fun t _ y => ?_
  blk_simp
  rw [after0_3]
  frame_out
  exact point0_3 V c t y

end Cert.PeerQueryPf

end
-- ==== Proof.Proj.PeerQueryArray.lean ====
/- The query projection's arrays, from the program's arguments. -/
module

public import proofs.«01_k».proof.Proof.Proj.PeerQueryNorm

@[expose] public section

set_option maxRecDepth 16384

noncomputable section

namespace Cert.PeerQueryPf

open Idealize.ShloMosaic Idealize.ShloMosaic.TcCoe Cert.PeerQueryIdeal Cert.PeerQueryIdeal.Gen Idealize.SL.Sem

section Region

variable (V : (c : Dev nD) → (b : Ref sig .tc) → Buf (Elt Ideal) ((c : Thread nD τ).loc b))

/-- The blocks of a grid point of the product with `peer_w_query`: rows by `t % 8`, columns by `t / 8`. -/
theorem idx1 : ∀ t : Fin cfg1.N, win1_0.index t = ![t.val % 8, 0] ∧ win1_1.index t = ![0, t.val / 8] ∧
    win1_2.index t = ![t.val % 8, t.val / 8] :=
  (by decide +kernel : ∀ t : Fin grid1.N, _)

/-- The payload of a block, entry by entry. -/
theorem pay1_at (x : S1024x4096.Idx → EReal) (w : S4096x1024.Idx → EReal) (p : Fin 1024) (q : Fin 1024) :
    (k1_pay1 (F := Ideal) x w (ix2 p q) : EReal) = Proj.dotRow (fun k => x (ix2 p k)) (fun k => w (ix2 k q)) := by
  unfold Proj.dotRow
  pointwise [k1_pay1]

/-- The product of the rows of one array with the columns of the other. -/
def mm1 (X : S8192x4096.Idx → EReal) (W : S4096x2048.Idx → EReal) : S8192x2048.Idx → EReal := fun j =>
  Proj.dotRow (fun k => X (ix2 (j 0) k)) (fun k => W (ix2 k (j 1)))

def row1 (t : Fin cfg1.N) (p : Fin 1024) : Fin 8192 := ⟨1024 * (t.val % 8) + p.val, by omega⟩
def col1 (t : Fin cfg1.N) (q : Fin 1024) : Fin 2048 := ⟨1024 * (t.val / 8) + q.val, by have h : t.val < 16 := t.isLt; omega⟩

theorem blk1_x (c : Dev nD) (t : Fin cfg1.N) (p : Fin 1024) (k : Fin 4096) :
    iblk1 V c 0 t (ix2 p k) = V c main_v4_0 (ix2 (row1 t p) k) := by
  refine congrArg (V c main_v4_0) (?_ : _ = ix2 (row1 t p) k)
  blk_ext [idx1 t, row1]

theorem blk1_w (c : Dev nD) (t : Fin cfg1.N) (k : Fin 4096) (q : Fin 1024) :
    iblk1 V c 1 t (ix2 k q) = V c main_v7 (ix2 k (col1 t q)) := by
  refine congrArg (V c main_v7) (?_ : _ = ix2 k (col1 t q))
  blk_ext [idx1 t, col1]

/-- A block of the product's array is a block of `mm1`. -/
theorem point1 (c : Dev nD) (t : Fin cfg1.N) (y : S1024x1024.Idx) :
    k1_pay1 (F := Ideal) (iblk1 V c 0 t) (iblk1 V c 1 t) y =
      mm1 (V c main_v4_0) (V c main_v7) (((cfg1.win 2).blk t).view.emb y) := by
  obtain ⟨p, q, rfl⟩ : ∃ (p : Fin 1024) (q : Fin 1024), y = ix2 p q := ⟨y 0, y 1, (ix2_eta y).symm⟩
  have he : ((cfg1.win 2).blk t).view.emb (ix2 p q) = ix2 (row1 t p) (col1 t q) := by
    blk_ext [idx1 t, row1, col1]
  rw [he]
  refine (pay1_at _ _ p q).trans ?_
  exact congrArg₂ Proj.dotRow (funext fun k => blk1_x V c t p k) (funext fun k => blk1_w V c t k q)

theorem final1 (c : Dev nD) : (dat1 V c).arrAt 2 cfg1.N = mm1 (V c main_v4_0) (V c main_v7) := by
  refine (dat1 V c).arrAt_eq_of_covers 2 _ (by decide +kernel) fun t _ y => ?_
  blk_simp
  rw [after1_2]
  frame_out
  exact point1 V c t y

end Region

variable (m : (ℓ : Loc nD τ sig) → Buf (Elt Ideal) ℓ) (ρ : Dev nD → PrngReg)

/-- The sequence and the token of a row. -/
def seqOf (i : Fin 8192) : Fin 4 := ⟨i.val / 2048, by omega⟩
def tokOf (i : Fin 8192) : Fin 2048 := ⟨i.val % 2048, by omega⟩

theorem v0_at (c : Dev nD) (i : Fin 8192) (k : Fin 4096) :
    V1 m ρ c main_v0 (ix2 i k) = m ((c : Thread nD τ).loc main_arg0) (ix3 (seqOf i) (tokOf i) k) := by
  simp only [V1, W1, hostOps0]
  entry_read
  try simp only [StableHlo.TRef.toBuf, StableHlo.TRef.ofBuf, cast_eq]
  pointwise
  try rfl

theorem v3_at (c : Dev nD) (k : Fin 4096) :
    V1 m ρ c main_v3 (ix2 0 k) = m ((c : Thread nD τ).loc main_arg1) (ix2 0 k) := by
  simp only [V1, W1, hostOps0]
  entry_read
  try simp only [StableHlo.TRef.toBuf, StableHlo.TRef.ofBuf, cast_eq]
  pointwise
  try rfl

theorem v7_at (c : Dev nD) (k : Fin 4096) (n : Fin 2048) :
    V3 m ρ c main_v7 (ix2 k n) = m ((c : Thread nD τ).loc main_arg2) (ix3 0 k n) := by
  refine Eq.trans ?_ (congrFun (W2_args m ρ c main_arg2 (by decide)) (ix3 0 k n))
  simp only [V3, W3, hostOps1]
  entry_read
  try simp only [StableHlo.TRef.toBuf, StableHlo.TRef.ofBuf, cast_eq]
  pointwise
  try rfl

/-- An entry of the normalised rows. -/
def hnAt (c : Dev nD) (i : Fin 8192) (k : Fin 4096) : EReal :=
  Proj.rms (fun d => m ((c : Thread nD τ).loc main_arg0) (ix3 (seqOf i) (tokOf i) d)) (fun d => m ((c : Thread nD τ).loc main_arg1) (ix2 0 d)) k

/-- The transposed rows the program leaves. -/
theorem last_x (c : Dev nD) (k : Fin 4096) (i : Fin 8192) : W4 m ρ c (Proc.devRef .tc main_v4_1) (ix2 k i) = hnAt m c i k := by
  have h : W4 m ρ c (Proc.devRef .tc main_v4_1) = hnT (V1 m ρ c main_v0) (V1 m ρ c main_v3) :=
    (W4_of m ρ c main_v4_1 (by decide)).trans ((W3_of m ρ c main_v4_1 (by decide)).trans ((W2_arr m ρ c 3).trans (final0_3 (V1 m ρ) c)))
  refine (congrFun h (ix2 k i)).trans ?_
  exact congrArg₂ (fun x g => Proj.rms x g k) (funext fun d => v0_at m ρ c i d) (funext fun d => v3_at m ρ c d)

/-- The queries the program leaves. -/
theorem last_q (c : Dev nD) (i : Fin 8192) (n : Fin 2048) : W4 m ρ c (Proc.devRef .tc main_v8) (ix2 i n) =
    Proj.dotRow (fun k => hnAt m c i k) (fun k => m ((c : Thread nD τ).loc main_arg2) (ix3 0 k n)) := by
  refine (congrFun ((W4_arr m ρ c 2).trans (final1 (V3 m ρ) c)) (ix2 i n)).trans ?_
  have h : V3 m ρ c main_v4_0 = hnArr (V1 m ρ c main_v0) (V1 m ρ c main_v3) :=
    (W3_of m ρ c main_v4_0 (by decide)).trans ((W2_arr m ρ c 2).trans (final0_2 (V1 m ρ) c))
  refine congrArg₂ Proj.dotRow (funext fun k => (congrFun h _).trans ?_) (funext fun k => v7_at m ρ c k n)
  exact congrArg₂ (fun x g => Proj.rms x g k) (funext fun d => v0_at m ρ c i d) (funext fun d => v3_at m ρ c d)

end Cert.PeerQueryPf

end
-- ==== Proof.Proj.PeerQueryRef.lean ====
/- The reference's query projection, entry by entry. -/
module

public import proofs.«01_k».proof.Proof.Gen.PeerQueryRefIdeal
public import proofs.«01_k».proof.Proof.Proj.Rows

@[expose] public section

set_option maxRecDepth 16384

noncomputable section

namespace Cert.PeerQueryPf

open Idealize.ShloMosaic Idealize.ShloMosaic.TcCoe Cert.PeerQueryRefIdeal Cert.PeerQueryRefIdeal.Gen Idealize.SL.Sem

/-- The reference's normalised rows. -/
def refNorm (x : FVec Ideal S4x2048x4096 .f32) (g : FVec Ideal S2x4096 .f32) : FVec Ideal S4x2048x4096 .f32 :=
  mulf (mulf x (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast _ (extractStridedSlice S1x4096 ![0, 0] g slices_S2x4096_S1x4096_0_0) shapeCasts_S1x4096_S4096)))

theorem refNorm_at (x : FVec Ideal S4x2048x4096 .f32) (g : FVec Ideal S2x4096 .f32) (b : Fin 4) (l : Fin 2048) (k : Fin 4096) :
    (refNorm x g (ix3 b l k) : EReal) = Proj.rms (fun d => x (ix3 b l d)) (fun d => g (ix2 0 d)) k := by
  unfold Proj.rms
  pointwise [refNorm]

theorem ref_rows (y : FVec Ideal S4x2048x4096 .f32) (i : Fin 8192) (k : Fin 4096) :
    ((shapeCast S8192x4096 y shapeCasts_S4x2048x4096_S8192x4096 : FVec Ideal S8192x4096 .f32) (ix2 i k) : EReal) =
      y (ix3 ⟨i.val / 2048, by omega⟩ ⟨i.val % 2048, by omega⟩ k) := by
  pointwise

theorem ref_dot (y : FVec Ideal S8192x4096 .f32) (w : FVec Ideal S2x4096x2048 .f32) (i : Fin 8192) (n : Fin 2048) :
    ((Host.dotGeneral dot_S8192x4096_S4096x2048_S8192x2048_1_0_0_1_n_n none y (shapeCast _ (extractStridedSlice S1x4096x2048 ![0, 0, 0] w
      slices_S2x4096x2048_S1x4096x2048_0_0_0) shapeCasts_S1x4096x2048_S4096x2048) : FVec Ideal S8192x2048 .f32) (ix2 i n) : EReal) =
      Proj.dotRow (fun k => y (ix2 i k)) (fun k => w (ix3 0 k n)) := by
  unfold Proj.dotRow
  pointwise

theorem ref_turned (y : FVec Ideal S8192x4096 .f32) (k : Fin 4096) (i : Fin 8192) :
    ((truncf .bf16 (transpose S4096x8192 [1, 0] y transposes_S8192x4096_S4096x8192_1_0 : FVec Ideal S4096x8192 .f32) bitsLt_bf16_f32 :
      FVec Ideal S4096x8192 .bf16) (ix2 k i) : EReal) = y (ix2 i k) := by
  pointwise

/-- The reference's transposed rows. -/
theorem ref_x (x : FVec Ideal S4x2048x4096 .f32) (g : FVec Ideal S2x4096 .f32) (k : Fin 4096) (i : Fin 8192) :
    ((truncf .bf16 (transpose S4096x8192 [1, 0] (shapeCast S8192x4096 (refNorm x g) shapeCasts_S4x2048x4096_S8192x4096)
      transposes_S8192x4096_S4096x8192_1_0 : FVec Ideal S4096x8192 .f32) bitsLt_bf16_f32 : FVec Ideal S4096x8192 .bf16) (ix2 k i) : EReal) =
      Proj.rms (fun d => x (ix3 ⟨i.val / 2048, by omega⟩ ⟨i.val % 2048, by omega⟩ d)) (fun d => g (ix2 0 d)) k :=
  (ref_turned _ k i).trans ((ref_rows _ i k).trans (refNorm_at x g _ _ k))

/-- The reference's queries. -/
theorem ref_q (x : FVec Ideal S4x2048x4096 .f32) (g : FVec Ideal S2x4096 .f32) (w : FVec Ideal S2x4096x2048 .f32) (i : Fin 8192) (n : Fin 2048) :
    ((Host.dotGeneral dot_S8192x4096_S4096x2048_S8192x2048_1_0_0_1_n_n none (shapeCast S8192x4096 (refNorm x g) shapeCasts_S4x2048x4096_S8192x4096)
      (shapeCast _ (extractStridedSlice S1x4096x2048 ![0, 0, 0] w slices_S2x4096x2048_S1x4096x2048_0_0_0)
        shapeCasts_S1x4096x2048_S4096x2048) : FVec Ideal S8192x2048 .f32) (ix2 i n) : EReal) =
      Proj.dotRow (fun k => Proj.rms (fun d => x (ix3 ⟨i.val / 2048, by omega⟩ ⟨i.val % 2048, by omega⟩ d)) (fun d => g (ix2 0 d)) k)
        (fun k => w (ix3 0 k n)) := by
  refine (ref_dot _ w i n).trans ?_
  exact congrArg₂ Proj.dotRow (funext fun k => (ref_rows _ i k).trans (refNorm_at x g _ _ k)) rfl

end Cert.PeerQueryPf

end
-- ==== Proof.Proj.PeerQueryRun.lean ====
/- The run of the whole program, with the results at the contents its last region leaves. -/
module

public import proofs.«01_k».proof.Proof.Gen.PeerQueryIdeal.Frame

@[expose] public section

set_option maxRecDepth 16384

noncomputable section

namespace Cert.PeerQueryPf

open Cert.PeerQueryIdeal Cert.PeerQueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution ends with the results at the contents the last region leaves and the arguments as
    launched. -/
theorem run_last : θ_run defs (onTc (τ := τ) (main (F := F))) ⟨m, fun _ => 0, ρ⟩ fun r => ∀ c : Dev nD,
      r.2.mem ((c : Thread nD τ).loc main_v4_1) = W4 m ρ c (Proc.devRef .tc main_v4_1)
      ∧ r.2.mem ((c : Thread nD τ).loc main_v8) = W4 m ρ c (Proc.devRef .tc main_v8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v4_1 (by decide)),
       h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.PeerQueryPf

end
-- ==== Proof.Proj.PeerQueryClaim.lean ====
/- The claims about the PEER layer's query projection. -/
module

public import proofs.«01_k».proof.Defs
public import proofs.«01_k».proof.Proof.Gen.PeerQuery
public import proofs.«01_k».proof.Proof.Gen.PeerQuery.Frame
public import proofs.«01_k».proof.Proof.Gen.PeerQueryIdeal
public import proofs.«01_k».proof.Proof.Gen.PeerQueryRefIdeal
public import proofs.«01_k».proof.Proof.Gen.PeerQueryRefIdeal.Run
public import proofs.«01_k».proof.Proof.Proj.PeerQueryArray
public import proofs.«01_k».proof.Proof.Proj.PeerQueryRef
public import proofs.«01_k».proof.Proof.Proj.PeerQueryRun
public import Idealize.ShloMosaic.Lib.Claim

@[expose] public section

set_option maxRecDepth 16384

noncomputable section

namespace Cert.PeerQueryPf

open Idealize.ShloMosaic Idealize.ShloMosaic.TcCoe Idealize.SL.Sem

/-- The reference runs and keeps its arguments. -/
theorem frame_ref : Cert.quiescent_PeerQueryRefIdeal (hPeerQueryRefIdeal := Cert.PeerQueryRefIdeal.Gen.facts) := by
  intro m g _
  exact (θ_run _ _ _).mono (fun r h => ⟨fun c => (h c).2.2, sem_eq_zero_of_no_sems (by decide) r.2⟩) (Cert.PeerQueryRefIdeal.Value.run m g)

/-- The kernel's transposed rows and queries are the reference's. -/
theorem algebraic : Cert.algebraic_PeerQueryIdeal_PeerQueryRefIdeal (hPeerQueryIdeal := Cert.PeerQueryIdeal.Gen.facts)
    (hPeerQueryRefIdeal := Cert.PeerQueryRefIdeal.Gen.facts) := by
  pair_intro
  · run_from run_last m g
  · refine (θ_run _ _ _).mono (fun r h c => ?_) (Cert.PeerQueryRefIdeal.Value.run m' g')
    obtain ⟨a0, a1, a2⟩ := hagree c
    refine ⟨(h c).1.trans (Eq.trans ?_ rfl), (h c).2.1.trans (Eq.trans ?_ rfl), (h c).2.2⟩
    · funext j
      obtain ⟨k, i, rfl⟩ : ∃ (k : Fin 4096) (i : Fin 8192), j = ix2 k i := ⟨j 0, j 1, (ix2_eta j).symm⟩
      refine (ref_x _ _ k i).trans (Eq.trans ?_ (last_x m g c k i).symm)
      rw [a0, a1]
      rfl
    · funext j
      obtain ⟨i, n, rfl⟩ : ∃ (i : Fin 8192) (n : Fin 2048), j = ix2 i n := ⟨j 0, j 1, (ix2_eta j).symm⟩
      refine (ref_q _ _ _ i n).trans (Eq.trans ?_ (last_q m g c i n).symm)
      rw [a0, a1, a2]
      rfl

end Cert.PeerQueryPf

end
-- ==== Proof.GlaS.Point.lean ====
/- What a grid point of the sample's kernel leaves: its one chunk's rows of output and the head's last state, as functions of the
   blocks it reads. -/
module

public import proofs.«01_k».proof.Proof.Gen.GlaSampleIdeal.Value
public import Idealize.ShloMosaic.Lib.Pipeline.ValueKit

@[expose] public section

set_option maxRecDepth 16384

noncomputable section

namespace Cert.GlaS

open Idealize.ShloMosaic Idealize.ShloMosaic.TcCoe Cert.GlaSampleIdeal Cert.GlaSampleIdeal.Gen Idealize.SL.Sem

variable {F : FTy → Type} [FloatOps F]

/-- One shifted addition: every row from `s` on has the row `s` above added. -/
def rollAdd8 (s : BitVec 32) (x : FVec F S8x512 .f32) : FVec F S8x512 .f32 :=
  addf x (select (cmpi .sge (iota .tc S8x512 32 [0] iota_S8x512_d0_w32) (broadcast S8x512 s))
    (dynamicRotate 0 s none x rotates_S8x512_d0) (broadcast S8x512 (Scalar.ofBits .f32 0x00000000#32)))

/-- The gate's input: the low-rank product and the bias. -/
def gateIn (z : Vec F S1x8x128 .f32) (wg : Vec F S128x512 .bf16) (bg : Vec F S1x512 .f32) : FVec F S8x512 .f32 :=
  have z2 : FVec F S8x128 .f32 := shapeCast S8x128 z shapeCasts_S1x8x128_S8x128
  have z3 : FVec F S8x128 .bf16 := truncf .bf16 z2 bitsLt_bf16_f32
  have w2 : FVec F S128x512 .bf16 := shapeCast S128x512 wg shapeCasts_S128x512_S128x512
  have acc : FVec F S8x512 .f32 := constant S8x512 .f32 0x00000000#32
  have y : FVec F S8x512 .f32 := matmul dot_S8x128_S128x512_S8x512_1_0_0_1_n_n none z3 w2 acc
  have b2 : FVec F S1x512 .f32 := shapeCast S1x512 bg shapeCasts_S1x512_S1x512
  addf y (broadcastTo S8x512 b2 broadcasts_S1x512_S8x512)

/-- The gates' logarithms: the kernel's words for `log σ / 16`. -/
def gateLog (x : FVec F S8x512 .f32) : FVec F S8x512 .f32 :=
  let zero : FVec F S8x512 .f32 := broadcast S8x512 (Scalar.ofBits .f32 0x00000000#32)
  mulf (subf zero (addf (maximumf (subf zero x) zero) (log1p (exp (subf zero (absf x))))))
    (broadcast S8x512 (Scalar.ofBits .f32 0x3D800000#32))

/-- The first shifted addition is printed together with the gates. -/
theorem pay4_eq (z : Vec F S1x8x128 .f32) (wg : Vec F S128x512 .bf16) (bg : Vec F S1x512 .f32) :
    k0_pay4 z wg bg = rollAdd8 1#32 (gateLog (gateIn z wg bg)) := rfl

/-- The two other shifted additions. -/
theorem pay5_eq (x : FVec F S8x512 .f32) : k0_pay5 (iota .tc S8x512 32 [0] iota_S8x512_d0_w32) x 2#32 =
    rollAdd8 4#32 (rollAdd8 2#32 x) := rfl

/-- The point's rows of output, `p` the gates after the first shifted addition. -/
def pointRows (p : FVec F S8x512 .f32) (q k : Vec F S1x8x512 .f32) (v r : Vec F S1x8x1024 .f32)
    (gn : Vec F S1x1024 .f32) (st : Vec F S1024x512 .f32) : FVec F S1x8x1024 .bf16 :=
  k0_pay13 (k0_pay8 v) (k0_pay9 (iota .tc S8x512 32 [0] iota_S8x512_d0_w32) p 2#32 q)
    (k0_pay11 k0_pay3 (iota .tc S8x512 32 [0] iota_S8x512_d0_w32) p 2#32 q k) st gn r

/-- The state after the point. -/
def pointNext (p : FVec F S8x512 .f32) (k : Vec F S1x8x512 .f32) (v : Vec F S1x8x1024 .f32)
    (st : Vec F S1024x512 .f32) : FVec F S1024x512 .f32 :=
  k0_pay12 (k0_pay6 (iota .tc S8x512 32 [0] iota_S8x512_d0_w32) p 2#32) (k0_pay8 v)
    (k0_pay10 (iota .tc S8x512 32 [0] iota_S8x512_d0_w32) p 2#32 k) st

/-- The point's block of output. -/
theorem point_rows (c : Dev nD) (i : grid0.Coords) (arg3 : Memref sig .tc .vmem S1x8x512 .f32) (harg3 : arg3.IsWhole) (arg4 : Memref sig .tc .vmem S1x8x512 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x8x1024 .bf16) (harg12 : arg12.IsWhole) (arg13 : Memref sig .tc .vmem S1x1x512x1024 .f32) (harg13 : arg13.IsWhole) (arg14 : Memref sig .tc .vmem S1024x512 .f32) (harg14 : arg14.IsWhole) (hc0 : cond0_0 i) (hc1 : cond0_1 i)
    (x0 : Vec Ideal S1x8x512 .f32) (x1 : Vec Ideal S1x8x512 .f32) (x2 : Vec Ideal S1x8x1024 .f32) (x3 : Vec Ideal S1x8x1024 .f32) (x4 : Vec Ideal S1x8x128 .f32) (x5 : Vec Ideal S128x512 .bf16) (x6 : Vec Ideal S1x512 .f32) (x7 : Vec Ideal S1x1024 .f32) (x8 : Vec Ideal S1x1x512x1024 .f32) : out0_A_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = pointRows (F := Ideal) (k0_pay4 x4 x5 x6) x0 x1 x2 x3 x7 (k0_pay2 x8) := by
  frame_out
  try rfl

/-- The state handed back. -/
theorem point_next (c : Dev nD) (i : grid0.Coords) (arg3 : Memref sig .tc .vmem S1x8x512 .f32) (harg3 : arg3.IsWhole) (arg4 : Memref sig .tc .vmem S1x8x512 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x8x1024 .bf16) (harg12 : arg12.IsWhole) (arg13 : Memref sig .tc .vmem S1x1x512x1024 .f32) (harg13 : arg13.IsWhole) (arg14 : Memref sig .tc .vmem S1024x512 .f32) (harg14 : arg14.IsWhole) (hc0 : cond0_0 i) (hc1 : cond0_1 i)
    (x0 : Vec Ideal S1x8x512 .f32) (x1 : Vec Ideal S1x8x512 .f32) (x2 : Vec Ideal S1x8x1024 .f32) (x3 : Vec Ideal S1x8x1024 .f32) (x4 : Vec Ideal S1x8x128 .f32) (x5 : Vec Ideal S128x512 .bf16) (x6 : Vec Ideal S1x512 .f32) (x7 : Vec Ideal S1x1024 .f32) (x8 : Vec Ideal S1x1x512x1024 .f32) : out0_A_10 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 (F := Ideal) (pointNext (k0_pay4 x4 x5 x6) x1 x2 (k0_pay2 x8)) := by
  frame_out
  try rfl

end Cert.GlaS

end
-- ==== Proof.GlaS.Spec.lean ====
/- Gated linear attention on the extended reals at the shapes of the sample batch: one chunk of eight tokens for every head of
   every sequence. Both programs are shown to compute these functions. -/
module

public import proofs.«01_k».proof.Proof.Gla.Spec

@[expose] public section

noncomputable section

namespace Cert.GlaS

open Idealize.ShloMosaic Cert.Gla

/-- The sum of the rows up to row `s`. -/
def sumUpTo (a : Fin 8 → Fin 512 → EReal) (s : Fin 8) (d : Fin 512) : EReal :=
  win (fun i => if h : i < 8 then a ⟨i, h⟩ d else 0) 8 s.val

/-- The state after the eight tokens, `b` the summed logarithms of the gates. -/
def lastS (b k : Fin 8 → Fin 512 → EReal) (v : Fin 8 → Fin 1024 → EReal) (S : Fin 512 → Fin 1024 → EReal) :
    Fin 512 → Fin 1024 → EReal := fun d e =>
  Ideal.exp (b 7 d) * S d e + ∑ s, k s d * Ideal.exp (b 7 d - b s d) * v s e

/-- A query decayed to its row, scaled by `1/√512` in binary32. -/
def qDec8 (b q : Fin 8 → Fin 512 → EReal) (s : Fin 8) (d : Fin 512) : EReal :=
  q s d * Ideal.ofBits .f32 0x3D3504F3#32 * Ideal.exp (b s d)

/-- Row `s` of the output before the norm: what the state before holds for the row, and the rows up to it. -/
def rowO (b q k : Fin 8 → Fin 512 → EReal) (v : Fin 8 → Fin 1024 → EReal) (S : Fin 512 → Fin 1024 → EReal)
    (s : Fin 8) (e : Fin 1024) : EReal :=
  (∑ d, qDec8 b q s d * S d e) +
    ∑ j : Fin 8, if j.val ≤ s.val then (∑ d, qDec8 b q s d * (k j d * Ideal.exp (-b j d))) * v j e else 0

variable (proj : (⟨3, ![8, 8, 12304]⟩ : Shape).Idx → EReal) (w : (⟨3, ![1, 16, 2048]⟩ : Shape).Idx → EReal)
  (bg : (⟨2, ![1, 2048]⟩ : Shape).Idx → EReal) (gn : (⟨3, ![1, 4, 1024]⟩ : Shape).Idx → EReal)
  (s0 : (⟨4, ![8, 4, 512, 1024]⟩ : Shape).Idx → EReal)

def qRow (b : Fin 8) (h : Fin 4) (i : Fin 8) (d : Fin 512) : EReal := proj (ix3 b i ⟨h.val * 512 + d.val, by omega⟩)
def kRow (b : Fin 8) (h : Fin 4) (i : Fin 8) (d : Fin 512) : EReal := proj (ix3 b i ⟨2048 + (h.val * 512 + d.val), by omega⟩)
def vRow (b : Fin 8) (h : Fin 4) (i : Fin 8) (e : Fin 1024) : EReal := proj (ix3 b i ⟨4096 + (h.val * 1024 + e.val), by omega⟩)
def rRow (b : Fin 8) (h : Fin 4) (i : Fin 8) (e : Fin 1024) : EReal := proj (ix3 b i ⟨8192 + (h.val * 1024 + e.val), by omega⟩)

/-- The gates' logarithms: sixteen columns of the token times the head's columns of the second gate matrix, and a bias. -/
def aRow (b : Fin 8) (h : Fin 4) (i : Fin 8) (d : Fin 512) : EReal :=
  logGate (∑ x : Fin 16, proj (ix3 b i ⟨12288 + x.val, by omega⟩) * w (ix3 0 x ⟨h.val * 512 + d.val, by omega⟩) +
    bg (ix2 0 ⟨h.val * 512 + d.val, by omega⟩))

/-- The head's state before the first token. -/
def start8 (b : Fin 8) (h : Fin 4) (d : Fin 512) (e : Fin 1024) : EReal := s0 (ix4 b h d e)

/-- The head's state after the eight tokens. -/
def stateEnd (b : Fin 8) (h : Fin 4) : Fin 512 → Fin 1024 → EReal :=
  lastS (sumUpTo (aRow proj w bg b h)) (kRow proj b h) (vRow proj b h) (start8 s0 b h)

/-- The head's output of token `l` before the norm. -/
def tokenO (b : Fin 8) (h : Fin 4) (l : Fin 8) : Fin 1024 → EReal :=
  rowO (sumUpTo (aRow proj w bg b h)) (qRow proj b h) (kRow proj b h) (vRow proj b h) (start8 s0 b h) l

/-- The head's gated output of token `l`. -/
def tokenOut (b : Fin 8) (h : Fin 4) (l : Fin 8) : Fin 1024 → EReal :=
  normGate (tokenO proj w bg s0 b h l) (fun e => gn (ix3 0 h e)) (rRow proj b h l)

end Cert.GlaS

end
-- ==== Proof.GlaS.PointAt.lean ====
/- A grid point of the sample's kernel at an index: three shifted additions make the running sum of the eight rows, and the rows of
   output and the last state are the equations of gated linear attention. -/
module

public import proofs.«01_k».proof.Proof.GlaS.Point
public import proofs.«01_k».proof.Proof.GlaS.Spec
public import proofs.«01_k».proof.Proof.Gla.ChunkAt

@[expose] public section

set_option maxRecDepth 16384

noncomputable section

namespace Cert.GlaS

open Idealize.ShloMosaic Idealize.ShloMosaic.TcCoe Cert.Gla Cert.GlaSampleIdeal Cert.GlaSampleIdeal.Gen Idealize.SL.Sem

/-- The column `d` of a tensor of eight rows, as numbers in a row. -/
def col8 (x : FVec Ideal S8x512 .f32) (d : Fin 512) (i : ℕ) : EReal := if h : i < 8 then x (ix2 ⟨i, h⟩ d) else 0

/-- A shifted addition doubles the window summed over. -/
theorem rollAdd8_win (m : ℕ) (g : ℕ → EReal) (x : FVec Ideal S8x512 .f32) (d : Fin 512)
    (hx : ∀ r : Fin 8, x (ix2 r d) = win g m r.val)
    (hr : ∀ r : Fin 8, rollAdd8 (BitVec.ofNat 32 m) x (ix2 r d) = x (ix2 r d) + Scalar.select (IntOp.cmpi .sge (BitVec.ofNat 32 r.val)
      (BitVec.ofNat 32 m)) (x (ix2 ⟨(r.val + 8 - m) % 8, Nat.mod_lt _ (by decide)⟩ d)) 0) (hm : m ≤ 4) (r : Fin 8) :
    rollAdd8 (BitVec.ofNat 32 m) x (ix2 r d) = win g (m + m) r.val := by
  have h8 : r.val < 8 := r.isLt
  rw [hr, pick_ge _ _ (by omega) (by omega), ← win_double, hx]
  congr 1
  by_cases h : m ≤ r.val
  · rw [if_pos h, if_pos h, hx]
    exact congrArg (win g m) (by show (r.val + 8 - m) % 8 = r.val - m; omega)
  · rw [if_neg h, if_neg h]

theorem roll8_1 (x : FVec Ideal S8x512 .f32) (d : Fin 512) (r : Fin 8) :
    rollAdd8 1#32 x (ix2 r d) = x (ix2 r d) + Scalar.select (IntOp.cmpi .sge (BitVec.ofNat 32 r.val)
      (BitVec.ofNat 32 1)) (x (ix2 ⟨(r.val + 8 - 1) % 8, Nat.mod_lt _ (by decide)⟩ d)) 0 := by pointwise [rollAdd8]
theorem roll8_2 (x : FVec Ideal S8x512 .f32) (d : Fin 512) (r : Fin 8) :
    rollAdd8 2#32 x (ix2 r d) = x (ix2 r d) + Scalar.select (IntOp.cmpi .sge (BitVec.ofNat 32 r.val)
      (BitVec.ofNat 32 2)) (x (ix2 ⟨(r.val + 8 - 2) % 8, Nat.mod_lt _ (by decide)⟩ d)) 0 := by pointwise [rollAdd8]
theorem roll8_4 (x : FVec Ideal S8x512 .f32) (d : Fin 512) (r : Fin 8) :
    rollAdd8 4#32 x (ix2 r d) = x (ix2 r d) + Scalar.select (IntOp.cmpi .sge (BitVec.ofNat 32 r.val)
      (BitVec.ofNat 32 4)) (x (ix2 ⟨(r.val + 8 - 4) % 8, Nat.mod_lt _ (by decide)⟩ d)) 0 := by pointwise [rollAdd8]

/-- The running sum, printed in two pieces. -/
theorem sum8_at (x : FVec Ideal S8x512 .f32) (s : Fin 8) (d : Fin 512) :
    k0_pay5 (iota .tc S8x512 32 [0] iota_S8x512_d0_w32) (rollAdd8 1#32 x) 2#32 (ix2 s d) =
      sumUpTo (fun s d => x (ix2 s d)) s d := by
  rw [pay5_eq]
  have h0 (r : Fin 8) : x (ix2 r d) = win (col8 x d) 1 r.val := by
    simp [win, col8]
  have h1 := rollAdd8_win 1 (col8 x d) x d h0 (roll8_1 _ d) (by decide)
  have h2 := rollAdd8_win 2 (col8 x d) _ d h1 (roll8_2 _ d) (by decide)
  exact rollAdd8_win 4 (col8 x d) _ d h2 (roll8_4 _ d) (by decide) s

/-- The last state. -/
theorem pointNext_at (p : FVec Ideal S8x512 .f32) (k : Vec Ideal S1x8x512 .f32) (v : Vec Ideal S1x8x1024 .f32)
    (st : Vec Ideal S1024x512 .f32) (e : Fin 1024) (d : Fin 512) :
    pointNext p k v st (ix2 e d) = lastS
      (fun s d => k0_pay5 (iota .tc S8x512 32 [0] iota_S8x512_d0_w32) p 2#32 (ix2 s d)) (fun s d => k (ix3 0 s d))
      (fun s e => v (ix3 0 s e)) (fun d e => st (ix2 e d)) d e := by
  unfold lastS pointNext k0_pay6 k0_pay10 k0_pay6
  generalize k0_pay5 (F := Ideal) _ p 2#32 = b
  refine Eq.trans (b := st (ix2 e d) * Ideal.exp (b (ix2 7 d)) +
    ∑ x, v (ix3 0 x e) * (k (ix3 0 x d) * Ideal.exp (b (ix2 7 d) - b (ix2 x d)))) ?_ ?_
  · pointwise [k0_pay12, k0_pay8, k0_pay7]
  · rw [mul_comm]; congr 1
    exact Finset.sum_congr rfl fun x _ => mul_comm _ _

/-- The rows of output. -/
theorem pointRows_at (p : FVec Ideal S8x512 .f32) (q k : Vec Ideal S1x8x512 .f32) (v r : Vec Ideal S1x8x1024 .f32)
    (gn : Vec Ideal S1x1024 .f32) (st : Vec Ideal S1024x512 .f32) (s : Fin 8) (e : Fin 1024) :
    pointRows p q k v r gn st (ix3 0 s e) = normGate
      (rowO (fun s d => k0_pay5 (iota .tc S8x512 32 [0] iota_S8x512_d0_w32) p 2#32 (ix2 s d)) (fun s d => q (ix3 0 s d))
        (fun s d => k (ix3 0 s d)) (fun s e => v (ix3 0 s e)) (fun d e => st (ix2 e d)) s)
      (fun e => gn (ix2 0 e)) (fun e => r (ix3 0 s e)) e := by
  unfold pointRows k0_pay11 k0_pay9
  generalize k0_pay5 (F := Ideal) _ p 2#32 = b
  have hO (e : Fin 1024) : rowO (fun s d => b (ix2 s d)) (fun s d => q (ix3 0 s d)) (fun s d => k (ix3 0 s d))
      (fun s e => v (ix3 0 s e)) (fun d e => st (ix2 e d)) s e =
      ∑ x, q (ix3 0 s x) * Ideal.ofBits FTy.f32 1026884851#32 * Ideal.exp (b (ix2 s x)) * st (ix2 e x) +
      ∑ x : Fin 8, Scalar.select (IntOp.cmpi .sge (BitVec.ofNat 32 s.val) (BitVec.ofNat 32 x.val))
        ((∑ x_1, q (ix3 0 s x_1) * Ideal.ofBits FTy.f32 1026884851#32 * Ideal.exp (b (ix2 s x_1)) *
          (k (ix3 0 x x_1) * Ideal.exp (0 - b (ix2 x x_1)))) * v (ix3 0 x e)) 0 := by
    unfold rowO qDec8
    congr 1
    refine Finset.sum_congr rfl fun x _ => ?_
    rw [pick_ge _ _ (by have := s.isLt; omega) (by have := x.isLt; omega)]
    simp only [zero_sub]
  unfold normGate
  simp only [hO]
  pointwise [k0_pay13, k0_pay8, k0_pay7, k0_pay3]

/-- The gate's logarithm, the contraction still over the padded 128 columns. -/
theorem gate8_at (z : Vec Ideal S1x8x128 .f32) (wg : Vec Ideal S128x512 .bf16) (bg : Vec Ideal S1x512 .f32) (r : Fin 8)
    (d : Fin 512) : gateLog (gateIn z wg bg) (ix2 r d) = logGate (∑ x, z (ix3 0 r x) * wg (ix2 x d) + bg (ix2 0 d)) := by
  have hin : gateIn z wg bg (ix2 r d) = ∑ x, z (ix3 0 r x) * wg (ix2 x d) + bg (ix2 0 d) := by pointwise [gateIn]
  rw [← hin]
  generalize gateIn z wg bg = y
  unfold logGate
  rw [div_sixteen]
  refine Eq.trans (b := (0 - (max (0 - y (ix2 r d)) 0 + Ideal.log1p (Ideal.exp (0 -
    FloatOps.absf (F := Ideal) (φ := .f32) (y (ix2 r d)))))) * Ideal.ofBits FTy.f32 1031798784#32) ?_ ?_
  · pointwise [gateLog]
  · simp only [zero_sub]; rfl

end Cert.GlaS

end
-- ==== Proof.GlaS.Arrays.lean ====
/- The blocks a grid point of the sample's kernel reads, as rows of the program's arguments, and the kernel's two result arrays. -/
module

public import proofs.«01_k».proof.Proof.GlaS.PointAt
public import proofs.«01_k».proof.Proof.Gla.Blocks

@[expose] public section

set_option maxRecDepth 16384

noncomputable section

namespace Cert.GlaS

open Idealize.ShloMosaic Idealize.ShloMosaic.TcCoe Cert.Gla Cert.GlaSampleIdeal Cert.GlaSampleIdeal.Gen Idealize.SL.Sem

variable (m : (ℓ : Loc nD τ sig) → Buf (Elt Ideal) ℓ)

/-- The sequence and the head of a grid point. -/
theorem idx8 : ∀ t : Fin cfg0.N,
    win0_0.index t = ![t.val / 4, 0, t.val % 4] ∧ win0_1.index t = ![t.val / 4, 0, 4 + t.val % 4] ∧
    win0_2.index t = ![t.val / 4, 0, 4 + t.val % 4] ∧ win0_3.index t = ![t.val / 4, 0, 8 + t.val % 4] ∧
    win0_4.index t = ![t.val / 4, 0, 0] ∧ win0_5.index t = ![0, t.val % 4] ∧ win0_6.index t = ![0, t.val % 4] ∧
    win0_7.index t = ![0, t.val % 4] ∧ win0_8.index t = ![t.val / 4, t.val % 4, 0, 0] ∧
    win0_9.index t = ![t.val / 4, 0, t.val % 4] ∧ win0_10.index t = ![t.val / 4, t.val % 4, 0, 0] :=
  (by decide +kernel : ∀ t : Fin grid0.N, _)

def seqOf (t : Fin cfg0.N) : Fin 8 := ⟨t.val / 4, by have h : t.val < 32 := t.isLt; omega⟩
def headOf (t : Fin cfg0.N) : Fin 4 := ⟨t.val % 4, Nat.mod_lt _ (by decide)⟩

theorem v9_at (c : Dev nD) (b : Fin 8) (l : Fin 8) (x : Fin 12288) :
    V m c main_v9 (ix3 b l x) = m ((c : Thread nD τ).loc main_arg0) (ix3 b l ⟨x.val, by omega⟩) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise

theorem v1_at (c : Dev nD) (b : Fin 8) (l : Fin 8) (x : Fin 128) :
    V m c main_v1 (ix3 b l x) = if h : x.val < 16 then m ((c : Thread nD τ).loc main_arg0) (ix3 b l ⟨12288 + x.val, by omega⟩) else (0 : EReal) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  rw [hz]

theorem v4_at (c : Dev nD) (x : Fin 128) (d : Fin 2048) :
    V m c main_v4 (ix2 x d) = if h : x.val < 16 then m ((c : Thread nD τ).loc main_arg1) (ix3 0 ⟨x.val, h⟩ d) else (0 : EReal) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  rw [hz]
theorem v6_at (c : Dev nD) (d : Fin 2048) :
    V m c main_v6 (ix2 0 d) = m ((c : Thread nD τ).loc main_arg2) (ix2 0 d) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
theorem v8_at (c : Dev nD) (d : Fin 4096) :
    V m c main_v8 (ix2 0 d) = m ((c : Thread nD τ).loc main_arg3) (ix3 0 ⟨d.val / 1024, by omega⟩ ⟨d.val % 1024, by omega⟩) := by
  simp only [V, hostOps0, hostOps0_1, hostOps0_2, hostOps0_3, hostOps0_4, List.flatten_cons, List.flatten_nil, List.append_nil,
    List.cons_append, List.nil_append]
  entry_read
  try simp only [StableHlo.TRef.toBuf, StableHlo.TRef.ofBuf, cast_eq]
  pointwise
theorem blk8_q (c : Dev nD) (t : Fin cfg0.N) (i : Fin 8) (d : Fin 512) :
    iblk m c 0 t (ix3 0 i d) = qRow (m ((c : Thread nD τ).loc main_arg0)) (seqOf t) (headOf t) i d := by
  refine (congrArg (V m c main_v9) (?_ : _ = ix3 (seqOf t) i
    ⟨(headOf t).val * 512 + d.val, by have := (headOf t).isLt; omega⟩)).trans (v9_at m c _ _ _)
  blk_ext [idx8 t, seqOf, headOf]

theorem blk8_k (c : Dev nD) (t : Fin cfg0.N) (i : Fin 8) (d : Fin 512) :
    iblk m c 1 t (ix3 0 i d) = kRow (m ((c : Thread nD τ).loc main_arg0)) (seqOf t) (headOf t) i d := by
  refine (congrArg (V m c main_v9) (?_ : _ = ix3 (seqOf t) i
    ⟨2048 + ((headOf t).val * 512 + d.val), by have := (headOf t).isLt; omega⟩)).trans (v9_at m c _ _ _)
  blk_ext [idx8 t, seqOf, headOf]

theorem blk8_v (c : Dev nD) (t : Fin cfg0.N) (i : Fin 8) (d : Fin 1024) :
    iblk m c 2 t (ix3 0 i d) = vRow (m ((c : Thread nD τ).loc main_arg0)) (seqOf t) (headOf t) i d := by
  refine (congrArg (V m c main_v9) (?_ : _ = ix3 (seqOf t) i
    ⟨4096 + ((headOf t).val * 1024 + d.val), by have := (headOf t).isLt; omega⟩)).trans (v9_at m c _ _ _)
  blk_ext [idx8 t, seqOf, headOf]

theorem blk8_r (c : Dev nD) (t : Fin cfg0.N) (i : Fin 8) (d : Fin 1024) :
    iblk m c 3 t (ix3 0 i d) = rRow (m ((c : Thread nD τ).loc main_arg0)) (seqOf t) (headOf t) i d := by
  refine (congrArg (V m c main_v9) (?_ : _ = ix3 (seqOf t) i
    ⟨8192 + ((headOf t).val * 1024 + d.val), by have := (headOf t).isLt; omega⟩)).trans (v9_at m c _ _ _)
  blk_ext [idx8 t, seqOf, headOf]

theorem blk8_z (c : Dev nD) (t : Fin cfg0.N) (i : Fin 8) (x : Fin 128) :
    iblk m c 4 t (ix3 0 i x) = if h : x.val < 16 then m ((c : Thread nD τ).loc main_arg0)
      (ix3 (seqOf t) i ⟨12288 + x.val, by omega⟩) else (0 : EReal) := by
  refine (congrArg (V m c main_v1) (?_ : _ = ix3 (seqOf t) i x)).trans (v1_at m c _ _ _)
  blk_ext [idx8 t, seqOf, headOf]

theorem blk8_w (c : Dev nD) (t : Fin cfg0.N) (x : Fin 128) (d : Fin 512) :
    iblk m c 5 t (ix2 x d) = if h : x.val < 16 then m ((c : Thread nD τ).loc main_arg1)
      (ix3 0 ⟨x.val, h⟩ ⟨(headOf t).val * 512 + d.val, by have := (headOf t).isLt; omega⟩) else (0 : EReal) := by
  refine (congrArg (V m c main_v4) (?_ : _ = ix2 x ⟨(headOf t).val * 512 + d.val, by have := (headOf t).isLt; omega⟩)).trans
    (v4_at m c _ _)
  blk_ext [idx8 t, seqOf, headOf]

theorem blk8_b (c : Dev nD) (t : Fin cfg0.N) (d : Fin 512) :
    iblk m c 6 t (ix2 0 d) = m ((c : Thread nD τ).loc main_arg2)
      (ix2 0 ⟨(headOf t).val * 512 + d.val, by have := (headOf t).isLt; omega⟩) := by
  refine (congrArg (V m c main_v6) (?_ : _ = ix2 0 ⟨(headOf t).val * 512 + d.val, by have := (headOf t).isLt; omega⟩)).trans
    (v6_at m c _)
  blk_ext [idx8 t, seqOf, headOf]

theorem blk8_gn (c : Dev nD) (t : Fin cfg0.N) (e : Fin 1024) :
    iblk m c 7 t (ix2 0 e) = m ((c : Thread nD τ).loc main_arg3) (ix3 0 (headOf t) e) := by
  refine (congrArg (V m c main_v8) (?_ : _ = ix2 0 ⟨(headOf t).val * 1024 + e.val, by have := (headOf t).isLt; omega⟩)).trans
    ((v8_at m c _).trans ?_)
  · blk_ext [idx8 t, seqOf, headOf]
  · blk_ext []

theorem blk8_s0 (c : Dev nD) (t : Fin cfg0.N) (e : Fin 1024) (d : Fin 512) :
    k0_pay2 (F := Ideal) (iblk m c 8 t) (ix2 e d) = start8 (m ((c : Thread nD τ).loc main_arg4)) (seqOf t) (headOf t) d e := by
  unfold start8
  pointwise [k0_pay2]
  rw [← V_main_arg4 m c]
  refine congrArg (V m c main_arg4) (?_ : _ = ix4 (seqOf t) (headOf t) d e)
  blk_ext [idx8 t, seqOf, headOf]

theorem blk8_a (c : Dev nD) (t : Fin cfg0.N) (i : Fin 8) (d : Fin 512) :
    gateLog (F := Ideal) (gateIn (iblk m c 4 t) (iblk m c 5 t) (iblk m c 6 t)) (ix2 i d) = aRow (m ((c : Thread nD τ).loc main_arg0))
      (m ((c : Thread nD τ).loc main_arg1)) (m ((c : Thread nD τ).loc main_arg2)) (seqOf t) (headOf t) i d := by
  unfold aRow
  rw [gate8_at]
  congr 2
  · simp only [blk8_z, blk8_w]
    exact pad_sum (fun x => m ((c : Thread nD τ).loc main_arg0) (ix3 (seqOf t) i ⟨12288 + x.val, by omega⟩))
      (fun x => m ((c : Thread nD τ).loc main_arg1) (ix3 0 x ⟨(headOf t).val * 512 + d.val, by have := (headOf t).isLt; omega⟩))
  · exact blk8_b m c t d

variable (c : Dev nD)

/-- The last states, of the program's arguments. -/
def kEnd (b : Fin 8) (h : Fin 4) : Fin 512 → Fin 1024 → EReal :=
  stateEnd (m ((c : Thread nD τ).loc main_arg0)) (m ((c : Thread nD τ).loc main_arg1)) (m ((c : Thread nD τ).loc main_arg2))
    (m ((c : Thread nD τ).loc main_arg4)) b h

/-- The gated outputs, of the program's arguments. -/
def kTok (b : Fin 8) (h : Fin 4) (l : Fin 8) : Fin 1024 → EReal :=
  tokenOut (m ((c : Thread nD τ).loc main_arg0)) (m ((c : Thread nD τ).loc main_arg1)) (m ((c : Thread nD τ).loc main_arg2))
    (m ((c : Thread nD τ).loc main_arg3)) (m ((c : Thread nD τ).loc main_arg4)) b h l

/-- The running sums of a point's gates. -/
theorem sums_at (t : Fin cfg0.N) : (fun (s : Fin 8) (d : Fin 512) => k0_pay5 (F := Ideal)
    (iota .tc S8x512 32 [0] iota_S8x512_d0_w32) (k0_pay4 (iblk m c 4 t) (iblk m c 5 t) (iblk m c 6 t)) 2#32 (ix2 s d)) =
    sumUpTo (aRow (m ((c : Thread nD τ).loc main_arg0)) (m ((c : Thread nD τ).loc main_arg1))
      (m ((c : Thread nD τ).loc main_arg2)) (seqOf t) (headOf t)) := by
  funext s d
  rw [pay4_eq, sum8_at]
  refine congrArg (fun f => sumUpTo f s d) ?_
  funext i d
  exact blk8_a m c t i d

/-- The block of output of every grid point. -/
theorem block_rows (t : Fin cfg0.N) (y : Fin 8) (e : Fin 1024) :
    (outsAt0 m c t).1 (ix3 0 y e) = kTok m c (seqOf t) (headOf t) y e := by
  unfold outsAt0
  dsimp only
  rw [point_rows, pointRows_at, sums_at]
  unfold kTok tokenOut tokenO
  simp only [blk8_q, blk8_k, blk8_v, blk8_r, blk8_gn, blk8_s0]

/-- The block of the last state of every grid point. -/
theorem block_end (t : Fin cfg0.N) (d : Fin 512) (e : Fin 1024) :
    (outsAt0 m c t).2 (ix4 0 0 d e) = kEnd m c (seqOf t) (headOf t) d e := by
  have h : pointNext (F := Ideal) (k0_pay4 (iblk m c 4 t) (iblk m c 5 t) (iblk m c 6 t)) (iblk m c 1 t) (iblk m c 2 t)
      (k0_pay2 (iblk m c 8 t)) (ix2 e d) = kEnd m c (seqOf t) (headOf t) d e := by
    rw [pointNext_at, sums_at]
    unfold kEnd stateEnd
    simp only [blk8_k, blk8_v, blk8_s0]
  rw [← h]
  unfold outsAt0
  dsimp only
  rw [point_next]
  generalize pointNext (F := Ideal) _ _ _ _ = st
  pointwise [k0_pay1]

theorem kTok_congr {b b' l l' : Fin 8} {h h' : Fin 4} {e e' : Fin 1024} (hb : b.val = b'.val) (hh : h.val = h'.val)
    (hl : l.val = l'.val) (he : e.val = e'.val) : kTok m c b h l e = kTok m c b' h' l' e' := by
  rw [Fin.ext hb, Fin.ext hh, Fin.ext hl, Fin.ext he]

theorem kEnd_congr {b b' : Fin 8} {h h' : Fin 4} {d d' : Fin 512} {e e' : Fin 1024} (hb : b.val = b'.val) (hh : h.val = h'.val)
    (hd : d.val = d'.val) (he : e.val = e'.val) : kEnd m c b h d e = kEnd m c b' h' d' e' := by
  rw [Fin.ext hb, Fin.ext hh, Fin.ext hd, Fin.ext he]

/-- The array of gated outputs. -/
theorem tok_array : (dats m 0 c).arrAt 9 cfg0.N = fun j => kTok m c (j 0)
    ⟨(j 2).val / 1024, by have : (j 2).val < 4096 := (j 2).isLt; omega⟩ (j 1) ⟨(j 2).val % 1024, Nat.mod_lt _ (by decide)⟩ := by
  refine (dats m 0 c).arrAt_eq_of_covers 9 _ (by decide +kernel) fun t hf y => ?_
  blk_simp
  rw [after0_9]
  have hy : y = (ix3 0 (y 1) (y 2) : S1x8x1024.Idx) := by
    funext a; fin_cases a
    · exact Fin.ext (by have h : (y 0).val < 1 := (y 0).isLt; show (y 0).val = 0; omega)
    · rfl
    · rfl
  have h2 : (y 2).val < 1024 := (y 2).isLt
  have h1 : (y 1).val < 8 := (y 1).isLt
  refine (congrArg _ hy).trans ((block_rows m c t (y 1) (y 2)).trans (kTok_congr m c ?_ ?_ ?_ ?_))
  · blk_simp [idx8 t, seqOf]
  · blk_simp [idx8 t, headOf]
    dsimp only; omega
  · blk_simp [idx8 t]
  · blk_simp [idx8 t]
    dsimp only; omega

/-- The array of last states. -/
theorem end_array : (dats m 0 c).arrAt 10 cfg0.N = fun j => kEnd m c (j 0) (j 1) (j 2) (j 3) := by
  refine (dats m 0 c).arrAt_eq_of_covers 10 _ (by decide +kernel) fun t hf y => ?_
  blk_simp
  rw [after0_10]
  have hy : y = (ix4 0 0 (y 2) (y 3) : S1x1x512x1024.Idx) := by
    funext a; fin_cases a
    · exact Fin.ext (by have h : (y 0).val < 1 := (y 0).isLt; show (y 0).val = 0; omega)
    · exact Fin.ext (by have h : (y 1).val < 1 := (y 1).isLt; show (y 1).val = 0; omega)
    · rfl
    · rfl
  refine (congrArg _ hy).trans ((block_end m c t (y 2) (y 3)).trans (kEnd_congr m c ?_ ?_ ?_ ?_))
  · blk_simp [idx8 t, seqOf]
  · blk_simp [idx8 t, headOf]
  · blk_simp [idx8 t]
  · blk_simp [idx8 t]

end Cert.GlaS

end
-- ==== Proof.GlaS.RefLoop.lean ====
/- The loop of the reference at the shapes of the sample batch, whose eight tokens are one chunk: a valuation that holds a state of
   `Gen.GlaSampleRefIdeal.Step` is carried by a trip of the run to one that holds the next state, so that the results are the
   fields of the state after the loop's one trip. The same text as `Gla/RefLoop.lean` at other shapes. -/
module

public import proofs.«01_k».proof.Proof.Gen.GlaSampleRefIdeal.Run
public import proofs.«01_k».proof.Proof.Gen.GlaSampleRefIdeal.Step

@[expose] public section

noncomputable section

namespace Cert.GlaSampleRefIdeal.Loop

open Idealize.ShloMosaic Idealize.ShloMosaic.TcCoe Idealize.SL.Sem Idealize.ShloMosaic.StableHlo
open Cert.GlaSampleRefIdeal Cert.GlaSampleRefIdeal.Gen Cert.GlaSampleRefIdeal.Value
open Cert.GlaSampleRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v45_6) = s.main_v45_6
  f_7 : V0 (Proc.devRef .tc main_v45_7) = s.main_v45_7
  f_0 : V0 (Proc.devRef .tc main_v45_0) = s.main_v45_0
  f_1 : V0 (Proc.devRef .tc main_v45_1) = s.main_v45_1
  f_2 : V0 (Proc.devRef .tc main_v45_2) = s.main_v45_2
  f_3 : V0 (Proc.devRef .tc main_v45_3) = s.main_v45_3
  n_5 : V0 (Proc.devRef .tc main_v45_5) = constantI S_ 32 (BitVec.ofNat 32 j)
  k_4 : V0 (Proc.devRef .tc main_v45_4) = Cert.GlaSampleRefIdeal.Step.K_main_v35 (F := F)

variable {V0 s j}

set_option maxRecDepth 8192 in
theorem al_0 (h : Holds V0 s j) : (constantI S_ 32 0#32 : (Proc.devRef .tc main_while0b_call1_c : DevRef τ sig).ty.Contents (Elt F)) = Cert.GlaSampleRefIdeal.Step.b0 j s := by
  unfold Cert.GlaSampleRefIdeal.Step.b0
  rfl
set_option maxRecDepth 8192 in
theorem al_1 (h : Holds V0 s j) : (constantI S_ 32 0#32 : (Proc.devRef .tc main_while0b_call1_c_0 : DevRef τ sig).ty.Contents (Elt F)) = Cert.GlaSampleRefIdeal.Step.b1 j s := by
  unfold Cert.GlaSampleRefIdeal.Step.b1
  rfl
set_option maxRecDepth 8192 in
theorem al_2 (h : Holds V0 s j) : (constantI S_ 32 0#32 : (Proc.devRef .tc main_while0b_call1_c_1 : DevRef τ sig).ty.Contents (Elt F)) = Cert.GlaSampleRefIdeal.Step.b2 j s := by
  unfold Cert.GlaSampleRefIdeal.Step.b2
  rfl
set_option maxRecDepth 8192 in
theorem al_3 (h : Holds V0 s j) : (constantI S_ 32 0#32 : (Proc.devRef .tc main_while0b_call1_c_2 : DevRef τ sig).ty.Contents (Elt F)) = Cert.GlaSampleRefIdeal.Step.b3 j s := by
  unfold Cert.GlaSampleRefIdeal.Step.b3
  rfl
set_option maxRecDepth 8192 in
theorem al_4 (h : Holds V0 s j) : (Host.dynamicSlice S1x8x4x8x512 (V0 (Proc.devRef .tc main_v45_0)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512 : (Proc.devRef .tc main_while0b_call1_v0 : DevRef τ sig).ty.Contents (Elt F)) = Cert.GlaSampleRefIdeal.Step.b4 j s := by
  unfold Cert.GlaSampleRefIdeal.Step.b4
  rw [← al_0 h, ← al_1 h, ← al_2 h, ← al_3 h, h.f_0, h.n_5]
  try rfl
set_option maxRecDepth 8192 in
theorem al_5 (h : Holds V0 s j) : (shapeCast S8x4x8x512 (Host.dynamicSlice S1x8x4x8x512 (V0 (Proc.devRef .tc main_v45_0)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512) shapeCasts_S1x8x4x8x512_S8x4x8x512 : (Proc.devRef .tc main_while0b_v71 : DevRef τ sig).ty.Contents (Elt F)) = Cert.GlaSampleRefIdeal.Step.b5 j s := by
  unfold Cert.GlaSampleRefIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.GlaSampleRefIdeal.Step.b6 j s := by
  unfold Cert.GlaSampleRefIdeal.Step.b6
  rfl
set_option maxRecDepth 8192 in
theorem al_7 (h : Holds V0 s j) : (constantI S_ 32 0#32 : (Proc.devRef .tc main_while0b_call2_c_0 : DevRef τ sig).ty.Contents (Elt F)) = Cert.GlaSampleRefIdeal.Step.b7 j s := by
  unfold Cert.GlaSampleRefIdeal.Step.b7
  rfl
set_option maxRecDepth 8192 in
theorem al_8 (h : Holds V0 s j) : (constantI S_ 32 0#32 : (Proc.devRef .tc main_while0b_call2_c_1 : DevRef τ sig).ty.Contents (Elt F)) = Cert.GlaSampleRefIdeal.Step.b8 j s := by
  unfold Cert.GlaSampleRefIdeal.Step.b8
  rfl
set_option maxRecDepth 8192 in
theorem al_9 (h : Holds V0 s j) : (constantI S_ 32 0#32 : (Proc.devRef .tc main_while0b_call2_c_2 : DevRef τ sig).ty.Contents (Elt F)) = Cert.GlaSampleRefIdeal.Step.b9 j s := by
  unfold Cert.GlaSampleRefIdeal.Step.b9
  rfl
set_option maxRecDepth 8192 in
theorem al_10 (h : Holds V0 s j) : (Host.dynamicSlice S1x8x4x8x512 (V0 (Proc.devRef .tc main_v45_1)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512 : (Proc.devRef .tc main_while0b_call2_v0 : DevRef τ sig).ty.Contents (Elt F)) = Cert.GlaSampleRefIdeal.Step.b10 j s := by
  unfold Cert.GlaSampleRefIdeal.Step.b10
  rw [← al_6 h, ← al_7 h, ← al_8 h, ← al_9 h, h.f_1, h.n_5]
  try rfl
set_option maxRecDepth 8192 in
theorem al_11 (h : Holds V0 s j) : (res_main_while0b_v72 V0 : (Proc.devRef .tc main_while0b_v72 : DevRef τ sig).ty.Contents (Elt F)) = Cert.GlaSampleRefIdeal.Step.b11 j s := by
  unfold res_main_while0b_v72 Cert.GlaSampleRefIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.GlaSampleRefIdeal.Step.b12 j s := by
  unfold Cert.GlaSampleRefIdeal.Step.b12
  rfl
set_option maxRecDepth 8192 in
theorem al_13 (h : Holds V0 s j) : (constantI S_ 32 0#32 : (Proc.devRef .tc main_while0b_call3_c_0 : DevRef τ sig).ty.Contents (Elt F)) = Cert.GlaSampleRefIdeal.Step.b13 j s := by
  unfold Cert.GlaSampleRefIdeal.Step.b13
  rfl
set_option maxRecDepth 8192 in
theorem al_14 (h : Holds V0 s j) : (constantI S_ 32 0#32 : (Proc.devRef .tc main_while0b_call3_c_1 : DevRef τ sig).ty.Contents (Elt F)) = Cert.GlaSampleRefIdeal.Step.b14 j s := by
  unfold Cert.GlaSampleRefIdeal.Step.b14
  rfl
set_option maxRecDepth 8192 in
theorem al_15 (h : Holds V0 s j) : (constantI S_ 32 0#32 : (Proc.devRef .tc main_while0b_call3_c_2 : DevRef τ sig).ty.Contents (Elt F)) = Cert.GlaSampleRefIdeal.Step.b15 j s := by
  unfold Cert.GlaSampleRefIdeal.Step.b15
  rfl
set_option maxRecDepth 8192 in
theorem al_16 (h : Holds V0 s j) : (Host.dynamicSlice S1x8x4x8x1024 (V0 (Proc.devRef .tc main_v45_2)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x1024_S1x8x4x8x1024 : (Proc.devRef .tc main_while0b_call3_v0 : DevRef τ sig).ty.Contents (Elt F)) = Cert.GlaSampleRefIdeal.Step.b16 j s := by
  unfold Cert.GlaSampleRefIdeal.Step.b16
  rw [← al_12 h, ← al_13 h, ← al_14 h, ← al_15 h, h.f_2, h.n_5]
  try rfl
set_option maxRecDepth 8192 in
theorem al_17 (h : Holds V0 s j) : (res_main_while0b_v73 V0 : (Proc.devRef .tc main_while0b_v73 : DevRef τ sig).ty.Contents (Elt F)) = Cert.GlaSampleRefIdeal.Step.b17 j s := by
  unfold res_main_while0b_v73 Cert.GlaSampleRefIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.GlaSampleRefIdeal.Step.b18 j s := by
  unfold Cert.GlaSampleRefIdeal.Step.b18
  rfl
set_option maxRecDepth 8192 in
theorem al_19 (h : Holds V0 s j) : (constantI S_ 32 0#32 : (Proc.devRef .tc main_while0b_call4_c_0 : DevRef τ sig).ty.Contents (Elt F)) = Cert.GlaSampleRefIdeal.Step.b19 j s := by
  unfold Cert.GlaSampleRefIdeal.Step.b19
  rfl
set_option maxRecDepth 8192 in
theorem al_20 (h : Holds V0 s j) : (constantI S_ 32 0#32 : (Proc.devRef .tc main_while0b_call4_c_1 : DevRef τ sig).ty.Contents (Elt F)) = Cert.GlaSampleRefIdeal.Step.b20 j s := by
  unfold Cert.GlaSampleRefIdeal.Step.b20
  rfl
set_option maxRecDepth 8192 in
theorem al_21 (h : Holds V0 s j) : (constantI S_ 32 0#32 : (Proc.devRef .tc main_while0b_call4_c_2 : DevRef τ sig).ty.Contents (Elt F)) = Cert.GlaSampleRefIdeal.Step.b21 j s := by
  unfold Cert.GlaSampleRefIdeal.Step.b21
  rfl
set_option maxRecDepth 8192 in
theorem al_22 (h : Holds V0 s j) : (Host.dynamicSlice S1x8x4x8x512 (V0 (Proc.devRef .tc main_v45_3)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512 : (Proc.devRef .tc main_while0b_call4_v0 : DevRef τ sig).ty.Contents (Elt F)) = Cert.GlaSampleRefIdeal.Step.b22 j s := by
  unfold Cert.GlaSampleRefIdeal.Step.b22
  rw [← al_18 h, ← al_19 h, ← al_20 h, ← al_21 h, h.f_3, h.n_5]
  try rfl
set_option maxRecDepth 8192 in
theorem al_23 (h : Holds V0 s j) : (shapeCast S8x4x8x512 (Host.dynamicSlice S1x8x4x8x512 (V0 (Proc.devRef .tc main_v45_3)) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512) shapeCasts_S1x8x4x8x512_S8x4x8x512 : (Proc.devRef .tc main_while0b_v74 : DevRef τ sig).ty.Contents (Elt F)) = Cert.GlaSampleRefIdeal.Step.b23 j s := by
  unfold Cert.GlaSampleRefIdeal.Step.b23
  rw [← al_22 h]
  try rfl
set_option maxRecDepth 8192 in
theorem al_24 (h : Holds V0 s j) : (constant S_ .f32 0x00000000#32 : (Proc.devRef .tc main_while0b_call5_call0_cst : DevRef τ sig).ty.Contents (Elt F)) = Cert.GlaSampleRefIdeal.Step.b24 j s := by
  unfold Cert.GlaSampleRefIdeal.Step.b24
  rfl
set_option maxRecDepth 8192 in
theorem al_25 (h : Holds V0 s j) : (broadcastInDim S_ ![] bcast_S_S_ (constant S_ .f32 0x00000000#32) : (Proc.devRef .tc main_while0b_call5_call0_v0 : DevRef τ sig).ty.Contents (Elt F)) = Cert.GlaSampleRefIdeal.Step.b25 j s := by
  unfold Cert.GlaSampleRefIdeal.Step.b25
  rw [← al_24 h]
  try rfl
set_option maxRecDepth 8192 in
theorem al_26 (h : Holds V0 s j) : (res_main_while0b_v75 V0 : (Proc.devRef .tc main_while0b_v75 : DevRef τ sig).ty.Contents (Elt F)) = Cert.GlaSampleRefIdeal.Step.b26 j s := by
  unfold res_main_while0b_v75 Cert.GlaSampleRefIdeal.Step.b26
  rw [← al_23 h, ← al_25 h]
  try rfl
set_option maxRecDepth 8192 in
theorem al_27 (h : Holds V0 s j) : (Host.exp (res_main_while0b_v75 V0) : (Proc.devRef .tc main_while0b_v76 : DevRef τ sig).ty.Contents (Elt F)) = Cert.GlaSampleRefIdeal.Step.b27 j s := by
  unfold Cert.GlaSampleRefIdeal.Step.b27
  rw [← al_26 h]
  try rfl
set_option maxRecDepth 8192 in
theorem al_28 (h : Holds V0 s j) : (res_main_while0b_v77 V0 : (Proc.devRef .tc main_while0b_v77 : DevRef τ sig).ty.Contents (Elt F)) = Cert.GlaSampleRefIdeal.Step.b28 j s := by
  unfold res_main_while0b_v77 Cert.GlaSampleRefIdeal.Step.b28
  rw [← al_5 h, ← al_27 h]
  try rfl
set_option maxRecDepth 8192 in
theorem al_29 (h : Holds V0 s j) : (Host.negf (res_main_while0b_v75 V0) : (Proc.devRef .tc main_while0b_v78 : DevRef τ sig).ty.Contents (Elt F)) = Cert.GlaSampleRefIdeal.Step.b29 j s := by
  unfold Cert.GlaSampleRefIdeal.Step.b29
  rw [← al_26 h]
  try rfl
set_option maxRecDepth 8192 in
theorem al_30 (h : Holds V0 s j) : (Host.exp (Host.negf (res_main_while0b_v75 V0)) : (Proc.devRef .tc main_while0b_v79 : DevRef τ sig).ty.Contents (Elt F)) = Cert.GlaSampleRefIdeal.Step.b30 j s := by
  unfold Cert.GlaSampleRefIdeal.Step.b30
  rw [← al_29 h]
  try rfl
set_option maxRecDepth 8192 in
theorem al_31 (h : Holds V0 s j) : (mulf (res_main_while0b_v72 V0) (Host.exp (Host.negf (res_main_while0b_v75 V0))) : (Proc.devRef .tc main_while0b_v80 : DevRef τ sig).ty.Contents (Elt F)) = Cert.GlaSampleRefIdeal.Step.b31 j s := by
  unfold Cert.GlaSampleRefIdeal.Step.b31
  rw [← al_11 h, ← al_30 h]
  try rfl
set_option maxRecDepth 8192 in
theorem al_32 (h : Holds V0 s j) : (Host.dotGeneral dot_S8x4x8x512_S8x4x8x512_S8x4x8x8_3_3_2_2_01_01 none (res_main_while0b_v77 V0) (mulf (res_main_while0b_v72 V0) (Host.exp (Host.negf (res_main_while0b_v75 V0)))) : (Proc.devRef .tc main_while0b_v81 : DevRef τ sig).ty.Contents (Elt F)) = Cert.GlaSampleRefIdeal.Step.b32 j s := by
  unfold Cert.GlaSampleRefIdeal.Step.b32
  rw [← al_28 h, ← al_31 h]
  try rfl
set_option maxRecDepth 8192 in
theorem al_33 (h : Holds V0 s j) : (constant S_ .f32 0x00000000#32 : (Proc.devRef .tc main_while0b_cst_14 : DevRef τ sig).ty.Contents (Elt F)) = Cert.GlaSampleRefIdeal.Step.b33 j s := by
  unfold Cert.GlaSampleRefIdeal.Step.b33
  rfl
set_option maxRecDepth 8192 in
theorem al_34 (h : Holds V0 s j) : (id (constant S_ .f32 0x00000000#32) : (Proc.devRef .tc main_while0b_call6_v0 : DevRef τ sig).ty.Contents (Elt F)) = Cert.GlaSampleRefIdeal.Step.b34 j s := by
  unfold Cert.GlaSampleRefIdeal.Step.b34
  rw [← al_33 h]
  try rfl
set_option maxRecDepth 8192 in
theorem al_35 (h : Holds V0 s j) : (broadcastInDim S8x4x8x8 ![2, 3] bcast_S8x8_S8x4x8x8_2_3 (V0 (Proc.devRef .tc main_v45_4)) : (Proc.devRef .tc main_while0b_call6_v1 : DevRef τ sig).ty.Contents (Elt F)) = Cert.GlaSampleRefIdeal.Step.b35 j s := by
  unfold Cert.GlaSampleRefIdeal.Step.b35
  rw [h.k_4]
  try rfl
set_option maxRecDepth 8192 in
theorem al_36 (h : Holds V0 s j) : (broadcastInDim S8x4x8x8 ![] bcast_S_S8x4x8x8 (id (constant S_ .f32 0x00000000#32)) : (Proc.devRef .tc main_while0b_call6_v2 : DevRef τ sig).ty.Contents (Elt F)) = Cert.GlaSampleRefIdeal.Step.b36 j s := by
  unfold Cert.GlaSampleRefIdeal.Step.b36
  rw [← al_34 h]
  try rfl
set_option maxRecDepth 8192 in
theorem al_37 (h : Holds V0 s j) : (select (broadcastInDim S8x4x8x8 ![2, 3] bcast_S8x8_S8x4x8x8_2_3 (V0 (Proc.devRef .tc main_v45_4))) (Host.dotGeneral dot_S8x4x8x512_S8x4x8x512_S8x4x8x8_3_3_2_2_01_01 none (res_main_while0b_v77 V0) (mulf (res_main_while0b_v72 V0) (Host.exp (Host.negf (res_main_while0b_v75 V0))))) (broadcastInDim S8x4x8x8 ![] bcast_S_S8x4x8x8 (id (constant S_ .f32 0x00000000#32))) : (Proc.devRef .tc main_while0b_v82 : DevRef τ sig).ty.Contents (Elt F)) = Cert.GlaSampleRefIdeal.Step.b37 j s := by
  unfold Cert.GlaSampleRefIdeal.Step.b37
  rw [← al_35 h, ← al_32 h, ← al_36 h]
  try rfl
set_option maxRecDepth 8192 in
theorem al_38 (h : Holds V0 s j) : (Host.dotGeneral dot_S8x4x8x512_S8x4x512x1024_S8x4x8x1024_3_2_2_3_01_01 none (res_main_while0b_v77 V0) (V0 (Proc.devRef .tc main_v45_6)) : (Proc.devRef .tc main_while0b_v83 : DevRef τ sig).ty.Contents (Elt F)) = Cert.GlaSampleRefIdeal.Step.b38 j s := by
  unfold Cert.GlaSampleRefIdeal.Step.b38
  rw [← al_28 h, h.f_6]
  try rfl
set_option maxRecDepth 8192 in
theorem al_39 (h : Holds V0 s j) : (Host.dotGeneral dot_S8x4x8x8_S8x4x8x1024_S8x4x8x1024_3_2_2_3_01_01 none (select (broadcastInDim S8x4x8x8 ![2, 3] bcast_S8x8_S8x4x8x8_2_3 (V0 (Proc.devRef .tc main_v45_4))) (Host.dotGeneral dot_S8x4x8x512_S8x4x8x512_S8x4x8x8_3_3_2_2_01_01 none (res_main_while0b_v77 V0) (mulf (res_main_while0b_v72 V0) (Host.exp (Host.negf (res_main_while0b_v75 V0))))) (broadcastInDim S8x4x8x8 ![] bcast_S_S8x4x8x8 (id (constant S_ .f32 0x00000000#32)))) (res_main_while0b_v73 V0) : (Proc.devRef .tc main_while0b_v84 : DevRef τ sig).ty.Contents (Elt F)) = Cert.GlaSampleRefIdeal.Step.b39 j s := by
  unfold Cert.GlaSampleRefIdeal.Step.b39
  rw [← al_37 h, ← al_17 h]
  try rfl
set_option maxRecDepth 8192 in
theorem al_40 (h : Holds V0 s j) : (addf (Host.dotGeneral dot_S8x4x8x512_S8x4x512x1024_S8x4x8x1024_3_2_2_3_01_01 none (res_main_while0b_v77 V0) (V0 (Proc.devRef .tc main_v45_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v45_4))) (Host.dotGeneral dot_S8x4x8x512_S8x4x8x512_S8x4x8x8_3_3_2_2_01_01 none (res_main_while0b_v77 V0) (mulf (res_main_while0b_v72 V0) (Host.exp (Host.negf (res_main_while0b_v75 V0))))) (broadcastInDim S8x4x8x8 ![] bcast_S_S8x4x8x8 (id (constant S_ .f32 0x00000000#32)))) (res_main_while0b_v73 V0)) : (Proc.devRef .tc main_while0b_v85 : DevRef τ sig).ty.Contents (Elt F)) = Cert.GlaSampleRefIdeal.Step.b40 j s := by
  unfold Cert.GlaSampleRefIdeal.Step.b40
  rw [← al_38 h, ← al_39 h]
  try rfl
set_option maxRecDepth 8192 in
theorem al_41 (h : Holds V0 s j) : (res_main_while0b_v86 V0 : (Proc.devRef .tc main_while0b_v86 : DevRef τ sig).ty.Contents (Elt F)) = Cert.GlaSampleRefIdeal.Step.b41 j s := by
  unfold res_main_while0b_v86 Cert.GlaSampleRefIdeal.Step.b41
  rw [← al_26 h]
  try rfl
set_option maxRecDepth 8192 in
theorem al_42 (h : Holds V0 s j) : (shapeCast S8x4x512 (res_main_while0b_v86 V0) shapeCasts_S8x4x1x512_S8x4x512 : (Proc.devRef .tc main_while0b_v87 : DevRef τ sig).ty.Contents (Elt F)) = Cert.GlaSampleRefIdeal.Step.b42 j s := by
  unfold Cert.GlaSampleRefIdeal.Step.b42
  rw [← al_41 h]
  try rfl
set_option maxRecDepth 8192 in
theorem al_43 (h : Holds V0 s j) : (broadcastInDim S8x4x512x1 ![0, 1, 2] bcast_S8x4x512_S8x4x512x1_0_1_2 (shapeCast S8x4x512 (res_main_while0b_v86 V0) shapeCasts_S8x4x1x512_S8x4x512) : (Proc.devRef .tc main_while0b_v88 : DevRef τ sig).ty.Contents (Elt F)) = Cert.GlaSampleRefIdeal.Step.b43 j s := by
  unfold Cert.GlaSampleRefIdeal.Step.b43
  rw [← al_42 h]
  try rfl
set_option maxRecDepth 8192 in
theorem al_44 (h : Holds V0 s j) : (Host.exp (broadcastInDim S8x4x512x1 ![0, 1, 2] bcast_S8x4x512_S8x4x512x1_0_1_2 (shapeCast S8x4x512 (res_main_while0b_v86 V0) shapeCasts_S8x4x1x512_S8x4x512)) : (Proc.devRef .tc main_while0b_v89 : DevRef τ sig).ty.Contents (Elt F)) = Cert.GlaSampleRefIdeal.Step.b44 j s := by
  unfold Cert.GlaSampleRefIdeal.Step.b44
  rw [← al_43 h]
  try rfl
set_option maxRecDepth 8192 in
theorem al_45 (h : Holds V0 s j) : (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v86 V0) shapeCasts_S8x4x1x512_S8x4x512))) : (Proc.devRef .tc main_while0b_v90 : DevRef τ sig).ty.Contents (Elt F)) = Cert.GlaSampleRefIdeal.Step.b45 j s := by
  unfold Cert.GlaSampleRefIdeal.Step.b45
  rw [← al_44 h]
  try rfl
set_option maxRecDepth 8192 in
theorem al_46 (h : Holds V0 s j) : (mulf (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v86 V0) shapeCasts_S8x4x1x512_S8x4x512)))) (V0 (Proc.devRef .tc main_v45_6)) : (Proc.devRef .tc main_while0b_v91 : DevRef τ sig).ty.Contents (Elt F)) = Cert.GlaSampleRefIdeal.Step.b46 j s := by
  unfold Cert.GlaSampleRefIdeal.Step.b46
  rw [← al_45 h, h.f_6]
  try rfl
set_option maxRecDepth 8192 in
theorem al_47 (h : Holds V0 s j) : (broadcastInDim S8x4x8x512 ![0, 1, 2, 3] bcast_S8x4x1x512_S8x4x8x512_0_1_2_3 (res_main_while0b_v86 V0) : (Proc.devRef .tc main_while0b_v92 : DevRef τ sig).ty.Contents (Elt F)) = Cert.GlaSampleRefIdeal.Step.b47 j s := by
  unfold Cert.GlaSampleRefIdeal.Step.b47
  rw [← al_41 h]
  try rfl
set_option maxRecDepth 8192 in
theorem al_48 (h : Holds V0 s j) : (subf (broadcastInDim S8x4x8x512 ![0, 1, 2, 3] bcast_S8x4x1x512_S8x4x8x512_0_1_2_3 (res_main_while0b_v86 V0)) (res_main_while0b_v75 V0) : (Proc.devRef .tc main_while0b_v93 : DevRef τ sig).ty.Contents (Elt F)) = Cert.GlaSampleRefIdeal.Step.b48 j s := by
  unfold Cert.GlaSampleRefIdeal.Step.b48
  rw [← al_47 h, ← al_26 h]
  try rfl
set_option maxRecDepth 8192 in
theorem al_49 (h : Holds V0 s j) : (Host.exp (subf (broadcastInDim S8x4x8x512 ![0, 1, 2, 3] bcast_S8x4x1x512_S8x4x8x512_0_1_2_3 (res_main_while0b_v86 V0)) (res_main_while0b_v75 V0)) : (Proc.devRef .tc main_while0b_v94 : DevRef τ sig).ty.Contents (Elt F)) = Cert.GlaSampleRefIdeal.Step.b49 j s := by
  unfold Cert.GlaSampleRefIdeal.Step.b49
  rw [← al_48 h]
  try rfl
set_option maxRecDepth 8192 in
theorem al_50 (h : Holds V0 s j) : (mulf (res_main_while0b_v72 V0) (Host.exp (subf (broadcastInDim S8x4x8x512 ![0, 1, 2, 3] bcast_S8x4x1x512_S8x4x8x512_0_1_2_3 (res_main_while0b_v86 V0)) (res_main_while0b_v75 V0))) : (Proc.devRef .tc main_while0b_v95 : DevRef τ sig).ty.Contents (Elt F)) = Cert.GlaSampleRefIdeal.Step.b50 j s := by
  unfold Cert.GlaSampleRefIdeal.Step.b50
  rw [← al_11 h, ← al_49 h]
  try rfl
set_option maxRecDepth 8192 in
theorem al_51 (h : Holds V0 s j) : (Host.dotGeneral dot_S8x4x8x512_S8x4x8x1024_S8x4x512x1024_2_2_3_3_01_01 none (mulf (res_main_while0b_v72 V0) (Host.exp (subf (broadcastInDim S8x4x8x512 ![0, 1, 2, 3] bcast_S8x4x1x512_S8x4x8x512_0_1_2_3 (res_main_while0b_v86 V0)) (res_main_while0b_v75 V0)))) (res_main_while0b_v73 V0) : (Proc.devRef .tc main_while0b_v96 : DevRef τ sig).ty.Contents (Elt F)) = Cert.GlaSampleRefIdeal.Step.b51 j s := by
  unfold Cert.GlaSampleRefIdeal.Step.b51
  rw [← al_50 h, ← al_17 h]
  try rfl
set_option maxRecDepth 8192 in
theorem al_52 (h : Holds V0 s j) : (addf (mulf (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v86 V0) shapeCasts_S8x4x1x512_S8x4x512)))) (V0 (Proc.devRef .tc main_v45_6))) (Host.dotGeneral dot_S8x4x8x512_S8x4x8x1024_S8x4x512x1024_2_2_3_3_01_01 none (mulf (res_main_while0b_v72 V0) (Host.exp (subf (broadcastInDim S8x4x8x512 ![0, 1, 2, 3] bcast_S8x4x1x512_S8x4x8x512_0_1_2_3 (res_main_while0b_v86 V0)) (res_main_while0b_v75 V0)))) (res_main_while0b_v73 V0)) : (Proc.devRef .tc main_while0b_v97 : DevRef τ sig).ty.Contents (Elt F)) = Cert.GlaSampleRefIdeal.Step.b52 j s := by
  unfold Cert.GlaSampleRefIdeal.Step.b52
  rw [← al_46 h, ← al_51 h]
  try rfl
set_option maxRecDepth 8192 in
theorem al_53 (h : Holds V0 s j) : (broadcastInDim S1x8x4x8x1024 ![1, 2, 3, 4] bcast_S8x4x8x1024_S1x8x4x8x1024_1_2_3_4 (addf (Host.dotGeneral dot_S8x4x8x512_S8x4x512x1024_S8x4x8x1024_3_2_2_3_01_01 none (res_main_while0b_v77 V0) (V0 (Proc.devRef .tc main_v45_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v45_4))) (Host.dotGeneral dot_S8x4x8x512_S8x4x8x512_S8x4x8x8_3_3_2_2_01_01 none (res_main_while0b_v77 V0) (mulf (res_main_while0b_v72 V0) (Host.exp (Host.negf (res_main_while0b_v75 V0))))) (broadcastInDim S8x4x8x8 ![] bcast_S_S8x4x8x8 (id (constant S_ .f32 0x00000000#32)))) (res_main_while0b_v73 V0))) : (Proc.devRef .tc main_while0b_call7_v0 : DevRef τ sig).ty.Contents (Elt F)) = Cert.GlaSampleRefIdeal.Step.b53 j s := by
  unfold Cert.GlaSampleRefIdeal.Step.b53
  rw [← al_40 h]
  try rfl
set_option maxRecDepth 8192 in
theorem al_54 (h : Holds V0 s j) : (constantI S_ 32 0#32 : (Proc.devRef .tc main_while0b_call7_c : DevRef τ sig).ty.Contents (Elt F)) = Cert.GlaSampleRefIdeal.Step.b54 j s := by
  unfold Cert.GlaSampleRefIdeal.Step.b54
  rfl
set_option maxRecDepth 8192 in
theorem al_55 (h : Holds V0 s j) : (constantI S_ 32 0#32 : (Proc.devRef .tc main_while0b_call7_c_0 : DevRef τ sig).ty.Contents (Elt F)) = Cert.GlaSampleRefIdeal.Step.b55 j s := by
  unfold Cert.GlaSampleRefIdeal.Step.b55
  rfl
set_option maxRecDepth 8192 in
theorem al_56 (h : Holds V0 s j) : (constantI S_ 32 0#32 : (Proc.devRef .tc main_while0b_call7_c_1 : DevRef τ sig).ty.Contents (Elt F)) = Cert.GlaSampleRefIdeal.Step.b56 j s := by
  unfold Cert.GlaSampleRefIdeal.Step.b56
  rfl
set_option maxRecDepth 8192 in
theorem al_57 (h : Holds V0 s j) : (constantI S_ 32 0#32 : (Proc.devRef .tc main_while0b_call7_c_2 : DevRef τ sig).ty.Contents (Elt F)) = Cert.GlaSampleRefIdeal.Step.b57 j s := by
  unfold Cert.GlaSampleRefIdeal.Step.b57
  rfl
set_option maxRecDepth 8192 in
theorem al_58 (h : Holds V0 s j) : (Host.dynamicUpdateSlice (V0 (Proc.devRef .tc main_v45_7)) (broadcastInDim S1x8x4x8x1024 ![1, 2, 3, 4] bcast_S8x4x8x1024_S1x8x4x8x1024_1_2_3_4 (addf (Host.dotGeneral dot_S8x4x8x512_S8x4x512x1024_S8x4x8x1024_3_2_2_3_01_01 none (res_main_while0b_v77 V0) (V0 (Proc.devRef .tc main_v45_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v45_4))) (Host.dotGeneral dot_S8x4x8x512_S8x4x8x512_S8x4x8x8_3_3_2_2_01_01 none (res_main_while0b_v77 V0) (mulf (res_main_while0b_v72 V0) (Host.exp (Host.negf (res_main_while0b_v75 V0))))) (broadcastInDim S8x4x8x8 ![] bcast_S_S8x4x8x8 (id (constant S_ .f32 0x00000000#32)))) (res_main_while0b_v73 V0)))) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) updateFits_S1x8x4x8x1024_S1x8x4x8x1024 : (Proc.devRef .tc main_while0b_v98 : DevRef τ sig).ty.Contents (Elt F)) = Cert.GlaSampleRefIdeal.Step.b58 j s := by
  unfold Cert.GlaSampleRefIdeal.Step.b58
  rw [← al_53 h, ← al_54 h, ← al_55 h, ← al_56 h, ← al_57 h, h.f_7, h.n_5]
  try rfl

/-! One trip's step of the carried values is `step`, field by field; a counter steps to the next number. -/

theorem step_6 (h : Holds V0 s j) : step_main_v45_6 V0 = (step j s).main_v45_6 := by
  unfold step_main_v45_6 Cert.GlaSampleRefIdeal.Step.step
  show id (addf (mulf (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v86 V0) shapeCasts_S8x4x1x512_S8x4x512)))) (V0 (Proc.devRef .tc main_v45_6))) (Host.dotGeneral dot_S8x4x8x512_S8x4x8x1024_S8x4x512x1024_2_2_3_3_01_01 none (mulf (res_main_while0b_v72 V0) (Host.exp (subf (broadcastInDim S8x4x8x512 ![0, 1, 2, 3] bcast_S8x4x1x512_S8x4x8x512_0_1_2_3 (res_main_while0b_v86 V0)) (res_main_while0b_v75 V0)))) (res_main_while0b_v73 V0))) = _
  rw [al_52 h]
  try rfl
theorem step_7 (h : Holds V0 s j) : step_main_v45_7 V0 = (step j s).main_v45_7 := by
  unfold step_main_v45_7 Cert.GlaSampleRefIdeal.Step.step
  show id (Host.dynamicUpdateSlice (V0 (Proc.devRef .tc main_v45_7)) (broadcastInDim S1x8x4x8x1024 ![1, 2, 3, 4] bcast_S8x4x8x1024_S1x8x4x8x1024_1_2_3_4 (addf (Host.dotGeneral dot_S8x4x8x512_S8x4x512x1024_S8x4x8x1024_3_2_2_3_01_01 none (res_main_while0b_v77 V0) (V0 (Proc.devRef .tc main_v45_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v45_4))) (Host.dotGeneral dot_S8x4x8x512_S8x4x8x512_S8x4x8x8_3_3_2_2_01_01 none (res_main_while0b_v77 V0) (mulf (res_main_while0b_v72 V0) (Host.exp (Host.negf (res_main_while0b_v75 V0))))) (broadcastInDim S8x4x8x8 ![] bcast_S_S8x4x8x8 (id (constant S_ .f32 0x00000000#32)))) (res_main_while0b_v73 V0)))) (fun k => (((![V0 (Proc.devRef .tc main_v45_5), constantI S_ 32 0#32, constantI S_ 32 0#32, constantI S_ 32 0#32, constantI S_ 32 0#32] : Fin 5 → (⟨S_, .i32⟩ : BufTy).Contents (Elt F))) k (Shape.Idx.first h_S_)).toInt) updateFits_S1x8x4x8x1024_S1x8x4x8x1024) = _
  exact al_58 h
theorem step_5 (h : Holds V0 s j) : step_main_v45_5 V0 = constantI S_ 32 (BitVec.ofNat 32 (j + 1)) := by
  unfold step_main_v45_5
  rw [h.n_5]
  funext i
  show BitVec.ofNat 32 j + 1#32 = BitVec.ofNat 32 (j + 1)
  simp only [BitVec.ofNat_add]

set_option maxRecDepth 8192 in
theorem out_main_v70_holds (h : Holds V0 s j) {x_main_arg0 : (⟨S8x8x12304, .f32⟩ : BufTy).Contents (Elt F)} (h_main_arg0 : V0 (Proc.devRef .tc main_arg0) = x_main_arg0) {x_main_arg3 : (⟨S1x4x1024, .f32⟩ : BufTy).Contents (Elt F)} (h_main_arg3 : V0 (Proc.devRef .tc main_arg3) = x_main_arg3) : out_main_v70 V0 = Cert.GlaSampleRefIdeal.Step.R_main_v70 s x_main_arg0 x_main_arg3 := by
  unfold out_main_v70 Cert.GlaSampleRefIdeal.Step.R_main_v70
  rw [h.f_7, h_main_arg0, h_main_arg3]
  try rfl

/-- One trip keeps the valuation holding: `step` of the state, the same set-up values, the next number. -/
theorem holds_step (h : Holds V0 s j) : Holds (STEP V0) (step j s) (j + 1) where
  f_6 := (STEP_main_v45_6 V0).trans (step_6 h)
  f_7 := (STEP_main_v45_7 V0).trans (step_7 h)
  n_5 := (STEP_main_v45_5 V0).trans (step_5 h)
  k_4 := (STEP_main_v45_4 V0).trans h.k_4
  f_0 := (STEP_main_v45_0 V0).trans h.f_0
  f_1 := (STEP_main_v45_1 V0).trans h.f_1
  f_2 := (STEP_main_v45_2 V0).trans h.f_2
  f_3 := (STEP_main_v45_3 V0).trans h.f_3

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GlaSampleRefIdeal` terminates with each result at its field of state
    number 1 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v70) = Cert.GlaSampleRefIdeal.Step.R_main_v70 (it c 1) (m ((c.tc : Thread nD τ).loc main_arg0)) (m ((c.tc : Thread nD τ).loc main_arg3))
      ∧ r.2.mem ((c.tc : Thread nD τ).loc main_v45_6) = (it c 1).main_v45_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 1
    ⟨(h c).1.trans (out_main_v70_holds hk (iter_main_arg0 m c 1) (iter_main_arg3 m c 1)), (h c).2.1.trans hk.f_6, (h c).2.2.1, (h c).2.2.2.1, (h c).2.2.2.2.1, (h c).2.2.2.2.2.1, (h c).2.2.2.2.2.2⟩) (Value.run m ρ)

end Cert.GlaSampleRefIdeal.Loop

end
-- ==== Proof.GlaS.RefAt.lean ====
/- The one trip of the sample reference's loop at an index: its chunk of every stream, the running sum over a window, the next
   state and the rows of output. -/
module

public import proofs.«01_k».proof.Proof.GlaS.RefLoop
public import proofs.«01_k».proof.Proof.GlaS.Spec
public import proofs.«01_k».proof.Proof.Gla.RefAt
public import Idealize.ShloMosaic.Lib.DynamicIndex
public import Idealize.ShloMosaic.Lib.WordCmp

@[expose] public section

set_option maxRecDepth 16384

noncomputable section

namespace Cert.GlaS

open Idealize.ShloMosaic Idealize.ShloMosaic.TcCoe Cert.Gla Cert.GlaSampleRefIdeal Cert.GlaSampleRefIdeal.Gen Cert.GlaSampleRefIdeal.Step

/-- The running sum of eight rows, written as a sum over a window of 8 padded 7 low. -/
theorem window_at (x : S8x4x8x512.Idx → EReal) (i : S_.Idx → EReal) (hi : ∀ k, i k = 0)
    (hw : S8x4x8x512.ReduceWindows ![1, 1, 8, 1] ![1, 1, 1, 1] ![0, 0, 7, 0] ![0, 0, 0, 0] S8x4x8x512) (hu : 0 < S_.numel)
    (b : Fin 8) (h : Fin 4) (s : Fin 8) (d : Fin 512) :
    Host.reduceWindow (· + ·) ![1, 1, 8, 1] ![1, 1, 1, 1] ![0, 0, 7, 0] ![0, 0, 0, 0] x i hw hu (ix4 b h s d) =
      sumUpTo (fun s d => x (ix4 b h s d)) s d := by
  unfold Host.reduceWindow
  simp only [hi]
  refine (sum_idx_eq_foldl (⟨4, ![1, 1, 8, 1]⟩ : Shape) (fun w => if hin : ∀ a : Fin 4, ![0, 0, 7, 0] a ≤
    ((ix4 b h s d : S8x4x8x512.Idx) a).val * ![1, 1, 1, 1] a + (w a).val ∧
    ((ix4 b h s d : S8x4x8x512.Idx) a).val * ![1, 1, 1, 1] a + (w a).val - ![0, 0, 7, 0] a < S8x4x8x512.size a then
      x (fun a => ⟨((ix4 b h s d : S8x4x8x512.Idx) a).val * ![1, 1, 1, 1] a + (w a).val - ![0, 0, 7, 0] a, (hin a).2⟩)
        else 0)).symm.trans ?_
  rw [sum_idx4]
  simp only [Finset.univ_unique, Finset.sum_singleton]
  unfold sumUpTo win
  rw [← Finset.sum_range_reflect, Finset.sum_range]
  refine Finset.sum_congr rfl fun w _ => ?_
  have hs := s.isLt
  have hwl := w.isLt
  by_cases h7 : 7 - w.val ≤ s.val
  · rw [if_pos (by omega), dif_pos ?_]
    · refine Eq.trans (b := x (ix4 b h ⟨s.val - (8 - 1 - w.val), by omega⟩ d)) (congrArg x ?_)
        (by beta_reduce; rw [dif_pos (by omega)])
      funext a
      fin_cases a
      · exact Fin.ext (by simp)
      · exact Fin.ext (by simp)
      · exact Fin.ext (by simp; omega)
      · exact Fin.ext (by simp)
    · intro a
      fin_cases a
      · simp
      · simp
      · simp; omega
      · simp
  · rw [if_neg (by omega), dif_neg]
    intro hc
    have := (hc 2).1
    simp at this
    omega

theorem start_toInt (j : ℕ) (hj : j < 1) : (BitVec.ofNat 32 j).toInt = j := by
  rw [BitVec.toInt_eq_toNat_of_lt] <;> simp <;> omega

theorem slices512 (j : ℕ) (hj : j < 1) : S1x8x4x8x512.Slices ![j, 0, 0, 0, 0] S1x8x4x8x512 :=
  ⟨rfl, by intro a; fin_cases a <;> simp <;> omega⟩
theorem slices1024 (j : ℕ) (hj : j < 1) : S1x8x4x8x1024.Slices ![j, 0, 0, 0, 0] S1x8x4x8x1024 :=
  ⟨rfl, by intro a; fin_cases a <;> simp <;> omega⟩

/-- The start of a trip's slice and update: the trip's number, and zero on the other axes. -/
theorem starts (j : ℕ) (hj : j < 1) (a : Fin 5) :
    BitVec.toInt ((![constantI S_ 32 (BitVec.ofNat 32 j), constantI S_ 32 0#32, constantI S_ 32 0#32, constantI S_ 32 0#32,
      constantI S_ 32 0#32] : Fin 5 → IVec S_ 32) a (Shape.Idx.first h_S_)) = ((![j, 0, 0, 0, 0] : Fin 5 → ℕ) a : ℤ) := by
  fin_cases a
  · exact start_toInt j hj
  · rfl
  · rfl
  · rfl
  · rfl

variable (j : ℕ) (hj : j < 1) (s : State Ideal) (b : Fin 8) (h : Fin 4)

theorem q_at (c : Fin 8) (d : Fin 512) : b5 j s (ix4 b h c d) = s.main_v45_0 (ix5 ⟨j, hj⟩ b h c d) := by
  unfold b5 b4
  rw [Host.dynamicSlice_eq_extractStridedSlice _ _ _ ![j, 0, 0, 0, 0] _ (slices512 j hj) (starts j hj)]
  pointwise

theorem k_at (c : Fin 8) (d : Fin 512) : b11 j s (ix4 b h c d) = s.main_v45_1 (ix5 ⟨j, hj⟩ b h c d) := by
  unfold b11 b10
  rw [Host.dynamicSlice_eq_extractStridedSlice _ _ _ ![j, 0, 0, 0, 0] _ (slices512 j hj) (starts j hj)]
  pointwise

theorem v_at (c : Fin 8) (e : Fin 1024) : b17 j s (ix4 b h c e) = s.main_v45_2 (ix5 ⟨j, hj⟩ b h c e) := by
  unfold b17 b16
  rw [Host.dynamicSlice_eq_extractStridedSlice _ _ _ ![j, 0, 0, 0, 0] _ (slices1024 j hj) (starts j hj)]
  pointwise

theorem a_at (c : Fin 8) (d : Fin 512) : b23 j s (ix4 b h c d) = s.main_v45_3 (ix5 ⟨j, hj⟩ b h c d) := by
  unfold b23 b22
  rw [Host.dynamicSlice_eq_extractStridedSlice _ _ _ ![j, 0, 0, 0, 0] _ (slices512 j hj) (starts j hj)]
  pointwise

theorem cum_at (c : Fin 8) (d : Fin 512) : b26 j s (ix4 b h c d) = sumUpTo (fun c d => b23 j s (ix4 b h c d)) c d := by
  have hz : b25 (F := Ideal) j s (Shape.Idx.first h_S_) = (0 : EReal) := by
    unfold b25 b24
    exact Ideal.ofBits_zero_f32
  unfold b26
  exact window_at (b23 j s) (fun _ => b25 j s (Shape.Idx.first h_S_)) (fun _ => hz)
    reduceWindows_S8x4x8x512_S8x4x8x512_w1s1p0_0_w1s1p0_0_w8s1p7_0_w1s1p0_0 h_S_ b h c d

include hj in
/-- An update of one trip's rows, at an index. -/
theorem upd_at (x : S1x8x4x8x1024.Idx → EReal) (u : S1x8x4x8x1024.Idx → EReal) (start : Fin 5 → Int)
    (hf : S1x8x4x8x1024.Slices (fun _ => 0) S1x8x4x8x1024)
    (hs : ∀ a : Fin 5, start a = ((![j, 0, 0, 0, 0] : Fin 5 → ℕ) a : ℤ)) (n : Fin 1) (c : Fin 8) (e : Fin 1024) :
    Host.dynamicUpdateSlice x u start hf (ix5 n b h c e) = u (ix5 0 b h c e) := by
  have cl (a : Fin 5) : Host.clampedStart S1x8x4x8x1024 S1x8x4x8x1024 hf.1 start a = (![j, 0, 0, 0, 0] : Fin 5 → ℕ) a :=
    Host.clampedStart_of_le _ _ _ _ (hs a) ((slices1024 j hj).2 a)
  pointwise
  have c0 := cl 0
  have c1 := cl 1
  have c2 := cl 2
  have c3 := cl 3
  have c4 := cl 4
  simp only [Matrix.cons_val] at c0 c1 c2 c3 c4
  simp only [c0, c1, c2, c3, c4]
  rw [dif_pos ⟨⟨by omega, by omega⟩, ⟨by omega, by omega⟩, ⟨by omega, by omega⟩, ⟨by omega, by omega⟩, by omega, by omega⟩]
  blk_ext []

/-- The trip's own streams, of the stacked chunks in the state. -/
def tripQ (s : State Ideal) (b : Fin 8) (h : Fin 4) (n : Fin 1) (c : Fin 8) (d : Fin 512) : EReal := s.main_v45_0 (ix5 n b h c d)
def tripK (s : State Ideal) (b : Fin 8) (h : Fin 4) (n : Fin 1) (c : Fin 8) (d : Fin 512) : EReal := s.main_v45_1 (ix5 n b h c d)
def tripV (s : State Ideal) (b : Fin 8) (h : Fin 4) (n : Fin 1) (c : Fin 8) (e : Fin 1024) : EReal := s.main_v45_2 (ix5 n b h c e)
def tripA (s : State Ideal) (b : Fin 8) (h : Fin 4) (n : Fin 1) (c : Fin 8) (d : Fin 512) : EReal := s.main_v45_3 (ix5 n b h c d)

include hj in
theorem sum_at (c : Fin 8) (d : Fin 512) : b26 j s (ix4 b h c d) = sumUpTo (tripA s b h ⟨j, hj⟩) c d := by
  rw [cum_at]
  exact congrArg (fun f => sumUpTo f c d) (by funext c d; exact a_at j hj s b h c d)

/-- The next state of a trip. -/
theorem next_at (d : Fin 512) (e : Fin 1024) : b52 j s (ix4 b h d e) = lastS (sumUpTo (tripA s b h ⟨j, hj⟩)) (tripK s b h ⟨j, hj⟩)
    (tripV s b h ⟨j, hj⟩) (fun d e => s.main_v45_6 (ix4 b h d e)) d e := by
  refine Eq.trans (b := Ideal.exp (b26 j s (ix4 b h 7 d)) * s.main_v45_6 (ix4 b h d e) +
    ∑ x, b11 j s (ix4 b h x d) * Ideal.exp (b26 j s (ix4 b h 7 d) - b26 j s (ix4 b h x d)) * b17 j s (ix4 b h x e)) ?_ ?_
  · pointwise [b52, b51, b50, b49, b48, b47, b46, b45, b44, b43, b42, b41]
  · simp only [sum_at j hj, k_at j hj, v_at j hj]
    rfl

/-- A trip's rows of output. The queries in the state are scaled already. -/
theorem rows_at (q : Fin 8 → Fin 512 → EReal) (hq : ∀ c d, tripQ s b h ⟨j, hj⟩ c d = q c d * Ideal.ofBits .f32 0x3D3504F3#32)
    (c : Fin 8) (e : Fin 1024) : b40 j s (ix4 b h c e) = rowO (sumUpTo (tripA s b h ⟨j, hj⟩)) q (tripK s b h ⟨j, hj⟩)
    (tripV s b h ⟨j, hj⟩) (fun d e => s.main_v45_6 (ix4 b h d e)) c e := by
  refine Eq.trans (b := ∑ x, b5 j s (ix4 b h c x) * Ideal.exp (b26 j s (ix4 b h c x)) * s.main_v45_6 (ix4 b h x e) +
      ∑ x : Fin 8, Scalar.select (Scalar.select (IntOp.cmpi CmpIPredicate.sge (IntOp.addi (BitVec.ofNat 32 c.val) 0#32)
        (BitVec.ofNat 32 x.val)) 1#1 0#1) ((∑ x_1, b5 j s (ix4 b h c x_1) * Ideal.exp (b26 j s (ix4 b h c x_1)) *
          (b11 j s (ix4 b h x x_1) * Ideal.exp (-b26 j s (ix4 b h x x_1)))) * b17 j s (ix4 b h x e)) 0) ?_ ?_
  · pointwise [b40, b39, b38, b37, b36, b35, b34, b33, b32, b31, b30, b29, b28, b27, K_main_v35, K_main_call0_v5,
      K_main_call0_v4, K_main_call0_v3, K_main_call0_v2, K_main_call0_v1, K_main_call0_v0, K_main_call0_c, K_main_call0_c_0,
      K_main_v34, K_main_c]
  · have hb5 (c : Fin 8) (d : Fin 512) : b5 j s (ix4 b h c d) = q c d * Ideal.ofBits .f32 0x3D3504F3#32 :=
      (q_at j hj s b h c d).trans (hq c d)
    unfold rowO qDec8
    simp only [hb5, sum_at j hj, k_at j hj, v_at j hj]
    congr 1
    refine Finset.sum_congr rfl fun x _ => ?_
    rw [mask_at _ _ (by have := c.isLt; omega) (by have := x.isLt; omega)]
    rfl

include hj in
/-- The stacked outputs after a trip. -/
theorem stack_at (n : Fin 1) (c : Fin 8) (e : Fin 1024) : b58 j s (ix5 n b h c e) =
    b40 j s (ix4 b h c e) := by
  have h53 : b53 j s (ix5 0 b h c e) = b40 j s (ix4 b h c e) := by
    unfold b53
    generalize b40 j s = y
    pointwise
  unfold b58 b54 b55 b56 b57
  rw [upd_at j hj b h _ _ _ _ (starts j hj), h53]

end Cert.GlaS

end
-- ==== Proof.GlaS.RefArrays.lean ====
/- The sample reference's results: its loop's one trip gives the last state of every head and the rows of output. -/
module

public import proofs.«01_k».proof.Proof.GlaS.RefAt
public import proofs.«01_k».proof.Proof.Gla.RefArrays

@[expose] public section

set_option maxRecDepth 16384

noncomputable section

namespace Cert.GlaS

open Idealize.ShloMosaic Idealize.ShloMosaic.TcCoe Cert.Gla Cert.GlaSampleRefIdeal Cert.GlaSampleRefIdeal.Gen
open Cert.GlaSampleRefIdeal.Step

section Streams

variable (p : FVec Ideal S8x8x12304 .f32) (w : FVec Ideal S1x16x2048 .f32) (bg : FVec Ideal S1x2048 .f32)
  (b : Fin 8) (h : Fin 4) (n : Fin 1)

theorem row_of (c : Fin 8) : (⟨n.val * 8 + c.val, by omega⟩ : Fin 8) = c :=
  Fin.ext (by show n.val * 8 + c.val = c.val; omega)

/-- The queries, scaled. -/
theorem q_row (c : Fin 8) (d : Fin 512) : A_main_v37 (F := Ideal) p w bg (ix5 n b h c d) =
    qRow p b h c d * Ideal.ofBits .f32 0x3D3504F3#32 := by
  obtain rfl : n = 0 := Subsingleton.elim _ _
  unfold qRow
  pointwise [A_main_v37, A_main_v36, A_main_v30, A_main_v28, A_main_v0, K_main_v29, K_main_cst_1]

theorem k_row (c : Fin 8) (d : Fin 512) : A_main_v39 (F := Ideal) p w bg (ix5 n b h c d) = kRow p b h c d := by
  obtain rfl : n = 0 := Subsingleton.elim _ _
  unfold kRow
  pointwise [A_main_v39, A_main_v38, A_main_v31, A_main_v1]

theorem v_row (c : Fin 8) (e : Fin 1024) : A_main_v41 (F := Ideal) p w bg (ix5 n b h c e) = vRow p b h c e := by
  obtain rfl : n = 0 := Subsingleton.elim _ _
  unfold vRow
  pointwise [A_main_v41, A_main_v40, A_main_v32, A_main_v2]

theorem a_row (c : Fin 8) (d : Fin 512) : A_main_v43 (F := Ideal) p w bg (ix5 n b h c d) = aRow p w bg b h c d := by
  obtain rfl : n = 0 := Subsingleton.elim _ _
  unfold aRow
  rw [← logGate_ref]
  pointwise [A_main_v43, A_main_v42, A_main_v33, A_main_v27, A_main_v25, A_main_v24, A_main_v23, A_main_v22, A_main_v21,
    A_main_v20, A_main_v19, A_main_v18, A_main_v16, A_main_v15, A_main_v13, A_main_v11, A_main_v10, A_main_v9, A_main_v8,
    A_main_v7, A_main_v6, A_main_v5, A_main_v4, K_main_v26, K_main_cst_0, K_main_cst, K_main_v12, K_main_v14, K_main_v17]

end Streams

variable (p : FVec Ideal S8x8x12304 .f32) (w : FVec Ideal S1x16x2048 .f32) (bg : FVec Ideal S1x2048 .f32)
  (gn : FVec Ideal S1x4x1024 .f32) (s0 : FVec Ideal S8x4x512x1024 .f32)

theorem init_q (b : Fin 8) (h : Fin 4) (k : Fin 1) (r : Fin 8) (d : Fin 512) : tripQ (init (F := Ideal) s0 p w bg) b h k r d =
    qRow p b h r d * Ideal.ofBits .f32 0x3D3504F3#32 :=
  q_row p w bg b h k r d

theorem init_k (b : Fin 8) (h : Fin 4) (k : Fin 1) : tripK (init (F := Ideal) s0 p w bg) b h k =
    kRow p b h := by
  funext r d
  exact k_row p w bg b h k r d

theorem init_v (b : Fin 8) (h : Fin 4) (k : Fin 1) : tripV (init (F := Ideal) s0 p w bg) b h k =
    vRow p b h := by
  funext r d
  exact v_row p w bg b h k r d

theorem init_a (b : Fin 8) (h : Fin 4) (k : Fin 1) : tripA (init (F := Ideal) s0 p w bg) b h k =
    aRow p w bg b h := by
  funext r d
  exact a_row p w bg b h k r d

/-- The state after the trip. -/
theorem ref_state (b : Fin 8) (h : Fin 4) (d : Fin 512) (e : Fin 1024) :
    (step 0 (init (F := Ideal) s0 p w bg)).main_v45_6 (ix4 b h d e) = stateEnd p
      w bg s0 b h d e := by
  rw [step_main_v45_6]
  refine (next_at 0 (by decide) _ b h d e).trans ?_
  rw [init_a, init_k, init_v]
  rfl

/-- The rows of output before the norm. -/
theorem ref_rows (b : Fin 8) (h : Fin 4) (k : Fin 1) (r : Fin 8) (e : Fin 1024) :
    (step 0 (init (F := Ideal) s0 p w bg)).main_v45_7 (ix5 k b h r e) = tokenO p
      w bg s0 b h r e := by
  rw [step_main_v45_7]
  refine (stack_at 0 (by decide) _ b h k r e).trans ?_
  rw [rows_at 0 (by decide) _ b h _ (fun r d => init_q p w bg s0 b h _ r d), init_a, init_k, init_v]
  rfl

/-- The sample reference's gated outputs. -/
theorem ref_out8 (b l : Fin 8) (x : Fin 4096) :
    R_main_v70 (step 0 (init (F := Ideal) s0 p w bg)) p gn (ix3 b l x) =
      tokenOut p w bg
        gn s0 b ⟨x.val / 1024, by omega⟩ l
        ⟨x.val % 1024, by omega⟩ := by
  have ho (e : Fin 1024) := ref_rows p w bg s0 b ⟨x.val / 1024, by omega⟩ 0 l e
  generalize step 0 (init (F := Ideal) s0 p w bg) = s at ho ⊢
  pointwise [R_main_v70]
  simp only [ho]
  unfold tokenOut normGate Ideal.logistic
  have hr : rRow p b ⟨x.val / 1024, by omega⟩ l ⟨x.val % 1024, by omega⟩ =
      p (ix3 b l ⟨8192 + x.val, by omega⟩) := by
    unfold rRow
    blk_ext []
  rw [hr]

end Cert.GlaS

end
-- ==== Proof.GlaS.Claim.lean ====
/- The claims about gated linear attention at the shapes of the sample batch: the reference's frame, and the equality of both
   programs' gated outputs and last states. -/
module

public import proofs.«01_k».proof.Defs
public import proofs.«01_k».proof.Proof.Gen.GlaSampleIdeal
public import proofs.«01_k».proof.Proof.Gen.GlaSampleRefIdeal
public import proofs.«01_k».proof.Proof.GlaS.Arrays
public import proofs.«01_k».proof.Proof.GlaS.RefArrays
public import Idealize.ShloMosaic.Adequacy
public import Idealize.ShloMosaic.Init
public import Idealize.ShloMosaic.Lib.Claim

@[expose] public section

noncomputable section

namespace Cert.GlaSamplePf

open Idealize.ShloMosaic Idealize.SL.Sem

/-- The reference's state after each number of trips. -/
def trips (m : (ℓ : Loc Cert.GlaSampleRefIdeal.nD Cert.GlaSampleRefIdeal.τ Cert.GlaSampleRefIdeal.sig) → Buf (Elt Ideal) ℓ)
    (c : Dev Cert.GlaSampleRefIdeal.nD) : ℕ → Cert.GlaSampleRefIdeal.Step.State Ideal
  | 0 => Cert.GlaSampleRefIdeal.Loop.initState m c
  | n + 1 => Cert.GlaSampleRefIdeal.Step.step n (trips m c n)

/-- The reference runs and keeps its arguments. -/
theorem frame_ref : Cert.quiescent_GlaSampleRefIdeal (hGlaSampleRefIdeal := Cert.GlaSampleRefIdeal.Gen.facts) := by
  intro m g _
  exact (θ_run _ _ _).mono (fun r h => ⟨fun c => (h c).2.2, sem_eq_zero_of_no_sems (by decide) r.2⟩)
    (Cert.GlaSampleRefIdeal.Loop.run_iter m g (trips m) (fun _ => rfl) (fun _ _ => rfl))

/-- The call and the reference's recurrence give the same outputs and the same last states. -/
theorem algebraic : Cert.algebraic_GlaSampleIdeal_GlaSampleRefIdeal (hGlaSampleIdeal := Cert.GlaSampleIdeal.Gen.facts)
    (hGlaSampleRefIdeal := Cert.GlaSampleRefIdeal.Gen.facts) := by
  pair_intro
  · run_from Cert.GlaSampleIdeal.Value.run_blocks m g
  · refine (θ_run _ _ _).mono (fun r h c => ?_)
      (Cert.GlaSampleRefIdeal.Loop.run_iter m' g' (trips m') (fun _ => rfl) (fun _ _ => rfl))
    obtain ⟨a0, a1, a2, a3, a4⟩ := hagree c
    refine ⟨(h c).1.trans (Eq.trans ?_ (Cert.GlaS.tok_array m c).symm),
      (h c).2.1.trans (Eq.trans ?_ (Cert.GlaS.end_array m c).symm), (h c).2.2⟩
    · funext i
      obtain ⟨b, l, x, rfl⟩ : ∃ (b l : Fin 8) (x : Fin 4096), i = ix3 b l x := ⟨i 0, i 1, i 2, (ix3_eta i).symm⟩
      refine (Cert.GlaS.ref_out8 _ _ _ _ _ _ _ _).trans ?_
      unfold Cert.GlaS.kTok
      rw [← a0, ← a1, ← a2, ← a3, ← a4]
      rfl
    · funext i
      obtain ⟨b, h, d, e, rfl⟩ : ∃ (b : Fin 8) (h : Fin 4) (d : Fin 512) (e : Fin 1024), i = ix4 b h d e :=
        ⟨i 0, i 1, i 2, i 3, (ix4_eta i).symm⟩
      refine (Cert.GlaS.ref_state _ _ _ _ _ _ _ _).trans ?_
      unfold Cert.GlaS.kEnd
      rw [← a0, ← a1, ← a2, ← a4]
      rfl

end Cert.GlaSamplePf

end
-- ==== Proof.Means.Words.lean ====
/- The page table's words under the precondition, and the blocks they name. -/
module

public import proofs.«01_k».proof.Defs
public import proofs.«01_k».proof.Proof.Gen.BlockMeans
public import proofs.«01_k».proof.Proof.Gen.BlockMeans.Frame
public import proofs.«01_k».proof.Proof.Gen.BlockMeansIdeal
public import proofs.«01_k».proof.Proof.Gen.BlockMeansIdeal.Frame
public import proofs.«01_k».proof.Proof.Gen.Pre_pages_exist
public import Idealize.ShloMosaic.Lib.ReduceAll

@[expose] public section

set_option maxRecDepth 16384

noncomputable section

namespace Cert.MeansPf

open Idealize.ShloMosaic Idealize.ShloMosaic.TcCoe Idealize.SL.Sem

/-- Under the precondition every word of the table is the number of a page of the cache. -/
theorem word_lt {F : FTy → Type} [FloatOps F] (x : FVec F Cert.Pre_pages_exist.S1280x128x8x128 .f32)
    (pt : IVec Cert.Pre_pages_exist.S8x128 32) (h : Cert.Pre_pages_exist.fn (F := F) x pt = fun _ => 1#1)
    (i : Cert.Pre_pages_exist.S8x128.Idx) : (pt i).toNat < 1280 := by
  have andi_one (a b : BitVec 1) : IntOp.andi a b = 1#1 → a = 1#1 ∧ b = 1#1 := by revert a b; decide
  have e := congrFun h (fun a => a.elim0)
  have k := andi_one _ _ (Host.reduce_andi_all _ _ _ _ _ e i)
  have k1 : IntOp.cmpi .sge (pt i) 0#32 = 1#1 := k.1
  have k2 : IntOp.cmpi .slt (pt i) 1280#32 = 1#1 := k.2
  have l1 := IntOp.cmpi_sge.1 k1
  have l2 := IntOp.cmpi_slt.1 k2
  simp only [BitVec.toInt, BitVec.toNat_ofNat] at l1 l2
  have := (pt i).isLt
  split at l1 <;> simp_all <;> omega

/-- Four words below 1280 name four blocks of the cache. -/
theorem page_in (w : BitVec 32) (h : w.toNat < 1280) (a : Fin 4) :
    ((![w.toNat, (0#32).toNat, (0#32).toNat, (0#32).toNat] : Fin 4 → Nat) a + 1) *
      Cert.BlockMeansIdeal.S1x128x8x128.size a ≤ Cert.BlockMeansIdeal.S1280x128x8x128.size a := by
  fin_cases a
  · show (w.toNat + 1) * 1 ≤ 1280
    omega
  · show (0 + 1) * 128 ≤ 128
    omega
  · show (0 + 1) * 8 ≤ 8
    omega
  · show (0 + 1) * 128 ≤ 128
    omega

theorem ok_bits (m : (ℓ : Loc Cert.BlockMeans.nD Cert.BlockMeans.τ Cert.BlockMeans.sig) → Buf (Elt Bits) ℓ)
    (h : Cert.Pre_BlockMeans m) : Cert.BlockMeans.Gen.Ok m := by
  have hw := word_lt _ _ (h 0)
  exact ⟨fun i => ⟨fun a => page_in _ (hw _) a, .inl rfl⟩, fun i => ⟨fun a => page_in _ (hw _) a, .inl rfl⟩,
    fun i => ⟨fun a => page_in _ (hw _) a, .inl rfl⟩, fun i => ⟨fun a => page_in _ (hw _) a, .inl rfl⟩⟩

theorem ok_ideal (m : (ℓ : Loc Cert.BlockMeansIdeal.nD Cert.BlockMeansIdeal.τ Cert.BlockMeansIdeal.sig) → Buf (Elt Ideal) ℓ)
    (h : Cert.Pre_BlockMeansIdeal m) : Cert.BlockMeansIdeal.Gen.Ok m := by
  have hw := word_lt _ _ (h 0)
  exact ⟨fun i => ⟨fun a => page_in _ (hw _) a, .inl rfl⟩, fun i => ⟨fun a => page_in _ (hw _) a, .inl rfl⟩,
    fun i => ⟨fun a => page_in _ (hw _) a, .inl rfl⟩, fun i => ⟨fun a => page_in _ (hw _) a, .inl rfl⟩⟩

theorem frame_bits : Cert.quiescent_BlockMeans (hBlockMeans := Cert.BlockMeans.Gen.facts) :=
  fun m ρ h => Cert.BlockMeans.Gen.frame m ρ (ok_bits m h)

theorem frame_ideal : Cert.quiescent_BlockMeansIdeal (hBlockMeansIdeal := Cert.BlockMeansIdeal.Gen.facts) :=
  fun m ρ h => Cert.BlockMeansIdeal.Gen.frame m ρ (ok_ideal m h)

end Cert.MeansPf

end
-- ==== Proof.Means.Array.lean ====
/- The array of block means the call leaves, over the extended reals. -/
module

public import proofs.«01_k».proof.Proof.Means.Words
public import Idealize.ShloMosaic.Lib.Pointwise
public import Idealize.ShloMosaic.Lib.Pipeline.ValueKit

@[expose] public section

set_option maxRecDepth 16384

noncomputable section

namespace Cert.MeansPf

open Idealize.ShloMosaic Idealize.ShloMosaic.TcCoe Idealize.SL.Sem

/-- The page a word of the table names. -/
def pageOf (w : BitVec 32) : Fin 1280 := ⟨min w.toNat 1279, by omega⟩

/-- The sum of a page's rows. -/
def pageSum (x : Cert.BlockMeansIdeal.S1280x128x8x128.Idx → EReal) (w : BitVec 32) (h : Fin 8) (d : Fin 128) : EReal :=
  ∑ s : Fin 128, x (ix4 (pageOf w) s h d)

/-- The mean of a block of two pages. -/
def blockMean (x : Cert.BlockMeansIdeal.S1280x128x8x128.Idx → EReal) (pt : Cert.BlockMeansIdeal.S8x128.Idx → BitVec 32)
    (b : Fin 8) (j : Fin 64) (h : Fin 8) (d : Fin 128) : EReal :=
  (pageSum x (pt (ix2 b ⟨2 * j.val, by omega⟩)) h d + pageSum x (pt (ix2 b ⟨2 * j.val + 1, by omega⟩)) h d) *
    Scalar.ofBits (F := Ideal) .f32 0x3B800000#32

open Cert.BlockMeansIdeal Cert.BlockMeansIdeal.Gen

/-- The word of the table window `r` of a grid point reads. -/
theorem off_at : ∀ t : Fin grid0.N, ∀ r : Fin 4, k0_off1 (grid0.coords t) (BitVec.ofNat 32 r.val) =
    ![t.val / 32, 4 * (t.val % 32) + r.val] := by decide +kernel

theorem idx_out : ∀ t : Fin grid0.N, cc0_transform_4 (grid0.coords t) = ![t.val / 32, t.val % 32, 0, 0] := by decide +kernel

theorem mean1_at (x y : S1x128x8x128.Idx → EReal) (h : Fin 8) (d : Fin 128) : (k0_pay1 (F := Ideal) x y (ix4 0 0 h d) : EReal) =
    ((∑ s : Fin 128, x (ix4 0 s h d)) + ∑ s : Fin 128, y (ix4 0 s h d)) * Scalar.ofBits (F := Ideal) .f32 0x3B800000#32 := by
  pointwise [k0_pay1]

theorem mean2_at (x y : S1x128x8x128.Idx → EReal) (h : Fin 8) (d : Fin 128) : (k0_pay2 (F := Ideal) x y (ix4 0 0 h d) : EReal) =
    ((∑ s : Fin 128, x (ix4 0 s h d)) + ∑ s : Fin 128, y (ix4 0 s h d)) * Scalar.ofBits (F := Ideal) .f32 0x3B800000#32 := by
  pointwise [k0_pay2]

variable (m : (ℓ : Loc nD τ sig) → Buf (Elt Ideal) ℓ) (hO : Ok m) (c : Dev nD)

/-- The word window `r` of point `t` reads. -/
def wordAt (t : Fin grid0.N) (r : Fin 4) : BitVec 32 :=
  m (((0 : Dev nD) : Thread nD τ).loc main_arg1) (ix2 ⟨t.val / 32, by have h : t.val < 256 := t.isLt; omega⟩ ⟨4 * (t.val % 32) + r.val, by omega⟩)

theorem read_word (t : Fin grid0.N) (r : Fin 4) :
    (tbl m).at 0 (Rect.unit (s := S8x128) (k0_off1 (grid0.coords t) (BitVec.ofNat 32 r.val)) S1x1.size
      (k0_off1_inb (grid0.coords t) r)) numel1_S1x1 = wordAt m t r := by
  refine congrArg (m (((0 : Dev nD) : Thread nD τ).loc main_arg1)) ?_
  have h0 := congrFun (off_at t r) 0
  have h1 := congrFun (off_at t r) 1
  have k0 : k0_off1 (grid0.coords t) (BitVec.ofNat 32 r.val) 0 + 1 * 0 = t.val / 32 := by rw [h0]; rfl
  have k1 : k0_off1 (grid0.coords t) (BitVec.ofNat 32 r.val) 1 + 1 * 0 = 4 * (t.val % 32) + r.val := by rw [h1]; rfl
  funext a
  refine Fin.ext ?_
  match a with
  | ⟨0, _⟩ => exact k0
  | ⟨1, _⟩ => exact k1

theorem page_at (w v : BitVec 32) (e : w = v) (hv : v.toNat < 1280) : w.toNat * 1 + 1 * 0 = (pageOf v).val := by
  subst e
  show _ = min w.toNat 1279
  omega

variable (hw : ∀ i, (m (((0 : Dev nD) : Thread nD τ).loc main_arg1) i).toNat < 1280)
include hw

theorem blk_page0 (t : Fin (cfgM m hO).N) (s : Fin 128) (h : Fin 8) (d : Fin 128) : iblk m hO c 0 t (ix4 0 s h d) =
    m ((c : Thread nD τ).loc main_arg0) (ix4 (pageOf (wordAt m t 0)) s h d) := by
  refine congrArg (V m c main_arg0) ?_
  funext a
  refine Fin.ext ?_
  match a with
  | ⟨0, _⟩ => exact page_at _ _ (read_word m t 0) (hw _)
  | ⟨1, _⟩ => exact (by omega : 0 * 128 + 1 * s.val = s.val)
  | ⟨2, _⟩ => exact (by omega : 0 * 8 + 1 * h.val = h.val)
  | ⟨3, _⟩ => exact (by omega : 0 * 128 + 1 * d.val = d.val)

theorem blk_page1 (t : Fin (cfgM m hO).N) (s : Fin 128) (h : Fin 8) (d : Fin 128) : iblk m hO c 1 t (ix4 0 s h d) =
    m ((c : Thread nD τ).loc main_arg0) (ix4 (pageOf (wordAt m t 1)) s h d) := by
  refine congrArg (V m c main_arg0) ?_
  funext a
  refine Fin.ext ?_
  match a with
  | ⟨0, _⟩ => exact page_at _ _ (read_word m t 1) (hw _)
  | ⟨1, _⟩ => exact (by omega : 0 * 128 + 1 * s.val = s.val)
  | ⟨2, _⟩ => exact (by omega : 0 * 8 + 1 * h.val = h.val)
  | ⟨3, _⟩ => exact (by omega : 0 * 128 + 1 * d.val = d.val)

theorem blk_page2 (t : Fin (cfgM m hO).N) (s : Fin 128) (h : Fin 8) (d : Fin 128) : iblk m hO c 2 t (ix4 0 s h d) =
    m ((c : Thread nD τ).loc main_arg0) (ix4 (pageOf (wordAt m t 2)) s h d) := by
  refine congrArg (V m c main_arg0) ?_
  funext a
  refine Fin.ext ?_
  match a with
  | ⟨0, _⟩ => exact page_at _ _ (read_word m t 2) (hw _)
  | ⟨1, _⟩ => exact (by omega : 0 * 128 + 1 * s.val = s.val)
  | ⟨2, _⟩ => exact (by omega : 0 * 8 + 1 * h.val = h.val)
  | ⟨3, _⟩ => exact (by omega : 0 * 128 + 1 * d.val = d.val)

theorem blk_page3 (t : Fin (cfgM m hO).N) (s : Fin 128) (h : Fin 8) (d : Fin 128) : iblk m hO c 3 t (ix4 0 s h d) =
    m ((c : Thread nD τ).loc main_arg0) (ix4 (pageOf (wordAt m t 3)) s h d) := by
  refine congrArg (V m c main_arg0) ?_
  funext a
  refine Fin.ext ?_
  match a with
  | ⟨0, _⟩ => exact page_at _ _ (read_word m t 3) (hw _)
  | ⟨1, _⟩ => exact (by omega : 0 * 128 + 1 * s.val = s.val)
  | ⟨2, _⟩ => exact (by omega : 0 * 8 + 1 * h.val = h.val)
  | ⟨3, _⟩ => exact (by omega : 0 * 128 + 1 * d.val = d.val)

/-- The block of means a point leaves, at an index. -/
def rowMean (t : Fin (cfgM m hO).N) (y : S1x2x8x128.Idx) : EReal :=
  if (y 1).val = 0 then k0_pay1 (F := Ideal) (iblk m hO c 0 t) (iblk m hO c 1 t) (ix4 0 0 (y 2) (y 3))
  else k0_pay2 (F := Ideal) (iblk m hO c 2 t) (iblk m hO c 3 t) (ix4 0 0 (y 2) (y 3))

omit hw in
/-- A load of a whole staged page gives the page. -/
theorem load_page (M : Memref sig .tc .vmem S1x128x8x128 .f32) (h : M.IsWhole) (X : S1x128x8x128.Idx → Elt Ideal .f32) :
    View.readAt (Elt Ideal) M.view (Rect.unit ![0, 0, 0, 0] ![1, 128, 8, 128] inb_S1x128x8x128_S1x128x8x128_0_0_0_0).toLoadRect
      (h.unread X) = X := by
  rw [View.readAt_eq_ld, h.read_unread]
  exact View.ld_unit_lit' _ X (by decide)

omit hw in
theorem row_eta (x : S1x1x8x128.Idx) : x = (ix4 0 0 (x 2) (x 3) : S1x1x8x128.Idx) := by
  have h0 : (x 0).val < 1 := (x 0).isLt
  have h1 : (x 1).val < 1 := (x 1).isLt
  funext a
  match a with
  | ⟨0, _⟩ => exact Fin.ext (by show (x 0).val = 0; omega)
  | ⟨1, _⟩ => exact Fin.ext (by show (x 1).val = 0; omega)
  | ⟨2, _⟩ => rfl
  | ⟨3, _⟩ => rfl

omit hw in
theorem fst_row (t : Fin (cfgM m hO).N) (x : S1x1x8x128.Idx) : k0_pay1 (F := Ideal) (iblk m hO c 0 t) (iblk m hO c 1 t) x =
    rowMean m hO c t ((Rect.unit (s := S1x2x8x128) ![0, 0, 0, 0] ![1, 1, 8, 128] inb_S1x2x8x128_S1x1x8x128_0_0_0_0).emb x) := by
  have h1 : (x 1).val < 1 := (x 1).isLt
  refine Eq.trans ?_ (if_pos (by show 0 + 1 * (x 1).val = 0; omega)).symm
  refine congrArg _ ((row_eta x).trans ?_)
  have e2 : (x 2) = ((Rect.unit (s := S1x2x8x128) ![0, 0, 0, 0] ![1, 1, 8, 128] inb_S1x2x8x128_S1x1x8x128_0_0_0_0).emb x) 2 :=
    Fin.ext (by show (x 2).val = 0 + 1 * (x 2).val; omega)
  have e3 : (x 3) = ((Rect.unit (s := S1x2x8x128) ![0, 0, 0, 0] ![1, 1, 8, 128] inb_S1x2x8x128_S1x1x8x128_0_0_0_0).emb x) 3 :=
    Fin.ext (by show (x 3).val = 0 + 1 * (x 3).val; omega)
  exact congrArg₂ (fun (a : Fin 8) (b : Fin 128) => (ix4 0 0 a b : S1x1x8x128.Idx)) e2 e3

omit hw in
theorem snd_row (t : Fin (cfgM m hO).N) (x : S1x1x8x128.Idx) : k0_pay2 (F := Ideal) (iblk m hO c 2 t) (iblk m hO c 3 t) x =
    rowMean m hO c t ((Rect.unit (s := S1x2x8x128) ![0, 1, 0, 0] ![1, 1, 8, 128] inb_S1x2x8x128_S1x1x8x128_0_1_0_0).emb x) := by
  have h1 : (x 1).val < 1 := (x 1).isLt
  refine Eq.trans ?_ (if_neg (by show ¬ (1 + 1 * (x 1).val = 0); omega)).symm
  refine congrArg _ ((row_eta x).trans ?_)
  have e2 : (x 2) = ((Rect.unit (s := S1x2x8x128) ![0, 1, 0, 0] ![1, 1, 8, 128] inb_S1x2x8x128_S1x1x8x128_0_1_0_0).emb x) 2 :=
    Fin.ext (by show (x 2).val = 0 + 1 * (x 2).val; omega)
  have e3 : (x 3) = ((Rect.unit (s := S1x2x8x128) ![0, 1, 0, 0] ![1, 1, 8, 128] inb_S1x2x8x128_S1x1x8x128_0_1_0_0).emb x) 3 :=
    Fin.ext (by show (x 3).val = 0 + 1 * (x 3).val; omega)
  exact congrArg₂ (fun (a : Fin 8) (b : Fin 128) => (ix4 0 0 a b : S1x1x8x128.Idx)) e2 e3

omit hw in
theorem block_rows (t : Fin (cfgM m hO).N) (y : S1x2x8x128.Idx) : outsAt0 m hO c t y = rowMean m hO c t y := by
  unfold outsAt0 out0_A_4
  refine View.read_writes_apply_of_pieces (Val := Elt Ideal) _ _ (rowMean m hO c t) _ ?_ y (cover0_A_4 ..)
  unfold kernelRun0_A
  dsimp only
  intro p hp
  rcases List.mem_cons.mp hp with rfl | hp
  · exact fun x => (congrFun (congrArg₂ (k0_pay2 (F := Ideal)) (load_page (ms0_2 m hO t) (hs0_2 m hO t) (iblk m hO c 2 t))
      (load_page (ms0_3 m hO t) (hs0_3 m hO t) (iblk m hO c 3 t))) x).trans (snd_row m hO c t x)
  · obtain rfl := List.mem_singleton.mp hp
    exact fun x => (congrFun (congrArg₂ (k0_pay1 (F := Ideal)) (load_page (ms0_0 m hO t) (hs0_0 m hO t) (iblk m hO c 0 t))
      (load_page (ms0_1 m hO t) (hs0_1 m hO t) (iblk m hO c 1 t))) x).trans (fst_row m hO c t x)

/-- The block of means a point leaves, in the argument arrays. -/
theorem rowMean_at (t : Fin (cfgM m hO).N) (y : S1x2x8x128.Idx) (b : Fin 8) (j : Fin 64) (h : Fin 8) (d : Fin 128)
    (eb : b.val = t.val / 32) (ej : j.val = 2 * (t.val % 32) + (y 1).val) (eh : h.val = (y 2).val) (ed : d.val = (y 3).val) :
    rowMean m hO c t y = blockMean (m ((c : Thread nD τ).loc main_arg0)) (m (((0 : Dev nD) : Thread nD τ).loc main_arg1)) b j h d := by
  have hy : (y 1).val < 2 := (y 1).isLt
  obtain rfl : h = y 2 := Fin.ext eh
  obtain rfl : d = y 3 := Fin.ext ed
  unfold rowMean blockMean pageSum
  split
  · next h0 =>
    have w0 : wordAt m t 0 = m (((0 : Dev nD) : Thread nD τ).loc main_arg1) (ix2 b ⟨2 * j.val, by omega⟩) :=
      congrArg₂ (fun (p : Fin 8) (q : Fin 128) => m (((0 : Dev nD) : Thread nD τ).loc main_arg1) (ix2 p q)) (Fin.ext eb.symm)
        (Fin.ext (by show 4 * (t.val % 32) + 0 = 2 * j.val; omega))
    have w1 : wordAt m t 1 = m (((0 : Dev nD) : Thread nD τ).loc main_arg1) (ix2 b ⟨2 * j.val + 1, by omega⟩) :=
      congrArg₂ (fun (p : Fin 8) (q : Fin 128) => m (((0 : Dev nD) : Thread nD τ).loc main_arg1) (ix2 p q)) (Fin.ext eb.symm)
        (Fin.ext (by show 4 * (t.val % 32) + 1 = 2 * j.val + 1; omega))
    refine (mean1_at _ _ (y 2) (y 3)).trans ?_
    exact congrArg₂ (fun p q : EReal => (p + q) * Scalar.ofBits (F := Ideal) .f32 0x3B800000#32)
      (Finset.sum_congr rfl fun s _ => (blk_page0 m hO c hw t s (y 2) (y 3)).trans
        (congrArg (fun w => m ((c : Thread nD τ).loc main_arg0) (ix4 (pageOf w) s (y 2) (y 3))) w0))
      (Finset.sum_congr rfl fun s _ => (blk_page1 m hO c hw t s (y 2) (y 3)).trans
        (congrArg (fun w => m ((c : Thread nD τ).loc main_arg0) (ix4 (pageOf w) s (y 2) (y 3))) w1))
  · next h0 =>
    have w0 : wordAt m t 2 = m (((0 : Dev nD) : Thread nD τ).loc main_arg1) (ix2 b ⟨2 * j.val, by omega⟩) :=
      congrArg₂ (fun (p : Fin 8) (q : Fin 128) => m (((0 : Dev nD) : Thread nD τ).loc main_arg1) (ix2 p q)) (Fin.ext eb.symm)
        (Fin.ext (by show 4 * (t.val % 32) + 2 = 2 * j.val; omega))
    have w1 : wordAt m t 3 = m (((0 : Dev nD) : Thread nD τ).loc main_arg1) (ix2 b ⟨2 * j.val + 1, by omega⟩) :=
      congrArg₂ (fun (p : Fin 8) (q : Fin 128) => m (((0 : Dev nD) : Thread nD τ).loc main_arg1) (ix2 p q)) (Fin.ext eb.symm)
        (Fin.ext (by show 4 * (t.val % 32) + 3 = 2 * j.val + 1; omega))
    refine (mean2_at _ _ (y 2) (y 3)).trans ?_
    exact congrArg₂ (fun p q : EReal => (p + q) * Scalar.ofBits (F := Ideal) .f32 0x3B800000#32)
      (Finset.sum_congr rfl fun s _ => (blk_page2 m hO c hw t s (y 2) (y 3)).trans
        (congrArg (fun w => m ((c : Thread nD τ).loc main_arg0) (ix4 (pageOf w) s (y 2) (y 3))) w0))
      (Finset.sum_congr rfl fun s _ => (blk_page3 m hO c hw t s (y 2) (y 3)).trans
        (congrArg (fun w => m ((c : Thread nD τ).loc main_arg0) (ix4 (pageOf w) s (y 2) (y 3))) w1))

omit hw in
/-- The table of zeros. -/
def zeroTbl : pre0.Contents (Elt Ideal)
  | ⟨0, _⟩ => (fun _ => (0#32 : BitVec 32) : S8x128.Idx → BitVec 32)

omit hw in
/-- The table of zeros is admissible. -/
theorem ok_zero : ok0 (F := Ideal) zeroTbl :=
  ⟨fun _ => ⟨fun a => page_in 0#32 (by decide) a, .inl rfl⟩, fun _ => ⟨fun a => page_in 0#32 (by decide) a, .inl rfl⟩,
    fun _ => ⟨fun a => page_in 0#32 (by decide) a, .inl rfl⟩, fun _ => ⟨fun a => page_in 0#32 (by decide) a, .inl rfl⟩⟩

omit hw in
/-- The blocks written back cover the array; where they go reads no table. -/
theorem covers_zero : ((cfg0 (F := Ideal) ⟨zeroTbl, ok_zero⟩).win 4).Covers := by decide +kernel

omit hw in
theorem covers : ((cfgM m hO).win 4).Covers := covers_zero

/-- The array of block means. -/
theorem final : (dats m hO 0 c).arrAt 4 (cfgM m hO).N = (fun j => blockMean (m ((c : Thread nD τ).loc main_arg0))
    (m (((0 : Dev nD) : Thread nD τ).loc main_arg1)) (j 0) (j 1) (j 2) (j 3) : S8x64x8x128.Idx → EReal) := by
  refine (dats m hO 0 c).arrAt_eq_of_covers 4 _ (covers m hO) fun t hf (y : S1x2x8x128.Idx) => ?_
  refine (congrFun (after0_4 m hO c t) y).trans ((block_rows m hO c t y).trans ?_)
  have hy : (y 0).val < 1 := (y 0).isLt
  have i0 := congrFun (idx_out t) 0
  have i1 := congrFun (idx_out t) 1
  refine rowMean_at m hO c hw t y _ _ _ _ ?_ ?_ ?_ ?_
  · show cc0_transform_4 (grid0.coords t) 0 * 1 + 1 * (y 0).val = t.val / 32
    rw [i0]
    show t.val / 32 * 1 + 1 * (y 0).val = t.val / 32
    omega
  · show cc0_transform_4 (grid0.coords t) 1 * 2 + 1 * (y 1).val = 2 * (t.val % 32) + (y 1).val
    rw [i1]
    show t.val % 32 * 2 + 1 * (y 1).val = 2 * (t.val % 32) + (y 1).val
    omega
  · exact (by omega : 0 * 8 + 1 * (y 2).val = (y 2).val)
  · exact (by omega : 0 * 128 + 1 * (y 3).val = (y 3).val)

end Cert.MeansPf

end
-- ==== Proof.Means.Ref.lean ====
/- The reference's block means, entry by entry. -/
module

public import proofs.«01_k».proof.Proof.Gen.BlockMeansRefIdeal
public import proofs.«01_k».proof.Proof.Gen.BlockMeansRefIdeal.Run
public import proofs.«01_k».proof.Proof.Means.Array

@[expose] public section

set_option maxRecDepth 16384

noncomputable section

namespace Cert.MeansPf

open Idealize.ShloMosaic Idealize.ShloMosaic.TcCoe Cert.BlockMeansRefIdeal Cert.BlockMeansRefIdeal.Gen Idealize.SL.Sem

theorem start_row (idx : IVec S8x128x1 32) (y : S8x128x128x8x128.Idx) (a : Fin 4) (ha : a.val ≠ 0) :
    GatherDims.start gather_S1280x128x8x128_S8x128x1_S8x128x128x8x128_234_0_n_n_0_2_11288128 y idx a = 0 := by
  unfold GatherDims.start
  exact dif_neg (fun h => ha (congrArg Fin.val (List.mem_singleton.mp (show a ∈ [(0 : Fin 4)] from h))))

/-- The gather of pages at an index: the page its start index names, read signed and clamped. -/
theorem gather_at (x : S1280x128x8x128.Idx → EReal) (idx : IVec S8x128x1 32) (b : Fin 8) (n s : Fin 128) (h : Fin 8) (d : Fin 128) :
    Host.gather gather_S1280x128x8x128_S8x128x1_S8x128x128x8x128_234_0_n_n_0_2_11288128 x idx (ix5 b n s h d) =
      x (ix4 ⟨min (idx (ix3 b n 0)).toInt.toNat 1279, by omega⟩ s h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by assumption⟩ : Fin 4) ∈ (gather_S1280x128x8x128_S8x128x1_S8x128x128x8x128_234_0_n_n_0_2_11288128).startIndexMap from List.mem_singleton.mpr rfl)]
    show min (idx _).toInt.toNat 1279 + 0 + 0 = min (idx (ix3 b n 0)).toInt.toNat 1279
    refine congrArg (fun i => min (idx i).toInt.toNat 1279) ?_
    funext e
    refine Fin.ext ?_
    match e with
    | ⟨0, _⟩ => rfl
    | ⟨1, _⟩ => rfl
    | ⟨2, _⟩ => rfl
  | ⟨1, _⟩ =>
    refine (congrArg (fun z => z + 0 + _) (start_row idx _ _ (Nat.succ_ne_zero _))).trans ?_
    exact (by omega : ∀ z : Nat, 0 + 0 + z = z) _
  | ⟨2, _⟩ =>
    refine (congrArg (fun z => z + 0 + _) (start_row idx _ _ (Nat.succ_ne_zero _))).trans ?_
    exact (by omega : ∀ z : Nat, 0 + 0 + z = z) _
  | ⟨3, _⟩ =>
    refine (congrArg (fun z => z + 0 + _) (start_row idx _ _ (Nat.succ_ne_zero _))).trans ?_
    exact (by omega : ∀ z : Nat, 0 + 0 + z = z) _

/-- The table as the reference reads it, words below zero counted from the end. -/
def refTable (pt : IVec S8x128 32) : IVec S8x128x1 32 :=
  broadcastInDim S8x128x1 ![0, 1] bcast_S8x128_S8x128x1_0_1 (select (cmpi .slt pt (broadcastInDim S8x128 ![] bcast_S_S8x128 (constantI S_ 32 0#32))) (addi pt (broadcastInDim S8x128 ![] bcast_S_S8x128 (constantI S_ 32 1280#32))) pt)

theorem refTable_at (pt : IVec S8x128 32) (b : Fin 8) (n : Fin 128) (h : (pt (ix2 b n)).toNat < 1280) :
    refTable pt (ix3 b n 0) = pt (ix2 b n) := by
  pointwise [refTable]
  have hc : IntOp.cmpi .slt (pt (ix2 b n)) 0#32 = 0#1 := by
    rcases BitVec.eq_zero_or_eq_one (IntOp.cmpi .slt (pt (ix2 b n)) 0#32) with e | e
    · exact e
    · have l := IntOp.cmpi_slt.1 e
      simp only [BitVec.toInt, BitVec.toNat_ofNat] at l
      split at l <;> simp at l <;> omega
  rw [hc]
  rfl

/-- Division by 256 is multiplication by its inverse. -/
theorem div_256 (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee, -EReal.coe_mul]; norm_num
  have h2 : Ideal.ofBits .f32 0x3B800000#32 = ((1 / 256 : ℝ) : EReal) := by
    simp [Ideal.ofBits, Ideal.ieee, -EReal.coe_mul]; norm_num
  rw [h1, h2, Ideal.div_coe (by norm_num)]

/-- The reference's means of the pages read. -/
def refMean (g : FVec Ideal S8x128x128x8x128 .f32) : FVec Ideal S8x64x8x128 .f32 :=
  Host.divf (Host.reduceAdd (shapeCast _ g shapeCasts_S8x128x128x8x128_S8x64x256x8x128) (constant S_ .f32 0x00000000#32) reducesTo_S8x64x256x8x128_S8x64x8x128_d2 h_S_) (broadcastInDim S8x64x8x128 ![] bcast_S_S8x64x8x128 (constant S_ .f32 0x43800000#32))

theorem refMean_at (g : FVec Ideal S8x128x128x8x128 .f32) (b : Fin 8) (j : Fin 64) (h : Fin 8) (d : Fin 128) :
    (refMean g (ix4 b j h d) : EReal) = (∑ s : Fin 256, (g (ix5 b ⟨j.val * 2 + s.val / 128, by omega⟩ ⟨s.val % 128, by omega⟩ h d) : EReal)) *
      Scalar.ofBits (F := Ideal) .f32 0x3B800000#32 := by
  pointwise [refMean]
  exact div_256 _

/-- The reference's array at an entry is the mean of its block's two pages. -/
theorem ref_at (x : FVec Ideal S1280x128x8x128 .f32) (pt : IVec S8x128 32) (hw : ∀ i, (pt i).toNat < 1280)
    (b : Fin 8) (j : Fin 64) (h : Fin 8) (d : Fin 128) :
    (refMean (Host.gather gather_S1280x128x8x128_S8x128x1_S8x128x128x8x128_234_0_n_n_0_2_11288128 x (refTable pt)) (ix4 b j h d) : EReal) =
      blockMean x pt b j h d := by
  have hg : ∀ (n s : Fin 128), Host.gather gather_S1280x128x8x128_S8x128x1_S8x128x128x8x128_234_0_n_n_0_2_11288128 x (refTable pt)
      (ix5 b n s h d) = x (ix4 (pageOf (pt (ix2 b n))) s h d) := by
    intro n s
    rw [gather_at]
    refine congrArg (fun p => x (ix4 p s h d)) (Fin.ext ?_)
    have e := refTable_at pt b n (hw _)
    have hl := hw (ix2 b n)
    show min (refTable pt (ix3 b n 0)).toInt.toNat 1279 = min (pt (ix2 b n)).toNat 1279
    rw [e, BitVec.toInt_eq_toNat_of_lt (by omega)]
    rfl
  rw [refMean_at]
  unfold blockMean pageSum
  refine congrArg (· * _) ?_
  refine (Fin.sum_univ_add (M := EReal) (a := 128) (b := 128) _).trans ?_
  refine congrArg₂ (· + ·) (Finset.sum_congr rfl fun s _ => ?_) (Finset.sum_congr rfl fun s _ => ?_)
  · rw [hg]
    have e1 : (⟨j.val * 2 + (Fin.castAdd 128 s).val / 128, by have := s.isLt; simp only [Fin.val_castAdd]; omega⟩ : Fin 128) = ⟨2 * j.val, by omega⟩ :=
      Fin.ext (by have := s.isLt; simp only [Fin.val_castAdd]; omega)
    have e2 : (⟨(Fin.castAdd 128 s).val % 128, by omega⟩ : Fin 128) = s :=
      Fin.ext (by have := s.isLt; simp only [Fin.val_castAdd]; omega)
    rw [e1, e2]
  · rw [hg]
    have e1 : (⟨j.val * 2 + (Fin.natAdd 128 s).val / 128, by have := s.isLt; simp only [Fin.val_natAdd]; omega⟩ : Fin 128) = ⟨2 * j.val + 1, by omega⟩ :=
      Fin.ext (by have := s.isLt; simp only [Fin.val_natAdd]; omega)
    have e2 : (⟨(Fin.natAdd 128 s).val % 128, by omega⟩ : Fin 128) = s :=
      Fin.ext (by have := s.isLt; simp only [Fin.val_natAdd]; omega)
    rw [e1, e2]

end Cert.MeansPf

end
-- ==== Proof.Means.Claim.lean ====
/- The claims about the block means. -/
module

public import proofs.«01_k».proof.Defs
public import proofs.«01_k».proof.Proof.Gen.BlockMeans
public import proofs.«01_k».proof.Proof.Gen.BlockMeans.Frame
public import proofs.«01_k».proof.Proof.Gen.BlockMeansIdeal
public import proofs.«01_k».proof.Proof.Gen.BlockMeansIdeal.Frame
public import proofs.«01_k».proof.Proof.Gen.BlockMeansRefIdeal
public import proofs.«01_k».proof.Proof.Gen.BlockMeansRefIdeal.Run
public import proofs.«01_k».proof.Proof.Gen.Pre_pages_exist
public import proofs.«01_k».proof.Proof.Means.Words
public import proofs.«01_k».proof.Proof.Means.Array
public import proofs.«01_k».proof.Proof.Means.Ref
public import Idealize.ShloMosaic.Lib.Claim

@[expose] public section

set_option maxRecDepth 16384

noncomputable section

namespace Cert.MeansPf

open Idealize.ShloMosaic Idealize.ShloMosaic.TcCoe Idealize.SL.Sem

/-- The reference runs and keeps its arguments. -/
theorem frame_ref : Cert.quiescent_BlockMeansRefIdeal (hBlockMeansRefIdeal := Cert.BlockMeansRefIdeal.Gen.facts) := by
  intro m g _
  exact (θ_run _ _ _).mono (fun r h => ⟨fun c => (h c).2, sem_eq_zero_of_no_sems (by decide) r.2⟩) (Cert.BlockMeansRefIdeal.Value.run m g)

theorem frame_ref_pre : Cert.quiescent_BlockMeansRefIdeal_pre_pages_exist
    (hBlockMeansRefIdeal := Cert.BlockMeansRefIdeal.Gen.facts) :=
  fun m g _ => frame_ref m g trivial

open Cert.BlockMeansIdeal Cert.BlockMeansIdeal.Gen in
/-- What the kernel leaves. -/
theorem kernel_run (m : (ℓ : Loc nD τ sig) → Buf (Elt Ideal) ℓ) (g : Dev nD → PrngReg) (hO : Ok m) :
    θ_run (defs (F := Ideal)) (onTc (τ := τ) (main (F := Ideal))) ⟨m, fun _ => 0, g⟩ (fun r => ∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1 4,
      ((h c).1 3).trans (((dats m hO 0 c).arrAt_in 3 rfl _).trans ((A_eq m hO c 3).trans (V_main_arg0 m c))),
      ((h c).2 main_arg1 (by decide : main_arg1 ∈ Pipeline.restRefs sig spec0)).trans (V_main_arg1 m c)⟩)
    (run_main m g hO)

/-- The kernel's means and the reference's give the same array. -/
theorem algebraic : Cert.algebraic_BlockMeansIdeal_BlockMeansRefIdeal (hBlockMeansIdeal := Cert.BlockMeansIdeal.Gen.facts)
    (hBlockMeansRefIdeal := Cert.BlockMeansRefIdeal.Gen.facts) := by
  intro m g m' g' hp hagree
  have hO := ok_ideal m hp
  have hw := word_lt _ _ (hp 0)
  refine ⟨fun c => (Cert.BlockMeansIdeal.Gen.dats m hO 0 c).arrAt 4 (Cert.BlockMeansIdeal.Gen.cfgM m hO).N, kernel_run m g hO, ?_⟩
  refine (θ_run _ _ _).mono (fun r h c => ?_) (Cert.BlockMeansRefIdeal.Value.run m' g')
  obtain ⟨a0, a1⟩ := hagree c
  refine ⟨(h c).1.trans (Eq.trans ?_ (final m hO c hw).symm), (h c).2⟩
  obtain rfl : c = 0 := Subsingleton.elim _ _
  rw [a0, a1]
  funext i
  obtain ⟨b, j, k, d, rfl⟩ : ∃ (b : Fin 8) (j : Fin 64) (k : Fin 8) (d : Fin 128), i = ix4 b j k d :=
    ⟨i 0, i 1, i 2, i 3, (ix4_eta i).symm⟩
  exact ref_at _ _ hw b j k d

end Cert.MeansPf

end
-- ==== Proof.Mix.Spec.lean ====
/- The array of projections of the residual stream, and the states before the first token. -/
module

public import proofs.«01_k».proof.Proof.Proj.Rows

@[expose] public section

noncomputable section

namespace Cert.Mix

open Idealize.ShloMosaic

/-- Every normalised row of the stream times every column of the weights. -/
def projRows (x : (⟨3, ![8, 8, 4096]⟩ : Shape).Idx → EReal) (g : (⟨2, ![2, 4096]⟩ : Shape).Idx → EReal)
    (w : (⟨3, ![1, 4096, 12304]⟩ : Shape).Idx → EReal) : (⟨3, ![8, 8, 12304]⟩ : Shape).Idx → EReal := fun j =>
  Proj.dotRow (fun k => Proj.rms (fun d => x (ix3 (j 0) (j 1) d)) (fun d => g (ix2 0 d)) k) (fun k => w (ix3 0 k (j 2)))

/-- The states of the one layer. -/
def startOf (s : (⟨5, ![1, 8, 4, 512, 1024]⟩ : Shape).Idx → EReal) : (⟨4, ![8, 4, 512, 1024]⟩ : Shape).Idx → EReal := fun j =>
  s (ix5 0 (j 0) (j 1) (j 2) (j 3))

end Cert.Mix

end
-- ==== Proof.Mix.Norm.lean ====
/- The normalised rows the first region leaves. -/
module

public import proofs.«01_k».proof.Proof.Gen.MixSampleIdeal.Frame
public import proofs.«01_k».proof.Proof.Proj.Rows

@[expose] public section

set_option maxRecDepth 16384

noncomputable section

namespace Cert.MixSamplePf

open Idealize.ShloMosaic Idealize.ShloMosaic.TcCoe Cert.MixSampleIdeal Cert.MixSampleIdeal.Gen Idealize.SL.Sem

/-- The block of rows of the one grid point. -/
theorem idx0 : ∀ t : Fin cfg0.N, win0_0.index t = ![t.val, 0] ∧ win0_1.index t = ![0, 0] ∧ win0_2.index t = ![t.val, 0] :=
  (by decide +kernel : ∀ t : Fin grid0.N, _)

/-- The payload of a block, entry by entry. -/
theorem pay0_at (x : S64x4096.Idx → EReal) (g : S1x4096.Idx → EReal) (p : Fin 64) (k : Fin 4096) :
    (k0_pay1 (F := Ideal) x g (ix2 p k) : EReal) = Proj.rms (fun d => x (ix2 p d)) (fun d => g (ix2 0 d)) k := by
  unfold Proj.rms
  pointwise [k0_pay1]

variable (V : (c : Dev nD) → (b : Ref sig .tc) → Buf (Elt Ideal) ((c : Thread nD τ).loc b))

/-- The rows normalised. -/
def hnArr (X : S64x4096.Idx → EReal) (G : S1x4096.Idx → EReal) : S64x4096.Idx → EReal := fun j =>
  Proj.rms (fun d => X (ix2 (j 0) d)) (fun d => G (ix2 0 d)) (j 1)

def row0 (t : Fin cfg0.N) (p : Fin 64) : Fin 64 := ⟨64 * t.val + p.val, by have h : t.val < 1 := t.isLt; omega⟩

theorem blk0_x (c : Dev nD) (t : Fin cfg0.N) (p : Fin 64) (k : Fin 4096) :
    iblk0 V c 0 t (ix2 p k) = V c main_v14 (ix2 (row0 t p) k) := by
  refine congrArg (V c main_v14) (?_ : _ = ix2 (row0 t p) k)
  blk_ext [idx0 t, row0]

theorem blk0_g (c : Dev nD) (t : Fin cfg0.N) (k : Fin 4096) :
    iblk0 V c 1 t (ix2 0 k) = V c main_v15 (ix2 0 k) := by
  refine congrArg (V c main_v15) (?_ : _ = ix2 0 k)
  blk_ext [idx0 t]

/-- The block of the array the region leaves is a block of `hnArr`. -/
theorem point0 (c : Dev nD) (t : Fin cfg0.N) (y : S64x4096.Idx) :
    k0_pay1 (F := Ideal) (iblk0 V c 0 t) (iblk0 V c 1 t) y =
      hnArr (V c main_v14) (V c main_v15) (((cfg0.win 2).blk t).view.emb y) := by
  obtain ⟨p, k, rfl⟩ : ∃ (p : Fin 64) (k : Fin 4096), y = ix2 p k := ⟨y 0, y 1, (ix2_eta y).symm⟩
  have he : ((cfg0.win 2).blk t).view.emb (ix2 p k) = ix2 (row0 t p) k := by
    blk_ext [idx0 t, row0]
  rw [he]
  refine (pay0_at _ _ p k).trans ?_
  exact congrArg₂ (fun x g => Proj.rms x g k) (funext fun d => blk0_x V c t p d) (funext fun d => blk0_g V c t d)

theorem final0 (c : Dev nD) : (dat0 V c).arrAt 2 cfg0.N = hnArr (V c main_v14) (V c main_v15) := by
  refine (dat0 V c).arrAt_eq_of_covers 2 _ (by decide +kernel) fun t _ y => ?_
  blk_simp
  rw [after0_2]
  frame_out
  exact point0 V c t y

end Cert.MixSamplePf

end
-- ==== Proof.Mix.Mm.lean ====
/- The products of the normalised rows with the weights of the projections and of the gate. -/
module

public import proofs.«01_k».proof.Proof.Gen.MixSampleIdeal.Frame
public import proofs.«01_k».proof.Proof.Proj.Rows

@[expose] public section

set_option maxRecDepth 16384

noncomputable section

namespace Cert.MixSamplePf

open Idealize.ShloMosaic Idealize.ShloMosaic.TcCoe Cert.MixSampleIdeal Cert.MixSampleIdeal.Gen Idealize.SL.Sem

variable (V : (c : Dev nD) → (b : Ref sig .tc) → Buf (Elt Ideal) ((c : Thread nD τ).loc b))

/-- The blocks of a grid point of the product with the projections: rows by `t % 1`, columns by `t / 1`. -/
theorem idx1 : ∀ t : Fin cfg1.N, win1_0.index t = ![t.val % 1, 0] ∧ win1_1.index t = ![0, t.val / 1] ∧
    win1_2.index t = ![t.val % 1, t.val / 1] :=
  (by decide +kernel : ∀ t : Fin grid1.N, _)

/-- The payload of a block, entry by entry. -/
theorem pay1_at (x : S64x4096.Idx → EReal) (w : S4096x1024.Idx → EReal) (p : Fin 64) (q : Fin 1024) :
    (k1_pay1 (F := Ideal) x w (ix2 p q) : EReal) = Proj.dotRow (fun k => x (ix2 p k)) (fun k => w (ix2 k q)) := by
  unfold Proj.dotRow
  pointwise [k1_pay1]

/-- The product of the rows of one array with the columns of the other. -/
def mm1 (X : S64x4096.Idx → EReal) (W : S4096x12288.Idx → EReal) : S64x12288.Idx → EReal := fun j =>
  Proj.dotRow (fun k => X (ix2 (j 0) k)) (fun k => W (ix2 k (j 1)))

def row1 (t : Fin cfg1.N) (p : Fin 64) : Fin 64 := ⟨64 * (t.val % 1) + p.val, by omega⟩
def col1 (t : Fin cfg1.N) (q : Fin 1024) : Fin 12288 := ⟨1024 * (t.val / 1) + q.val, by have h : t.val < 12 := t.isLt; omega⟩

theorem blk1_x (c : Dev nD) (t : Fin cfg1.N) (p : Fin 64) (k : Fin 4096) :
    iblk1 V c 0 t (ix2 p k) = V c main_v16 (ix2 (row1 t p) k) := by
  refine congrArg (V c main_v16) (?_ : _ = ix2 (row1 t p) k)
  blk_ext [idx1 t, row1]

theorem blk1_w (c : Dev nD) (t : Fin cfg1.N) (k : Fin 4096) (q : Fin 1024) :
    iblk1 V c 1 t (ix2 k q) = V c main_v2 (ix2 k (col1 t q)) := by
  refine congrArg (V c main_v2) (?_ : _ = ix2 k (col1 t q))
  blk_ext [idx1 t, col1]

/-- A block of the product's array is a block of `mm1`. -/
theorem point1 (c : Dev nD) (t : Fin cfg1.N) (y : S64x1024.Idx) :
    k1_pay1 (F := Ideal) (iblk1 V c 0 t) (iblk1 V c 1 t) y =
      mm1 (V c main_v16) (V c main_v2) (((cfg1.win 2).blk t).view.emb y) := by
  obtain ⟨p, q, rfl⟩ : ∃ (p : Fin 64) (q : Fin 1024), y = ix2 p q := ⟨y 0, y 1, (ix2_eta y).symm⟩
  have he : ((cfg1.win 2).blk t).view.emb (ix2 p q) = ix2 (row1 t p) (col1 t q) := by
    blk_ext [idx1 t, row1, col1]
  rw [he]
  refine (pay1_at _ _ p q).trans ?_
  exact congrArg₂ Proj.dotRow (funext fun k => blk1_x V c t p k) (funext fun k => blk1_w V c t k q)

theorem final1 (c : Dev nD) : (dat1 V c).arrAt 2 cfg1.N = mm1 (V c main_v16) (V c main_v2) := by
  refine (dat1 V c).arrAt_eq_of_covers 2 _ (by decide +kernel) fun t _ y => ?_
  blk_simp
  rw [after1_2]
  frame_out
  exact point1 V c t y

/-- The blocks of a grid point of the product with the gate: rows by `t % 1`, columns by `t / 1`. -/
theorem idx2 : ∀ t : Fin cfg2.N, win2_0.index t = ![t.val % 1, 0] ∧ win2_1.index t = ![0, t.val / 1] ∧
    win2_2.index t = ![t.val % 1, t.val / 1] :=
  (by decide +kernel : ∀ t : Fin grid2.N, _)

/-- The payload of a block, entry by entry. -/
theorem pay2_at (x : S64x4096.Idx → EReal) (w : S4096x128.Idx → EReal) (p : Fin 64) (q : Fin 128) :
    (k2_pay1 (F := Ideal) x w (ix2 p q) : EReal) = Proj.dotRow (fun k => x (ix2 p k)) (fun k => w (ix2 k q)) := by
  unfold Proj.dotRow
  pointwise [k2_pay1]

/-- The product of the rows of one array with the columns of the other. -/
def mm2 (X : S64x4096.Idx → EReal) (W : S4096x128.Idx → EReal) : S64x128.Idx → EReal := fun j =>
  Proj.dotRow (fun k => X (ix2 (j 0) k)) (fun k => W (ix2 k (j 1)))

def row2 (t : Fin cfg2.N) (p : Fin 64) : Fin 64 := ⟨64 * (t.val % 1) + p.val, by omega⟩
def col2 (t : Fin cfg2.N) (q : Fin 128) : Fin 128 := ⟨128 * (t.val / 1) + q.val, by have h : t.val < 1 := t.isLt; omega⟩

theorem blk2_x (c : Dev nD) (t : Fin cfg2.N) (p : Fin 64) (k : Fin 4096) :
    iblk2 V c 0 t (ix2 p k) = V c main_v16 (ix2 (row2 t p) k) := by
  refine congrArg (V c main_v16) (?_ : _ = ix2 (row2 t p) k)
  blk_ext [idx2 t, row2]

theorem blk2_w (c : Dev nD) (t : Fin cfg2.N) (k : Fin 4096) (q : Fin 128) :
    iblk2 V c 1 t (ix2 k q) = V c main_v6 (ix2 k (col2 t q)) := by
  refine congrArg (V c main_v6) (?_ : _ = ix2 k (col2 t q))
  blk_ext [idx2 t, col2]

/-- A block of the product's array is a block of `mm2`. -/
theorem point2 (c : Dev nD) (t : Fin cfg2.N) (y : S64x128.Idx) :
    k2_pay1 (F := Ideal) (iblk2 V c 0 t) (iblk2 V c 1 t) y =
      mm2 (V c main_v16) (V c main_v6) (((cfg2.win 2).blk t).view.emb y) := by
  obtain ⟨p, q, rfl⟩ : ∃ (p : Fin 64) (q : Fin 128), y = ix2 p q := ⟨y 0, y 1, (ix2_eta y).symm⟩
  have he : ((cfg2.win 2).blk t).view.emb (ix2 p q) = ix2 (row2 t p) (col2 t q) := by
    blk_ext [idx2 t, row2, col2]
  rw [he]
  refine (pay2_at _ _ p q).trans ?_
  exact congrArg₂ Proj.dotRow (funext fun k => blk2_x V c t p k) (funext fun k => blk2_w V c t k q)

theorem final2 (c : Dev nD) : (dat2 V c).arrAt 2 cfg2.N = mm2 (V c main_v16) (V c main_v6) := by
  refine (dat2 V c).arrAt_eq_of_covers 2 _ (by decide +kernel) fun t _ y => ?_
  blk_simp
  rw [after2_2]
  frame_out
  exact point2 V c t y

end Cert.MixSamplePf

end
-- ==== Proof.Mix.Boundary.lean ====
/- The arrays the four regions read, as the operations between them make them. -/
module

public import proofs.«01_k».proof.Proof.Gen.MixSampleIdeal.Frame
public import proofs.«01_k».proof.Proof.Proj.Rows

@[expose] public section

set_option maxRecDepth 16384

noncomputable section

namespace Cert.MixSamplePf

open Idealize.ShloMosaic Idealize.ShloMosaic.TcCoe Cert.MixSampleIdeal Cert.MixSampleIdeal.Gen Idealize.SL.Sem

variable (m : (ℓ : Loc nD τ sig) → Buf (Elt Ideal) ℓ) (ρ : Dev nD → PrngReg)

/-- The arrays the regions read, from the program's arguments. -/
theorem v2_at (c : Dev nD) (k : Fin 4096) (n : Fin 12288) :
    V5 m ρ c main_v2 (ix2 k n) = m ((c : Thread nD τ).loc main_arg2) (ix3 0 k ⟨n.val, by omega⟩) := by
  simp only [V5, W5, hostOps0_4, W4, hostOps0_3, W3, hostOps0_2, W2, hostOps0_1, W1, hostOps0]
  entry_read
  try simp only [StableHlo.TRef.toBuf, StableHlo.TRef.ofBuf, cast_eq]
  pointwise

theorem v6_at (c : Dev nD) (k : Fin 4096) (x : Fin 128) : V5 m ρ c main_v6 (ix2 k x) =
    if h : x.val < 16 then m ((c : Thread nD τ).loc main_arg2) (ix3 0 k ⟨12288 + x.val, by omega⟩) else (0 : EReal) := by
  simp only [V5, W5, hostOps0_4, W4, hostOps0_3, W3, hostOps0_2, W2, hostOps0_1, W1, hostOps0]
  entry_read
  try simp only [StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  rw [hz]

theorem v9_at (c : Dev nD) (x : Fin 128) (d : Fin 2048) : V5 m ρ c main_v9 (ix2 x d) =
    if h : x.val < 16 then m ((c : Thread nD τ).loc main_arg3) (ix3 0 ⟨x.val, h⟩ d) else (0 : EReal) := by
  simp only [V5, W5, hostOps0_4, W4, hostOps0_3, W3, hostOps0_2, W2, hostOps0_1, W1, hostOps0]
  entry_read
  try simp only [StableHlo.TRef.toBuf, StableHlo.TRef.ofBuf, cast_eq]
  pointwise
  have hz : FloatOps.sitofp (F := Ideal) FTy.f32 0#32 = (0 : EReal) := by
    show (((0#32 : BitVec 32).toInt : ℝ) : EReal) = 0
    simp
  rw [hz]

theorem v11_at (c : Dev nD) (d : Fin 2048) : V5 m ρ c main_v11 (ix2 0 d) = m ((c : Thread nD τ).loc main_arg4) (ix2 0 d) := by
  simp only [V5, W5, hostOps0_4, W4, hostOps0_3, W3, hostOps0_2, W2, hostOps0_1, W1, hostOps0]
  entry_read
  try simp only [StableHlo.TRef.toBuf, StableHlo.TRef.ofBuf, cast_eq]
  pointwise

theorem v13_at (c : Dev nD) (d : Fin 4096) : V5 m ρ c main_v13 (ix2 0 d) =
    m ((c : Thread nD τ).loc main_arg5) (ix3 0 ⟨d.val / 1024, by omega⟩ ⟨d.val % 1024, by omega⟩) := by
  simp only [V5, W5, hostOps0_4, W4, hostOps0_3, W3, hostOps0_2, W2, hostOps0_1, W1, hostOps0]
  entry_read
  try simp only [StableHlo.TRef.toBuf, StableHlo.TRef.ofBuf, cast_eq]
  pointwise

theorem v14_at (c : Dev nD) (i : Fin 64) (k : Fin 4096) : V5 m ρ c main_v14 (ix2 i k) =
    m ((c : Thread nD τ).loc main_arg0) (ix3 ⟨i.val / 8, by omega⟩ ⟨i.val % 8, by omega⟩ k) := by
  simp only [V5, W5, hostOps0_4, W4, hostOps0_3, W3, hostOps0_2, W2, hostOps0_1, W1, hostOps0]
  entry_read
  try simp only [StableHlo.TRef.toBuf, StableHlo.TRef.ofBuf, cast_eq]
  pointwise
  try rfl

theorem v15_at (c : Dev nD) (k : Fin 4096) : V5 m ρ c main_v15 (ix2 0 k) = m ((c : Thread nD τ).loc main_arg1) (ix2 0 k) := by
  simp only [V5, W5, hostOps0_4, W4, hostOps0_3, W3, hostOps0_2, W2, hostOps0_1, W1, hostOps0]
  entry_read
  try simp only [StableHlo.TRef.toBuf, StableHlo.TRef.ofBuf, cast_eq]
  pointwise
  try rfl

theorem v19_at (c : Dev nD) (b l : Fin 8) (x : Fin 12288) :
    V9 m ρ c main_v19 (ix3 b l x) = V8 m ρ c main_v17 (ix2 ⟨8 * b.val + l.val, by omega⟩ x) := by
  simp only [V9, W9, hostOps3]
  entry_read
  try simp only [StableHlo.TRef.toBuf, StableHlo.TRef.ofBuf, cast_eq]
  pointwise
  try (refine congrArg (V8 m ρ c main_v17) (?_ : _ = _); blk_ext [])

theorem v20_at (c : Dev nD) (b l : Fin 8) (x : Fin 128) :
    V9 m ρ c main_v20 (ix3 b l x) = V8 m ρ c main_v18 (ix2 ⟨8 * b.val + l.val, by omega⟩ x) := by
  simp only [V9, W9, hostOps3]
  entry_read
  try simp only [StableHlo.TRef.toBuf, StableHlo.TRef.ofBuf, cast_eq]
  pointwise
  try (refine congrArg (V8 m ρ c main_v18) (?_ : _ = _); blk_ext [])

theorem v21_at (c : Dev nD) (b : Fin 8) (h : Fin 4) (d : Fin 512) (e : Fin 1024) :
    V9 m ρ c main_v21 (ix4 b h d e) = m ((c : Thread nD τ).loc main_arg6) (ix5 0 b h d e) := by
  refine Eq.trans ?_ (congrFun (W8_args m ρ c main_arg6 (by decide)) (ix5 0 b h d e))
  simp only [V9, W9, hostOps3]
  entry_read
  try simp only [StableHlo.TRef.toBuf, StableHlo.TRef.ofBuf, cast_eq]
  pointwise
  try rfl

theorem keep_v9 (c : Dev nD) : V9 m ρ c main_v9 = V5 m ρ c main_v9 :=
  (W9_of m ρ c main_v9 (by decide)).trans ((W8_of m ρ c main_v9 (by decide)).trans ((W7_of m ρ c main_v9 (by decide)).trans (W6_of m ρ c main_v9 (by decide))))

theorem keep_v11 (c : Dev nD) : V9 m ρ c main_v11 = V5 m ρ c main_v11 :=
  (W9_of m ρ c main_v11 (by decide)).trans ((W8_of m ρ c main_v11 (by decide)).trans ((W7_of m ρ c main_v11 (by decide)).trans (W6_of m ρ c main_v11 (by decide))))

theorem keep_v13 (c : Dev nD) : V9 m ρ c main_v13 = V5 m ρ c main_v13 :=
  (W9_of m ρ c main_v13 (by decide)).trans ((W8_of m ρ c main_v13 (by decide)).trans ((W7_of m ρ c main_v13 (by decide)).trans (W6_of m ρ c main_v13 (by decide))))

end Cert.MixSamplePf

end
-- ==== Proof.Mix.Point.lean ====
/- What a grid point of the last region leaves: the same functions of its blocks as in `GlaS/Point.lean`. -/
module

public import proofs.«01_k».proof.Proof.Gen.MixSampleIdeal.Frame
public import proofs.«01_k».proof.Proof.GlaS.Point

@[expose] public section

set_option maxRecDepth 16384

noncomputable section

namespace Cert.MixSamplePf

open Idealize.ShloMosaic Idealize.ShloMosaic.TcCoe Cert.MixSampleIdeal Cert.MixSampleIdeal.Gen Idealize.SL.Sem

/-- The point's block of output. -/
theorem point_rows (c : Dev nD) (i : grid3.Coords) (arg3 : Memref sig .tc .vmem S1x8x512 .f32) (harg3 : arg3.IsWhole) (arg4 : Memref sig .tc .vmem S1x8x512 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x8x1024 .bf16) (harg12 : arg12.IsWhole) (arg13 : Memref sig .tc .vmem S1x1x512x1024 .f32) (harg13 : arg13.IsWhole) (arg14 : Memref sig .tc .vmem S1024x512 .f32) (harg14 : arg14.IsWhole) (hc0 : cond3_0 i) (hc1 : cond3_1 i)
    (x0 : Vec Ideal S1x8x512 .f32) (x1 : Vec Ideal S1x8x512 .f32) (x2 : Vec Ideal S1x8x1024 .f32) (x3 : Vec Ideal S1x8x1024 .f32) (x4 : Vec Ideal S1x8x128 .f32) (x5 : Vec Ideal S128x512 .bf16) (x6 : Vec Ideal S1x512 .f32) (x7 : Vec Ideal S1x1024 .f32) (x8 : Vec Ideal S1x1x512x1024 .f32) : out3_A_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = GlaS.pointRows (F := Ideal) (Cert.GlaSampleIdeal.Gen.k0_pay4 x4 x5 x6) x0 x1 x2 x3 x7 (Cert.GlaSampleIdeal.Gen.k0_pay2 x8) := by
  frame_out
  try rfl

/-- The state handed back. -/
theorem point_next (c : Dev nD) (i : grid3.Coords) (arg3 : Memref sig .tc .vmem S1x8x512 .f32) (harg3 : arg3.IsWhole) (arg4 : Memref sig .tc .vmem S1x8x512 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1x512x1024 .f32) (harg11 : arg11.IsWhole) (arg12 : Memref sig .tc .vmem S1x8x1024 .bf16) (harg12 : arg12.IsWhole) (arg13 : Memref sig .tc .vmem S1x1x512x1024 .f32) (harg13 : arg13.IsWhole) (arg14 : Memref sig .tc .vmem S1024x512 .f32) (harg14 : arg14.IsWhole) (hc0 : cond3_0 i) (hc1 : cond3_1 i)
    (x0 : Vec Ideal S1x8x512 .f32) (x1 : Vec Ideal S1x8x512 .f32) (x2 : Vec Ideal S1x8x1024 .f32) (x3 : Vec Ideal S1x8x1024 .f32) (x4 : Vec Ideal S1x8x128 .f32) (x5 : Vec Ideal S128x512 .bf16) (x6 : Vec Ideal S1x512 .f32) (x7 : Vec Ideal S1x1024 .f32) (x8 : Vec Ideal S1x1x512x1024 .f32) : out3_A_10 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = Cert.GlaSampleIdeal.Gen.k0_pay1 (F := Ideal) (GlaS.pointNext (Cert.GlaSampleIdeal.Gen.k0_pay4 x4 x5 x6) x1 x2 (Cert.GlaSampleIdeal.Gen.k0_pay2 x8)) := by
  frame_out
  try rfl

end Cert.MixSamplePf

end
-- ==== Proof.Mix.Arrays.lean ====
/- The program's two result arrays: its blocks as rows of the array of projections, and what its points leave. -/
module

public import proofs.«01_k».proof.Proof.Mix.Spec
public import proofs.«01_k».proof.Proof.Mix.Norm
public import proofs.«01_k».proof.Proof.Mix.Mm
public import proofs.«01_k».proof.Proof.Mix.Boundary
public import proofs.«01_k».proof.Proof.Mix.Point
public import proofs.«01_k».proof.Proof.GlaS.PointAt
public import proofs.«01_k».proof.Proof.Gla.Blocks

@[expose] public section

set_option maxRecDepth 16384

noncomputable section

namespace Cert.MixSamplePf

open Cert.Gla Cert.GlaS Idealize.ShloMosaic Idealize.ShloMosaic.TcCoe Cert.MixSampleIdeal Cert.MixSampleIdeal.Gen Idealize.SL.Sem

variable (m : (ℓ : Loc nD τ sig) → Buf (Elt Ideal) ℓ) (ρ : Dev nD → PrngReg)

/-- The array of projections, and the states before the first token, of the program's arguments. -/
def kProj (c : Dev nD) : (⟨3, ![8, 8, 12304]⟩ : Shape).Idx → EReal :=
  Mix.projRows (m ((c : Thread nD τ).loc main_arg0)) (m ((c : Thread nD τ).loc main_arg1)) (m ((c : Thread nD τ).loc main_arg2))
def kStart (c : Dev nD) : S8x4x512x1024.Idx → EReal := Mix.startOf (m ((c : Thread nD τ).loc main_arg6))

/-- The normalised rows. -/
theorem hn_at (c : Dev nD) (b l : Fin 8) (k : Fin 4096) : V6 m ρ c main_v16 (ix2 ⟨8 * b.val + l.val, by omega⟩ k) =
    Proj.rms (fun d => m ((c : Thread nD τ).loc main_arg0) (ix3 b l d)) (fun d => m ((c : Thread nD τ).loc main_arg1) (ix2 0 d)) k := by
  refine (congrFun ((W6_arr m ρ c 2).trans (final0 (V5 m ρ) c)) (ix2 _ k)).trans ?_
  refine congrArg₂ (fun x g => Proj.rms x g k) (funext fun d => (v14_at m ρ c _ d).trans ?_) (funext fun d => v15_at m ρ c d)
  refine congrArg (m ((c : Thread nD τ).loc main_arg0)) (?_ : ix3 _ _ _ = ix3 _ _ _)
  exact congrArg₂ (fun p q => ix3 p q d) (Fin.ext (by show (8 * b.val + l.val) / 8 = b.val; omega))
    (Fin.ext (by show (8 * b.val + l.val) % 8 = l.val; omega))

/-- The array of the first product. -/
theorem proj_at (c : Dev nD) (b l : Fin 8) (x : Fin 12288) :
    V9 m ρ c main_v19 (ix3 b l x) = kProj m c (ix3 b l ⟨x.val, by omega⟩) := by
  have h : V8 m ρ c main_v17 = mm1 (V6 m ρ c main_v16) (V6 m ρ c main_v2) :=
    (W8_of m ρ c main_v17 (by decide)).trans ((W7_arr m ρ c 2).trans (final1 (V6 m ρ) c))
  have h2 : V6 m ρ c main_v2 = V5 m ρ c main_v2 := W6_of m ρ c main_v2 (by decide)
  refine (v19_at m ρ c b l x).trans ((congrFun h (ix2 _ x)).trans ?_)
  exact congrArg₂ Proj.dotRow (funext fun k => hn_at m ρ c b l k) (funext fun k => (congrFun h2 _).trans (v2_at m ρ c k x))

/-- The product of a row with no column is nothing. -/
theorem dot_zero (x : Fin 4096 → EReal) : Proj.dotRow x (fun _ => 0) = 0 := by
  unfold Proj.dotRow
  simp only [mul_zero, Finset.sum_const_zero]

/-- The array of the gate's product, sixteen columns of projections and then zeroes. -/
theorem gate_at (c : Dev nD) (b l : Fin 8) (x : Fin 128) : V9 m ρ c main_v20 (ix3 b l x) =
    if h : x.val < 16 then kProj m c (ix3 b l ⟨12288 + x.val, by omega⟩) else (0 : EReal) := by
  have h : V8 m ρ c main_v18 = mm2 (V7 m ρ c main_v16) (V7 m ρ c main_v6) :=
    (W8_arr m ρ c 2).trans (final2 (V7 m ρ) c)
  have h2 : V7 m ρ c main_v6 = V5 m ρ c main_v6 := (W7_of m ρ c main_v6 (by decide)).trans (W6_of m ρ c main_v6 (by decide))
  have h3 : V7 m ρ c main_v16 = V6 m ρ c main_v16 := W7_of m ρ c main_v16 (by decide)
  refine (v20_at m ρ c b l x).trans ((congrFun h (ix2 _ x)).trans ?_)
  refine (congrArg₂ Proj.dotRow (funext fun k => (congrFun h3 _).trans (hn_at m ρ c b l k))
    (funext fun k => (congrFun h2 _).trans (v6_at m ρ c k x))).trans ?_
  by_cases hx : x.val < 16
  · simp only [dif_pos hx]
    rfl
  · simp only [dif_neg hx]
    exact dot_zero _

/-- The sequence and the head of a grid point. -/
theorem idx8 : ∀ t : Fin cfg3.N,
    win3_0.index t = ![t.val / 4, 0, t.val % 4] ∧ win3_1.index t = ![t.val / 4, 0, 4 + t.val % 4] ∧
    win3_2.index t = ![t.val / 4, 0, 4 + t.val % 4] ∧ win3_3.index t = ![t.val / 4, 0, 8 + t.val % 4] ∧
    win3_4.index t = ![t.val / 4, 0, 0] ∧ win3_5.index t = ![0, t.val % 4] ∧ win3_6.index t = ![0, t.val % 4] ∧
    win3_7.index t = ![0, t.val % 4] ∧ win3_8.index t = ![t.val / 4, t.val % 4, 0, 0] ∧
    win3_9.index t = ![t.val / 4, 0, t.val % 4] ∧ win3_10.index t = ![t.val / 4, t.val % 4, 0, 0] :=
  (by decide +kernel : ∀ t : Fin grid3.N, _)

def seqOf (t : Fin cfg3.N) : Fin 8 := ⟨t.val / 4, by have h : t.val < 32 := t.isLt; omega⟩
def headOf (t : Fin cfg3.N) : Fin 4 := ⟨t.val % 4, Nat.mod_lt _ (by decide)⟩

theorem blk8_q (c : Dev nD) (t : Fin cfg3.N) (i : Fin 8) (d : Fin 512) :
    iblk3 (V9 m ρ) c 0 t (ix3 0 i d) = qRow (kProj m c) (seqOf t) (headOf t) i d := by
  refine (congrArg (V9 m ρ c main_v19) (?_ : _ = ix3 (seqOf t) i
    ⟨(headOf t).val * 512 + d.val, by have := (headOf t).isLt; omega⟩)).trans (proj_at m ρ c _ _ _)
  blk_ext [idx8 t, seqOf, headOf]

theorem blk8_k (c : Dev nD) (t : Fin cfg3.N) (i : Fin 8) (d : Fin 512) :
    iblk3 (V9 m ρ) c 1 t (ix3 0 i d) = kRow (kProj m c) (seqOf t) (headOf t) i d := by
  refine (congrArg (V9 m ρ c main_v19) (?_ : _ = ix3 (seqOf t) i
    ⟨2048 + ((headOf t).val * 512 + d.val), by have := (headOf t).isLt; omega⟩)).trans (proj_at m ρ c _ _ _)
  blk_ext [idx8 t, seqOf, headOf]

theorem blk8_v (c : Dev nD) (t : Fin cfg3.N) (i : Fin 8) (d : Fin 1024) :
    iblk3 (V9 m ρ) c 2 t (ix3 0 i d) = vRow (kProj m c) (seqOf t) (headOf t) i d := by
  refine (congrArg (V9 m ρ c main_v19) (?_ : _ = ix3 (seqOf t) i
    ⟨4096 + ((headOf t).val * 1024 + d.val), by have := (headOf t).isLt; omega⟩)).trans (proj_at m ρ c _ _ _)
  blk_ext [idx8 t, seqOf, headOf]

theorem blk8_r (c : Dev nD) (t : Fin cfg3.N) (i : Fin 8) (d : Fin 1024) :
    iblk3 (V9 m ρ) c 3 t (ix3 0 i d) = rRow (kProj m c) (seqOf t) (headOf t) i d := by
  refine (congrArg (V9 m ρ c main_v19) (?_ : _ = ix3 (seqOf t) i
    ⟨8192 + ((headOf t).val * 1024 + d.val), by have := (headOf t).isLt; omega⟩)).trans (proj_at m ρ c _ _ _)
  blk_ext [idx8 t, seqOf, headOf]

theorem blk8_z (c : Dev nD) (t : Fin cfg3.N) (i : Fin 8) (x : Fin 128) :
    iblk3 (V9 m ρ) c 4 t (ix3 0 i x) = if h : x.val < 16 then kProj m c
      (ix3 (seqOf t) i ⟨12288 + x.val, by omega⟩) else (0 : EReal) := by
  refine (congrArg (V9 m ρ c main_v20) (?_ : _ = ix3 (seqOf t) i x)).trans (gate_at m ρ c _ _ _)
  blk_ext [idx8 t, seqOf, headOf]

theorem blk8_w (c : Dev nD) (t : Fin cfg3.N) (x : Fin 128) (d : Fin 512) :
    iblk3 (V9 m ρ) c 5 t (ix2 x d) = if h : x.val < 16 then m ((c : Thread nD τ).loc main_arg3)
      (ix3 0 ⟨x.val, h⟩ ⟨(headOf t).val * 512 + d.val, by have := (headOf t).isLt; omega⟩) else (0 : EReal) := by
  refine (congrArg (V9 m ρ c main_v9) (?_ : _ = ix2 x ⟨(headOf t).val * 512 + d.val, by have := (headOf t).isLt; omega⟩)).trans
    ((congrFun (keep_v9 m ρ c) _).trans (v9_at m ρ c _ _))
  blk_ext [idx8 t, seqOf, headOf]

theorem blk8_b (c : Dev nD) (t : Fin cfg3.N) (d : Fin 512) :
    iblk3 (V9 m ρ) c 6 t (ix2 0 d) = m ((c : Thread nD τ).loc main_arg4)
      (ix2 0 ⟨(headOf t).val * 512 + d.val, by have := (headOf t).isLt; omega⟩) := by
  refine (congrArg (V9 m ρ c main_v11) (?_ : _ = ix2 0 ⟨(headOf t).val * 512 + d.val, by have := (headOf t).isLt; omega⟩)).trans
    ((congrFun (keep_v11 m ρ c) _).trans (v11_at m ρ c _))
  blk_ext [idx8 t, seqOf, headOf]

theorem blk8_gn (c : Dev nD) (t : Fin cfg3.N) (e : Fin 1024) :
    iblk3 (V9 m ρ) c 7 t (ix2 0 e) = m ((c : Thread nD τ).loc main_arg5) (ix3 0 (headOf t) e) := by
  refine (congrArg (V9 m ρ c main_v13) (?_ : _ = ix2 0 ⟨(headOf t).val * 1024 + e.val, by have := (headOf t).isLt; omega⟩)).trans
    ((congrFun (keep_v13 m ρ c) _).trans ((v13_at m ρ c _).trans ?_))
  · blk_ext [idx8 t, seqOf, headOf]
  · blk_ext []

theorem blk8_s0 (c : Dev nD) (t : Fin cfg3.N) (e : Fin 1024) (d : Fin 512) :
    Cert.GlaSampleIdeal.Gen.k0_pay2 (F := Ideal) (iblk3 (V9 m ρ) c 8 t) (ix2 e d) = start8 (kStart m c) (seqOf t) (headOf t) d e := by
  unfold start8
  pointwise [Cert.GlaSampleIdeal.Gen.k0_pay2]
  refine (congrArg (V9 m ρ c main_v21) (?_ : _ = ix4 (seqOf t) (headOf t) d e)).trans (v21_at m ρ c _ _ _ _)
  blk_ext [idx8 t, seqOf, headOf]

theorem blk8_a (c : Dev nD) (t : Fin cfg3.N) (i : Fin 8) (d : Fin 512) :
    gateLog (F := Ideal) (gateIn (iblk3 (V9 m ρ) c 4 t) (iblk3 (V9 m ρ) c 5 t) (iblk3 (V9 m ρ) c 6 t)) (ix2 i d) = aRow (kProj m c)
      (m ((c : Thread nD τ).loc main_arg3)) (m ((c : Thread nD τ).loc main_arg4)) (seqOf t) (headOf t) i d := by
  unfold aRow
  rw [gate8_at]
  congr 2
  · simp only [blk8_z, blk8_w]
    exact pad_sum (fun x => kProj m c (ix3 (seqOf t) i ⟨12288 + x.val, by omega⟩))
      (fun x => m ((c : Thread nD τ).loc main_arg3) (ix3 0 x ⟨(headOf t).val * 512 + d.val, by have := (headOf t).isLt; omega⟩))
  · exact blk8_b m ρ c t d

variable (c : Dev nD)

/-- The last states, of the program's arguments. -/
def kEnd (b : Fin 8) (h : Fin 4) : Fin 512 → Fin 1024 → EReal :=
  stateEnd (kProj m c) (m ((c : Thread nD τ).loc main_arg3)) (m ((c : Thread nD τ).loc main_arg4))
    (kStart m c) b h

/-- The gated outputs, of the program's arguments. -/
def kTok (b : Fin 8) (h : Fin 4) (l : Fin 8) : Fin 1024 → EReal :=
  tokenOut (kProj m c) (m ((c : Thread nD τ).loc main_arg3)) (m ((c : Thread nD τ).loc main_arg4))
    (m ((c : Thread nD τ).loc main_arg5)) (kStart m c) b h l

/-- The running sums of a point's gates. -/
theorem sums_at (t : Fin cfg3.N) : (fun (s : Fin 8) (d : Fin 512) => Cert.GlaSampleIdeal.Gen.k0_pay5 (F := Ideal)
    (iota .tc S8x512 32 [0] Cert.GlaSampleIdeal.Gen.iota_S8x512_d0_w32) (Cert.GlaSampleIdeal.Gen.k0_pay4 (iblk3 (V9 m ρ) c 4 t) (iblk3 (V9 m ρ) c 5 t) (iblk3 (V9 m ρ) c 6 t)) 2#32 (ix2 s d)) =
    sumUpTo (aRow (kProj m c) (m ((c : Thread nD τ).loc main_arg3))
      (m ((c : Thread nD τ).loc main_arg4)) (seqOf t) (headOf t)) := by
  funext s d
  rw [pay4_eq, sum8_at]
  refine congrArg (fun f => sumUpTo f s d) ?_
  funext i d
  exact blk8_a m ρ c t i d

/-- The block of output of every grid point. -/
theorem block_rows (t : Fin cfg3.N) (y : Fin 8) (e : Fin 1024) :
    (outsAt3 (V9 m ρ) c t).1 (ix3 0 y e) = kTok m c (seqOf t) (headOf t) y e := by
  unfold outsAt3
  dsimp only
  rw [point_rows, pointRows_at, sums_at]
  unfold kTok tokenOut tokenO
  simp only [blk8_q, blk8_k, blk8_v, blk8_r, blk8_gn, blk8_s0]

/-- The block of the last state of every grid point. -/
theorem block_end (t : Fin cfg3.N) (d : Fin 512) (e : Fin 1024) :
    (outsAt3 (V9 m ρ) c t).2 (ix4 0 0 d e) = kEnd m c (seqOf t) (headOf t) d e := by
  have h : pointNext (F := Ideal) (Cert.GlaSampleIdeal.Gen.k0_pay4 (iblk3 (V9 m ρ) c 4 t) (iblk3 (V9 m ρ) c 5 t) (iblk3 (V9 m ρ) c 6 t)) (iblk3 (V9 m ρ) c 1 t) (iblk3 (V9 m ρ) c 2 t)
      (Cert.GlaSampleIdeal.Gen.k0_pay2 (iblk3 (V9 m ρ) c 8 t)) (ix2 e d) = kEnd m c (seqOf t) (headOf t) d e := by
    rw [pointNext_at, sums_at]
    unfold kEnd stateEnd
    simp only [blk8_k, blk8_v, blk8_s0]
  rw [← h]
  unfold outsAt3
  dsimp only
  rw [point_next]
  generalize pointNext (F := Ideal) _ _ _ _ = st
  pointwise [Cert.GlaSampleIdeal.Gen.k0_pay1]

theorem kTok_congr {b b' l l' : Fin 8} {h h' : Fin 4} {e e' : Fin 1024} (hb : b.val = b'.val) (hh : h.val = h'.val)
    (hl : l.val = l'.val) (he : e.val = e'.val) : kTok m c b h l e = kTok m c b' h' l' e' := by
  rw [Fin.ext hb, Fin.ext hh, Fin.ext hl, Fin.ext he]

theorem kEnd_congr {b b' : Fin 8} {h h' : Fin 4} {d d' : Fin 512} {e e' : Fin 1024} (hb : b.val = b'.val) (hh : h.val = h'.val)
    (hd : d.val = d'.val) (he : e.val = e'.val) : kEnd m c b h d e = kEnd m c b' h' d' e' := by
  rw [Fin.ext hb, Fin.ext hh, Fin.ext hd, Fin.ext he]

/-- The array of gated outputs. -/
theorem tok_array : (dat3 (V9 m ρ) c).arrAt 9 cfg3.N = fun j => kTok m c (j 0)
    ⟨(j 2).val / 1024, by have : (j 2).val < 4096 := (j 2).isLt; omega⟩ (j 1) ⟨(j 2).val % 1024, Nat.mod_lt _ (by decide)⟩ := by
  refine (dat3 (V9 m ρ) c).arrAt_eq_of_covers 9 _ (by decide +kernel) fun t hf y => ?_
  blk_simp
  rw [after3_9]
  have hy : y = (ix3 0 (y 1) (y 2) : S1x8x1024.Idx) := by
    funext a; fin_cases a
    · exact Fin.ext (by have h : (y 0).val < 1 := (y 0).isLt; show (y 0).val = 0; omega)
    · rfl
    · rfl
  have h2 : (y 2).val < 1024 := (y 2).isLt
  have h1 : (y 1).val < 8 := (y 1).isLt
  refine (congrArg _ hy).trans ((block_rows m ρ c t (y 1) (y 2)).trans (kTok_congr m c ?_ ?_ ?_ ?_))
  · blk_simp [idx8 t, seqOf]
  · blk_simp [idx8 t, headOf]
    dsimp only; omega
  · blk_simp [idx8 t]
  · blk_simp [idx8 t]
    dsimp only; omega

/-- The array of last states. -/
theorem end_array : (dat3 (V9 m ρ) c).arrAt 10 cfg3.N = fun j => kEnd m c (j 0) (j 1) (j 2) (j 3) := by
  refine (dat3 (V9 m ρ) c).arrAt_eq_of_covers 10 _ (by decide +kernel) fun t hf y => ?_
  blk_simp
  rw [after3_10]
  have hy : y = (ix4 0 0 (y 2) (y 3) : S1x1x512x1024.Idx) := by
    funext a; fin_cases a
    · exact Fin.ext (by have h : (y 0).val < 1 := (y 0).isLt; show (y 0).val = 0; omega)
    · exact Fin.ext (by have h : (y 1).val < 1 := (y 1).isLt; show (y 1).val = 0; omega)
    · rfl
    · rfl
  refine (congrArg _ hy).trans ((block_end m ρ c t (y 2) (y 3)).trans (kEnd_congr m c ?_ ?_ ?_ ?_))
  · blk_simp [idx8 t, seqOf]
  · blk_simp [idx8 t, headOf]
  · blk_simp [idx8 t]
  · blk_simp [idx8 t]

/-- The two result arrays at the program's end. -/
theorem last_tok (c : Dev nD) : W10 m ρ c (Proc.devRef .tc main_v22_0) = fun j => kTok m c (j 0)
    ⟨(j 2).val / 1024, by have : (j 2).val < 4096 := (j 2).isLt; omega⟩ (j 1) ⟨(j 2).val % 1024, Nat.mod_lt _ (by decide)⟩ :=
  (W10_arr m ρ c 9).trans (tok_array m ρ c)

theorem last_end (c : Dev nD) : W10 m ρ c (Proc.devRef .tc main_v22_1) = fun j => kEnd m c (j 0) (j 1) (j 2) (j 3) :=
  (W10_arr m ρ c 10).trans (end_array m ρ c)

end Cert.MixSamplePf

end
-- ==== Proof.Mix.Run.lean ====
/- The run of the whole program, with the results at the contents its last region leaves. -/
module

public import proofs.«01_k».proof.Proof.Gen.MixSampleIdeal.Frame

@[expose] public section

set_option maxRecDepth 16384

noncomputable section

namespace Cert.MixSamplePf

open Cert.MixSampleIdeal Cert.MixSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution ends with the results at the contents the last region leaves and the arguments as
    launched. -/
theorem run_last : θ_run defs (onTc (τ := τ) (main (F := F))) ⟨m, fun _ => 0, ρ⟩ fun r => ∀ c : Dev nD,
      r.2.mem ((c : Thread nD τ).loc main_v22_0) = W10 m ρ c (Proc.devRef .tc main_v22_0)
      ∧ r.2.mem ((c : Thread nD τ).loc main_v22_1) = W10 m ρ c (Proc.devRef .tc main_v22_1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c =>
      ⟨h c _ (mem_uc main_v22_0 (by decide)),
       h c _ (mem_uc main_v22_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.MixSamplePf

end
-- ==== Proof.Mix.RefRun.lean ====
/- The run of the reference: the contents its loop and the operations after it leave. The array of projections, which the operations
   before the loop make and those after it read again, is written by nothing in between. -/
module

public import proofs.«01_k».proof.Proof.Gen.MixSampleRefIdeal.Run

@[expose] public section

noncomputable section

namespace Cert.MixSampleRefIdeal.Value

open Cert.MixSampleRefIdeal Cert.MixSampleRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

abbrev hostOps0_3_W : List (Ref sig .tc) := [main_v64, main_v65, main_v66, main_cst_7, main_v67, main_v68, main_cst_8, main_v69, main_v70, main_cst_9, main_v71, main_v72, main_v73, main_v74, main_v75, main_v76, main_v77, main_v78, main_v79, main_v80, main_v81, main_v82, main_v83, main_v84, main_v85]
theorem hostOps0_3_writes : (hostOps0_3 : List (HloOp τ sig (Elt F))).Forall fun op => op.writes ⊆ (hostOps0_3_W.map (Proc.devRef (τ := τ) .tc)).toFinset :=
  StableHlo.forall_writes_sub_of_map rfl
abbrev hostOps0_4_W : List (Ref sig .tc) := [main_call8_v0, main_call8_v1, main_call8_cst, main_call8_v2, main_call8_v3, main_call8_cst_0, main_call8_v4, main_call8_v5, main_v86]
theorem hostOps0_4_writes : (hostOps0_4 : List (HloOp τ sig (Elt F))).Forall fun op => op.writes ⊆ (hostOps0_4_W.map (Proc.devRef (τ := τ) .tc)).toFinset :=
  StableHlo.forall_writes_sub_of_map rfl
abbrev hostOps0_5_W : List (Ref sig .tc) := [main_v87, main_v88]
theorem hostOps0_5_writes : (hostOps0_5 : List (HloOp τ sig (Elt F))).Forall fun op => op.writes ⊆ (hostOps0_5_W.map (Proc.devRef (τ := τ) .tc)).toFinset :=
  StableHlo.forall_writes_sub_of_map rfl

variable (m : (ℓ : Loc nD τ sig) → Buf (Elt F) ℓ) (ρ : Dev nD → PrngReg)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
theorem keep_main_arg0_while0Ops0_8 (V : Valuation τ sig (Elt F)) : after while0Ops0_8 V (Proc.devRef .tc main_arg0) = V (Proc.devRef .tc main_arg0) :=
  after_of_writes_sub while0Ops0_8 V while0Ops0_8_writes (by decide +kernel)
theorem keep_main_arg0_while0Ops0_9 (V : Valuation τ sig (Elt F)) : after while0Ops0_9 V (Proc.devRef .tc main_arg0) = V (Proc.devRef .tc main_arg0) :=
  after_of_writes_sub while0Ops0_9 V while0Ops0_9_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_9, keep_main_arg0_while0Ops0_8, keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_5, keep_main_arg0_hostOps0_4, keep_main_arg0_hostOps0_3]
theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
theorem keep_main_arg1_while0Ops0_8 (V : Valuation τ sig (Elt F)) : after while0Ops0_8 V (Proc.devRef .tc main_arg1) = V (Proc.devRef .tc main_arg1) :=
  after_of_writes_sub while0Ops0_8 V while0Ops0_8_writes (by decide +kernel)
theorem keep_main_arg1_while0Ops0_9 (V : Valuation τ sig (Elt F)) : after while0Ops0_9 V (Proc.devRef .tc main_arg1) = V (Proc.devRef .tc main_arg1) :=
  after_of_writes_sub while0Ops0_9 V while0Ops0_9_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_2, keep_main_arg1_hostOps0_1, keep_main_arg1_hostOps0]
  | k + 1 => by
    rw [show atK m (k + 1) c = afterL bodyI (after condOps (atK m k c)) from rfl]
    simp only [afterL_cons, afterL_nil]
    rw [keep_main_arg1_while0Ops0_9, keep_main_arg1_while0Ops0_8, keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_5, keep_main_arg1_hostOps0_4, keep_main_arg1_hostOps0_3]
theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_while0Ops0_5 (V : Valuation τ sig (Elt F)) : after while0Ops0_5 V (Proc.devRef .tc main_arg2) = V (Proc.devRef .tc main_arg2) :=
  after_of_writes_sub while0Ops0_5 V while0Ops0_5_writes (by decide +kernel)
theorem keep_main_arg2_while0Ops0_6 (V : Valuation τ sig (Elt F)) : after while0Ops0_6 V (Proc.devRef .tc main_arg2) = V (Proc.devRef .tc main_arg2) :=
  after_of_writes_sub while0Ops0_6 V while0Ops0_6_writes (by decide +kernel)
theorem keep_main_arg2_while0Ops0_7 (V : Valuation τ sig (Elt F)) : after while0Ops0_7 V (Proc.devRef .tc main_arg2) = V (Proc.devRef .tc main_arg2) :=
  after_of_writes_sub while0Ops0_7 V while0Ops0_7_writes (by decide +kernel)
theorem keep_main_arg2_while0Ops0_8 (V : Valuation τ sig (Elt F)) : after while0Ops0_8 V (Proc.devRef .tc main_arg2) = V (Proc.devRef .tc main_arg2) :=
  after_of_writes_sub while0Ops0_8 V while0Ops0_8_writes (by decide +kernel)
theorem keep_main_arg2_while0Ops0_9 (V : Valuation τ sig (Elt F)) : after while0Ops0_9 V (Proc.devRef .tc main_arg2) = V (Proc.devRef .tc main_arg2) :=
  after_of_writes_sub while0Ops0_9 V while0Ops0_9_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0_2, keep_main_arg2_hostOps0_1, keep_main_arg2_hostOps0]
  | k + 1 => by
    rw [show atK m (k + 1) c = afterL bodyI (after condOps (atK m k c)) from rfl]
    simp only [afterL_cons, afterL_nil]
    rw [keep_main_arg2_while0Ops0_9, keep_main_arg2_while0Ops0_8, keep_main_arg2_while0Ops0_7, keep_main_arg2_while0Ops0_6, keep_main_arg2_while0Ops0_5, keep_main_arg2_while0Ops0_4, keep_main_arg2_while0Ops0_3, keep_main_arg2_while0Ops0_2, keep_main_arg2_while0Ops0_1, keep_main_arg2_while0Ops0, keep_main_arg2_condOps, atK_main_arg2 c k]

/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_5, keep_main_arg2_hostOps0_4, keep_main_arg2_hostOps0_3]
theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_while0Ops0_4 (V : Valuation τ sig (Elt F)) : after while0Ops0_4 V (Proc.devRef .tc main_arg3) = V (Proc.devRef .tc main_arg3) :=
  after_of_writes_sub while0Ops0_4 V while0Ops0_4_writes (by decide +kernel)
theorem keep_main_arg3_while0Ops0_5 (V : Valuation τ sig (Elt F)) : after while0Ops0_5 V (Proc.devRef .tc main_arg3) = V (Proc.devRef .tc main_arg3) :=
  after_of_writes_sub while0Ops0_5 V while0Ops0_5_writes (by decide +kernel)
theorem keep_main_arg3_while0Ops0_6 (V : Valuation τ sig (Elt F)) : after while0Ops0_6 V (Proc.devRef .tc main_arg3) = V (Proc.devRef .tc main_arg3) :=
  after_of_writes_sub while0Ops0_6 V while0Ops0_6_writes (by decide +kernel)
theorem keep_main_arg3_while0Ops0_7 (V : Valuation τ sig (Elt F)) : after while0Ops0_7 V (Proc.devRef .tc main_arg3) = V (Proc.devRef .tc main_arg3) :=
  after_of_writes_sub while0Ops0_7 V while0Ops0_7_writes (by decide +kernel)
theorem keep_main_arg3_while0Ops0_8 (V : Valuation τ sig (Elt F)) : after while0Ops0_8 V (Proc.devRef .tc main_arg3) = V (Proc.devRef .tc main_arg3) :=
  after_of_writes_sub while0Ops0_8 V while0Ops0_8_writes (by decide +kernel)
theorem keep_main_arg3_while0Ops0_9 (V : Valuation τ sig (Elt F)) : after while0Ops0_9 V (Proc.devRef .tc main_arg3) = V (Proc.devRef .tc main_arg3) :=
  after_of_writes_sub while0Ops0_9 V while0Ops0_9_writes (by decide +kernel)
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
theorem keep_main_arg3_hostOps0_4 (V : Valuation τ sig (Elt F)) : after hostOps0_4 V (Proc.devRef .tc main_arg3) = V (Proc.devRef .tc main_arg3) :=
  after_of_writes_sub hostOps0_4 V hostOps0_4_writes (by decide +kernel)
theorem keep_main_arg3_hostOps0_5 (V : Valuation τ sig (Elt F)) : after hostOps0_5 V (Proc.devRef .tc main_arg3) = V (Proc.devRef .tc main_arg3) :=
  after_of_writes_sub hostOps0_5 V hostOps0_5_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0_2, keep_main_arg3_hostOps0_1, keep_main_arg3_hostOps0]
  | k + 1 => by
    rw [show atK m (k + 1) c = afterL bodyI (after condOps (atK m k c)) from rfl]
    simp only [afterL_cons, afterL_nil]
    rw [keep_main_arg3_while0Ops0_9, keep_main_arg3_while0Ops0_8, keep_main_arg3_while0Ops0_7, keep_main_arg3_while0Ops0_6, keep_main_arg3_while0Ops0_5, keep_main_arg3_while0Ops0_4, keep_main_arg3_while0Ops0_3, keep_main_arg3_while0Ops0_2, keep_main_arg3_while0Ops0_1, keep_main_arg3_while0Ops0, keep_main_arg3_condOps, atK_main_arg3 c k]

/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_5, keep_main_arg3_hostOps0_4, keep_main_arg3_hostOps0_3]
theorem keep_main_arg4_hostOps0 (V : Valuation τ sig (Elt F)) : after hostOps0 V (Proc.devRef .tc main_arg4) = V (Proc.devRef .tc main_arg4) :=
  after_of_writes_sub hostOps0 V hostOps0_writes (by decide +kernel)
theorem keep_main_arg4_hostOps0_1 (V : Valuation τ sig (Elt F)) : after hostOps0_1 V (Proc.devRef .tc main_arg4) = V (Proc.devRef .tc main_arg4) :=
  after_of_writes_sub hostOps0_1 V hostOps0_1_writes (by decide +kernel)
theorem keep_main_arg4_hostOps0_2 (V : Valuation τ sig (Elt F)) : after hostOps0_2 V (Proc.devRef .tc main_arg4) = V (Proc.devRef .tc main_arg4) :=
  after_of_writes_sub hostOps0_2 V hostOps0_2_writes (by decide +kernel)
theorem keep_main_arg4_condOps (V : Valuation τ sig (Elt F)) : after condOps V (Proc.devRef .tc main_arg4) = V (Proc.devRef .tc main_arg4) :=
  after_of_writes_sub condOps V condOps_writes (by decide +kernel)
theorem keep_main_arg4_while0Ops0 (V : Valuation τ sig (Elt F)) : after while0Ops0 V (Proc.devRef .tc main_arg4) = V (Proc.devRef .tc main_arg4) :=
  after_of_writes_sub while0Ops0 V while0Ops0_writes (by decide +kernel)
theorem keep_main_arg4_while0Ops0_1 (V : Valuation τ sig (Elt F)) : after while0Ops0_1 V (Proc.devRef .tc main_arg4) = V (Proc.devRef .tc main_arg4) :=
  after_of_writes_sub while0Ops0_1 V while0Ops0_1_writes (by decide +kernel)
theorem keep_main_arg4_while0Ops0_2 (V : Valuation τ sig (Elt F)) : after while0Ops0_2 V (Proc.devRef .tc main_arg4) = V (Proc.devRef .tc main_arg4) :=
  after_of_writes_sub while0Ops0_2 V while0Ops0_2_writes (by decide +kernel)
theorem keep_main_arg4_while0Ops0_3 (V : Valuation τ sig (Elt F)) : after while0Ops0_3 V (Proc.devRef .tc main_arg4) = V (Proc.devRef .tc main_arg4) :=
  after_of_writes_sub while0Ops0_3 V while0Ops0_3_writes (by decide +kernel)
theorem keep_main_arg4_while0Ops0_4 (V : Valuation τ sig (Elt F)) : after while0Ops0_4 V (Proc.devRef .tc main_arg4) = V (Proc.devRef .tc main_arg4) :=
  after_of_writes_sub while0Ops0_4 V while0Ops0_4_writes (by decide +kernel)
theorem keep_main_arg4_while0Ops0_5 (V : Valuation τ sig (Elt F)) : after while0Ops0_5 V (Proc.devRef .tc main_arg4) = V (Proc.devRef .tc main_arg4) :=
  after_of_writes_sub while0Ops0_5 V while0Ops0_5_writes (by decide +kernel)
theorem keep_main_arg4_while0Ops0_6 (V : Valuation τ sig (Elt F)) : after while0Ops0_6 V (Proc.devRef .tc main_arg4) = V (Proc.devRef .tc main_arg4) :=
  after_of_writes_sub while0Ops0_6 V while0Ops0_6_writes (by decide +kernel)
theorem keep_main_arg4_while0Ops0_7 (V : Valuation τ sig (Elt F)) : after while0Ops0_7 V (Proc.devRef .tc main_arg4) = V (Proc.devRef .tc main_arg4) :=
  after_of_writes_sub while0Ops0_7 V while0Ops0_7_writes (by decide +kernel)
theorem keep_main_arg4_while0Ops0_8 (V : Valuation τ sig (Elt F)) : after while0Ops0_8 V (Proc.devRef .tc main_arg4) = V (Proc.devRef .tc main_arg4) :=
  after_of_writes_sub while0Ops0_8 V while0Ops0_8_writes (by decide +kernel)
theorem keep_main_arg4_while0Ops0_9 (V : Valuation τ sig (Elt F)) : after while0Ops0_9 V (Proc.devRef .tc main_arg4) = V (Proc.devRef .tc main_arg4) :=
  after_of_writes_sub while0Ops0_9 V while0Ops0_9_writes (by decide +kernel)
theorem keep_main_arg4_hostOps0_3 (V : Valuation τ sig (Elt F)) : after hostOps0_3 V (Proc.devRef .tc main_arg4) = V (Proc.devRef .tc main_arg4) :=
  after_of_writes_sub hostOps0_3 V hostOps0_3_writes (by decide +kernel)
theorem keep_main_arg4_hostOps0_4 (V : Valuation τ sig (Elt F)) : after hostOps0_4 V (Proc.devRef .tc main_arg4) = V (Proc.devRef .tc main_arg4) :=
  after_of_writes_sub hostOps0_4 V hostOps0_4_writes (by decide +kernel)
theorem keep_main_arg4_hostOps0_5 (V : Valuation τ sig (Elt F)) : after hostOps0_5 V (Proc.devRef .tc main_arg4) = V (Proc.devRef .tc main_arg4) :=
  after_of_writes_sub hostOps0_5 V hostOps0_5_writes (by decide +kernel)
/-- The argument `main_arg4` is written by nothing: it holds its launch contents before every condition. -/
theorem atK_main_arg4 (c : Dev nD) : ∀ k, atK m k c (Proc.devRef .tc main_arg4) = m ((c.tc : Thread nD τ).loc main_arg4)
  | 0 => by
    rw [show atK m 0 c = entryContents preI m c from rfl]
    simp only [entryContents, afterL_cons, afterL_nil]
    rw [keep_main_arg4_hostOps0_2, keep_main_arg4_hostOps0_1, keep_main_arg4_hostOps0]
  | k + 1 => by
    rw [show atK m (k + 1) c = afterL bodyI (after condOps (atK m k c)) from rfl]
    simp only [afterL_cons, afterL_nil]
    rw [keep_main_arg4_while0Ops0_9, keep_main_arg4_while0Ops0_8, keep_main_arg4_while0Ops0_7, keep_main_arg4_while0Ops0_6, keep_main_arg4_while0Ops0_5, keep_main_arg4_while0Ops0_4, keep_main_arg4_while0Ops0_3, keep_main_arg4_while0Ops0_2, keep_main_arg4_while0Ops0_1, keep_main_arg4_while0Ops0, keep_main_arg4_condOps, atK_main_arg4 c k]

/-- The operations after the loop do not write `main_arg4`. -/
theorem post_keeps_main_arg4 (V0 : Valuation τ sig (Elt F)) : afterL postI V0 (Proc.devRef .tc main_arg4) = V0 (Proc.devRef .tc main_arg4) := by
  simp only [postI, afterL_cons, afterL_nil]
  rw [keep_main_arg4_hostOps0_5, keep_main_arg4_hostOps0_4, keep_main_arg4_hostOps0_3]
theorem keep_main_arg5_hostOps0 (V : Valuation τ sig (Elt F)) : after hostOps0 V (Proc.devRef .tc main_arg5) = V (Proc.devRef .tc main_arg5) :=
  after_of_writes_sub hostOps0 V hostOps0_writes (by decide +kernel)
theorem keep_main_arg5_hostOps0_1 (V : Valuation τ sig (Elt F)) : after hostOps0_1 V (Proc.devRef .tc main_arg5) = V (Proc.devRef .tc main_arg5) :=
  after_of_writes_sub hostOps0_1 V hostOps0_1_writes (by decide +kernel)
theorem keep_main_arg5_hostOps0_2 (V : Valuation τ sig (Elt F)) : after hostOps0_2 V (Proc.devRef .tc main_arg5) = V (Proc.devRef .tc main_arg5) :=
  after_of_writes_sub hostOps0_2 V hostOps0_2_writes (by decide +kernel)
theorem keep_main_arg5_condOps (V : Valuation τ sig (Elt F)) : after condOps V (Proc.devRef .tc main_arg5) = V (Proc.devRef .tc main_arg5) :=
  after_of_writes_sub condOps V condOps_writes (by decide +kernel)
theorem keep_main_arg5_while0Ops0 (V : Valuation τ sig (Elt F)) : after while0Ops0 V (Proc.devRef .tc main_arg5) = V (Proc.devRef .tc main_arg5) :=
  after_of_writes_sub while0Ops0 V while0Ops0_writes (by decide +kernel)
theorem keep_main_arg5_while0Ops0_1 (V : Valuation τ sig (Elt F)) : after while0Ops0_1 V (Proc.devRef .tc main_arg5) = V (Proc.devRef .tc main_arg5) :=
  after_of_writes_sub while0Ops0_1 V while0Ops0_1_writes (by decide +kernel)
theorem keep_main_arg5_while0Ops0_2 (V : Valuation τ sig (Elt F)) : after while0Ops0_2 V (Proc.devRef .tc main_arg5) = V (Proc.devRef .tc main_arg5) :=
  after_of_writes_sub while0Ops0_2 V while0Ops0_2_writes (by decide +kernel)
theorem keep_main_arg5_while0Ops0_3 (V : Valuation τ sig (Elt F)) : after while0Ops0_3 V (Proc.devRef .tc main_arg5) = V (Proc.devRef .tc main_arg5) :=
  after_of_writes_sub while0Ops0_3 V while0Ops0_3_writes (by decide +kernel)
theorem keep_main_arg5_while0Ops0_4 (V : Valuation τ sig (Elt F)) : after while0Ops0_4 V (Proc.devRef .tc main_arg5) = V (Proc.devRef .tc main_arg5) :=
  after_of_writes_sub while0Ops0_4 V while0Ops0_4_writes (by decide +kernel)
theorem keep_main_arg5_while0Ops0_5 (V : Valuation τ sig (Elt F)) : after while0Ops0_5 V (Proc.devRef .tc main_arg5) = V (Proc.devRef .tc main_arg5) :=
  after_of_writes_sub while0Ops0_5 V while0Ops0_5_writes (by decide +kernel)
theorem keep_main_arg5_while0Ops0_6 (V : Valuation τ sig (Elt F)) : after while0Ops0_6 V (Proc.devRef .tc main_arg5) = V (Proc.devRef .tc main_arg5) :=
  after_of_writes_sub while0Ops0_6 V while0Ops0_6_writes (by decide +kernel)
theorem keep_main_arg5_while0Ops0_7 (V : Valuation τ sig (Elt F)) : after while0Ops0_7 V (Proc.devRef .tc main_arg5) = V (Proc.devRef .tc main_arg5) :=
  after_of_writes_sub while0Ops0_7 V while0Ops0_7_writes (by decide +kernel)
theorem keep_main_arg5_while0Ops0_8 (V : Valuation τ sig (Elt F)) : after while0Ops0_8 V (Proc.devRef .tc main_arg5) = V (Proc.devRef .tc main_arg5) :=
  after_of_writes_sub while0Ops0_8 V while0Ops0_8_writes (by decide +kernel)
theorem keep_main_arg5_while0Ops0_9 (V : Valuation τ sig (Elt F)) : after while0Ops0_9 V (Proc.devRef .tc main_arg5) = V (Proc.devRef .tc main_arg5) :=
  after_of_writes_sub while0Ops0_9 V while0Ops0_9_writes (by decide +kernel)
theorem keep_main_arg5_hostOps0_3 (V : Valuation τ sig (Elt F)) : after hostOps0_3 V (Proc.devRef .tc main_arg5) = V (Proc.devRef .tc main_arg5) :=
  after_of_writes_sub hostOps0_3 V hostOps0_3_writes (by decide +kernel)
theorem keep_main_arg5_hostOps0_4 (V : Valuation τ sig (Elt F)) : after hostOps0_4 V (Proc.devRef .tc main_arg5) = V (Proc.devRef .tc main_arg5) :=
  after_of_writes_sub hostOps0_4 V hostOps0_4_writes (by decide +kernel)
theorem keep_main_arg5_hostOps0_5 (V : Valuation τ sig (Elt F)) : after hostOps0_5 V (Proc.devRef .tc main_arg5) = V (Proc.devRef .tc main_arg5) :=
  after_of_writes_sub hostOps0_5 V hostOps0_5_writes (by decide +kernel)
/-- The argument `main_arg5` is written by nothing: it holds its launch contents before every condition. -/
theorem atK_main_arg5 (c : Dev nD) : ∀ k, atK m k c (Proc.devRef .tc main_arg5) = m ((c.tc : Thread nD τ).loc main_arg5)
  | 0 => by
    rw [show atK m 0 c = entryContents preI m c from rfl]
    simp only [entryContents, afterL_cons, afterL_nil]
    rw [keep_main_arg5_hostOps0_2, keep_main_arg5_hostOps0_1, keep_main_arg5_hostOps0]
  | k + 1 => by
    rw [show atK m (k + 1) c = afterL bodyI (after condOps (atK m k c)) from rfl]
    simp only [afterL_cons, afterL_nil]
    rw [keep_main_arg5_while0Ops0_9, keep_main_arg5_while0Ops0_8, keep_main_arg5_while0Ops0_7, keep_main_arg5_while0Ops0_6, keep_main_arg5_while0Ops0_5, keep_main_arg5_while0Ops0_4, keep_main_arg5_while0Ops0_3, keep_main_arg5_while0Ops0_2, keep_main_arg5_while0Ops0_1, keep_main_arg5_while0Ops0, keep_main_arg5_condOps, atK_main_arg5 c k]

/-- The operations after the loop do not write `main_arg5`. -/
theorem post_keeps_main_arg5 (V0 : Valuation τ sig (Elt F)) : afterL postI V0 (Proc.devRef .tc main_arg5) = V0 (Proc.devRef .tc main_arg5) := by
  simp only [postI, afterL_cons, afterL_nil]
  rw [keep_main_arg5_hostOps0_5, keep_main_arg5_hostOps0_4, keep_main_arg5_hostOps0_3]
theorem keep_main_arg6_hostOps0 (V : Valuation τ sig (Elt F)) : after hostOps0 V (Proc.devRef .tc main_arg6) = V (Proc.devRef .tc main_arg6) :=
  after_of_writes_sub hostOps0 V hostOps0_writes (by decide +kernel)
theorem keep_main_arg6_hostOps0_1 (V : Valuation τ sig (Elt F)) : after hostOps0_1 V (Proc.devRef .tc main_arg6) = V (Proc.devRef .tc main_arg6) :=
  after_of_writes_sub hostOps0_1 V hostOps0_1_writes (by decide +kernel)
theorem keep_main_arg6_hostOps0_2 (V : Valuation τ sig (Elt F)) : after hostOps0_2 V (Proc.devRef .tc main_arg6) = V (Proc.devRef .tc main_arg6) :=
  after_of_writes_sub hostOps0_2 V hostOps0_2_writes (by decide +kernel)
theorem keep_main_arg6_condOps (V : Valuation τ sig (Elt F)) : after condOps V (Proc.devRef .tc main_arg6) = V (Proc.devRef .tc main_arg6) :=
  after_of_writes_sub condOps V condOps_writes (by decide +kernel)
theorem keep_main_arg6_while0Ops0 (V : Valuation τ sig (Elt F)) : after while0Ops0 V (Proc.devRef .tc main_arg6) = V (Proc.devRef .tc main_arg6) :=
  after_of_writes_sub while0Ops0 V while0Ops0_writes (by decide +kernel)
theorem keep_main_arg6_while0Ops0_1 (V : Valuation τ sig (Elt F)) : after while0Ops0_1 V (Proc.devRef .tc main_arg6) = V (Proc.devRef .tc main_arg6) :=
  after_of_writes_sub while0Ops0_1 V while0Ops0_1_writes (by decide +kernel)
theorem keep_main_arg6_while0Ops0_2 (V : Valuation τ sig (Elt F)) : after while0Ops0_2 V (Proc.devRef .tc main_arg6) = V (Proc.devRef .tc main_arg6) :=
  after_of_writes_sub while0Ops0_2 V while0Ops0_2_writes (by decide +kernel)
theorem keep_main_arg6_while0Ops0_3 (V : Valuation τ sig (Elt F)) : after while0Ops0_3 V (Proc.devRef .tc main_arg6) = V (Proc.devRef .tc main_arg6) :=
  after_of_writes_sub while0Ops0_3 V while0Ops0_3_writes (by decide +kernel)
theorem keep_main_arg6_while0Ops0_4 (V : Valuation τ sig (Elt F)) : after while0Ops0_4 V (Proc.devRef .tc main_arg6) = V (Proc.devRef .tc main_arg6) :=
  after_of_writes_sub while0Ops0_4 V while0Ops0_4_writes (by decide +kernel)
theorem keep_main_arg6_while0Ops0_5 (V : Valuation τ sig (Elt F)) : after while0Ops0_5 V (Proc.devRef .tc main_arg6) = V (Proc.devRef .tc main_arg6) :=
  after_of_writes_sub while0Ops0_5 V while0Ops0_5_writes (by decide +kernel)
theorem keep_main_arg6_while0Ops0_6 (V : Valuation τ sig (Elt F)) : after while0Ops0_6 V (Proc.devRef .tc main_arg6) = V (Proc.devRef .tc main_arg6) :=
  after_of_writes_sub while0Ops0_6 V while0Ops0_6_writes (by decide +kernel)
theorem keep_main_arg6_while0Ops0_7 (V : Valuation τ sig (Elt F)) : after while0Ops0_7 V (Proc.devRef .tc main_arg6) = V (Proc.devRef .tc main_arg6) :=
  after_of_writes_sub while0Ops0_7 V while0Ops0_7_writes (by decide +kernel)
theorem keep_main_arg6_while0Ops0_8 (V : Valuation τ sig (Elt F)) : after while0Ops0_8 V (Proc.devRef .tc main_arg6) = V (Proc.devRef .tc main_arg6) :=
  after_of_writes_sub while0Ops0_8 V while0Ops0_8_writes (by decide +kernel)
theorem keep_main_arg6_while0Ops0_9 (V : Valuation τ sig (Elt F)) : after while0Ops0_9 V (Proc.devRef .tc main_arg6) = V (Proc.devRef .tc main_arg6) :=
  after_of_writes_sub while0Ops0_9 V while0Ops0_9_writes (by decide +kernel)
theorem keep_main_arg6_hostOps0_3 (V : Valuation τ sig (Elt F)) : after hostOps0_3 V (Proc.devRef .tc main_arg6) = V (Proc.devRef .tc main_arg6) :=
  after_of_writes_sub hostOps0_3 V hostOps0_3_writes (by decide +kernel)
theorem keep_main_arg6_hostOps0_4 (V : Valuation τ sig (Elt F)) : after hostOps0_4 V (Proc.devRef .tc main_arg6) = V (Proc.devRef .tc main_arg6) :=
  after_of_writes_sub hostOps0_4 V hostOps0_4_writes (by decide +kernel)
theorem keep_main_arg6_hostOps0_5 (V : Valuation τ sig (Elt F)) : after hostOps0_5 V (Proc.devRef .tc main_arg6) = V (Proc.devRef .tc main_arg6) :=
  after_of_writes_sub hostOps0_5 V hostOps0_5_writes (by decide +kernel)
/-- The argument `main_arg6` is written by nothing: it holds its launch contents before every condition. -/
theorem atK_main_arg6 (c : Dev nD) : ∀ k, atK m k c (Proc.devRef .tc main_arg6) = m ((c.tc : Thread nD τ).loc main_arg6)
  | 0 => by
    rw [show atK m 0 c = entryContents preI m c from rfl]
    simp only [entryContents, afterL_cons, afterL_nil]
    rw [keep_main_arg6_hostOps0_2, keep_main_arg6_hostOps0_1, keep_main_arg6_hostOps0]
  | k + 1 => by
    rw [show atK m (k + 1) c = afterL bodyI (after condOps (atK m k c)) from rfl]
    simp only [afterL_cons, afterL_nil]
    rw [keep_main_arg6_while0Ops0_9, keep_main_arg6_while0Ops0_8, keep_main_arg6_while0Ops0_7, keep_main_arg6_while0Ops0_6, keep_main_arg6_while0Ops0_5, keep_main_arg6_while0Ops0_4, keep_main_arg6_while0Ops0_3, keep_main_arg6_while0Ops0_2, keep_main_arg6_while0Ops0_1, keep_main_arg6_while0Ops0, keep_main_arg6_condOps, atK_main_arg6 c k]

/-- The operations after the loop do not write `main_arg6`. -/
theorem post_keeps_main_arg6 (V0 : Valuation τ sig (Elt F)) : afterL postI V0 (Proc.devRef .tc main_arg6) = V0 (Proc.devRef .tc main_arg6) := by
  simp only [postI, afterL_cons, afterL_nil]
  rw [keep_main_arg6_hostOps0_5, keep_main_arg6_hostOps0_4, keep_main_arg6_hostOps0_3]
/-- `STEP` iterated on the loop's entry leaves the argument `main_arg5` as the launch has it. -/
theorem iter_main_arg5 (c : Dev nD) : ∀ k, (STEP^[k] (entryContents preI m c)) (Proc.devRef .tc main_arg5) = m ((c.tc : Thread nD τ).loc main_arg5)
  | 0 => by rw [Function.iterate_zero, id_eq, ← atTrip_zero condOps bodyI (entryContents preI m)]; exact atK_main_arg5 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg5 c k
theorem keep_main_v16_condOps (V : Valuation τ sig (Elt F)) : after condOps V (Proc.devRef .tc main_v16) = V (Proc.devRef .tc main_v16) :=
  after_of_writes_sub condOps V condOps_writes (by decide +kernel)
theorem keep_main_v16_while0Ops0 (V : Valuation τ sig (Elt F)) : after while0Ops0 V (Proc.devRef .tc main_v16) = V (Proc.devRef .tc main_v16) :=
  after_of_writes_sub while0Ops0 V while0Ops0_writes (by decide +kernel)
theorem keep_main_v16_while0Ops0_1 (V : Valuation τ sig (Elt F)) : after while0Ops0_1 V (Proc.devRef .tc main_v16) = V (Proc.devRef .tc main_v16) :=
  after_of_writes_sub while0Ops0_1 V while0Ops0_1_writes (by decide +kernel)
theorem keep_main_v16_while0Ops0_2 (V : Valuation τ sig (Elt F)) : after while0Ops0_2 V (Proc.devRef .tc main_v16) = V (Proc.devRef .tc main_v16) :=
  after_of_writes_sub while0Ops0_2 V while0Ops0_2_writes (by decide +kernel)
theorem keep_main_v16_while0Ops0_3 (V : Valuation τ sig (Elt F)) : after while0Ops0_3 V (Proc.devRef .tc main_v16) = V (Proc.devRef .tc main_v16) :=
  after_of_writes_sub while0Ops0_3 V while0Ops0_3_writes (by decide +kernel)
theorem keep_main_v16_while0Ops0_4 (V : Valuation τ sig (Elt F)) : after while0Ops0_4 V (Proc.devRef .tc main_v16) = V (Proc.devRef .tc main_v16) :=
  after_of_writes_sub while0Ops0_4 V while0Ops0_4_writes (by decide +kernel)
theorem keep_main_v16_while0Ops0_5 (V : Valuation τ sig (Elt F)) : after while0Ops0_5 V (Proc.devRef .tc main_v16) = V (Proc.devRef .tc main_v16) :=
  after_of_writes_sub while0Ops0_5 V while0Ops0_5_writes (by decide +kernel)
theorem keep_main_v16_while0Ops0_6 (V : Valuation τ sig (Elt F)) : after while0Ops0_6 V (Proc.devRef .tc main_v16) = V (Proc.devRef .tc main_v16) :=
  after_of_writes_sub while0Ops0_6 V while0Ops0_6_writes (by decide +kernel)
theorem keep_main_v16_while0Ops0_7 (V : Valuation τ sig (Elt F)) : after while0Ops0_7 V (Proc.devRef .tc main_v16) = V (Proc.devRef .tc main_v16) :=
  after_of_writes_sub while0Ops0_7 V while0Ops0_7_writes (by decide +kernel)
theorem keep_main_v16_while0Ops0_8 (V : Valuation τ sig (Elt F)) : after while0Ops0_8 V (Proc.devRef .tc main_v16) = V (Proc.devRef .tc main_v16) :=
  after_of_writes_sub while0Ops0_8 V while0Ops0_8_writes (by decide +kernel)
theorem keep_main_v16_while0Ops0_9 (V : Valuation τ sig (Elt F)) : after while0Ops0_9 V (Proc.devRef .tc main_v16) = V (Proc.devRef .tc main_v16) :=
  after_of_writes_sub while0Ops0_9 V while0Ops0_9_writes (by decide +kernel)
/-- The array of projections is written by nothing in the loop. -/
theorem atK_main_v16 (c : Dev nD) : ∀ k, atK m k c (Proc.devRef .tc main_v16) = entryContents preI m c (Proc.devRef .tc main_v16)
  | 0 => rfl
  | k + 1 => by
    have h0 := atK_main_v16 c k
    generalize entryContents preI m c (Proc.devRef .tc main_v16) = e at h0 ⊢
    rw [show atK m (k + 1) c = afterL bodyI (after condOps (atK m k c)) from rfl]
    simp only [afterL_cons, afterL_nil]
    rw [keep_main_v16_while0Ops0_9, keep_main_v16_while0Ops0_8, keep_main_v16_while0Ops0_7, keep_main_v16_while0Ops0_6, keep_main_v16_while0Ops0_5, keep_main_v16_while0Ops0_4, keep_main_v16_while0Ops0_3, keep_main_v16_while0Ops0_2, keep_main_v16_while0Ops0_1, keep_main_v16_while0Ops0, keep_main_v16_condOps, h0]
/-- `STEP` iterated on the loop's entry leaves the array of projections as the entry has it. -/
theorem iter_main_v16 (c : Dev nD) : ∀ k, (STEP^[k] (entryContents preI m c)) (Proc.devRef .tc main_v16) = entryContents preI m c (Proc.devRef .tc main_v16)
  | 0 => by rw [Function.iterate_zero, id_eq, ← atTrip_zero condOps bodyI (entryContents preI m)]
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_v16 c k
theorem keep_main_v63_6_hostOps0_3 (V : Valuation τ sig (Elt F)) : after hostOps0_3 V (Proc.devRef .tc main_v63_6) = V (Proc.devRef .tc main_v63_6) :=
  after_of_writes_sub hostOps0_3 V hostOps0_3_writes (by decide +kernel)
theorem keep_main_v63_6_hostOps0_4 (V : Valuation τ sig (Elt F)) : after hostOps0_4 V (Proc.devRef .tc main_v63_6) = V (Proc.devRef .tc main_v63_6) :=
  after_of_writes_sub hostOps0_4 V hostOps0_4_writes (by decide +kernel)
theorem keep_main_v63_6_hostOps0_5 (V : Valuation τ sig (Elt F)) : after hostOps0_5 V (Proc.devRef .tc main_v63_6) = V (Proc.devRef .tc main_v63_6) :=
  after_of_writes_sub hostOps0_5 V hostOps0_5_writes (by decide +kernel)
/-- The operations after the loop do not write `main_v63_6`. -/
theorem post_keeps_main_v63_6 (V0 : Valuation τ sig (Elt F)) : afterL postI V0 (Proc.devRef .tc main_v63_6) = V0 (Proc.devRef .tc main_v63_6) := by
  simp only [postI, afterL_cons, afterL_nil]
  rw [keep_main_v63_6_hostOps0_5, keep_main_v63_6_hostOps0_4, keep_main_v63_6_hostOps0_3]
set_option maxRecDepth 8192 in
/-- `main_v88`, which the operations after the loop make, of the contents they start from. -/
def out_main_v88 (V0 : Valuation τ sig (Elt F)) : (Proc.devRef .tc main_v88 : DevRef τ sig).ty.Contents (Elt F) :=
  truncf .bf16 (mulf (shapeCast _ (mulf (mulf (shapeCast _ (transpose S8x1x8x4x1024 [1, 0, 3, 2, 4] (V0 (Proc.devRef .tc main_v63_7)) transposes_S1x8x4x8x1024_S8x1x8x4x1024_1_0_3_2_4) shapeCasts_S8x1x8x4x1024_S8x8x4x1024) (broadcastInDim S8x8x4x1024 ![0, 1, 2, 3] bcast_S8x8x4x1_S8x8x4x1024_0_1_2_3 (Host.rsqrt (addf (Host.divf (broadcastInDim S8x8x4x1 ![0, 1, 2] bcast_S8x8x4_S8x8x4x1_0_1_2 (Host.reduceAdd (mulf (shapeCast _ (transpose S8x1x8x4x1024 [1, 0, 3, 2, 4] (V0 (Proc.devRef .tc main_v63_7)) transposes_S1x8x4x8x1024_S8x1x8x4x1024_1_0_3_2_4) shapeCasts_S8x1x8x4x1024_S8x8x4x1024) (shapeCast _ (transpose S8x1x8x4x1024 [1, 0, 3, 2, 4] (V0 (Proc.devRef .tc main_v63_7)) transposes_S1x8x4x8x1024_S8x1x8x4x1024_1_0_3_2_4) shapeCasts_S8x1x8x4x1024_S8x8x4x1024)) (constant S_ .f32 0x00000000#32) reducesTo_S8x8x4x1024_S8x8x4_d3 h_S_)) (broadcastInDim S8x8x4x1 ![] bcast_S_S8x8x4x1 (constant S_ .f32 0x44800000#32))) (broadcastInDim S8x8x4x1 ![] bcast_S_S8x8x4x1 (constant S_ .f32 0x358637BD#32)))))) (broadcastInDim S8x8x4x1024 ![0, 1, 2, 3] bcast_S1x1x4x1024_S8x8x4x1024_0_1_2_3 (broadcastInDim S1x1x4x1024 ![2, 3] bcast_S4x1024_S1x1x4x1024_2_3 (shapeCast _ (V0 (Proc.devRef .tc main_arg5)) shapeCasts_S1x4x1024_S4x1024)))) shapeCasts_S8x8x4x1024_S8x8x4096) (mulf (extractStridedSlice S8x8x4096 ![0, 0, 8192] (V0 (Proc.devRef .tc main_v16)) slices_S8x8x12304_S8x8x4096_0_0_8192) (Host.divf (broadcastInDim S8x8x4096 ![] bcast_S_S8x8x4096 (constant S_ .f32 0x3F800000#32)) (addf (broadcastInDim S8x8x4096 ![] bcast_S_S8x8x4096 (constant S_ .f32 0x3F800000#32)) (Host.exp (Host.negf (extractStridedSlice S8x8x4096 ![0, 0, 8192] (V0 (Proc.devRef .tc main_v16)) slices_S8x8x12304_S8x8x4096_0_0_8192))))))) bitsLt_bf16_f32
set_option maxRecDepth 8192 in
set_option maxHeartbeats 2000000 in
theorem post_main_v88 (V0 : Valuation τ sig (Elt F)) : afterL postI V0 (no_index (Proc.devRef .tc main_v88)) = out_main_v88 V0 := by
  unfold out_main_v88
  simp only [postI, afterL_cons, afterL_nil, hostOps0_3, hostOps0_4, hostOps0_5]
  after_results_entrywise []
set_option maxRecDepth 8192 in
theorem out_main_v88_congr {V0 V0' : Valuation τ sig (Elt F)} (h : Agree V0 V0') (h_main_arg5 : V0 (Proc.devRef .tc main_arg5) = V0' (Proc.devRef .tc main_arg5)) (h_main_v16 : V0 (Proc.devRef .tc main_v16) = V0' (Proc.devRef .tc main_v16)) : out_main_v88 V0 = out_main_v88 V0' := by
  unfold out_main_v88
  rw [h main_v63_7 (by decide), h_main_arg5, h_main_v16]
/-- Every weakly fair execution of @main terminates with the two results at what the loop's one trip and the operations after it
    leave, and every argument unchanged. -/
theorem run : θ_run (defs (F := F)) (onTc (τ := τ) (main (F := F))) ⟨m, fun _ => 0, ρ⟩ fun r => ∀ c : Dev nD,
      r.2.mem ((c.tc : Thread nD τ).loc main_v88) = out_main_v88 (STEP^[1] (entryContents preI m c))
      ∧ r.2.mem ((c.tc : Thread nD τ).loc main_v63_6) = (STEP^[1] (entryContents preI m c)) (Proc.devRef .tc main_v63_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v88 rfl).trans ((post_main_v88 _).trans (out_main_v88_congr (fun j hj => (cond_keeps _ j hj).trans (atK_agree m c 1 j hj)) ((keep_main_arg5_condOps _).trans ((atK_main_arg5 m c 1).trans (iter_main_arg5 m c 1).symm)) ((keep_main_v16_condOps _).trans ((atK_main_v16 m c 1).trans (iter_main_v16 m c 1).symm)))),
      (h c main_v63_6 rfl).trans ((post_keeps_main_v63_6 _).trans ((cond_keeps _ main_v63_6 (by decide)).trans (atK_agree m c 1 main_v63_6 (by decide)))),
      (h c main_arg0 rfl).trans ((post_keeps_main_arg0 _).trans ((keep_main_arg0_condOps _).trans (atK_main_arg0 m c 1))),
      (h c main_arg1 rfl).trans ((post_keeps_main_arg1 _).trans ((keep_main_arg1_condOps _).trans (atK_main_arg1 m c 1))),
      (h c main_arg2 rfl).trans ((post_keeps_main_arg2 _).trans ((keep_main_arg2_condOps _).trans (atK_main_arg2 m c 1))),
      (h c main_arg3 rfl).trans ((post_keeps_main_arg3 _).trans ((keep_main_arg3_condOps _).trans (atK_main_arg3 m c 1))),
      (h c main_arg4 rfl).trans ((post_keeps_main_arg4 _).trans ((keep_main_arg4_condOps _).trans (atK_main_arg4 m c 1))),
      (h c main_arg5 rfl).trans ((post_keeps_main_arg5 _).trans ((keep_main_arg5_condOps _).trans (atK_main_arg5 m c 1))),
      (h c main_arg6 rfl).trans ((post_keeps_main_arg6 _).trans ((keep_main_arg6_condOps _).trans (atK_main_arg6 m c 1)))⟩) (run_fold m ρ)

end Cert.MixSampleRefIdeal.Value

end
-- ==== Proof.Mix.RefLoop.lean ====
/- The loop of the reference from the residual stream: it is the loop of `GlaS/RefLoop.lean`, whose states and step are used here, on
   the array of projections the operations before it make. -/
module

public import proofs.«01_k».proof.Proof.Mix.RefRun
public import proofs.«01_k».proof.Proof.Gen.GlaSampleRefIdeal.Step

@[expose] public section

noncomputable section

namespace Cert.MixSampleRefIdeal.Loop

open Idealize.ShloMosaic Idealize.ShloMosaic.TcCoe Idealize.SL.Sem Idealize.ShloMosaic.StableHlo
open Cert.MixSampleRefIdeal Cert.MixSampleRefIdeal.Gen Cert.MixSampleRefIdeal.Value
open Cert.GlaSampleRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v63_6) = s.main_v45_6
  f_7 : V0 (Proc.devRef .tc main_v63_7) = s.main_v45_7
  f_0 : V0 (Proc.devRef .tc main_v63_0) = s.main_v45_0
  f_1 : V0 (Proc.devRef .tc main_v63_1) = s.main_v45_1
  f_2 : V0 (Proc.devRef .tc main_v63_2) = s.main_v45_2
  f_3 : V0 (Proc.devRef .tc main_v63_3) = s.main_v45_3
  n_5 : V0 (Proc.devRef .tc main_v63_5) = constantI S_ 32 (BitVec.ofNat 32 j)
  k_4 : V0 (Proc.devRef .tc main_v63_4) = Cert.GlaSampleRefIdeal.Step.K_main_v35 (F := F)

variable {V0 s j}

set_option maxRecDepth 8192 in
theorem al_0 (h : Holds V0 s j) : (constantI S_ 32 0#32 : (Proc.devRef .tc main_while0b_call1_c : DevRef τ sig).ty.Contents (Elt F)) = Cert.GlaSampleRefIdeal.Step.b0 j s := by
  unfold Cert.GlaSampleRefIdeal.Step.b0
  rfl
set_option maxRecDepth 8192 in
theorem al_1 (h : Holds V0 s j) : (constantI S_ 32 0#32 : (Proc.devRef .tc main_while0b_call1_c_0 : DevRef τ sig).ty.Contents (Elt F)) = Cert.GlaSampleRefIdeal.Step.b1 j s := by
  unfold Cert.GlaSampleRefIdeal.Step.b1
  rfl
set_option maxRecDepth 8192 in
theorem al_2 (h : Holds V0 s j) : (constantI S_ 32 0#32 : (Proc.devRef .tc main_while0b_call1_c_1 : DevRef τ sig).ty.Contents (Elt F)) = Cert.GlaSampleRefIdeal.Step.b2 j s := by
  unfold Cert.GlaSampleRefIdeal.Step.b2
  rfl
set_option maxRecDepth 8192 in
theorem al_3 (h : Holds V0 s j) : (constantI S_ 32 0#32 : (Proc.devRef .tc main_while0b_call1_c_2 : DevRef τ sig).ty.Contents (Elt F)) = Cert.GlaSampleRefIdeal.Step.b3 j s := by
  unfold Cert.GlaSampleRefIdeal.Step.b3
  rfl
set_option maxRecDepth 8192 in
theorem al_4 (h : Holds V0 s j) : (Host.dynamicSlice S1x8x4x8x512 (V0 (Proc.devRef .tc main_v63_0)) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512 : (Proc.devRef .tc main_while0b_call1_v0 : DevRef τ sig).ty.Contents (Elt F)) = Cert.GlaSampleRefIdeal.Step.b4 j s := by
  unfold Cert.GlaSampleRefIdeal.Step.b4
  rw [← al_0 h, ← al_1 h, ← al_2 h, ← al_3 h, h.f_0, h.n_5]
  try rfl
set_option maxRecDepth 8192 in
theorem al_5 (h : Holds V0 s j) : (shapeCast S8x4x8x512 (Host.dynamicSlice S1x8x4x8x512 (V0 (Proc.devRef .tc main_v63_0)) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512) shapeCasts_S1x8x4x8x512_S8x4x8x512 : (Proc.devRef .tc main_while0b_v89 : DevRef τ sig).ty.Contents (Elt F)) = Cert.GlaSampleRefIdeal.Step.b5 j s := by
  unfold Cert.GlaSampleRefIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.GlaSampleRefIdeal.Step.b6 j s := by
  unfold Cert.GlaSampleRefIdeal.Step.b6
  rfl
set_option maxRecDepth 8192 in
theorem al_7 (h : Holds V0 s j) : (constantI S_ 32 0#32 : (Proc.devRef .tc main_while0b_call2_c_0 : DevRef τ sig).ty.Contents (Elt F)) = Cert.GlaSampleRefIdeal.Step.b7 j s := by
  unfold Cert.GlaSampleRefIdeal.Step.b7
  rfl
set_option maxRecDepth 8192 in
theorem al_8 (h : Holds V0 s j) : (constantI S_ 32 0#32 : (Proc.devRef .tc main_while0b_call2_c_1 : DevRef τ sig).ty.Contents (Elt F)) = Cert.GlaSampleRefIdeal.Step.b8 j s := by
  unfold Cert.GlaSampleRefIdeal.Step.b8
  rfl
set_option maxRecDepth 8192 in
theorem al_9 (h : Holds V0 s j) : (constantI S_ 32 0#32 : (Proc.devRef .tc main_while0b_call2_c_2 : DevRef τ sig).ty.Contents (Elt F)) = Cert.GlaSampleRefIdeal.Step.b9 j s := by
  unfold Cert.GlaSampleRefIdeal.Step.b9
  rfl
set_option maxRecDepth 8192 in
theorem al_10 (h : Holds V0 s j) : (Host.dynamicSlice S1x8x4x8x512 (V0 (Proc.devRef .tc main_v63_1)) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512 : (Proc.devRef .tc main_while0b_call2_v0 : DevRef τ sig).ty.Contents (Elt F)) = Cert.GlaSampleRefIdeal.Step.b10 j s := by
  unfold Cert.GlaSampleRefIdeal.Step.b10
  rw [← al_6 h, ← al_7 h, ← al_8 h, ← al_9 h, h.f_1, h.n_5]
  try rfl
set_option maxRecDepth 8192 in
theorem al_11 (h : Holds V0 s j) : (res_main_while0b_v90 V0 : (Proc.devRef .tc main_while0b_v90 : DevRef τ sig).ty.Contents (Elt F)) = Cert.GlaSampleRefIdeal.Step.b11 j s := by
  unfold res_main_while0b_v90 Cert.GlaSampleRefIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.GlaSampleRefIdeal.Step.b12 j s := by
  unfold Cert.GlaSampleRefIdeal.Step.b12
  rfl
set_option maxRecDepth 8192 in
theorem al_13 (h : Holds V0 s j) : (constantI S_ 32 0#32 : (Proc.devRef .tc main_while0b_call3_c_0 : DevRef τ sig).ty.Contents (Elt F)) = Cert.GlaSampleRefIdeal.Step.b13 j s := by
  unfold Cert.GlaSampleRefIdeal.Step.b13
  rfl
set_option maxRecDepth 8192 in
theorem al_14 (h : Holds V0 s j) : (constantI S_ 32 0#32 : (Proc.devRef .tc main_while0b_call3_c_1 : DevRef τ sig).ty.Contents (Elt F)) = Cert.GlaSampleRefIdeal.Step.b14 j s := by
  unfold Cert.GlaSampleRefIdeal.Step.b14
  rfl
set_option maxRecDepth 8192 in
theorem al_15 (h : Holds V0 s j) : (constantI S_ 32 0#32 : (Proc.devRef .tc main_while0b_call3_c_2 : DevRef τ sig).ty.Contents (Elt F)) = Cert.GlaSampleRefIdeal.Step.b15 j s := by
  unfold Cert.GlaSampleRefIdeal.Step.b15
  rfl
set_option maxRecDepth 8192 in
theorem al_16 (h : Holds V0 s j) : (Host.dynamicSlice S1x8x4x8x1024 (V0 (Proc.devRef .tc main_v63_2)) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x1024_S1x8x4x8x1024 : (Proc.devRef .tc main_while0b_call3_v0 : DevRef τ sig).ty.Contents (Elt F)) = Cert.GlaSampleRefIdeal.Step.b16 j s := by
  unfold Cert.GlaSampleRefIdeal.Step.b16
  rw [← al_12 h, ← al_13 h, ← al_14 h, ← al_15 h, h.f_2, h.n_5]
  try rfl
set_option maxRecDepth 8192 in
theorem al_17 (h : Holds V0 s j) : (res_main_while0b_v91 V0 : (Proc.devRef .tc main_while0b_v91 : DevRef τ sig).ty.Contents (Elt F)) = Cert.GlaSampleRefIdeal.Step.b17 j s := by
  unfold res_main_while0b_v91 Cert.GlaSampleRefIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.GlaSampleRefIdeal.Step.b18 j s := by
  unfold Cert.GlaSampleRefIdeal.Step.b18
  rfl
set_option maxRecDepth 8192 in
theorem al_19 (h : Holds V0 s j) : (constantI S_ 32 0#32 : (Proc.devRef .tc main_while0b_call4_c_0 : DevRef τ sig).ty.Contents (Elt F)) = Cert.GlaSampleRefIdeal.Step.b19 j s := by
  unfold Cert.GlaSampleRefIdeal.Step.b19
  rfl
set_option maxRecDepth 8192 in
theorem al_20 (h : Holds V0 s j) : (constantI S_ 32 0#32 : (Proc.devRef .tc main_while0b_call4_c_1 : DevRef τ sig).ty.Contents (Elt F)) = Cert.GlaSampleRefIdeal.Step.b20 j s := by
  unfold Cert.GlaSampleRefIdeal.Step.b20
  rfl
set_option maxRecDepth 8192 in
theorem al_21 (h : Holds V0 s j) : (constantI S_ 32 0#32 : (Proc.devRef .tc main_while0b_call4_c_2 : DevRef τ sig).ty.Contents (Elt F)) = Cert.GlaSampleRefIdeal.Step.b21 j s := by
  unfold Cert.GlaSampleRefIdeal.Step.b21
  rfl
set_option maxRecDepth 8192 in
theorem al_22 (h : Holds V0 s j) : (Host.dynamicSlice S1x8x4x8x512 (V0 (Proc.devRef .tc main_v63_3)) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512 : (Proc.devRef .tc main_while0b_call4_v0 : DevRef τ sig).ty.Contents (Elt F)) = Cert.GlaSampleRefIdeal.Step.b22 j s := by
  unfold Cert.GlaSampleRefIdeal.Step.b22
  rw [← al_18 h, ← al_19 h, ← al_20 h, ← al_21 h, h.f_3, h.n_5]
  try rfl
set_option maxRecDepth 8192 in
theorem al_23 (h : Holds V0 s j) : (shapeCast S8x4x8x512 (Host.dynamicSlice S1x8x4x8x512 (V0 (Proc.devRef .tc main_v63_3)) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) sliceFits_S1x8x4x8x512_S1x8x4x8x512) shapeCasts_S1x8x4x8x512_S8x4x8x512 : (Proc.devRef .tc main_while0b_v92 : DevRef τ sig).ty.Contents (Elt F)) = Cert.GlaSampleRefIdeal.Step.b23 j s := by
  unfold Cert.GlaSampleRefIdeal.Step.b23
  rw [← al_22 h]
  try rfl
set_option maxRecDepth 8192 in
theorem al_24 (h : Holds V0 s j) : (constant S_ .f32 0x00000000#32 : (Proc.devRef .tc main_while0b_call5_call0_cst : DevRef τ sig).ty.Contents (Elt F)) = Cert.GlaSampleRefIdeal.Step.b24 j s := by
  unfold Cert.GlaSampleRefIdeal.Step.b24
  rfl
set_option maxRecDepth 8192 in
theorem al_25 (h : Holds V0 s j) : (broadcastInDim S_ ![] bcast_S_S_ (constant S_ .f32 0x00000000#32) : (Proc.devRef .tc main_while0b_call5_call0_v0 : DevRef τ sig).ty.Contents (Elt F)) = Cert.GlaSampleRefIdeal.Step.b25 j s := by
  unfold Cert.GlaSampleRefIdeal.Step.b25
  rw [← al_24 h]
  try rfl
set_option maxRecDepth 8192 in
theorem al_26 (h : Holds V0 s j) : (res_main_while0b_v93 V0 : (Proc.devRef .tc main_while0b_v93 : DevRef τ sig).ty.Contents (Elt F)) = Cert.GlaSampleRefIdeal.Step.b26 j s := by
  unfold res_main_while0b_v93 Cert.GlaSampleRefIdeal.Step.b26
  rw [← al_23 h, ← al_25 h]
  try rfl
set_option maxRecDepth 8192 in
theorem al_27 (h : Holds V0 s j) : (Host.exp (res_main_while0b_v93 V0) : (Proc.devRef .tc main_while0b_v94 : DevRef τ sig).ty.Contents (Elt F)) = Cert.GlaSampleRefIdeal.Step.b27 j s := by
  unfold Cert.GlaSampleRefIdeal.Step.b27
  rw [← al_26 h]
  try rfl
set_option maxRecDepth 8192 in
theorem al_28 (h : Holds V0 s j) : (res_main_while0b_v95 V0 : (Proc.devRef .tc main_while0b_v95 : DevRef τ sig).ty.Contents (Elt F)) = Cert.GlaSampleRefIdeal.Step.b28 j s := by
  unfold res_main_while0b_v95 Cert.GlaSampleRefIdeal.Step.b28
  rw [← al_5 h, ← al_27 h]
  try rfl
set_option maxRecDepth 8192 in
theorem al_29 (h : Holds V0 s j) : (Host.negf (res_main_while0b_v93 V0) : (Proc.devRef .tc main_while0b_v96 : DevRef τ sig).ty.Contents (Elt F)) = Cert.GlaSampleRefIdeal.Step.b29 j s := by
  unfold Cert.GlaSampleRefIdeal.Step.b29
  rw [← al_26 h]
  try rfl
set_option maxRecDepth 8192 in
theorem al_30 (h : Holds V0 s j) : (Host.exp (Host.negf (res_main_while0b_v93 V0)) : (Proc.devRef .tc main_while0b_v97 : DevRef τ sig).ty.Contents (Elt F)) = Cert.GlaSampleRefIdeal.Step.b30 j s := by
  unfold Cert.GlaSampleRefIdeal.Step.b30
  rw [← al_29 h]
  try rfl
set_option maxRecDepth 8192 in
theorem al_31 (h : Holds V0 s j) : (mulf (res_main_while0b_v90 V0) (Host.exp (Host.negf (res_main_while0b_v93 V0))) : (Proc.devRef .tc main_while0b_v98 : DevRef τ sig).ty.Contents (Elt F)) = Cert.GlaSampleRefIdeal.Step.b31 j s := by
  unfold Cert.GlaSampleRefIdeal.Step.b31
  rw [← al_11 h, ← al_30 h]
  try rfl
set_option maxRecDepth 8192 in
theorem al_32 (h : Holds V0 s j) : (Host.dotGeneral dot_S8x4x8x512_S8x4x8x512_S8x4x8x8_3_3_2_2_01_01 none (res_main_while0b_v95 V0) (mulf (res_main_while0b_v90 V0) (Host.exp (Host.negf (res_main_while0b_v93 V0)))) : (Proc.devRef .tc main_while0b_v99 : DevRef τ sig).ty.Contents (Elt F)) = Cert.GlaSampleRefIdeal.Step.b32 j s := by
  unfold Cert.GlaSampleRefIdeal.Step.b32
  rw [← al_28 h, ← al_31 h]
  try rfl
set_option maxRecDepth 8192 in
theorem al_33 (h : Holds V0 s j) : (constant S_ .f32 0x00000000#32 : (Proc.devRef .tc main_while0b_cst_17 : DevRef τ sig).ty.Contents (Elt F)) = Cert.GlaSampleRefIdeal.Step.b33 j s := by
  unfold Cert.GlaSampleRefIdeal.Step.b33
  rfl
set_option maxRecDepth 8192 in
theorem al_34 (h : Holds V0 s j) : (id (constant S_ .f32 0x00000000#32) : (Proc.devRef .tc main_while0b_call6_v0 : DevRef τ sig).ty.Contents (Elt F)) = Cert.GlaSampleRefIdeal.Step.b34 j s := by
  unfold Cert.GlaSampleRefIdeal.Step.b34
  rw [← al_33 h]
  try rfl
set_option maxRecDepth 8192 in
theorem al_35 (h : Holds V0 s j) : (broadcastInDim S8x4x8x8 ![2, 3] bcast_S8x8_S8x4x8x8_2_3 (V0 (Proc.devRef .tc main_v63_4)) : (Proc.devRef .tc main_while0b_call6_v1 : DevRef τ sig).ty.Contents (Elt F)) = Cert.GlaSampleRefIdeal.Step.b35 j s := by
  unfold Cert.GlaSampleRefIdeal.Step.b35
  rw [h.k_4]
  try rfl
set_option maxRecDepth 8192 in
theorem al_36 (h : Holds V0 s j) : (broadcastInDim S8x4x8x8 ![] bcast_S_S8x4x8x8 (id (constant S_ .f32 0x00000000#32)) : (Proc.devRef .tc main_while0b_call6_v2 : DevRef τ sig).ty.Contents (Elt F)) = Cert.GlaSampleRefIdeal.Step.b36 j s := by
  unfold Cert.GlaSampleRefIdeal.Step.b36
  rw [← al_34 h]
  try rfl
set_option maxRecDepth 8192 in
theorem al_37 (h : Holds V0 s j) : (select (broadcastInDim S8x4x8x8 ![2, 3] bcast_S8x8_S8x4x8x8_2_3 (V0 (Proc.devRef .tc main_v63_4))) (Host.dotGeneral dot_S8x4x8x512_S8x4x8x512_S8x4x8x8_3_3_2_2_01_01 none (res_main_while0b_v95 V0) (mulf (res_main_while0b_v90 V0) (Host.exp (Host.negf (res_main_while0b_v93 V0))))) (broadcastInDim S8x4x8x8 ![] bcast_S_S8x4x8x8 (id (constant S_ .f32 0x00000000#32))) : (Proc.devRef .tc main_while0b_v100 : DevRef τ sig).ty.Contents (Elt F)) = Cert.GlaSampleRefIdeal.Step.b37 j s := by
  unfold Cert.GlaSampleRefIdeal.Step.b37
  rw [← al_35 h, ← al_32 h, ← al_36 h]
  try rfl
set_option maxRecDepth 8192 in
theorem al_38 (h : Holds V0 s j) : (Host.dotGeneral dot_S8x4x8x512_S8x4x512x1024_S8x4x8x1024_3_2_2_3_01_01 none (res_main_while0b_v95 V0) (V0 (Proc.devRef .tc main_v63_6)) : (Proc.devRef .tc main_while0b_v101 : DevRef τ sig).ty.Contents (Elt F)) = Cert.GlaSampleRefIdeal.Step.b38 j s := by
  unfold Cert.GlaSampleRefIdeal.Step.b38
  rw [← al_28 h, h.f_6]
  try rfl
set_option maxRecDepth 8192 in
theorem al_39 (h : Holds V0 s j) : (Host.dotGeneral dot_S8x4x8x8_S8x4x8x1024_S8x4x8x1024_3_2_2_3_01_01 none (select (broadcastInDim S8x4x8x8 ![2, 3] bcast_S8x8_S8x4x8x8_2_3 (V0 (Proc.devRef .tc main_v63_4))) (Host.dotGeneral dot_S8x4x8x512_S8x4x8x512_S8x4x8x8_3_3_2_2_01_01 none (res_main_while0b_v95 V0) (mulf (res_main_while0b_v90 V0) (Host.exp (Host.negf (res_main_while0b_v93 V0))))) (broadcastInDim S8x4x8x8 ![] bcast_S_S8x4x8x8 (id (constant S_ .f32 0x00000000#32)))) (res_main_while0b_v91 V0) : (Proc.devRef .tc main_while0b_v102 : DevRef τ sig).ty.Contents (Elt F)) = Cert.GlaSampleRefIdeal.Step.b39 j s := by
  unfold Cert.GlaSampleRefIdeal.Step.b39
  rw [← al_37 h, ← al_17 h]
  try rfl
set_option maxRecDepth 8192 in
theorem al_40 (h : Holds V0 s j) : (addf (Host.dotGeneral dot_S8x4x8x512_S8x4x512x1024_S8x4x8x1024_3_2_2_3_01_01 none (res_main_while0b_v95 V0) (V0 (Proc.devRef .tc main_v63_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v63_4))) (Host.dotGeneral dot_S8x4x8x512_S8x4x8x512_S8x4x8x8_3_3_2_2_01_01 none (res_main_while0b_v95 V0) (mulf (res_main_while0b_v90 V0) (Host.exp (Host.negf (res_main_while0b_v93 V0))))) (broadcastInDim S8x4x8x8 ![] bcast_S_S8x4x8x8 (id (constant S_ .f32 0x00000000#32)))) (res_main_while0b_v91 V0)) : (Proc.devRef .tc main_while0b_v103 : DevRef τ sig).ty.Contents (Elt F)) = Cert.GlaSampleRefIdeal.Step.b40 j s := by
  unfold Cert.GlaSampleRefIdeal.Step.b40
  rw [← al_38 h, ← al_39 h]
  try rfl
set_option maxRecDepth 8192 in
theorem al_41 (h : Holds V0 s j) : (res_main_while0b_v104 V0 : (Proc.devRef .tc main_while0b_v104 : DevRef τ sig).ty.Contents (Elt F)) = Cert.GlaSampleRefIdeal.Step.b41 j s := by
  unfold res_main_while0b_v104 Cert.GlaSampleRefIdeal.Step.b41
  rw [← al_26 h]
  try rfl
set_option maxRecDepth 8192 in
theorem al_42 (h : Holds V0 s j) : (shapeCast S8x4x512 (res_main_while0b_v104 V0) shapeCasts_S8x4x1x512_S8x4x512 : (Proc.devRef .tc main_while0b_v105 : DevRef τ sig).ty.Contents (Elt F)) = Cert.GlaSampleRefIdeal.Step.b42 j s := by
  unfold Cert.GlaSampleRefIdeal.Step.b42
  rw [← al_41 h]
  try rfl
set_option maxRecDepth 8192 in
theorem al_43 (h : Holds V0 s j) : (broadcastInDim S8x4x512x1 ![0, 1, 2] bcast_S8x4x512_S8x4x512x1_0_1_2 (shapeCast S8x4x512 (res_main_while0b_v104 V0) shapeCasts_S8x4x1x512_S8x4x512) : (Proc.devRef .tc main_while0b_v106 : DevRef τ sig).ty.Contents (Elt F)) = Cert.GlaSampleRefIdeal.Step.b43 j s := by
  unfold Cert.GlaSampleRefIdeal.Step.b43
  rw [← al_42 h]
  try rfl
set_option maxRecDepth 8192 in
theorem al_44 (h : Holds V0 s j) : (Host.exp (broadcastInDim S8x4x512x1 ![0, 1, 2] bcast_S8x4x512_S8x4x512x1_0_1_2 (shapeCast S8x4x512 (res_main_while0b_v104 V0) shapeCasts_S8x4x1x512_S8x4x512)) : (Proc.devRef .tc main_while0b_v107 : DevRef τ sig).ty.Contents (Elt F)) = Cert.GlaSampleRefIdeal.Step.b44 j s := by
  unfold Cert.GlaSampleRefIdeal.Step.b44
  rw [← al_43 h]
  try rfl
set_option maxRecDepth 8192 in
theorem al_45 (h : Holds V0 s j) : (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v104 V0) shapeCasts_S8x4x1x512_S8x4x512))) : (Proc.devRef .tc main_while0b_v108 : DevRef τ sig).ty.Contents (Elt F)) = Cert.GlaSampleRefIdeal.Step.b45 j s := by
  unfold Cert.GlaSampleRefIdeal.Step.b45
  rw [← al_44 h]
  try rfl
set_option maxRecDepth 8192 in
theorem al_46 (h : Holds V0 s j) : (mulf (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v104 V0) shapeCasts_S8x4x1x512_S8x4x512)))) (V0 (Proc.devRef .tc main_v63_6)) : (Proc.devRef .tc main_while0b_v109 : DevRef τ sig).ty.Contents (Elt F)) = Cert.GlaSampleRefIdeal.Step.b46 j s := by
  unfold Cert.GlaSampleRefIdeal.Step.b46
  rw [← al_45 h, h.f_6]
  try rfl
set_option maxRecDepth 8192 in
theorem al_47 (h : Holds V0 s j) : (broadcastInDim S8x4x8x512 ![0, 1, 2, 3] bcast_S8x4x1x512_S8x4x8x512_0_1_2_3 (res_main_while0b_v104 V0) : (Proc.devRef .tc main_while0b_v110 : DevRef τ sig).ty.Contents (Elt F)) = Cert.GlaSampleRefIdeal.Step.b47 j s := by
  unfold Cert.GlaSampleRefIdeal.Step.b47
  rw [← al_41 h]
  try rfl
set_option maxRecDepth 8192 in
theorem al_48 (h : Holds V0 s j) : (subf (broadcastInDim S8x4x8x512 ![0, 1, 2, 3] bcast_S8x4x1x512_S8x4x8x512_0_1_2_3 (res_main_while0b_v104 V0)) (res_main_while0b_v93 V0) : (Proc.devRef .tc main_while0b_v111 : DevRef τ sig).ty.Contents (Elt F)) = Cert.GlaSampleRefIdeal.Step.b48 j s := by
  unfold Cert.GlaSampleRefIdeal.Step.b48
  rw [← al_47 h, ← al_26 h]
  try rfl
set_option maxRecDepth 8192 in
theorem al_49 (h : Holds V0 s j) : (Host.exp (subf (broadcastInDim S8x4x8x512 ![0, 1, 2, 3] bcast_S8x4x1x512_S8x4x8x512_0_1_2_3 (res_main_while0b_v104 V0)) (res_main_while0b_v93 V0)) : (Proc.devRef .tc main_while0b_v112 : DevRef τ sig).ty.Contents (Elt F)) = Cert.GlaSampleRefIdeal.Step.b49 j s := by
  unfold Cert.GlaSampleRefIdeal.Step.b49
  rw [← al_48 h]
  try rfl
set_option maxRecDepth 8192 in
theorem al_50 (h : Holds V0 s j) : (mulf (res_main_while0b_v90 V0) (Host.exp (subf (broadcastInDim S8x4x8x512 ![0, 1, 2, 3] bcast_S8x4x1x512_S8x4x8x512_0_1_2_3 (res_main_while0b_v104 V0)) (res_main_while0b_v93 V0))) : (Proc.devRef .tc main_while0b_v113 : DevRef τ sig).ty.Contents (Elt F)) = Cert.GlaSampleRefIdeal.Step.b50 j s := by
  unfold Cert.GlaSampleRefIdeal.Step.b50
  rw [← al_11 h, ← al_49 h]
  try rfl
set_option maxRecDepth 8192 in
theorem al_51 (h : Holds V0 s j) : (Host.dotGeneral dot_S8x4x8x512_S8x4x8x1024_S8x4x512x1024_2_2_3_3_01_01 none (mulf (res_main_while0b_v90 V0) (Host.exp (subf (broadcastInDim S8x4x8x512 ![0, 1, 2, 3] bcast_S8x4x1x512_S8x4x8x512_0_1_2_3 (res_main_while0b_v104 V0)) (res_main_while0b_v93 V0)))) (res_main_while0b_v91 V0) : (Proc.devRef .tc main_while0b_v114 : DevRef τ sig).ty.Contents (Elt F)) = Cert.GlaSampleRefIdeal.Step.b51 j s := by
  unfold Cert.GlaSampleRefIdeal.Step.b51
  rw [← al_50 h, ← al_17 h]
  try rfl
set_option maxRecDepth 8192 in
theorem al_52 (h : Holds V0 s j) : (addf (mulf (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v104 V0) shapeCasts_S8x4x1x512_S8x4x512)))) (V0 (Proc.devRef .tc main_v63_6))) (Host.dotGeneral dot_S8x4x8x512_S8x4x8x1024_S8x4x512x1024_2_2_3_3_01_01 none (mulf (res_main_while0b_v90 V0) (Host.exp (subf (broadcastInDim S8x4x8x512 ![0, 1, 2, 3] bcast_S8x4x1x512_S8x4x8x512_0_1_2_3 (res_main_while0b_v104 V0)) (res_main_while0b_v93 V0)))) (res_main_while0b_v91 V0)) : (Proc.devRef .tc main_while0b_v115 : DevRef τ sig).ty.Contents (Elt F)) = Cert.GlaSampleRefIdeal.Step.b52 j s := by
  unfold Cert.GlaSampleRefIdeal.Step.b52
  rw [← al_46 h, ← al_51 h]
  try rfl
set_option maxRecDepth 8192 in
theorem al_53 (h : Holds V0 s j) : (broadcastInDim S1x8x4x8x1024 ![1, 2, 3, 4] bcast_S8x4x8x1024_S1x8x4x8x1024_1_2_3_4 (addf (Host.dotGeneral dot_S8x4x8x512_S8x4x512x1024_S8x4x8x1024_3_2_2_3_01_01 none (res_main_while0b_v95 V0) (V0 (Proc.devRef .tc main_v63_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v63_4))) (Host.dotGeneral dot_S8x4x8x512_S8x4x8x512_S8x4x8x8_3_3_2_2_01_01 none (res_main_while0b_v95 V0) (mulf (res_main_while0b_v90 V0) (Host.exp (Host.negf (res_main_while0b_v93 V0))))) (broadcastInDim S8x4x8x8 ![] bcast_S_S8x4x8x8 (id (constant S_ .f32 0x00000000#32)))) (res_main_while0b_v91 V0))) : (Proc.devRef .tc main_while0b_call7_v0 : DevRef τ sig).ty.Contents (Elt F)) = Cert.GlaSampleRefIdeal.Step.b53 j s := by
  unfold Cert.GlaSampleRefIdeal.Step.b53
  rw [← al_40 h]
  try rfl
set_option maxRecDepth 8192 in
theorem al_54 (h : Holds V0 s j) : (constantI S_ 32 0#32 : (Proc.devRef .tc main_while0b_call7_c : DevRef τ sig).ty.Contents (Elt F)) = Cert.GlaSampleRefIdeal.Step.b54 j s := by
  unfold Cert.GlaSampleRefIdeal.Step.b54
  rfl
set_option maxRecDepth 8192 in
theorem al_55 (h : Holds V0 s j) : (constantI S_ 32 0#32 : (Proc.devRef .tc main_while0b_call7_c_0 : DevRef τ sig).ty.Contents (Elt F)) = Cert.GlaSampleRefIdeal.Step.b55 j s := by
  unfold Cert.GlaSampleRefIdeal.Step.b55
  rfl
set_option maxRecDepth 8192 in
theorem al_56 (h : Holds V0 s j) : (constantI S_ 32 0#32 : (Proc.devRef .tc main_while0b_call7_c_1 : DevRef τ sig).ty.Contents (Elt F)) = Cert.GlaSampleRefIdeal.Step.b56 j s := by
  unfold Cert.GlaSampleRefIdeal.Step.b56
  rfl
set_option maxRecDepth 8192 in
theorem al_57 (h : Holds V0 s j) : (constantI S_ 32 0#32 : (Proc.devRef .tc main_while0b_call7_c_2 : DevRef τ sig).ty.Contents (Elt F)) = Cert.GlaSampleRefIdeal.Step.b57 j s := by
  unfold Cert.GlaSampleRefIdeal.Step.b57
  rfl
set_option maxRecDepth 8192 in
theorem al_58 (h : Holds V0 s j) : (Host.dynamicUpdateSlice (V0 (Proc.devRef .tc main_v63_7)) (broadcastInDim S1x8x4x8x1024 ![1, 2, 3, 4] bcast_S8x4x8x1024_S1x8x4x8x1024_1_2_3_4 (addf (Host.dotGeneral dot_S8x4x8x512_S8x4x512x1024_S8x4x8x1024_3_2_2_3_01_01 none (res_main_while0b_v95 V0) (V0 (Proc.devRef .tc main_v63_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v63_4))) (Host.dotGeneral dot_S8x4x8x512_S8x4x8x512_S8x4x8x8_3_3_2_2_01_01 none (res_main_while0b_v95 V0) (mulf (res_main_while0b_v90 V0) (Host.exp (Host.negf (res_main_while0b_v93 V0))))) (broadcastInDim S8x4x8x8 ![] bcast_S_S8x4x8x8 (id (constant S_ .f32 0x00000000#32)))) (res_main_while0b_v91 V0)))) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) updateFits_S1x8x4x8x1024_S1x8x4x8x1024 : (Proc.devRef .tc main_while0b_v116 : DevRef τ sig).ty.Contents (Elt F)) = Cert.GlaSampleRefIdeal.Step.b58 j s := by
  unfold Cert.GlaSampleRefIdeal.Step.b58
  rw [← al_53 h, ← al_54 h, ← al_55 h, ← al_56 h, ← al_57 h, h.f_7, h.n_5]
  try rfl

/-! One trip's step of the carried values is `step`, field by field; a counter steps to the next number. -/

theorem step_6 (h : Holds V0 s j) : step_main_v63_6 V0 = (step j s).main_v45_6 := by
  unfold step_main_v63_6 Cert.GlaSampleRefIdeal.Step.step
  show id (addf (mulf (broadcastInDim S8x4x512x1024 ![0, 1, 2, 3] bcast_S8x4x512x1_S8x4x512x1024_0_1_2_3 (Host.exp (broadcastInDim S8x4x512x1 ![0, 1, 2] bcast_S8x4x512_S8x4x512x1_0_1_2 (shapeCast S8x4x512 (res_main_while0b_v104 V0) shapeCasts_S8x4x1x512_S8x4x512)))) (V0 (Proc.devRef .tc main_v63_6))) (Host.dotGeneral dot_S8x4x8x512_S8x4x8x1024_S8x4x512x1024_2_2_3_3_01_01 none (mulf (res_main_while0b_v90 V0) (Host.exp (subf (broadcastInDim S8x4x8x512 ![0, 1, 2, 3] bcast_S8x4x1x512_S8x4x8x512_0_1_2_3 (res_main_while0b_v104 V0)) (res_main_while0b_v93 V0)))) (res_main_while0b_v91 V0))) = _
  rw [al_52 h]
  try rfl
theorem step_7 (h : Holds V0 s j) : step_main_v63_7 V0 = (step j s).main_v45_7 := by
  unfold step_main_v63_7 Cert.GlaSampleRefIdeal.Step.step
  show id (Host.dynamicUpdateSlice (V0 (Proc.devRef .tc main_v63_7)) (broadcastInDim S1x8x4x8x1024 ![1, 2, 3, 4] bcast_S8x4x8x1024_S1x8x4x8x1024_1_2_3_4 (addf (Host.dotGeneral dot_S8x4x8x512_S8x4x512x1024_S8x4x8x1024_3_2_2_3_01_01 none (res_main_while0b_v95 V0) (V0 (Proc.devRef .tc main_v63_6))) (Host.dotGeneral dot_S8x4x8x8_S8x4x8x1024_S8x4x8x1024_3_2_2_3_01_01 none (select (broadcastInDim S8x4x8x8 ![2, 3] bcast_S8x8_S8x4x8x8_2_3 (V0 (Proc.devRef .tc main_v63_4))) (Host.dotGeneral dot_S8x4x8x512_S8x4x8x512_S8x4x8x8_3_3_2_2_01_01 none (res_main_while0b_v95 V0) (mulf (res_main_while0b_v90 V0) (Host.exp (Host.negf (res_main_while0b_v93 V0))))) (broadcastInDim S8x4x8x8 ![] bcast_S_S8x4x8x8 (id (constant S_ .f32 0x00000000#32)))) (res_main_while0b_v91 V0)))) (fun k => (((![V0 (Proc.devRef .tc main_v63_5), constantI S_ 32 0#32, constantI S_ 32 0#32, constantI S_ 32 0#32, constantI S_ 32 0#32] : Fin 5 → (⟨S_, .i32⟩ : BufTy).Contents (Elt F))) k (Shape.Idx.first h_S_)).toInt) updateFits_S1x8x4x8x1024_S1x8x4x8x1024) = _
  exact al_58 h
theorem step_5 (h : Holds V0 s j) : step_main_v63_5 V0 = constantI S_ 32 (BitVec.ofNat 32 (j + 1)) := by
  unfold step_main_v63_5
  rw [h.n_5]
  funext i
  show BitVec.ofNat 32 j + 1#32 = BitVec.ofNat 32 (j + 1)
  simp only [BitVec.ofNat_add]

set_option maxRecDepth 8192 in
theorem out_main_v88_holds (h : Holds V0 s j) {x_main_arg0 : (⟨S8x8x12304, .f32⟩ : BufTy).Contents (Elt F)} (h_main_arg0 : V0 (Proc.devRef .tc main_v16) = x_main_arg0) {x_main_arg3 : (⟨S1x4x1024, .f32⟩ : BufTy).Contents (Elt F)} (h_main_arg3 : V0 (Proc.devRef .tc main_arg5) = x_main_arg3) : out_main_v88 V0 = Cert.GlaSampleRefIdeal.Step.R_main_v70 s x_main_arg0 x_main_arg3 := by
  unfold out_main_v88 Cert.GlaSampleRefIdeal.Step.R_main_v70
  rw [h.f_7, h_main_arg0, h_main_arg3]
  try rfl

/-- One trip keeps the valuation holding: `step` of the state, the same set-up values, the next number. -/
theorem holds_step (h : Holds V0 s j) : Holds (STEP V0) (step j s) (j + 1) where
  f_6 := (STEP_main_v63_6 V0).trans (step_6 h)
  f_7 := (STEP_main_v63_7 V0).trans (step_7 h)
  n_5 := (STEP_main_v63_5 V0).trans (step_5 h)
  k_4 := (STEP_main_v63_4 V0).trans h.k_4
  f_0 := (STEP_main_v63_0 V0).trans h.f_0
  f_1 := (STEP_main_v63_1 V0).trans h.f_1
  f_2 := (STEP_main_v63_2 V0).trans h.f_2
  f_3 := (STEP_main_v63_3 V0).trans h.f_3

/-- The rows normalised, and their products with the weights. -/
def normOf (x : FVec F S8x8x4096 .f32) (g : FVec F S2x4096 .f32) : FVec F S8x8x4096 .f32 :=
  mulf (mulf x (broadcastInDim S8x8x4096 ![0, 1, 2] bcast_S8x8x1_S8x8x4096_0_1_2 (Host.rsqrt (addf (Host.divf (broadcastInDim S8x8x1 ![0, 1] bcast_S8x8_S8x8x1_0_1 (Host.reduceAdd (mulf x x) (constant S_ .f32 0x00000000#32) reducesTo_S8x8x4096_S8x8_d2 h_S_)) (broadcastInDim S8x8x1 ![] bcast_S_S8x8x1 (constant S_ .f32 0x45800000#32))) (broadcastInDim S8x8x1 ![] bcast_S_S8x8x1 (constant S_ .f32 0x358637BD#32)))))) (broadcastInDim S8x8x4096 ![0, 1, 2] bcast_S1x1x4096_S8x8x4096_0_1_2 (broadcastInDim S1x1x4096 ![2] bcast_S4096_S1x1x4096_2 (shapeCast _ (extractStridedSlice S1x4096 ![0, 0] g slices_S2x4096_S1x4096_0_0) shapeCasts_S1x4096_S4096)))
def projOf (x : FVec F S8x8x4096 .f32) (g : FVec F S2x4096 .f32) (w : FVec F S1x4096x12304 .f32) : FVec F S8x8x12304 .f32 :=
  Host.dotGeneral dot_S8x8x4096_S4096x12304_S8x8x12304_2_0_01_1_n_n none (normOf x g)
    (shapeCast S4096x12304 w shapeCasts_S1x4096x12304_S4096x12304)

variable (m : (ℓ : Loc nD τ sig) → Buf (Elt F) ℓ) (c : Dev nD)

/-- The array of projections and the states before the first token, of the memory the run starts from. -/
abbrev proj : FVec F S8x8x12304 .f32 :=
  projOf (m ((c.tc : Thread nD τ).loc main_arg0)) (m ((c.tc : Thread nD τ).loc main_arg1)) (m ((c.tc : Thread nD τ).loc main_arg2))
abbrev state0 : FVec F S8x4x512x1024 .f32 :=
  shapeCast S8x4x512x1024 (m ((c.tc : Thread nD τ).loc main_arg6) : FVec F S1x8x4x512x1024 .f32) shapeCasts_S1x8x4x512x1024_S8x4x512x1024

/-- The state the first trip starts from. -/
abbrev initState : State F :=
  init (state0 m c) (proj m c) (m ((c.tc : Thread nD τ).loc main_arg3)) (m ((c.tc : Thread nD τ).loc main_arg4))

set_option maxRecDepth 65536 in
set_option maxHeartbeats 1000000 in
/-- What @main's operations before the loop leave: the set-up values, number 0, the initial state. -/
theorem entry_holds : Holds (entryContents preI m c) (initState m c) 0 := by
  constructor <;> (simp only [entryContents, afterL_cons, afterL_nil]; after_reads_simp) <;> rfl

set_option maxRecDepth 65536 in
set_option maxHeartbeats 1000000 in
/-- And the array of projections. -/
theorem entry_proj : entryContents preI m c (Proc.devRef .tc main_v16) = proj m c := by
  simp only [entryContents, afterL_cons, afterL_nil]; after_reads_simp; rfl

/-- THE RESULTS: every weakly fair execution terminates with each result at its field of the state after the one trip, and every
    argument unchanged. -/
theorem run_step (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v88) = Cert.GlaSampleRefIdeal.Step.R_main_v70 (step 0 (initState m c)) (proj m c) (m ((c.tc : Thread nD τ).loc main_arg5))
      ∧ r.2.mem ((c.tc : Thread nD τ).loc main_v63_6) = (step 0 (initState m c)).main_v45_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk : Holds (STEP^[1] (entryContents preI m c)) (step 0 (initState m c)) 1 := holds_step (entry_holds m c)
    ⟨(h c).1.trans (out_main_v88_holds hk ((iter_main_v16 m c 1).trans (entry_proj m c)) (iter_main_arg5 m c 1)), (h c).2.1.trans hk.f_6, (h c).2.2⟩) (Value.run m ρ)

end Cert.MixSampleRefIdeal.Loop

end
-- ==== Proof.Mix.RefAt.lean ====
/- The reference's array of projections and starting states, entry by entry. -/
module

public import proofs.«01_k».proof.Proof.Mix.RefLoop
public import proofs.«01_k».proof.Proof.Mix.Spec

@[expose] public section

set_option maxRecDepth 16384

noncomputable section

namespace Cert.MixSamplePf

open Idealize.ShloMosaic Idealize.ShloMosaic.TcCoe Cert.MixSampleRefIdeal Cert.MixSampleRefIdeal.Gen Cert.MixSampleRefIdeal.Loop

/-- The reference's normalised rows and their products, entry by entry. -/
theorem normOf_at (x : FVec Ideal S8x8x4096 .f32) (g : FVec Ideal S2x4096 .f32) (b l : Fin 8) (k : Fin 4096) :
    (normOf x g (ix3 b l k) : EReal) = Proj.rms (fun d => x (ix3 b l d)) (fun d => g (ix2 0 d)) k := by
  unfold Proj.rms
  pointwise [normOf]

theorem dot_at (y : FVec Ideal S8x8x4096 .f32) (w : FVec Ideal S1x4096x12304 .f32) (b l : Fin 8) (n : Fin 12304) :
    (Host.dotGeneral dot_S8x8x4096_S4096x12304_S8x8x12304_2_0_01_1_n_n none y
      (shapeCast S4096x12304 w shapeCasts_S1x4096x12304_S4096x12304) : FVec Ideal S8x8x12304 .f32) (ix3 b l n) =
      (Proj.dotRow (fun k => y (ix3 b l k)) (fun k => w (ix3 0 k n)) : EReal) := by
  unfold Proj.dotRow
  pointwise

/-- The reference's array of projections. -/
theorem proj_eq (x : FVec Ideal S8x8x4096 .f32) (g : FVec Ideal S2x4096 .f32) (w : FVec Ideal S1x4096x12304 .f32) :
    (projOf x g w : FVec Ideal S8x8x12304 .f32) = Mix.projRows x g w := by
  funext j
  obtain ⟨b, l, n, rfl⟩ : ∃ (b l : Fin 8) (n : Fin 12304), j = ix3 b l n := ⟨j 0, j 1, j 2, (ix3_eta j).symm⟩
  refine (dot_at _ w b l n).trans ?_
  exact congrArg₂ Proj.dotRow (funext fun k => normOf_at x g b l k) rfl

/-- The states before the first token. -/
theorem start_eq (s : FVec Ideal S1x8x4x512x1024 .f32) :
    (shapeCast S8x4x512x1024 s shapeCasts_S1x8x4x512x1024_S8x4x512x1024 : FVec Ideal S8x4x512x1024 .f32) = Mix.startOf s := by
  funext j
  obtain ⟨b, h, d, e, rfl⟩ : ∃ (b : Fin 8) (h : Fin 4) (d : Fin 512) (e : Fin 1024), j = ix4 b h d e :=
    ⟨j 0, j 1, j 2, j 3, (ix4_eta j).symm⟩
  unfold Mix.startOf
  pointwise
  try rfl

end Cert.MixSamplePf

end
-- ==== Proof.Mix.Claim.lean ====
/- The claims about the layer's mixer at the shapes of the sample batch, from the residual stream. -/
module

public import proofs.«01_k».proof.Defs
public import proofs.«01_k».proof.Proof.Gen.MixSample
public import proofs.«01_k».proof.Proof.Gen.MixSample.Frame
public import proofs.«01_k».proof.Proof.Gen.MixSampleIdeal
public import proofs.«01_k».proof.Proof.Gen.MixSampleRefIdeal
public import proofs.«01_k».proof.Proof.Mix.Arrays
public import proofs.«01_k».proof.Proof.Mix.Run
public import proofs.«01_k».proof.Proof.Mix.RefAt
public import proofs.«01_k».proof.Proof.GlaS.RefArrays
public import Idealize.ShloMosaic.Adequacy
public import Idealize.ShloMosaic.Init
public import Idealize.ShloMosaic.Lib.Claim

@[expose] public section

noncomputable section

namespace Cert.MixSamplePf

open Idealize.ShloMosaic Idealize.ShloMosaic.TcCoe Idealize.SL.Sem

/-- The reference runs and keeps its arguments. -/
theorem frame_ref : Cert.quiescent_MixSampleRefIdeal (hMixSampleRefIdeal := Cert.MixSampleRefIdeal.Gen.facts) := by
  intro m g _
  exact (θ_run _ _ _).mono (fun r h => ⟨fun c => (h c).2.2, sem_eq_zero_of_no_sems (by decide) r.2⟩) (Cert.MixSampleRefIdeal.Loop.run_step m g)

/-- The four calls and the reference give the same gated outputs and the same last states. -/
theorem algebraic : Cert.algebraic_MixSampleIdeal_MixSampleRefIdeal (hMixSampleIdeal := Cert.MixSampleIdeal.Gen.facts)
    (hMixSampleRefIdeal := Cert.MixSampleRefIdeal.Gen.facts) := by
  pair_intro
  · run_from run_last m g
  · refine (θ_run _ _ _).mono (fun r h c => ?_) (Cert.MixSampleRefIdeal.Loop.run_step m' g')
    obtain ⟨a0, a1, a2, a3, a4, a5, a6⟩ := hagree c
    refine ⟨(h c).1.trans (Eq.trans ?_ (last_tok m g c).symm), (h c).2.1.trans (Eq.trans ?_ (last_end m g c).symm), (h c).2.2⟩
    · funext i
      obtain ⟨b, l, x, rfl⟩ : ∃ (b l : Fin 8) (x : Fin 4096), i = ix3 b l x := ⟨i 0, i 1, i 2, (ix3_eta i).symm⟩
      refine (Cert.GlaS.ref_out8 _ _ _ _ _ _ _ _).trans ?_
      unfold kTok kProj kStart
      rw [← a0, ← a1, ← a2, ← a3, ← a4, ← a5, ← a6, ← proj_eq, ← start_eq]
      rfl
    · funext i
      obtain ⟨b, h, d, e, rfl⟩ : ∃ (b : Fin 8) (h : Fin 4) (d : Fin 512) (e : Fin 1024), i = ix4 b h d e :=
        ⟨i 0, i 1, i 2, i 3, (ix4_eta i).symm⟩
      refine (Cert.GlaS.ref_state _ _ _ _ _ _ _ _).trans ?_
      unfold kEnd kProj kStart
      rw [← a0, ← a1, ← a2, ← a3, ← a4, ← a6, ← proj_eq, ← start_eq]
      rfl

end Cert.MixSamplePf

end
-- ==== Proof.Cast.Run.lean ====
/- The run of the whole program, with the results at the contents its last region leaves. -/
module

public import proofs.«01_k».proof.Proof.Gen.CastExpertsIdeal.Frame

@[expose] public section

set_option maxRecDepth 16384

noncomputable section

namespace Cert.CastPf

open Cert.CastExpertsIdeal Cert.CastExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution ends with the results at the contents the last region leaves and the arguments as
    launched. -/
theorem run_last : θ_run defs (onTc (τ := τ) (main (F := F))) ⟨m, fun _ => 0, ρ⟩ fun r => ∀ c : Dev nD,
      r.2.mem ((c : Thread nD τ).loc main_v0) = W4 m ρ c (Proc.devRef .tc main_v0)
      ∧ r.2.mem ((c : Thread nD τ).loc main_v1) = W4 m ρ c (Proc.devRef .tc main_v1)
      ∧ r.2.mem ((c : Thread nD τ).loc main_v2) = W4 m ρ c (Proc.devRef .tc main_v2)
      ∧ r.2.mem ((c : Thread nD τ).loc main_v3) = W4 m ρ c (Proc.devRef .tc main_v3)
      ∧ r.2.mem ((c : Thread nD τ).loc main_arg0) = m ((c : Thread nD τ).loc main_arg0)
      ∧ r.2.mem ((c : Thread nD τ).loc main_arg1) = m ((c : Thread nD τ).loc main_arg1) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v0 (by decide)),
       h c _ (mem_uc main_v1 (by decide)),
       h c _ (mem_uc main_v2 (by decide)),
       h c _ (mem_uc main_v3 (by decide)),
       (h c _ (mem_uc main_arg0 (by decide))).trans (W4_main_arg0 m ρ c),
       (h c _ (mem_uc main_arg1 (by decide))).trans (W4_main_arg1 m ρ c)⟩)

end Cert.CastPf

end
-- ==== Proof.Cast.Arrays.lean ====
/- The arrays the casts leave: the layers of the experts' weights. -/
module

public import proofs.«01_k».proof.Proof.Gen.CastExpertsIdeal.Frame
public import proofs.«01_k».proof.Proof.Proj.Rows

@[expose] public section

set_option maxRecDepth 16384

noncomputable section

namespace Cert.CastPf

open Idealize.ShloMosaic Idealize.ShloMosaic.TcCoe Cert.CastExpertsIdeal Cert.CastExpertsIdeal.Gen Idealize.SL.Sem

/-- Layer `l` of an array of weights. -/
def layerOf (l : Fin 2) (X : S2x16384x4096.Idx → EReal) : S16384x4096.Idx → EReal := fun j => X (ix3 l (j 0) (j 1))

section Region

variable (V : (c : Dev nD) → (b : Ref sig .tc) → Buf (Elt Ideal) ((c : Thread nD τ).loc b))

/-- The blocks of a grid point: 512 rows of layer 0. -/
theorem idx0 : ∀ t : Fin cfg0.N, win0_0.index t = ![0, t.val, 0] ∧ win0_1.index t = ![t.val, 0] :=
  (by decide +kernel : ∀ t : Fin grid0.N, _)

def row0 (t : Fin cfg0.N) (p : Fin 512) : Fin 16384 := ⟨512 * t.val + p.val, by have h : t.val < 32 := t.isLt; omega⟩

theorem pay0_at (x : S1x512x4096.Idx → EReal) (p : Fin 512) (q : Fin 4096) :
    (k0_pay1 (F := Ideal) x (ix2 p q) : EReal) = x (ix3 0 p q) := by
  pointwise [k0_pay1]

/-- A block of the cast array is a block of the layer. -/
theorem point0 (c : Dev nD) (t : Fin cfg0.N) (y : S512x4096.Idx) :
    k0_pay1 (F := Ideal) (iblk0 V c 0 t) y = layerOf 0 (V c main_arg0) (((cfg0.win 1).blk t).view.emb y) := by
  obtain ⟨p, q, rfl⟩ : ∃ (p : Fin 512) (q : Fin 4096), y = ix2 p q := ⟨y 0, y 1, (ix2_eta y).symm⟩
  have he : ((cfg0.win 1).blk t).view.emb (ix2 p q) = ix2 (row0 t p) q := by
    blk_ext [idx0 t, row0]
  rw [he]
  refine (pay0_at _ p q).trans ?_
  refine congrArg (V c main_arg0) (?_ : _ = ix3 0 (row0 t p) q)
  blk_ext [idx0 t, row0]

theorem final0 (c : Dev nD) : (dat0 V c).arrAt 1 cfg0.N = layerOf 0 (V c main_arg0) := by
  refine (dat0 V c).arrAt_eq_of_covers 1 _ (by decide +kernel) fun t _ y => ?_
  blk_simp
  rw [after0_1]
  frame_out
  exact point0 V c t y

/-- The blocks of a grid point: 512 rows of layer 1. -/
theorem idx1 : ∀ t : Fin cfg1.N, win1_0.index t = ![1, t.val, 0] ∧ win1_1.index t = ![t.val, 0] :=
  (by decide +kernel : ∀ t : Fin grid1.N, _)

def row1 (t : Fin cfg1.N) (p : Fin 512) : Fin 16384 := ⟨512 * t.val + p.val, by have h : t.val < 32 := t.isLt; omega⟩

theorem pay1_at (x : S1x512x4096.Idx → EReal) (p : Fin 512) (q : Fin 4096) :
    (k1_pay1 (F := Ideal) x (ix2 p q) : EReal) = x (ix3 0 p q) := by
  pointwise [k1_pay1]

/-- A block of the cast array is a block of the layer. -/
theorem point1 (c : Dev nD) (t : Fin cfg1.N) (y : S512x4096.Idx) :
    k1_pay1 (F := Ideal) (iblk1 V c 0 t) y = layerOf 1 (V c main_arg0) (((cfg1.win 1).blk t).view.emb y) := by
  obtain ⟨p, q, rfl⟩ : ∃ (p : Fin 512) (q : Fin 4096), y = ix2 p q := ⟨y 0, y 1, (ix2_eta y).symm⟩
  have he : ((cfg1.win 1).blk t).view.emb (ix2 p q) = ix2 (row1 t p) q := by
    blk_ext [idx1 t, row1]
  rw [he]
  refine (pay1_at _ p q).trans ?_
  refine congrArg (V c main_arg0) (?_ : _ = ix3 1 (row1 t p) q)
  blk_ext [idx1 t, row1]

theorem final1 (c : Dev nD) : (dat1 V c).arrAt 1 cfg1.N = layerOf 1 (V c main_arg0) := by
  refine (dat1 V c).arrAt_eq_of_covers 1 _ (by decide +kernel) fun t _ y => ?_
  blk_simp
  rw [after1_1]
  frame_out
  exact point1 V c t y

/-- The blocks of a grid point: 512 rows of layer 0. -/
theorem idx2 : ∀ t : Fin cfg2.N, win2_0.index t = ![0, t.val, 0] ∧ win2_1.index t = ![t.val, 0] :=
  (by decide +kernel : ∀ t : Fin grid2.N, _)

def row2 (t : Fin cfg2.N) (p : Fin 512) : Fin 16384 := ⟨512 * t.val + p.val, by have h : t.val < 32 := t.isLt; omega⟩

theorem pay2_at (x : S1x512x4096.Idx → EReal) (p : Fin 512) (q : Fin 4096) :
    (k2_pay1 (F := Ideal) x (ix2 p q) : EReal) = x (ix3 0 p q) := by
  pointwise [k2_pay1]

/-- A block of the cast array is a block of the layer. -/
theorem point2 (c : Dev nD) (t : Fin cfg2.N) (y : S512x4096.Idx) :
    k2_pay1 (F := Ideal) (iblk2 V c 0 t) y = layerOf 0 (V c main_arg1) (((cfg2.win 1).blk t).view.emb y) := by
  obtain ⟨p, q, rfl⟩ : ∃ (p : Fin 512) (q : Fin 4096), y = ix2 p q := ⟨y 0, y 1, (ix2_eta y).symm⟩
  have he : ((cfg2.win 1).blk t).view.emb (ix2 p q) = ix2 (row2 t p) q := by
    blk_ext [idx2 t, row2]
  rw [he]
  refine (pay2_at _ p q).trans ?_
  refine congrArg (V c main_arg1) (?_ : _ = ix3 0 (row2 t p) q)
  blk_ext [idx2 t, row2]

theorem final2 (c : Dev nD) : (dat2 V c).arrAt 1 cfg2.N = layerOf 0 (V c main_arg1) := by
  refine (dat2 V c).arrAt_eq_of_covers 1 _ (by decide +kernel) fun t _ y => ?_
  blk_simp
  rw [after2_1]
  frame_out
  exact point2 V c t y

/-- The blocks of a grid point: 512 rows of layer 1. -/
theorem idx3 : ∀ t : Fin cfg3.N, win3_0.index t = ![1, t.val, 0] ∧ win3_1.index t = ![t.val, 0] :=
  (by decide +kernel : ∀ t : Fin grid3.N, _)

def row3 (t : Fin cfg3.N) (p : Fin 512) : Fin 16384 := ⟨512 * t.val + p.val, by have h : t.val < 32 := t.isLt; omega⟩

theorem pay3_at (x : S1x512x4096.Idx → EReal) (p : Fin 512) (q : Fin 4096) :
    (k3_pay1 (F := Ideal) x (ix2 p q) : EReal) = x (ix3 0 p q) := by
  pointwise [k3_pay1]

/-- A block of the cast array is a block of the layer. -/
theorem point3 (c : Dev nD) (t : Fin cfg3.N) (y : S512x4096.Idx) :
    k3_pay1 (F := Ideal) (iblk3 V c 0 t) y = layerOf 1 (V c main_arg1) (((cfg3.win 1).blk t).view.emb y) := by
  obtain ⟨p, q, rfl⟩ : ∃ (p : Fin 512) (q : Fin 4096), y = ix2 p q := ⟨y 0, y 1, (ix2_eta y).symm⟩
  have he : ((cfg3.win 1).blk t).view.emb (ix2 p q) = ix2 (row3 t p) q := by
    blk_ext [idx3 t, row3]
  rw [he]
  refine (pay3_at _ p q).trans ?_
  refine congrArg (V c main_arg1) (?_ : _ = ix3 1 (row3 t p) q)
  blk_ext [idx3 t, row3]

theorem final3 (c : Dev nD) : (dat3 V c).arrAt 1 cfg3.N = layerOf 1 (V c main_arg1) := by
  refine (dat3 V c).arrAt_eq_of_covers 1 _ (by decide +kernel) fun t _ y => ?_
  blk_simp
  rw [after3_1]
  frame_out
  exact point3 V c t y

end Region

variable (m : (ℓ : Loc nD τ sig) → Buf (Elt Ideal) ℓ) (ρ : Dev nD → PrngReg)

theorem last0 (c : Dev nD) : W4 m ρ c (Proc.devRef .tc main_v0) = layerOf 0 (m ((c : Thread nD τ).loc main_arg0)) :=
  (W4_of m ρ c main_v0 (by decide)).trans ((W3_of m ρ c main_v0 (by decide)).trans ((W2_of m ρ c main_v0 (by decide)).trans ((W1_arr m ρ c 1).trans ((final0 (V0 m ρ) c).trans (congrArg (layerOf 0) (W0_args m ρ c main_arg0 (by decide)))))))

theorem last1 (c : Dev nD) : W4 m ρ c (Proc.devRef .tc main_v1) = layerOf 1 (m ((c : Thread nD τ).loc main_arg0)) :=
  (W4_of m ρ c main_v1 (by decide)).trans ((W3_of m ρ c main_v1 (by decide)).trans ((W2_arr m ρ c 1).trans ((final1 (V1 m ρ) c).trans (congrArg (layerOf 1) (W1_args m ρ c main_arg0 (by decide))))))

theorem last2 (c : Dev nD) : W4 m ρ c (Proc.devRef .tc main_v2) = layerOf 0 (m ((c : Thread nD τ).loc main_arg1)) :=
  (W4_of m ρ c main_v2 (by decide)).trans ((W3_arr m ρ c 1).trans ((final2 (V2 m ρ) c).trans (congrArg (layerOf 0) (W2_args m ρ c main_arg1 (by decide)))))

theorem last3 (c : Dev nD) : W4 m ρ c (Proc.devRef .tc main_v3) = layerOf 1 (m ((c : Thread nD τ).loc main_arg1)) :=
  (W4_arr m ρ c 1).trans ((final3 (V3 m ρ) c).trans (congrArg (layerOf 1) (W3_args m ρ c main_arg1 (by decide))))

end Cert.CastPf

end
-- ==== Proof.Cast.Claim.lean ====
/- The claims about the casts of the experts' weights. -/
module

public import proofs.«01_k».proof.Defs
public import proofs.«01_k».proof.Proof.Gen.CastExperts
public import proofs.«01_k».proof.Proof.Gen.CastExperts.Frame
public import proofs.«01_k».proof.Proof.Gen.CastExpertsIdeal
public import proofs.«01_k».proof.Proof.Gen.CastExpertsRefIdeal
public import proofs.«01_k».proof.Proof.Gen.CastExpertsRefIdeal.Run
public import proofs.«01_k».proof.Proof.Cast.Run
public import proofs.«01_k».proof.Proof.Cast.Arrays
public import Idealize.ShloMosaic.Lib.Claim

@[expose] public section

set_option maxRecDepth 16384

noncomputable section

namespace Cert.CastPf

open Idealize.ShloMosaic Idealize.ShloMosaic.TcCoe Idealize.SL.Sem

section Reference

open Cert.CastExpertsRefIdeal Cert.CastExpertsRefIdeal.Gen

/-- The reference's layers, entry by entry. -/
theorem ref_0 (X : FVec Ideal S2x16384x4096 .f32) (i : Fin 16384) (k : Fin 4096) :
    (truncf .bf16 (shapeCast S16384x4096 (extractStridedSlice S1x16384x4096 ![0, 0, 0] X slices_S2x16384x4096_S1x16384x4096_0_0_0)
      shapeCasts_S1x16384x4096_S16384x4096) bitsLt_bf16_f32 : FVec Ideal S16384x4096 .bf16) (ix2 i k) = (X (ix3 0 i k) : EReal) := by
  pointwise

theorem ref_1 (X : FVec Ideal S2x16384x4096 .f32) (i : Fin 16384) (k : Fin 4096) :
    (truncf .bf16 (shapeCast S16384x4096 (extractStridedSlice S1x16384x4096 ![1, 0, 0] X slices_S2x16384x4096_S1x16384x4096_1_0_0)
      shapeCasts_S1x16384x4096_S16384x4096) bitsLt_bf16_f32 : FVec Ideal S16384x4096 .bf16) (ix2 i k) = (X (ix3 1 i k) : EReal) := by
  pointwise

end Reference

/-- The reference runs and keeps its arguments. -/
theorem frame_ref : Cert.quiescent_CastExpertsRefIdeal (hCastExpertsRefIdeal := Cert.CastExpertsRefIdeal.Gen.facts) := by
  intro m g _
  exact (θ_run _ _ _).mono (fun r h => ⟨fun c => (h c).2.2.2.2, sem_eq_zero_of_no_sems (by decide) r.2⟩) (Cert.CastExpertsRefIdeal.Value.run m g)

/-- The four casts leave the layers of the weights. -/
theorem algebraic : Cert.algebraic_CastExpertsIdeal_CastExpertsRefIdeal (hCastExpertsIdeal := Cert.CastExpertsIdeal.Gen.facts)
    (hCastExpertsRefIdeal := Cert.CastExpertsRefIdeal.Gen.facts) := by
  pair_intro
  · run_from run_last m g
  · refine (θ_run _ _ _).mono (fun r h c => ?_) (Cert.CastExpertsRefIdeal.Value.run m' g')
    obtain ⟨a0, a1⟩ := hagree c
    refine ⟨(h c).1.trans (Eq.trans ?_ (last0 m g c).symm), (h c).2.1.trans (Eq.trans ?_ (last1 m g c).symm),
      (h c).2.2.1.trans (Eq.trans ?_ (last2 m g c).symm), (h c).2.2.2.1.trans (Eq.trans ?_ (last3 m g c).symm), (h c).2.2.2.2⟩
    · funext j
      obtain ⟨i, k, rfl⟩ : ∃ (i : Fin 16384) (k : Fin 4096), j = ix2 i k := ⟨j 0, j 1, (ix2_eta j).symm⟩
      refine (ref_0 _ i k).trans ?_
      rw [a0]
      rfl
    · funext j
      obtain ⟨i, k, rfl⟩ : ∃ (i : Fin 16384) (k : Fin 4096), j = ix2 i k := ⟨j 0, j 1, (ix2_eta j).symm⟩
      refine (ref_1 _ i k).trans ?_
      rw [a0]
      rfl
    · funext j
      obtain ⟨i, k, rfl⟩ : ∃ (i : Fin 16384) (k : Fin 4096), j = ix2 i k := ⟨j 0, j 1, (ix2_eta j).symm⟩
      refine (ref_0 _ i k).trans ?_
      rw [a1]
      rfl
    · funext j
      obtain ⟨i, k, rfl⟩ : ∃ (i : Fin 16384) (k : Fin 4096), j = ix2 i k := ⟨j 0, j 1, (ix2_eta j).symm⟩
      refine (ref_1 _ i k).trans ?_
      rw [a1]
      rfl

end Cert.CastPf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gla.RefLoop
public import proofs.«01_k».proof.Proof.Gla.Arrays
public import proofs.«01_k».proof.Proof.Gla.RefArrays
public import proofs.«01_k».proof.Proof.Proj.InClaim
public import proofs.«01_k».proof.Proof.Proj.OutClaim
public import proofs.«01_k».proof.Proof.Proj.KvQClaim
public import proofs.«01_k».proof.Proof.Proj.KvQSampleClaim
public import proofs.«01_k».proof.Proof.Proj.PeerQueryClaim
public import proofs.«01_k».proof.Proof.GlaS.Claim
public import proofs.«01_k».proof.Proof.Means.Claim
public import proofs.«01_k».proof.Proof.Mix.Claim
public import proofs.«01_k».proof.Proof.Cast.Claim
public import proofs.«01_k».proof.Proof.Gen.GlaSample
public import proofs.«01_k».proof.Proof.Gen.GlaSample.Frame
public import proofs.«01_k».proof.Proof.Gen.GlaSampleIdeal
public import proofs.«01_k».proof.Proof.Gen.GlaSampleIdeal.Frame
public import proofs.«01_k».proof.Proof.Gen.GlaSampleRefIdeal
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference's state after each number of trips. -/
def trips (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.Loop.initState m c
  | n + 1 => Cert.ReferenceIdeal.Step.step n (trips m c n)

/-- The reference runs and keeps its arguments. -/
theorem frame_ref : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Loop.run_iter m g (trips m) (fun _ => rfl) (fun _ _ => rfl))

/-- The gated linear attention call and the reference's recurrence give the same outputs and the same last states. -/
theorem gla : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · refine (θ_run _ _ _).mono (fun r h c => ?_)
      (Cert.ReferenceIdeal.Loop.run_iter m' g' (trips m') (fun _ => rfl) (fun _ _ => rfl))
    obtain ⟨a0, a1, a2, a3, a4⟩ := hagree c
    refine ⟨(h c).1.trans (Eq.trans ?_ (Cert.Gla.out_array m c).symm),
      (h c).2.1.trans (Eq.trans ?_ (Cert.Gla.state_array m c).symm), (h c).2.2⟩
    · funext i
      obtain ⟨b, l, x, rfl⟩ : ∃ (b : Fin 4) (l : Fin 2048) (x : Fin 4096), i = ix3 b l x := ⟨i 0, i 1, i 2, (ix3_eta i).symm⟩
      refine (Cert.Gla.ref_out m' c (trips m' c) rfl (fun _ => rfl) _ _ _).trans ?_
      unfold Cert.Gla.kOut
      rw [← a0, ← a1, ← a2, ← a3, ← a4]
      rfl
    · funext i
      obtain ⟨b, h, d, e, rfl⟩ : ∃ (b h : Fin 4) (d : Fin 512) (e : Fin 1024), i = ix4 b h d e :=
        ⟨i 0, i 1, i 2, i 3, (ix4_eta i).symm⟩
      refine (congrFun (congrFun (Cert.Gla.it_state m' c (trips m' c) rfl (fun _ => rfl) 32 le_rfl _ _) _) _).trans ?_
      unfold Cert.Gla.kState Cert.Gla.rState
      rw [← a0, ← a1, ← a2, ← a4]
      rfl

theorem claim : Cert.Claim := ⟨Cert.Kernel.Gen.facts, Cert.KernelIdeal.Gen.facts, Cert.ReferenceIdeal.Gen.facts,
  Cert.GlaIn.Gen.facts, Cert.GlaInIdeal.Gen.facts, Cert.GlaInRefIdeal.Gen.facts,
  Cert.GlaOut.Gen.facts, Cert.GlaOutIdeal.Gen.facts, Cert.GlaOutRefIdeal.Gen.facts,
  Cert.KvQ.Gen.facts, Cert.KvQIdeal.Gen.facts, Cert.KvQRefIdeal.Gen.facts,
  Cert.KvQSample.Gen.facts, Cert.KvQSampleIdeal.Gen.facts, Cert.KvQSampleRefIdeal.Gen.facts,
  Cert.PeerQuery.Gen.facts, Cert.PeerQueryIdeal.Gen.facts, Cert.PeerQueryRefIdeal.Gen.facts,
  Cert.GlaSample.Gen.facts, Cert.GlaSampleIdeal.Gen.facts, Cert.GlaSampleRefIdeal.Gen.facts, Cert.BlockMeans.Gen.facts, Cert.BlockMeansIdeal.Gen.facts, Cert.BlockMeansRefIdeal.Gen.facts,
  Cert.MixSample.Gen.facts, Cert.MixSampleIdeal.Gen.facts, Cert.MixSampleRefIdeal.Gen.facts,
  Cert.CastExperts.Gen.facts, Cert.CastExpertsIdeal.Gen.facts, Cert.CastExpertsRefIdeal.Gen.facts, Cert.Pre_pages_exist.Gen.facts,
  fun m ρ _ => Cert.Kernel.Gen.frame m ρ, fun m ρ _ => Cert.KernelIdeal.Gen.frame m ρ, frame_ref,
  fun m ρ _ => Cert.GlaIn.Gen.frame m ρ, fun m ρ _ => Cert.GlaInIdeal.Gen.frame m ρ, Cert.GlaInPf.frame_ref,
  fun m ρ _ => Cert.GlaOut.Gen.frame m ρ, fun m ρ _ => Cert.GlaOutIdeal.Gen.frame m ρ, Cert.GlaOutPf.frame_ref,
  fun m ρ _ => Cert.KvQ.Gen.frame m ρ, fun m ρ _ => Cert.KvQIdeal.Gen.frame m ρ, Cert.KvQPf.frame_ref,
  fun m ρ _ => Cert.KvQSample.Gen.frame m ρ, fun m ρ _ => Cert.KvQSampleIdeal.Gen.frame m ρ, Cert.KvQSamplePf.frame_ref,
  fun m ρ _ => Cert.PeerQuery.Gen.frame m ρ, fun m ρ _ => Cert.PeerQueryIdeal.Gen.frame m ρ, Cert.PeerQueryPf.frame_ref,
  fun m ρ _ => Cert.GlaSample.Gen.frame m ρ, fun m ρ _ => Cert.GlaSampleIdeal.Gen.frame m ρ, Cert.GlaSamplePf.frame_ref, Cert.MeansPf.frame_bits, Cert.MeansPf.frame_ideal, Cert.MeansPf.frame_ref, Cert.MeansPf.frame_ref_pre,
  fun m ρ _ => Cert.MixSample.Gen.frame m ρ, fun m ρ _ => Cert.MixSampleIdeal.Gen.frame m ρ, Cert.MixSamplePf.frame_ref,
  fun m ρ _ => Cert.CastExperts.Gen.frame m ρ, fun m ρ _ => Cert.CastExpertsIdeal.Gen.frame m ρ, Cert.CastPf.frame_ref,
  trivial, gla, trivial, Cert.GlaInPf.algebraic, trivial, Cert.GlaOutPf.algebraic, trivial, Cert.KvQPf.algebraic, trivial, Cert.KvQSamplePf.algebraic, trivial, Cert.PeerQueryPf.algebraic,
  trivial, Cert.GlaSamplePf.algebraic, trivial, Cert.MeansPf.algebraic, trivial, Cert.MixSamplePf.algebraic, trivial, Cert.CastPf.algebraic⟩

end Cert.Proof

end
